-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v14) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S160000x2 : Shape := ⟨2, ![160000, 2]⟩
abbrev S10000x128 : Shape := ⟨2, ![10000, 128]⟩
abbrev S_ : Shape := ⟨0, ![]⟩

class Facts : Prop where
  bcast_S_S160000x2 : S_.BroadcastsInDim S160000x2 (![] : Fin 0 → Fin S160000x2.rank)
  reducesTo_S160000x2_S_d0_1 : S160000x2.ReducesTo [0, 1] S_
  h_S_ : 0 < S_.numel

variable [Facts]

def fn {F : FTy → Type} [FloatOps F] (main_arg0 : IVec S160000x2 32) (main_arg1 : FVec F S10000x128 .f32) : IVec S_ 1 :=
  let main_c : IVec S_ 32 := constantI S_ 32 0#32
  let main_v0 : IVec S160000x2 32 := broadcastInDim S160000x2 ![] bcast_S_S160000x2 main_c
  let main_v1 : IVec S160000x2 1 := cmpi .sge main_arg0 main_v0
  let main_c_0 : IVec S_ 32 := constantI S_ 32 10000#32
  let main_v2 : IVec S160000x2 32 := broadcastInDim S160000x2 ![] bcast_S_S160000x2 main_c_0
  let main_v3 : IVec S160000x2 1 := cmpi .slt main_arg0 main_v2
  let main_v4 : IVec S160000x2 1 := andi main_v1 main_v3
  let main_c_1 : IVec S_ 1 := constantI S_ 1 1#1
  let main_v5 : IVec S_ 1 := (fun x v => Host.reduce IntOp.andi x v reducesTo_S160000x2_S_d0_1 h_S_) main_v4 main_c_1
  main_v5
-- ==== Kernel.lean ====
abbrev S160000x2 : Shape := ⟨2, ![160000, 2]⟩
abbrev S10000x128 : Shape := ⟨2, ![10000, 128]⟩
abbrev S160000x1 : Shape := ⟨2, ![160000, 1]⟩
abbrev S160000 : Shape := ⟨1, ![160000]⟩
abbrev S320000 : Shape := ⟨1, ![320000]⟩
abbrev S20000 : Shape := ⟨1, ![20000]⟩
abbrev S10240 : Shape := ⟨1, ![10240]⟩
abbrev S20480 : Shape := ⟨1, ![20480]⟩
abbrev S640 : Shape := ⟨1, ![640]⟩
abbrev S16 : Shape := ⟨1, ![16]⟩
abbrev S128 : Shape := ⟨1, ![128]⟩
abbrev S1 : Shape := ⟨1, ![1]⟩
abbrev S327680 : Shape := ⟨1, ![327680]⟩
abbrev S256 : Shape := ⟨1, ![256]⟩
abbrev S_ : Shape := ⟨0, ![]⟩
abbrev S10000x32 : Shape := ⟨2, ![10000, 32]⟩

abbrev nBuf : Table → Nat
  | .hbm => 8
  | .shared => 3
  | .local .scVector .smem => 1
  | .local .scVector .vmem => 14
  | _ => 0

abbrev bufTy : (tb : Table) → Fin (nBuf tb) → BufTy
  | .hbm, ⟨0, _⟩ => ⟨S160000x2, .i32⟩
  | .hbm, ⟨1, _⟩ => ⟨S10000x128, .f32⟩
  | .hbm, ⟨2, _⟩ => ⟨S160000x1, .i32⟩
  | .hbm, ⟨3, _⟩ => ⟨S160000, .i32⟩
  | .hbm, ⟨4, _⟩ => ⟨S160000x1, .i32⟩
  | .hbm, ⟨5, _⟩ => ⟨S160000, .i32⟩
  | .hbm, ⟨6, _⟩ => ⟨S320000, .i32⟩
  | .hbm, ⟨7, _⟩ => ⟨S10000x32, .i32⟩
  | .shared, ⟨0, _⟩ => ⟨S327680, .i32⟩
  | .shared, ⟨1, _⟩ => ⟨S256, .i32⟩
  | .shared, ⟨2, _⟩ => ⟨S320000, .i32⟩
  | .local .scVector .smem, ⟨0, _⟩ => ⟨S1, .i32⟩
  | .local .scVector .vmem, ⟨0, _⟩ => ⟨S20000, .i32⟩
  | .local .scVector .vmem, ⟨1, _⟩ => ⟨S20000, .i32⟩
  | .local .scVector .vmem, ⟨2, _⟩ => ⟨S10240, .i32⟩
  | .local .scVector .vmem, ⟨3, _⟩ => ⟨S10240, .i32⟩
  | .local .scVector .vmem, ⟨4, _⟩ => ⟨S20480, .i32⟩
  | .local .scVector .vmem, ⟨5, _⟩ => ⟨S640, .i32⟩
  | .local .scVector .vmem, ⟨6, _⟩ => ⟨S640, .i32⟩
  | .local .scVector .vmem, ⟨7, _⟩ => ⟨S16, .i32⟩
  | .local .scVector .vmem, ⟨8, _⟩ => ⟨S128, .i32⟩
  | .local .scVector .vmem, ⟨9, _⟩ => ⟨S128, .i32⟩
  | .local .scVector .vmem, ⟨10, _⟩ => ⟨S128, .i32⟩
  | .local .scVector .vmem, ⟨11, _⟩ => ⟨S128, .i32⟩
  | .local .scVector .vmem, ⟨12, _⟩ => ⟨S16, .i32⟩
  | .local .scVector .vmem, ⟨13, _⟩ => ⟨S16, .i32⟩
  | _, _ => ⟨S160000x2, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 31 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | _ => false

abbrev sig : RefSig :=
  ofTables nBuf rfl bufTy 5 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch15 : Ref sig .scVector := ⟨.shared, 0, rfl⟩
abbrev cc0_scratch16 : Ref sig .scVector := ⟨.shared, 1, rfl⟩
abbrev cc0_scratch17 : Ref sig .scVector := ⟨.shared, 2, rfl⟩
abbrev cc0_scratch14 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c8_i32_4 : BitVec 32 := 8#32
  let v12 : BitVec 1 := Scalar.cmpi .slt arg1 c8_i32_4
  let v13 : BitVec 32 := Scalar.extui v12
  let c0_i32_5 : BitVec 32 := 0#32
  let v14 : BitVec 1 := Scalar.cmpi .ne v13 c0_i32_5
  v14

def k0_off1 (i : grid0.Coords) : Fin 1 → Nat :=
  let arg1 : BitVec 32 := BitVec.ofNat 32 (i 1).val
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c20000_i32 : BitVec 32 := 20000#32
  let v11 : BitVec 32 := Scalar.muli v10 c20000_i32
  ![v11.toNat]
def k0_cond2 (i : grid0.Coords) : BitVec 1 :=
  let arg1 : BitVec 32 := BitVec.ofNat 32 (i 1).val
  let c8_i32_6 : BitVec 32 := 8#32
  let v15 : BitVec 1 := Scalar.cmpi .sge arg1 c8_i32_6
  let v16 : BitVec 32 := Scalar.extui v15
  let c0_i32_7 : BitVec 32 := 0#32
  let v17 : BitVec 1 := Scalar.cmpi .ne v16 c0_i32_7
  v17

def k0_off2 (i : grid0.Coords) : Fin 1 → Nat :=
  let arg1 : BitVec 32 := BitVec.ofNat 32 (i 1).val
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c20000_i32 : BitVec 32 := 20000#32
  let v11 : BitVec 32 := Scalar.muli v10 c20000_i32
  ![v11.toNat]
@[reducible] def k0_t1_loop : Scf.Loop 32 :=
  let c0_i32_8 : BitVec 32 := 0#32
  let c640_i32 : BitVec 32 := 640#32
  let v18 : BitVec 32 := Scalar.addi c0_i32_8 c640_i32
  let c1_i32_9 : BitVec 32 := 1#32
  ⟨c0_i32_8, v18, c1_i32_9⟩
def k0_off3 (k0_t1 : Fin k0_t1_loop.trips) : Fin 1 → Nat :=
  let c0_i32_821 : BitVec 32 := 0#32
  let c0_i32_8 : BitVec 32 := 0#32
  let c1_i32_9 : BitVec 32 := 1#32
  let arg33 : BitVec 32 := Scf.iv c0_i32_8 c1_i32_9 k0_t1
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off4 (i : grid0.Coords) : Fin 1 → Nat :=
  let arg1 : BitVec 32 := BitVec.ofNat 32 (i 1).val
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c20000_i32 : BitVec 32 := 20000#32
  let v11 : BitVec 32 := Scalar.muli v10 c20000_i32
  ![v11.toNat]
@[reducible] def k0_t2_loop : Scf.Loop 32 :=
  let c0_i32_11 : BitVec 32 := 0#32
  let c625_i32 : BitVec 32 := 625#32
  let v21 : BitVec 32 := Scalar.addi c0_i32_11 c625_i32
  let c1_i32_12 : BitVec 32 := 1#32
  ⟨c0_i32_11, v21, c1_i32_12⟩
def k0_off5 (k0_t2 : Fin k0_t2_loop.trips) : Fin 1 → Nat :=
  let c0_i32_821 : BitVec 32 := 0#32
  let c0_i32_11 : BitVec 32 := 0#32
  let c1_i32_12 : BitVec 32 := 1#32
  let arg33 : BitVec 32 := Scf.iv c0_i32_11 c1_i32_12 k0_t2
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off6 (k0_t2 : Fin k0_t2_loop.trips) : Fin 1 → Nat :=
  let c10000_i32 : BitVec 32 := 10000#32
  let c0_i32_821 : BitVec 32 := 0#32
  let c0_i32_11 : BitVec 32 := 0#32
  let c1_i32_12 : BitVec 32 := 1#32
  let arg33 : BitVec 32 := Scf.iv c0_i32_11 c1_i32_12 k0_t2
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c10000_i32 v1028
  let v1030 : Index := Scalar.indexCast v1029
  ![v1030.toNat]
def k0_off7 (k0_t2 : Fin k0_t2_loop.trips) : Fin 1 → Nat :=
  let c0_i32_821 : BitVec 32 := 0#32
  let c0_i32_11 : BitVec 32 := 0#32
  let c1_i32_12 : BitVec 32 := 1#32
  let arg33 : BitVec 32 := Scf.iv c0_i32_11 c1_i32_12 k0_t2
  let c1_i32_820 : BitVec 32 := 1#32
  let v1023 : BitVec 32 := Scalar.muli arg33 c1_i32_820
  let v1024 : BitVec 32 := Scalar.addi c0_i32_821 v1023
  let c16_i32_829 : BitVec 32 := 16#32
  let v1042 : BitVec 32 := Scalar.muli v1024 c16_i32_829
  let v1043 : Index := Scalar.indexCast v1042
  ![v1043.toNat]
def k0_off8 (k0_t2 : Fin k0_t2_loop.trips) : Fin 1 → Nat :=
  let c10000_i32_833 : BitVec 32 := 10000#32
  let c0_i32_821 : BitVec 32 := 0#32
  let c0_i32_11 : BitVec 32 := 0#32
  let c1_i32_12 : BitVec 32 := 1#32
  let arg33 : BitVec 32 := Scf.iv c0_i32_11 c1_i32_12 k0_t2
  let c1_i32_820 : BitVec 32 := 1#32
  let v1023 : BitVec 32 := Scalar.muli arg33 c1_i32_820
  let v1024 : BitVec 32 := Scalar.addi c0_i32_821 v1023
  let c16_i32_832 : BitVec 32 := 16#32
  let v1051 : BitVec 32 := Scalar.muli v1024 c16_i32_832
  let v1052 : BitVec 32 := Scalar.addi c10000_i32_833 v1051
  let v1053 : Index := Scalar.indexCast v1052
  ![v1053.toNat]

def k0_chk1 (v1027 : IVec S16 32) : Prop :=
  (∀ a x, ((![v1027] : Fin 1 → IVec S16 32) a x).toNat < S10240.size a) ∧
  (∀ a x, ((![v1027] : Fin 1 → IVec S16 32) a x).toNat < S10240.size a)
theorem k0_idx1_inb : ∀ (v1027 : IVec S16 32) (k0_hw1 : k0_chk1 v1027), ∀ a x, ((![v1027] : Fin 1 → IVec S16 32) a x).toNat < S10240.size a := fun v1027 k0_hw1 => k0_hw1.1
theorem k0_idx3_inb : ∀ (v1027 : IVec S16 32) (k0_hw1 : k0_chk1 v1027), ∀ a x, ((![v1027] : Fin 1 → IVec S16 32) a x).toNat < S10240.size a := fun v1027 k0_hw1 => k0_hw1.2

def k0_chk2 (v1031 : IVec S16 32) : Prop :=
  (∀ a x, ((![v1031] : Fin 1 → IVec S16 32) a x).toNat < S10240.size a) ∧
  (∀ a x, ((![v1031] : Fin 1 → IVec S16 32) a x).toNat < S10240.size a)
theorem k0_idx2_inb : ∀ (v1031 : IVec S16 32) (k0_hw2 : k0_chk2 v1031), ∀ a x, ((![v1031] : Fin 1 → IVec S16 32) a x).toNat < S10240.size a := fun v1031 k0_hw2 => k0_hw2.1
theorem k0_idx4_inb : ∀ (v1031 : IVec S16 32) (k0_hw2 : k0_chk2 v1031), ∀ a x, ((![v1031] : Fin 1 → IVec S16 32) a x).toNat < S10240.size a := fun v1031 k0_hw2 => k0_hw2.2
def k0_off9 (i : grid0.Coords) : Fin 1 → Nat :=
  let c2_i32 : BitVec 32 := 2#32
  let arg1 : BitVec 32 := BitVec.ofNat 32 (i 1).val
  let v22 : BitVec 32 := Scalar.muli c2_i32 arg1
  let c10240_i32 : BitVec 32 := 10240#32
  let v23 : BitVec 32 := Scalar.muli v22 c10240_i32
  ![v23.toNat]
def k0_off10 (i : grid0.Coords) : Fin 1 → Nat :=
  let c2_i32_14 : BitVec 32 := 2#32
  let arg1 : BitVec 32 := BitVec.ofNat 32 (i 1).val
  let v26 : BitVec 32 := Scalar.muli c2_i32_14 arg1
  let c1_i32_15 : BitVec 32 := 1#32
  let v27 : BitVec 32 := Scalar.addi v26 c1_i32_15
  let c10240_i32_16 : BitVec 32 := 10240#32
  let v28 : BitVec 32 := Scalar.muli v27 c10240_i32_16
  ![v28.toNat]
def k0_off11 (i : grid0.Coords) (c0_i32_22 : BitVec 32) : Fin 1 → Nat :=
  let arg1 : BitVec 32 := BitVec.ofNat 32 (i 1).val
  let c640_i32_21 : BitVec 32 := 640#32
  let v39 : BitVec 32 := Scalar.muli arg1 c640_i32_21
  let v40 : BitVec 32 := Scalar.addi c0_i32_22 v39
  ![v40.toNat]
@[reducible] def k0_t3_loop : Scf.Loop 32 :=
  let c0_i32_218 : BitVec 32 := 0#32
  let c40_i32 : BitVec 32 := 40#32
  let v423 : BitVec 32 := Scalar.addi c0_i32_218 c40_i32
  let c1_i32_219 : BitVec 32 := 1#32
  ⟨c0_i32_218, v423, c1_i32_219⟩
def k0_off12 (k0_t3 : Fin k0_t3_loop.trips) : Fin 1 → Nat :=
  let c0_i32_821 : BitVec 32 := 0#32
  let c0_i32_218 : BitVec 32 := 0#32
  let c1_i32_219 : BitVec 32 := 1#32
  let arg33 : BitVec 32 := Scf.iv c0_i32_218 c1_i32_219 k0_t3
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
@[reducible] def k0_t4_loop : Scf.Loop 32 :=
  let c0_i32_221 : BitVec 32 := 0#32
  let c40_i32_222 : BitVec 32 := 40#32
  let v424 : BitVec 32 := Scalar.addi c0_i32_221 c40_i32_222
  let c1_i32_223 : BitVec 32 := 1#32
  ⟨c0_i32_221, v424, c1_i32_223⟩
def k0_off13 (k0_t4 : Fin k0_t4_loop.trips) : Fin 1 → Nat :=
  let c0_i32_821 : BitVec 32 := 0#32
  let c0_i32_221 : BitVec 32 := 0#32
  let c1_i32_223 : BitVec 32 := 1#32
  let arg33 : BitVec 32 := Scf.iv c0_i32_221 c1_i32_223 k0_t4
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off14 (k0_t4 : Fin k0_t4_loop.trips) : Fin 1 → Nat :=
  let c0_i32_824 : BitVec 32 := 0#32
  let c0_i32_821 : BitVec 32 := 0#32
  let c0_i32_221 : BitVec 32 := 0#32
  let c1_i32_223 : BitVec 32 := 1#32
  let arg33 : BitVec 32 := Scf.iv c0_i32_221 c1_i32_223 k0_t4
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c0_i32_824 v1028
  let v1030 : Index := Scalar.indexCast v1029
  ![v1030.toNat]
@[reducible] def k0_t5_loop : Scf.Loop 32 :=
  let c0_i32_225 : BitVec 32 := 0#32
  let c40_i32_226 : BitVec 32 := 40#32
  let v425 : BitVec 32 := Scalar.addi c0_i32_225 c40_i32_226
  let c1_i32_227 : BitVec 32 := 1#32
  ⟨c0_i32_225, v425, c1_i32_227⟩
def k0_off15 (k0_t5 : Fin k0_t5_loop.trips) : Fin 1 → Nat :=
  let c0_i32_821 : BitVec 32 := 0#32
  let c0_i32_225 : BitVec 32 := 0#32
  let c1_i32_227 : BitVec 32 := 1#32
  let arg33 : BitVec 32 := Scf.iv c0_i32_225 c1_i32_227 k0_t5
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off16 (k0_t5 : Fin k0_t5_loop.trips) : Fin 1 → Nat :=
  let c640_i32_824 : BitVec 32 := 640#32
  let c0_i32_821 : BitVec 32 := 0#32
  let c0_i32_225 : BitVec 32 := 0#32
  let c1_i32_227 : BitVec 32 := 1#32
  let arg33 : BitVec 32 := Scf.iv c0_i32_225 c1_i32_227 k0_t5
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c640_i32_824 v1028
  let v1030 : Index := Scalar.indexCast v1029
  ![v1030.toNat]
@[reducible] def k0_t6_loop : Scf.Loop 32 :=
  let c0_i32_229 : BitVec 32 := 0#32
  let c40_i32_230 : BitVec 32 := 40#32
  let v426 : BitVec 32 := Scalar.addi c0_i32_229 c40_i32_230
  let c1_i32_231 : BitVec 32 := 1#32
  ⟨c0_i32_229, v426, c1_i32_231⟩
def k0_off17 (k0_t6 : Fin k0_t6_loop.trips) : Fin 1 → Nat :=
  let c0_i32_821 : BitVec 32 := 0#32
  let c0_i32_229 : BitVec 32 := 0#32
  let c1_i32_231 : BitVec 32 := 1#32
  let arg33 : BitVec 32 := Scf.iv c0_i32_229 c1_i32_231 k0_t6
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off18 (k0_t6 : Fin k0_t6_loop.trips) : Fin 1 → Nat :=
  let c1280_i32_824 : BitVec 32 := 1280#32
  let c0_i32_821 : BitVec 32 := 0#32
  let c0_i32_229 : BitVec 32 := 0#32
  let c1_i32_231 : BitVec 32 := 1#32
  let arg33 : BitVec 32 := Scf.iv c0_i32_229 c1_i32_231 k0_t6
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c1280_i32_824 v1028
  let v1030 : Index := Scalar.indexCast v1029
  ![v1030.toNat]
@[reducible] def k0_t7_loop : Scf.Loop 32 :=
  let c0_i32_233 : BitVec 32 := 0#32
  let c40_i32_234 : BitVec 32 := 40#32
  let v427 : BitVec 32 := Scalar.addi c0_i32_233 c40_i32_234
  let c1_i32_235 : BitVec 32 := 1#32
  ⟨c0_i32_233, v427, c1_i32_235⟩
def k0_off19 (k0_t7 : Fin k0_t7_loop.trips) : Fin 1 → Nat :=
  let c0_i32_821 : BitVec 32 := 0#32
  let c0_i32_233 : BitVec 32 := 0#32
  let c1_i32_235 : BitVec 32 := 1#32
  let arg33 : BitVec 32 := Scf.iv c0_i32_233 c1_i32_235 k0_t7
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off20 (k0_t7 : Fin k0_t7_loop.trips) : Fin 1 → Nat :=
  let c1920_i32_824 : BitVec 32 := 1920#32
  let c0_i32_821 : BitVec 32 := 0#32
  let c0_i32_233 : BitVec 32 := 0#32
  let c1_i32_235 : BitVec 32 := 1#32
  let arg33 : BitVec 32 := Scf.iv c0_i32_233 c1_i32_235 k0_t7
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c1920_i32_824 v1028
  let v1030 : Index := Scalar.indexCast v1029
  ![v1030.toNat]
@[reducible] def k0_t8_loop : Scf.Loop 32 :=
  let c0_i32_237 : BitVec 32 := 0#32
  let c40_i32_238 : BitVec 32 := 40#32
  let v428 : BitVec 32 := Scalar.addi c0_i32_237 c40_i32_238
  let c1_i32_239 : BitVec 32 := 1#32
  ⟨c0_i32_237, v428, c1_i32_239⟩
def k0_off21 (k0_t8 : Fin k0_t8_loop.trips) : Fin 1 → Nat :=
  let c0_i32_821 : BitVec 32 := 0#32
  let c0_i32_237 : BitVec 32 := 0#32
  let c1_i32_239 : BitVec 32 := 1#32
  let arg33 : BitVec 32 := Scf.iv c0_i32_237 c1_i32_239 k0_t8
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off22 (k0_t8 : Fin k0_t8_loop.trips) : Fin 1 → Nat :=
  let c2560_i32_824 : BitVec 32 := 2560#32
  let c0_i32_821 : BitVec 32 := 0#32
  let c0_i32_237 : BitVec 32 := 0#32
  let c1_i32_239 : BitVec 32 := 1#32
  let arg33 : BitVec 32 := Scf.iv c0_i32_237 c1_i32_239 k0_t8
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c2560_i32_824 v1028
  let v1030 : Index := Scalar.indexCast v1029
  ![v1030.toNat]
@[reducible] def k0_t9_loop : Scf.Loop 32 :=
  let c0_i32_241 : BitVec 32 := 0#32
  let c40_i32_242 : BitVec 32 := 40#32
  let v429 : BitVec 32 := Scalar.addi c0_i32_241 c40_i32_242
  let c1_i32_243 : BitVec 32 := 1#32
  ⟨c0_i32_241, v429, c1_i32_243⟩
def k0_off23 (k0_t9 : Fin k0_t9_loop.trips) : Fin 1 → Nat :=
  let c0_i32_821 : BitVec 32 := 0#32
  let c0_i32_241 : BitVec 32 := 0#32
  let c1_i32_243 : BitVec 32 := 1#32
  let arg33 : BitVec 32 := Scf.iv c0_i32_241 c1_i32_243 k0_t9
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off24 (k0_t9 : Fin k0_t9_loop.trips) : Fin 1 → Nat :=
  let c3200_i32_824 : BitVec 32 := 3200#32
  let c0_i32_821 : BitVec 32 := 0#32
  let c0_i32_241 : BitVec 32 := 0#32
  let c1_i32_243 : BitVec 32 := 1#32
  let arg33 : BitVec 32 := Scf.iv c0_i32_241 c1_i32_243 k0_t9
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c3200_i32_824 v1028
  let v1030 : Index := Scalar.indexCast v1029
  ![v1030.toNat]
@[reducible] def k0_t10_loop : Scf.Loop 32 :=
  let c0_i32_245 : BitVec 32 := 0#32
  let c40_i32_246 : BitVec 32 := 40#32
  let v430 : BitVec 32 := Scalar.addi c0_i32_245 c40_i32_246
  let c1_i32_247 : BitVec 32 := 1#32
  ⟨c0_i32_245, v430, c1_i32_247⟩
def k0_off25 (k0_t10 : Fin k0_t10_loop.trips) : Fin 1 → Nat :=
  let c0_i32_821 : BitVec 32 := 0#32
  let c0_i32_245 : BitVec 32 := 0#32
  let c1_i32_247 : BitVec 32 := 1#32
  let arg33 : BitVec 32 := Scf.iv c0_i32_245 c1_i32_247 k0_t10
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off26 (k0_t10 : Fin k0_t10_loop.trips) : Fin 1 → Nat :=
  let c3840_i32_824 : BitVec 32 := 3840#32
  let c0_i32_821 : BitVec 32 := 0#32
  let c0_i32_245 : BitVec 32 := 0#32
  let c1_i32_247 : BitVec 32 := 1#32
  let arg33 : BitVec 32 := Scf.iv c0_i32_245 c1_i32_247 k0_t10
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c3840_i32_824 v1028
  let v1030 : Index := Scalar.indexCast v1029
  ![v1030.toNat]
@[reducible] def k0_t11_loop : Scf.Loop 32 :=
  let c0_i32_249 : BitVec 32 := 0#32
  let c40_i32_250 : BitVec 32 := 40#32
  let v431 : BitVec 32 := Scalar.addi c0_i32_249 c40_i32_250
  let c1_i32_251 : BitVec 32 := 1#32
  ⟨c0_i32_249, v431, c1_i32_251⟩
def k0_off27 (k0_t11 : Fin k0_t11_loop.trips) : Fin 1 → Nat :=
  let c0_i32_821 : BitVec 32 := 0#32
  let c0_i32_249 : BitVec 32 := 0#32
  let c1_i32_251 : BitVec 32 := 1#32
  let arg33 : BitVec 32 := Scf.iv c0_i32_249 c1_i32_251 k0_t11
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off28 (k0_t11 : Fin k0_t11_loop.trips) : Fin 1 → Nat :=
  let c4480_i32_824 : BitVec 32 := 4480#32
  let c0_i32_821 : BitVec 32 := 0#32
  let c0_i32_249 : BitVec 32 := 0#32
  let c1_i32_251 : BitVec 32 := 1#32
  let arg33 : BitVec 32 := Scf.iv c0_i32_249 c1_i32_251 k0_t11
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c4480_i32_824 v1028
  let v1030 : Index := Scalar.indexCast v1029
  ![v1030.toNat]
@[reducible] def k0_t12_loop : Scf.Loop 32 :=
  let c0_i32_253 : BitVec 32 := 0#32
  let c40_i32_254 : BitVec 32 := 40#32
  let v432 : BitVec 32 := Scalar.addi c0_i32_253 c40_i32_254
  let c1_i32_255 : BitVec 32 := 1#32
  ⟨c0_i32_253, v432, c1_i32_255⟩
def k0_off29 (k0_t12 : Fin k0_t12_loop.trips) : Fin 1 → Nat :=
  let c0_i32_821 : BitVec 32 := 0#32
  let c0_i32_253 : BitVec 32 := 0#32
  let c1_i32_255 : BitVec 32 := 1#32
  let arg33 : BitVec 32 := Scf.iv c0_i32_253 c1_i32_255 k0_t12
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off30 (k0_t12 : Fin k0_t12_loop.trips) : Fin 1 → Nat :=
  let c5120_i32_824 : BitVec 32 := 5120#32
  let c0_i32_821 : BitVec 32 := 0#32
  let c0_i32_253 : BitVec 32 := 0#32
  let c1_i32_255 : BitVec 32 := 1#32
  let arg33 : BitVec 32 := Scf.iv c0_i32_253 c1_i32_255 k0_t12
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c5120_i32_824 v1028
  let v1030 : Index := Scalar.indexCast v1029
  ![v1030.toNat]
@[reducible] def k0_t13_loop : Scf.Loop 32 :=
  let c0_i32_257 : BitVec 32 := 0#32
  let c40_i32_258 : BitVec 32 := 40#32
  let v433 : BitVec 32 := Scalar.addi c0_i32_257 c40_i32_258
  let c1_i32_259 : BitVec 32 := 1#32
  ⟨c0_i32_257, v433, c1_i32_259⟩
def k0_off31 (k0_t13 : Fin k0_t13_loop.trips) : Fin 1 → Nat :=
  let c0_i32_821 : BitVec 32 := 0#32
  let c0_i32_257 : BitVec 32 := 0#32
  let c1_i32_259 : BitVec 32 := 1#32
  let arg33 : BitVec 32 := Scf.iv c0_i32_257 c1_i32_259 k0_t13
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off32 (k0_t13 : Fin k0_t13_loop.trips) : Fin 1 → Nat :=
  let c5760_i32_824 : BitVec 32 := 5760#32
  let c0_i32_821 : BitVec 32 := 0#32
  let c0_i32_257 : BitVec 32 := 0#32
  let c1_i32_259 : BitVec 32 := 1#32
  let arg33 : BitVec 32 := Scf.iv c0_i32_257 c1_i32_259 k0_t13
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c5760_i32_824 v1028
  let v1030 : Index := Scalar.indexCast v1029
  ![v1030.toNat]
@[reducible] def k0_t14_loop : Scf.Loop 32 :=
  let c0_i32_261 : BitVec 32 := 0#32
  let c40_i32_262 : BitVec 32 := 40#32
  let v434 : BitVec 32 := Scalar.addi c0_i32_261 c40_i32_262
  let c1_i32_263 : BitVec 32 := 1#32
  ⟨c0_i32_261, v434, c1_i32_263⟩
def k0_off33 (k0_t14 : Fin k0_t14_loop.trips) : Fin 1 → Nat :=
  let c0_i32_821 : BitVec 32 := 0#32
  let c0_i32_261 : BitVec 32 := 0#32
  let c1_i32_263 : BitVec 32 := 1#32
  let arg33 : BitVec 32 := Scf.iv c0_i32_261 c1_i32_263 k0_t14
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off34 (k0_t14 : Fin k0_t14_loop.trips) : Fin 1 → Nat :=
  let c6400_i32_824 : BitVec 32 := 6400#32
  let c0_i32_821 : BitVec 32 := 0#32
  let c0_i32_261 : BitVec 32 := 0#32
  let c1_i32_263 : BitVec 32 := 1#32
  let arg33 : BitVec 32 := Scf.iv c0_i32_261 c1_i32_263 k0_t14
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c6400_i32_824 v1028
  let v1030 : Index := Scalar.indexCast v1029
  ![v1030.toNat]
@[reducible] def k0_t15_loop : Scf.Loop 32 :=
  let c0_i32_265 : BitVec 32 := 0#32
  let c40_i32_266 : BitVec 32 := 40#32
  let v435 : BitVec 32 := Scalar.addi c0_i32_265 c40_i32_266
  let c1_i32_267 : BitVec 32 := 1#32
  ⟨c0_i32_265, v435, c1_i32_267⟩
def k0_off35 (k0_t15 : Fin k0_t15_loop.trips) : Fin 1 → Nat :=
  let c0_i32_821 : BitVec 32 := 0#32
  let c0_i32_265 : BitVec 32 := 0#32
  let c1_i32_267 : BitVec 32 := 1#32
  let arg33 : BitVec 32 := Scf.iv c0_i32_265 c1_i32_267 k0_t15
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off36 (k0_t15 : Fin k0_t15_loop.trips) : Fin 1 → Nat :=
  let c7040_i32_824 : BitVec 32 := 7040#32
  let c0_i32_821 : BitVec 32 := 0#32
  let c0_i32_265 : BitVec 32 := 0#32
  let c1_i32_267 : BitVec 32 := 1#32
  let arg33 : BitVec 32 := Scf.iv c0_i32_265 c1_i32_267 k0_t15
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c7040_i32_824 v1028
  let v1030 : Index := Scalar.indexCast v1029
  ![v1030.toNat]
@[reducible] def k0_t16_loop : Scf.Loop 32 :=
  let c0_i32_269 : BitVec 32 := 0#32
  let c40_i32_270 : BitVec 32 := 40#32
  let v436 : BitVec 32 := Scalar.addi c0_i32_269 c40_i32_270
  let c1_i32_271 : BitVec 32 := 1#32
  ⟨c0_i32_269, v436, c1_i32_271⟩
def k0_off37 (k0_t16 : Fin k0_t16_loop.trips) : Fin 1 → Nat :=
  let c0_i32_821 : BitVec 32 := 0#32
  let c0_i32_269 : BitVec 32 := 0#32
  let c1_i32_271 : BitVec 32 := 1#32
  let arg33 : BitVec 32 := Scf.iv c0_i32_269 c1_i32_271 k0_t16
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off38 (k0_t16 : Fin k0_t16_loop.trips) : Fin 1 → Nat :=
  let c7680_i32_824 : BitVec 32 := 7680#32
  let c0_i32_821 : BitVec 32 := 0#32
  let c0_i32_269 : BitVec 32 := 0#32
  let c1_i32_271 : BitVec 32 := 1#32
  let arg33 : BitVec 32 := Scf.iv c0_i32_269 c1_i32_271 k0_t16
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c7680_i32_824 v1028
  let v1030 : Index := Scalar.indexCast v1029
  ![v1030.toNat]
@[reducible] def k0_t17_loop : Scf.Loop 32 :=
  let c0_i32_273 : BitVec 32 := 0#32
  let c40_i32_274 : BitVec 32 := 40#32
  let v437 : BitVec 32 := Scalar.addi c0_i32_273 c40_i32_274
  let c1_i32_275 : BitVec 32 := 1#32
  ⟨c0_i32_273, v437, c1_i32_275⟩
def k0_off39 (k0_t17 : Fin k0_t17_loop.trips) : Fin 1 → Nat :=
  let c0_i32_821 : BitVec 32 := 0#32
  let c0_i32_273 : BitVec 32 := 0#32
  let c1_i32_275 : BitVec 32 := 1#32
  let arg33 : BitVec 32 := Scf.iv c0_i32_273 c1_i32_275 k0_t17
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off40 (k0_t17 : Fin k0_t17_loop.trips) : Fin 1 → Nat :=
  let c8320_i32_824 : BitVec 32 := 8320#32
  let c0_i32_821 : BitVec 32 := 0#32
  let c0_i32_273 : BitVec 32 := 0#32
  let c1_i32_275 : BitVec 32 := 1#32
  let arg33 : BitVec 32 := Scf.iv c0_i32_273 c1_i32_275 k0_t17
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c8320_i32_824 v1028
  let v1030 : Index := Scalar.indexCast v1029
  ![v1030.toNat]
@[reducible] def k0_t18_loop : Scf.Loop 32 :=
  let c0_i32_277 : BitVec 32 := 0#32
  let c40_i32_278 : BitVec 32 := 40#32
  let v438 : BitVec 32 := Scalar.addi c0_i32_277 c40_i32_278
  let c1_i32_279 : BitVec 32 := 1#32
  ⟨c0_i32_277, v438, c1_i32_279⟩
def k0_off41 (k0_t18 : Fin k0_t18_loop.trips) : Fin 1 → Nat :=
  let c0_i32_821 : BitVec 32 := 0#32
  let c0_i32_277 : BitVec 32 := 0#32
  let c1_i32_279 : BitVec 32 := 1#32
  let arg33 : BitVec 32 := Scf.iv c0_i32_277 c1_i32_279 k0_t18
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off42 (k0_t18 : Fin k0_t18_loop.trips) : Fin 1 → Nat :=
  let c8960_i32_824 : BitVec 32 := 8960#32
  let c0_i32_821 : BitVec 32 := 0#32
  let c0_i32_277 : BitVec 32 := 0#32
  let c1_i32_279 : BitVec 32 := 1#32
  let arg33 : BitVec 32 := Scf.iv c0_i32_277 c1_i32_279 k0_t18
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c8960_i32_824 v1028
  let v1030 : Index := Scalar.indexCast v1029
  ![v1030.toNat]
@[reducible] def k0_t19_loop : Scf.Loop 32 :=
  let c0_i32_281 : BitVec 32 := 0#32
  let c40_i32_282 : BitVec 32 := 40#32
  let v439 : BitVec 32 := Scalar.addi c0_i32_281 c40_i32_282
  let c1_i32_283 : BitVec 32 := 1#32
  ⟨c0_i32_281, v439, c1_i32_283⟩
def k0_off43 (k0_t19 : Fin k0_t19_loop.trips) : Fin 1 → Nat :=
  let c0_i32_821 : BitVec 32 := 0#32
  let c0_i32_281 : BitVec 32 := 0#32
  let c1_i32_283 : BitVec 32 := 1#32
  let arg33 : BitVec 32 := Scf.iv c0_i32_281 c1_i32_283 k0_t19
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off44 (k0_t19 : Fin k0_t19_loop.trips) : Fin 1 → Nat :=
  let c9600_i32_824 : BitVec 32 := 9600#32
  let c0_i32_821 : BitVec 32 := 0#32
  let c0_i32_281 : BitVec 32 := 0#32
  let c1_i32_283 : BitVec 32 := 1#32
  let arg33 : BitVec 32 := Scf.iv c0_i32_281 c1_i32_283 k0_t19
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c9600_i32_824 v1028
  let v1030 : Index := Scalar.indexCast v1029
  ![v1030.toNat]
@[reducible] def k0_t20_loop : Scf.Loop 32 :=
  let c0_i32_285 : BitVec 32 := 0#32
  let c40_i32_286 : BitVec 32 := 40#32
  let v440 : BitVec 32 := Scalar.addi c0_i32_285 c40_i32_286
  let c1_i32_287 : BitVec 32 := 1#32
  ⟨c0_i32_285, v440, c1_i32_287⟩
def k0_off45 (k0_t20 : Fin k0_t20_loop.trips) : Fin 1 → Nat :=
  let c0_i32_821 : BitVec 32 := 0#32
  let c0_i32_285 : BitVec 32 := 0#32
  let c1_i32_287 : BitVec 32 := 1#32
  let arg33 : BitVec 32 := Scf.iv c0_i32_285 c1_i32_287 k0_t20
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off46 (k0_t20 : Fin k0_t20_loop.trips) : Fin 1 → Nat :=
  let c10240_i32_824 : BitVec 32 := 10240#32
  let c0_i32_821 : BitVec 32 := 0#32
  let c0_i32_285 : BitVec 32 := 0#32
  let c1_i32_287 : BitVec 32 := 1#32
  let arg33 : BitVec 32 := Scf.iv c0_i32_285 c1_i32_287 k0_t20
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c10240_i32_824 v1028
  let v1030 : Index := Scalar.indexCast v1029
  ![v1030.toNat]
@[reducible] def k0_t21_loop : Scf.Loop 32 :=
  let c0_i32_289 : BitVec 32 := 0#32
  let c40_i32_290 : BitVec 32 := 40#32
  let v441 : BitVec 32 := Scalar.addi c0_i32_289 c40_i32_290
  let c1_i32_291 : BitVec 32 := 1#32
  ⟨c0_i32_289, v441, c1_i32_291⟩
def k0_off47 (k0_t21 : Fin k0_t21_loop.trips) : Fin 1 → Nat :=
  let c0_i32_821 : BitVec 32 := 0#32
  let c0_i32_289 : BitVec 32 := 0#32
  let c1_i32_291 : BitVec 32 := 1#32
  let arg33 : BitVec 32 := Scf.iv c0_i32_289 c1_i32_291 k0_t21
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off48 (k0_t21 : Fin k0_t21_loop.trips) : Fin 1 → Nat :=
  let c10880_i32_824 : BitVec 32 := 10880#32
  let c0_i32_821 : BitVec 32 := 0#32
  let c0_i32_289 : BitVec 32 := 0#32
  let c1_i32_291 : BitVec 32 := 1#32
  let arg33 : BitVec 32 := Scf.iv c0_i32_289 c1_i32_291 k0_t21
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c10880_i32_824 v1028
  let v1030 : Index := Scalar.indexCast v1029
  ![v1030.toNat]
@[reducible] def k0_t22_loop : Scf.Loop 32 :=
  let c0_i32_293 : BitVec 32 := 0#32
  let c40_i32_294 : BitVec 32 := 40#32
  let v442 : BitVec 32 := Scalar.addi c0_i32_293 c40_i32_294
  let c1_i32_295 : BitVec 32 := 1#32
  ⟨c0_i32_293, v442, c1_i32_295⟩
def k0_off49 (k0_t22 : Fin k0_t22_loop.trips) : Fin 1 → Nat :=
  let c0_i32_821 : BitVec 32 := 0#32
  let c0_i32_293 : BitVec 32 := 0#32
  let c1_i32_295 : BitVec 32 := 1#32
  let arg33 : BitVec 32 := Scf.iv c0_i32_293 c1_i32_295 k0_t22
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off50 (k0_t22 : Fin k0_t22_loop.trips) : Fin 1 → Nat :=
  let c11520_i32_824 : BitVec 32 := 11520#32
  let c0_i32_821 : BitVec 32 := 0#32
  let c0_i32_293 : BitVec 32 := 0#32
  let c1_i32_295 : BitVec 32 := 1#32
  let arg33 : BitVec 32 := Scf.iv c0_i32_293 c1_i32_295 k0_t22
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c11520_i32_824 v1028
  let v1030 : Index := Scalar.indexCast v1029
  ![v1030.toNat]
@[reducible] def k0_t23_loop : Scf.Loop 32 :=
  let c0_i32_297 : BitVec 32 := 0#32
  let c40_i32_298 : BitVec 32 := 40#32
  let v443 : BitVec 32 := Scalar.addi c0_i32_297 c40_i32_298
  let c1_i32_299 : BitVec 32 := 1#32
  ⟨c0_i32_297, v443, c1_i32_299⟩
def k0_off51 (k0_t23 : Fin k0_t23_loop.trips) : Fin 1 → Nat :=
  let c0_i32_821 : BitVec 32 := 0#32
  let c0_i32_297 : BitVec 32 := 0#32
  let c1_i32_299 : BitVec 32 := 1#32
  let arg33 : BitVec 32 := Scf.iv c0_i32_297 c1_i32_299 k0_t23
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off52 (k0_t23 : Fin k0_t23_loop.trips) : Fin 1 → Nat :=
  let c12160_i32_824 : BitVec 32 := 12160#32
  let c0_i32_821 : BitVec 32 := 0#32
  let c0_i32_297 : BitVec 32 := 0#32
  let c1_i32_299 : BitVec 32 := 1#32
  let arg33 : BitVec 32 := Scf.iv c0_i32_297 c1_i32_299 k0_t23
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c12160_i32_824 v1028
  let v1030 : Index := Scalar.indexCast v1029
  ![v1030.toNat]
@[reducible] def k0_t24_loop : Scf.Loop 32 :=
  let c0_i32_301 : BitVec 32 := 0#32
  let c40_i32_302 : BitVec 32 := 40#32
  let v444 : BitVec 32 := Scalar.addi c0_i32_301 c40_i32_302
  let c1_i32_303 : BitVec 32 := 1#32
  ⟨c0_i32_301, v444, c1_i32_303⟩
def k0_off53 (k0_t24 : Fin k0_t24_loop.trips) : Fin 1 → Nat :=
  let c0_i32_821 : BitVec 32 := 0#32
  let c0_i32_301 : BitVec 32 := 0#32
  let c1_i32_303 : BitVec 32 := 1#32
  let arg33 : BitVec 32 := Scf.iv c0_i32_301 c1_i32_303 k0_t24
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off54 (k0_t24 : Fin k0_t24_loop.trips) : Fin 1 → Nat :=
  let c12800_i32_824 : BitVec 32 := 12800#32
  let c0_i32_821 : BitVec 32 := 0#32
  let c0_i32_301 : BitVec 32 := 0#32
  let c1_i32_303 : BitVec 32 := 1#32
  let arg33 : BitVec 32 := Scf.iv c0_i32_301 c1_i32_303 k0_t24
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c12800_i32_824 v1028
  let v1030 : Index := Scalar.indexCast v1029
  ![v1030.toNat]
@[reducible] def k0_t25_loop : Scf.Loop 32 :=
  let c0_i32_305 : BitVec 32 := 0#32
  let c40_i32_306 : BitVec 32 := 40#32
  let v445 : BitVec 32 := Scalar.addi c0_i32_305 c40_i32_306
  let c1_i32_307 : BitVec 32 := 1#32
  ⟨c0_i32_305, v445, c1_i32_307⟩
def k0_off55 (k0_t25 : Fin k0_t25_loop.trips) : Fin 1 → Nat :=
  let c0_i32_821 : BitVec 32 := 0#32
  let c0_i32_305 : BitVec 32 := 0#32
  let c1_i32_307 : BitVec 32 := 1#32
  let arg33 : BitVec 32 := Scf.iv c0_i32_305 c1_i32_307 k0_t25
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off56 (k0_t25 : Fin k0_t25_loop.trips) : Fin 1 → Nat :=
  let c13440_i32_824 : BitVec 32 := 13440#32
  let c0_i32_821 : BitVec 32 := 0#32
  let c0_i32_305 : BitVec 32 := 0#32
  let c1_i32_307 : BitVec 32 := 1#32
  let arg33 : BitVec 32 := Scf.iv c0_i32_305 c1_i32_307 k0_t25
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c13440_i32_824 v1028
  let v1030 : Index := Scalar.indexCast v1029
  ![v1030.toNat]
@[reducible] def k0_t26_loop : Scf.Loop 32 :=
  let c0_i32_309 : BitVec 32 := 0#32
  let c40_i32_310 : BitVec 32 := 40#32
  let v446 : BitVec 32 := Scalar.addi c0_i32_309 c40_i32_310
  let c1_i32_311 : BitVec 32 := 1#32
  ⟨c0_i32_309, v446, c1_i32_311⟩
def k0_off57 (k0_t26 : Fin k0_t26_loop.trips) : Fin 1 → Nat :=
  let c0_i32_821 : BitVec 32 := 0#32
  let c0_i32_309 : BitVec 32 := 0#32
  let c1_i32_311 : BitVec 32 := 1#32
  let arg33 : BitVec 32 := Scf.iv c0_i32_309 c1_i32_311 k0_t26
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off58 (k0_t26 : Fin k0_t26_loop.trips) : Fin 1 → Nat :=
  let c14080_i32_824 : BitVec 32 := 14080#32
  let c0_i32_821 : BitVec 32 := 0#32
  let c0_i32_309 : BitVec 32 := 0#32
  let c1_i32_311 : BitVec 32 := 1#32
  let arg33 : BitVec 32 := Scf.iv c0_i32_309 c1_i32_311 k0_t26
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c14080_i32_824 v1028
  let v1030 : Index := Scalar.indexCast v1029
  ![v1030.toNat]
@[reducible] def k0_t27_loop : Scf.Loop 32 :=
  let c0_i32_313 : BitVec 32 := 0#32
  let c40_i32_314 : BitVec 32 := 40#32
  let v447 : BitVec 32 := Scalar.addi c0_i32_313 c40_i32_314
  let c1_i32_315 : BitVec 32 := 1#32
  ⟨c0_i32_313, v447, c1_i32_315⟩
def k0_off59 (k0_t27 : Fin k0_t27_loop.trips) : Fin 1 → Nat :=
  let c0_i32_821 : BitVec 32 := 0#32
  let c0_i32_313 : BitVec 32 := 0#32
  let c1_i32_315 : BitVec 32 := 1#32
  let arg33 : BitVec 32 := Scf.iv c0_i32_313 c1_i32_315 k0_t27
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off60 (k0_t27 : Fin k0_t27_loop.trips) : Fin 1 → Nat :=
  let c14720_i32_824 : BitVec 32 := 14720#32
  let c0_i32_821 : BitVec 32 := 0#32
  let c0_i32_313 : BitVec 32 := 0#32
  let c1_i32_315 : BitVec 32 := 1#32
  let arg33 : BitVec 32 := Scf.iv c0_i32_313 c1_i32_315 k0_t27
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c14720_i32_824 v1028
  let v1030 : Index := Scalar.indexCast v1029
  ![v1030.toNat]
@[reducible] def k0_t28_loop : Scf.Loop 32 :=
  let c0_i32_317 : BitVec 32 := 0#32
  let c40_i32_318 : BitVec 32 := 40#32
  let v448 : BitVec 32 := Scalar.addi c0_i32_317 c40_i32_318
  let c1_i32_319 : BitVec 32 := 1#32
  ⟨c0_i32_317, v448, c1_i32_319⟩
def k0_off61 (k0_t28 : Fin k0_t28_loop.trips) : Fin 1 → Nat :=
  let c0_i32_821 : BitVec 32 := 0#32
  let c0_i32_317 : BitVec 32 := 0#32
  let c1_i32_319 : BitVec 32 := 1#32
  let arg33 : BitVec 32 := Scf.iv c0_i32_317 c1_i32_319 k0_t28
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off62 (k0_t28 : Fin k0_t28_loop.trips) : Fin 1 → Nat :=
  let c15360_i32_824 : BitVec 32 := 15360#32
  let c0_i32_821 : BitVec 32 := 0#32
  let c0_i32_317 : BitVec 32 := 0#32
  let c1_i32_319 : BitVec 32 := 1#32
  let arg33 : BitVec 32 := Scf.iv c0_i32_317 c1_i32_319 k0_t28
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c15360_i32_824 v1028
  let v1030 : Index := Scalar.indexCast v1029
  ![v1030.toNat]
@[reducible] def k0_t29_loop : Scf.Loop 32 :=
  let c0_i32_321 : BitVec 32 := 0#32
  let c40_i32_322 : BitVec 32 := 40#32
  let v449 : BitVec 32 := Scalar.addi c0_i32_321 c40_i32_322
  let c1_i32_323 : BitVec 32 := 1#32
  ⟨c0_i32_321, v449, c1_i32_323⟩
def k0_off63 (k0_t29 : Fin k0_t29_loop.trips) : Fin 1 → Nat :=
  let c0_i32_821 : BitVec 32 := 0#32
  let c0_i32_321 : BitVec 32 := 0#32
  let c1_i32_323 : BitVec 32 := 1#32
  let arg33 : BitVec 32 := Scf.iv c0_i32_321 c1_i32_323 k0_t29
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off64 (k0_t29 : Fin k0_t29_loop.trips) : Fin 1 → Nat :=
  let c16000_i32_824 : BitVec 32 := 16000#32
  let c0_i32_821 : BitVec 32 := 0#32
  let c0_i32_321 : BitVec 32 := 0#32
  let c1_i32_323 : BitVec 32 := 1#32
  let arg33 : BitVec 32 := Scf.iv c0_i32_321 c1_i32_323 k0_t29
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c16000_i32_824 v1028
  let v1030 : Index := Scalar.indexCast v1029
  ![v1030.toNat]
@[reducible] def k0_t30_loop : Scf.Loop 32 :=
  let c0_i32_325 : BitVec 32 := 0#32
  let c40_i32_326 : BitVec 32 := 40#32
  let v450 : BitVec 32 := Scalar.addi c0_i32_325 c40_i32_326
  let c1_i32_327 : BitVec 32 := 1#32
  ⟨c0_i32_325, v450, c1_i32_327⟩
def k0_off65 (k0_t30 : Fin k0_t30_loop.trips) : Fin 1 → Nat :=
  let c0_i32_821 : BitVec 32 := 0#32
  let c0_i32_325 : BitVec 32 := 0#32
  let c1_i32_327 : BitVec 32 := 1#32
  let arg33 : BitVec 32 := Scf.iv c0_i32_325 c1_i32_327 k0_t30
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off66 (k0_t30 : Fin k0_t30_loop.trips) : Fin 1 → Nat :=
  let c16640_i32_824 : BitVec 32 := 16640#32
  let c0_i32_821 : BitVec 32 := 0#32
  let c0_i32_325 : BitVec 32 := 0#32
  let c1_i32_327 : BitVec 32 := 1#32
  let arg33 : BitVec 32 := Scf.iv c0_i32_325 c1_i32_327 k0_t30
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c16640_i32_824 v1028
  let v1030 : Index := Scalar.indexCast v1029
  ![v1030.toNat]
@[reducible] def k0_t31_loop : Scf.Loop 32 :=
  let c0_i32_329 : BitVec 32 := 0#32
  let c40_i32_330 : BitVec 32 := 40#32
  let v451 : BitVec 32 := Scalar.addi c0_i32_329 c40_i32_330
  let c1_i32_331 : BitVec 32 := 1#32
  ⟨c0_i32_329, v451, c1_i32_331⟩
def k0_off67 (k0_t31 : Fin k0_t31_loop.trips) : Fin 1 → Nat :=
  let c0_i32_821 : BitVec 32 := 0#32
  let c0_i32_329 : BitVec 32 := 0#32
  let c1_i32_331 : BitVec 32 := 1#32
  let arg33 : BitVec 32 := Scf.iv c0_i32_329 c1_i32_331 k0_t31
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off68 (k0_t31 : Fin k0_t31_loop.trips) : Fin 1 → Nat :=
  let c17280_i32_824 : BitVec 32 := 17280#32
  let c0_i32_821 : BitVec 32 := 0#32
  let c0_i32_329 : BitVec 32 := 0#32
  let c1_i32_331 : BitVec 32 := 1#32
  let arg33 : BitVec 32 := Scf.iv c0_i32_329 c1_i32_331 k0_t31
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c17280_i32_824 v1028
  let v1030 : Index := Scalar.indexCast v1029
  ![v1030.toNat]
@[reducible] def k0_t32_loop : Scf.Loop 32 :=
  let c0_i32_333 : BitVec 32 := 0#32
  let c40_i32_334 : BitVec 32 := 40#32
  let v452 : BitVec 32 := Scalar.addi c0_i32_333 c40_i32_334
  let c1_i32_335 : BitVec 32 := 1#32
  ⟨c0_i32_333, v452, c1_i32_335⟩
def k0_off69 (k0_t32 : Fin k0_t32_loop.trips) : Fin 1 → Nat :=
  let c0_i32_821 : BitVec 32 := 0#32
  let c0_i32_333 : BitVec 32 := 0#32
  let c1_i32_335 : BitVec 32 := 1#32
  let arg33 : BitVec 32 := Scf.iv c0_i32_333 c1_i32_335 k0_t32
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off70 (k0_t32 : Fin k0_t32_loop.trips) : Fin 1 → Nat :=
  let c17920_i32_824 : BitVec 32 := 17920#32
  let c0_i32_821 : BitVec 32 := 0#32
  let c0_i32_333 : BitVec 32 := 0#32
  let c1_i32_335 : BitVec 32 := 1#32
  let arg33 : BitVec 32 := Scf.iv c0_i32_333 c1_i32_335 k0_t32
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c17920_i32_824 v1028
  let v1030 : Index := Scalar.indexCast v1029
  ![v1030.toNat]
@[reducible] def k0_t33_loop : Scf.Loop 32 :=
  let c0_i32_337 : BitVec 32 := 0#32
  let c40_i32_338 : BitVec 32 := 40#32
  let v453 : BitVec 32 := Scalar.addi c0_i32_337 c40_i32_338
  let c1_i32_339 : BitVec 32 := 1#32
  ⟨c0_i32_337, v453, c1_i32_339⟩
def k0_off71 (k0_t33 : Fin k0_t33_loop.trips) : Fin 1 → Nat :=
  let c0_i32_821 : BitVec 32 := 0#32
  let c0_i32_337 : BitVec 32 := 0#32
  let c1_i32_339 : BitVec 32 := 1#32
  let arg33 : BitVec 32 := Scf.iv c0_i32_337 c1_i32_339 k0_t33
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off72 (k0_t33 : Fin k0_t33_loop.trips) : Fin 1 → Nat :=
  let c18560_i32_824 : BitVec 32 := 18560#32
  let c0_i32_821 : BitVec 32 := 0#32
  let c0_i32_337 : BitVec 32 := 0#32
  let c1_i32_339 : BitVec 32 := 1#32
  let arg33 : BitVec 32 := Scf.iv c0_i32_337 c1_i32_339 k0_t33
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c18560_i32_824 v1028
  let v1030 : Index := Scalar.indexCast v1029
  ![v1030.toNat]
@[reducible] def k0_t34_loop : Scf.Loop 32 :=
  let c0_i32_341 : BitVec 32 := 0#32
  let c40_i32_342 : BitVec 32 := 40#32
  let v454 : BitVec 32 := Scalar.addi c0_i32_341 c40_i32_342
  let c1_i32_343 : BitVec 32 := 1#32
  ⟨c0_i32_341, v454, c1_i32_343⟩
def k0_off73 (k0_t34 : Fin k0_t34_loop.trips) : Fin 1 → Nat :=
  let c0_i32_821 : BitVec 32 := 0#32
  let c0_i32_341 : BitVec 32 := 0#32
  let c1_i32_343 : BitVec 32 := 1#32
  let arg33 : BitVec 32 := Scf.iv c0_i32_341 c1_i32_343 k0_t34
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off74 (k0_t34 : Fin k0_t34_loop.trips) : Fin 1 → Nat :=
  let c19200_i32_824 : BitVec 32 := 19200#32
  let c0_i32_821 : BitVec 32 := 0#32
  let c0_i32_341 : BitVec 32 := 0#32
  let c1_i32_343 : BitVec 32 := 1#32
  let arg33 : BitVec 32 := Scf.iv c0_i32_341 c1_i32_343 k0_t34
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c19200_i32_824 v1028
  let v1030 : Index := Scalar.indexCast v1029
  ![v1030.toNat]
@[reducible] def k0_t35_loop : Scf.Loop 32 :=
  let c0_i32_345 : BitVec 32 := 0#32
  let c40_i32_346 : BitVec 32 := 40#32
  let v455 : BitVec 32 := Scalar.addi c0_i32_345 c40_i32_346
  let c1_i32_347 : BitVec 32 := 1#32
  ⟨c0_i32_345, v455, c1_i32_347⟩
def k0_off75 (k0_t35 : Fin k0_t35_loop.trips) : Fin 1 → Nat :=
  let c0_i32_821 : BitVec 32 := 0#32
  let c0_i32_345 : BitVec 32 := 0#32
  let c1_i32_347 : BitVec 32 := 1#32
  let arg33 : BitVec 32 := Scf.iv c0_i32_345 c1_i32_347 k0_t35
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off76 (k0_t35 : Fin k0_t35_loop.trips) : Fin 1 → Nat :=
  let c19840_i32_824 : BitVec 32 := 19840#32
  let c0_i32_821 : BitVec 32 := 0#32
  let c0_i32_345 : BitVec 32 := 0#32
  let c1_i32_347 : BitVec 32 := 1#32
  let arg33 : BitVec 32 := Scf.iv c0_i32_345 c1_i32_347 k0_t35
  let c1_i32_820 : BitVec 32 := 1#32
  let v1023 : BitVec 32 := Scalar.muli arg33 c1_i32_820
  let v1024 : BitVec 32 := Scalar.addi c0_i32_821 v1023
  let c16_i32_823 : BitVec 32 := 16#32
  let v1028 : BitVec 32 := Scalar.muli v1024 c16_i32_823
  let v1029 : BitVec 32 := Scalar.addi c19840_i32_824 v1028
  let v1030 : Index := Scalar.indexCast v1029
  ![v1030.toNat]
@[reducible] def k0_t36_loop : Scf.Loop 32 :=
  let c0_i32_351 : BitVec 32 := 0#32
  let c40_i32_352 : BitVec 32 := 40#32
  let v458 : BitVec 32 := Scalar.addi c0_i32_351 c40_i32_352
  let c1_i32_353 : BitVec 32 := 1#32
  ⟨c0_i32_351, v458, c1_i32_353⟩
def k0_off77 (k0_t36 : Fin k0_t36_loop.trips) : Fin 1 → Nat :=
  let c0_i32_821 : BitVec 32 := 0#32
  let c0_i32_351 : BitVec 32 := 0#32
  let c1_i32_353 : BitVec 32 := 1#32
  let arg33 : BitVec 32 := Scf.iv c0_i32_351 c1_i32_353 k0_t36
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : Index := Scalar.indexCast v1025
  ![v1026.toNat]
def k0_off78 (i : grid0.Coords) : Fin 1 → Nat :=
  let arg1 : BitVec 32 := BitVec.ofNat 32 (i 1).val
  let c16_i32 : BitVec 32 := 16#32
  let v463 : BitVec 32 := Scalar.muli arg1 c16_i32
  ![v463.toNat]
@[reducible] def k0_t37_loop : Scf.Loop 32 :=
  let c0_i32_410 : BitVec 32 := 0#32
  let c40_i32_411 : BitVec 32 := 40#32
  let v560 : BitVec 32 := Scalar.addi c0_i32_410 c40_i32_411
  let c1_i32_412 : BitVec 32 := 1#32
  ⟨c0_i32_410, v560, c1_i32_412⟩
def k0_off79 (k0_t37 : Fin k0_t37_loop.trips) : Fin 1 → Nat :=
  let c0_i32_823 : BitVec 32 := 0#32
  let c0_i32_821 : BitVec 32 := 0#32
  let c0_i32_410 : BitVec 32 := 0#32
  let c1_i32_412 : BitVec 32 := 1#32
  let arg33 : BitVec 32 := Scf.iv c0_i32_410 c1_i32_412 k0_t37
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c0_i32_823 v1025
  let v1027 : Index := Scalar.indexCast v1026
  ![v1027.toNat]
def k0_off80 (k0_t37 : Fin k0_t37_loop.trips) : Fin 1 → Nat :=
  let c0_i32_821 : BitVec 32 := 0#32
  let c0_i32_410 : BitVec 32 := 0#32
  let c1_i32_412 : BitVec 32 := 1#32
  let arg33 : BitVec 32 := Scf.iv c0_i32_410 c1_i32_412 k0_t37
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t38_loop : Scf.Loop 32 :=
  let c0_i32_418 : BitVec 32 := 0#32
  let c40_i32_419 : BitVec 32 := 40#32
  let v567 : BitVec 32 := Scalar.addi c0_i32_418 c40_i32_419
  let c1_i32_420 : BitVec 32 := 1#32
  ⟨c0_i32_418, v567, c1_i32_420⟩
def k0_off81 (k0_t38 : Fin k0_t38_loop.trips) : Fin 1 → Nat :=
  let c640_i32_823 : BitVec 32 := 640#32
  let c0_i32_821 : BitVec 32 := 0#32
  let c0_i32_418 : BitVec 32 := 0#32
  let c1_i32_420 : BitVec 32 := 1#32
  let arg33 : BitVec 32 := Scf.iv c0_i32_418 c1_i32_420 k0_t38
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c640_i32_823 v1025
  let v1027 : Index := Scalar.indexCast v1026
  ![v1027.toNat]
def k0_off82 (k0_t38 : Fin k0_t38_loop.trips) : Fin 1 → Nat :=
  let c0_i32_821 : BitVec 32 := 0#32
  let c0_i32_418 : BitVec 32 := 0#32
  let c1_i32_420 : BitVec 32 := 1#32
  let arg33 : BitVec 32 := Scf.iv c0_i32_418 c1_i32_420 k0_t38
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t39_loop : Scf.Loop 32 :=
  let c0_i32_426 : BitVec 32 := 0#32
  let c40_i32_427 : BitVec 32 := 40#32
  let v574 : BitVec 32 := Scalar.addi c0_i32_426 c40_i32_427
  let c1_i32_428 : BitVec 32 := 1#32
  ⟨c0_i32_426, v574, c1_i32_428⟩
def k0_off83 (k0_t39 : Fin k0_t39_loop.trips) : Fin 1 → Nat :=
  let c1280_i32_823 : BitVec 32 := 1280#32
  let c0_i32_821 : BitVec 32 := 0#32
  let c0_i32_426 : BitVec 32 := 0#32
  let c1_i32_428 : BitVec 32 := 1#32
  let arg33 : BitVec 32 := Scf.iv c0_i32_426 c1_i32_428 k0_t39
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c1280_i32_823 v1025
  let v1027 : Index := Scalar.indexCast v1026
  ![v1027.toNat]
def k0_off84 (k0_t39 : Fin k0_t39_loop.trips) : Fin 1 → Nat :=
  let c0_i32_821 : BitVec 32 := 0#32
  let c0_i32_426 : BitVec 32 := 0#32
  let c1_i32_428 : BitVec 32 := 1#32
  let arg33 : BitVec 32 := Scf.iv c0_i32_426 c1_i32_428 k0_t39
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t40_loop : Scf.Loop 32 :=
  let c0_i32_434 : BitVec 32 := 0#32
  let c40_i32_435 : BitVec 32 := 40#32
  let v581 : BitVec 32 := Scalar.addi c0_i32_434 c40_i32_435
  let c1_i32_436 : BitVec 32 := 1#32
  ⟨c0_i32_434, v581, c1_i32_436⟩
def k0_off85 (k0_t40 : Fin k0_t40_loop.trips) : Fin 1 → Nat :=
  let c1920_i32_823 : BitVec 32 := 1920#32
  let c0_i32_821 : BitVec 32 := 0#32
  let c0_i32_434 : BitVec 32 := 0#32
  let c1_i32_436 : BitVec 32 := 1#32
  let arg33 : BitVec 32 := Scf.iv c0_i32_434 c1_i32_436 k0_t40
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c1920_i32_823 v1025
  let v1027 : Index := Scalar.indexCast v1026
  ![v1027.toNat]
def k0_off86 (k0_t40 : Fin k0_t40_loop.trips) : Fin 1 → Nat :=
  let c0_i32_821 : BitVec 32 := 0#32
  let c0_i32_434 : BitVec 32 := 0#32
  let c1_i32_436 : BitVec 32 := 1#32
  let arg33 : BitVec 32 := Scf.iv c0_i32_434 c1_i32_436 k0_t40
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t41_loop : Scf.Loop 32 :=
  let c0_i32_442 : BitVec 32 := 0#32
  let c40_i32_443 : BitVec 32 := 40#32
  let v588 : BitVec 32 := Scalar.addi c0_i32_442 c40_i32_443
  let c1_i32_444 : BitVec 32 := 1#32
  ⟨c0_i32_442, v588, c1_i32_444⟩
def k0_off87 (k0_t41 : Fin k0_t41_loop.trips) : Fin 1 → Nat :=
  let c2560_i32_823 : BitVec 32 := 2560#32
  let c0_i32_821 : BitVec 32 := 0#32
  let c0_i32_442 : BitVec 32 := 0#32
  let c1_i32_444 : BitVec 32 := 1#32
  let arg33 : BitVec 32 := Scf.iv c0_i32_442 c1_i32_444 k0_t41
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c2560_i32_823 v1025
  let v1027 : Index := Scalar.indexCast v1026
  ![v1027.toNat]
def k0_off88 (k0_t41 : Fin k0_t41_loop.trips) : Fin 1 → Nat :=
  let c0_i32_821 : BitVec 32 := 0#32
  let c0_i32_442 : BitVec 32 := 0#32
  let c1_i32_444 : BitVec 32 := 1#32
  let arg33 : BitVec 32 := Scf.iv c0_i32_442 c1_i32_444 k0_t41
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t42_loop : Scf.Loop 32 :=
  let c0_i32_450 : BitVec 32 := 0#32
  let c40_i32_451 : BitVec 32 := 40#32
  let v595 : BitVec 32 := Scalar.addi c0_i32_450 c40_i32_451
  let c1_i32_452 : BitVec 32 := 1#32
  ⟨c0_i32_450, v595, c1_i32_452⟩
def k0_off89 (k0_t42 : Fin k0_t42_loop.trips) : Fin 1 → Nat :=
  let c3200_i32_823 : BitVec 32 := 3200#32
  let c0_i32_821 : BitVec 32 := 0#32
  let c0_i32_450 : BitVec 32 := 0#32
  let c1_i32_452 : BitVec 32 := 1#32
  let arg33 : BitVec 32 := Scf.iv c0_i32_450 c1_i32_452 k0_t42
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c3200_i32_823 v1025
  let v1027 : Index := Scalar.indexCast v1026
  ![v1027.toNat]
def k0_off90 (k0_t42 : Fin k0_t42_loop.trips) : Fin 1 → Nat :=
  let c0_i32_821 : BitVec 32 := 0#32
  let c0_i32_450 : BitVec 32 := 0#32
  let c1_i32_452 : BitVec 32 := 1#32
  let arg33 : BitVec 32 := Scf.iv c0_i32_450 c1_i32_452 k0_t42
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t43_loop : Scf.Loop 32 :=
  let c0_i32_458 : BitVec 32 := 0#32
  let c40_i32_459 : BitVec 32 := 40#32
  let v602 : BitVec 32 := Scalar.addi c0_i32_458 c40_i32_459
  let c1_i32_460 : BitVec 32 := 1#32
  ⟨c0_i32_458, v602, c1_i32_460⟩
def k0_off91 (k0_t43 : Fin k0_t43_loop.trips) : Fin 1 → Nat :=
  let c3840_i32_823 : BitVec 32 := 3840#32
  let c0_i32_821 : BitVec 32 := 0#32
  let c0_i32_458 : BitVec 32 := 0#32
  let c1_i32_460 : BitVec 32 := 1#32
  let arg33 : BitVec 32 := Scf.iv c0_i32_458 c1_i32_460 k0_t43
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c3840_i32_823 v1025
  let v1027 : Index := Scalar.indexCast v1026
  ![v1027.toNat]
def k0_off92 (k0_t43 : Fin k0_t43_loop.trips) : Fin 1 → Nat :=
  let c0_i32_821 : BitVec 32 := 0#32
  let c0_i32_458 : BitVec 32 := 0#32
  let c1_i32_460 : BitVec 32 := 1#32
  let arg33 : BitVec 32 := Scf.iv c0_i32_458 c1_i32_460 k0_t43
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t44_loop : Scf.Loop 32 :=
  let c0_i32_466 : BitVec 32 := 0#32
  let c40_i32_467 : BitVec 32 := 40#32
  let v609 : BitVec 32 := Scalar.addi c0_i32_466 c40_i32_467
  let c1_i32_468 : BitVec 32 := 1#32
  ⟨c0_i32_466, v609, c1_i32_468⟩
def k0_off93 (k0_t44 : Fin k0_t44_loop.trips) : Fin 1 → Nat :=
  let c4480_i32_823 : BitVec 32 := 4480#32
  let c0_i32_821 : BitVec 32 := 0#32
  let c0_i32_466 : BitVec 32 := 0#32
  let c1_i32_468 : BitVec 32 := 1#32
  let arg33 : BitVec 32 := Scf.iv c0_i32_466 c1_i32_468 k0_t44
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c4480_i32_823 v1025
  let v1027 : Index := Scalar.indexCast v1026
  ![v1027.toNat]
def k0_off94 (k0_t44 : Fin k0_t44_loop.trips) : Fin 1 → Nat :=
  let c0_i32_821 : BitVec 32 := 0#32
  let c0_i32_466 : BitVec 32 := 0#32
  let c1_i32_468 : BitVec 32 := 1#32
  let arg33 : BitVec 32 := Scf.iv c0_i32_466 c1_i32_468 k0_t44
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t45_loop : Scf.Loop 32 :=
  let c0_i32_474 : BitVec 32 := 0#32
  let c40_i32_475 : BitVec 32 := 40#32
  let v616 : BitVec 32 := Scalar.addi c0_i32_474 c40_i32_475
  let c1_i32_476 : BitVec 32 := 1#32
  ⟨c0_i32_474, v616, c1_i32_476⟩
def k0_off95 (k0_t45 : Fin k0_t45_loop.trips) : Fin 1 → Nat :=
  let c5120_i32_823 : BitVec 32 := 5120#32
  let c0_i32_821 : BitVec 32 := 0#32
  let c0_i32_474 : BitVec 32 := 0#32
  let c1_i32_476 : BitVec 32 := 1#32
  let arg33 : BitVec 32 := Scf.iv c0_i32_474 c1_i32_476 k0_t45
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c5120_i32_823 v1025
  let v1027 : Index := Scalar.indexCast v1026
  ![v1027.toNat]
def k0_off96 (k0_t45 : Fin k0_t45_loop.trips) : Fin 1 → Nat :=
  let c0_i32_821 : BitVec 32 := 0#32
  let c0_i32_474 : BitVec 32 := 0#32
  let c1_i32_476 : BitVec 32 := 1#32
  let arg33 : BitVec 32 := Scf.iv c0_i32_474 c1_i32_476 k0_t45
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t46_loop : Scf.Loop 32 :=
  let c0_i32_482 : BitVec 32 := 0#32
  let c40_i32_483 : BitVec 32 := 40#32
  let v623 : BitVec 32 := Scalar.addi c0_i32_482 c40_i32_483
  let c1_i32_484 : BitVec 32 := 1#32
  ⟨c0_i32_482, v623, c1_i32_484⟩
def k0_off97 (k0_t46 : Fin k0_t46_loop.trips) : Fin 1 → Nat :=
  let c5760_i32_823 : BitVec 32 := 5760#32
  let c0_i32_821 : BitVec 32 := 0#32
  let c0_i32_482 : BitVec 32 := 0#32
  let c1_i32_484 : BitVec 32 := 1#32
  let arg33 : BitVec 32 := Scf.iv c0_i32_482 c1_i32_484 k0_t46
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c5760_i32_823 v1025
  let v1027 : Index := Scalar.indexCast v1026
  ![v1027.toNat]
def k0_off98 (k0_t46 : Fin k0_t46_loop.trips) : Fin 1 → Nat :=
  let c0_i32_821 : BitVec 32 := 0#32
  let c0_i32_482 : BitVec 32 := 0#32
  let c1_i32_484 : BitVec 32 := 1#32
  let arg33 : BitVec 32 := Scf.iv c0_i32_482 c1_i32_484 k0_t46
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t47_loop : Scf.Loop 32 :=
  let c0_i32_490 : BitVec 32 := 0#32
  let c40_i32_491 : BitVec 32 := 40#32
  let v630 : BitVec 32 := Scalar.addi c0_i32_490 c40_i32_491
  let c1_i32_492 : BitVec 32 := 1#32
  ⟨c0_i32_490, v630, c1_i32_492⟩
def k0_off99 (k0_t47 : Fin k0_t47_loop.trips) : Fin 1 → Nat :=
  let c6400_i32_823 : BitVec 32 := 6400#32
  let c0_i32_821 : BitVec 32 := 0#32
  let c0_i32_490 : BitVec 32 := 0#32
  let c1_i32_492 : BitVec 32 := 1#32
  let arg33 : BitVec 32 := Scf.iv c0_i32_490 c1_i32_492 k0_t47
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c6400_i32_823 v1025
  let v1027 : Index := Scalar.indexCast v1026
  ![v1027.toNat]
def k0_off100 (k0_t47 : Fin k0_t47_loop.trips) : Fin 1 → Nat :=
  let c0_i32_821 : BitVec 32 := 0#32
  let c0_i32_490 : BitVec 32 := 0#32
  let c1_i32_492 : BitVec 32 := 1#32
  let arg33 : BitVec 32 := Scf.iv c0_i32_490 c1_i32_492 k0_t47
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t48_loop : Scf.Loop 32 :=
  let c0_i32_498 : BitVec 32 := 0#32
  let c40_i32_499 : BitVec 32 := 40#32
  let v637 : BitVec 32 := Scalar.addi c0_i32_498 c40_i32_499
  let c1_i32_500 : BitVec 32 := 1#32
  ⟨c0_i32_498, v637, c1_i32_500⟩
def k0_off101 (k0_t48 : Fin k0_t48_loop.trips) : Fin 1 → Nat :=
  let c7040_i32_823 : BitVec 32 := 7040#32
  let c0_i32_821 : BitVec 32 := 0#32
  let c0_i32_498 : BitVec 32 := 0#32
  let c1_i32_500 : BitVec 32 := 1#32
  let arg33 : BitVec 32 := Scf.iv c0_i32_498 c1_i32_500 k0_t48
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c7040_i32_823 v1025
  let v1027 : Index := Scalar.indexCast v1026
  ![v1027.toNat]
def k0_off102 (k0_t48 : Fin k0_t48_loop.trips) : Fin 1 → Nat :=
  let c0_i32_821 : BitVec 32 := 0#32
  let c0_i32_498 : BitVec 32 := 0#32
  let c1_i32_500 : BitVec 32 := 1#32
  let arg33 : BitVec 32 := Scf.iv c0_i32_498 c1_i32_500 k0_t48
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t49_loop : Scf.Loop 32 :=
  let c0_i32_506 : BitVec 32 := 0#32
  let c40_i32_507 : BitVec 32 := 40#32
  let v644 : BitVec 32 := Scalar.addi c0_i32_506 c40_i32_507
  let c1_i32_508 : BitVec 32 := 1#32
  ⟨c0_i32_506, v644, c1_i32_508⟩
def k0_off103 (k0_t49 : Fin k0_t49_loop.trips) : Fin 1 → Nat :=
  let c7680_i32_823 : BitVec 32 := 7680#32
  let c0_i32_821 : BitVec 32 := 0#32
  let c0_i32_506 : BitVec 32 := 0#32
  let c1_i32_508 : BitVec 32 := 1#32
  let arg33 : BitVec 32 := Scf.iv c0_i32_506 c1_i32_508 k0_t49
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c7680_i32_823 v1025
  let v1027 : Index := Scalar.indexCast v1026
  ![v1027.toNat]
def k0_off104 (k0_t49 : Fin k0_t49_loop.trips) : Fin 1 → Nat :=
  let c0_i32_821 : BitVec 32 := 0#32
  let c0_i32_506 : BitVec 32 := 0#32
  let c1_i32_508 : BitVec 32 := 1#32
  let arg33 : BitVec 32 := Scf.iv c0_i32_506 c1_i32_508 k0_t49
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t50_loop : Scf.Loop 32 :=
  let c0_i32_514 : BitVec 32 := 0#32
  let c40_i32_515 : BitVec 32 := 40#32
  let v651 : BitVec 32 := Scalar.addi c0_i32_514 c40_i32_515
  let c1_i32_516 : BitVec 32 := 1#32
  ⟨c0_i32_514, v651, c1_i32_516⟩
def k0_off105 (k0_t50 : Fin k0_t50_loop.trips) : Fin 1 → Nat :=
  let c8320_i32_823 : BitVec 32 := 8320#32
  let c0_i32_821 : BitVec 32 := 0#32
  let c0_i32_514 : BitVec 32 := 0#32
  let c1_i32_516 : BitVec 32 := 1#32
  let arg33 : BitVec 32 := Scf.iv c0_i32_514 c1_i32_516 k0_t50
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c8320_i32_823 v1025
  let v1027 : Index := Scalar.indexCast v1026
  ![v1027.toNat]
def k0_off106 (k0_t50 : Fin k0_t50_loop.trips) : Fin 1 → Nat :=
  let c0_i32_821 : BitVec 32 := 0#32
  let c0_i32_514 : BitVec 32 := 0#32
  let c1_i32_516 : BitVec 32 := 1#32
  let arg33 : BitVec 32 := Scf.iv c0_i32_514 c1_i32_516 k0_t50
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t51_loop : Scf.Loop 32 :=
  let c0_i32_522 : BitVec 32 := 0#32
  let c40_i32_523 : BitVec 32 := 40#32
  let v658 : BitVec 32 := Scalar.addi c0_i32_522 c40_i32_523
  let c1_i32_524 : BitVec 32 := 1#32
  ⟨c0_i32_522, v658, c1_i32_524⟩
def k0_off107 (k0_t51 : Fin k0_t51_loop.trips) : Fin 1 → Nat :=
  let c8960_i32_823 : BitVec 32 := 8960#32
  let c0_i32_821 : BitVec 32 := 0#32
  let c0_i32_522 : BitVec 32 := 0#32
  let c1_i32_524 : BitVec 32 := 1#32
  let arg33 : BitVec 32 := Scf.iv c0_i32_522 c1_i32_524 k0_t51
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c8960_i32_823 v1025
  let v1027 : Index := Scalar.indexCast v1026
  ![v1027.toNat]
def k0_off108 (k0_t51 : Fin k0_t51_loop.trips) : Fin 1 → Nat :=
  let c0_i32_821 : BitVec 32 := 0#32
  let c0_i32_522 : BitVec 32 := 0#32
  let c1_i32_524 : BitVec 32 := 1#32
  let arg33 : BitVec 32 := Scf.iv c0_i32_522 c1_i32_524 k0_t51
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t52_loop : Scf.Loop 32 :=
  let c0_i32_530 : BitVec 32 := 0#32
  let c40_i32_531 : BitVec 32 := 40#32
  let v665 : BitVec 32 := Scalar.addi c0_i32_530 c40_i32_531
  let c1_i32_532 : BitVec 32 := 1#32
  ⟨c0_i32_530, v665, c1_i32_532⟩
def k0_off109 (k0_t52 : Fin k0_t52_loop.trips) : Fin 1 → Nat :=
  let c9600_i32_823 : BitVec 32 := 9600#32
  let c0_i32_821 : BitVec 32 := 0#32
  let c0_i32_530 : BitVec 32 := 0#32
  let c1_i32_532 : BitVec 32 := 1#32
  let arg33 : BitVec 32 := Scf.iv c0_i32_530 c1_i32_532 k0_t52
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c9600_i32_823 v1025
  let v1027 : Index := Scalar.indexCast v1026
  ![v1027.toNat]
def k0_off110 (k0_t52 : Fin k0_t52_loop.trips) : Fin 1 → Nat :=
  let c0_i32_821 : BitVec 32 := 0#32
  let c0_i32_530 : BitVec 32 := 0#32
  let c1_i32_532 : BitVec 32 := 1#32
  let arg33 : BitVec 32 := Scf.iv c0_i32_530 c1_i32_532 k0_t52
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t53_loop : Scf.Loop 32 :=
  let c0_i32_538 : BitVec 32 := 0#32
  let c40_i32_539 : BitVec 32 := 40#32
  let v672 : BitVec 32 := Scalar.addi c0_i32_538 c40_i32_539
  let c1_i32_540 : BitVec 32 := 1#32
  ⟨c0_i32_538, v672, c1_i32_540⟩
def k0_off111 (k0_t53 : Fin k0_t53_loop.trips) : Fin 1 → Nat :=
  let c10240_i32_823 : BitVec 32 := 10240#32
  let c0_i32_821 : BitVec 32 := 0#32
  let c0_i32_538 : BitVec 32 := 0#32
  let c1_i32_540 : BitVec 32 := 1#32
  let arg33 : BitVec 32 := Scf.iv c0_i32_538 c1_i32_540 k0_t53
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c10240_i32_823 v1025
  let v1027 : Index := Scalar.indexCast v1026
  ![v1027.toNat]
def k0_off112 (k0_t53 : Fin k0_t53_loop.trips) : Fin 1 → Nat :=
  let c0_i32_821 : BitVec 32 := 0#32
  let c0_i32_538 : BitVec 32 := 0#32
  let c1_i32_540 : BitVec 32 := 1#32
  let arg33 : BitVec 32 := Scf.iv c0_i32_538 c1_i32_540 k0_t53
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t54_loop : Scf.Loop 32 :=
  let c0_i32_546 : BitVec 32 := 0#32
  let c40_i32_547 : BitVec 32 := 40#32
  let v679 : BitVec 32 := Scalar.addi c0_i32_546 c40_i32_547
  let c1_i32_548 : BitVec 32 := 1#32
  ⟨c0_i32_546, v679, c1_i32_548⟩
def k0_off113 (k0_t54 : Fin k0_t54_loop.trips) : Fin 1 → Nat :=
  let c10880_i32_823 : BitVec 32 := 10880#32
  let c0_i32_821 : BitVec 32 := 0#32
  let c0_i32_546 : BitVec 32 := 0#32
  let c1_i32_548 : BitVec 32 := 1#32
  let arg33 : BitVec 32 := Scf.iv c0_i32_546 c1_i32_548 k0_t54
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c10880_i32_823 v1025
  let v1027 : Index := Scalar.indexCast v1026
  ![v1027.toNat]
def k0_off114 (k0_t54 : Fin k0_t54_loop.trips) : Fin 1 → Nat :=
  let c0_i32_821 : BitVec 32 := 0#32
  let c0_i32_546 : BitVec 32 := 0#32
  let c1_i32_548 : BitVec 32 := 1#32
  let arg33 : BitVec 32 := Scf.iv c0_i32_546 c1_i32_548 k0_t54
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t55_loop : Scf.Loop 32 :=
  let c0_i32_554 : BitVec 32 := 0#32
  let c40_i32_555 : BitVec 32 := 40#32
  let v686 : BitVec 32 := Scalar.addi c0_i32_554 c40_i32_555
  let c1_i32_556 : BitVec 32 := 1#32
  ⟨c0_i32_554, v686, c1_i32_556⟩
def k0_off115 (k0_t55 : Fin k0_t55_loop.trips) : Fin 1 → Nat :=
  let c11520_i32_823 : BitVec 32 := 11520#32
  let c0_i32_821 : BitVec 32 := 0#32
  let c0_i32_554 : BitVec 32 := 0#32
  let c1_i32_556 : BitVec 32 := 1#32
  let arg33 : BitVec 32 := Scf.iv c0_i32_554 c1_i32_556 k0_t55
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c11520_i32_823 v1025
  let v1027 : Index := Scalar.indexCast v1026
  ![v1027.toNat]
def k0_off116 (k0_t55 : Fin k0_t55_loop.trips) : Fin 1 → Nat :=
  let c0_i32_821 : BitVec 32 := 0#32
  let c0_i32_554 : BitVec 32 := 0#32
  let c1_i32_556 : BitVec 32 := 1#32
  let arg33 : BitVec 32 := Scf.iv c0_i32_554 c1_i32_556 k0_t55
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t56_loop : Scf.Loop 32 :=
  let c0_i32_562 : BitVec 32 := 0#32
  let c40_i32_563 : BitVec 32 := 40#32
  let v693 : BitVec 32 := Scalar.addi c0_i32_562 c40_i32_563
  let c1_i32_564 : BitVec 32 := 1#32
  ⟨c0_i32_562, v693, c1_i32_564⟩
def k0_off117 (k0_t56 : Fin k0_t56_loop.trips) : Fin 1 → Nat :=
  let c12160_i32_823 : BitVec 32 := 12160#32
  let c0_i32_821 : BitVec 32 := 0#32
  let c0_i32_562 : BitVec 32 := 0#32
  let c1_i32_564 : BitVec 32 := 1#32
  let arg33 : BitVec 32 := Scf.iv c0_i32_562 c1_i32_564 k0_t56
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c12160_i32_823 v1025
  let v1027 : Index := Scalar.indexCast v1026
  ![v1027.toNat]
def k0_off118 (k0_t56 : Fin k0_t56_loop.trips) : Fin 1 → Nat :=
  let c0_i32_821 : BitVec 32 := 0#32
  let c0_i32_562 : BitVec 32 := 0#32
  let c1_i32_564 : BitVec 32 := 1#32
  let arg33 : BitVec 32 := Scf.iv c0_i32_562 c1_i32_564 k0_t56
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t57_loop : Scf.Loop 32 :=
  let c0_i32_570 : BitVec 32 := 0#32
  let c40_i32_571 : BitVec 32 := 40#32
  let v700 : BitVec 32 := Scalar.addi c0_i32_570 c40_i32_571
  let c1_i32_572 : BitVec 32 := 1#32
  ⟨c0_i32_570, v700, c1_i32_572⟩
def k0_off119 (k0_t57 : Fin k0_t57_loop.trips) : Fin 1 → Nat :=
  let c12800_i32_823 : BitVec 32 := 12800#32
  let c0_i32_821 : BitVec 32 := 0#32
  let c0_i32_570 : BitVec 32 := 0#32
  let c1_i32_572 : BitVec 32 := 1#32
  let arg33 : BitVec 32 := Scf.iv c0_i32_570 c1_i32_572 k0_t57
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c12800_i32_823 v1025
  let v1027 : Index := Scalar.indexCast v1026
  ![v1027.toNat]
def k0_off120 (k0_t57 : Fin k0_t57_loop.trips) : Fin 1 → Nat :=
  let c0_i32_821 : BitVec 32 := 0#32
  let c0_i32_570 : BitVec 32 := 0#32
  let c1_i32_572 : BitVec 32 := 1#32
  let arg33 : BitVec 32 := Scf.iv c0_i32_570 c1_i32_572 k0_t57
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t58_loop : Scf.Loop 32 :=
  let c0_i32_578 : BitVec 32 := 0#32
  let c40_i32_579 : BitVec 32 := 40#32
  let v707 : BitVec 32 := Scalar.addi c0_i32_578 c40_i32_579
  let c1_i32_580 : BitVec 32 := 1#32
  ⟨c0_i32_578, v707, c1_i32_580⟩
def k0_off121 (k0_t58 : Fin k0_t58_loop.trips) : Fin 1 → Nat :=
  let c13440_i32_823 : BitVec 32 := 13440#32
  let c0_i32_821 : BitVec 32 := 0#32
  let c0_i32_578 : BitVec 32 := 0#32
  let c1_i32_580 : BitVec 32 := 1#32
  let arg33 : BitVec 32 := Scf.iv c0_i32_578 c1_i32_580 k0_t58
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c13440_i32_823 v1025
  let v1027 : Index := Scalar.indexCast v1026
  ![v1027.toNat]
def k0_off122 (k0_t58 : Fin k0_t58_loop.trips) : Fin 1 → Nat :=
  let c0_i32_821 : BitVec 32 := 0#32
  let c0_i32_578 : BitVec 32 := 0#32
  let c1_i32_580 : BitVec 32 := 1#32
  let arg33 : BitVec 32 := Scf.iv c0_i32_578 c1_i32_580 k0_t58
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t59_loop : Scf.Loop 32 :=
  let c0_i32_586 : BitVec 32 := 0#32
  let c40_i32_587 : BitVec 32 := 40#32
  let v714 : BitVec 32 := Scalar.addi c0_i32_586 c40_i32_587
  let c1_i32_588 : BitVec 32 := 1#32
  ⟨c0_i32_586, v714, c1_i32_588⟩
def k0_off123 (k0_t59 : Fin k0_t59_loop.trips) : Fin 1 → Nat :=
  let c14080_i32_823 : BitVec 32 := 14080#32
  let c0_i32_821 : BitVec 32 := 0#32
  let c0_i32_586 : BitVec 32 := 0#32
  let c1_i32_588 : BitVec 32 := 1#32
  let arg33 : BitVec 32 := Scf.iv c0_i32_586 c1_i32_588 k0_t59
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c14080_i32_823 v1025
  let v1027 : Index := Scalar.indexCast v1026
  ![v1027.toNat]
def k0_off124 (k0_t59 : Fin k0_t59_loop.trips) : Fin 1 → Nat :=
  let c0_i32_821 : BitVec 32 := 0#32
  let c0_i32_586 : BitVec 32 := 0#32
  let c1_i32_588 : BitVec 32 := 1#32
  let arg33 : BitVec 32 := Scf.iv c0_i32_586 c1_i32_588 k0_t59
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t60_loop : Scf.Loop 32 :=
  let c0_i32_594 : BitVec 32 := 0#32
  let c40_i32_595 : BitVec 32 := 40#32
  let v721 : BitVec 32 := Scalar.addi c0_i32_594 c40_i32_595
  let c1_i32_596 : BitVec 32 := 1#32
  ⟨c0_i32_594, v721, c1_i32_596⟩
def k0_off125 (k0_t60 : Fin k0_t60_loop.trips) : Fin 1 → Nat :=
  let c14720_i32_823 : BitVec 32 := 14720#32
  let c0_i32_821 : BitVec 32 := 0#32
  let c0_i32_594 : BitVec 32 := 0#32
  let c1_i32_596 : BitVec 32 := 1#32
  let arg33 : BitVec 32 := Scf.iv c0_i32_594 c1_i32_596 k0_t60
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c14720_i32_823 v1025
  let v1027 : Index := Scalar.indexCast v1026
  ![v1027.toNat]
def k0_off126 (k0_t60 : Fin k0_t60_loop.trips) : Fin 1 → Nat :=
  let c0_i32_821 : BitVec 32 := 0#32
  let c0_i32_594 : BitVec 32 := 0#32
  let c1_i32_596 : BitVec 32 := 1#32
  let arg33 : BitVec 32 := Scf.iv c0_i32_594 c1_i32_596 k0_t60
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t61_loop : Scf.Loop 32 :=
  let c0_i32_602 : BitVec 32 := 0#32
  let c40_i32_603 : BitVec 32 := 40#32
  let v728 : BitVec 32 := Scalar.addi c0_i32_602 c40_i32_603
  let c1_i32_604 : BitVec 32 := 1#32
  ⟨c0_i32_602, v728, c1_i32_604⟩
def k0_off127 (k0_t61 : Fin k0_t61_loop.trips) : Fin 1 → Nat :=
  let c15360_i32_823 : BitVec 32 := 15360#32
  let c0_i32_821 : BitVec 32 := 0#32
  let c0_i32_602 : BitVec 32 := 0#32
  let c1_i32_604 : BitVec 32 := 1#32
  let arg33 : BitVec 32 := Scf.iv c0_i32_602 c1_i32_604 k0_t61
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c15360_i32_823 v1025
  let v1027 : Index := Scalar.indexCast v1026
  ![v1027.toNat]
def k0_off128 (k0_t61 : Fin k0_t61_loop.trips) : Fin 1 → Nat :=
  let c0_i32_821 : BitVec 32 := 0#32
  let c0_i32_602 : BitVec 32 := 0#32
  let c1_i32_604 : BitVec 32 := 1#32
  let arg33 : BitVec 32 := Scf.iv c0_i32_602 c1_i32_604 k0_t61
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t62_loop : Scf.Loop 32 :=
  let c0_i32_610 : BitVec 32 := 0#32
  let c40_i32_611 : BitVec 32 := 40#32
  let v735 : BitVec 32 := Scalar.addi c0_i32_610 c40_i32_611
  let c1_i32_612 : BitVec 32 := 1#32
  ⟨c0_i32_610, v735, c1_i32_612⟩
def k0_off129 (k0_t62 : Fin k0_t62_loop.trips) : Fin 1 → Nat :=
  let c16000_i32_823 : BitVec 32 := 16000#32
  let c0_i32_821 : BitVec 32 := 0#32
  let c0_i32_610 : BitVec 32 := 0#32
  let c1_i32_612 : BitVec 32 := 1#32
  let arg33 : BitVec 32 := Scf.iv c0_i32_610 c1_i32_612 k0_t62
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c16000_i32_823 v1025
  let v1027 : Index := Scalar.indexCast v1026
  ![v1027.toNat]
def k0_off130 (k0_t62 : Fin k0_t62_loop.trips) : Fin 1 → Nat :=
  let c0_i32_821 : BitVec 32 := 0#32
  let c0_i32_610 : BitVec 32 := 0#32
  let c1_i32_612 : BitVec 32 := 1#32
  let arg33 : BitVec 32 := Scf.iv c0_i32_610 c1_i32_612 k0_t62
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t63_loop : Scf.Loop 32 :=
  let c0_i32_618 : BitVec 32 := 0#32
  let c40_i32_619 : BitVec 32 := 40#32
  let v742 : BitVec 32 := Scalar.addi c0_i32_618 c40_i32_619
  let c1_i32_620 : BitVec 32 := 1#32
  ⟨c0_i32_618, v742, c1_i32_620⟩
def k0_off131 (k0_t63 : Fin k0_t63_loop.trips) : Fin 1 → Nat :=
  let c16640_i32_823 : BitVec 32 := 16640#32
  let c0_i32_821 : BitVec 32 := 0#32
  let c0_i32_618 : BitVec 32 := 0#32
  let c1_i32_620 : BitVec 32 := 1#32
  let arg33 : BitVec 32 := Scf.iv c0_i32_618 c1_i32_620 k0_t63
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c16640_i32_823 v1025
  let v1027 : Index := Scalar.indexCast v1026
  ![v1027.toNat]
def k0_off132 (k0_t63 : Fin k0_t63_loop.trips) : Fin 1 → Nat :=
  let c0_i32_821 : BitVec 32 := 0#32
  let c0_i32_618 : BitVec 32 := 0#32
  let c1_i32_620 : BitVec 32 := 1#32
  let arg33 : BitVec 32 := Scf.iv c0_i32_618 c1_i32_620 k0_t63
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t64_loop : Scf.Loop 32 :=
  let c0_i32_626 : BitVec 32 := 0#32
  let c40_i32_627 : BitVec 32 := 40#32
  let v749 : BitVec 32 := Scalar.addi c0_i32_626 c40_i32_627
  let c1_i32_628 : BitVec 32 := 1#32
  ⟨c0_i32_626, v749, c1_i32_628⟩
def k0_off133 (k0_t64 : Fin k0_t64_loop.trips) : Fin 1 → Nat :=
  let c17280_i32_823 : BitVec 32 := 17280#32
  let c0_i32_821 : BitVec 32 := 0#32
  let c0_i32_626 : BitVec 32 := 0#32
  let c1_i32_628 : BitVec 32 := 1#32
  let arg33 : BitVec 32 := Scf.iv c0_i32_626 c1_i32_628 k0_t64
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c17280_i32_823 v1025
  let v1027 : Index := Scalar.indexCast v1026
  ![v1027.toNat]
def k0_off134 (k0_t64 : Fin k0_t64_loop.trips) : Fin 1 → Nat :=
  let c0_i32_821 : BitVec 32 := 0#32
  let c0_i32_626 : BitVec 32 := 0#32
  let c1_i32_628 : BitVec 32 := 1#32
  let arg33 : BitVec 32 := Scf.iv c0_i32_626 c1_i32_628 k0_t64
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t65_loop : Scf.Loop 32 :=
  let c0_i32_634 : BitVec 32 := 0#32
  let c40_i32_635 : BitVec 32 := 40#32
  let v756 : BitVec 32 := Scalar.addi c0_i32_634 c40_i32_635
  let c1_i32_636 : BitVec 32 := 1#32
  ⟨c0_i32_634, v756, c1_i32_636⟩
def k0_off135 (k0_t65 : Fin k0_t65_loop.trips) : Fin 1 → Nat :=
  let c17920_i32_823 : BitVec 32 := 17920#32
  let c0_i32_821 : BitVec 32 := 0#32
  let c0_i32_634 : BitVec 32 := 0#32
  let c1_i32_636 : BitVec 32 := 1#32
  let arg33 : BitVec 32 := Scf.iv c0_i32_634 c1_i32_636 k0_t65
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c17920_i32_823 v1025
  let v1027 : Index := Scalar.indexCast v1026
  ![v1027.toNat]
def k0_off136 (k0_t65 : Fin k0_t65_loop.trips) : Fin 1 → Nat :=
  let c0_i32_821 : BitVec 32 := 0#32
  let c0_i32_634 : BitVec 32 := 0#32
  let c1_i32_636 : BitVec 32 := 1#32
  let arg33 : BitVec 32 := Scf.iv c0_i32_634 c1_i32_636 k0_t65
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t66_loop : Scf.Loop 32 :=
  let c0_i32_642 : BitVec 32 := 0#32
  let c40_i32_643 : BitVec 32 := 40#32
  let v763 : BitVec 32 := Scalar.addi c0_i32_642 c40_i32_643
  let c1_i32_644 : BitVec 32 := 1#32
  ⟨c0_i32_642, v763, c1_i32_644⟩
def k0_off137 (k0_t66 : Fin k0_t66_loop.trips) : Fin 1 → Nat :=
  let c18560_i32_823 : BitVec 32 := 18560#32
  let c0_i32_821 : BitVec 32 := 0#32
  let c0_i32_642 : BitVec 32 := 0#32
  let c1_i32_644 : BitVec 32 := 1#32
  let arg33 : BitVec 32 := Scf.iv c0_i32_642 c1_i32_644 k0_t66
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c18560_i32_823 v1025
  let v1027 : Index := Scalar.indexCast v1026
  ![v1027.toNat]
def k0_off138 (k0_t66 : Fin k0_t66_loop.trips) : Fin 1 → Nat :=
  let c0_i32_821 : BitVec 32 := 0#32
  let c0_i32_642 : BitVec 32 := 0#32
  let c1_i32_644 : BitVec 32 := 1#32
  let arg33 : BitVec 32 := Scf.iv c0_i32_642 c1_i32_644 k0_t66
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t67_loop : Scf.Loop 32 :=
  let c0_i32_650 : BitVec 32 := 0#32
  let c40_i32_651 : BitVec 32 := 40#32
  let v770 : BitVec 32 := Scalar.addi c0_i32_650 c40_i32_651
  let c1_i32_652 : BitVec 32 := 1#32
  ⟨c0_i32_650, v770, c1_i32_652⟩
def k0_off139 (k0_t67 : Fin k0_t67_loop.trips) : Fin 1 → Nat :=
  let c19200_i32_823 : BitVec 32 := 19200#32
  let c0_i32_821 : BitVec 32 := 0#32
  let c0_i32_650 : BitVec 32 := 0#32
  let c1_i32_652 : BitVec 32 := 1#32
  let arg33 : BitVec 32 := Scf.iv c0_i32_650 c1_i32_652 k0_t67
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c19200_i32_823 v1025
  let v1027 : Index := Scalar.indexCast v1026
  ![v1027.toNat]
def k0_off140 (k0_t67 : Fin k0_t67_loop.trips) : Fin 1 → Nat :=
  let c0_i32_821 : BitVec 32 := 0#32
  let c0_i32_650 : BitVec 32 := 0#32
  let c1_i32_652 : BitVec 32 := 1#32
  let arg33 : BitVec 32 := Scf.iv c0_i32_650 c1_i32_652 k0_t67
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t68_loop : Scf.Loop 32 :=
  let c0_i32_658 : BitVec 32 := 0#32
  let c40_i32_659 : BitVec 32 := 40#32
  let v777 : BitVec 32 := Scalar.addi c0_i32_658 c40_i32_659
  let c1_i32_660 : BitVec 32 := 1#32
  ⟨c0_i32_658, v777, c1_i32_660⟩
def k0_off141 (k0_t68 : Fin k0_t68_loop.trips) : Fin 1 → Nat :=
  let c19840_i32_823 : BitVec 32 := 19840#32
  let c0_i32_821 : BitVec 32 := 0#32
  let c0_i32_658 : BitVec 32 := 0#32
  let c1_i32_660 : BitVec 32 := 1#32
  let arg33 : BitVec 32 := Scf.iv c0_i32_658 c1_i32_660 k0_t68
  let c1_i32_820 : BitVec 32 := 1#32
  let v1023 : BitVec 32 := Scalar.muli arg33 c1_i32_820
  let v1024 : BitVec 32 := Scalar.addi c0_i32_821 v1023
  let c16_i32_822 : BitVec 32 := 16#32
  let v1025 : BitVec 32 := Scalar.muli v1024 c16_i32_822
  let v1026 : BitVec 32 := Scalar.addi c19840_i32_823 v1025
  let v1027 : Index := Scalar.indexCast v1026
  ![v1027.toNat]
def k0_off142 (k0_t68 : Fin k0_t68_loop.trips) : Fin 1 → Nat :=
  let c0_i32_821 : BitVec 32 := 0#32
  let c0_i32_658 : BitVec 32 := 0#32
  let c1_i32_660 : BitVec 32 := 1#32
  let arg33 : BitVec 32 := Scf.iv c0_i32_658 c1_i32_660 k0_t68
  let c1_i32_820 : BitVec 32 := 1#32
  let v1023 : BitVec 32 := Scalar.muli arg33 c1_i32_820
  let v1024 : BitVec 32 := Scalar.addi c0_i32_821 v1023
  let c16_i32_824 : BitVec 32 := 16#32
  let v1029 : BitVec 32 := Scalar.muli v1024 c16_i32_824
  let v1030 : Index := Scalar.indexCast v1029
  ![v1030.toNat]
@[reducible] def k0_t69_loop : Scf.Loop 32 :=
  let c0_i32_806 : BitVec 32 := 0#32
  let c39_i32 : BitVec 32 := 39#32
  let v998 : BitVec 32 := Scalar.addi c0_i32_806 c39_i32
  let c1_i32_807 : BitVec 32 := 1#32
  ⟨c0_i32_806, v998, c1_i32_807⟩
def k0_cond3 (k0_t69 : Fin k0_t69_loop.trips) : BitVec 1 :=
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let c0_i32_825 : BitVec 32 := 0#32
  let v1028 : BitVec 1 := Scalar.cmpi .sgt v1024 c0_i32_825
  let v1029 : BitVec 32 := Scalar.extui v1028
  let c0_i32_826 : BitVec 32 := 0#32
  let v1030 : BitVec 1 := Scalar.cmpi .ne v1029 c0_i32_826
  v1030

def k0_off143 (k0_t69 : Fin k0_t69_loop.trips) : Fin 1 → Nat :=
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c2_i32_968 : BitVec 32 := 2#32
  let v1384 : BitVec 32 := Scalar.subi v1025 c2_i32_968
  let c128_i32_969 : BitVec 32 := 128#32
  let v1385 : BitVec 32 := Scalar.muli v1384 c128_i32_969
  ![v1385.toNat]
def k0_off144 (k0_t69 : Fin k0_t69_loop.trips) : Fin 1 → Nat :=
  let c10000_i32_972 : BitVec 32 := 10000#32
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c2_i32_968 : BitVec 32 := 2#32
  let v1384 : BitVec 32 := Scalar.subi v1025 c2_i32_968
  let c128_i32_971 : BitVec 32 := 128#32
  let v1388 : BitVec 32 := Scalar.muli v1384 c128_i32_971
  let v1389 : BitVec 32 := Scalar.addi c10000_i32_972 v1388
  ![v1389.toNat]
def k0_off145 (k0_t69 : Fin k0_t69_loop.trips) : Fin 1 → Nat :=
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32 : BitVec 32 := 128#32
  let v1031 : BitVec 32 := Scalar.muli v1025 c128_i32
  let c0_i32_827 : BitVec 32 := 0#32
  let v1032 : BitVec 32 := Scalar.addi v1031 c0_i32_827
  let v1033 : Index := Scalar.indexCast v1032
  ![v1033.toNat]
def k0_off146 (k0_t69 : Fin k0_t69_loop.trips) : Fin 1 → Nat :=
  let c10000_i32 : BitVec 32 := 10000#32
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_828 : BitVec 32 := 128#32
  let v1035 : BitVec 32 := Scalar.muli v1025 c128_i32_828
  let v1036 : BitVec 32 := Scalar.addi c10000_i32 v1035
  let c0_i32_829 : BitVec 32 := 0#32
  let v1037 : BitVec 32 := Scalar.addi v1036 c0_i32_829
  let v1038 : Index := Scalar.indexCast v1037
  ![v1038.toNat]

def k0_chk3 (v1040 : IVec S16 32) : Prop :=
  (∀ a x, ((![v1040] : Fin 1 → IVec S16 32) a x).toNat < S10240.size a)
theorem k0_idx5_inb : ∀ (v1040 : IVec S16 32) (k0_hw3 : k0_chk3 v1040), ∀ a x, ((![v1040] : Fin 1 → IVec S16 32) a x).toNat < S10240.size a := fun v1040 k0_hw3 => k0_hw3

def k0_chk4 (v1046 : IVec S16 32) : Prop :=
  (∀ a x, ((![v1046] : Fin 1 → IVec S16 32) a x).toNat < S10240.size a)
theorem k0_idx6_inb : ∀ (v1046 : IVec S16 32) (k0_hw4 : k0_chk4 v1046), ∀ a x, ((![v1046] : Fin 1 → IVec S16 32) a x).toNat < S10240.size a := fun v1046 k0_hw4 => k0_hw4
def k0_off147 (k0_t69 : Fin k0_t69_loop.trips) : Fin 1 → Nat :=
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_834 : BitVec 32 := 128#32
  let v1052 : BitVec 32 := Scalar.muli v1025 c128_i32_834
  let c16_i32_835 : BitVec 32 := 16#32
  let v1053 : BitVec 32 := Scalar.addi v1052 c16_i32_835
  let v1054 : Index := Scalar.indexCast v1053
  ![v1054.toNat]
def k0_off148 (k0_t69 : Fin k0_t69_loop.trips) : Fin 1 → Nat :=
  let c10000_i32_837 : BitVec 32 := 10000#32
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_836 : BitVec 32 := 128#32
  let v1056 : BitVec 32 := Scalar.muli v1025 c128_i32_836
  let v1057 : BitVec 32 := Scalar.addi c10000_i32_837 v1056
  let c16_i32_838 : BitVec 32 := 16#32
  let v1058 : BitVec 32 := Scalar.addi v1057 c16_i32_838
  let v1059 : Index := Scalar.indexCast v1058
  ![v1059.toNat]

def k0_chk5 (v1061 : IVec S16 32) : Prop :=
  (∀ a x, ((![v1061] : Fin 1 → IVec S16 32) a x).toNat < S10240.size a)
theorem k0_idx7_inb : ∀ (v1061 : IVec S16 32) (k0_hw5 : k0_chk5 v1061), ∀ a x, ((![v1061] : Fin 1 → IVec S16 32) a x).toNat < S10240.size a := fun v1061 k0_hw5 => k0_hw5

def k0_chk6 (v1067 : IVec S16 32) : Prop :=
  (∀ a x, ((![v1067] : Fin 1 → IVec S16 32) a x).toNat < S10240.size a)
theorem k0_idx8_inb : ∀ (v1067 : IVec S16 32) (k0_hw6 : k0_chk6 v1067), ∀ a x, ((![v1067] : Fin 1 → IVec S16 32) a x).toNat < S10240.size a := fun v1067 k0_hw6 => k0_hw6
def k0_off149 (k0_t69 : Fin k0_t69_loop.trips) : Fin 1 → Nat :=
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_842 : BitVec 32 := 128#32
  let v1073 : BitVec 32 := Scalar.muli v1025 c128_i32_842
  let c32_i32 : BitVec 32 := 32#32
  let v1074 : BitVec 32 := Scalar.addi v1073 c32_i32
  let v1075 : Index := Scalar.indexCast v1074
  ![v1075.toNat]
def k0_off150 (k0_t69 : Fin k0_t69_loop.trips) : Fin 1 → Nat :=
  let c10000_i32_844 : BitVec 32 := 10000#32
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_843 : BitVec 32 := 128#32
  let v1077 : BitVec 32 := Scalar.muli v1025 c128_i32_843
  let v1078 : BitVec 32 := Scalar.addi c10000_i32_844 v1077
  let c32_i32_845 : BitVec 32 := 32#32
  let v1079 : BitVec 32 := Scalar.addi v1078 c32_i32_845
  let v1080 : Index := Scalar.indexCast v1079
  ![v1080.toNat]

def k0_chk7 (v1082 : IVec S16 32) : Prop :=
  (∀ a x, ((![v1082] : Fin 1 → IVec S16 32) a x).toNat < S10240.size a)
theorem k0_idx9_inb : ∀ (v1082 : IVec S16 32) (k0_hw7 : k0_chk7 v1082), ∀ a x, ((![v1082] : Fin 1 → IVec S16 32) a x).toNat < S10240.size a := fun v1082 k0_hw7 => k0_hw7

def k0_chk8 (v1088 : IVec S16 32) : Prop :=
  (∀ a x, ((![v1088] : Fin 1 → IVec S16 32) a x).toNat < S10240.size a)
theorem k0_idx10_inb : ∀ (v1088 : IVec S16 32) (k0_hw8 : k0_chk8 v1088), ∀ a x, ((![v1088] : Fin 1 → IVec S16 32) a x).toNat < S10240.size a := fun v1088 k0_hw8 => k0_hw8
def k0_off151 (k0_t69 : Fin k0_t69_loop.trips) : Fin 1 → Nat :=
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_849 : BitVec 32 := 128#32
  let v1094 : BitVec 32 := Scalar.muli v1025 c128_i32_849
  let c48_i32 : BitVec 32 := 48#32
  let v1095 : BitVec 32 := Scalar.addi v1094 c48_i32
  let v1096 : Index := Scalar.indexCast v1095
  ![v1096.toNat]
def k0_off152 (k0_t69 : Fin k0_t69_loop.trips) : Fin 1 → Nat :=
  let c10000_i32_851 : BitVec 32 := 10000#32
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_850 : BitVec 32 := 128#32
  let v1098 : BitVec 32 := Scalar.muli v1025 c128_i32_850
  let v1099 : BitVec 32 := Scalar.addi c10000_i32_851 v1098
  let c48_i32_852 : BitVec 32 := 48#32
  let v1100 : BitVec 32 := Scalar.addi v1099 c48_i32_852
  let v1101 : Index := Scalar.indexCast v1100
  ![v1101.toNat]

def k0_chk9 (v1103 : IVec S16 32) : Prop :=
  (∀ a x, ((![v1103] : Fin 1 → IVec S16 32) a x).toNat < S10240.size a)
theorem k0_idx11_inb : ∀ (v1103 : IVec S16 32) (k0_hw9 : k0_chk9 v1103), ∀ a x, ((![v1103] : Fin 1 → IVec S16 32) a x).toNat < S10240.size a := fun v1103 k0_hw9 => k0_hw9

def k0_chk10 (v1109 : IVec S16 32) : Prop :=
  (∀ a x, ((![v1109] : Fin 1 → IVec S16 32) a x).toNat < S10240.size a)
theorem k0_idx12_inb : ∀ (v1109 : IVec S16 32) (k0_hw10 : k0_chk10 v1109), ∀ a x, ((![v1109] : Fin 1 → IVec S16 32) a x).toNat < S10240.size a := fun v1109 k0_hw10 => k0_hw10
def k0_off153 (k0_t69 : Fin k0_t69_loop.trips) : Fin 1 → Nat :=
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_856 : BitVec 32 := 128#32
  let v1115 : BitVec 32 := Scalar.muli v1025 c128_i32_856
  let c64_i32 : BitVec 32 := 64#32
  let v1116 : BitVec 32 := Scalar.addi v1115 c64_i32
  let v1117 : Index := Scalar.indexCast v1116
  ![v1117.toNat]
def k0_off154 (k0_t69 : Fin k0_t69_loop.trips) : Fin 1 → Nat :=
  let c10000_i32_858 : BitVec 32 := 10000#32
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_857 : BitVec 32 := 128#32
  let v1119 : BitVec 32 := Scalar.muli v1025 c128_i32_857
  let v1120 : BitVec 32 := Scalar.addi c10000_i32_858 v1119
  let c64_i32_859 : BitVec 32 := 64#32
  let v1121 : BitVec 32 := Scalar.addi v1120 c64_i32_859
  let v1122 : Index := Scalar.indexCast v1121
  ![v1122.toNat]

def k0_chk11 (v1124 : IVec S16 32) : Prop :=
  (∀ a x, ((![v1124] : Fin 1 → IVec S16 32) a x).toNat < S10240.size a)
theorem k0_idx13_inb : ∀ (v1124 : IVec S16 32) (k0_hw11 : k0_chk11 v1124), ∀ a x, ((![v1124] : Fin 1 → IVec S16 32) a x).toNat < S10240.size a := fun v1124 k0_hw11 => k0_hw11

def k0_chk12 (v1130 : IVec S16 32) : Prop :=
  (∀ a x, ((![v1130] : Fin 1 → IVec S16 32) a x).toNat < S10240.size a)
theorem k0_idx14_inb : ∀ (v1130 : IVec S16 32) (k0_hw12 : k0_chk12 v1130), ∀ a x, ((![v1130] : Fin 1 → IVec S16 32) a x).toNat < S10240.size a := fun v1130 k0_hw12 => k0_hw12
def k0_off155 (k0_t69 : Fin k0_t69_loop.trips) : Fin 1 → Nat :=
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_863 : BitVec 32 := 128#32
  let v1136 : BitVec 32 := Scalar.muli v1025 c128_i32_863
  let c80_i32 : BitVec 32 := 80#32
  let v1137 : BitVec 32 := Scalar.addi v1136 c80_i32
  let v1138 : Index := Scalar.indexCast v1137
  ![v1138.toNat]
def k0_off156 (k0_t69 : Fin k0_t69_loop.trips) : Fin 1 → Nat :=
  let c10000_i32_865 : BitVec 32 := 10000#32
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_864 : BitVec 32 := 128#32
  let v1140 : BitVec 32 := Scalar.muli v1025 c128_i32_864
  let v1141 : BitVec 32 := Scalar.addi c10000_i32_865 v1140
  let c80_i32_866 : BitVec 32 := 80#32
  let v1142 : BitVec 32 := Scalar.addi v1141 c80_i32_866
  let v1143 : Index := Scalar.indexCast v1142
  ![v1143.toNat]

def k0_chk13 (v1145 : IVec S16 32) : Prop :=
  (∀ a x, ((![v1145] : Fin 1 → IVec S16 32) a x).toNat < S10240.size a)
theorem k0_idx15_inb : ∀ (v1145 : IVec S16 32) (k0_hw13 : k0_chk13 v1145), ∀ a x, ((![v1145] : Fin 1 → IVec S16 32) a x).toNat < S10240.size a := fun v1145 k0_hw13 => k0_hw13

def k0_chk14 (v1151 : IVec S16 32) : Prop :=
  (∀ a x, ((![v1151] : Fin 1 → IVec S16 32) a x).toNat < S10240.size a)
theorem k0_idx16_inb : ∀ (v1151 : IVec S16 32) (k0_hw14 : k0_chk14 v1151), ∀ a x, ((![v1151] : Fin 1 → IVec S16 32) a x).toNat < S10240.size a := fun v1151 k0_hw14 => k0_hw14
def k0_off157 (k0_t69 : Fin k0_t69_loop.trips) : Fin 1 → Nat :=
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_870 : BitVec 32 := 128#32
  let v1157 : BitVec 32 := Scalar.muli v1025 c128_i32_870
  let c96_i32 : BitVec 32 := 96#32
  let v1158 : BitVec 32 := Scalar.addi v1157 c96_i32
  let v1159 : Index := Scalar.indexCast v1158
  ![v1159.toNat]
def k0_off158 (k0_t69 : Fin k0_t69_loop.trips) : Fin 1 → Nat :=
  let c10000_i32_872 : BitVec 32 := 10000#32
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_871 : BitVec 32 := 128#32
  let v1161 : BitVec 32 := Scalar.muli v1025 c128_i32_871
  let v1162 : BitVec 32 := Scalar.addi c10000_i32_872 v1161
  let c96_i32_873 : BitVec 32 := 96#32
  let v1163 : BitVec 32 := Scalar.addi v1162 c96_i32_873
  let v1164 : Index := Scalar.indexCast v1163
  ![v1164.toNat]

def k0_chk15 (v1166 : IVec S16 32) : Prop :=
  (∀ a x, ((![v1166] : Fin 1 → IVec S16 32) a x).toNat < S10240.size a)
theorem k0_idx17_inb : ∀ (v1166 : IVec S16 32) (k0_hw15 : k0_chk15 v1166), ∀ a x, ((![v1166] : Fin 1 → IVec S16 32) a x).toNat < S10240.size a := fun v1166 k0_hw15 => k0_hw15

def k0_chk16 (v1172 : IVec S16 32) : Prop :=
  (∀ a x, ((![v1172] : Fin 1 → IVec S16 32) a x).toNat < S10240.size a)
theorem k0_idx18_inb : ∀ (v1172 : IVec S16 32) (k0_hw16 : k0_chk16 v1172), ∀ a x, ((![v1172] : Fin 1 → IVec S16 32) a x).toNat < S10240.size a := fun v1172 k0_hw16 => k0_hw16
def k0_off159 (k0_t69 : Fin k0_t69_loop.trips) : Fin 1 → Nat :=
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_877 : BitVec 32 := 128#32
  let v1178 : BitVec 32 := Scalar.muli v1025 c128_i32_877
  let c112_i32 : BitVec 32 := 112#32
  let v1179 : BitVec 32 := Scalar.addi v1178 c112_i32
  let v1180 : Index := Scalar.indexCast v1179
  ![v1180.toNat]
def k0_off160 (k0_t69 : Fin k0_t69_loop.trips) : Fin 1 → Nat :=
  let c10000_i32_879 : BitVec 32 := 10000#32
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_878 : BitVec 32 := 128#32
  let v1182 : BitVec 32 := Scalar.muli v1025 c128_i32_878
  let v1183 : BitVec 32 := Scalar.addi c10000_i32_879 v1182
  let c112_i32_880 : BitVec 32 := 112#32
  let v1184 : BitVec 32 := Scalar.addi v1183 c112_i32_880
  let v1185 : Index := Scalar.indexCast v1184
  ![v1185.toNat]

def k0_chk17 (v1187 : IVec S16 32) : Prop :=
  (∀ a x, ((![v1187] : Fin 1 → IVec S16 32) a x).toNat < S10240.size a)
theorem k0_idx19_inb : ∀ (v1187 : IVec S16 32) (k0_hw17 : k0_chk17 v1187), ∀ a x, ((![v1187] : Fin 1 → IVec S16 32) a x).toNat < S10240.size a := fun v1187 k0_hw17 => k0_hw17

def k0_chk18 (v1193 : IVec S16 32) : Prop :=
  (∀ a x, ((![v1193] : Fin 1 → IVec S16 32) a x).toNat < S10240.size a)
theorem k0_idx20_inb : ∀ (v1193 : IVec S16 32) (k0_hw18 : k0_chk18 v1193), ∀ a x, ((![v1193] : Fin 1 → IVec S16 32) a x).toNat < S10240.size a := fun v1193 k0_hw18 => k0_hw18
def k0_off161 (k0_t69 : Fin k0_t69_loop.trips) : Fin 1 → Nat :=
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_884 : BitVec 32 := 128#32
  let v1199 : BitVec 32 := Scalar.muli v1025 c128_i32_884
  ![v1199.toNat]
def k0_off162 (k0_t69 : Fin k0_t69_loop.trips) : Fin 1 → Nat :=
  let c10000_i32_887 : BitVec 32 := 10000#32
  let c2_i32_822 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1025 : BitVec 32 := Scalar.muli c2_i32_822 v1024
  let c128_i32_886 : BitVec 32 := 128#32
  let v1202 : BitVec 32 := Scalar.muli v1025 c128_i32_886
  let v1203 : BitVec 32 := Scalar.addi c10000_i32_887 v1202
  ![v1203.toNat]
def k0_cond4 (k0_t69 : Fin k0_t69_loop.trips) : BitVec 1 :=
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let c0_i32_889 : BitVec 32 := 0#32
  let v1206 : BitVec 1 := Scalar.cmpi .sgt v1024 c0_i32_889
  let v1207 : BitVec 32 := Scalar.extui v1206
  let c0_i32_890 : BitVec 32 := 0#32
  let v1208 : BitVec 1 := Scalar.cmpi .ne v1207 c0_i32_890
  v1208

def k0_off163 (k0_t69 : Fin k0_t69_loop.trips) : Fin 1 → Nat :=
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c2_i32_968 : BitVec 32 := 2#32
  let v1384 : BitVec 32 := Scalar.subi v1027 c2_i32_968
  let c128_i32_969 : BitVec 32 := 128#32
  let v1385 : BitVec 32 := Scalar.muli v1384 c128_i32_969
  ![v1385.toNat]
def k0_off164 (k0_t69 : Fin k0_t69_loop.trips) : Fin 1 → Nat :=
  let c10000_i32_972 : BitVec 32 := 10000#32
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c2_i32_968 : BitVec 32 := 2#32
  let v1384 : BitVec 32 := Scalar.subi v1027 c2_i32_968
  let c128_i32_971 : BitVec 32 := 128#32
  let v1388 : BitVec 32 := Scalar.muli v1384 c128_i32_971
  let v1389 : BitVec 32 := Scalar.addi c10000_i32_972 v1388
  ![v1389.toNat]
def k0_off165 (k0_t69 : Fin k0_t69_loop.trips) : Fin 1 → Nat :=
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_891 : BitVec 32 := 128#32
  let v1209 : BitVec 32 := Scalar.muli v1027 c128_i32_891
  let c0_i32_892 : BitVec 32 := 0#32
  let v1210 : BitVec 32 := Scalar.addi v1209 c0_i32_892
  let v1211 : Index := Scalar.indexCast v1210
  ![v1211.toNat]
def k0_off166 (k0_t69 : Fin k0_t69_loop.trips) : Fin 1 → Nat :=
  let c10000_i32_894 : BitVec 32 := 10000#32
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_893 : BitVec 32 := 128#32
  let v1213 : BitVec 32 := Scalar.muli v1027 c128_i32_893
  let v1214 : BitVec 32 := Scalar.addi c10000_i32_894 v1213
  let c0_i32_895 : BitVec 32 := 0#32
  let v1215 : BitVec 32 := Scalar.addi v1214 c0_i32_895
  let v1216 : Index := Scalar.indexCast v1215
  ![v1216.toNat]

def k0_chk19 (v1218 : IVec S16 32) : Prop :=
  (∀ a x, ((![v1218] : Fin 1 → IVec S16 32) a x).toNat < S10240.size a)
theorem k0_idx21_inb : ∀ (v1218 : IVec S16 32) (k0_hw19 : k0_chk19 v1218), ∀ a x, ((![v1218] : Fin 1 → IVec S16 32) a x).toNat < S10240.size a := fun v1218 k0_hw19 => k0_hw19

def k0_chk20 (v1224 : IVec S16 32) : Prop :=
  (∀ a x, ((![v1224] : Fin 1 → IVec S16 32) a x).toNat < S10240.size a)
theorem k0_idx22_inb : ∀ (v1224 : IVec S16 32) (k0_hw20 : k0_chk20 v1224), ∀ a x, ((![v1224] : Fin 1 → IVec S16 32) a x).toNat < S10240.size a := fun v1224 k0_hw20 => k0_hw20
def k0_off167 (k0_t69 : Fin k0_t69_loop.trips) : Fin 1 → Nat :=
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_900 : BitVec 32 := 128#32
  let v1230 : BitVec 32 := Scalar.muli v1027 c128_i32_900
  let c16_i32_901 : BitVec 32 := 16#32
  let v1231 : BitVec 32 := Scalar.addi v1230 c16_i32_901
  let v1232 : Index := Scalar.indexCast v1231
  ![v1232.toNat]
def k0_off168 (k0_t69 : Fin k0_t69_loop.trips) : Fin 1 → Nat :=
  let c10000_i32_903 : BitVec 32 := 10000#32
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_902 : BitVec 32 := 128#32
  let v1234 : BitVec 32 := Scalar.muli v1027 c128_i32_902
  let v1235 : BitVec 32 := Scalar.addi c10000_i32_903 v1234
  let c16_i32_904 : BitVec 32 := 16#32
  let v1236 : BitVec 32 := Scalar.addi v1235 c16_i32_904
  let v1237 : Index := Scalar.indexCast v1236
  ![v1237.toNat]

def k0_chk21 (v1239 : IVec S16 32) : Prop :=
  (∀ a x, ((![v1239] : Fin 1 → IVec S16 32) a x).toNat < S10240.size a)
theorem k0_idx23_inb : ∀ (v1239 : IVec S16 32) (k0_hw21 : k0_chk21 v1239), ∀ a x, ((![v1239] : Fin 1 → IVec S16 32) a x).toNat < S10240.size a := fun v1239 k0_hw21 => k0_hw21

def k0_chk22 (v1245 : IVec S16 32) : Prop :=
  (∀ a x, ((![v1245] : Fin 1 → IVec S16 32) a x).toNat < S10240.size a)
theorem k0_idx24_inb : ∀ (v1245 : IVec S16 32) (k0_hw22 : k0_chk22 v1245), ∀ a x, ((![v1245] : Fin 1 → IVec S16 32) a x).toNat < S10240.size a := fun v1245 k0_hw22 => k0_hw22
def k0_off169 (k0_t69 : Fin k0_t69_loop.trips) : Fin 1 → Nat :=
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_909 : BitVec 32 := 128#32
  let v1251 : BitVec 32 := Scalar.muli v1027 c128_i32_909
  let c32_i32_910 : BitVec 32 := 32#32
  let v1252 : BitVec 32 := Scalar.addi v1251 c32_i32_910
  let v1253 : Index := Scalar.indexCast v1252
  ![v1253.toNat]
def k0_off170 (k0_t69 : Fin k0_t69_loop.trips) : Fin 1 → Nat :=
  let c10000_i32_912 : BitVec 32 := 10000#32
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_911 : BitVec 32 := 128#32
  let v1255 : BitVec 32 := Scalar.muli v1027 c128_i32_911
  let v1256 : BitVec 32 := Scalar.addi c10000_i32_912 v1255
  let c32_i32_913 : BitVec 32 := 32#32
  let v1257 : BitVec 32 := Scalar.addi v1256 c32_i32_913
  let v1258 : Index := Scalar.indexCast v1257
  ![v1258.toNat]

def k0_chk23 (v1260 : IVec S16 32) : Prop :=
  (∀ a x, ((![v1260] : Fin 1 → IVec S16 32) a x).toNat < S10240.size a)
theorem k0_idx25_inb : ∀ (v1260 : IVec S16 32) (k0_hw23 : k0_chk23 v1260), ∀ a x, ((![v1260] : Fin 1 → IVec S16 32) a x).toNat < S10240.size a := fun v1260 k0_hw23 => k0_hw23

def k0_chk24 (v1266 : IVec S16 32) : Prop :=
  (∀ a x, ((![v1266] : Fin 1 → IVec S16 32) a x).toNat < S10240.size a)
theorem k0_idx26_inb : ∀ (v1266 : IVec S16 32) (k0_hw24 : k0_chk24 v1266), ∀ a x, ((![v1266] : Fin 1 → IVec S16 32) a x).toNat < S10240.size a := fun v1266 k0_hw24 => k0_hw24
def k0_off171 (k0_t69 : Fin k0_t69_loop.trips) : Fin 1 → Nat :=
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_918 : BitVec 32 := 128#32
  let v1272 : BitVec 32 := Scalar.muli v1027 c128_i32_918
  let c48_i32_919 : BitVec 32 := 48#32
  let v1273 : BitVec 32 := Scalar.addi v1272 c48_i32_919
  let v1274 : Index := Scalar.indexCast v1273
  ![v1274.toNat]
def k0_off172 (k0_t69 : Fin k0_t69_loop.trips) : Fin 1 → Nat :=
  let c10000_i32_921 : BitVec 32 := 10000#32
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_920 : BitVec 32 := 128#32
  let v1276 : BitVec 32 := Scalar.muli v1027 c128_i32_920
  let v1277 : BitVec 32 := Scalar.addi c10000_i32_921 v1276
  let c48_i32_922 : BitVec 32 := 48#32
  let v1278 : BitVec 32 := Scalar.addi v1277 c48_i32_922
  let v1279 : Index := Scalar.indexCast v1278
  ![v1279.toNat]

def k0_chk25 (v1281 : IVec S16 32) : Prop :=
  (∀ a x, ((![v1281] : Fin 1 → IVec S16 32) a x).toNat < S10240.size a)
theorem k0_idx27_inb : ∀ (v1281 : IVec S16 32) (k0_hw25 : k0_chk25 v1281), ∀ a x, ((![v1281] : Fin 1 → IVec S16 32) a x).toNat < S10240.size a := fun v1281 k0_hw25 => k0_hw25

def k0_chk26 (v1287 : IVec S16 32) : Prop :=
  (∀ a x, ((![v1287] : Fin 1 → IVec S16 32) a x).toNat < S10240.size a)
theorem k0_idx28_inb : ∀ (v1287 : IVec S16 32) (k0_hw26 : k0_chk26 v1287), ∀ a x, ((![v1287] : Fin 1 → IVec S16 32) a x).toNat < S10240.size a := fun v1287 k0_hw26 => k0_hw26
def k0_off173 (k0_t69 : Fin k0_t69_loop.trips) : Fin 1 → Nat :=
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_927 : BitVec 32 := 128#32
  let v1293 : BitVec 32 := Scalar.muli v1027 c128_i32_927
  let c64_i32_928 : BitVec 32 := 64#32
  let v1294 : BitVec 32 := Scalar.addi v1293 c64_i32_928
  let v1295 : Index := Scalar.indexCast v1294
  ![v1295.toNat]
def k0_off174 (k0_t69 : Fin k0_t69_loop.trips) : Fin 1 → Nat :=
  let c10000_i32_930 : BitVec 32 := 10000#32
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_929 : BitVec 32 := 128#32
  let v1297 : BitVec 32 := Scalar.muli v1027 c128_i32_929
  let v1298 : BitVec 32 := Scalar.addi c10000_i32_930 v1297
  let c64_i32_931 : BitVec 32 := 64#32
  let v1299 : BitVec 32 := Scalar.addi v1298 c64_i32_931
  let v1300 : Index := Scalar.indexCast v1299
  ![v1300.toNat]

def k0_chk27 (v1302 : IVec S16 32) : Prop :=
  (∀ a x, ((![v1302] : Fin 1 → IVec S16 32) a x).toNat < S10240.size a)
theorem k0_idx29_inb : ∀ (v1302 : IVec S16 32) (k0_hw27 : k0_chk27 v1302), ∀ a x, ((![v1302] : Fin 1 → IVec S16 32) a x).toNat < S10240.size a := fun v1302 k0_hw27 => k0_hw27

def k0_chk28 (v1308 : IVec S16 32) : Prop :=
  (∀ a x, ((![v1308] : Fin 1 → IVec S16 32) a x).toNat < S10240.size a)
theorem k0_idx30_inb : ∀ (v1308 : IVec S16 32) (k0_hw28 : k0_chk28 v1308), ∀ a x, ((![v1308] : Fin 1 → IVec S16 32) a x).toNat < S10240.size a := fun v1308 k0_hw28 => k0_hw28
def k0_off175 (k0_t69 : Fin k0_t69_loop.trips) : Fin 1 → Nat :=
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_936 : BitVec 32 := 128#32
  let v1314 : BitVec 32 := Scalar.muli v1027 c128_i32_936
  let c80_i32_937 : BitVec 32 := 80#32
  let v1315 : BitVec 32 := Scalar.addi v1314 c80_i32_937
  let v1316 : Index := Scalar.indexCast v1315
  ![v1316.toNat]
def k0_off176 (k0_t69 : Fin k0_t69_loop.trips) : Fin 1 → Nat :=
  let c10000_i32_939 : BitVec 32 := 10000#32
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_938 : BitVec 32 := 128#32
  let v1318 : BitVec 32 := Scalar.muli v1027 c128_i32_938
  let v1319 : BitVec 32 := Scalar.addi c10000_i32_939 v1318
  let c80_i32_940 : BitVec 32 := 80#32
  let v1320 : BitVec 32 := Scalar.addi v1319 c80_i32_940
  let v1321 : Index := Scalar.indexCast v1320
  ![v1321.toNat]

def k0_chk29 (v1323 : IVec S16 32) : Prop :=
  (∀ a x, ((![v1323] : Fin 1 → IVec S16 32) a x).toNat < S10240.size a)
theorem k0_idx31_inb : ∀ (v1323 : IVec S16 32) (k0_hw29 : k0_chk29 v1323), ∀ a x, ((![v1323] : Fin 1 → IVec S16 32) a x).toNat < S10240.size a := fun v1323 k0_hw29 => k0_hw29

def k0_chk30 (v1329 : IVec S16 32) : Prop :=
  (∀ a x, ((![v1329] : Fin 1 → IVec S16 32) a x).toNat < S10240.size a)
theorem k0_idx32_inb : ∀ (v1329 : IVec S16 32) (k0_hw30 : k0_chk30 v1329), ∀ a x, ((![v1329] : Fin 1 → IVec S16 32) a x).toNat < S10240.size a := fun v1329 k0_hw30 => k0_hw30
def k0_off177 (k0_t69 : Fin k0_t69_loop.trips) : Fin 1 → Nat :=
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_945 : BitVec 32 := 128#32
  let v1335 : BitVec 32 := Scalar.muli v1027 c128_i32_945
  let c96_i32_946 : BitVec 32 := 96#32
  let v1336 : BitVec 32 := Scalar.addi v1335 c96_i32_946
  let v1337 : Index := Scalar.indexCast v1336
  ![v1337.toNat]
def k0_off178 (k0_t69 : Fin k0_t69_loop.trips) : Fin 1 → Nat :=
  let c10000_i32_948 : BitVec 32 := 10000#32
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_947 : BitVec 32 := 128#32
  let v1339 : BitVec 32 := Scalar.muli v1027 c128_i32_947
  let v1340 : BitVec 32 := Scalar.addi c10000_i32_948 v1339
  let c96_i32_949 : BitVec 32 := 96#32
  let v1341 : BitVec 32 := Scalar.addi v1340 c96_i32_949
  let v1342 : Index := Scalar.indexCast v1341
  ![v1342.toNat]

def k0_chk31 (v1344 : IVec S16 32) : Prop :=
  (∀ a x, ((![v1344] : Fin 1 → IVec S16 32) a x).toNat < S10240.size a)
theorem k0_idx33_inb : ∀ (v1344 : IVec S16 32) (k0_hw31 : k0_chk31 v1344), ∀ a x, ((![v1344] : Fin 1 → IVec S16 32) a x).toNat < S10240.size a := fun v1344 k0_hw31 => k0_hw31

def k0_chk32 (v1350 : IVec S16 32) : Prop :=
  (∀ a x, ((![v1350] : Fin 1 → IVec S16 32) a x).toNat < S10240.size a)
theorem k0_idx34_inb : ∀ (v1350 : IVec S16 32) (k0_hw32 : k0_chk32 v1350), ∀ a x, ((![v1350] : Fin 1 → IVec S16 32) a x).toNat < S10240.size a := fun v1350 k0_hw32 => k0_hw32
def k0_off179 (k0_t69 : Fin k0_t69_loop.trips) : Fin 1 → Nat :=
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_954 : BitVec 32 := 128#32
  let v1356 : BitVec 32 := Scalar.muli v1027 c128_i32_954
  let c112_i32_955 : BitVec 32 := 112#32
  let v1357 : BitVec 32 := Scalar.addi v1356 c112_i32_955
  let v1358 : Index := Scalar.indexCast v1357
  ![v1358.toNat]
def k0_off180 (k0_t69 : Fin k0_t69_loop.trips) : Fin 1 → Nat :=
  let c10000_i32_957 : BitVec 32 := 10000#32
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_956 : BitVec 32 := 128#32
  let v1360 : BitVec 32 := Scalar.muli v1027 c128_i32_956
  let v1361 : BitVec 32 := Scalar.addi c10000_i32_957 v1360
  let c112_i32_958 : BitVec 32 := 112#32
  let v1362 : BitVec 32 := Scalar.addi v1361 c112_i32_958
  let v1363 : Index := Scalar.indexCast v1362
  ![v1363.toNat]

def k0_chk33 (v1365 : IVec S16 32) : Prop :=
  (∀ a x, ((![v1365] : Fin 1 → IVec S16 32) a x).toNat < S10240.size a)
theorem k0_idx35_inb : ∀ (v1365 : IVec S16 32) (k0_hw33 : k0_chk33 v1365), ∀ a x, ((![v1365] : Fin 1 → IVec S16 32) a x).toNat < S10240.size a := fun v1365 k0_hw33 => k0_hw33

def k0_chk34 (v1371 : IVec S16 32) : Prop :=
  (∀ a x, ((![v1371] : Fin 1 → IVec S16 32) a x).toNat < S10240.size a)
theorem k0_idx36_inb : ∀ (v1371 : IVec S16 32) (k0_hw34 : k0_chk34 v1371), ∀ a x, ((![v1371] : Fin 1 → IVec S16 32) a x).toNat < S10240.size a := fun v1371 k0_hw34 => k0_hw34
def k0_off181 (k0_t69 : Fin k0_t69_loop.trips) : Fin 1 → Nat :=
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_963 : BitVec 32 := 128#32
  let v1377 : BitVec 32 := Scalar.muli v1027 c128_i32_963
  ![v1377.toNat]
def k0_off182 (k0_t69 : Fin k0_t69_loop.trips) : Fin 1 → Nat :=
  let c10000_i32_966 : BitVec 32 := 10000#32
  let c2_i32_823 : BitVec 32 := 2#32
  let c0_i32_821 : BitVec 32 := 0#32
  let c0_i32_806 : BitVec 32 := 0#32
  let c1_i32_807 : BitVec 32 := 1#32
  let arg33 : BitVec 32 := Scf.iv c0_i32_806 c1_i32_807 k0_t69
  let c1_i32_820 : BitVec 32 := 1#32
  let v1023 : BitVec 32 := Scalar.muli arg33 c1_i32_820
  let v1024 : BitVec 32 := Scalar.addi c0_i32_821 v1023
  let v1026 : BitVec 32 := Scalar.muli c2_i32_823 v1024
  let c1_i32_824 : BitVec 32 := 1#32
  let v1027 : BitVec 32 := Scalar.addi v1026 c1_i32_824
  let c128_i32_965 : BitVec 32 := 128#32
  let v1380 : BitVec 32 := Scalar.muli v1027 c128_i32_965
  let v1381 : BitVec 32 := Scalar.addi c10000_i32_966 v1380
  ![v1381.toNat]

def k0_chk35 (v1009 : IVec S16 32) : Prop :=
  (∀ a x, ((![v1009] : Fin 1 → IVec S16 32) a x).toNat < S10240.size a)
theorem k0_idx37_inb : ∀ (v1009 : IVec S16 32) (k0_hw35 : k0_chk35 v1009), ∀ a x, ((![v1009] : Fin 1 → IVec S16 32) a x).toNat < S10240.size a := fun v1009 k0_hw35 => k0_hw35

def k0_chk36 (v1015 : IVec S16 32) : Prop :=
  (∀ a x, ((![v1015] : Fin 1 → IVec S16 32) a x).toNat < S10240.size a)
theorem k0_idx38_inb : ∀ (v1015 : IVec S16 32) (k0_hw36 : k0_chk36 v1015), ∀ a x, ((![v1015] : Fin 1 → IVec S16 32) a x).toNat < S10240.size a := fun v1015 k0_hw36 => k0_hw36
def k0_off183 (i : grid0.Coords) : Fin 1 → Nat :=
  let arg1 : BitVec 32 := BitVec.ofNat 32 (i 1).val
  let c20000_i32_818 : BitVec 32 := 20000#32
  let v1021 : BitVec 32 := Scalar.muli arg1 c20000_i32_818
  ![v1021.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S160000x2 : Shape := ⟨2, ![160000, 2]⟩
abbrev S10000x128 : Shape := ⟨2, ![10000, 128]⟩
abbrev S320000x2 : Shape := ⟨2, ![320000, 2]⟩
abbrev S320000x1 : Shape := ⟨2, ![320000, 1]⟩
abbrev S320000 : Shape := ⟨1, ![320000]⟩
abbrev S_ : Shape := ⟨0, ![]⟩
abbrev S10000x32 : Shape := ⟨2, ![10000, 32]⟩

abbrev nBuf : Space → Nat
  | .hbm => 21
  | .vmem => 0
  | .smem => 0
  | _ => 0

abbrev bufTy : (tb : Table) → Fin (tcTables nBuf tb) → BufTy
  | .hbm, ⟨0, _⟩ => ⟨S160000x2, .i32⟩
  | .hbm, ⟨1, _⟩ => ⟨S10000x128, .f32⟩
  | .hbm, ⟨2, _⟩ => ⟨S160000x2, .i32⟩
  | .hbm, ⟨3, _⟩ => ⟨S320000x2, .i32⟩
  | .hbm, ⟨4, _⟩ => ⟨S320000x1, .i32⟩
  | .hbm, ⟨5, _⟩ => ⟨S320000, .i32⟩
  | .hbm, ⟨6, _⟩ => ⟨S320000, .i32⟩
  | .hbm, ⟨7, _⟩ => ⟨S320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x2, .i32⟩
  | .hbm, ⟨18, _⟩ => ⟨S320000x1, .i32⟩
  | .hbm, ⟨19, _⟩ => ⟨S320000, .i32⟩
  | .hbm, ⟨20, _⟩ => ⟨S10000x32, .i32⟩
  | _, _ => ⟨S160000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1_0 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Base.lean ====
/-
  The kernel's launch as the proof sees it: the call's configuration, the ghost state (the handshakes' rounds, the barrier
  cells' rounds, the transfers' counters), the four stages of the one call, one per subcore barrier.
-/
module

public import proofs.«01_k».proof.Defs
public import Idealize.ShloMosaic.Lib.SparseCore.Quiescent
public import Idealize.ShloMosaic.Lib.SparseCore.Ops
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The one call owns four stages, one per subcore barrier. -/
@[reducible] def blocks : Blocks 1 4 where
  first := fun _ => 0
  last := fun _ => 3
  fst := fun k => if k = 0 then 0 else 4
  blk := fun _ ι => ∃ j, ι = some j
  first_le_last := fun _ => by decide
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.le_def.mpr (Nat.zero_le _), Fin.le_def.mpr (Nat.le_of_lt_succ j.isLt), h⟩, fun ⟨j, _, _, h⟩ => ⟨j, h⟩⟩

attribute [local instance] blocks

abbrev UH : Type := URounds (GSem nD τ sig) ℕ
abbrev UB : Type := URounds (GSem nD τ sig) ℕ
/-- A second copy of the rounds, for which barriers each tile has come to. -/
abbrev UX : Type := URounds (GSem nD τ sig) ℕ
abbrev UU : Type := UH × (UB × (UX × Counters))

local notation "𝕄" => MT nD τ sig (HIx 4) (Elt F) ℕ UU ℕ

abbrev EH : Emb UH (MT nD τ sig (HIx 4) (Elt F) ℕ UU ℕ) := embL
abbrev uE : UEmb UU (MT nD τ sig (HIx 4) (Elt F) ℕ UU ℕ) := uEmb (nD := nD) (sig := sig) (Ix := HIx 4) (Val := Elt F) (Name := ℕ) (U := UU) (Lvl := ℕ)
/-- The barrier cells' rounds. -/
def EB : Emb UB (MT nD τ sig (HIx 4) (Elt F) ℕ UU ℕ) :=
  ((Emb.inl : Emb UB (UB × (UX × Counters))).trans (Emb.inr : Emb (UB × (UX × Counters)) UU)).trans uE.toEmb
instance EB_landsIn : (EB : Emb UB 𝕄).LandsIn (upEmb : UEmb _ 𝕄) := by unfold EB; infer_instance
/-- The tiles' arrivals. -/
def EX : Emb UX (MT nD τ sig (HIx 4) (Elt F) ℕ UU ℕ) :=
  (((Emb.inl : Emb UX (UX × Counters)).trans (Emb.inr : Emb (UX × Counters) (UB × (UX × Counters)))).trans
    (Emb.inr : Emb (UB × (UX × Counters)) UU)).trans uE.toEmb
instance EX_landsIn : (EX : Emb UX 𝕄).LandsIn (upEmb : UEmb _ 𝕄) := by unfold EX; infer_instance
/-- The transfers' counters. -/
def EC : UEmb Counters (MT nD τ sig (HIx 4) (Elt F) ℕ UU ℕ) :=
  (((UEmb.inr : UEmb Counters (UX × Counters)).trans (UEmb.inr : UEmb (UX × Counters) (UB × (UX × Counters)))).trans
    (UEmb.inr : UEmb (UB × (UX × Counters)) UU)).trans uE
instance EC_landsIn : (EC : UEmb Counters 𝕄).LandsIn (upEmb : UEmb _ 𝕄) := by unfold EC; infer_instance

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.Sorting
-- ==== Proof.Barrier.lean ====
/-
  The four meetings at the one barrier semaphore. Every tile signals every tile's semaphore once per barrier and waits for sixteen
  units of its own; the semaphore is the same at the four barriers, so a unit of a later barrier may be counted by an earlier
  wait. What a unit carries is therefore only knowledge: which barriers the tiles have come to. The memory handed over at a
  barrier lies in one box per tile, filled by its owner before it signals, emptied part by part by the tiles that know it filled.
-/
module

public import proofs.«01_k».proof.Proof.Base
public import Idealize.ShloMosaic.Lib.SparseCore.ProtocolKit

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

open Idealize.ShloMosaic.SparseCore.ProtocolKit (bigSep_univ_elim)

/-- The tiles of the call. -/
abbrev TI : Type := Fin (grid0.bound 1)

/-- Tile `j`'s barrier semaphore. -/
abbrev bcell (d : Dev nD) (c : Fin τ.nSC) (j : TI) : GSem nD τ sig := (V d c (j.castLE hsub0), .reg sc_bar0)

def isBar (g : GSem nD τ sig) : Bool :=
  match g with
  | ((_, .scVector _ _), sm) => decide (sm = .reg sc_bar0)
  | _ => false

theorem isBar_bcell (d : Dev nD) (c : Fin τ.nSC) (j : TI) : isBar (bcell d c j) = true := by simp [isBar]

/-- The tile that pays duty `n`. -/
def payer (n : ℕ) : TI := ⟨n % 16, Nat.mod_lt _ (by decide)⟩

/-- Everyone has come to the first `r` barriers. -/
def allIn (d : Dev nD) (c : Fin τ.nSC) (r : ℕ) : sProp 𝕄 := bigSep Finset.univ fun k : TI => reached EX (bcell d c k) r

instance allIn_persistent (d : Dev nD) (c : Fin τ.nSC) (r : ℕ) : BI.Persistent (allIn (F := F) d c r) := by unfold allIn; infer_instance
instance allIn_storable (d : Dev nD) (c : Fin τ.nSC) (r : ℕ) : BI.Storable (upEmb : UEmb _ 𝕄) (allIn (F := F) d c r) := by unfold allIn; infer_instance

/-- What duty `n = 16 r + k` tells: everyone has come to the first `r` barriers, and tile `k` to one more. -/
def known (d : Dev nD) (c : Fin τ.nSC) (n : ℕ) : sProp 𝕄 :=
  iprop(allIn d c (n / 16) ∗ reached EX (bcell d c (payer n)) (n / 16 + 1))

instance known_persistent (d : Dev nD) (c : Fin τ.nSC) (n : ℕ) : BI.Persistent (known (F := F) d c n) := by unfold known; infer_instance
instance known_storable (d : Dev nD) (c : Fin τ.nSC) (n : ℕ) : BI.Storable (upEmb : UEmb _ 𝕄) (known (F := F) d c n) := by unfold known; infer_instance

def bPay (g : GSem nD τ sig) (n : ℕ) : sProp 𝕄 :=
  match g with
  | ((d, .scVector c _), _) => known d c n
  | _ => iprop(emp)

/-- The barrier cells' schedule: one round of sixty-four unit duties, one per tile and barrier. -/
def bRd : Rounds.Schedule (GSem nD τ sig) ℕ 𝕄 where
  duties g r := if isBar g ∧ r = 0 then Finset.range 64 else ∅
  amount _ _ _ := 1
  payload g _ n := bPay g n
  amount_pos _ _ _ _ := Nat.one_pos

instance bRd_payload_storable (g : GSem nD τ sig) (r n : ℕ) : BI.Storable (upEmb : UEmb _ 𝕄) ((bRd (F := F)).payload g r n) := by
  show BI.Storable upEmb (bPay g n)
  unfold bPay
  rcases g with ⟨⟨d, _ | c | ⟨c, i⟩⟩, sm⟩ <;> dsimp only <;> infer_instance

theorem bRd_duties₀ (d : Dev nD) (c : Fin τ.nSC) (j : TI) : (bRd (F := F)).duties (bcell d c j) 0 = Finset.range 64 := by
  simp [bRd, isBar]
theorem bRd_duties_succ (g : GSem nD τ sig) (r : ℕ) (hr : 1 ≤ r) : (bRd (F := F)).duties g r = ∅ :=
  if_neg fun h => absurd h.2 (Nat.ne_of_gt hr)
theorem bRd_expect (d : Dev nD) (c : Fin τ.nSC) (j : TI) : (bRd (F := F)).expect (bcell d c j) 0 = 64 := by
  unfold Rounds.Schedule.expect; rw [bRd_duties₀]
  show ∑ x ∈ Finset.range 64, 1 = 64
  simp

variable (pay : ℕ → TI → TI → sProp (MT nD τ sig (HIx 4) (Elt F) ℕ UU ℕ)) [∀ r n j, BI.Storable (upEmb : UEmb _ (MT nD τ sig (HIx 4) (Elt F) ℕ UU ℕ)) (pay r n j)]

/-- Tile `n`'s box: for each barrier it has come to and each tile, that tile's part, or the token it left for it. -/
def box (d : Dev nD) (c : Fin τ.nSC) (n : TI) : sProp 𝕄 :=
  iprop(∃ R : ℕ, roundAuth EX (bcell d c n) R ∅ 0
    ∗ bigSep (Finset.range R) fun r => bigSep Finset.univ fun j : TI => iprop(pay r n j ∨ dutyTok EX (bcell d c j) r n.val))

instance box_storable (d : Dev nD) (c : Fin τ.nSC) (n : TI) : BI.Storable (upEmb : UEmb _ 𝕄) (box pay d c n) := by unfold box; infer_instance

/-- A tile fills its box with the parts of the barrier it comes to. -/
theorem arrive (d : Dev nD) (c : Fin τ.nSC) (n : TI) (r κ : ℕ) :
    iprop(inv κ (box pay d c n) ∗ atPos EX (bcell d c n) r ∅ 0 ∗ bigSep Finset.univ fun j : TI => pay r n j)
      ⊢ |={Set.univ}=> (iprop(atPos EX (bcell d c n) (r + 1) ∅ 0 ∗ reached EX (bcell d c n) (r + 1)) : sProp 𝕄) := by
  iintro ⟨Hi, Hat, Hp⟩
  imod (inv_acc (E := Set.univ) (Set.mem_univ κ)) $$ Hi with ⟨Hb, Hclose⟩
  unfold box
  icases Hb with ⟨%R, Ha, Hs⟩
  ihave %e := (roundAuth_atPos_agree (E := EX) (g := bcell d c n)) $$ [Ha Hat]
  · isplitl [Ha] <;> iassumption
  obtain ⟨rfl, -, -⟩ := e
  imod (roundAuth_atPos_move (E := EX) (g := bcell d c n) (r + 1) ∅ 0 (Nat.le_succ r)) $$ [Ha Hat] with ⟨Ha, Hat⟩
  · isplitl [Ha] <;> iassumption
  imod (roundAuth_witness (E := EX) (g := bcell d c n)) $$ Ha with ⟨Ha, Hr⟩
  imod Hclose $$ [Ha Hs Hp]
  · iexists (r + 1)
    isplitl [Ha]; · iexact Ha
    rw [Finset.range_add_one, SparseCore.bigSep_insert' Finset.notMem_range_self]
    isplitr [Hs]
    · iapply (SparseCore.ent (bigSep_mono (s := Finset.univ) fun (j : TI) _ =>
        (show pay r n j ⊢ iprop(pay r n j ∨ dutyTok EX (bcell d c j) r n.val) from by iintro H; ileft; iexact H)))
      iexact Hp
    iexact Hs
  imodintro
  isplitl [Hat] <;> iassumption

/-- A tile takes its part out of a box it knows filled. -/
theorem take (d : Dev nD) (c : Fin τ.nSC) (n i : TI) (r κ : ℕ) :
    iprop(inv κ (box pay d c n) ∗ reached EX (bcell d c n) (r + 1) ∗ dutyTok EX (bcell d c i) r n.val)
      ⊢ |={Set.univ}=> (pay r n i : sProp 𝕄) := by
  iintro ⟨Hi, Hr, Ht⟩
  imod (inv_acc (E := Set.univ) (Set.mem_univ κ)) $$ Hi with ⟨Hb, Hclose⟩
  unfold box
  icases Hb with ⟨%R, Ha, Hs⟩
  ihave %e := (roundAuth_reached_le (E := EX) (g := bcell d c n)) $$ [Ha Hr]
  · isplitl [Ha] <;> iassumption
  have e2 : (bigSep (Finset.range R) fun r => bigSep Finset.univ fun j : TI => iprop(pay r n j ∨ dutyTok EX (bcell d c j) r n.val))
      = (iprop((iprop(pay r n i ∨ dutyTok EX (bcell d c i) r n.val) ∗ bigSep (Finset.univ.erase i) fun j : TI => iprop(pay r n j ∨ dutyTok EX (bcell d c j) r n.val))
        ∗ bigSep ((Finset.range R).erase r) fun r => bigSep Finset.univ fun j : TI => iprop(pay r n j ∨ dutyTok EX (bcell d c j) r n.val)) : sProp 𝕄) := by
    rw [SparseCore.bigSep_erase' (Finset.mem_range.mpr (Nat.lt_of_succ_le e)), SparseCore.bigSep_erase' (Finset.mem_univ i)]
  ihave Hs := (Entails.of_eq e2) $$ Hs
  icases Hs with ⟨⟨Hx, Hs'⟩, Hs⟩
  icases Hx with (Hx | Hx)
  · imod Hclose $$ [Ha Hs Hs' Ht]
    · iexists R
      isplitl [Ha]; · iexact Ha
      iapply (Entails.of_eq e2.symm)
      isplitr [Hs]
      · isplitl [Ht]; · iright; iexact Ht
        iexact Hs'
      iexact Hs
    imodintro; iexact Hx
  · iexfalso
    iapply (dutyTok_dutyTok_false (E := EX) (g := bcell d c i) (r := r) (d := n.val))
    isplitl [Hx] <;> iassumption

/-- The knowledge a tile keeps of the duties its waits have counted. -/
def bst (d : Dev nD) (c : Fin τ.nSC) (i : TI) (r : ℕ) : sProp 𝕄 :=
  iprop((∃ S : Finset ℕ, ⌜S ⊆ Finset.range 64 ∧ 16 * r ≤ S.card⌝ ∗ atPos EB (bcell d c i) 0 S (16 * r) ∗ bigSep S fun n => known d c n)
    ∗ allIn d c r ∗ atPos EX (bcell d c i) r ∅ 0)

theorem all_of_known (d : Dev nD) (c : Fin τ.nSC) (S : Finset ℕ) (r : ℕ) (hr : r < 4) (hS : S ⊆ Finset.range 64) (hc : 16 * (r + 1) ≤ S.card) :
    (bigSep S fun n => known (F := F) d c n) ⊢ (allIn (F := F) d c (r + 1) : sProp 𝕄) := by
  by_cases h : ∃ n ∈ S, r + 1 ≤ n / 16
  · obtain ⟨n, hn, hr⟩ := h
    iintro H
    ihave H := (SparseCore.ent (bigSep_elim (Φ := fun n => known (F := F) d c n) hn)) $$ H
    unfold known allIn
    icases H with ⟨H, -⟩
    iapply (SparseCore.ent (bigSep_mono fun (k : TI) _ => reached_mono (E := EX) (g := bcell d c k) hr)) $$ H
  · have hsub : S ⊆ Finset.range (16 * (r + 1)) := fun n hn => by
      rw [Finset.mem_range]
      have := mt (fun x => (⟨n, hn, x⟩ : ∃ n ∈ S, r + 1 ≤ n / 16)) h
      omega
    have hS' : S = Finset.range (16 * (r + 1)) := Finset.eq_of_subset_of_card_le hsub (by rw [Finset.card_range]; exact hc)
    subst hS'
    unfold allIn
    have hk : ∀ k : TI, (bigSep (Finset.range (16 * (r + 1))) fun n => known (F := F) d c n) ⊢ (reached EX (bcell d c k) (r + 1) : sProp 𝕄) := fun k => by
      have hk16 : k.val < 16 := k.isLt
      have hn : 16 * r + k.val ∈ Finset.range (16 * (r + 1)) := Finset.mem_range.mpr (by omega)
      iintro H
      ihave H := (SparseCore.ent (bigSep_elim (Φ := fun n => known (F := F) d c n) hn)) $$ H
      unfold known
      icases H with ⟨-, H⟩
      have e1 : (16 * r + k.val) / 16 = r := by omega
      have e2 : payer (16 * r + k.val) = k := Fin.ext (show (16 * r + k.val) % 16 = k.val by omega)
      rw [e1, e2]
      iexact H
    iintro #H
    iapply (SparseCore.ent (bigSep_mono (s := (Finset.univ : Finset TI)) (Φ := fun _ => bigSep (Finset.range (16 * (r + 1))) fun n => known (F := F) d c n) fun k _ => hk k))
    iapply (SparseCore.ent (bigSep_of_persistent (Finset.univ : Finset TI) (bigSep (Finset.range (16 * (r + 1))) fun n => known (F := F) d c n)))
    iexact H

/-- What every tile holds of the barriers alike. -/
def bctx (d : Dev nD) (c : Fin τ.nSC) : sProp 𝕄 :=
  iprop(∃ κ κ' : TI → ℕ, (bigSep Finset.univ fun j : TI => cellInv EB (bRd (F := F)) (κ j) (bcell d c j))
    ∗ (bigSep Finset.univ fun j : TI => inv (κ' j) (box pay d c j))
    ∗ (bigSep Finset.univ fun j : TI => reached EB (bcell d c j) 0))
instance bctx_persistent (d : Dev nD) (c : Fin τ.nSC) : BI.Persistent (bctx pay d c) := by unfold bctx; infer_instance

/-- The units tile `i` owes at barrier `r`. -/
def oxB (d : Dev nD) (c : Fin τ.nSC) (ι : HIx 4) : CellTallies nD τ sig (HIx 4) := ∑ j : TI, tallyAt (bcell d c j) ι 1

section
variable (𝒱' : Variants) {Λ : Labels} {defs : Defs nD τ sig (Elt F) Λ} {α : Type} {Q : α → sProp (MT nD τ sig (HIx 4) (Elt F) ℕ UU ℕ)}

theorem wp_barrier (bd : Option 𝒱'.V) (d : Dev nD) (sc : Fin τ.nSC) (i : TI) (r : ℕ) (hr : r < 4) (ι : HIx 4) (O : CellTallies nD τ sig (HIx 4)) (W : Waits sig (HIx 4))
    {k : PUnit → Prog (TpuEff nD τ sig (Elt F) Λ (.scVector sc (i.castLE hsub0))) α} :
    iprop(bctx pay d sc ∗ owes (V d sc (i.castLE hsub0)) (O + oxB d sc ι) W
        ∗ (bigSep Finset.univ fun j : TI => dutyTok EB (bcell d sc j) 0 (16 * r + i.val))
        ∗ cred (tallyAt (bcell d sc i) ι 16) ∗ MayWait (V d sc (i.castLE hsub0)) (.reg sc_bar0) ι O
        ∗ bst d sc i r ∗ (bigSep Finset.univ fun j : TI => pay r i j)
        ∗ bigSep Finset.univ fun n : TI => dutyTok EX (bcell d sc i) r n.val)
      ⊢ iprop((iprop(owes (V d sc (i.castLE hsub0)) O (insert (SemLoc.reg sc_bar0, ι) W) ∗ bst d sc i (r + 1)
            ∗ bigSep Finset.univ fun n : TI => pay r n i)
          -∗ wp frame (wpE defs 𝒱' (V d sc (i.castLE hsub0)) bd) Set.univ (k ⟨⟩) Q)
        -∗ wp frame (wpE defs 𝒱' (V d sc (i.castLE hsub0)) bd) Set.univ (SparseCore.subcoreBarrier sc_bar0 (grid0.bound 1) hsub0 >>= k) Q) := by
  classical
  have hi16 : i.val < 16 := i.isLt
  rw [SparseCore.subcoreBarrier_bind, show (wp frame (wpE defs 𝒱' (V d sc (i.castLE hsub0)) bd) Set.univ (.op .deviceId _) Q : sProp 𝕄) = _ from wp_deviceId 𝒱' (V d sc (i.castLE hsub0)) bd Set.univ]
  unfold bctx bst oxB
  iintro ⟨#Hctx, HO, Htoks, Hcred, Hmw, ⟨Hpos, #Hall, Hat⟩, Hpay, Hxt⟩ Hk
  icases Hctx with ⟨%κ, %κ', #Hinv, #Hbox, #Hr0⟩
  imod (arrive pay d sc i r (κ' i)) $$ [Hat Hpay] with ⟨Hat, #Hme⟩
  · isplitr; · iapply (bigSep_univ_elim (fun j : TI => inv (κ' j) (box pay d sc j)) i); iexact Hbox
    isplitl [Hat] <;> iassumption
  have hd : ∀ j : TI, 16 * r + i.val ∈ (bRd (F := F)).duties (bcell d sc j) 0 := fun j => by
    rw [bRd_duties₀]; exact Finset.mem_range.mpr (by omega)
  have hsig : ∀ l : List TI, l.Nodup →
      iprop((bigSep Finset.univ fun j : TI => cellInv EB (bRd (F := F)) (κ j) (bcell d sc j))
          ∗ (bigSep Finset.univ fun j : TI => reached EB (bcell d sc j) 0)
          ∗ known d sc (16 * r + i.val)
          ∗ owes (V d sc (i.castLE hsub0)) (O + ∑ j ∈ l.toFinset, tallyAt (bcell d sc j) ι 1) W
          ∗ (bigSep l.toFinset fun j : TI => dutyTok EB (bcell d sc j) 0 (16 * r + i.val))
          ∗ (owes (V d sc (i.castLE hsub0)) O W -∗ wp frame (wpE defs 𝒱' (V d sc (i.castLE hsub0)) bd) Set.univ (.op (TpuEff.semWait sc_bar0 (grid0.bound 1)) k) Q))
        ⊢ wp frame (wpE defs 𝒱' (V d sc (i.castLE hsub0)) bd) Set.univ
            (l.foldr (fun j r => .op (TpuEff.semSignal (d, .scVector sc (j.castLE hsub0)) sc_bar0 1) fun _ => r) (.op (TpuEff.semWait sc_bar0 (grid0.bound 1)) k)) Q := by
    intro l hl
    induction l with
    | nil =>
      rw [List.toFinset_nil, List.foldr_nil, Finset.sum_empty, add_zero]
      iintro ⟨-, -, -, HO, -, Hk⟩; iapply Hk; iexact HO
    | cons j l ih =>
      rw [List.toFinset_cons, List.foldr_cons]
      have hj : j ∉ l.toFinset := fun h => (List.nodup_cons.mp hl).1 (List.mem_toFinset.mp h)
      rw [SparseCore.bigSep_insert' hj, Finset.sum_insert hj]
      iintro ⟨#Hinv, #Hr0, #Hkn, HO, ⟨Htok, Htoks⟩, Hk⟩
      iapply (Rounds.wp_signal 𝒱' EB (bRd (F := F)) (V d sc (i.castLE hsub0)) bd (dst := V d sc (j.castLE hsub0)) (sem := sc_bar0) (r := 0) (d := 16 * r + i.val) (k' := 1)
          (κ := κ j) (hd j) rfl ι
          (O₀ := O + (tallyAt (bcell d sc j) ι 1 + ∑ j ∈ l.toFinset, tallyAt (bcell d sc j) ι 1))
          (O := O + ∑ j ∈ l.toFinset, tallyAt (bcell d sc j) ι 1)
          (by rw [add_comm (tallyAt _ _ _) _, ← add_assoc]) (W := W)) $$ [HO Htok]
      · isplitr; · iapply (bigSep_univ_elim (fun j : TI => cellInv EB (bRd (F := F)) (κ j) (bcell d sc j)) j); iexact Hinv
        isplitl [HO]; · iexact HO
        isplitl [Htok]; · iexact Htok
        isplitr; · iapply (Entails.of_eq (show known d sc (16 * r + i.val) = (bRd (F := F)).payload (bcell d sc j) 0 (16 * r + i.val) from rfl)); iexact Hkn
        iapply (bigSep_univ_elim (fun j : TI => reached EB (bcell d sc j) 0) j); iexact Hr0
      iintro HO
      iapply (ih (List.nodup_cons.mp hl).2)
      isplitr; · iexact Hinv
      isplitr; · iexact Hr0
      isplitr; · iexact Hkn
      isplitl [HO]; · iexact HO
      isplitl [Htoks] <;> iassumption
  have hfin := hsig (List.finRange _) (List.nodup_finRange _)
  rw [List.toFinset_finRange] at hfin
  iapply hfin
  isplitr; · iexact Hinv
  isplitr; · iexact Hr0
  isplitr
  · unfold known
    have e1 : (16 * r + i.val) / 16 = r := by omega
    have e2 : payer (16 * r + i.val) = i := Fin.ext (show (16 * r + i.val) % 16 = i.val by omega)
    rw [e1, e2]
    isplitl <;> iassumption
  isplitl [HO]; · iexact HO
  isplitl [Htoks]; · iexact Htoks
  iintro HO
  icases Hpos with ⟨%S0, %hS0, Hpos, #Hkn0⟩
  iapply (Rounds.wp_wait 𝒱' EB (bRd (F := F)) (V d sc (i.castLE hsub0)) bd (sm := .reg sc_bar0) (k' := grid0.bound 1) (κ := κ i)
      (wpE_semWait_eq 𝒱' (V d sc (i.castLE hsub0)) bd Set.univ) (Set.mem_univ _) {(SemLoc.reg sc_bar0, ι)} (cr := Finsupp.single ι 16)
      (O := O) (W := W) (R := 0) (m := 16 * r) (T := S0) (by rw [Util.total_single]; rfl) (image_single_subset _ ι 16)) $$ [Hcred HO Hmw Hpos]
  · isplitr; · iapply (bigSep_univ_elim (fun j : TI => cellInv EB (bRd (F := F)) (κ j) (bcell d sc j)) i); iexact Hinv
    isplitl [Hcred]; · iexact Hcred
    isplitl [HO]; · iexact HO
    isplitl [Hmw] <;> iassumption
  iintro %S ⟨%hS, HO, Hpos, Hkn1⟩
  ihave #Hkn1 := (Entails.of_eq (show (bigSep (S \ S0) fun n => (bRd (F := F)).payload (bcell d sc i) 0 n) = bigSep (S \ S0) fun n => known (F := F) d sc n from rfl)) $$ Hkn1
  obtain ⟨hS1, hS2, hS3⟩ := hS
  rw [bRd_duties₀] at hS2 hS3
  rw [bRd_expect] at hS3
  have hcard : 16 * (r + 1) ≤ S.card := by
    have := Finset.card_sdiff_add_card_eq_card hS2
    rw [Finset.card_range] at this
    have e16 : grid0.bound 1 = 16 := rfl
    omega
  have hjoin : iprop((bigSep S0 fun n => known (F := F) d sc n) ∗ bigSep (S \ S0) fun n => known (F := F) d sc n)
      ⊢ (bigSep S fun n => known (F := F) d sc n : sProp 𝕄) := by
    rw [SparseCore.bigSep_sdiff_split' hS1 (Φ := fun n => known (F := F) d sc n)]
  ihave #Hkn := hjoin $$ []
  · isplitl <;> iassumption
  ihave #Hall' := (all_of_known d sc S r hr hS2 hcard) $$ Hkn
  have htake : iprop((bigSep Finset.univ fun j : TI => inv (κ' j) (box pay d sc j)) ∗ allIn d sc (r + 1) ∗ bigSep Finset.univ fun n : TI => dutyTok EX (bcell d sc i) r n.val)
      ⊢ |={Set.univ}=> (bigSep Finset.univ fun n : TI => pay r n i : sProp 𝕄) := by
    unfold allIn
    rw [← bigSep_sep', ← bigSep_sep']
    exact (bigSep_mono fun n _ => take pay d sc n i r (κ' n)).trans (bigSep_fupd _ _)
  imod htake $$ [Hxt] with Hgot
  · isplitr; · iexact Hbox
    isplitr; · iexact Hall'
    iexact Hxt
  iapply Hk
  isplitl [HO]
  · rw [Finset.insert_eq, Finset.union_comm]; iexact HO
  isplitr [Hgot]
  · isplitl [Hpos]
    · iexists S
      isplitr; · ipureintro; exact ⟨hS2, hcard⟩
      isplitl [Hpos]; · iexact Hpos
      iexact Hkn
    isplitr; · iexact Hall'
    iexact Hat
  iexact Hgot

end

/-- After the fourth barrier the tile's semaphore stands at zero, for good. -/
theorem bar_close (d : Dev nD) (c : Fin τ.nSC) (i : TI) :
    iprop(bctx pay d c ∗ bst d c i 4) ⊢ |={Set.univ}=> (semVal (bcell d c i) 0 : sProp 𝕄) := by
  unfold bctx bst
  iintro ⟨#Hctx, ⟨%S, %hS, Hpos, -⟩, -⟩
  icases Hctx with ⟨%κ, %κ', #Hinv, -⟩
  ihave #Hi := (bigSep_univ_elim (fun j : TI => cellInv EB (bRd (F := F)) (κ j) (bcell d c j)) i) $$ Hinv
  imod (Rounds.fupd_skip EB (bRd (F := F)) (κ := κ i) (g := bcell d c i) (R := 0) (m := 16 * 4) (T := S)
    (by rw [bRd_duties₀]; exact (Finset.eq_of_subset_of_card_le hS.1 (by rw [Finset.card_range]; exact hS.2)).ge)
    (bRd_expect d c i).symm (Set.mem_univ _)) $$ [Hpos] with ⟨Hpos, -⟩
  · isplitr; · iexact Hi
    iexact Hpos
  iapply (Rounds.cell_close EB (bRd (F := F)) (κ := κ i) (g := bcell d c i) (R := 1) (Set.mem_univ _) id (fun r hr => bRd_duties_succ _ r hr))
  isplitr; · iexact Hi
  iexact Hpos

end Cert.Proof.Sorting
-- ==== Proof.Mem.lean ====
/-
  A rank-one word buffer held on a set of positions at given words, and the steps of a program over such holdings.
-/
module

public import proofs.«01_k».proof.Proof.Base

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

/-- The positions of a rank-one shape whose number is in `A`. -/
def sel (d : Fin 1 → ℕ) (A : Finset ℕ) : Finset (⟨1, d⟩ : Shape).Idx := Finset.univ.filter fun x => (x 0).val ∈ A

omit [FloatOps F] in
theorem mem_sel {d : Fin 1 → ℕ} {A : Finset ℕ} {x : (⟨1, d⟩ : Shape).Idx} : x ∈ sel d A ↔ (x 0).val ∈ A := by
  simp [sel]

/-- The positions `A` of `m` held at share `q`, reading `g`. -/
def PS (c : Thread nD τ) {sp : Space} {d : Fin 1 → ℕ} (m : Memref sig c.2.kind sp ⟨1, d⟩ .i32) (A : Finset ℕ) (q : PosShare TreeShare)
    (g : ℕ → BitVec 32) : sProp 𝕄 :=
  m.view.loc c ↦[m.view.setOn (sel d A)]{q} (m.view.rep (Val := Elt F) fun x => g (x 0).val)

/-- The whole of `m` held at share `q`, reading `h`. -/
def PV (c : Thread nD τ) {sp : Space} {s : Shape} (m : Memref sig c.2.kind sp s .i32) (q : PosShare TreeShare)
    (h : s.Idx → BitVec 32) : sProp 𝕄 :=
  m.view.loc c ↦[m.view.set]{q} (m.view.rep (Val := Elt F) h)

instance PS_storable (c : Thread nD τ) {sp : Space} {d : Fin 1 → ℕ} (m : Memref sig c.2.kind sp ⟨1, d⟩ .i32) (A : Finset ℕ) (q : PosShare TreeShare)
    (g : ℕ → BitVec 32) : BI.Storable (upEmb : UEmb _ 𝕄) (PS (F := F) c m A q g) := by unfold PS; infer_instance
instance PV_storable (c : Thread nD τ) {sp : Space} {s : Shape} (m : Memref sig c.2.kind sp s .i32) (q : PosShare TreeShare)
    (h : s.Idx → BitVec 32) : BI.Storable (upEmb : UEmb _ 𝕄) (PV (F := F) c m q h) := by unfold PV; infer_instance

section Laws

variable {c : Thread nD τ} {sp : Space} {s : Shape} {d : Fin 1 → ℕ}

/-- Contents of a view's elements, by what the view reads there. -/
theorem pts_rep (v : View sig c.2.kind sp s .i32) (M : Finset s.Idx) (q : PosShare TreeShare) (f : v.ty.Contents (Elt F)) (h : s.Idx → BitVec 32)
    (hr : ∀ x ∈ M, v.read (Elt F) f x = h x) :
    (v.loc c ↦[v.setOn M]{q} f : sProp 𝕄) = v.loc c ↦[v.setOn M]{q} (v.rep (Val := Elt F) h) := by
  refine pointsTo_congr fun i hi => ?_
  obtain ⟨x, hx, rfl⟩ := Finset.mem_map.mp hi
  have h1 := hr x hx
  have h2 : v.read (Elt F) (v.rep (Val := Elt F) h) x = h x := congrFun (View.read_rep v (Val := Elt F) h) x
  rw [← h2, View.read_apply, View.read_apply] at h1
  exact (cast_inj _).mp h1

theorem PS_congr {m : Memref sig c.2.kind sp ⟨1, d⟩ .i32} {A : Finset ℕ} {q : PosShare TreeShare} {g g' : ℕ → BitVec 32}
    (h : ∀ n ∈ A, n < d 0 → g n = g' n) : PS (F := F) c m A q g = PS c m A q g' := by
  unfold PS
  refine pts_rep _ _ _ _ _ fun x hx => ?_
  rw [View.read_rep]; exact h _ (mem_sel.mp hx) (x 0).isLt

theorem PS_set {m : Memref sig c.2.kind sp ⟨1, d⟩ .i32} {A B : Finset ℕ} {q : PosShare TreeShare} {g : ℕ → BitVec 32}
    (h : ∀ n, n < d 0 → (n ∈ A ↔ n ∈ B)) : PS (F := F) c m A q g = PS c m B q g := by
  unfold PS
  rw [show sel d A = sel d B from Finset.ext fun x => by rw [mem_sel, mem_sel]; exact h _ (x 0).isLt]

theorem PS_empty {m : Memref sig c.2.kind sp ⟨1, d⟩ .i32} {q : PosShare TreeShare} {g : ℕ → BitVec 32} :
    PS (F := F) c m ∅ q g = iprop(emp) := by
  unfold PS
  rw [show sel d ∅ = ∅ from by simp [sel]]
  rw [show m.view.setOn ∅ = ∅ from Finset.map_empty _]; exact pointsTo_empty

theorem sel_union (A B : Finset ℕ) : sel d (A ∪ B) = sel d A ∪ sel d B := by
  ext x; simp [sel]

theorem PS_union {m : Memref sig c.2.kind sp ⟨1, d⟩ .i32} {A B : Finset ℕ} {q : PosShare TreeShare} {g : ℕ → BitVec 32}
    (h : Disjoint A B) : PS (F := F) c m (A ∪ B) q g = iprop(PS c m A q g ∗ PS c m B q g) := by
  unfold PS
  rw [sel_union, show m.view.setOn (sel d A ∪ sel d B) = m.view.setOn (sel d A) ∪ m.view.setOn (sel d B) from Finset.map_union _ _]
  have hd : Disjoint (m.view.setOn (sel d A)) (m.view.setOn (sel d B)) := by
    refine (Finset.disjoint_map _).mpr (Finset.disjoint_left.mpr fun x hx hx' => ?_)
    exact Finset.disjoint_left.mp h (mem_sel.mp hx) (mem_sel.mp hx')
  exact Idealize.SL.BI.Entails.antisymm (pointsTo_union hd).1 (pointsTo_union hd).2

/-- Along a finite family of disjoint position sets. -/
theorem PS_biUnion {m : Memref sig c.2.kind sp ⟨1, d⟩ .i32} {q : PosShare TreeShare} {g : ℕ → BitVec 32} {T : Type} [DecidableEq T] (J : Finset T)
    (A : T → Finset ℕ) (h : ∀ t ∈ J, ∀ t' ∈ J, t ≠ t' → Disjoint (A t) (A t')) :
    PS (F := F) c m (J.biUnion A) q g = bigSep J fun t => PS c m (A t) q g := by
  induction J using Finset.induction_on with
  | empty => rw [Finset.biUnion_empty, PS_empty, bigSep_empty]; rfl
  | insert a J ha ih =>
    rw [Finset.biUnion_insert, bigSep_insert ha, PS_union, ih]
    · rfl
    · exact fun t ht t' ht' => h t (Finset.mem_insert_of_mem ht) t' (Finset.mem_insert_of_mem ht')
    · rw [Finset.disjoint_biUnion_right]
      exact fun t ht => h a (Finset.mem_insert_self _ _) t (Finset.mem_insert_of_mem ht) fun e => ha (e ▸ ht)

/-- The whole buffer as a set of positions. -/
theorem PS_full {m : Memref sig c.2.kind sp ⟨1, d⟩ .i32} {A : Finset ℕ} {q : PosShare TreeShare} {g : ℕ → BitVec 32}
    (h : ∀ n, n < d 0 → n ∈ A) : PS (F := F) c m A q g = PV c m q fun x => g (x 0).val := by
  unfold PS PV
  rw [show sel d A = Finset.univ from Finset.ext fun x => by rw [mem_sel]; simp [h _ (x 0).isLt], View.setOn_univ]

theorem PV_congr {m : Memref sig c.2.kind sp s .i32} {q : PosShare TreeShare} {h h' : s.Idx → BitVec 32} (e : ∀ x, h x = h' x) :
    PV (F := F) c m q h = PV c m q h' := by rw [funext e]

/-- Any holding of a whole view, by what it reads. -/
theorem PV_of (m : Memref sig c.2.kind sp s .i32) (q : PosShare TreeShare) (f : m.view.ty.Contents (Elt F)) :
    (m.view.loc c ↦[m.view.set]{q} f : sProp 𝕄) = PV c m q (m.view.read (Elt F) f) := by
  unfold PV
  rw [← View.setOn_univ]; exact pts_rep _ _ _ _ _ fun _ _ => rfl

/-- The position `n` as an index. -/
def ixOf (d : Fin 1 → ℕ) (n : ℕ) (h : n < d 0) : (⟨1, d⟩ : Shape).Idx := fun a => ⟨n, by rw [Fin.eq_zero a]; exact h⟩

theorem ixOf_val {n : ℕ} (h : n < d 0) : (ixOf d n h 0).val = n := rfl

theorem eq_ixOf (x : (⟨1, d⟩ : Shape).Idx) : x = ixOf d (x 0).val (x 0).isLt := by
  funext a; obtain rfl : a = 0 := Fin.eq_zero a; exact Fin.ext rfl

/-- Words by index as words by number. -/
def flat (h : (⟨1, d⟩ : Shape).Idx → BitVec 32) : ℕ → BitVec 32 := fun n => if hn : n < d 0 then h (ixOf d n hn) else 0

theorem flat_val (h : (⟨1, d⟩ : Shape).Idx → BitVec 32) (x : (⟨1, d⟩ : Shape).Idx) : flat h (x 0).val = h x := by
  unfold flat; rw [dif_pos (x 0).isLt, ← eq_ixOf]

theorem flat_lt (h : (⟨1, d⟩ : Shape).Idx → BitVec 32) {n : ℕ} (hn : n < d 0) : flat h n = h (ixOf d n hn) := dif_pos hn

theorem PV_flat {m : Memref sig c.2.kind sp ⟨1, d⟩ .i32} {q : PosShare TreeShare} (h : (⟨1, d⟩ : Shape).Idx → BitVec 32) {A : Finset ℕ}
    (hA : ∀ n, n < d 0 → n ∈ A) : PV (F := F) c m q h = PS c m A q (flat h) := by
  rw [PS_full hA]; exact PV_congr fun x => (flat_val h x).symm

/-- A unit slice of a buffer is the positions it covers. -/
theorem PS_slice {m : Memref sig c.2.kind sp ⟨1, d⟩ .i32} {q : PosShare TreeShare} {g : ℕ → BitVec 32} (off sz : Fin 1 → ℕ) (inb)
    (hst : ∀ a, (Rect.unit (s := ⟨1, d⟩) off sz inb).stride a = 1) (o n : ℕ) (ho : off 0 = o) (hn : sz 0 = n) :
    PV (F := F) c (m.slice (Rect.unit (s := ⟨1, d⟩) off sz inb) hst) q (fun x => g (o + (x 0).val)) = PS c m (Finset.Ico o (o + n)) q g := by
  subst ho hn
  have hset : (m.view.slice (Rect.unit (s := ⟨1, d⟩) off sz inb)).set = m.view.setOn (sel d (Finset.Ico (off 0) (off 0 + sz 0))) := by
    rw [View.set_slice]
    unfold View.setOn; congr 1
    ext x
    rw [mem_sel, Finset.mem_Ico]
    constructor
    · intro hx
      rw [← Rect.map_emb_univ] at hx
      obtain ⟨y, -, rfl⟩ := Finset.mem_map.mp hx
      have h1 : (((Rect.unit (s := ⟨1, d⟩) off sz inb).emb y) 0).val = off 0 + 1 * (y 0).val := Rect.emb_apply _ y 0
      have h2 : (y 0).val < sz 0 := (y 0).isLt
      rw [h1]; omega
    · rintro ⟨h1, h2⟩
      rw [← Rect.map_emb_univ]
      refine Finset.mem_map.mpr ⟨fun a => ⟨(x 0).val - off 0, by rw [Fin.eq_zero a]; show _ < sz 0; omega⟩, Finset.mem_univ _, ?_⟩
      funext a; obtain rfl : a = 0 := Fin.eq_zero a
      refine Fin.ext ?_
      rw [Rect.emb_apply]; simp only [Rect.unit]; omega
  unfold PV PS
  show (m.view.loc c ↦[(m.view.slice (Rect.unit (s := ⟨1, d⟩) off sz inb)).set]{q} _ : sProp 𝕄) = _
  have h := pts_rep (F := F) (c := c) (m.view.slice (Rect.unit (s := ⟨1, d⟩) off sz inb)) Finset.univ q
    (m.view.rep (Val := Elt F) fun x => g (x 0).val) (fun x => g (off 0 + (x 0).val)) (fun x _ => by
      show m.view.read (Elt F) _ ((Rect.unit (s := ⟨1, d⟩) off sz inb).emb x) = _
      rw [View.read_rep]
      have h1 := Rect.emb_apply (Rect.unit (s := ⟨1, d⟩) off sz inb) x 0
      simp only [Rect.unit, one_mul] at h1
      exact congrArg g h1)
  rw [View.setOn_univ] at h
  refine h.symm.trans ?_
  show (m.view.loc c ↦[(m.view.slice (Rect.unit (s := ⟨1, d⟩) off sz inb)).set]{q} _ : sProp 𝕄) = _
  rw [hset]

end Laws

/-! ## Steps -/

section Steps

variable {c : Thread nD τ} {d : Fin 1 → ℕ} {α : Type} {Q : α → sProp (MT nD τ sig (HIx 4) (Elt F) ℕ UU ℕ)}
variable {Λ : Labels} {defs : Defs nD τ sig (Elt F) Λ} (𝒱 : Variants) (bd : Option 𝒱.V) (E : Set ℕ)

theorem access_subset {cs : CoreSpace} {m : Memref sig c.2.kind cs ⟨1, d⟩ .i32} {A : Finset ℕ} {off sz : Fin 1 → ℕ} {inb}
    (hA : ∀ j, j < sz 0 → off 0 + j ∈ A) :
    (m.access (Rect.unit (s := ⟨1, d⟩) off sz inb)).set ⊆ m.view.setOn (sel d A) := by
  intro i hi
  obtain ⟨y, -, rfl⟩ := Finset.mem_map.mp hi
  show m.view.emb ((Rect.unit (s := ⟨1, d⟩) off sz inb).emb y) ∈ _
  rw [View.mem_setOn, mem_sel]
  have h1 := Rect.emb_apply (Rect.unit (s := ⟨1, d⟩) off sz inb) y 0
  simp only [Rect.unit, one_mul] at h1
  have h2 := hA (y 0).val (y 0).isLt
  rw [← h1] at h2; exact h2

theorem access_read {cs : CoreSpace} {m : Memref sig c.2.kind cs ⟨1, d⟩ .i32} {g : ℕ → BitVec 32} {off sz : Fin 1 → ℕ} {inb} :
    (m.access (Rect.unit (s := ⟨1, d⟩) off sz inb)).read (Elt F) (m.view.rep (Val := Elt F) fun x => g (x 0).val)
      = fun x => g (off 0 + (x 0).val) := by
  funext x
  show m.view.read (Elt F) _ ((Rect.unit (s := ⟨1, d⟩) off sz inb).emb x) = _
  rw [View.read_rep]
  have h1 := Rect.emb_apply (Rect.unit (s := ⟨1, d⟩) off sz inb) x 0
  simp only [Rect.unit, one_mul] at h1
  exact congrArg g h1

/-- A load of a run of positions. -/
theorem wp_ld {cs : CoreSpace} {m : Memref sig c.2.kind cs ⟨1, d⟩ .i32} {A : Finset ℕ} {q : PosShare TreeShare} {g : ℕ → BitVec 32}
    {off sz : Fin 1 → ℕ} {inb} {hl} {k : ((⟨1, sz⟩ : Shape).Idx → BitVec 32) → Prog (TpuEff nD τ sig (Elt F) Λ c.2) α}
    (hA : ∀ j, j < sz 0 → off 0 + j ∈ A) :
    PS (F := F) c m A q g
      ⊢ iprop((PS c m A q g -∗ wp frame (wpE defs 𝒱 c bd) E (k fun x => g (off 0 + (x 0).val)) Q)
        -∗ wp frame (wpE defs 𝒱 c bd) E (.op (.load m (Rect.unit (s := ⟨1, d⟩) off sz inb).toLoadRect hl) k) Q) := by
  have h := wp_load_rect (defs := defs) (Γ := []) 𝒱 c bd E (Q := Q) (m := m) (r := Rect.unit (s := ⟨1, d⟩) off sz inb) (hl := hl) (k := k) (q := q)
    (f := m.view.rep (Val := Elt F) fun x => g (x 0).val) (access_subset hA)
  rw [access_read] at h
  exact h

/-- A store of a run of positions, to the contents `g'`. -/
theorem wp_st {cs : CoreSpace} {m : Memref sig c.2.kind cs ⟨1, d⟩ .i32} {A : Finset ℕ} {g : ℕ → BitVec 32} (g' : ℕ → BitVec 32)
    {off sz : Fin 1 → ℕ} {inb} {w : (⟨1, sz⟩ : Shape).Idx → BitVec 32} {hx hm} {k : PUnit → Prog (TpuEff nD τ sig (Elt F) Λ c.2) α}
    (hA : ∀ j, j < sz 0 → off 0 + j ∈ A) (hin : ∀ x, g' (off 0 + (x 0).val) = w x)
    (hout : ∀ n ∈ A, (n < off 0 ∨ off 0 + sz 0 ≤ n) → g' n = g n) :
    PS (F := F) c m A fullShare g
      ⊢ iprop((PS c m A fullShare g' -∗ wp frame (wpE defs 𝒱 c bd) E (k ⟨⟩) Q)
        -∗ wp frame (wpE defs 𝒱 c bd) E (.op (.store m (Rect.unit (s := ⟨1, d⟩) off sz inb) w Finset.univ hx hm) k) Q) := by
  have h := wp_store (defs := defs) (Γ := []) 𝒱 c bd E (Q := Q) (m := m) (r := Rect.unit (s := ⟨1, d⟩) off sz inb) (w := w) (Mk := Finset.univ) (hx := hx) (hm := hm)
    (k := k) (f := m.view.rep (Val := Elt F) fun x => g (x 0).val) (S := m.view.setOn (sel d A)) (by rw [View.setOn_univ]; exact access_subset hA)
  have e : (m.view.loc c ↦[m.view.setOn (sel d A)]{fullShare}
        ((m.access (Rect.unit (s := ⟨1, d⟩) off sz inb)).write (Elt F) (m.view.rep (Val := Elt F) fun x => g (x 0).val) w Finset.univ) : sProp 𝕄)
      = PS c m A fullShare g' := by
    unfold PS
    refine pts_rep _ _ _ _ _ fun x hx => ?_
    have hxA := mem_sel.mp hx
    by_cases hr : off 0 ≤ (x 0).val ∧ (x 0).val < off 0 + sz 0
    · let y : (⟨1, sz⟩ : Shape).Idx := fun a => ⟨(x 0).val - off 0, by rw [Fin.eq_zero a]; show _ < sz 0; omega⟩
      have hy : (Rect.unit (s := ⟨1, d⟩) off sz inb).emb y = x := by
        funext a; obtain rfl : a = 0 := Fin.eq_zero a
        refine Fin.ext ?_
        rw [Rect.emb_apply]; simp only [Rect.unit, y]; omega
      rw [← hy]
      refine ((congrFun (View.read_write_univ (Val := Elt F) (v := m.access (Rect.unit (s := ⟨1, d⟩) off sz inb)) _ w) y).trans (hin y).symm).trans ?_
      congr 1
      rw [hy]; show off 0 + ((x 0).val - off 0) = _; omega
    · have hn : m.view.emb x ∉ (m.access (Rect.unit (s := ⟨1, d⟩) off sz inb)).set := by
        intro hi
        obtain ⟨y, -, hy⟩ := Finset.mem_map.mp hi
        have hy' : (Rect.unit (s := ⟨1, d⟩) off sz inb).emb y = x := m.view.emb.injective hy
        have h1 := Rect.emb_apply (Rect.unit (s := ⟨1, d⟩) off sz inb) y 0
        rw [hy'] at h1
        simp only [Rect.unit, one_mul] at h1
        have h2 : (y 0).val < sz 0 := (y 0).isLt
        exact hr ⟨by omega, by omega⟩
      rw [View.read_apply, View.write_of_not_mem _ _ _ (by rwa [View.setOn_univ]), ← View.read_apply, View.read_rep]
      exact (hout _ hxA (by omega)).symm
  rw [e] at h
  exact h

theorem whole_access_subset {cs : CoreSpace} {m : Memref sig c.2.kind cs ⟨1, d⟩ .i32} :
    (m.access (.whole ⟨1, d⟩)).set = m.view.set := by
  rw [View.set_slice, Rect.set_whole]; rfl

theorem whole_access_read {cs : CoreSpace} {m : Memref sig c.2.kind cs ⟨1, d⟩ .i32} (f : m.view.ty.Contents (Elt F)) :
    (m.access (.whole ⟨1, d⟩)).read (Elt F) f = m.view.read (Elt F) f := by
  funext x
  show m.view.read (Elt F) f ((Rect.whole ⟨1, d⟩).emb x) = _
  rw [Rect.emb_whole_apply]

/-- The number an index vector names at a lane. -/
theorem wp_gather {m : Memref sig c.2.kind .vmem ⟨1, d⟩ .i32} {A : Finset ℕ} {q : PosShare TreeShare} {g : ℕ → BitVec 32} {t : Shape}
    {idxs : Fin 1 → IVec t 32} {h : ∀ a x, (idxs a x).toNat < (⟨1, d⟩ : Shape).size a} {hl} {k : (t.Idx → BitVec 32) → Prog (TpuEff nD τ sig (Elt F) Λ c.2) α}
    (hA : ∀ n, n < d 0 → n ∈ A) :
    PS (F := F) c m A q g
      ⊢ iprop((PS c m A q g -∗ wp frame (wpE defs 𝒱 c bd) E (k fun x => g (idxs 0 x).toNat) Q)
        -∗ wp frame (wpE defs 𝒱 c bd) E (SparseCore.vectorLoadIdx (F := F) m idxs h hl >>= k) Q) := by
  rw [PS_full hA]
  unfold PV
  have hh := SparseCore.wp_vectorLoadIdx (defs := defs) 𝒱 c bd E (Q := Q) (base := m) (idxs := idxs) (h := h) (hl := hl) (k := k) (q := q)
    (f := m.view.rep (Val := Elt F) fun x => g (x 0).val) (S := m.view.set) (by rw [whole_access_subset])
  rw [whole_access_read, View.read_rep] at hh
  exact hh

/-- The indexed store that adds, to the contents `g'`. -/
theorem wp_scadd {m : Memref sig c.2.kind .vmem ⟨1, d⟩ .i32} {A : Finset ℕ} {g : ℕ → BitVec 32} (g' : ℕ → BitVec 32) {t : Fin 1 → ℕ}
    {idxs : Fin 1 → IVec ⟨1, t⟩ 32} {v : (⟨1, t⟩ : Shape).Idx → BitVec 32} {mask : IVec ⟨1, t⟩ 1} {add : Bool}
    {h : ∀ a x, (idxs a x).toNat < (⟨1, d⟩ : Shape).size a} {hs} {k : PUnit → Prog (TpuEff nD τ sig (Elt F) Λ c.2) α}
    (hA : ∀ n, n < d 0 → n ∈ A)
    (hg : ∀ x, storeIdx (F := F) (s := ⟨1, d⟩) (e := .i32) (fun x => g (x 0).val) idxs v mask add h x = g' (x 0).val) :
    PS (F := F) c m A fullShare g
      ⊢ iprop((PS c m A fullShare g' -∗ wp frame (wpE defs 𝒱 c bd) E (k ⟨⟩) Q)
        -∗ wp frame (wpE defs 𝒱 c bd) E (SparseCore.vectorStoreIdx (F := F) m idxs v mask add h hs >>= k) Q) := by
  rw [PS_full hA, PS_full hA]
  have hh := SparseCore.wp_vectorStoreIdx (defs := defs) 𝒱 c bd E (Q := Q) (base := m) (idxs := idxs) (v := v) (mask := mask) (add := add) (h := h) (hs := hs)
    (k := k) (f := m.view.rep (Val := Elt F) fun x => g (x 0).val)
  have e : ((m.access (.whole ⟨1, d⟩)).loc c ↦[(m.access (.whole ⟨1, d⟩)).set]{fullShare}
      ((m.access (.whole ⟨1, d⟩)).write (Elt F) (m.view.rep (Val := Elt F) fun x => g (x 0).val)
        (storeIdx ((m.access (.whole ⟨1, d⟩)).read (Elt F) (m.view.rep (Val := Elt F) fun x => g (x 0).val)) idxs v mask add h) Finset.univ) : sProp 𝕄)
      = PV c m fullShare fun x => g' (x 0).val := by
    rw [whole_access_subset]
    show (m.view.loc c ↦[m.view.set]{fullShare} _ : sProp 𝕄) = _
    rw [PV_of]
    refine PV_congr fun x => ?_
    rw [← whole_access_read, View.read_write_univ, whole_access_read, View.read_rep]
    exact hg x
  rw [e] at hh
  rw [whole_access_subset] at hh
  exact hh

/-- The word of a one-word buffer read. -/
theorem wp_smld {m : Memref sig c.2.kind .smem ⟨1, d⟩ .i32} {A : Finset ℕ} {q : PosShare TreeShare} {g : ℕ → BitVec 32} {off sz : Fin 1 → ℕ} {inb}
    {hn hp} {k : BitVec 32 → Prog (TpuEff nD τ sig (Elt F) Λ c.2) α} (hA : ∀ n, n < d 0 → n ∈ A) (ho : off 0 = 0) (h1 : sz 0 = 1) (hd : d 0 = 1) :
    PS (F := F) c m A q g
      ⊢ iprop((PS c m A q g -∗ wp frame (wpE defs 𝒱 c bd) E (k (g 0)) Q)
        -∗ wp frame (wpE defs 𝒱 c bd) E (smemLoad (Val := Elt F) m (Rect.unit (s := ⟨1, d⟩) off sz inb) hn hp >>= k) Q) := by
  have h := wp_smemLoadElt (defs := defs) (Γ := []) 𝒱 c bd E (Q := Q) (m := m) (r := Rect.unit (s := ⟨1, d⟩) off sz inb) (hw := View.loads_smem_one hp hn)
    (x := Shape.Idx.first (hn.symm ▸ Nat.one_pos)) (k := k) (q := q) (f := m.view.rep (Val := Elt F) fun x => g (x 0).val) (S := m.view.setOn (sel d A))
    (access_subset fun j hj => hA _ (by omega))
  rw [access_read] at h
  have h0 : ∀ y : (⟨1, sz⟩ : Shape).Idx, off 0 + (y 0).val = 0 := fun y => by
    have : (y 0).val < sz 0 := (y 0).isLt
    omega
  have h2 : g (off 0 + ((Shape.Idx.first (s := ⟨1, sz⟩) (hn.symm ▸ Nat.one_pos : 0 < (⟨1, sz⟩ : Shape).numel)) 0).val) = g 0 := by rw [h0]
  have e2 : (fun x : (⟨1, sz⟩ : Shape).Idx => g (off 0 + (x 0).val)) (Shape.Idx.first (s := ⟨1, sz⟩) (hn.symm ▸ Nat.one_pos)) = g 0 := h2
  change _ ⊢ iprop((_ -∗ wp frame (wpE defs 𝒱 c bd) E (k ((fun x : (⟨1, sz⟩ : Shape).Idx => g (off 0 + (x 0).val)) (Shape.Idx.first (s := ⟨1, sz⟩) (hn.symm ▸ Nat.one_pos)))) Q) -∗ _) at h
  rw [e2] at h
  exact h

end Steps

end Cert.Proof.Sorting
-- ==== Proof.Count.lean ====
/-
  Counting: the place of every key in a stable sort by counting, as sums of counts.
-/
module

public import proofs.«01_k».proof.Proof.Base

@[expose] public section

namespace Cert.Proof.Sorting

/-- How many of the keys `lo … hi-1` equal `b`. -/
def cn (K : ℕ → ℕ) (lo hi b : ℕ) : ℕ := ((Finset.Ico lo hi).filter fun e => K e = b).card

/-- How many of the first `N` keys lie in `lo … hi-1`. -/
def bt (K : ℕ → ℕ) (N lo hi : ℕ) : ℕ := ((Finset.range N).filter fun e => lo ≤ K e ∧ K e < hi).card

theorem cn_add (K : ℕ → ℕ) {lo mid hi : ℕ} (b : ℕ) (h : lo ≤ mid) (h' : mid ≤ hi) : cn K lo mid b + cn K mid hi b = cn K lo hi b := by
  unfold cn
  rw [← Finset.card_union_of_disjoint, ← Finset.filter_union, Finset.Ico_union_Ico_eq_Ico h h']
  exact Finset.disjoint_filter_filter (Finset.Ico_disjoint_Ico_consecutive _ _ _)

theorem cn_self (K : ℕ → ℕ) (lo b : ℕ) : cn K lo lo b = 0 := by unfold cn; simp

theorem cn_le (K : ℕ → ℕ) (lo hi b : ℕ) : cn K lo hi b ≤ hi - lo := by
  unfold cn; exact (Finset.card_filter_le _ _).trans (by simp)

theorem cn_pos {K : ℕ → ℕ} {lo hi e : ℕ} (h : lo ≤ e) (h' : e < hi) : 0 < cn K lo hi (K e) :=
  Finset.card_pos.mpr ⟨e, Finset.mem_filter.mpr ⟨Finset.mem_Ico.mpr ⟨h, h'⟩, rfl⟩⟩

theorem cn_succ (K : ℕ → ℕ) {lo e : ℕ} (h : lo ≤ e) : cn K lo (e + 1) (K e) = cn K lo e (K e) + 1 := by
  rw [← cn_add K (K e) h (Nat.le_succ e)]
  congr 1
  unfold cn
  rw [Nat.Ico_succ_singleton, Finset.filter_singleton, if_pos rfl, Finset.card_singleton]

theorem bt_add (K : ℕ → ℕ) (N : ℕ) {lo mid hi : ℕ} (h : lo ≤ mid) (h' : mid ≤ hi) : bt K N lo mid + bt K N mid hi = bt K N lo hi := by
  unfold bt
  rw [← Finset.card_union_of_disjoint]
  · congr 1; ext e
    simp only [Finset.mem_union, Finset.mem_filter]
    constructor
    · rintro (⟨a, b, c⟩ | ⟨a, b, c⟩) <;> exact ⟨a, by omega, by omega⟩
    · rintro ⟨a, b, c⟩
      by_cases hm : K e < mid
      · exact .inl ⟨a, b, hm⟩
      · exact .inr ⟨a, by omega, c⟩
  · refine Finset.disjoint_left.mpr fun e he he' => ?_
    have h1 := (Finset.mem_filter.mp he).2; have h2 := (Finset.mem_filter.mp he').2
    omega

theorem bt_self (K : ℕ → ℕ) (N lo : ℕ) : bt K N lo lo = 0 := by
  unfold bt; refine Finset.card_eq_zero.mpr (Finset.filter_eq_empty_iff.mpr fun e _ h => by omega)

theorem bt_one (K : ℕ → ℕ) (N b : ℕ) : bt K N b (b + 1) = cn K 0 N b := by
  unfold bt cn
  rw [Finset.range_eq_Ico]
  congr 1; ext e; simp only [Finset.mem_filter]
  exact and_congr_right fun _ => by omega

/-- A block of bins' keys: the sum of the bins' counts. -/
theorem bt_sum (K : ℕ → ℕ) (N lo n : ℕ) : ∑ j ∈ Finset.range n, cn K 0 N (lo + j) = bt K N lo (lo + n) := by
  induction n with
  | zero => rw [Finset.sum_range_zero, Nat.add_zero, bt_self]
  | succ n ih =>
    rw [Finset.sum_range_succ, ih, ← bt_one, ← Nat.add_assoc]
    exact bt_add K N (Nat.le_add_right _ _) (Nat.le_succ _)

/-- The place of key `e` among the first `N` keys, equal keys in their order. -/
def pos (K : ℕ → ℕ) (N e : ℕ) : ℕ := ((Finset.range N).filter fun e' => K e' < K e ∨ (K e' = K e ∧ e' < e)).card

theorem pos_eq (K : ℕ → ℕ) {N e : ℕ} (h : e < N) : pos K N e = bt K N 0 (K e) + cn K 0 e (K e) := by
  unfold pos bt cn
  rw [← Finset.card_union_of_disjoint]
  · congr 1; ext e'
    simp only [Finset.mem_union, Finset.mem_filter, Finset.mem_range, Finset.mem_Ico]
    omega
  · refine Finset.disjoint_left.mpr fun a ha ha' => ?_
    have h1 := (Finset.mem_filter.mp ha).2; have h2 := (Finset.mem_filter.mp ha').2
    omega

theorem pos_lt (K : ℕ → ℕ) {N e : ℕ} (h : e < N) : pos K N e < N := by
  have : pos K N e < (Finset.range N).card := Finset.card_lt_card (Finset.filter_ssubset.mpr ⟨e, Finset.mem_range.mpr h, by omega⟩)
  rwa [Finset.card_range] at this

theorem pos_mono (K : ℕ → ℕ) {N e e' : ℕ} (he : e < N) (h : K e < K e' ∨ (K e = K e' ∧ e < e')) : pos K N e < pos K N e' := by
  refine Finset.card_lt_card ⟨?_, ?_⟩
  · intro a ha
    have h1 := Finset.mem_filter.mp ha
    exact Finset.mem_filter.mpr ⟨h1.1, by omega⟩
  · intro hs
    have h1 := hs (Finset.mem_filter.mpr ⟨Finset.mem_range.mpr he, h⟩)
    have h2 := (Finset.mem_filter.mp h1).2
    omega

theorem pos_inj (K : ℕ → ℕ) {N e e' : ℕ} (he : e < N) (he' : e' < N) (h : pos K N e = pos K N e') : e = e' := by
  by_contra hne
  rcases lt_trichotomy (K e) (K e') with h1 | h1 | h1
  · have := pos_mono K he (.inl h1); omega
  · rcases Nat.lt_or_ge e e' with h2 | h2
    · have := pos_mono K he (.inr ⟨h1, h2⟩); omega
    · have := pos_mono K he' (.inr ⟨h1.symm, by omega⟩); omega
  · have := pos_mono K he' (.inl h1); omega

theorem pos_surj (K : ℕ → ℕ) {N p : ℕ} (hp : p < N) : ∃ e, e < N ∧ pos K N e = p := by
  have hs := Finset.surj_on_of_inj_on_of_card_le (s := Finset.range N) (t := Finset.range N) (fun e _ => pos K N e)
    (fun e he => Finset.mem_range.mpr (pos_lt K (Finset.mem_range.mp he)))
    (fun e e' he he' h => pos_inj K (Finset.mem_range.mp he) (Finset.mem_range.mp he') h) (le_refl _) p (Finset.mem_range.mpr hp)
  obtain ⟨e, he, h⟩ := hs
  exact ⟨e, Finset.mem_range.mp he, h.symm⟩

open scoped Classical in
/-- The key at place `p`. -/
noncomputable def inv (K : ℕ → ℕ) (N p : ℕ) : ℕ := if h : ∃ e, e < N ∧ pos K N e = p then h.choose else 0

theorem inv_pos (K : ℕ → ℕ) {N e : ℕ} (h : e < N) : inv K N (pos K N e) = e := by
  have hx : ∃ e', e' < N ∧ pos K N e' = pos K N e := ⟨e, h, rfl⟩
  unfold inv; rw [dif_pos hx]
  exact pos_inj K hx.choose_spec.1 h hx.choose_spec.2

/-- The places of the keys `lo … hi-1`. -/
def img (K : ℕ → ℕ) (N lo hi : ℕ) : Finset ℕ := (Finset.Ico lo hi).image (pos K N)

theorem mem_img (K : ℕ → ℕ) (N lo hi n : ℕ) : n ∈ img K N lo hi ↔ ∃ e, lo ≤ e ∧ e < hi ∧ pos K N e = n := by
  unfold img; simp only [Finset.mem_image, Finset.mem_Ico, and_assoc]

theorem img_union (K : ℕ → ℕ) (N : ℕ) {lo mid hi : ℕ} (h : lo ≤ mid) (h' : mid ≤ hi) : img K N lo mid ∪ img K N mid hi = img K N lo hi := by
  unfold img; rw [← Finset.image_union, Finset.Ico_union_Ico_eq_Ico h h']

theorem img_disj (K : ℕ → ℕ) (N : ℕ) {lo mid lo' hi : ℕ} (h : mid ≤ lo') (h' : hi ≤ N) : Disjoint (img K N lo mid) (img K N lo' hi) := by
  refine Finset.disjoint_left.mpr fun n hn hn' => ?_
  obtain ⟨e, h1, h2, rfl⟩ := (mem_img _ _ _ _ _).mp hn
  obtain ⟨e', h3, h4, h5⟩ := (mem_img _ _ _ _ _).mp hn'
  have := pos_inj K (by omega) (by omega) h5
  omega

theorem img_all (K : ℕ → ℕ) (N : ℕ) : img K N 0 N = Finset.range N := by
  ext n; rw [mem_img, Finset.mem_range]
  constructor
  · rintro ⟨e, -, h, rfl⟩; exact pos_lt K h
  · intro h; obtain ⟨e, h1, h2⟩ := pos_surj K h; exact ⟨e, Nat.zero_le _, h1, h2⟩

/-- What is at place `p` when the key of each place brings its value. -/
noncomputable def res {α : Type} (K : ℕ → ℕ) (Vv : ℕ → α) (N p : ℕ) : α := Vv (inv K N p)

theorem res_pos {α : Type} (K : ℕ → ℕ) (Vv : ℕ → α) {N e : ℕ} (h : e < N) : res K Vv N (pos K N e) = Vv e := by
  unfold res; rw [inv_pos K h]

end Cert.Proof.Sorting
-- ==== Proof.Words.lean ====
/-
  What the vector operations of the sort compute, in counts.
-/
module

public import proofs.«01_k».proof.Proof.Mem
public import proofs.«01_k».proof.Proof.Count
public import Mathlib.Data.BitVec

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

/-- A word's number. -/
abbrev kn (k : ℕ → BitVec 32) : ℕ → ℕ := fun e => (k e).toNat

/-- A number's word. -/
abbrev W (n : ℕ) : BitVec 32 := BitVec.ofNat 32 n

theorem W_add (a b : ℕ) : W a + W b = W (a + b) := (BitVec.ofNat_add a b).symm

theorem W_toNat {n : ℕ} (h : n < 4294967296) : (W n).toNat = n := by
  rw [BitVec.toNat_ofNat]; exact Nat.mod_eq_of_lt h

theorem W_kn (k : ℕ → BitVec 32) (e : ℕ) : W (kn k e) = k e := by
  apply BitVec.eq_of_toNat_eq; rw [BitVec.toNat_ofNat]; exact Nat.mod_eq_of_lt (k e).isLt

/-- A key with its rank among the equal keys from `base` on. -/
def pk (k : ℕ → BitVec 32) (base e : ℕ) : BitVec 32 := W (kn k e + 16384 * cn (kn k) base e (kn k e))

theorem pk_and (k : ℕ → BitVec 32) (base e : ℕ) (h : kn k e < 10000) : pk k base e &&& 16383#32 = k e := by
  apply BitVec.eq_of_toNat_eq
  rw [BitVec.toNat_and]
  show (pk k base e).toNat &&& 16383 = _
  have : (16383 : ℕ) = 2 ^ 14 - 1 := rfl
  rw [this, Nat.and_two_pow_sub_one_eq_mod]
  unfold pk; rw [BitVec.toNat_ofNat]
  have h2 : kn k e = (k e).toNat := rfl
  omega

theorem pk_shr (k : ℕ → BitVec 32) (base e : ℕ) (h : kn k e < 10000) (h' : e - base < 20000) :
    (pk k base e).sshiftRight' 14#32 = W (cn (kn k) base e (kn k e)) := by
  have hc := cn_le (kn k) base e (kn k e)
  have hp : (pk k base e).toNat = kn k e + 16384 * cn (kn k) base e (kn k e) := W_toNat (by omega)
  show (pk k base e).sshiftRight 14 = _
  rw [BitVec.sshiftRight_eq_of_msb_false]
  · apply BitVec.eq_of_toNat_eq
    rw [BitVec.toNat_ushiftRight, hp, W_toNat (by omega), Nat.shiftRight_eq_div_pow]
    show _ / 16384 = _
    omega
  · rw [BitVec.msb_eq_false_iff_two_mul_lt, hp]; omega

section Lanes

variable {k : ℕ → BitVec 32} {e0 : ℕ} {v : Vec F S16 .i32}

theorem rm16 (x : S16.Idx) : (S16.rowMajor x).val = (x 0).val := Shape.rowMajor_val_one x

theorem i16 (x : S16.Idx) : (x 0).val < 16 := (x 0).isLt

theorem counts_eq (hv : ∀ x, v x = k (e0 + (x 0).val)) (x : S16.Idx) :
    (scanCount (broadcast S16 1#1) v).2 x = W (cn (kn k) e0 (e0 + (x 0).val + 1) (kn k (e0 + (x 0).val))) := by
  unfold scanCount; dsimp only
  rw [if_pos (show broadcast S16 (1#1 : BitVec 1) x = 1 from rfl)]
  congr 1
  unfold cn
  refine Finset.card_bij (fun j _ => e0 + (j 0).val) ?_ ?_ ?_
  · intro j hj
    obtain ⟨-, h1, -, h3⟩ := Finset.mem_filter.mp hj
    replace h1 : (S16.rowMajor j).val ≤ (S16.rowMajor x).val := h1
    rw [rm16, rm16] at h1
    have h4 : v j = v x := h3
    rw [hv, hv] at h4
    exact Finset.mem_filter.mpr ⟨Finset.mem_Ico.mpr ⟨by omega, by omega⟩, congrArg BitVec.toNat h4⟩
  · intro a _ b _ h
    funext i; obtain rfl : i = 0 := Fin.eq_zero i
    exact Fin.ext (by omega)
  · intro b hb
    obtain ⟨h1, h2⟩ := Finset.mem_filter.mp hb
    obtain ⟨h3, h4⟩ := Finset.mem_Ico.mp h1
    have hx := i16 x
    have hlt : b - e0 < S16.size 0 := show b - e0 < 16 by omega
    refine ⟨ixOf _ (b - e0) hlt, Finset.mem_filter.mpr ⟨Finset.mem_univ _, ?_, rfl, ?_⟩, ?_⟩
    · show (S16.rowMajor _).val ≤ (S16.rowMajor x).val
      rw [rm16, rm16]; show b - e0 ≤ _; omega
    · rw [hv, hv]
      apply BitVec.eq_of_toNat_eq
      show kn k (e0 + (b - e0)) = _
      rw [show e0 + (b - e0) = b by omega, h2]
    · show e0 + (b - e0) = b; omega

theorem last_iff (hv : ∀ x, v x = k (e0 + (x 0).val)) (x : S16.Idx) :
    (scanCount (broadcast S16 1#1) v).1 x = 1 ↔ ∀ j, (x 0).val < j → j < 16 → kn k (e0 + j) ≠ kn k (e0 + (x 0).val) := by
  unfold scanCount; dsimp only
  constructor
  · intro h j hj hj' he
    split at h
    case isFalse => exact absurd h (by decide)
    rename_i hc
    refine hc.2 (ixOf ![16] j hj') ?_ ⟨rfl, ?_⟩
    · rw [rm16, rm16]; exact hj
    · rw [hv, hv]; exact BitVec.eq_of_toNat_eq he
  · intro h
    split
    · rfl
    · rename_i hn
      refine absurd ⟨rfl, fun j hj hc => ?_⟩ hn
      rw [rm16, rm16] at hj
      have h4 : v j = v x := hc.2
      rw [hv, hv] at h4
      exact h _ hj (i16 j) (congrArg BitVec.toNat h4)

theorem storeIdx_add {s : Shape} {d : Fin 1 → ℕ} (f : s.Idx → BitVec 32) (idxs : Fin s.rank → IVec ⟨1, d⟩ 32) (w : (⟨1, d⟩ : Shape).Idx → BitVec 32) (mask : IVec ⟨1, d⟩ 1) (h) (x : s.Idx) :
    storeIdx (F := F) (e := .i32) f idxs w mask true h x
      = f x + ∑ l : Fin (d 0), if mask (Shape.ofLane l) = 1 ∧ ∀ a, (x a).val = (idxAt idxs h (Shape.ofLane l) a).val then w (Shape.ofLane l) else 0 := by
  unfold storeIdx
  rw [Fin.sum_univ_def]
  generalize List.finRange (d 0) = L
  induction L generalizing f with
  | nil => simp
  | cons l L ih =>
    rw [List.foldl_cons, ih, List.map_cons, List.sum_cons, ← add_assoc]
    congr 1
    by_cases hm : mask (Shape.ofLane l) = 1
    · rw [if_pos hm]
      by_cases hx : ∀ a, (x a).val = (idxAt idxs h (Shape.ofLane l) a).val
      · rw [if_pos hx, if_pos rfl, if_pos ⟨hm, hx⟩]
        obtain rfl : x = idxAt idxs h (Shape.ofLane l) := funext fun a => Fin.ext (hx a)
        rfl
      · rw [if_neg hx, if_neg (fun hc => hx hc.2)]; simp
    · rw [if_neg hm, if_neg (fun hc => hm hc.1)]; simp

theorem scatter_eq (hv : ∀ x, v x = k (e0 + (x 0).val)) (base : ℕ) (hb : base ≤ e0) (h) (x : S10240.Idx) :
    storeIdx (F := F) (e := .i32) (s := S10240) (d := ![16]) (fun x => W (cn (kn k) base e0 (x 0).val)) ![v] (scanCount (broadcast S16 1#1) v).2 (scanCount (broadcast S16 1#1) v).1 true h x
      = W (cn (kn k) base (e0 + 16) (x 0).val) := by
  refine (storeIdx_add (F := F) (s := S10240) (d := ![16]) (fun x => W (cn (kn k) base e0 (x 0).val)) ![v] _ _ h x).trans ?_
  obtain ⟨b, hbd⟩ : ∃ b, b = (x 0).val := ⟨_, rfl⟩
  show W (cn (kn k) base e0 (x 0).val) + _ = _
  rw [← hbd]
  rw [← cn_add (kn k) b hb (Nat.le_add_right e0 16), ← W_add]
  refine congrArg (fun z => W (cn (kn k) base e0 b) + z) ?_
  have hval : ∀ l : Fin 16, (Shape.ofLane (d := ![16]) l 0).val = l.val := fun l => rfl
  have hcond : ∀ l : Fin 16, (∀ a, (x a).val = (idxAt (s := S10240) (t := S16) ![v] h (Shape.ofLane (d := ![16]) l) a).val) ↔ kn k (e0 + l.val) = b := fun l => by
    constructor
    · intro hc
      have h1 := hc 0
      have h2 : (idxAt (s := S10240) (t := S16) ![v] h (Shape.ofLane (d := ![16]) l) 0).val = (v (Shape.ofLane (d := ![16]) l) : BitVec 32).toNat := rfl
      rw [h2, hv, hval] at h1
      rw [hbd]; exact h1.symm
    · intro hc a
      obtain rfl : a = 0 := Fin.eq_zero a
      have h2 : (idxAt (s := S10240) (t := S16) ![v] h (Shape.ofLane (d := ![16]) l) 0).val = (v (Shape.ofLane (d := ![16]) l) : BitVec 32).toNat := rfl
      rw [h2, hv, hval, ← hbd]
      exact hc.symm
  by_cases hex : ∃ j, j < 16 ∧ kn k (e0 + j) = b
  · obtain ⟨m, ⟨hm1, hm2⟩, hmax⟩ : ∃ m, (m < 16 ∧ kn k (e0 + m) = b) ∧ ∀ j, m < j → j < 16 → kn k (e0 + j) ≠ b := by
      obtain ⟨j, hj, hjb⟩ := hex
      have := Finset.exists_max_image ((Finset.range 16).filter fun j => kn k (e0 + j) = b) id ⟨j, Finset.mem_filter.mpr ⟨Finset.mem_range.mpr hj, hjb⟩⟩
      obtain ⟨m, hm, hmax⟩ := this
      have hm' := Finset.mem_filter.mp hm
      refine ⟨m, ⟨Finset.mem_range.mp hm'.1, hm'.2⟩, fun i hi hi' he => ?_⟩
      have := hmax i (Finset.mem_filter.mpr ⟨Finset.mem_range.mpr hi', he⟩)
      simp only [id] at this; omega
    refine (Finset.sum_eq_single (⟨m, hm1⟩ : Fin 16) ?_ ?_).trans ?_
    · intro l _ hl
      rw [if_neg]
      rintro ⟨h1, h2⟩
      have h3 := (hcond l).mp h2
      have h4 := (last_iff hv _).mp h1
      rw [hval] at h4
      rcases Nat.lt_trichotomy l.val m with h5 | h5 | h5
      · exact h4 m h5 hm1 (by rw [h3, hm2])
      · exact hl (Fin.ext h5)
      · exact hmax _ h5 l.isLt h3
    · intro hc; exact absurd (Finset.mem_univ _) hc
    · rw [if_pos ⟨(last_iff hv _).mpr (by rw [hval]; intro j h1 h2; show _ ≠ kn k (e0 + m); rw [hm2]; exact hmax j h1 h2), (hcond _).mpr hm2⟩]
      rw [counts_eq hv, hval]
      congr 1
      show cn (kn k) e0 (e0 + m + 1) (kn k (e0 + m)) = _
      rw [hm2, ← cn_add (kn k) b (show e0 ≤ e0 + m + 1 by omega) (show e0 + m + 1 ≤ e0 + 16 by omega)]
      have : cn (kn k) (e0 + m + 1) (e0 + 16) b = 0 := by
        unfold cn
        refine Finset.card_eq_zero.mpr (Finset.filter_eq_empty_iff.mpr fun e he hc => ?_)
        have he' := Finset.mem_Ico.mp he
        refine hmax (e - e0) (by omega) (by omega) ?_
        rw [show e0 + (e - e0) = e by omega]; exact hc
      omega
  · have : cn (kn k) e0 (e0 + 16) b = 0 := by
      unfold cn
      refine Finset.card_eq_zero.mpr (Finset.filter_eq_empty_iff.mpr fun e he hc => ?_)
      have he' := Finset.mem_Ico.mp he
      refine hex ⟨e - e0, by omega, ?_⟩
      rw [show e0 + (e - e0) = e by omega]; exact hc
    rw [this]
    refine Finset.sum_eq_zero fun l _ => if_neg ?_
    rintro ⟨-, h2⟩
    exact hex ⟨l.val, l.isLt, (hcond l).mp h2⟩

theorem pack_eq (hv : ∀ x, v x = k (e0 + (x 0).val)) (base : ℕ) (hb : base ≤ e0) (hbe : e0 - base < 100000) {cur : Vec F S16 .i32}
    (hcur : ∀ x, cur x = W (cn (kn k) base e0 (kn k (e0 + (x 0).val)))) (x : S16.Idx) :
    addi v (shli (subi (addi cur (scanCount (broadcast S16 1#1) v).2) (broadcast S16 1#32)) (broadcast S16 14#32)) x = pk k base (e0 + (x 0).val) := by
  show IntOp.addi (v x) (IntOp.shli .vector (IntOp.subi (IntOp.addi (cur x) _) 1#32) 14#32) = _
  rw [counts_eq hv, hv, hcur]
  unfold IntOp.addi IntOp.shli IntOp.subi
  rw [if_pos (by decide)]
  set e := e0 + (x 0).val with he
  have h1 := cn_add (kn k) (kn k e) hb (show e0 ≤ e + 1 by omega)
  have h2 := cn_succ (kn k) (show base ≤ e by omega)
  rw [W_add, h1, h2, ← W_add, BitVec.add_sub_cancel]
  unfold pk
  rw [← W_add, W_kn]
  congr 1
  apply BitVec.eq_of_toNat_eq
  have hc := cn_le (kn k) base e (kn k e)
  show (W _ <<< 14).toNat = _
  rw [BitVec.toNat_shiftLeft, BitVec.toNat_ofNat, BitVec.toNat_ofNat, Nat.shiftLeft_eq]
  omega

/-- The running sum of a block of 16 words. -/
theorem scan_eq (g : ℕ → ℕ) {o : ℕ} (hv : ∀ x, v x = W (g (o + (x 0).val))) (x : S16.Idx) :
    scan (d := ![16]) (w := 32) .sum v x = W (∑ j ∈ Finset.range ((x 0).val + 1), g (o + j)) := by
  have hgen : ∀ (L : List (Fin 16)) (a : ℕ), L.foldl (fun r l => r + W (g (o + l.val))) (W a) = W (a + (L.map fun l => g (o + l.val)).sum) := by
    intro L; induction L with
    | nil => intro a; simp
    | cons l L ih => intro a; rw [List.foldl_cons, W_add, ih, List.map_cons, List.sum_cons, Nat.add_assoc]
  have hf : (fun (r : BitVec 32) (l : Fin 16) => ScanKind.step .sum r (v (Shape.ofLane (d := ![16]) l))) = fun r l => r + W (g (o + l.val)) := by
    funext r l; exact congrArg (fun z => r + z) (hv _)
  have hz : v (Shape.ofLane (d := ![16]) (⟨0, by decide⟩ : Fin 16)) = W (g (o + 0)) := hv _
  have h1 : scan (d := ![16]) (w := 32) .sum v x = ((List.finRange 16).filter fun l => decide (0 < l.val ∧ l.val ≤ (x 0).val)).foldl
      (fun (r : BitVec 32) (l : Fin 16) => ScanKind.step .sum r (v (Shape.ofLane (d := ![16]) l))) (v (Shape.ofLane (d := ![16]) (⟨0, by decide⟩ : Fin 16))) := rfl
  rw [h1, hf, hz, hgen]
  congr 1
  have hn := i16 x
  generalize (x 0).val = n at hn
  interval_cases n <;> simp [List.finRange, Finset.sum_range_succ, List.ofFn_succ, List.filter_cons] <;> ring

end Lanes

end Cert.Proof.Sorting
-- ==== Proof.Steps.lean ====
/-
  Copies, waits and indirect scatters over holdings of words.
-/
module

public import proofs.«01_k».proof.Proof.Mem

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

/-- What the task owes, whatever it has waited for at the transfers' index or the barriers'. -/
def OW (c : Thread nD τ) (O : CellTallies nD τ sig (HIx 4)) (W : Waits sig (HIx 4)) : sProp 𝕄 :=
  iprop(∃ W', ⌜∀ p ∈ W', p ∈ W ∨ p.2 = none ∨ (blocks).blk 0 p.2⌝ ∗ owes c O W')

section Steps

variable {c : Thread nD τ} {α : Type} {Q : α → sProp (MT nD τ sig (HIx 4) (Elt F) ℕ UU ℕ)}
variable {Λ : Labels} {defs : Defs nD τ sig (Elt F) Λ} (𝒱 : Variants) (bd : Option 𝒱.V)
variable {sp sp' : Space} {s : Shape} {d : Fin 1 → ℕ}

/-- One copy of words, on its own semaphore. -/
theorem wp_dma {src : Memref sig c.2.kind sp s .i32} {dst : Memref sig c.2.kind sp' s .i32} {sm : DmaSem sig} {hsrc hdst hsem}
    {k : PUnit → Prog (TpuEff nD τ sig (Elt F) Λ c.2) α} {q : PosShare TreeShare} {h h0 : s.Idx → BitVec 32}
    (N : ℕ) (hN : dst.view.dmaCredit = N) (hs : 0 < s.numel) :
    iprop(PV (F := F) c src q h ∗ PV (F := F) c dst fullShare h0 ∗ semVal (c, .dma sm) 0)
      ⊢ iprop((Transfers.Flight EC c (.dma sm) none N iprop(PV (F := F) c dst fullShare h ∗ PV (F := F) c src q h)
          -∗ wp frame (wpE defs 𝒱 c bd) Set.univ (k ⟨⟩) Q)
        -∗ wp frame (wpE defs 𝒱 c bd) Set.univ (.op (.enqueueDma src (.here dst) (.dma sm) hsrc hdst hsem) k) Q) := by
  have hh := Transfers.wp_dmaLocal (EC : UEmb Counters 𝕄) (defs := defs) 𝒱 c bd (src := src) (via := .same) (dst := dst) (sm := .dma sm) (hsrc := hsrc) (hdst := hdst)
    (hsem := hsem) (k := k) (Q := Q) (q := q) (fs := src.view.rep (Val := Elt F) h) (Sd := dst.view.set) (fd := dst.view.rep (Val := Elt F) h0)
    none N hN (by rw [← hN]; exact View.dmaCredit_pos _ hs) subset_rfl
  rw [PV_of, PV_of, PV_of, View.read_write_univ, ReadAs.apply_same, View.read_rep, View.read_rep] at hh
  exact hh

/-- One copy of a batch. -/
theorem wp_dmaB {n : ℕ} {src : Memref sig c.2.kind sp s .i32} {dst : Memref sig c.2.kind sp' s .i32} {sm : DmaSem sig} {hsrc hdst hsem}
    {k : PUnit → Prog (TpuEff nD τ sig (Elt F) Λ c.2) α} {q : PosShare TreeShare} {h h0 : s.Idx → BitVec 32} {D : Fin n → sProp 𝕄} {j u : ℕ}
    (N : ℕ) (hN : dst.view.dmaCredit = N) (hj : j < n) (hu : u ≤ j * N)
    (hD : iprop(PV (F := F) c dst fullShare h ∗ PV (F := F) c src q h) ⊢ D ⟨j, hj⟩) :
    iprop(PV (F := F) c src q h ∗ PV (F := F) c dst fullShare h0 ∗ Transfers.Batch EC c (.dma sm) none N D j u)
      ⊢ iprop((Transfers.Batch EC c (.dma sm) none N D (j + 1) u
          -∗ wp frame (wpE defs 𝒱 c bd) Set.univ (k ⟨⟩) Q)
        -∗ wp frame (wpE defs 𝒱 c bd) Set.univ (.op (.enqueueDma src (.here dst) (.dma sm) hsrc hdst hsem) k) Q) := by
  have e : (dst.view.loc c ↦[dst.view.set]{fullShare} (dst.view.write (Elt F) (dst.view.rep (Val := Elt F) h0)
      ((ReadAs.same (Val := Elt F) : ReadAs (Elt F) s .i32 s .i32).apply (src.view.read (Elt F) (src.view.rep (Val := Elt F) h))) Finset.univ) : sProp 𝕄) = PV c dst fullShare h := by
    rw [PV_of, View.read_write_univ, ReadAs.apply_same, View.read_rep]
  exact Transfers.wp_dmaBatch (EC : UEmb Counters 𝕄) (defs := defs) 𝒱 c bd (src := src) (via := .same) (dst := dst) (sm := .dma sm) (hsrc := hsrc) (hdst := hdst)
    (hsem := hsem) (k := k) (Q := Q) (q := q) (fs := src.view.rep (Val := Elt F) h) (Sd := dst.view.set) (fd := dst.view.rep (Val := Elt F) h0) (D := D)
    none N hN subset_rfl hj hu (by rw [e]; exact hD)

theorem OW_insert {O : CellTallies nD τ sig (HIx 4)} {W W' : Waits sig (HIx 4)} (sm : SemLoc sig) (ι : HIx 4) (hι : ι = none ∨ (blocks).blk 0 ι)
    (h : ∀ p ∈ W', p ∈ W ∨ p.2 = none ∨ (blocks).blk 0 p.2) :
    (owes c O (insert (sm, ι) W') : sProp 𝕄) ⊢ OW c O W := by
  unfold OW
  iintro H
  iexists _; isplitr; swap; · iexact H
  ipureintro; intro p hp
  rcases Finset.mem_insert.mp hp with rfl | hp
  · exact .inr hι
  · exact h p hp

/-- The wait for one copy. -/
theorem wp_wt {s' : Shape} {e' : EltTy} {κ' : Kind} {e : EltTy} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {N : ℕ} (hN : dstw.view.dmaCredit = N) {D : sProp 𝕄}
    {O : CellTallies nD τ sig (HIx 4)} {W : Waits sig (HIx 4)} :
    iprop(Transfers.MayWaits c none O ∗ Transfers.Flight EC c (.dma sem) none N D ∗ OW c O W)
      ⊢ iprop((iprop(D ∗ semVal (c, .dma sem) 0 ∗ OW c O W) -∗ wp frame (wpE defs 𝒱 c bd) Set.univ (k ⟨⟩) Q)
          -∗ wp frame (wpE defs 𝒱 c bd) Set.univ (.op (.waitDma2 sem srcw dstw hsrc hdst) k) Q) := by
  unfold OW
  iintro ⟨Hmw, Hf, %W', %hW', HO⟩ Hk
  iapply (Transfers.wp_waitLocalO (EC : UEmb Counters 𝕄) (defs := defs) 𝒱 c bd none hN (D := D) (O := O) (W := W')) $$ [Hmw Hf HO]
  · isplitl [Hf]; · iexact Hf
    isplitl [HO]; · iexact HO
    iapply (Transfers.MayWaits.elim (.dma sem)); iexact Hmw
  iintro ⟨HD, Hv, HO⟩
  iapply Hk
  isplitl [HD]; · iexact HD
  isplitl [Hv]; · iexact Hv
  ihave H := (OW_insert (F := F) (c := c) (O := O) (W := W) (.dma sem) none (.inl rfl) hW') $$ HO
  unfold OW; iexact H

/-- A wait of a batch, not its last. -/
theorem wp_wtB {n : ℕ} {s' : Shape} {e' : EltTy} {κ' : Kind} {e : EltTy} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {N : ℕ} (hN : dstw.view.dmaCredit = N) {D : Fin n → sProp 𝕄} {u u' : ℕ}
    (hu : u + N < N * n) (hu' : u + N = u')
    {O : CellTallies nD τ sig (HIx 4)} {W : Waits sig (HIx 4)} :
    iprop(Transfers.MayWaits c none O ∗ Transfers.Batch EC c (.dma sem) none N D n u ∗ OW c O W)
      ⊢ iprop((iprop(Transfers.Batch EC c (.dma sem) none N D n u' ∗ OW c O W) -∗ wp frame (wpE defs 𝒱 c bd) Set.univ (k ⟨⟩) Q)
          -∗ wp frame (wpE defs 𝒱 c bd) Set.univ (.op (.waitDma2 sem srcw dstw hsrc hdst) k) Q) := by
  subst hu'
  unfold OW
  iintro ⟨Hmw, Hf, %W', %hW', HO⟩ Hk
  iapply (Transfers.wp_waitBatchO (EC : UEmb Counters 𝕄) (defs := defs) 𝒱 c bd none hN hu (D := D) (O := O) (W := W')) $$ [Hmw Hf HO]
  · isplitl [Hf]; · iexact Hf
    isplitl [HO]; · iexact HO
    iapply (Transfers.MayWaits.elim (.dma sem)); iexact Hmw
  iintro ⟨HD, HO⟩
  iapply Hk
  isplitl [HD]; · iexact HD
  ihave H := (OW_insert (F := F) (c := c) (O := O) (W := W) (.dma sem) none (.inl rfl) hW') $$ HO
  unfold OW; iexact H

/-- The last wait of a batch. -/
theorem wp_wtL {n : ℕ} {s' : Shape} {e' : EltTy} {κ' : Kind} {e : EltTy} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {N : ℕ} (hN : dstw.view.dmaCredit = N) (hs : 0 < s.numel) {D : Fin n → sProp 𝕄} {u : ℕ}
    (hu : u + N = N * n)
    {O : CellTallies nD τ sig (HIx 4)} {W : Waits sig (HIx 4)} :
    iprop(Transfers.MayWaits c none O ∗ Transfers.Batch EC c (.dma sem) none N D n u ∗ OW c O W)
      ⊢ iprop((iprop(bigSep Finset.univ D ∗ semVal (c, .dma sem) 0 ∗ OW c O W) -∗ wp frame (wpE defs 𝒱 c bd) Set.univ (k ⟨⟩) Q)
          -∗ wp frame (wpE defs 𝒱 c bd) Set.univ (.op (.waitDma2 sem srcw dstw hsrc hdst) k) Q) := by
  unfold OW
  iintro ⟨Hmw, Hf, %W', %hW', HO⟩ Hk
  iapply (Transfers.wp_waitBatchLastO (EC : UEmb Counters 𝕄) (defs := defs) 𝒱 c bd none hN (by rw [← hN]; exact View.dmaCredit_pos _ hs) hu (D := D) (O := O) (W := W')) $$ [Hmw Hf HO]
  · isplitl [Hf]; · iexact Hf
    isplitl [HO]; · iexact HO
    iapply (Transfers.MayWaits.elim (.dma sem)); iexact Hmw
  iintro ⟨HD, Hv, HO⟩
  iapply Hk
  isplitl [HD]; · iexact HD
  isplitl [Hv]; · iexact Hv
  ihave H := (OW_insert (F := F) (c := c) (O := O) (W := W) (.dma sem) none (.inl rfl) hW') $$ HO
  unfold OW; iexact H

/-- A slice from position 0 on keeps the positions' numbers. -/
theorem PS_slice0 {m : Memref sig c.2.kind sp ⟨1, d⟩ .i32} {A : Finset ℕ} {q : PosShare TreeShare} {g : ℕ → BitVec 32} (off sz : Fin 1 → ℕ) (inb)
    (hst : ∀ a, (Rect.unit (s := ⟨1, d⟩) off sz inb).stride a = 1) (ho : off 0 = 0) (hn : ∀ n ∈ A, n < d 0 → n < sz 0) :
    PS (F := F) c (d := sz) (m.slice (Rect.unit (s := ⟨1, d⟩) off sz inb) hst) A q g = PS c m A q g := by
  have hemb : ∀ y, (((Rect.unit (s := ⟨1, d⟩) off sz inb).emb y) 0).val = (y 0).val := fun y => by
    have := Rect.emb_apply (Rect.unit (s := ⟨1, d⟩) off sz inb) y 0
    simp only [Rect.unit, one_mul] at this
    exact this.trans (by rw [ho, Nat.zero_add])
  have hset : (m.view.slice (Rect.unit (s := ⟨1, d⟩) off sz inb)).setOn (sel sz A) = m.view.setOn (sel d A) := by
    show Finset.map ((Rect.unit (s := ⟨1, d⟩) off sz inb).emb.trans m.view.emb) _ = _
    rw [← Finset.map_map]
    unfold View.setOn; congr 1
    ext x
    rw [mem_sel]
    constructor
    · intro hx
      obtain ⟨y, hy, rfl⟩ := Finset.mem_map.mp hx
      have := mem_sel.mp hy
      rwa [← hemb] at this
    · intro hx
      have hlt := hn _ hx (x 0).isLt
      refine Finset.mem_map.mpr ⟨ixOf sz (x 0).val hlt, mem_sel.mpr (by exact hx), ?_⟩
      funext a; obtain rfl : a = 0 := Fin.eq_zero a
      exact Fin.ext (hemb _)
  have h := pts_rep (F := F) (c := c) (m.view.slice (Rect.unit (s := ⟨1, d⟩) off sz inb)) (sel sz A) q
    (m.view.rep (Val := Elt F) fun x => g (x 0).val) (fun x => g (x 0).val) (fun x _ => by
      show m.view.read (Elt F) _ ((Rect.unit (s := ⟨1, d⟩) off sz inb).emb x) = _
      rw [View.read_rep]
      exact congrArg g (hemb x))
  rw [hset] at h
  unfold PS
  show (m.view.loc c ↦[(m.view.slice (Rect.unit (s := ⟨1, d⟩) off sz inb)).setOn (sel sz A)]{q} _ : sProp 𝕄) = _
  rw [hset]
  exact h.symm

variable {dd ds : Fin 1 → ℕ}

/-- An indirect scatter of words onto distinct positions. -/
theorem wp_scatter {src : Memref sig c.2.kind .vmem ⟨1, ds⟩ .i32} {dst : Memref sig c.2.kind sp ⟨1, dd⟩ .i32} {hg : (⟨1, dd⟩ : Shape).Gathers 0 ⟨1, ds⟩}
    {offs : Memref sig c.2.kind .vmem ⟨1, ds⟩ .i32} {hn : (⟨1, ds⟩ : Shape).numel = (⟨1, ds⟩ : Shape).size hg.axis'} {sem : DmaSem sig}
    {hp : c.2.kind = .scVector} {he : EltTy.i32.bits = 32} {hsp : sp = .hbm ∨ sp = .shared} {hr : (⟨1, dd⟩ : Shape).StreamRows 0}
    {k : PUnit → Prog (TpuEff nD τ sig (Elt F) Λ c.2) α}
    {q qo : PosShare TreeShare} {hs ho : (⟨1, ds⟩ : Shape).Idx → BitVec 32} {A : Finset ℕ} {g g' : ℕ → BitVec 32}
    (N : ℕ) (hnum : 0 < (⟨1, ds⟩ : Shape).numel) (hin : ∀ x, (ho x).toNat < dd 0) (hinj : ∀ x x', (ho x).toNat = (ho x').toNat → x = x')
    (hA : ∀ n, n ∈ A ↔ ∃ x, (ho x).toNat = n) (hg' : ∀ x, g' (ho x).toNat = hs x)
    (hcs : ∀ s' : Shape, sig.dmaCredit c.2.kind (c.2.kind.table .vmem) src.view.buf s' .i32 = s'.numel * EltTy.i32.bits)
    (hcd : ∀ s' : Shape, sig.dmaCredit c.2.kind (c.2.kind.table sp) dst.view.buf s' .i32 = s'.numel * EltTy.i32.bits)
    (hN : src.view.dmaCredit = N) :
    iprop(PV (F := F) c src q hs ∗ PS (F := F) c dst A fullShare g ∗ PV (F := F) c offs qo ho ∗ semVal (c, .dma sem) 0)
      ⊢ iprop((Transfers.Flight EC c (.dma sem) none N iprop(PS (F := F) c dst A fullShare g' ∗ PV (F := F) c src q hs ∗ PV (F := F) c offs qo ho)
          -∗ wp frame (wpE defs 𝒱 c bd) Set.univ (k ⟨⟩) Q)
        -∗ wp frame (wpE defs 𝒱 c bd) Set.univ (SparseCore.enqueueIndirectScatter (F := F) hp src dst hg offs hn sem he hsp hr >>= k) Q) := by
  have hro : offs.view.read (Elt F) (offs.view.rep (Val := Elt F) ho) = ho := View.read_rep _ _
  have hin' : ∀ x, (offs.view.read (Elt F) (offs.view.rep (Val := Elt F) ho) x).toNat < (⟨1, dd⟩ : Shape).size hg.axis := fun x => by
    rw [hro]; exact hin x
  set fo : offs.view.ty.Contents (Elt F) := offs.view.rep (Val := Elt F) ho with hfo
  let r := SparseCore.rows (offs.view.read (Elt F) fo) hn hin'
  let xj : Fin ((⟨1, ds⟩ : Shape).size hg.axis') → (⟨1, ds⟩ : Shape).Idx := fun j => (⟨1, ds⟩ : Shape).rowMajor.symm (j.cast hn.symm)
  have hr1 : ∀ j, (r j).val = (ho (xj j)).toNat := fun j => by
    show (offs.view.read (Elt F) fo (xj j)).toNat = _
    rw [hro]
  have hx1 : ∀ j, (xj j 0).val = j.val := fun j => by
    have h1 := congrArg Fin.val ((⟨1, ds⟩ : Shape).rowMajor.apply_symm_apply (j.cast hn.symm))
    rw [Shape.rowMajor_val_one] at h1
    exact h1
  have hxs : ∀ x, ∃ j, xj j = x := fun x => ⟨((⟨1, ds⟩ : Shape).rowMajor x).cast hn, by
    show (⟨1, ds⟩ : Shape).rowMajor.symm _ = x
    rw [Fin.cast_cast, Fin.cast_eq_self, Equiv.symm_apply_apply]⟩
  have hrinj : Function.Injective r := fun j j' e => by
    have h1 := hinj (xj j) (xj j') (by rw [← hr1, ← hr1, e])
    exact Fin.ext (by rw [← hx1, ← hx1, h1])
  have hemb : ∀ j y,
      (((⟨1, dd⟩ : Shape).rowRect hg.axis (r j)).emb y 0).val = (r j).val := fun j y => by
    have h1 : ∀ b : Fin (⟨1, dd⟩ : Shape).rank, b = hg.axis → (((⟨1, dd⟩ : Shape).rowRect hg.axis (r j)).emb y b).val = (r j).val := by
      rintro b rfl; exact congrArg Fin.val (Shape.rowRect_emb_axis _ _ _)
    exact h1 0 (Subsingleton.elim (α := Fin 1) _ _)
  have hset : SparseCore.namedRows c dst.view hg.axis r = dst.view.setOn (sel dd A) := by
    ext i
    unfold SparseCore.namedRows View.setOn
    rw [Finset.mem_biUnion, Finset.mem_map]
    constructor
    · rintro ⟨j, -, hi⟩
      obtain ⟨y, -, rfl⟩ := Finset.mem_map.mp hi
      refine ⟨((⟨1, dd⟩ : Shape).rowRect hg.axis (r j)).emb y, mem_sel.mpr ?_, rfl⟩
      exact (hA _).mpr ⟨xj j, ((hemb j y).trans (hr1 j)).symm⟩
    · rintro ⟨x, hx, rfl⟩
      obtain ⟨x', hx'⟩ := (hA _).mp (mem_sel.mp hx)
      obtain ⟨j, rfl⟩ := hxs x'
      have hxr : x hg.axis = r j := Fin.ext (by rw [hr1, hx']; exact congrArg (fun a => (x a).val) (Subsingleton.elim _ _))
      refine ⟨j, Finset.mem_univ _, ?_⟩
      rw [← hxr]
      exact Finset.mem_map.mpr ⟨(⟨1, dd⟩ : Shape).rowProj hg.axis x, Finset.mem_univ _, congrArg dst.view.emb (Shape.rowRect_emb_rowProj _ _)⟩
  have hval : ∀ x ∈ sel dd A, dst.view.read (Elt F) (SparseCore.scatterBuf c dst.view hg.axis r (SparseCore.scatterRowPayload c src hg (src.view.rep (Val := Elt F) hs))
      (dst.view.rep (Val := Elt F) fun x => g (x 0).val)) x = g' (x 0).val := fun x hx => by
    obtain ⟨x', hx'⟩ := (hA _).mp (mem_sel.mp hx)
    obtain ⟨j, rfl⟩ := hxs x'
    have hxr : x hg.axis = r j := Fin.ext (by rw [hr1, hx']; exact congrArg (fun a => (x a).val) (Subsingleton.elim _ _))
    rw [← hx', hg']
    obtain ⟨y, hy⟩ : ∃ y, ((⟨1, dd⟩ : Shape).rowRect hg.axis (r j)).emb y = x := by
      rw [← hxr]; exact ⟨(⟨1, dd⟩ : Shape).rowProj hg.axis x, Shape.rowRect_emb_rowProj _ _⟩
    rw [← hy, View.read_apply]
    have hmem : dst.view.emb (((⟨1, dd⟩ : Shape).rowRect hg.axis (r j)).emb y) ∈ (dst.view.slice ((⟨1, dd⟩ : Shape).rowRect hg.axis (r j))).set :=
      Finset.mem_map.mpr ⟨y, Finset.mem_univ _, rfl⟩
    rw [SparseCore.scatterBuf_of_mem c dst.view hg.axis r hrinj _ _ hmem]
    have hw := View.write_emb_of_mem (Val := Elt F) (v := dst.view.slice ((⟨1, dd⟩ : Shape).rowRect hg.axis (r j)))
      (dst.view.rep (Val := Elt F) fun x => g (x 0).val) (SparseCore.scatterRowPayload c src hg (src.view.rep (Val := Elt F) hs) j) (Finset.mem_univ y)
    refine (congrArg (_root_.cast (congrArg (Elt F) dst.view.elt_eq)) hw).trans ?_
    rw [cast_cast, cast_eq]
    show src.view.read (Elt F) (src.view.rep (Val := Elt F) hs) (((⟨1, ds⟩ : Shape).rowRect hg.axis' j).emb _) = _
    rw [View.read_rep]
    refine congrArg hs ?_
    funext a; obtain rfl : a = hg.axis' := Subsingleton.elim (α := Fin 1) _ _
    refine Fin.ext ?_
    refine (congrArg Fin.val (Shape.rowRect_emb_axis _ _ _)).trans ?_
    exact (hx1 j).symm.trans (congrArg (fun a => (xj j a).val) (Subsingleton.elim (α := Fin 1) _ _))
  have hh := SparseCore.wp_indirectScatterLocal (EC : UEmb Counters 𝕄) (defs := defs) 𝒱 c bd (src := src) (dst := dst) (hg := hg) (offs := offs) (hn := hn) (sem := sem)
    (hp := hp) (he := he) (hsp := hsp) (hr := hr) (k := k) (Q := Q) (q := q) (qo := qo) (fs := src.view.rep (Val := Elt F) hs)
    (fd := dst.view.rep (Val := Elt F) fun x => g (x 0).val) (fo := fo) none N hnum hin' hrinj
    ((SparseCore.sum_scatterCredit_eq_srcCredit (c := c) src dst hg rfl r hcs hcd).trans hN)
  change iprop(_ ∗ (_ ↦[SparseCore.namedRows c dst.view hg.axis r]{_} _) ∗ _ ∗ _) ⊢ iprop((Transfers.Flight _ _ _ _ _ iprop((_ ↦[SparseCore.namedRows c dst.view hg.axis r]{_}
    (SparseCore.scatterBuf c dst.view hg.axis r _ _)) ∗ _ ∗ _) -∗ _) -∗ _) at hh
  rw [hset, pts_rep dst.view _ _ _ _ hval] at hh
  exact hh

end Steps

end Cert.Proof.Sorting
-- ==== Proof.Data.lean ====
/-
  What the tiles' buffers hold at each stage, as words by number: keys and values by their place among all 320000, counts,
  starting places and results; and how the shared buffers are cut among the tiles.
-/
module

public import proofs.«01_k».proof.Proof.Base
public import proofs.«01_k».proof.Proof.Barrier
public import proofs.«01_k».proof.Proof.Mem
public import proofs.«01_k».proof.Proof.Words
public import proofs.«01_k».proof.Proof.Steps

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

/-! ## The buffers -/

abbrev srcM := (Memref.whole main_v1_scv)
abbrev dstM := (Memref.whole main_v3_scv)
abbrev outM := (Memref.whole main_v4_scv)
abbrev kM := (Memref.whole cc0_scratch0)
abbrev vM := (Memref.whole cc0_scratch1)
abbrev haM := (Memref.whole cc0_scratch2)
abbrev hbM := (Memref.whole cc0_scratch3)
abbrev blkM := (Memref.whole cc0_scratch4)
abbrev locM := (Memref.whole cc0_scratch5)
abbrev accM := (Memref.whole cc0_scratch6)
abbrev totM := (Memref.whole cc0_scratch7)
abbrev paM := (Memref.whole cc0_scratch8)
abbrev paM' := (Memref.whole cc0_scratch9)
abbrev pbM := (Memref.whole cc0_scratch10)
abbrev pbM' := (Memref.whole cc0_scratch11)
abbrev ptaM := (Memref.whole cc0_scratch12)
abbrev ptbM := (Memref.whole cc0_scratch13)
abbrev carM := (Memref.whole cc0_scratch14)
abbrev hallM := (Memref.whole cc0_scratch15)
abbrev tsM := (Memref.whole cc0_scratch16)
abbrev outsM := (Memref.whole cc0_scratch17)

/-- The tile at coordinates `L`. -/
abbrev tcV (d : Dev nD) (L : grid0.Coords) : Thread nD τ := V d ((L 0).castLE hcore0) ((L 1).castLE hsub0)

/-! ## The words -/

section Words
variable (s t : ℕ → BitVec 32)

/-- All the keys: the sources, then the destinations. -/
def kk : ℕ → BitVec 32 := fun e => if e < 160000 then s e else t (e - 160000)
/-- All the values: the destinations, then the sources. -/
def vv : ℕ → BitVec 32 := fun e => if e < 160000 then t e else s (e - 160000)
/-- The keys as numbers. -/
abbrev KN : ℕ → ℕ := kn (kk s t)
abbrev NN : ℕ := 320000

/-- The histograms of the thirty-two stretches of 10000 keys. -/
def H0 : ℕ → BitVec 32 := fun p => W (cn (KN s t) (10000 * (p / 10240)) (10000 * (p / 10240) + 10000) (p % 10240))
/-- The first place of each key of each stretch. -/
def H2 : ℕ → BitVec 32 := fun p => W (cn (KN s t) 0 (10000 * (p / 10240)) (p % 10240) + bt (KN s t) NN 0 (p % 10240))
/-- How many keys each tile's bins hold, sixteen times over. -/
def TT : ℕ → BitVec 32 := fun p => W (bt (KN s t) NN (640 * (p / 16)) (640 * (p / 16 + 1)))
/-- The result. -/
def RR : ℕ → BitVec 32 := res (KN s t) (vv s t) NN

end Words

/-! ## The cuts -/

section Cuts
variable {c : Thread nD τ} {sp : Space} {d : Fin 1 → ℕ}

/-- A set of positions cut by a function of the position. -/
theorem PS_parts {m : Memref sig c.2.kind sp ⟨1, d⟩ .i32} {q : PosShare TreeShare} {g : ℕ → BitVec 32} (k : ℕ) (f : ℕ → ℕ) (A : Finset ℕ) (B : Fin k → Finset ℕ)
    (h : ∀ p, p < d 0 → p ∈ A → f p < k) (hB : ∀ j p, p < d 0 → (p ∈ B j ↔ p ∈ A ∧ f p = j.val)) :
    PS (F := F) c m A q g = bigSep Finset.univ fun j : Fin k => PS c m (B j) q g := by
  have e1 : PS (F := F) c m A q g = PS c m (Finset.univ.biUnion fun j : Fin k => A.filter fun p => f p = j.val) q g :=
    PS_set fun p hp => by
      simp only [Finset.mem_biUnion, Finset.mem_univ, true_and, Finset.mem_filter]
      exact ⟨fun hA => ⟨⟨f p, h p hp hA⟩, hA, rfl⟩, fun ⟨_, hA, _⟩ => hA⟩
  rw [e1, PS_biUnion]
  · refine congrArg (bigSep Finset.univ) (funext fun j => ?_)
    exact PS_set fun p hp => by rw [Finset.mem_filter, hB j p hp]
  · intro j _ j' _ hne
    refine Finset.disjoint_left.mpr fun p hp hp' => hne (Fin.ext ?_)
    rw [← (Finset.mem_filter.mp hp).2, ← (Finset.mem_filter.mp hp').2]

/-- Tile `i`'s read share. -/
def sh16 (i : TI) : PosShare TreeShare := Transfers.dealOf fullShare Finset.univ i

theorem PS_deal {m : Memref sig c.2.kind sp ⟨1, d⟩ .i32} {A : Finset ℕ} {g : ℕ → BitVec 32} :
    PS (F := F) c m A fullShare g = bigSep Finset.univ fun i : TI => PS c m A (sh16 i) g := by
  unfold PS sh16
  exact Transfers.pointsTo_deal (Finset.univ : Finset TI) ⟨⟨0, by decide⟩, Finset.mem_univ _⟩ fullShare

end Cuts

/-- Positions of `hist_all_s` in tile `a`'s rows and tile `b`'s columns. -/
def hcell (a b : ℕ) : Finset ℕ := (Finset.Ico (20480 * a) (20480 * (a + 1))).filter fun p => p % 10240 / 640 = b
/-- Tile `b`'s columns. -/
def hcol (b : ℕ) : Finset ℕ := (Finset.range 327680).filter fun p => p % 10240 / 640 = b
/-- Tile `a`'s places that fall in tile `b`'s stretch of the result. -/
def ocell (s t : ℕ → BitVec 32) (a b : ℕ) : Finset ℕ := (img (KN s t) NN (20000 * a) (20000 * (a + 1))).filter fun p => p / 20000 = b

/-- What tile `n` hands tile `j` at barrier `r`. -/
def pay (d : Dev nD) (sc : Fin τ.nSC) (s t : ℕ → BitVec 32) (r : ℕ) (n j : TI) : sProp 𝕄 :=
  match r with
  | 0 => PS (F := F) (V d sc (n.castLE hsub0)) hallM (hcell n.val j.val) fullShare (H0 s t)
  | 1 => PS (F := F) (V d sc (n.castLE hsub0)) tsM (Finset.Ico (16 * n.val) (16 * (n.val + 1))) (sh16 j) (TT s t)
  | 2 => PS (F := F) (V d sc (n.castLE hsub0)) hallM (hcell j.val n.val) fullShare (H2 s t)
  | _ => PS (F := F) (V d sc (n.castLE hsub0)) outsM (ocell s t n.val j.val) fullShare (RR s t)

instance pay_storable (d : Dev nD) (sc : Fin τ.nSC) (s t : ℕ → BitVec 32) (r : ℕ) (n j : TI) : BI.Storable (upEmb : UEmb _ 𝕄) (pay (F := F) d sc s t r n j) := by
  unfold pay; split <;> infer_instance

section Pays
variable (d : Dev nD) (sc : Fin τ.nSC) (s t : ℕ → BitVec 32) (i : TI)

theorem pay0_in : PS (F := F) (V d sc (i.castLE hsub0)) hallM (Finset.Ico (20480 * i.val) (20480 * (i.val + 1))) fullShare (H0 s t)
    = bigSep Finset.univ fun j : TI => pay (F := F) d sc s t 0 i j :=
  PS_parts 16 (fun p => p % 10240 / 640) _ (fun j => hcell i.val j.val) (fun p _ _ => by omega)
    fun j p _ => by unfold hcell; rw [Finset.mem_filter]

theorem pay0_out : (bigSep Finset.univ fun n : TI => pay (F := F) d sc s t 0 n i)
    = PS (F := F) (V d sc (i.castLE hsub0)) hallM (hcol i.val) fullShare (H0 s t) :=
  (PS_parts 16 (fun p => p / 20480) (hcol i.val) (fun n => hcell n.val i.val)
    (fun p hp _ => Nat.div_lt_of_lt_mul (lt_of_lt_of_eq hp rfl))
    fun j p hp => by
      have hp' : p < 327680 := hp
      unfold hcell hcol; rw [Finset.mem_filter, Finset.mem_filter, Finset.mem_Ico, Finset.mem_range]; omega).symm

theorem pay1_in : PS (F := F) (V d sc (i.castLE hsub0)) tsM (Finset.Ico (16 * i.val) (16 * (i.val + 1))) fullShare (TT s t)
    = bigSep Finset.univ fun j : TI => pay (F := F) d sc s t 1 i j := PS_deal

theorem pay1_out : (bigSep Finset.univ fun n : TI => pay (F := F) d sc s t 1 n i)
    = PS (F := F) (V d sc (i.castLE hsub0)) tsM (Finset.range 256) (sh16 i) (TT s t) :=
  (PS_parts 16 (fun p => p / 16) (Finset.range 256) (fun n => Finset.Ico (16 * n.val) (16 * (n.val + 1)))
    (fun p hp _ => Nat.div_lt_of_lt_mul (lt_of_lt_of_eq hp rfl))
    fun j p hp => by
      have hp' : p < 256 := hp
      rw [Finset.mem_Ico, Finset.mem_range]; omega).symm

theorem pay2_in : PS (F := F) (V d sc (i.castLE hsub0)) hallM (hcol i.val) fullShare (H2 s t)
    = bigSep Finset.univ fun j : TI => pay (F := F) d sc s t 2 i j :=
  PS_parts 16 (fun p => p / 20480) (hcol i.val) (fun n => hcell n.val i.val)
    (fun p hp _ => Nat.div_lt_of_lt_mul (lt_of_lt_of_eq hp rfl))
    fun j p hp => by
      have hp' : p < 327680 := hp
      unfold hcell hcol; rw [Finset.mem_filter, Finset.mem_filter, Finset.mem_Ico, Finset.mem_range]; omega

theorem pay2_out : (bigSep Finset.univ fun n : TI => pay (F := F) d sc s t 2 n i)
    = PS (F := F) (V d sc (i.castLE hsub0)) hallM (Finset.Ico (20480 * i.val) (20480 * (i.val + 1))) fullShare (H2 s t) :=
  (PS_parts 16 (fun p => p % 10240 / 640) _ (fun j => hcell i.val j.val) (fun p _ _ => by omega)
    fun j p _ => by unfold hcell; rw [Finset.mem_filter]).symm

theorem pay3_in (hi : i.val < 16) : PS (F := F) (V d sc (i.castLE hsub0)) outsM (img (KN s t) NN (20000 * i.val) (20000 * (i.val + 1))) fullShare (RR s t)
    = bigSep Finset.univ fun j : TI => pay (F := F) d sc s t 3 i j :=
  PS_parts 16 (fun p => p / 20000) _ (fun j => ocell s t i.val j.val)
    (fun p hp _ => Nat.div_lt_of_lt_mul (lt_of_lt_of_eq hp rfl)) fun j p _ => by unfold ocell; rw [Finset.mem_filter]

theorem pay3_out (hi : i.val < 16) : (bigSep Finset.univ fun n : TI => pay (F := F) d sc s t 3 n i)
    = PS (F := F) (V d sc (i.castLE hsub0)) outsM (Finset.Ico (20000 * i.val) (20000 * (i.val + 1))) fullShare (RR s t) :=
  (PS_parts 16 (fun p => inv (KN s t) NN p / 20000) _ (fun n => ocell s t n.val i.val)
    (fun p hp _ => by
      have hp' : p < NN := hp
      obtain ⟨e, he, rfl⟩ := pos_surj (KN s t) hp'
      rw [inv_pos _ he]; exact Nat.div_lt_of_lt_mul he)
    fun j p hp => by
      have hp' : p < NN := hp
      obtain ⟨e, he, rfl⟩ := pos_surj (KN s t) hp'
      have he' : e < 320000 := he
      dsimp only
      rw [inv_pos _ he]
      unfold ocell; rw [Finset.mem_filter, mem_img, Finset.mem_Ico]
      constructor
      · rintro ⟨⟨e', h1, h2, h3⟩, h4⟩
        obtain rfl := pos_inj (KN s t) (show e' < NN by have : j.val < 16 := j.isLt; show e' < 320000; omega) he h3
        omega
      · rintro ⟨⟨h1, h2⟩, h3⟩
        exact ⟨⟨e, by omega, by omega, rfl⟩, by omega⟩).symm

/-- Tile `i`'s columns as thirty-two runs of 640. -/
theorem hcol_runs {q : PosShare TreeShare} {g : ℕ → BitVec 32} : PS (F := F) (V d sc (i.castLE hsub0)) hallM (hcol i.val) q g
    = bigSep Finset.univ fun v : Fin 32 => PS (V d sc (i.castLE hsub0)) hallM (Finset.Ico (10240 * v.val + 640 * i.val) (10240 * v.val + 640 * i.val + 640)) q g :=
  PS_parts 32 (fun p => p / 10240) _ _ (fun p hp _ => Nat.div_lt_of_lt_mul (lt_of_lt_of_eq hp rfl))
    fun j p hp => by
      have hp' : p < 327680 := hp
      have hi : i.val < 16 := i.isLt
      unfold hcol; rw [Finset.mem_filter, Finset.mem_Ico, Finset.mem_range]; omega

/-- The block as thirty-two runs of 640. -/
theorem blk_runs {q : PosShare TreeShare} {g : ℕ → BitVec 32} :
    PS (F := F) (V d sc (i.castLE hsub0)) blkM (Finset.range 20480) q g
    = bigSep Finset.univ fun v : Fin 32 => PS (V d sc (i.castLE hsub0)) blkM (Finset.Ico (640 * v.val) (640 * v.val + 640)) q g :=
  PS_parts 32 (fun p => p / 640) _ _ (fun p hp _ => Nat.div_lt_of_lt_mul (lt_of_lt_of_eq hp rfl))
    fun j p hp => by
      have hp' : p < 20480 := hp
      rw [Finset.mem_Ico, Finset.mem_range]; omega

end Pays

end Cert.Proof.Sorting
-- ==== Proof.Phase1.lean ====
/-
The first phase of the sort: each tile counts its two stretches of keys.
-/
module

public import proofs.«01_k».proof.Proof.Data

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

/-- What the task runs under. -/
abbrev wpT (d : Dev nD) (L : grid0.Coords) {α : Type} (p : Prog (TpuEff nD τ sig (Elt F) Λ₀ (.scVector ((L 0).castLE hcore0) ((L 1).castLE hsub0))) α)
    (Q : α → sProp (MT nD τ sig (HIx 4) (Elt F) ℕ UU ℕ)) : sProp (MT nD τ sig (HIx 4) (Elt F) ℕ UU ℕ) :=
  wp frame (wpE (defs₀ (F := F)) 𝒱₀ (tcV d L) none) Set.univ p Q

theorem wp_fin {c : Thread nD τ} {α : Type} {Q : α → sProp (MT nD τ sig (HIx 4) (Elt F) ℕ UU ℕ)} (a : α) :
    Q a ⊢ wp frame (wpE (defs₀ (F := F)) 𝒱₀ c none) Set.univ (.ret a) Q := by
  rw [wp_ret]; iintro H; imodintro; iexact H

theorem off1 : ∀ i : grid0.Coords, k0_off1 i = ![20000 * ((i 1).val % 8)] := by decide +kernel
theorem off2 : ∀ i : grid0.Coords, k0_off2 i = ![20000 * ((i 1).val % 8)] := by decide +kernel
theorem cond1 : ∀ i : grid0.Coords, k0_cond1 i = 1#1 ↔ (i 1).val < 8 := by decide +kernel
theorem cond2 : ∀ i : grid0.Coords, k0_cond2 i = 1#1 ↔ ¬ (i 1).val < 8 := by decide +kernel

/-- The masked counting store moves a histogram over sixteen keys. -/
theorem wp_hist {c : Thread nD τ} {Λ : Labels} {defs : Defs nD τ sig (Elt F) Λ} {𝒱 : Variants} {bd : Option 𝒱.V} {E : Set ℕ} {α : Type}
    {Q : α → sProp (MT nD τ sig (HIx 4) (Elt F) ℕ UU ℕ)} {m : Memref sig c.2.kind .vmem S10240 .i32} {k : ℕ → BitVec 32} {e0 : ℕ}
    {v : IVec S16 32} (hv : ∀ x, v x = k (e0 + (x 0).val)) (w : IVec S16 32) (mk : IVec S16 1)
    (hw : w = (scanCount (broadcast S16 1#1) v).2) (hmk : mk = (scanCount (broadcast S16 1#1) v).1)
    (h : ∀ a x, ((![v] : Fin 1 → IVec S16 32) a x).toNat < S10240.size a) (hs) (base : ℕ) (hb : base ≤ e0) (g g' : ℕ → BitVec 32) (hg : g = fun b => W (cn (kn k) base e0 b))
    (hg' : g' = fun b => W (cn (kn k) base (e0 + 16) b))
    {kk' : PUnit → Prog (TpuEff nD τ sig (Elt F) Λ c.2) α} :
    PS (F := F) c m (Finset.range 10240) fullShare g
      ⊢ iprop((PS (F := F) c m (Finset.range 10240) fullShare g' -∗ wp frame (wpE defs 𝒱 c bd) E (kk' ⟨⟩) Q)
        -∗ wp frame (wpE defs 𝒱 c bd) E (SparseCore.vectorStoreIdx (F := F) m ![v] w mk true h hs >>= kk') Q) := by
  subst hw hmk hg hg'
  exact wp_scadd (F := F) 𝒱 bd E (fun b => W (cn (kn k) base (e0 + 16) b)) (fun n hn => Finset.mem_range.mpr hn) (fun x => scatter_eq (F := F) hv base hb h x)

section Loops
variable (d : Dev nD) (L : grid0.Coords) (s t : ℕ → BitVec 32)

/-- A histogram of which the first `16 n` bins are zeroed. -/
def zr (g : ℕ → BitVec 32) (n : ℕ) : ℕ → BitVec 32 := fun b => if b < 16 * n then 0#32 else g b

theorem zr_in {g : ℕ → BitVec 32} {n o : ℕ} (ho : o = 16 * n) (x : S16.Idx) : zr g (n + 1) (o + (x 0).val) = 0#32 := by
  unfold zr; rw [if_pos]; have := i16 x; omega
theorem zr_out {g : ℕ → BitVec 32} {n o m : ℕ} (ho : o = 16 * n) (h : m < o ∨ o + 16 ≤ m) : zr g (n + 1) m = zr g n m := by
  unfold zr; subst ho
  by_cases h1 : m < 16 * n
  · rw [if_pos h1, if_pos (by omega)]
  · rw [if_neg h1, if_neg (by omega)]

theorem trip1 (ga gb : ℕ → BitVec 32) (n : Fin k0_t1_loop.trips) :
    iprop(PS (F := F) (tcV d L) haM (Finset.range 10240) fullShare (zr ga n.val) ∗ PS (F := F) (tcV d L) hbM (Finset.range 10240) fullShare (zr gb n.val))
      ⊢ wpT d L (k0_t1_body L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 n ⟨⟩)
        fun _ => iprop(PS (F := F) (tcV d L) haM (Finset.range 10240) fullShare (zr ga (n.val + 1)) ∗ PS (F := F) (tcV d L) hbM (Finset.range 10240) fullShare (zr gb (n.val + 1))) := by
  have ho : k0_off3 n 0 = 16 * n.val := congrFun (k0_off3_eq n) 0
  have hn : n.val < 640 := n.isLt
  have hin : ∀ j, j < S16.size 0 → k0_off3 n 0 + j ∈ Finset.range 10240 := fun j hj => by
    have hj' : j < 16 := hj
    rw [Finset.mem_range, ho]; omega
  unfold k0_t1_body
  iintro ⟨Ha, Hb⟩
  iapply (wp_ld 𝒱₀ none Set.univ hin) $$ Ha; iintro Ha
  iapply (wp_st 𝒱₀ none Set.univ (zr ga (n.val + 1)) hin (fun x => zr_in ho x) (fun m _ h => zr_out ho h)) $$ Ha; iintro Ha
  iapply (wp_ld 𝒱₀ none Set.univ hin) $$ Hb; iintro Hb
  iapply (wp_st 𝒱₀ none Set.univ (zr gb (n.val + 1)) hin (fun x => zr_in ho x) (fun m _ h => zr_out ho h)) $$ Hb; iintro Hb
  iapply (wp_fin (F := F))
  isplitl [Ha]; · iexact Ha
  iexact Hb

/-- The keys of which the first `16 n` of either half carry their ranks, for the tile whose keys begin at `o`. -/
def kst (k : ℕ → BitVec 32) (o n : ℕ) : ℕ → BitVec 32 := fun e =>
  if e < 16 * n then pk k o (o + e) else if 10000 ≤ e ∧ e < 10000 + 16 * n then pk k (o + 10000) (o + e) else k (o + e)

/-- The keys between the two stores of trip `n`. -/
def kmid (k : ℕ → BitVec 32) (o n : ℕ) : ℕ → BitVec 32 := fun e => if e < 16 * n + 16 then pk k o (o + e) else kst k o n e

theorem kst_step {k : ℕ → BitVec 32} {o n m : ℕ} (h : m < 16 * n + 10000 ∨ 16 * n + 10000 + 16 ≤ m) : kst k o (n + 1) m = kmid k o n m := by
  unfold kmid kst
  split_ifs <;> first | (exfalso; omega) | rfl

/-- The count of the keys from `base` on, `n` sixteens of them. -/
def hst (k : ℕ → BitVec 32) (base n : ℕ) : ℕ → BitVec 32 := fun b => W (cn (kn k) base (base + 16 * n) b)

theorem hst_succ (k : ℕ → BitVec 32) (base n : ℕ) : hst k base (n + 1) = fun b => W (cn (kn k) base (base + 16 * n + 16) b) := by
  unfold hst; rw [Nat.mul_succ, ← Nat.add_assoc]

theorem trip2 (k : ℕ → BitVec 32) (o : ℕ) (hk : ∀ e, e < 20000 → kn k (o + e) < 10000) (n : Fin k0_t2_loop.trips) :
    iprop(PS (F := F) (tcV d L) kM (Finset.range 20000) fullShare (kst k o n.val) ∗ PS (F := F) (tcV d L) haM (Finset.range 10240) fullShare (hst k o n.val)
        ∗ PS (F := F) (tcV d L) hbM (Finset.range 10240) fullShare (hst k (o + 10000) n.val))
      ⊢ wpT d L (k0_t2_body L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 n ⟨⟩)
        fun _ => iprop(PS (F := F) (tcV d L) kM (Finset.range 20000) fullShare (kst k o (n.val + 1)) ∗ PS (F := F) (tcV d L) haM (Finset.range 10240) fullShare (hst k o (n.val + 1))
        ∗ PS (F := F) (tcV d L) hbM (Finset.range 10240) fullShare (hst k (o + 10000) (n.val + 1))) := by
  have ho5 : k0_off5 n 0 = 16 * n.val := congrFun (k0_off5_eq n) 0
  have ho6 : k0_off6 n 0 = 16 * n.val + 10000 := congrFun (k0_off6_eq n) 0
  have ho7 : k0_off7 n 0 = 16 * n.val := congrFun (k0_off7_eq n) 0
  have ho8 : k0_off8 n 0 = 16 * n.val + 10000 := congrFun (k0_off8_eq n) 0
  have hn : n.val < 625 := n.isLt
  have hin : ∀ {o' : ℕ}, (o' = 16 * n.val ∨ o' = 16 * n.val + 10000) → ∀ j, j < S16.size 0 → o' + j ∈ Finset.range 20000 := fun ho j hj => by
    have hj' : j < 16 := hj
    rw [Finset.mem_range]; omega
  have hrg : ∀ m, m < S10240.size 0 → m ∈ Finset.range 10240 := fun m hm => Finset.mem_range.mpr hm
  -- the keys read
  have hva : ∀ x : S16.Idx, kst k o n.val (k0_off5 n 0 + (x 0).val) = k ((o + 16 * n.val) + (x 0).val) := fun x => by
    have := i16 x
    unfold kst; rw [ho5, if_neg (by omega), if_neg (by omega)]; congr 1; omega
  have hvb : ∀ x : S16.Idx, kst k o n.val (k0_off6 n 0 + (x 0).val) = k ((o + 10000 + 16 * n.val) + (x 0).val) := fun x => by
    have := i16 x
    unfold kst; rw [ho6, if_neg (by omega), if_neg (by omega)]; congr 1; omega
  have hka : ∀ x : S16.Idx, (kst k o n.val (k0_off5 n 0 + (x 0).val)).toNat = kn k ((o + 16 * n.val) + (x 0).val) := fun x => congrArg BitVec.toNat (hva x)
  have hkb : ∀ x : S16.Idx, (kst k o n.val (k0_off6 n 0 + (x 0).val)).toNat = kn k ((o + 10000 + 16 * n.val) + (x 0).val) := fun x => congrArg BitVec.toNat (hvb x)
  have hla : ∀ x : S16.Idx, kn k ((o + 16 * n.val) + (x 0).val) < 10000 := fun x => by
    have := i16 x; have h := hk (16 * n.val + (x 0).val) (by omega); rwa [← Nat.add_assoc] at h
  have hlb : ∀ x : S16.Idx, kn k ((o + 10000 + 16 * n.val) + (x 0).val) < 10000 := fun x => by
    have := i16 x; have h := hk (10000 + 16 * n.val + (x 0).val) (by omega); rwa [← Nat.add_assoc, ← Nat.add_assoc] at h
  have hc1 : k0_chk1 (fun x => kst k o n.val (k0_off5 n 0 + (x 0).val)) := by
    have : ∀ (a : Fin 1) x, ((![fun x => kst k o n.val (k0_off5 n 0 + (x 0).val)] : Fin 1 → IVec S16 32) a x).toNat < S10240.size a := fun a x => by
      obtain rfl := Fin.eq_zero a
      show (kst k o n.val (k0_off5 n 0 + (x 0).val)).toNat < 10240
      rw [hka]; have := hla x; omega
    exact ⟨this, this⟩
  have hc2 : k0_chk2 (fun x => kst k o n.val (k0_off6 n 0 + (x 0).val)) := by
    have : ∀ (a : Fin 1) x, ((![fun x => kst k o n.val (k0_off6 n 0 + (x 0).val)] : Fin 1 → IVec S16 32) a x).toNat < S10240.size a := fun a x => by
      obtain rfl := Fin.eq_zero a
      show (kst k o n.val (k0_off6 n 0 + (x 0).val)).toNat < 10240
      rw [hkb]; have := hlb x; omega
    exact ⟨this, this⟩
  -- the keys after the first store, and after both
  have hpa : ∀ x : S16.Idx, kmid k o n.val (k0_off7 n 0 + (x 0).val) = k0_pay41 (F := F) (fun x => kst k o n.val (k0_off5 n 0 + (x 0).val))
      (fun x => hst k o n.val (kst k o n.val (k0_off5 n 0 + (x 0).val)).toNat) x := fun x => by
    have hx := i16 x
    refine Eq.trans ?_ (pack_eq (F := F) hva o (by omega) (by omega) (fun x => by rw [hka]; rfl) x).symm
    unfold kmid
    rw [ho7, if_pos (by omega), Nat.add_assoc]
  have hpb : ∀ x : S16.Idx, kst k o (n.val + 1) (k0_off8 n 0 + (x 0).val) = k0_pay42 (F := F) (fun x => kst k o n.val (k0_off6 n 0 + (x 0).val))
      (fun x => hst k (o + 10000) n.val (kst k o n.val (k0_off6 n 0 + (x 0).val)).toNat) x := fun x => by
    have hx := i16 x
    refine Eq.trans ?_ (pack_eq (F := F) hvb (o + 10000) (by omega) (by omega) (fun x => by rw [hkb]; rfl) x).symm
    unfold kst
    rw [ho8, if_neg (by omega), if_pos (by omega)]; congr 1; omega
  unfold k0_t2_body
  iintro ⟨Hk, Ha, Hb⟩
  iapply (wp_ld 𝒱₀ none Set.univ (hin (.inl ho5))) $$ Hk; iintro Hk
  iapply (wp_assume 𝒱₀ _ none Set.univ hc1)
  iapply (wp_ld 𝒱₀ none Set.univ (hin (.inr ho6))) $$ Hk; iintro Hk
  iapply (wp_assume 𝒱₀ _ none Set.univ hc2)
  iapply (wp_gather 𝒱₀ none Set.univ (h := k0_idx1_inb _ hc1) (hl := View.loads_vmem h_S10240) hrg) $$ Ha; iintro Ha
  iapply (wp_gather 𝒱₀ none Set.univ (h := k0_idx2_inb _ hc2) (hl := View.loads_vmem h_S10240) hrg) $$ Hb; iintro Hb
  iapply (wp_ld 𝒱₀ none Set.univ (hin (.inl ho7))) $$ Hk; iintro Hk
  iapply (wp_st 𝒱₀ none Set.univ (kmid k o n.val) (hin (.inl ho7)) hpa (fun m _ h => by
    have h' : m < k0_off7 n 0 ∨ k0_off7 n 0 + 16 ≤ m := h
    rw [ho7] at h'
    unfold kmid
    by_cases h1 : m < 16 * n.val + 16
    · rw [if_pos h1]; unfold kst; rw [if_pos (by omega)]
    · rw [if_neg h1])) $$ Hk; iintro Hk
  iapply (wp_ld 𝒱₀ none Set.univ (hin (.inr ho8))) $$ Hk; iintro Hk
  iapply (wp_st 𝒱₀ none Set.univ (kst k o (n.val + 1)) (hin (.inr ho8)) hpb (fun m _ h => by
    have h' : m < k0_off8 n 0 ∨ k0_off8 n 0 + 16 ≤ m := h
    rw [ho8] at h'
    exact kst_step h')) $$ Hk; iintro Hk
  iapply (wp_hist (c := tcV d L) (F := F) hva (k0_pay37 _) (k0_pay36 _) rfl rfl (k0_idx3_inb _ hc1) (View.stores_vmem_bits_univ h_S10240 rfl) o (by omega) (hst k o n.val) (hst k o (n.val + 1)) rfl (hst_succ k o n.val)) $$ Ha; iintro Ha
  iapply (wp_hist (c := tcV d L) (F := F) hvb (k0_pay40 _) (k0_pay39 _) rfl rfl (k0_idx4_inb _ hc2) (View.stores_vmem_bits_univ h_S10240 rfl) (o + 10000) (by omega) (hst k (o + 10000) n.val) (hst k (o + 10000) (n.val + 1)) rfl (hst_succ k (o + 10000) n.val)) $$ Hb; iintro Hb
  iapply (wp_fin (F := F))
  isplitl [Hk]; · iexact Hk
  isplitl [Ha]; · iexact Ha
  iexact Hb

end Loops

/-! ## Copies between stretches of buffers -/

section Moves
variable {c : Thread nD τ} {α : Type} {Q : α → sProp (MT nD τ sig (HIx 4) (Elt F) ℕ UU ℕ)}
variable {Λ : Labels} {defs : Defs nD τ sig (Elt F) Λ} (𝒱 : Variants) (bd : Option 𝒱.V)
variable {sp sp' : Space} {s : Shape}

theorem wp_dmaP {src : Memref sig c.2.kind sp s .i32} {dst : Memref sig c.2.kind sp' s .i32} {sm : DmaSem sig} {hsrc hdst hsem}
    {k : PUnit → Prog (TpuEff nD τ sig (Elt F) Λ c.2) α} {q : PosShare TreeShare} {h h0 : s.Idx → BitVec 32} {A B B' : sProp 𝕄}
    (N : ℕ) (hN : dst.view.dmaCredit = N) (hs : 0 < s.numel) (eA : PV (F := F) c src q h = A) (eB : PV (F := F) c dst fullShare h0 = B)
    (eB' : PV (F := F) c dst fullShare h = B') :
    iprop(A ∗ B ∗ semVal (c, .dma sm) 0)
      ⊢ iprop((Transfers.Flight EC c (.dma sm) none N iprop(B' ∗ A) -∗ wp frame (wpE defs 𝒱 c bd) Set.univ (k ⟨⟩) Q)
        -∗ wp frame (wpE defs 𝒱 c bd) Set.univ (.op (.enqueueDma src (.here dst) (.dma sm) hsrc hdst hsem) k) Q) := by
  subst eA eB eB'; exact wp_dma 𝒱 bd N hN hs

theorem wp_dmaBP {n : ℕ} {src : Memref sig c.2.kind sp s .i32} {dst : Memref sig c.2.kind sp' s .i32} {sm : DmaSem sig} {hsrc hdst hsem}
    {k : PUnit → Prog (TpuEff nD τ sig (Elt F) Λ c.2) α} {q : PosShare TreeShare} {h h0 : s.Idx → BitVec 32} {A B B' : sProp 𝕄} {D : Fin n → sProp 𝕄} {j u : ℕ}
    (N : ℕ) (hN : dst.view.dmaCredit = N) (hj : j < n) (hu : u ≤ j * N) (eA : PV (F := F) c src q h = A) (eB : PV (F := F) c dst fullShare h0 = B)
    (eB' : PV (F := F) c dst fullShare h = B') (hD : iprop(B' ∗ A) ⊢ D ⟨j, hj⟩) :
    iprop(A ∗ B ∗ Transfers.Batch EC c (.dma sm) none N D j u)
      ⊢ iprop((Transfers.Batch EC c (.dma sm) none N D (j + 1) u -∗ wp frame (wpE defs 𝒱 c bd) Set.univ (k ⟨⟩) Q)
        -∗ wp frame (wpE defs 𝒱 c bd) Set.univ (.op (.enqueueDma src (.here dst) (.dma sm) hsrc hdst hsem) k) Q) := by
  subst eA eB eB'; exact wp_dmaB 𝒱 bd N hN hj hu hD

/-- A counted loop of `T` trips whose invariant does not look at what the trips carry. -/
theorem wp_loop {σ : Type} (T : ℕ) {lb ub st : BitVec 32} {hok} {init : σ} {body : Fin (Scf.trips lb ub st) → σ → Prog (TpuEff nD τ sig (Elt F) Λ c.2) σ}
    (hT : Scf.trips lb ub st = T) (I : ℕ → sProp 𝕄)
    (hbody : ∀ (k : Fin (Scf.trips lb ub st)) (acc : σ), I k.val ⊢ wp frame (wpE defs 𝒱 c bd) Set.univ (body k acc) fun _ => I (k.val + 1))
    {kk' : σ → Prog (TpuEff nD τ sig (Elt F) Λ c.2) α} :
    I 0 ⊢ iprop((∀ acc, I T -∗ wp frame (wpE defs 𝒱 c bd) Set.univ (kk' acc) Q)
      -∗ wp frame (wpE defs 𝒱 c bd) Set.univ (Scf.for lb ub st hok init body >>= kk') Q) := by
  subst hT
  exact Scf.wp_for_bind frame (wpE defs 𝒱 c bd) Set.univ lb ub st hok init body (fun n _ => I n) hbody

variable {d : Fin 1 → ℕ}

/-- A whole buffer of known length. -/
theorem PS_range {m : Memref sig c.2.kind sp ⟨1, d⟩ .i32} {n : ℕ} {q : PosShare TreeShare} {g : ℕ → BitVec 32} (hn : d 0 = n) :
    PV (F := F) c m q (fun x => g (x 0).val) = PS c m (Finset.range n) q g :=
  (PS_full fun m hm => Finset.mem_range.mpr (hn ▸ hm)).symm

/-- The whole of a buffer through its slice from 0 on. -/
theorem PS_slice_all {m : Memref sig c.2.kind sp ⟨1, d⟩ .i32} {n : ℕ} {q : PosShare TreeShare} {g : ℕ → BitVec 32} (off sz : Fin 1 → ℕ) (inb)
    (hst : ∀ a, (Rect.unit (s := ⟨1, d⟩) off sz inb).stride a = 1) (ho : off 0 = 0) (hn : sz 0 = n) :
    PV (F := F) c (m.slice (Rect.unit (s := ⟨1, d⟩) off sz inb) hst) q (fun x => g (x 0).val) = PS c m (Finset.range n) q g := by
  rw [Finset.range_eq_Ico]
  have h := PS_slice (F := F) (c := c) (m := m) (q := q) (g := g) off sz inb hst 0 n ho hn
  simp only [Nat.zero_add] at h
  exact h

/-- A slice holding given words. -/
theorem PS_slice_to {m : Memref sig c.2.kind sp ⟨1, d⟩ .i32} {q : PosShare TreeShare} {g : ℕ → BitVec 32} (off sz : Fin 1 → ℕ) (inb)
    (hst : ∀ a, (Rect.unit (s := ⟨1, d⟩) off sz inb).stride a = 1) (o n : ℕ) (ho : off 0 = o) (hn : sz 0 = n) {h : (⟨1, sz⟩ : Shape).Idx → BitVec 32}
    (hh : ∀ x, h x = g (o + (x 0).val)) :
    PV (F := F) c (m.slice (Rect.unit (s := ⟨1, d⟩) off sz inb) hst) q h = PS c m (Finset.Ico o (o + n)) q g := by
  rw [PV_congr hh]; exact PS_slice off sz inb hst o n ho hn

end Moves

theorem numel1 (n : ℕ) : (⟨1, ![n]⟩ : Shape).numel = n := by
  unfold Shape.numel; simp

theorem np (n : ℕ) (h : 0 < n) : 0 < (⟨1, ![n]⟩ : Shape).numel := by rw [numel1]; exact h

/-! What a copy of words counts for. -/
theorem cr_k : (kM : Memref sig .scVector .vmem S20000 .i32).view.dmaCredit = 640000 := by
  show (⟨1, ![20000]⟩ : Shape).numel * 32 = _
  rw [numel1]
theorem cr_v {off : Fin 1 → ℕ} {n N : ℕ} {inb hst} (hN : n * 32 = N) :
    ((vM : Memref sig .scVector .vmem S20000 .i32).slice (Rect.unit (s := S20000) off ![n] inb) hst).view.dmaCredit = N := by
  show (⟨1, ![n]⟩ : Shape).numel * 32 = _
  rw [numel1, hN]
theorem cr_hall {off : Fin 1 → ℕ} {n N : ℕ} {inb hst} (hN : n * 32 = N) :
    ((hallM : Memref sig .scVector .shared S327680 .i32).slice (Rect.unit (s := S327680) off ![n] inb) hst).view.dmaCredit = N := by
  show (⟨1, ![n]⟩ : Shape).numel * 32 = _
  rw [numel1, hN]

/-! ## The task's first stretch -/

section Part11
variable (d : Dev nD) (L : grid0.Coords) (s t : ℕ → BitVec 32) (q : PosShare TreeShare)

/-- The stretch of a column the tile reads. -/
def cut (w : ℕ) : Finset ℕ := Finset.Ico (20000 * (w % 8)) (20000 * (w % 8) + 20000)

/-- The read share of the stretch the tile's keys come from, and of the stretch its values come from. -/
def rdK : sProp 𝕄 := if (L 1).val < 8 then PS (F := F) (tcV d L) srcM (cut (L 1).val) q s else PS (F := F) (tcV d L) dstM (cut (L 1).val) q t
def rdV : sProp 𝕄 := if (L 1).val < 8 then PS (F := F) (tcV d L) dstM (cut (L 1).val) q t else PS (F := F) (tcV d L) srcM (cut (L 1).val) q s
/-- The rest of either column. -/
def rdR : sProp 𝕄 := iprop(PS (F := F) (tcV d L) srcM (Finset.range 160000 \ cut (L 1).val) q s ∗ PS (F := F) (tcV d L) dstM (Finset.range 160000 \ cut (L 1).val) q t)

theorem cut_sub (w : ℕ) : cut w ⊆ Finset.range 160000 := fun n hn => by
  unfold cut at hn; rw [Finset.mem_Ico] at hn; rw [Finset.mem_range]; omega

theorem rd_split (m : Memref sig (tcV d L).2.kind .hbm S160000 .i32) (g : ℕ → BitVec 32) :
    PS (F := F) (tcV d L) m (Finset.range 160000) q g
      = iprop(PS (F := F) (tcV d L) m (cut (L 1).val) q g ∗ PS (F := F) (tcV d L) m (Finset.range 160000 \ cut (L 1).val) q g) := by
  conv_lhs => rw [← Finset.union_sdiff_of_subset (cut_sub (L 1).val)]
  exact PS_union Finset.disjoint_sdiff

theorem rdK_lo (h : (L 1).val < 8) : rdK (F := F) d L s t q = PS (F := F) (tcV d L) srcM (cut (L 1).val) q s := if_pos h
theorem rdK_hi (h : ¬ (L 1).val < 8) : rdK (F := F) d L s t q = PS (F := F) (tcV d L) dstM (cut (L 1).val) q t := if_neg h
theorem rdV_lo (h : (L 1).val < 8) : rdV (F := F) d L s t q = PS (F := F) (tcV d L) dstM (cut (L 1).val) q t := if_pos h
theorem rdV_hi (h : ¬ (L 1).val < 8) : rdV (F := F) d L s t q = PS (F := F) (tcV d L) srcM (cut (L 1).val) q s := if_neg h

theorem ent_antisymm {P R : sProp 𝕄} (h : P ⊢ R) (h' : R ⊢ P) : P = R := Idealize.SL.BI.Entails.antisymm h h'

theorem rd_eq : iprop(rdK (F := F) d L s t q ∗ rdV (F := F) d L s t q ∗ rdR (F := F) d L s t q)
    = iprop(PS (F := F) (tcV d L) srcM (Finset.range 160000) q s ∗ PS (F := F) (tcV d L) dstM (Finset.range 160000) q t) := by
  rw [show PS (F := F) (tcV d L) srcM (Finset.range 160000) q s = _ from rd_split d L q srcM s, show PS (F := F) (tcV d L) dstM (Finset.range 160000) q t = _ from rd_split d L q dstM t]
  unfold rdR
  by_cases h : (L 1).val < 8
  · rw [rdK_lo d L s t q h, rdV_lo d L s t q h]
    refine ent_antisymm ?_ ?_
    · iintro ⟨H1, H2, H3, H4⟩
      isplitl [H1 H3]
      · isplitl [H1]; · iexact H1
        iexact H3
      isplitl [H2]; · iexact H2
      iexact H4
    · iintro ⟨⟨H1, H3⟩, H2, H4⟩
      isplitl [H1]; · iexact H1
      isplitl [H2]; · iexact H2
      isplitl [H3]; · iexact H3
      iexact H4
  · rw [rdK_hi d L s t q h, rdV_hi d L s t q h]
    refine ent_antisymm ?_ ?_
    · iintro ⟨H1, H2, H3, H4⟩
      isplitl [H2 H3]
      · isplitl [H2]; · iexact H2
        iexact H3
      isplitl [H1]; · iexact H1
      iexact H4
    · iintro ⟨⟨H2, H3⟩, H1, H4⟩
      isplitl [H1]; · iexact H1
      isplitl [H2]; · iexact H2
      isplitl [H3]; · iexact H3
      iexact H4

/-- The tile's keys and values begin here. -/
abbrev bs : ℕ := 20000 * (L 1).val

/-- The two histogram copies of the tile. -/
def Dh (j : Fin 2) : sProp 𝕄 :=
  iprop(PS (F := F) (tcV d L) hallM (Finset.Ico (20480 * (L 1).val + 10240 * j.val) (20480 * (L 1).val + 10240 * j.val + 10240)) fullShare (H0 s t)
    ∗ (if j.val = 0 then PS (F := F) (tcV d L) haM (Finset.range 10240) fullShare (hst (kk s t) (bs L) 625)
        else PS (F := F) (tcV d L) hbM (Finset.range 10240) fullShare (hst (kk s t) (bs L + 10000) 625)))

instance Dh_storable (j : Fin 2) : BI.Storable (upEmb : UEmb _ 𝕄) (Dh (F := F) d L s t j) := by
  unfold Dh; split <;> infer_instance

theorem Dh_0 : iprop(PS (F := F) (tcV d L) hallM (Finset.Ico (20480 * (L 1).val) (20480 * (L 1).val + 10240)) fullShare (H0 s t)
    ∗ PS (F := F) (tcV d L) haM (Finset.range 10240) fullShare (hst (kk s t) (bs L) 625)) ⊢ Dh (F := F) d L s t ⟨0, by decide⟩ := Entails.of_eq rfl
theorem Dh_1 : iprop(PS (F := F) (tcV d L) hallM (Finset.Ico (20480 * (L 1).val + 10240) (20480 * (L 1).val + 10240 + 10240)) fullShare (H0 s t)
    ∗ PS (F := F) (tcV d L) hbM (Finset.range 10240) fullShare (hst (kk s t) (bs L + 10000) 625)) ⊢ Dh (F := F) d L s t ⟨1, by decide⟩ := Entails.of_eq rfl

theorem lt16 (L : grid0.Coords) : (L 1).val < 16 := (L 1).isLt

theorem kk_lo (h : (L 1).val < 8) {n : ℕ} (hn : n < 20000) : s (20000 * ((L 1).val % 8) + n) = kk s t (bs L + n) ∧ t (20000 * ((L 1).val % 8) + n) = vv s t (bs L + n) := by
  unfold kk vv bs
  rw [if_pos (by omega), if_pos (by omega), Nat.mod_eq_of_lt h]; exact ⟨rfl, rfl⟩

theorem kk_hi (h : ¬ (L 1).val < 8) {n : ℕ} (hn : n < 20000) : t (20000 * ((L 1).val % 8) + n) = kk s t (bs L + n) ∧ s (20000 * ((L 1).val % 8) + n) = vv s t (bs L + n) := by
  have := lt16 L
  unfold kk vv bs
  rw [if_neg (by omega), if_neg (by omega), show 20000 * ((L 1).val % 8) + n = 20000 * (L 1).val + n - 160000 by omega]; exact ⟨rfl, rfl⟩

theorem zr_zero (g : ℕ → BitVec 32) : zr g 0 = g := by
  funext b; unfold zr; rw [if_neg (by omega)]

theorem kst_zero (k : ℕ → BitVec 32) (o : ℕ) : kst k o 0 = fun n => k (o + n) := by
  funext b; unfold kst; rw [if_neg (by omega), if_neg (by omega)]

theorem zr_hst (k : ℕ → BitVec 32) (o : ℕ) (g : ℕ → BitVec 32) : ∀ n ∈ Finset.range 10240, n < S10240.size 0 → zr g 640 n = hst k o 0 n := fun n hn _ => by
  unfold zr hst; rw [if_pos (by have := Finset.mem_range.mp hn; omega), Nat.mul_zero, Nat.add_zero, cn_self]

theorem hst_a (x : S10240.Idx) : hst (kk s t) (bs L) 625 (x 0).val = H0 s t (20480 * (L 1).val + (x 0).val) := by
  have hx : (x 0).val < 10240 := (x 0).isLt
  unfold hst H0 bs
  rw [show (20480 * (L 1).val + (x 0).val) / 10240 = 2 * (L 1).val by omega, show (20480 * (L 1).val + (x 0).val) % 10240 = (x 0).val by omega,
    show 10000 * (2 * (L 1).val) = 20000 * (L 1).val by omega]

theorem hst_b (x : S10240.Idx) : hst (kk s t) (bs L + 10000) 625 (x 0).val = H0 s t (20480 * (L 1).val + 10240 + (x 0).val) := by
  have hx : (x 0).val < 10240 := (x 0).isLt
  unfold hst H0 bs
  rw [show (20480 * (L 1).val + 10240 + (x 0).val) / 10240 = 2 * (L 1).val + 1 by omega, show (20480 * (L 1).val + 10240 + (x 0).val) % 10240 = (x 0).val by omega,
    show 10000 * (2 * (L 1).val + 1) = 20000 * (L 1).val + 10000 by omega]

variable {O : CellTallies nD τ sig (HIx 4)} {W : Waits sig (HIx 4)}

theorem part11 (hK : ∀ e, e < 320000 → KN s t e < 10000) {gk gv ga gb gh : ℕ → BitVec 32}
    {Q : (Σ' (_ : BitVec 32) (_ : IVec S16 32), BitVec 32) → sProp (MT nD τ sig (HIx 4) (Elt F) ℕ UU ℕ)} :
    iprop(Transfers.MayWaits (tcV d L) none O ∗ OW (F := F) (tcV d L) O W
        ∗ rdK (F := F) d L s t q ∗ rdV (F := F) d L s t q
        ∗ PS (F := F) (tcV d L) kM (Finset.range 20000) fullShare gk ∗ PS (F := F) (tcV d L) vM (Finset.range 20000) fullShare gv
        ∗ PS (F := F) (tcV d L) haM (Finset.range 10240) fullShare ga ∗ PS (F := F) (tcV d L) hbM (Finset.range 10240) fullShare gb
        ∗ PS (F := F) (tcV d L) hallM (Finset.Ico (20480 * (L 1).val) (20480 * (L 1).val + 10240)) fullShare gh
        ∗ semVal (tcV d L, .dma cc0_scratch18.sem) 0 ∗ semVal (tcV d L, .dma cc0_scratch19.sem) 0 ∗ semVal (tcV d L, .dma cc0_scratch20.sem) 0)
      ⊢ iprop((iprop(OW (F := F) (tcV d L) O W
          ∗ PS (F := F) (tcV d L) kM (Finset.range 20000) fullShare (kst (kk s t) (bs L) 625)
          ∗ PS (F := F) (tcV d L) hbM (Finset.range 10240) fullShare (hst (kk s t) (bs L + 10000) 625)
          ∗ rdK (F := F) d L s t q
          ∗ Transfers.Flight EC (tcV d L) (.dma cc0_scratch19.sem) none 640000 iprop(PS (F := F) (tcV d L) vM (Finset.range 20000) fullShare (fun n => vv s t (bs L + n)) ∗ rdV (F := F) d L s t q)
          ∗ semVal (tcV d L, .dma cc0_scratch18.sem) 0
          ∗ Transfers.Batch EC (tcV d L) (.dma cc0_scratch20.sem) none 327680 (Dh (F := F) d L s t) 1 0)
          -∗ Q ⟨BitVec.ofNat 32 (L 1).val, k0_pay34, Scalar.addi (Scalar.muli 2#32 (BitVec.ofNat 32 (L 1).val)) 1#32⟩)
        -∗ wpT d L (k0_part11 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20) Q) := by
  have hw := lt16 L
  have hw := lt16 L
  have hk : ∀ e, e < 20000 → kn (kk s t) (bs L + e) < 10000 := fun e he => hK _ (by unfold bs; omega)
  rw [k0_part11_eq_skeleton]
  unfold k0_part11_skel
  -- the keys' and the values' copies start; then the histograms zeroed, the keys counted, the first histogram's copy out
  by_cases h : (L 1).val < 8
  on_goal 1 =>
    rw [dif_pos ((cond1 L).mpr h), dif_neg (fun h' => (cond2 L).mp h' h)]
    iintro ⟨#Hmw, HO, Hs, Ht, Hk, Hv, Ha, Hb, Hh, Hsk, Hsv, Hsh⟩ HQ
    iapply (wp_dmaP 𝒱₀ none 640000 cr_k (np 20000 (by decide))
      ((PS_slice (F := F) (c := tcV d L) (m := srcM) (q := q) (g := s) _ _ (k0_off1_inb L ((cond1 L).mpr h)) (fun _ => rfl) (20000 * ((L 1).val % 8)) 20000 (congrFun (off1 L) 0) rfl).trans (rdK_lo d L s t q h).symm)
      (PS_range (F := F) (n := 20000) (c := tcV d L) (m := kM) (g := gk) rfl)
      ((PV_congr (h' := fun x => kk s t (bs L + (x 0).val)) fun x => (kk_lo L s t h (x 0).isLt).1).trans (PS_range (F := F) (n := 20000) (c := tcV d L) (m := kM) (g := fun n => kk s t (bs L + n)) rfl))) $$ [Hs Hk Hsk]
    · isplitl [Hs]; · iexact Hs
      isplitl [Hk]; · iexact Hk
      iexact Hsk
    iintro Hfk
    iapply (wp_dmaP 𝒱₀ none 640000 (cr_v rfl) (np 20000 (by decide))
      ((PS_slice (F := F) (c := tcV d L) (m := dstM) (q := q) (g := t) _ _ (k0_off1_inb L ((cond1 L).mpr h)) (fun _ => rfl) (20000 * ((L 1).val % 8)) 20000 (congrFun (off1 L) 0) rfl).trans (rdV_lo d L s t q h).symm)
      (PS_slice_all (n := 20000) (F := F) (c := tcV d L) (m := vM) (g := gv) _ _ inb_S20000_S20000_0 (fun _ => rfl) rfl rfl)
      ((PV_congr (h' := fun x => vv s t (bs L + (x 0).val)) fun x => (kk_lo L s t h (x 0).isLt).2).trans
        (PS_slice_all (n := 20000) (F := F) (c := tcV d L) (m := vM) (g := fun n => vv s t (bs L + n)) _ _ inb_S20000_S20000_0 (fun _ => rfl) rfl rfl))) $$ [Ht Hv Hsv]
    · isplitl [Ht]; · iexact Ht
      isplitl [Hv]; · iexact Hv
      iexact Hsv
    iintro Hfv
  on_goal 2 =>
    rw [dif_neg (fun h' => h ((cond1 L).mp h')), dif_pos ((cond2 L).mpr h)]
    iintro ⟨#Hmw, HO, Hs, Ht, Hk, Hv, Ha, Hb, Hh, Hsk, Hsv, Hsh⟩ HQ
    iapply (wp_dmaP 𝒱₀ none 640000 cr_k (np 20000 (by decide))
      ((PS_slice (F := F) (c := tcV d L) (m := dstM) (q := q) (g := t) _ _ (k0_off2_inb L ((cond2 L).mpr h)) (fun _ => rfl) (20000 * ((L 1).val % 8)) 20000 (congrFun (off2 L) 0) rfl).trans (rdK_hi d L s t q h).symm)
      (PS_range (F := F) (n := 20000) (c := tcV d L) (m := kM) (g := gk) rfl)
      ((PV_congr (h' := fun x => kk s t (bs L + (x 0).val)) fun x => (kk_hi L s t h (x 0).isLt).1).trans (PS_range (F := F) (n := 20000) (c := tcV d L) (m := kM) (g := fun n => kk s t (bs L + n)) rfl))) $$ [Hs Hk Hsk]
    · isplitl [Hs]; · iexact Hs
      isplitl [Hk]; · iexact Hk
      iexact Hsk
    iintro Hfk
    iapply (wp_dmaP 𝒱₀ none 640000 (cr_v rfl) (np 20000 (by decide))
      ((PS_slice (F := F) (c := tcV d L) (m := srcM) (q := q) (g := s) _ _ (k0_off2_inb L ((cond2 L).mpr h)) (fun _ => rfl) (20000 * ((L 1).val % 8)) 20000 (congrFun (off2 L) 0) rfl).trans (rdV_hi d L s t q h).symm)
      (PS_slice_all (n := 20000) (F := F) (c := tcV d L) (m := vM) (g := gv) _ _ inb_S20000_S20000_0 (fun _ => rfl) rfl rfl)
      ((PV_congr (h' := fun x => vv s t (bs L + (x 0).val)) fun x => (kk_hi L s t h (x 0).isLt).2).trans
        (PS_slice_all (n := 20000) (F := F) (c := tcV d L) (m := vM) (g := fun n => vv s t (bs L + n)) _ _ inb_S20000_S20000_0 (fun _ => rfl) rfl rfl))) $$ [Ht Hv Hsv]
    · isplitl [Ht]; · iexact Ht
      isplitl [Hv]; · iexact Hv
      iexact Hsv
    iintro Hfv
  all_goals
    iapply (wp_loop 𝒱₀ none 640 (by decide +kernel)
      (fun n => iprop(PS (F := F) (tcV d L) haM (Finset.range 10240) fullShare (zr ga n) ∗ PS (F := F) (tcV d L) hbM (Finset.range 10240) fullShare (zr gb n)))
      (fun n _ => trip1 d L ga gb n)) $$ [Ha Hb]
    · rw [zr_zero, zr_zero]
      isplitl [Ha]; · iexact Ha
      iexact Hb
    iintro %_ ⟨Ha, Hb⟩
    iapply (wp_wt 𝒱₀ none (N := 640000) cr_k) $$ [Hfk HO]
    · isplitr; · iexact Hmw
      isplitl [Hfk]; · iexact Hfk
      iexact HO
    iintro ⟨⟨Hk, Hs⟩, Hsk, HO⟩
    iapply (wp_loop 𝒱₀ none 625 (by decide +kernel)
      (fun n => iprop(PS (F := F) (tcV d L) kM (Finset.range 20000) fullShare (kst (kk s t) (bs L) n) ∗ PS (F := F) (tcV d L) haM (Finset.range 10240) fullShare (hst (kk s t) (bs L) n)
        ∗ PS (F := F) (tcV d L) hbM (Finset.range 10240) fullShare (hst (kk s t) (bs L + 10000) n)))
      (fun n _ => trip2 d L (kk s t) (bs L) hk n)) $$ [Hk Ha Hb]
    · rw [kst_zero]
      isplitl [Hk]; · iexact Hk
      isplitl [Ha]
      · iapply (Entails.of_eq (PS_congr (zr_hst (kk s t) (bs L) ga))) $$ Ha
      iapply (Entails.of_eq (PS_congr (zr_hst (kk s t) (bs L + 10000) gb))) $$ Hb
    iintro %_ ⟨Hk, Ha, Hb⟩
    imod (Transfers.batch_alloc' EC (tcV d L) none 327680 (Dh (F := F) d L s t)) $$ Hsh with HB
    iapply (wp_dmaBP (n := 2) (j := 0) (u := 0) 𝒱₀ none 327680 (cr_hall rfl) (by decide) (by decide) (PS_range (F := F) (n := 10240) (c := tcV d L) (m := haM) (g := hst (kk s t) (bs L) 625) rfl)
      (PS_slice (F := F) (c := tcV d L) (m := hallM) (g := gh) _ _ (k0_off9_inb L) (fun _ => rfl) (20480 * (L 1).val) 10240 (congrFun (k0_off9_eq L) 0) rfl)
      (PS_slice_to (F := F) (c := tcV d L) (m := hallM) (g := H0 s t) _ _ (k0_off9_inb L) (fun _ => rfl) (20480 * (L 1).val) 10240 (congrFun (k0_off9_eq L) 0) rfl (hst_a L s t))
      (Dh_0 d L s t)) $$ [Ha Hh HB]
    · isplitl [Ha]; · iexact Ha
      isplitl [Hh]; · iexact Hh
      iexact HB
    iintro HB
    iapply (wp_fin (F := F))
    iapply HQ
    isplitl [HO]; · iexact HO
    isplitl [Hk]; · iexact Hk
    isplitl [Hb]; · iexact Hb
    isplitl [Hs]; · iexact Hs
    isplitl [Hfv]; · iexact Hfv
    isplitl [Hsk]; · iexact Hsk
    iexact HB

end Part11

end Cert.Proof.Sorting
-- ==== Proof.Copies.lean ====
/-
The task's transfers between the shared histograms and a tile's block, and its barriers, as steps of its run.
-/
module

public import proofs.«01_k».proof.Proof.Phase1

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

open Idealize.ShloMosaic.Transfers (pending bigSep_pending_zero bigSep_pending_step)

section Credits
theorem cr_ha : (haM : Memref sig .scVector .vmem S10240 .i32).view.dmaCredit = 327680 := by
  show (⟨1, ![10240]⟩ : Shape).numel * 32 = _
  rw [numel1]
theorem cr_hb : (hbM : Memref sig .scVector .vmem S10240 .i32).view.dmaCredit = 327680 := by
  show (⟨1, ![10240]⟩ : Shape).numel * 32 = _
  rw [numel1]
theorem cr_tot : (totM : Memref sig .scVector .vmem S16 .i32).view.dmaCredit = 512 := by
  show (⟨1, ![16]⟩ : Shape).numel * 32 = _
  rw [numel1]
theorem cr_ts {off : Fin 1 → ℕ} {n N : ℕ} {inb hst} (hN : n * 32 = N) :
    ((tsM : Memref sig .scVector .shared S256 .i32).slice (Rect.unit (s := S256) off ![n] inb) hst).view.dmaCredit = N := by
  show (⟨1, ![n]⟩ : Shape).numel * 32 = _
  rw [numel1, hN]
theorem cr_blk {off : Fin 1 → ℕ} {n N : ℕ} {inb hst} (hN : n * 32 = N) :
    ((blkM : Memref sig .scVector .vmem S20480 .i32).slice (Rect.unit (s := S20480) off ![n] inb) hst).view.dmaCredit = N := by
  show (⟨1, ![n]⟩ : Shape).numel * 32 = _
  rw [numel1, hN]
theorem cr_out {off : Fin 1 → ℕ} {n N : ℕ} {inb hst} (hN : n * 32 = N) :
    ((outM : Memref sig .scVector .hbm S320000 .i32).slice (Rect.unit (s := S320000) off ![n] inb) hst).view.dmaCredit = N := by
  show (⟨1, ![n]⟩ : Shape).numel * 32 = _
  rw [numel1, hN]
end Credits

section Copies
variable (d : Dev nD) (L : grid0.Coords) (s t : ℕ → BitVec 32)

/-- A tile's kit for barrier `r`: its tokens to pay every tile with, its own claim, and its tokens to be paid by. -/
def kitB (r : ℕ) (ι : HIx 4) : sProp 𝕄 :=
  iprop((bigSep Finset.univ fun j : TI => dutyTok EB (bcell d ((L 0).castLE hcore0) j) 0 (16 * r + (L 1).val))
    ∗ cred (tallyAt (bcell d ((L 0).castLE hcore0) (L 1)) ι 16)
    ∗ (bigSep Finset.univ fun n : TI => dutyTok EX (bcell d ((L 0).castLE hcore0) (L 1)) r n.val))

theorem kitB_eq (r : ℕ) (ι : HIx 4) : kitB (F := F) d L r ι = iprop((bigSep Finset.univ fun j : TI => dutyTok EB (bcell d ((L 0).castLE hcore0) j) 0 (16 * r + (L 1).val))
    ∗ cred (tallyAt (bcell d ((L 0).castLE hcore0) (L 1)) ι 16)
    ∗ (bigSep Finset.univ fun n : TI => dutyTok EX (bcell d ((L 0).castLE hcore0) (L 1)) r n.val)) := rfl

theorem OW_eq (c : Thread nD τ) (O : CellTallies nD τ sig (HIx 4)) (W : Waits sig (HIx 4)) :
    OW (F := F) c O W = iprop(∃ W', ⌜∀ p ∈ W', p ∈ W ∨ p.2 = none ∨ (blocks).blk 0 p.2⌝ ∗ owes c O W') := rfl

/-- The tile comes to barrier `r` with `A` and leaves with `B`. -/
theorem wp_bar {O : CellTallies nD τ sig (HIx 4)} {W : Waits sig (HIx 4)} (r : ℕ) (hr : r < 4) (ι : HIx 4) (hι : ι = none ∨ (blocks).blk 0 ι) {A B : sProp (MT nD τ sig (HIx 4) (Elt F) ℕ UU ℕ)}
    (hA : A = bigSep Finset.univ fun j : TI => pay (F := F) d ((L 0).castLE hcore0) s t r (L 1) j) (hB : (bigSep Finset.univ fun n : TI => pay (F := F) d ((L 0).castLE hcore0) s t r n (L 1)) = B)
    {α : Type} {Q : α → sProp (MT nD τ sig (HIx 4) (Elt F) ℕ UU ℕ)} {k : PUnit → Prog (TpuEff nD τ sig (Elt F) Λ₀ (.scVector ((L 0).castLE hcore0) ((L 1).castLE hsub0))) α} :
    iprop(bctx (pay (F := F) d ((L 0).castLE hcore0) s t) d ((L 0).castLE hcore0) ∗ MayWait (tcV d L) (.reg sc_bar0) ι O
        ∗ OW (F := F) (tcV d L) (O + oxB d ((L 0).castLE hcore0) ι) W ∗ kitB (F := F) d L r ι ∗ bst d ((L 0).castLE hcore0) (L 1) r ∗ A)
      ⊢ iprop((iprop(OW (F := F) (tcV d L) O W ∗ bst d ((L 0).castLE hcore0) (L 1) (r + 1) ∗ B) -∗ wpT d L (k ⟨⟩) Q)
        -∗ wpT d L (SparseCore.subcoreBarrier sc_bar0 (grid0.bound 1) hsub0 >>= k) Q) := by
  subst hA hB
  iintro ⟨Hc, Hmw, HO, Hk, Hs, HA⟩ HQ
  ihave HO' := (Entails.of_eq (OW_eq (tcV d L) _ W)) $$ HO
  ihave Hk' := (Entails.of_eq (kitB_eq d L r ι)) $$ Hk
  icases HO' with ⟨%W', %hW', HO⟩
  icases Hk' with ⟨Ht, Hcr, Hx⟩
  iapply (wp_barrier (pay (F := F) d ((L 0).castLE hcore0) s t) 𝒱₀ none d ((L 0).castLE hcore0) (L 1) r hr ι O W') $$ [Hc Hmw HO Ht Hcr Hx Hs HA]
  · isplitl [Hc]; · iexact Hc
    isplitl [HO]; · iexact HO
    isplitl [Ht]; · iexact Ht
    isplitl [Hcr]; · iexact Hcr
    isplitl [Hmw]; · iexact Hmw
    isplitl [Hs]; · iexact Hs
    isplitl [HA]; · iexact HA
    iexact Hx
  iintro ⟨HO, Hs, HB⟩
  iapply HQ
  isplitl [HO]
  · iapply (OW_insert (F := F) (c := tcV d L) (O := O) (W := W) (.reg sc_bar0) ι hι hW') $$ HO
  isplitl [Hs]; · iexact Hs
  iexact HB

/-! ## The rows of the histograms that hold the tile's bins, copied in -/

/-- Where word `q` of the block lies among all the histograms. -/
def hpos (w q : ℕ) : ℕ := 10240 * (q / 640) + 640 * w + q % 640

abbrev hrun (w v : ℕ) : Finset ℕ := Finset.Ico (10240 * v + 640 * w) (10240 * v + 640 * w + 640)
abbrev brun (v : ℕ) : Finset ℕ := Finset.Ico (640 * v) (640 * v + 640)

theorem hpos_run (w v : ℕ) (x : ℕ) (hx : x < 640) : hpos w (640 * v + x) = 10240 * v + 640 * w + x := by
  unfold hpos
  rw [show (640 * v + x) / 640 = v by omega, show (640 * v + x) % 640 = x by omega]

/-- What is still to copy: row `v` and its room. -/
def Fi (h gB : ℕ → BitVec 32) (v : Fin 32) : sProp 𝕄 :=
  iprop(PS (F := F) (tcV d L) hallM (hrun (L 1).val v.val) fullShare h ∗ PS (F := F) (tcV d L) blkM (brun v.val) fullShare gB)
theorem Fi_eq (h gB : ℕ → BitVec 32) (v : Fin 32) : Fi (F := F) d L h gB v
    = iprop(PS (F := F) (tcV d L) hallM (hrun (L 1).val v.val) fullShare h ∗ PS (F := F) (tcV d L) blkM (brun v.val) fullShare gB) := rfl
/-- What copy `v` delivers. -/
def Di (h : ℕ → BitVec 32) (v : Fin 32) : sProp 𝕄 :=
  iprop(PS (F := F) (tcV d L) blkM (brun v.val) fullShare (fun q => h (hpos (L 1).val q)) ∗ PS (F := F) (tcV d L) hallM (hrun (L 1).val v.val) fullShare h)
instance Di_storable (h : ℕ → BitVec 32) (v : Fin 32) : BI.Storable (upEmb : UEmb _ 𝕄) (Di (F := F) d L h v) := by unfold Di; infer_instance

/-- `v` of the copies in started. -/
def CI (h gB : ℕ → BitVec 32) (v : ℕ) : sProp 𝕄 :=
  iprop(bigSep (pending (n := 32) v) (Fi (F := F) d L h gB) ∗ Transfers.Batch EC (tcV d L) (.dma cc0_scratch21.sem) none 20480 (Di (F := F) d L h) v 0)
/-- All the copies in started, `v` of them waited for. -/
def WI (h : ℕ → BitVec 32) (v : ℕ) : sProp 𝕄 :=
  Transfers.Batch EC (tcV d L) (.dma cc0_scratch21.sem) none 20480 (Di (F := F) d L h) 32 (20480 * v)

theorem CI_intro (h gB : ℕ → BitVec 32) :
    iprop(PS (F := F) (tcV d L) hallM (hcol (L 1).val) fullShare h ∗ PS (F := F) (tcV d L) blkM (Finset.range 20480) fullShare gB ∗ semVal (tcV d L, .dma cc0_scratch21.sem) 0)
      ⊢ |={Set.univ}=> CI (F := F) d L h gB 0 := by
  rw [show PS (F := F) (tcV d L) hallM (hcol (L 1).val) fullShare h = _ from hcol_runs d ((L 0).castLE hcore0) (L 1),
    show PS (F := F) (tcV d L) blkM (Finset.range 20480) fullShare gB = _ from blk_runs d ((L 0).castLE hcore0) (L 1)]
  iintro ⟨H1, H2, Hs⟩
  imod (Transfers.batch_alloc' EC (tcV d L) none 20480 (Di (F := F) d L h)) $$ Hs with HB
  imodintro
  unfold CI
  isplitl [H1 H2]
  · rw [← bigSep_pending_zero]
    unfold Fi
    rw [show (bigSep Finset.univ fun v : Fin 32 => iprop(PS (F := F) (tcV d L) hallM (hrun (L 1).val v.val) fullShare h ∗ PS (F := F) (tcV d L) blkM (brun v.val) fullShare gB)) = _ from bigSep_sep' _ _ _]
    isplitl [H1]; · iexact H1
    iexact H2
  iexact HB

variable {α : Type} {Q : α → sProp (MT nD τ sig (HIx 4) (Elt F) ℕ UU ℕ)}

theorem cp_in (h gB : ℕ → BitVec 32) (v : ℕ) (hv : v < 32) {offs offd : Fin 1 → ℕ} {inbs inbd hss hsd} {hsrc hdst hsem}
    {k : PUnit → Prog (TpuEff nD τ sig (Elt F) Λ₀ (.scVector ((L 0).castLE hcore0) ((L 1).castLE hsub0))) α}
    (ho : offs 0 = 10240 * v + 640 * (L 1).val) (hd : offd 0 = 640 * v) :
    CI (F := F) d L h gB v ⊢ iprop((CI (F := F) d L h gB (v + 1) -∗ wpT d L (k ⟨⟩) Q)
      -∗ wpT d L (.op (.enqueueDma (hallM.slice (Rect.unit (s := S327680) offs S640.size inbs) hss)
          (.here (blkM.slice (Rect.unit (s := S20480) offd S640.size inbd) hsd)) (.dma cc0_scratch21.sem) hsrc hdst hsem) k) Q) := by
  unfold CI
  rw [bigSep_pending_step (Fi (F := F) d L h gB) v hv]
  iintro ⟨⟨HF, Hp⟩, HB⟩ HQ
  ihave HF' := (Entails.of_eq (Fi_eq d L h gB ⟨v, hv⟩)) $$ HF
  icases HF' with ⟨H1, H2⟩
  iapply (wp_dmaBP (n := 32) (j := v) (u := 0) 𝒱₀ none 20480 (cr_blk rfl) hv (Nat.zero_le _)
    (PS_slice (F := F) (c := tcV d L) (m := hallM) (g := h) offs _ inbs hss _ 640 ho rfl)
    (PS_slice (F := F) (c := tcV d L) (m := blkM) (g := gB) offd _ inbd hsd _ 640 hd rfl)
    (PS_slice_to (F := F) (c := tcV d L) (m := blkM) (g := fun q => h (hpos (L 1).val q)) offd _ inbd hsd _ 640 hd rfl
      (fun x => by rw [hpos_run _ _ _ (x 0).isLt]))
    (Entails.of_eq (show _ = Di (F := F) d L h ⟨v, hv⟩ from rfl))) $$ [H1 H2 HB]
  · isplitl [H1]; · iexact H1
    isplitl [H2]; · iexact H2
    iexact HB
  iintro HB
  iapply HQ
  isplitl [Hp]; · iexact Hp
  iexact HB

theorem CI_all (h gB : ℕ → BitVec 32) : CI (F := F) d L h gB 32 ⊢ WI (F := F) d L h 0 := by
  unfold CI WI
  have e : pending (n := 32) 32 = ∅ := by
    ext j; simp only [Transfers.pending, Finset.mem_filter, Finset.mem_univ, true_and, Finset.notMem_empty, iff_false]; have := j.isLt; omega
  rw [e, bigSep_empty]
  iintro ⟨-, H⟩; iexact H

variable {O : CellTallies nD τ sig (HIx 4)} {W : Waits sig (HIx 4)}

theorem wt_in (h : ℕ → BitVec 32) (v : ℕ) (hv : v < 31) {offd : Fin 1 → ℕ} {inbd hsd} {srcw : Memref sig .scVector .shared S640 .i32} {hsrc hdst}
    {k : PUnit → Prog (TpuEff nD τ sig (Elt F) Λ₀ (.scVector ((L 0).castLE hcore0) ((L 1).castLE hsub0))) α} :
    iprop(Transfers.MayWaits (tcV d L) none O ∗ WI (F := F) d L h v ∗ OW (F := F) (tcV d L) O W)
      ⊢ iprop((iprop(WI (F := F) d L h (v + 1) ∗ OW (F := F) (tcV d L) O W) -∗ wpT d L (k ⟨⟩) Q)
      -∗ wpT d L (.op (.waitDma2 cc0_scratch21.sem srcw (blkM.slice (Rect.unit (s := S20480) offd S640.size inbd) hsd) hsrc hdst) k) Q) := by
  unfold WI
  exact wp_wtB (c := tcV d L) 𝒱₀ none (n := 32) (N := 20480) (cr_blk rfl) (by omega) (by omega)

theorem wt_inL (h : ℕ → BitVec 32) {offd : Fin 1 → ℕ} {inbd hsd} {srcw : Memref sig .scVector .shared S640 .i32} {hsrc hdst}
    {k : PUnit → Prog (TpuEff nD τ sig (Elt F) Λ₀ (.scVector ((L 0).castLE hcore0) ((L 1).castLE hsub0))) α} :
    iprop(Transfers.MayWaits (tcV d L) none O ∗ WI (F := F) d L h 31 ∗ OW (F := F) (tcV d L) O W)
      ⊢ iprop((iprop(PS (F := F) (tcV d L) blkM (Finset.range 20480) fullShare (fun q => h (hpos (L 1).val q)) ∗ PS (F := F) (tcV d L) hallM (hcol (L 1).val) fullShare h
            ∗ semVal (tcV d L, .dma cc0_scratch21.sem) 0 ∗ OW (F := F) (tcV d L) O W) -∗ wpT d L (k ⟨⟩) Q)
      -∗ wpT d L (.op (.waitDma2 cc0_scratch21.sem srcw (blkM.slice (Rect.unit (s := S20480) offd S640.size inbd) hsd) hsrc hdst) k) Q) := by
  rw [show PS (F := F) (tcV d L) hallM (hcol (L 1).val) fullShare h = _ from hcol_runs d ((L 0).castLE hcore0) (L 1),
    show PS (F := F) (tcV d L) blkM (Finset.range 20480) fullShare (fun q => h (hpos (L 1).val q)) = _ from blk_runs d ((L 0).castLE hcore0) (L 1)]
  unfold WI
  iintro H HQ
  iapply (wp_wtL (c := tcV d L) 𝒱₀ none (n := 32) (N := 20480) (D := Di (F := F) d L h) (u := 20480 * 31) (O := O) (W := W) (cr_blk rfl) (np 640 (by decide)) (by decide)) $$ H
  unfold Di
  rw [show (bigSep Finset.univ fun v : Fin 32 => iprop(PS (F := F) (tcV d L) blkM (brun v.val) fullShare (fun q => h (hpos (L 1).val q)) ∗ PS (F := F) (tcV d L) hallM (hrun (L 1).val v.val) fullShare h)) = _ from bigSep_sep' _ _ _]
  iintro ⟨⟨H1, H2⟩, Hs, HO⟩
  iapply HQ
  isplitl [H1]; · iexact H1
  isplitl [H2]; · iexact H2
  isplitl [Hs]; · iexact Hs
  iexact HO

/-! ## The first places, copied out -/

/-- What is still to do of row `v`: the counts before it, and the row of the shared histograms. -/
def Fo (h p : ℕ → BitVec 32) (v : Fin 32) : sProp 𝕄 :=
  iprop(PS (F := F) (tcV d L) blkM (brun v.val) fullShare p ∗ PS (F := F) (tcV d L) hallM (hrun (L 1).val v.val) fullShare h)
def Do (h2 : ℕ → BitVec 32) (v : Fin 32) : sProp 𝕄 :=
  iprop(PS (F := F) (tcV d L) hallM (hrun (L 1).val v.val) fullShare h2 ∗ PS (F := F) (tcV d L) blkM (brun v.val) fullShare (fun q => h2 (hpos (L 1).val q)))
instance Do_storable (h : ℕ → BitVec 32) (v : Fin 32) : BI.Storable (upEmb : UEmb _ 𝕄) (Do (F := F) d L h v) := by unfold Do; infer_instance

/-- `v` of the copies out started. -/
def CO (h p h2 : ℕ → BitVec 32) (v : ℕ) : sProp 𝕄 :=
  iprop(bigSep (pending (n := 32) v) (Fo (F := F) d L h p) ∗ Transfers.Batch EC (tcV d L) (.dma cc0_scratch22.sem) none 20480 (Do (F := F) d L h2) v 0)
/-- `v` of the copies out started, the next row of the block at `b`. -/
def CM (h p h2 b : ℕ → BitVec 32) (v : ℕ) : sProp 𝕄 :=
  iprop(PS (F := F) (tcV d L) blkM (brun v) fullShare b ∗ PS (F := F) (tcV d L) hallM (hrun (L 1).val v) fullShare h
    ∗ bigSep (pending (n := 32) (v + 1)) (Fo (F := F) d L h p) ∗ Transfers.Batch EC (tcV d L) (.dma cc0_scratch22.sem) none 20480 (Do (F := F) d L h2) v 0)
def WO (h2 : ℕ → BitVec 32) (v : ℕ) : sProp 𝕄 :=
  Transfers.Batch EC (tcV d L) (.dma cc0_scratch22.sem) none 20480 (Do (F := F) d L h2) 32 (20480 * v)

theorem CO_intro (h p h2 : ℕ → BitVec 32) :
    iprop(PS (F := F) (tcV d L) blkM (Finset.range 20480) fullShare p ∗ PS (F := F) (tcV d L) hallM (hcol (L 1).val) fullShare h ∗ semVal (tcV d L, .dma cc0_scratch22.sem) 0)
      ⊢ |={Set.univ}=> CO (F := F) d L h p h2 0 := by
  rw [show PS (F := F) (tcV d L) hallM (hcol (L 1).val) fullShare h = _ from hcol_runs d ((L 0).castLE hcore0) (L 1),
    show PS (F := F) (tcV d L) blkM (Finset.range 20480) fullShare p = _ from blk_runs d ((L 0).castLE hcore0) (L 1)]
  iintro ⟨H1, H2, Hs⟩
  imod (Transfers.batch_alloc' EC (tcV d L) none 20480 (Do (F := F) d L h2)) $$ Hs with HB
  imodintro
  unfold CO
  isplitl [H1 H2]
  · rw [← bigSep_pending_zero]
    unfold Fo
    rw [show (bigSep Finset.univ fun v : Fin 32 => iprop(PS (F := F) (tcV d L) blkM (brun v.val) fullShare p ∗ PS (F := F) (tcV d L) hallM (hrun (L 1).val v.val) fullShare h)) = _ from bigSep_sep' _ _ _]
    isplitl [H1]; · iexact H1
    iexact H2
  iexact HB

theorem CO_CM (h p h2 : ℕ → BitVec 32) (v : ℕ) (hv : v < 32) : CO (F := F) d L h p h2 v = CM (F := F) d L h p h2 p v := by
  unfold CO CM
  rw [bigSep_pending_step (Fo (F := F) d L h p) v hv]
  unfold Fo
  refine ent_antisymm ?_ ?_
  · iintro ⟨⟨⟨H1, H2⟩, H3⟩, H4⟩
    isplitl [H1]; · iexact H1
    isplitl [H2]; · iexact H2
    isplitl [H3]; · iexact H3
    iexact H4
  · iintro ⟨H1, H2, H3, H4⟩
    isplitr [H4]; swap; · iexact H4
    isplitr [H3]; swap; · iexact H3
    isplitl [H1]; · iexact H1
    iexact H2

theorem cp_out (h p h2 : ℕ → BitVec 32) (v : ℕ) (hv : v < 32) {offs offd : Fin 1 → ℕ} {inbs inbd hss hsd} {hsrc hdst hsem}
    {k : PUnit → Prog (TpuEff nD τ sig (Elt F) Λ₀ (.scVector ((L 0).castLE hcore0) ((L 1).castLE hsub0))) α}
    (ho : offs 0 = 10240 * v + 640 * (L 1).val) (hd : offd 0 = 640 * v) :
    CM (F := F) d L h p h2 (fun q => h2 (hpos (L 1).val q)) v ⊢ iprop((CO (F := F) d L h p h2 (v + 1) -∗ wpT d L (k ⟨⟩) Q)
      -∗ wpT d L (.op (.enqueueDma (blkM.slice (Rect.unit (s := S20480) offd S640.size inbd) hsd)
          (.here (hallM.slice (Rect.unit (s := S327680) offs S640.size inbs) hss)) (.dma cc0_scratch22.sem) hsrc hdst hsem) k) Q) := by
  unfold CM CO
  iintro ⟨H1, H2, Hp, HB⟩ HQ
  iapply (wp_dmaBP (n := 32) (j := v) (u := 0) 𝒱₀ none 20480 (cr_hall rfl) hv (Nat.zero_le _)
    (PS_slice (F := F) (c := tcV d L) (m := blkM) (g := fun q => h2 (hpos (L 1).val q)) offd _ inbd hsd _ 640 hd rfl)
    (PS_slice (F := F) (c := tcV d L) (m := hallM) (g := h) offs _ inbs hss _ 640 ho rfl)
    (PS_slice_to (F := F) (c := tcV d L) (m := hallM) (g := h2) offs _ inbs hss _ 640 ho rfl
      (fun x => by dsimp only; rw [hpos_run _ _ _ (x 0).isLt]))
    (Entails.of_eq (show _ = Do (F := F) d L h2 ⟨v, hv⟩ from rfl))) $$ [H1 H2 HB]
  · isplitl [H1]; · iexact H1
    isplitl [H2]; · iexact H2
    iexact HB
  iintro HB
  iapply HQ
  isplitl [Hp]; · iexact Hp
  iexact HB

theorem CO_all (h p h2 : ℕ → BitVec 32) : CO (F := F) d L h p h2 32 ⊢ WO (F := F) d L h2 0 := by
  unfold CO WO
  have e : pending (n := 32) 32 = ∅ := by
    ext j; simp only [Transfers.pending, Finset.mem_filter, Finset.mem_univ, true_and, Finset.notMem_empty, iff_false]; have := j.isLt; omega
  rw [e, bigSep_empty]
  iintro ⟨-, H⟩; iexact H

theorem wt_out (h2 : ℕ → BitVec 32) (v : ℕ) (hv : v < 31) {offd : Fin 1 → ℕ} {inbd hsd} {srcw : Memref sig .scVector .vmem S640 .i32} {hsrc hdst}
    {k : PUnit → Prog (TpuEff nD τ sig (Elt F) Λ₀ (.scVector ((L 0).castLE hcore0) ((L 1).castLE hsub0))) α} :
    iprop(Transfers.MayWaits (tcV d L) none O ∗ WO (F := F) d L h2 v ∗ OW (F := F) (tcV d L) O W)
      ⊢ iprop((iprop(WO (F := F) d L h2 (v + 1) ∗ OW (F := F) (tcV d L) O W) -∗ wpT d L (k ⟨⟩) Q)
      -∗ wpT d L (.op (.waitDma2 cc0_scratch22.sem srcw (hallM.slice (Rect.unit (s := S327680) offd S640.size inbd) hsd) hsrc hdst) k) Q) := by
  unfold WO
  exact wp_wtB (c := tcV d L) 𝒱₀ none (n := 32) (N := 20480) (cr_hall rfl) (by omega) (by omega)

theorem wt_outL (h2 : ℕ → BitVec 32) {offd : Fin 1 → ℕ} {inbd hsd} {srcw : Memref sig .scVector .vmem S640 .i32} {hsrc hdst}
    {k : PUnit → Prog (TpuEff nD τ sig (Elt F) Λ₀ (.scVector ((L 0).castLE hcore0) ((L 1).castLE hsub0))) α} :
    iprop(Transfers.MayWaits (tcV d L) none O ∗ WO (F := F) d L h2 31 ∗ OW (F := F) (tcV d L) O W)
      ⊢ iprop((iprop(PS (F := F) (tcV d L) blkM (Finset.range 20480) fullShare (fun q => h2 (hpos (L 1).val q)) ∗ PS (F := F) (tcV d L) hallM (hcol (L 1).val) fullShare h2
            ∗ semVal (tcV d L, .dma cc0_scratch22.sem) 0 ∗ OW (F := F) (tcV d L) O W) -∗ wpT d L (k ⟨⟩) Q)
      -∗ wpT d L (.op (.waitDma2 cc0_scratch22.sem srcw (hallM.slice (Rect.unit (s := S327680) offd S640.size inbd) hsd) hsrc hdst) k) Q) := by
  rw [show PS (F := F) (tcV d L) hallM (hcol (L 1).val) fullShare h2 = _ from hcol_runs d ((L 0).castLE hcore0) (L 1),
    show PS (F := F) (tcV d L) blkM (Finset.range 20480) fullShare (fun q => h2 (hpos (L 1).val q)) = _ from blk_runs d ((L 0).castLE hcore0) (L 1)]
  unfold WO
  iintro H HQ
  iapply (wp_wtL (c := tcV d L) 𝒱₀ none (n := 32) (N := 20480) (D := Do (F := F) d L h2) (u := 20480 * 31) (O := O) (W := W) (cr_hall rfl) (np 640 (by decide)) (by decide)) $$ H
  unfold Do
  rw [show (bigSep Finset.univ fun v : Fin 32 => iprop(PS (F := F) (tcV d L) hallM (hrun (L 1).val v.val) fullShare h2 ∗ PS (F := F) (tcV d L) blkM (brun v.val) fullShare (fun q => h2 (hpos (L 1).val q)))) = _ from bigSep_sep' _ _ _]
  iintro ⟨⟨H1, H2⟩, Hs, HO⟩
  iapply HQ
  isplitl [H2]; · iexact H2
  isplitl [H1]; · iexact H1
  isplitl [Hs]; · iexact Hs
  iexact HO

end Copies

end Cert.Proof.Sorting
-- ==== Proof.Prefix.lean ====
/-
The counts before each stretch and the first places: the trips of the task's middle loops.
-/
module

public import proofs.«01_k».proof.Proof.Copies

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Prefix
variable (d : Dev nD) (L : grid0.Coords) (s t : ℕ → BitVec 32)

theorem bin_lt (L : grid0.Coords) {x : ℕ} (hx : x < 640) : 640 * (L 1).val + x < 10240 := by
  have : (L 1).val < 16 := (L 1).isLt
  omega

theorem hpos_div (L : grid0.Coords) (q : ℕ) : hpos (L 1).val q / 10240 = q / 640 := by
  have := bin_lt L (Nat.mod_lt q (show 0 < 640 by decide))
  unfold hpos; omega
theorem hpos_mod (L : grid0.Coords) (q : ℕ) : hpos (L 1).val q % 10240 = 640 * (L 1).val + q % 640 := by
  have := bin_lt L (Nat.mod_lt q (show 0 < 640 by decide))
  unfold hpos; omega

/-- The counts of the keys before each stretch. -/
def pP (q : ℕ) : BitVec 32 := W (cn (KN s t) 0 (10000 * (q / 640)) (640 * (L 1).val + q % 640))

/-- The block while stretch `v` is summed, `n` sixteens of it done. -/
def gB (v n : ℕ) : ℕ → BitVec 32 := fun q => if q < 640 * v + 16 * n then pP L s t q else H0 s t (hpos (L 1).val q)
/-- The running counts. -/
def gA (v n : ℕ) : ℕ → BitVec 32 := fun j => W (cn (KN s t) 0 (10000 * (if j < 16 * n then v + 1 else v)) (640 * (L 1).val + j))

theorem gB_next (v : ℕ) : gB L s t v 40 = gB L s t (v + 1) 0 := by
  unfold gB; rw [show 640 * v + 16 * 40 = 640 * (v + 1) + 16 * 0 by omega]
theorem gA_next (v : ℕ) : ∀ n ∈ Finset.range 640, n < S640.size 0 → gA L s t v 40 n = gA L s t (v + 1) 0 n := fun n hn _ => by
  have := Finset.mem_range.mp hn
  unfold gA; rw [if_pos (by omega), if_neg (by omega)]
theorem gB_zero : gB L s t 0 0 = fun q => H0 s t (hpos (L 1).val q) := by
  funext q; unfold gB; rw [if_neg (by omega)]
theorem gA_zero (g : ℕ → BitVec 32) : ∀ n ∈ Finset.range 640, n < S640.size 0 → zr g 40 n = gA L s t 0 0 n := fun n hn _ => by
  have := Finset.mem_range.mp hn
  unfold gA zr; rw [if_pos (by omega), if_neg (by omega), Nat.mul_zero, cn_self]
theorem gB_last : ∀ n ∈ Finset.range 20480, n < S20480.size 0 → gB L s t 32 0 n = pP L s t n := fun n hn _ => by
  have := Finset.mem_range.mp hn
  unfold gB; rw [if_pos (by omega)]

/-- The block and the running counts. -/
def Pf (v n : ℕ) : sProp 𝕄 :=
  iprop(PS (F := F) (tcV d L) blkM (Finset.range 20480) fullShare (gB L s t v n) ∗ PS (F := F) (tcV d L) accM (Finset.range 640) fullShare (gA L s t v n))

theorem Pf_next (v : ℕ) : Pf (F := F) d L s t v 40 = Pf (F := F) d L s t (v + 1) 0 := by
  unfold Pf; rw [gB_next, PS_congr (gA_next L s t v)]

theorem ptrip (v n : ℕ) (hv : v < 32) (hn : n < 40) {oa ob : Fin 1 → ℕ} {inba inbb} (ha : oa 0 = 16 * n) (hb : ob 0 = 16 * n + 640 * v)
    {pp : Vec F S16 .i32 → Vec F S16 .i32 → IVec S16 32} (hp : ∀ a b, pp a b = addi a b) :
    Pf (F := F) d L s t v n ⊢ wpT d L (do
      let v1027 : Vec F S16 .i32 ← Prog.lift (.load accM (Rect.unit (s := S640) oa S16.size inba).toLoadRect (View.loadsAt_vmem h_S16))
      let v1031 : Vec F S16 .i32 ← Prog.lift (.load blkM (Rect.unit (s := S20480) ob S16.size inbb).toLoadRect (View.loadsAt_vmem h_S16))
      let v1035 : Vec F S16 .i32 ← Prog.lift (.load blkM (Rect.unit (s := S20480) ob S16.size inbb).toLoadRect (View.loadsAt_vmem h_S16))
      Prog.lift (.store blkM (Rect.unit (s := S20480) ob S16.size inbb) v1027 Finset.univ (View.stores_vmem_bits_univ h_S16 rfl) (.inl rfl))
      let v1039 : Vec F S16 .i32 ← Prog.lift (.load accM (Rect.unit (s := S640) oa S16.size inba).toLoadRect (View.loadsAt_vmem h_S16))
      Prog.lift (.store accM (Rect.unit (s := S640) oa S16.size inba) (pp v1027 v1031) Finset.univ (View.stores_vmem_bits_univ h_S16 rfl) (.inl rfl))
      pure ()) fun _ => Pf (F := F) d L s t v (n + 1) := by
  have hia : ∀ j, j < S16.size 0 → oa 0 + j ∈ Finset.range 640 := fun j hj => by
    have hj' : j < 16 := hj
    rw [Finset.mem_range, ha]; omega
  have hib : ∀ j, j < S16.size 0 → ob 0 + j ∈ Finset.range 20480 := fun j hj => by
    have hj' : j < 16 := hj
    rw [Finset.mem_range, hb]; omega
  unfold Pf
  iintro ⟨Hb, Ha⟩
  iapply (wp_ld 𝒱₀ none Set.univ hia) $$ Ha; iintro Ha
  iapply (wp_ld 𝒱₀ none Set.univ hib) $$ Hb; iintro Hb
  iapply (wp_ld 𝒱₀ none Set.univ hib) $$ Hb; iintro Hb
  iapply (wp_st 𝒱₀ none Set.univ (gB L s t v (n + 1)) hib (fun x => by
      have := i16 x
      unfold gB gA pP
      rw [if_pos (by omega), if_neg (by omega), ha, hb, show (16 * n + 640 * v + (x 0).val) / 640 = v by omega, show (16 * n + 640 * v + (x 0).val) % 640 = 16 * n + (x 0).val by omega])
    (fun m _ h => by
      have h16 : (S16.size 0) = 16 := rfl
      rw [h16, hb] at h
      unfold gB
      by_cases h1 : m < 640 * v + 16 * n
      · rw [if_pos h1, if_pos (by omega)]
      · rw [if_neg h1, if_neg (by omega)])) $$ Hb; iintro Hb
  iapply (wp_ld 𝒱₀ none Set.univ hia) $$ Ha; iintro Ha
  iapply (wp_st 𝒱₀ none Set.univ (gA L s t v (n + 1)) hia (fun x => by
      have := i16 x
      rw [hp]
      show _ = gA L s t v n (oa 0 + (x 0).val) + gB L s t v n (ob 0 + (x 0).val)
      unfold gB gA H0
      rw [hpos_div, hpos_mod, if_pos (by omega), if_neg (by omega), if_neg (by omega), ha, hb, show (16 * n + 640 * v + (x 0).val) / 640 = v by omega,
        show (16 * n + 640 * v + (x 0).val) % 640 = 16 * n + (x 0).val by omega, W_add,
        cn_add _ _ (Nat.zero_le _) (by omega), show 10000 * v + 10000 = 10000 * (v + 1) by omega])
    (fun m _ h => by
      have h16 : (S16.size 0) = 16 := rfl
      rw [h16, ha] at h
      unfold gA
      by_cases h1 : m < 16 * n
      · rw [if_pos h1, if_pos (by omega)]
      · rw [if_neg h1, if_neg (by omega)])) $$ Ha; iintro Ha
  iapply (wp_fin (F := F))
  isplitl [Hb]; · iexact Hb
  iexact Ha

/-! ## The places inside the tile's bins -/

/-- The places of the first `16 n` bins. -/
def gL (g : ℕ → BitVec 32) (n : ℕ) : ℕ → BitVec 32 := fun j => if j < 16 * n then W (bt (KN s t) NN (640 * (L 1).val) (640 * (L 1).val + j)) else g j
def gC (n : ℕ) : ℕ → BitVec 32 := fun _ => W (bt (KN s t) NN (640 * (L 1).val) (640 * (L 1).val + 16 * n))
/-- The counts of all the keys. -/
def gN : ℕ → BitVec 32 := fun j => W (cn (KN s t) 0 NN (640 * (L 1).val + j))

theorem gA_last : ∀ n ∈ Finset.range 640, n < S640.size 0 → gA L s t 32 0 n = gN L s t n := fun n hn _ => by
  unfold gA gN; rw [if_neg (by omega)]

theorem scan_bins {v : Vec F S16 .i32} {n : ℕ} (hv : ∀ x, v x = gN L s t (16 * n + (x 0).val)) (x : S16.Idx) :
    scan (d := ![16]) (w := 32) .sum v x = W (bt (KN s t) NN (640 * (L 1).val + 16 * n) (640 * (L 1).val + 16 * n + (x 0).val + 1)) := by
  rw [scan_eq (fun j => cn (KN s t) 0 NN (640 * (L 1).val + j)) hv, show (∑ j ∈ Finset.range ((x 0).val + 1), cn (KN s t) 0 NN (640 * (L 1).val + (16 * n + j)))
    = ∑ j ∈ Finset.range ((x 0).val + 1), cn (KN s t) 0 NN (640 * (L 1).val + 16 * n + j) from Finset.sum_congr rfl fun j _ => by rw [Nat.add_assoc], bt_sum, Nat.add_assoc _ (x 0).val 1]

theorem pay75_eq {v : Vec F S16 .i32} {n : ℕ} (hv : ∀ x, v x = gN L s t (16 * n + (x 0).val)) (x : S16.Idx) :
    k0_pay75 v (W (bt (KN s t) NN (640 * (L 1).val) (640 * (L 1).val + 16 * n))) x = W (bt (KN s t) NN (640 * (L 1).val) (640 * (L 1).val + (16 * n + (x 0).val))) := by
  show scan (d := ![16]) (w := 32) .sum v x - v x + W _ = _
  rw [scan_bins L s t hv, hv]
  unfold gN
  rw [← bt_add (KN s t) NN (show 640 * (L 1).val + 16 * n ≤ 640 * (L 1).val + 16 * n + (x 0).val by omega) (Nat.le_succ _), bt_one, ← W_add,
    show 640 * (L 1).val + (16 * n + (x 0).val) = 640 * (L 1).val + 16 * n + (x 0).val by omega, BitVec.add_sub_cancel, W_add, Nat.add_comm, bt_add _ _ (by omega) (by omega)]

theorem pay76_eq {v : Vec F S16 .i32} {n : ℕ} (hv : ∀ x, v x = gN L s t (16 * n + (x 0).val)) :
    Scalar.addi (W (bt (KN s t) NN (640 * (L 1).val) (640 * (L 1).val + 16 * n))) (extractAt ![15] (k0_pay76 v) inpos_S16_p15) = W (bt (KN s t) NN (640 * (L 1).val) (640 * (L 1).val + 16 * (n + 1))) := by
  have e : ∀ a : BitVec 32, Scalar.addi a (extractAt ![15] (k0_pay76 v) inpos_S16_p15) = a + scan (d := ![16]) (w := 32) .sum v (fun a => ⟨![15] a, inpos_S16_p15 a⟩) := fun _ => rfl
  rw [e, scan_bins L s t hv]
  show W _ + W (bt (KN s t) NN (640 * (L 1).val + 16 * n) (640 * (L 1).val + 16 * n + 15 + 1)) = _
  rw [W_add, bt_add _ _ (by omega) (by omega)]
  rfl

def Cu (g : ℕ → BitVec 32) (n : ℕ) : sProp 𝕄 :=
  iprop(PS (F := F) (tcV d L) accM (Finset.range 640) fullShare (gN L s t) ∗ PS (F := F) (tcV d L) locM (Finset.range 640) fullShare (gL L s t g n)
    ∗ PS (F := F) (tcV d L) carM (Finset.range 1) fullShare (gC L s t n))

theorem trip3 (g : ℕ → BitVec 32) (n : Fin k0_t3_loop.trips) :
    PS (F := F) (tcV d L) accM (Finset.range 640) fullShare (zr g n.val)
      ⊢ wpT d L (k0_t3_body L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay34 n ()) fun _ => PS (F := F) (tcV d L) accM (Finset.range 640) fullShare (zr g (n.val + 1)) := by
  have ho : k0_off12 n 0 = 16 * n.val := congrFun (k0_off12_eq n) 0
  have hn : n.val < 40 := n.isLt
  have hin : ∀ j, j < S16.size 0 → k0_off12 n 0 + j ∈ Finset.range 640 := fun j hj => by
    have hj' : j < 16 := hj
    rw [Finset.mem_range, ho]; omega
  unfold k0_t3_body
  iintro Ha
  iapply (wp_ld 𝒱₀ none Set.univ hin) $$ Ha; iintro Ha
  iapply (wp_st 𝒱₀ none Set.univ (zr g (n.val + 1)) hin (fun x => zr_in ho x) (fun m _ h => zr_out ho h)) $$ Ha; iintro Ha
  iapply (wp_fin (F := F))
  iexact Ha

theorem trip36 (g : ℕ → BitVec 32) (c0 : BitVec 32) (n : Fin k0_t36_loop.trips) :
    Cu (F := F) d L s t g n.val
      ⊢ wpT d L (k0_t36_body L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) c0 n ()) fun _ => Cu (F := F) d L s t g (n.val + 1) := by
  have ho : k0_off77 n 0 = 16 * n.val := congrFun (k0_off77_eq n) 0
  have hn : n.val < 40 := n.isLt
  have hin : ∀ j, j < S16.size 0 → k0_off77 n 0 + j ∈ Finset.range 640 := fun j hj => by
    have hj' : j < 16 := hj
    rw [Finset.mem_range, ho]; omega
  have hv : ∀ x : S16.Idx, (fun x : S16.Idx => gN L s t (k0_off77 n 0 + (x 0).val)) x = gN L s t (16 * n.val + (x 0).val) := fun x => by rw [ho]
  have h1 : ∀ m, m < S1.size 0 → m ∈ Finset.range 1 := fun m hm => Finset.mem_range.mpr hm
  unfold k0_t36_body Cu
  iintro ⟨Ha, Hl, Hc⟩
  iapply (wp_ld 𝒱₀ none Set.univ hin) $$ Ha; iintro Ha
  iapply (wp_smld (hn := numel1_S1) (hp := rfl) 𝒱₀ none Set.univ h1 rfl rfl rfl) $$ Hc; iintro Hc
  iapply (wp_ld 𝒱₀ none Set.univ hin) $$ Hl; iintro Hl
  iapply (wp_st 𝒱₀ none Set.univ (gL L s t g (n.val + 1)) hin (fun x => by
      have := i16 x
      refine Eq.trans ?_ (pay75_eq (F := F) L s t hv x).symm
      unfold gL; rw [if_pos (by omega), ho])
    (fun m _ h => by
      have h16 : (S16.size 0) = 16 := rfl
      rw [h16, ho] at h
      unfold gL
      by_cases h1 : m < 16 * n.val
      · rw [if_pos h1, if_pos (by omega)]
      · rw [if_neg h1, if_neg (by omega)])) $$ Hl; iintro Hl
  iapply (wp_smld (hn := numel1_S1) (hp := rfl) 𝒱₀ none Set.univ h1 rfl rfl rfl) $$ Hc; iintro Hc
  iapply (wp_st 𝒱₀ none Set.univ (gC L s t (n.val + 1)) (fun j hj => Finset.mem_range.mpr (by have hj' : j < 1 := hj; show 0 + j < 1; omega))
    (fun x => (pay76_eq (F := F) L s t hv).symm) (fun m hm h => by
      have := Finset.mem_range.mp hm
      have h' : m < 0 ∨ 0 + 1 ≤ m := h
      omega)) $$ Hc; iintro Hc
  iapply (wp_fin (F := F))
  isplitl [Ha]; · iexact Ha
  isplitl [Hl]; · iexact Hl
  iexact Hc

/-! ## The places before the tile's bins -/

/-- How many keys tile `k`'s bins hold. -/
abbrev tw (k : ℕ) : BitVec 32 := W (bt (KN s t) NN (640 * k) (640 * (k + 1)))
/-- How many keys the bins of the tiles before this one hold, as far as tile `k`. -/
def pw (k : ℕ) : BitVec 32 := W (bt (KN s t) NN 0 (640 * min k (L 1).val))

theorem pw_zero : pw L s t 0 = 0#32 := by
  unfold pw; rw [Nat.zero_min, Nat.mul_zero, bt_self]

theorem pw_step (k : ℕ) (hk : k < 16) : pw L s t k + tw s t k * Scalar.select (Scalar.cmpi .sgt (BitVec.ofNat 32 (L 1).val) (BitVec.ofNat 32 k)) 1#32 0#32 = pw L s t (k + 1) := by
  have hw := lt16 L
  have hc : ∀ a b : Fin 16, Scalar.select (Scalar.cmpi .sgt (BitVec.ofNat 32 a.val) (BitVec.ofNat 32 b.val)) 1#32 0#32 = if b.val < a.val then 1#32 else 0#32 := by decide
  have e := hc ⟨(L 1).val, hw⟩ ⟨k, hk⟩
  dsimp only at e
  rw [e]
  unfold pw tw
  by_cases h : k < (L 1).val
  · rw [if_pos h, BitVec.mul_one, W_add, Nat.min_eq_left (by omega), Nat.min_eq_left (by omega), bt_add _ _ (Nat.zero_le _) (by omega)]
  · rw [if_neg h, BitVec.mul_zero, BitVec.add_zero, Nat.min_eq_right (by omega), Nat.min_eq_right (by omega)]

theorem pvec_step (k : ℕ) (hk : k < 16) : addi (fun _ : S16.Idx => pw L s t k) (muli (fun _ => tw s t k)
    (broadcast S16 (Scalar.select (Scalar.cmpi .sgt (BitVec.ofNat 32 (L 1).val) (BitVec.ofNat 32 k)) 1#32 0#32))) = fun _ => pw L s t (k + 1) := by
  funext x; exact pw_step L s t k hk

/-- The copy of tile `k`'s total under way. -/
def TF (k : ℕ) (sm : DmaSem sig) (q : PosShare TreeShare) : sProp 𝕄 :=
  iprop(Transfers.Flight EC (tcV d L) (.dma sm) none 512 iprop(PS (F := F) (tcV d L) totM (Finset.range 16) fullShare (fun _ => tw s t k)
      ∗ PS (F := F) (tcV d L) tsM (Finset.Ico (16 * k) (16 * k + 16)) q (TT s t))
    ∗ PS (F := F) (tcV d L) tsM (Finset.range 256 \ Finset.Ico (16 * k) (16 * k + 16)) q (TT s t))

theorem ts_split (k : ℕ) (hk : k < 16) (q : PosShare TreeShare) (g : ℕ → BitVec 32) : PS (F := F) (tcV d L) tsM (Finset.range 256) q g
    = iprop(PS (F := F) (tcV d L) tsM (Finset.Ico (16 * k) (16 * k + 16)) q g ∗ PS (F := F) (tcV d L) tsM (Finset.range 256 \ Finset.Ico (16 * k) (16 * k + 16)) q g) := by
  have hs : Finset.Ico (16 * k) (16 * k + 16) ⊆ Finset.range 256 := fun n hn => by
    rw [Finset.mem_Ico] at hn; rw [Finset.mem_range]; omega
  conv_lhs => rw [← Finset.union_sdiff_of_subset hs]
  exact PS_union Finset.disjoint_sdiff

variable {α : Type} {Q : α → sProp (MT nD τ sig (HIx 4) (Elt F) ℕ UU ℕ)}

theorem cp_tot (k : ℕ) (hk : k < 16) (q : PosShare TreeShare) (g : ℕ → BitVec 32) {sm : DmaSem sig} {off : Fin 1 → ℕ} {inb hst hsrc hdst hsem}
    {kk' : PUnit → Prog (TpuEff nD τ sig (Elt F) Λ₀ (.scVector ((L 0).castLE hcore0) ((L 1).castLE hsub0))) α} (ho : off 0 = 16 * k) :
    iprop(PS (F := F) (tcV d L) tsM (Finset.range 256) q (TT s t) ∗ PS (F := F) (tcV d L) totM (Finset.range 16) fullShare g ∗ semVal (tcV d L, .dma sm) 0)
      ⊢ iprop((TF (F := F) d L s t k sm q -∗ wpT d L (kk' ⟨⟩) Q)
        -∗ wpT d L (.op (.enqueueDma (tsM.slice (Rect.unit (s := S256) off S16.size inb) hst) (.here totM) (.dma sm) hsrc hdst hsem) kk') Q) := by
  rw [ts_split d L k hk]
  unfold TF
  iintro ⟨⟨H1, H2⟩, Hg, Hs⟩ HQ
  iapply (wp_dmaP 𝒱₀ none 512 cr_tot (np 16 (by decide))
    (PS_slice (F := F) (c := tcV d L) (m := tsM) (g := TT s t) off _ inb hst _ 16 ho rfl)
    (PS_range (F := F) (n := 16) (c := tcV d L) (m := totM) (g := g) rfl)
    ((PV_congr (h' := fun _ => tw s t k) fun x => by
      have := i16 x
      unfold TT; rw [show (16 * k + (x 0).val) / 16 = k by omega]).trans (PS_range (F := F) (n := 16) (c := tcV d L) (m := totM) (g := fun _ => tw s t k) rfl))) $$ [H1 Hg Hs]
  · isplitl [H1]; · iexact H1
    isplitl [Hg]; · iexact Hg
    iexact Hs
  iintro HF
  iapply HQ
  isplitl [HF]; · iexact HF
  iexact H2

theorem wt_tot (k : ℕ) (hk : k < 16) (q : PosShare TreeShare) {O : CellTallies nD τ sig (HIx 4)} {W : Waits sig (HIx 4)} {sm : DmaSem sig} {srcw : Memref sig .scVector .shared S16 .i32} {hsrc hdst}
    {kk' : PUnit → Prog (TpuEff nD τ sig (Elt F) Λ₀ (.scVector ((L 0).castLE hcore0) ((L 1).castLE hsub0))) α} :
    iprop(Transfers.MayWaits (tcV d L) none O ∗ TF (F := F) d L s t k sm q ∗ OW (F := F) (tcV d L) O W)
      ⊢ iprop((iprop(PS (F := F) (tcV d L) tsM (Finset.range 256) q (TT s t) ∗ PS (F := F) (tcV d L) totM (Finset.range 16) fullShare (fun _ => tw s t k)
          ∗ semVal (tcV d L, .dma sm) 0 ∗ OW (F := F) (tcV d L) O W) -∗ wpT d L (kk' ⟨⟩) Q)
        -∗ wpT d L (.op (.waitDma2 sm srcw totM hsrc hdst) kk') Q) := by
  rw [ts_split d L k hk]
  unfold TF
  iintro ⟨Hm, ⟨HF, H2⟩, HO⟩ HQ
  iapply (wp_wt (c := tcV d L) 𝒱₀ none (N := 512) cr_tot) $$ [Hm HF HO]
  · isplitl [Hm]; · iexact Hm
    isplitl [HF]; · iexact HF
    iexact HO
  iintro ⟨⟨Hg, H1⟩, Hs, HO⟩
  iapply HQ
  isplitl [H1 H2]
  · isplitl [H1]; · iexact H1
    iexact H2
  isplitl [Hg]; · iexact Hg
  isplitl [Hs]; · iexact Hs
  iexact HO

/-! ## The first places -/

/-- A row of the block of which `16 n` first places are done. -/
def gQ (v n : ℕ) : ℕ → BitVec 32 := fun q => if q < 640 * v + 16 * n then H2 s t (hpos (L 1).val q) else pP L s t q

theorem gQ_zero (v : ℕ) : ∀ n ∈ brun v, n < S20480.size 0 → pP L s t n = gQ L s t v 0 n := fun n hn _ => by
  have := Finset.mem_Ico.mp hn
  unfold gQ; rw [if_neg (by omega)]
theorem gQ_last (v : ℕ) : ∀ n ∈ brun v, n < S20480.size 0 → gQ L s t v 40 n = H2 s t (hpos (L 1).val n) := fun n hn _ => by
  have := Finset.mem_Ico.mp hn
  unfold gQ; rw [if_pos (by omega)]

theorem H2_eq (v j : ℕ) (hj : j < 640) : H2 s t (hpos (L 1).val (640 * v + j))
    = pP L s t (640 * v + j) + W (bt (KN s t) NN (640 * (L 1).val) (640 * (L 1).val + j)) + pw L s t 16 := by
  have hw := lt16 L
  unfold H2 pP pw
  rw [hpos_div, hpos_mod, show (640 * v + j) / 640 = v by omega, show (640 * v + j) % 640 = j by omega, Nat.min_eq_right (by omega), W_add, W_add,
    Nat.add_assoc, Nat.add_comm (bt _ _ _ _) (bt _ _ 0 _), bt_add _ _ (Nat.zero_le _) (by omega)]

/-- Row `v` while it gets its first places. -/
def Qf (v n : ℕ) : sProp 𝕄 :=
  iprop(PS (F := F) (tcV d L) locM (Finset.range 640) fullShare (gL L s t (fun _ => 0#32) 40) ∗ PS (F := F) (tcV d L) blkM (brun v) fullShare (gQ L s t v n))

theorem otrip (v n : ℕ) (hv : v < 32) (hn : n < 40) {oa ob : Fin 1 → ℕ} {inba inbb} (hb : ob 0 = 16 * n + 640 * v) (ha : oa 0 = 16 * n)
    {pp : Vec F S16 .i32 → Vec F S16 .i32 → IVec S16 32} (hp : ∀ a b, pp a b = addi (addi a b) (fun _ => pw L s t 16)) :
    Qf (F := F) d L s t v n ⊢ wpT d L (do
      let v1028 : Vec F S16 .i32 ← Prog.lift (.load blkM (Rect.unit (s := S20480) ob S16.size inbb).toLoadRect (View.loadsAt_vmem h_S16))
      let v1031 : Vec F S16 .i32 ← Prog.lift (.load locM (Rect.unit (s := S640) oa S16.size inba).toLoadRect (View.loadsAt_vmem h_S16))
      let v1035 : Vec F S16 .i32 ← Prog.lift (.load blkM (Rect.unit (s := S20480) ob S16.size inbb).toLoadRect (View.loadsAt_vmem h_S16))
      Prog.lift (.store blkM (Rect.unit (s := S20480) ob S16.size inbb) (pp v1028 v1031) Finset.univ (View.stores_vmem_bits_univ h_S16 rfl) (.inl rfl))
      pure ()) fun _ => Qf (F := F) d L s t v (n + 1) := by
  have hia : ∀ j, j < S16.size 0 → oa 0 + j ∈ Finset.range 640 := fun j hj => by
    have hj' : j < 16 := hj
    rw [Finset.mem_range, ha]; omega
  have hib : ∀ j, j < S16.size 0 → ob 0 + j ∈ brun v := fun j hj => by
    have hj' : j < 16 := hj
    rw [Finset.mem_Ico, hb]; omega
  unfold Qf
  iintro ⟨Ha, Hb⟩
  iapply (wp_ld 𝒱₀ none Set.univ hib) $$ Hb; iintro Hb
  iapply (wp_ld 𝒱₀ none Set.univ hia) $$ Ha; iintro Ha
  iapply (wp_ld 𝒱₀ none Set.univ hib) $$ Hb; iintro Hb
  iapply (wp_st 𝒱₀ none Set.univ (gQ L s t v (n + 1)) hib (fun x => by
      have := i16 x
      rw [hp]
      show _ = gQ L s t v n (ob 0 + (x 0).val) + gL L s t (fun _ => 0#32) 40 (oa 0 + (x 0).val) + pw L s t 16
      unfold gQ gL
      rw [if_pos (by omega), if_neg (by omega), if_pos (by omega), ha, hb, show 16 * n + 640 * v + (x 0).val = 640 * v + (16 * n + (x 0).val) by omega, H2_eq L s t v _ (by omega)])
    (fun m _ h => by
      have h16 : (S16.size 0) = 16 := rfl
      rw [h16, hb] at h
      unfold gQ
      by_cases h1 : m < 640 * v + 16 * n
      · rw [if_pos h1, if_pos (by omega)]
      · rw [if_neg h1, if_neg (by omega)])) $$ Hb; iintro Hb
  iapply (wp_fin (F := F))
  isplitl [Ha]; · iexact Ha
  iexact Hb

/-- The state before the first places of row `v`. -/
def So (v : ℕ) : sProp 𝕄 :=
  iprop(PS (F := F) (tcV d L) locM (Finset.range 640) fullShare (gL L s t (fun _ => 0#32) 40) ∗ CO (F := F) d L (H0 s t) (pP L s t) (H2 s t) v)
/-- The state after them. -/
def Sm (v : ℕ) : sProp 𝕄 :=
  iprop(PS (F := F) (tcV d L) locM (Finset.range 640) fullShare (gL L s t (fun _ => 0#32) 40) ∗ CM (F := F) d L (H0 s t) (pP L s t) (H2 s t) (fun q => H2 s t (hpos (L 1).val q)) v)

theorem lp_out (v : ℕ) (hv : v < 32) {lb ub st : BitVec 32} {hok} {init : Unit} {body : Fin (Scf.trips lb ub st) → Unit → Prog (TpuEff nD τ sig (Elt F) Λ₀ (.scVector ((L 0).castLE hcore0) ((L 1).castLE hsub0))) Unit}
    (hT : Scf.trips lb ub st = 40) (hbody : ∀ (k : Fin (Scf.trips lb ub st)) (acc : Unit), Qf (F := F) d L s t v k.val ⊢ wpT d L (body k acc) fun _ => Qf (F := F) d L s t v (k.val + 1))
    {kk' : Unit → Prog (TpuEff nD τ sig (Elt F) Λ₀ (.scVector ((L 0).castLE hcore0) ((L 1).castLE hsub0))) α} :
    So (F := F) d L s t v ⊢ iprop((∀ acc, Sm (F := F) d L s t v -∗ wpT d L (kk' acc) Q) -∗ wpT d L (Scf.for lb ub st hok init body >>= kk') Q) := by
  unfold So Sm
  rw [CO_CM d L _ _ _ v hv]
  unfold CM
  iintro ⟨Hl, Hb, Hh, Hp, HB⟩ HQ
  iapply (wp_loop 𝒱₀ none 40 hT (fun n => Qf (F := F) d L s t v n) hbody) $$ [Hl Hb]
  · unfold Qf
    rw [← PS_congr (gQ_zero L s t v)]
    isplitl [Hl]; · iexact Hl
    iexact Hb
  unfold Qf
  rw [PS_congr (gQ_last L s t v)]
  iintro %acc ⟨Hl, Hb⟩
  iapply HQ
  isplitl [Hl]; · iexact Hl
  isplitl [Hb]; · iexact Hb
  isplitl [Hh]; · iexact Hh
  isplitl [Hp]; · iexact Hp
  iexact HB

theorem cp_o (v : ℕ) (hv : v < 32) {offs offd : Fin 1 → ℕ} {inbs inbd hss hsd} {hsrc hdst hsem}
    {k : PUnit → Prog (TpuEff nD τ sig (Elt F) Λ₀ (.scVector ((L 0).castLE hcore0) ((L 1).castLE hsub0))) α}
    (ho : offs 0 = 10240 * v + 640 * (L 1).val) (hd : offd 0 = 640 * v) :
    Sm (F := F) d L s t v ⊢ iprop((So (F := F) d L s t (v + 1) -∗ wpT d L (k ⟨⟩) Q)
      -∗ wpT d L (.op (.enqueueDma (blkM.slice (Rect.unit (s := S20480) offd S640.size inbd) hsd)
          (.here (hallM.slice (Rect.unit (s := S327680) offs S640.size inbs) hss)) (.dma cc0_scratch22.sem) hsrc hdst hsem) k) Q) := by
  unfold Sm So
  iintro ⟨Hl, H⟩ HQ
  iapply (cp_out d L (H0 s t) (pP L s t) (H2 s t) v hv ho hd) $$ H
  iintro H
  iapply HQ
  isplitl [Hl]; · iexact Hl
  iexact H

end Prefix

end Cert.Proof.Sorting
-- ==== Proof.Joins.lean ====
/-
What joins the stretches of the task.
-/
module

public import proofs.«01_k».proof.Proof.Prefix

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

theorem wp_fin' {c : Thread nD τ} {α : Type} {Q : α → sProp (MT nD τ sig (HIx 4) (Elt F) ℕ UU ℕ)} {a b : α} (e : a = b) :
    Q b ⊢ wp frame (wpE (defs₀ (F := F)) 𝒱₀ c none) Set.univ (.ret a) Q := by
  subst e; exact wp_fin (F := F) a

section Joins
variable (d : Dev nD) (L : grid0.Coords) (s t : ℕ → BitVec 32)

theorem Dh_all : (bigSep Finset.univ fun j => Dh (F := F) d L s t j) ⊢ iprop(PS (F := F) (tcV d L) hallM (Finset.Ico (20480 * (L 1).val) (20480 * ((L 1).val + 1))) fullShare (H0 s t)
    ∗ PS (F := F) (tcV d L) haM (Finset.range 10240) fullShare (hst (kk s t) (bs L) 625) ∗ PS (F := F) (tcV d L) hbM (Finset.range 10240) fullShare (hst (kk s t) (bs L + 10000) 625)) := by
  have e : Finset.Ico (20480 * (L 1).val) (20480 * ((L 1).val + 1)) = Finset.Ico (20480 * (L 1).val) (20480 * (L 1).val + 10240) ∪ Finset.Ico (20480 * (L 1).val + 10240) (20480 * (L 1).val + 10240 + 10240) := by
    ext n; simp only [Finset.mem_union, Finset.mem_Ico]; omega
  have hd : Disjoint (Finset.Ico (20480 * (L 1).val) (20480 * (L 1).val + 10240)) (Finset.Ico (20480 * (L 1).val + 10240) (20480 * (L 1).val + 10240 + 10240)) :=
    Finset.disjoint_left.mpr fun n h1 h2 => by rw [Finset.mem_Ico] at h1 h2; omega
  rw [e, PS_union hd, show (Finset.univ : Finset (Fin 2)) = {0, 1} from rfl, SparseCore.bigSep_insert' (by decide), bigSep_singleton]
  iintro ⟨H0, H1⟩
  ihave H0 := (Entails.of_eq (show Dh (F := F) d L s t (0 : Fin 2) = iprop(PS (F := F) (tcV d L) hallM (Finset.Ico (20480 * (L 1).val) (20480 * (L 1).val + 10240)) fullShare (H0 s t)
    ∗ PS (F := F) (tcV d L) haM (Finset.range 10240) fullShare (hst (kk s t) (bs L) 625)) from rfl)) $$ H0
  ihave H1 := (Entails.of_eq (show Dh (F := F) d L s t (1 : Fin 2) = iprop(PS (F := F) (tcV d L) hallM (Finset.Ico (20480 * (L 1).val + 10240) (20480 * (L 1).val + 10240 + 10240)) fullShare (H0 s t)
    ∗ PS (F := F) (tcV d L) hbM (Finset.range 10240) fullShare (hst (kk s t) (bs L + 10000) 625)) from rfl)) $$ H1
  icases H0 with ⟨Ha, Hb⟩
  icases H1 with ⟨Hc, Hd⟩
  isplitl [Ha Hc]
  · isplitl [Ha]; · iexact Ha
    iexact Hc
  isplitl [Hb]; · iexact Hb
  iexact Hd

theorem So_eq (v : ℕ) : So (F := F) d L s t v = iprop(PS (F := F) (tcV d L) locM (Finset.range 640) fullShare (gL L s t (fun _ => 0#32) 40) ∗ CO (F := F) d L (H0 s t) (pP L s t) (H2 s t) v) := rfl

theorem Pf_zero (ga : ℕ → BitVec 32) : iprop(PS (F := F) (tcV d L) blkM (Finset.range 20480) fullShare (fun q => H0 s t (hpos (L 1).val q)) ∗ PS (F := F) (tcV d L) accM (Finset.range 640) fullShare (zr ga 40))
    ⊢ Pf (F := F) d L s t 0 0 := by
  unfold Pf
  rw [gB_zero, PS_congr (gA_zero L s t ga)]

theorem Pf_last : Pf (F := F) d L s t 32 0 ⊢ iprop(PS (F := F) (tcV d L) blkM (Finset.range 20480) fullShare (pP L s t) ∗ PS (F := F) (tcV d L) accM (Finset.range 640) fullShare (gN L s t)) := by
  unfold Pf
  rw [PS_congr (gB_last L s t), PS_congr (gA_last L s t)]

theorem gC_zero : gC L s t 0 0 = 0#32 := by
  unfold gC; rw [Nat.mul_zero, Nat.add_zero, bt_self]

theorem pay77_gen (a : BitVec 32) (x : S16.Idx) : k0_pay77 (F := F) a x = a := rfl
theorem pay77_eq (x : S16.Idx) : k0_pay77 (F := F) (gC L s t 40 0) x = tw s t (L 1).val := by
  rw [pay77_gen]
  unfold gC
  rw [show 640 * (L 1).val + 16 * 40 = 640 * ((L 1).val + 1) by omega]

theorem Cu_zero (gl : ℕ → BitVec 32) : iprop(PS (F := F) (tcV d L) accM (Finset.range 640) fullShare (gN L s t) ∗ PS (F := F) (tcV d L) locM (Finset.range 640) fullShare gl
    ∗ PS (F := F) (tcV d L) carM (Finset.range 1) fullShare (gC L s t 0)) ⊢ Cu (F := F) d L s t gl 0 := by
  unfold Cu
  rw [show gL L s t gl 0 = gl from funext fun j => by unfold gL; rw [if_neg (by omega)]]

theorem Cu_last (gl : ℕ → BitVec 32) : Cu (F := F) d L s t gl 40 ⊢ iprop(PS (F := F) (tcV d L) accM (Finset.range 640) fullShare (gN L s t)
    ∗ PS (F := F) (tcV d L) locM (Finset.range 640) fullShare (gL L s t (fun _ => 0#32) 40) ∗ PS (F := F) (tcV d L) carM (Finset.range 1) fullShare (gC L s t 40)) := by
  unfold Cu
  rw [PS_congr (F := F) (c := tcV d L) (m := locM) (g := gL L s t gl 40) (g' := gL L s t (fun _ => 0#32) 40) fun n hn _ => by
    have := Finset.mem_range.mp hn
    unfold gL; rw [if_pos (by omega), if_pos (by omega)]]

theorem mine_eq (g : ℕ → BitVec 32) : PS (F := F) (tcV d L) tsM (Finset.Ico (16 * (L 1).val) (16 * ((L 1).val + 1))) fullShare g
    = PS (F := F) (tcV d L) tsM (Finset.Ico (16 * (L 1).val) (16 * (L 1).val + 16)) fullShare g := rfl

theorem tt_mine : ∀ x : S16.Idx, TT s t (16 * (L 1).val + (x 0).val) = tw s t (L 1).val := fun x => by
  have := i16 x
  unfold TT; rw [show (16 * (L 1).val + (x 0).val) / 16 = (L 1).val by omega]

theorem pay83_eq (a b : Vec F S16 .i32) : addi (addi a b) (k0_pay83 (F := F) (BitVec.ofNat 32 (L 1).val) (fun _ => pw L s t 15) (fun _ => tw s t 15)) = addi (addi a b) (fun _ => pw L s t 16) :=
  congrArg (addi (addi a b)) (pvec_step L s t 15 (by decide))

theorem pay78_gen {a p0 p1 p2 p3 t0 t1 t2 : BitVec 32} (h0 : p0 + t0 * Scalar.select (Scalar.cmpi .sgt a 0#32) 1#32 0#32 = p1) (h1 : p1 + t1 * Scalar.select (Scalar.cmpi .sgt a 1#32) 1#32 0#32 = p2)
    (h2 : p2 + t2 * Scalar.select (Scalar.cmpi .sgt a 2#32) 1#32 0#32 = p3) : k0_pay78 (F := F) a (fun _ => p0) (fun _ => t0) (fun _ => t1) (fun _ => t2) = fun _ => p3 := by
  subst h0 h1 h2; rfl
theorem pay78_eq : k0_pay78 (F := F) (BitVec.ofNat 32 (L 1).val) k0_pay34 (fun _ => tw s t 0) (fun _ => tw s t 1) (fun _ => tw s t 2) = fun _ => pw L s t 3 := by
  have e : (k0_pay34 : IVec S16 32) = fun _ => pw L s t 0 := funext fun _ => (pw_zero L s t).symm
  rw [e]
  exact pay78_gen (pw_step L s t 0 (by decide)) (pw_step L s t 1 (by decide)) (pw_step L s t 2 (by decide))

theorem pay79_gen {a p0 p1 p2 p3 t0 t1 t2 : BitVec 32} (h0 : p0 + t0 * Scalar.select (Scalar.cmpi .sgt a 3#32) 1#32 0#32 = p1) (h1 : p1 + t1 * Scalar.select (Scalar.cmpi .sgt a 4#32) 1#32 0#32 = p2)
    (h2 : p2 + t2 * Scalar.select (Scalar.cmpi .sgt a 5#32) 1#32 0#32 = p3) : k0_pay79 (F := F) a (fun _ => p0) (fun _ => t0) (fun _ => t1) (fun _ => t2) = fun _ => p3 := by
  subst h0 h1 h2; rfl
theorem pay79_eq : k0_pay79 (F := F) (BitVec.ofNat 32 (L 1).val) (fun _ => pw L s t 3) (fun _ => tw s t 3) (fun _ => tw s t 4) (fun _ => tw s t 5) = fun _ => pw L s t 6 := by
  exact pay79_gen (pw_step L s t 3 (by decide)) (pw_step L s t 4 (by decide)) (pw_step L s t 5 (by decide))

theorem pay80_gen {a p0 p1 p2 p3 t0 t1 t2 : BitVec 32} (h0 : p0 + t0 * Scalar.select (Scalar.cmpi .sgt a 6#32) 1#32 0#32 = p1) (h1 : p1 + t1 * Scalar.select (Scalar.cmpi .sgt a 7#32) 1#32 0#32 = p2)
    (h2 : p2 + t2 * Scalar.select (Scalar.cmpi .sgt a 8#32) 1#32 0#32 = p3) : k0_pay80 (F := F) a (fun _ => p0) (fun _ => t0) (fun _ => t1) (fun _ => t2) = fun _ => p3 := by
  subst h0 h1 h2; rfl
theorem pay80_eq : k0_pay80 (F := F) (BitVec.ofNat 32 (L 1).val) (fun _ => pw L s t 6) (fun _ => tw s t 6) (fun _ => tw s t 7) (fun _ => tw s t 8) = fun _ => pw L s t 9 := by
  exact pay80_gen (pw_step L s t 6 (by decide)) (pw_step L s t 7 (by decide)) (pw_step L s t 8 (by decide))

theorem pay81_gen {a p0 p1 p2 p3 t0 t1 t2 : BitVec 32} (h0 : p0 + t0 * Scalar.select (Scalar.cmpi .sgt a 9#32) 1#32 0#32 = p1) (h1 : p1 + t1 * Scalar.select (Scalar.cmpi .sgt a 10#32) 1#32 0#32 = p2)
    (h2 : p2 + t2 * Scalar.select (Scalar.cmpi .sgt a 11#32) 1#32 0#32 = p3) : k0_pay81 (F := F) a (fun _ => p0) (fun _ => t0) (fun _ => t1) (fun _ => t2) = fun _ => p3 := by
  subst h0 h1 h2; rfl
theorem pay81_eq : k0_pay81 (F := F) (BitVec.ofNat 32 (L 1).val) (fun _ => pw L s t 9) (fun _ => tw s t 9) (fun _ => tw s t 10) (fun _ => tw s t 11) = fun _ => pw L s t 12 := by
  exact pay81_gen (pw_step L s t 9 (by decide)) (pw_step L s t 10 (by decide)) (pw_step L s t 11 (by decide))

theorem pay82_gen {a p0 p1 p2 p3 t0 t1 t2 : BitVec 32} (h0 : p0 + t0 * Scalar.select (Scalar.cmpi .sgt a 12#32) 1#32 0#32 = p1) (h1 : p1 + t1 * Scalar.select (Scalar.cmpi .sgt a 13#32) 1#32 0#32 = p2)
    (h2 : p2 + t2 * Scalar.select (Scalar.cmpi .sgt a 14#32) 1#32 0#32 = p3) : k0_pay82 (F := F) a (fun _ => p0) (fun _ => t0) (fun _ => t1) (fun _ => t2) = fun _ => p3 := by
  subst h0 h1 h2; rfl
theorem pay82_eq : k0_pay82 (F := F) (BitVec.ofNat 32 (L 1).val) (fun _ => pw L s t 12) (fun _ => tw s t 12) (fun _ => tw s t 13) (fun _ => tw s t 14) = fun _ => pw L s t 15 := by
  exact pay82_gen (pw_step L s t 12 (by decide)) (pw_step L s t 13 (by decide)) (pw_step L s t 14 (by decide))

end Joins

end Cert.Proof.Sorting
-- ==== Proof.Places.lean ====
/-
The places of the keys: the steps of the task's last loop.
-/
module

public import proofs.«01_k».proof.Proof.Joins

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Places
variable (d : Dev nD) (L : grid0.Coords) (s t : ℕ → BitVec 32)

/-- The tile's rows of first places, one for each of its two stretches. -/
def rA : ℕ → BitVec 32 := fun n => H2 s t (20480 * (L 1).val + n)
def rB : ℕ → BitVec 32 := fun n => H2 s t (20480 * (L 1).val + 10240 + n)
/-- Sixteen packed keys from the tile's key `o` on. -/
def kv (o : ℕ) : Vec F S16 .i32 := fun x => kst (kk s t) (bs L) 625 (o + (x 0).val)
/-- What the row `r` has for them. -/
def gv (r : ℕ → BitVec 32) (o : ℕ) : Vec F S16 .i32 := fun x => r (kk s t (bs L + (o + (x 0).val))).toNat
/-- The place of the tile's key `c + n`. -/
def pf (c n : ℕ) : BitVec 32 := W (pos (KN s t) NN (bs L + (c + n)))

theorem kst_a {p : ℕ} (hp : p < 10000) : kst (kk s t) (bs L) 625 p = pk (kk s t) (bs L) (bs L + p) := by
  unfold kst; rw [if_pos (by omega)]
theorem kst_b {p : ℕ} (hp : 10000 ≤ p) (hp' : p < 20000) : kst (kk s t) (bs L) 625 p = pk (kk s t) (bs L + 10000) (bs L + p) := by
  unfold kst; rw [if_neg (by omega), if_pos (by omega)]

variable (hK : ∀ e, e < 320000 → KN s t e < 10000)
include hK

theorem kv_lt {p : ℕ} (hp : p < 20000) : KN s t (bs L + p) < 10000 := by
  have := lt16 L
  exact hK _ (by unfold bs; omega)

theorem kv_and {p : ℕ} (hp : p < 20000) : kst (kk s t) (bs L) 625 p &&& 16383#32 = kk s t (bs L + p) := by
  by_cases h : p < 10000
  · rw [kst_a L s t h]; exact pk_and _ _ _ (kv_lt L s t hK hp)
  · rw [kst_b L s t (by omega) hp]; exact pk_and _ _ _ (kv_lt L s t hK hp)

theorem kv_mask {o : ℕ} (ho : o + 16 ≤ 20000) (x : S16.Idx) : andi (kv (F := F) L s t o) k0_pay116 x = kk s t (bs L + (o + (x 0).val)) := by
  have := i16 x
  exact kv_and L s t hK (p := o + (x 0).val) (by omega)

theorem kv_chk {o : ℕ} (ho : o + 16 ≤ 20000) (a : Fin 1) (x : S16.Idx) :
    ((![andi (kv (F := F) L s t o) k0_pay116] : Fin 1 → IVec S16 32) a x).toNat < S10240.size a := by
  have := i16 x
  obtain rfl := Fin.eq_zero a
  show (andi (kv (F := F) L s t o) k0_pay116 x).toNat < 10240
  rw [kv_mask L s t hK ho]
  have h : (kk s t (bs L + (o + (x 0).val))).toNat < 10000 := kv_lt L s t hK (p := o + (x 0).val) (by omega)
  omega

theorem pl_a {p : ℕ} (hp : p < 10000) : rA L s t (kk s t (bs L + p)).toNat + (kst (kk s t) (bs L) 625 p).sshiftRight' 14#32 = W (pos (KN s t) NN (bs L + p)) := by
  have hw := lt16 L
  have hk := kv_lt L s t hK (p := p) (by omega)
  have hk' : (kk s t (bs L + p)).toNat = KN s t (bs L + p) := rfl
  have h1 : (pk (kk s t) (bs L) (bs L + p)).sshiftRight' 14#32 = W (cn (KN s t) (bs L) (bs L + p) (KN s t (bs L + p))) := pk_shr (kk s t) (bs L) (bs L + p) hk (by omega)
  have h2 : pos (KN s t) NN (bs L + p) = _ := pos_eq (KN s t) (show bs L + p < NN by unfold bs NN; omega)
  have h3 := cn_add (KN s t) (lo := 0) (mid := bs L) (hi := bs L + p) (KN s t (bs L + p)) (Nat.zero_le _) (by omega)
  rw [kst_a L s t hp, h1, h2, hk']
  unfold rA H2
  rw [show (20480 * (L 1).val + KN s t (bs L + p)) / 10240 = 2 * (L 1).val by omega, show (20480 * (L 1).val + KN s t (bs L + p)) % 10240 = KN s t (bs L + p) by omega,
    show 10000 * (2 * (L 1).val) = bs L by unfold bs; omega, W_add]
  exact congrArg W (by omega)

theorem pl_b {p : ℕ} (hp : 10000 ≤ p) (hp' : p < 20000) : rB L s t (kk s t (bs L + p)).toNat + (kst (kk s t) (bs L) 625 p).sshiftRight' 14#32 = W (pos (KN s t) NN (bs L + p)) := by
  have hw := lt16 L
  have hk := kv_lt L s t hK (p := p) (by omega)
  have hk' : (kk s t (bs L + p)).toNat = KN s t (bs L + p) := rfl
  have h1 : (pk (kk s t) (bs L + 10000) (bs L + p)).sshiftRight' 14#32 = W (cn (KN s t) (bs L + 10000) (bs L + p) (KN s t (bs L + p))) := pk_shr (kk s t) (bs L + 10000) (bs L + p) hk (by omega)
  have h2 : pos (KN s t) NN (bs L + p) = _ := pos_eq (KN s t) (show bs L + p < NN by unfold bs NN; omega)
  have h3 := cn_add (KN s t) (lo := 0) (mid := bs L + 10000) (hi := bs L + p) (KN s t (bs L + p)) (Nat.zero_le _) (by omega)
  rw [kst_b L s t hp hp', h1, h2, hk']
  unfold rB H2
  rw [show (20480 * (L 1).val + 10240 + KN s t (bs L + p)) / 10240 = 2 * (L 1).val + 1 by omega, show (20480 * (L 1).val + 10240 + KN s t (bs L + p)) % 10240 = KN s t (bs L + p) by omega,
    show 10000 * (2 * (L 1).val + 1) = bs L + 10000 by unfold bs; omega, W_add]
  exact congrArg W (by omega)

omit hK in
theorem pay_at (a b : IVec S16 32) (x : S16.Idx) : addi a (shrsi b (broadcast S16 14#32)) x = a x + (b x).sshiftRight' 14#32 := by
  show IntOp.addi (a x) (IntOp.shrsi .vector (b x) 14#32) = _
  unfold IntOp.addi IntOp.shrsi
  rw [if_pos (by decide)]

theorem pv_a {o : ℕ} (ho : o + 16 ≤ 10000) (x : S16.Idx) :
    addi (gv (F := F) L s t (rA L s t) o) (shrsi (kv (F := F) L s t o) (broadcast S16 14#32)) x = W (pos (KN s t) NN (bs L + (o + (x 0).val))) := by
  have := i16 x
  exact (pay_at _ _ x).trans (pl_a L s t hK (p := o + (x 0).val) (by omega))
theorem pv_b {o : ℕ} (ho : 10000 ≤ o) (ho' : o + 16 ≤ 20000) (x : S16.Idx) :
    addi (gv (F := F) L s t (rB L s t) o) (shrsi (kv (F := F) L s t o) (broadcast S16 14#32)) x = W (pos (KN s t) NN (bs L + (o + (x 0).val))) := by
  have := i16 x
  exact (pay_at _ _ x).trans (pl_b L s t hK (p := o + (x 0).val) (by omega) (by omega))
omit hK

/-! ## The steps -/

/-- A list of places of which `16 j` are written, from the tile's key `c` on. -/
def PX {ds : Fin 1 → ℕ} (pm : Memref sig .scVector .vmem ⟨1, ds⟩ .i32) (c j : ℕ) : sProp 𝕄 :=
  iprop(∃ g : ℕ → BitVec 32, PS (F := F) (tcV d L) pm (Finset.range (ds 0)) fullShare (fun n => if n < 16 * j then pf L s t c n else g n))

theorem PX_start {ds : Fin 1 → ℕ} (pm : Memref sig .scVector .vmem ⟨1, ds⟩ .i32) (c : ℕ) (g : ℕ → BitVec 32) :
    PS (F := F) (tcV d L) pm (Finset.range (ds 0)) fullShare g ⊢ PX (F := F) d L s t pm c 0 := by
  unfold PX
  iintro H
  iexists g
  rw [show (fun n => if n < 16 * 0 then pf L s t c n else g n) = g from funext fun n => if_neg (by omega)]
  iexact H

theorem PX_end {ds : Fin 1 → ℕ} (pm : Memref sig .scVector .vmem ⟨1, ds⟩ .i32) (c j : ℕ) (h : ds 0 = 16 * j) :
    PX (F := F) d L s t pm c j ⊢ PS (F := F) (tcV d L) pm (Finset.range (ds 0)) fullShare (pf L s t c) := by
  unfold PX
  iintro ⟨%g, H⟩
  iapply (Entails.of_eq (PS_congr fun n hn _ => by have := Finset.mem_range.mp hn; rw [if_pos (by omega)])) $$ H

variable {α : Type} {Q : α → sProp (MT nD τ sig (HIx 4) (Elt F) ℕ UU ℕ)}

theorem wp_seq {β : Type} {p : Prog (TpuEff nD τ sig (Elt F) Λ₀ (.scVector ((L 0).castLE hcore0) ((L 1).castLE hsub0))) β}
    {f : β → Prog (TpuEff nD τ sig (Elt F) Λ₀ (.scVector ((L 0).castLE hcore0) ((L 1).castLE hsub0))) α} :
    wpT d L p (fun a => wpT d L (f a) Q) ⊢ wpT d L (p >>= f) Q := Entails.of_eq (wp_bind _ _ _ _ _ _).symm

theorem ld_k (o : ℕ) {off : Fin 1 → ℕ} {inb} {k : Vec F S16 .i32 → Prog (TpuEff nD τ sig (Elt F) Λ₀ (.scVector ((L 0).castLE hcore0) ((L 1).castLE hsub0))) α} (ho : off 0 = o) (hr : o + 16 ≤ 20000) :
    PS (F := F) (tcV d L) kM (Finset.range 20000) fullShare (kst (kk s t) (bs L) 625)
      ⊢ iprop((PS (F := F) (tcV d L) kM (Finset.range 20000) fullShare (kst (kk s t) (bs L) 625) -∗ wpT d L (k (kv (F := F) L s t o)) Q)
        -∗ wpT d L (Prog.lift (.load kM (Rect.unit (s := S20000) off S16.size inb).toLoadRect (View.loadsAt_vmem h_S16)) >>= k) Q) := by
  subst ho
  exact wp_ld 𝒱₀ none Set.univ fun j hj => by
    have hj' : j < 16 := hj
    rw [Finset.mem_range]; omega

theorem ga_k (hK : ∀ e, e < 320000 → KN s t e < 10000) (r : ℕ → BitVec 32) (o : ℕ) (hr : o + 16 ≤ 20000) {hm : Memref sig .scVector .vmem S10240 .i32} {h hl}
    {k : Vec F S16 .i32 → Prog (TpuEff nD τ sig (Elt F) Λ₀ (.scVector ((L 0).castLE hcore0) ((L 1).castLE hsub0))) α} :
    PS (F := F) (tcV d L) hm (Finset.range 10240) fullShare r
      ⊢ iprop((PS (F := F) (tcV d L) hm (Finset.range 10240) fullShare r -∗ wpT d L (k (gv (F := F) L s t r o)) Q)
        -∗ wpT d L (SparseCore.vectorLoadIdx (F := F) hm ![andi (kv (F := F) L s t o) k0_pay116] h hl >>= k) Q) := by
  have e : gv (F := F) L s t r o = fun x => r ((![andi (kv (F := F) L s t o) k0_pay116] : Fin 1 → IVec S16 32) 0 x).toNat := funext fun x =>
    congrArg (fun z : BitVec 32 => r z.toNat) (kv_mask (F := F) L s t hK hr x).symm
  rw [e]
  exact wp_gather (c := tcV d L) 𝒱₀ none Set.univ (h := h) (hl := hl) fun m hm => Finset.mem_range.mpr hm

theorem st_p {ds : Fin 1 → ℕ} (pm : Memref sig .scVector .vmem ⟨1, ds⟩ .i32) (c j o : ℕ) {off : Fin 1 → ℕ} {inb inb'} {w : IVec S16 32} (ho : off 0 = 16 * j) (hd : 16 * j + 16 ≤ ds 0) (hc : o = c + 16 * j)
    (hw : ∀ x : S16.Idx, w x = W (pos (KN s t) NN (bs L + (o + (x 0).val))))
    {k : PUnit → Prog (TpuEff nD τ sig (Elt F) Λ₀ (.scVector ((L 0).castLE hcore0) ((L 1).castLE hsub0))) α} {hl hst hty} :
    PX (F := F) d L s t pm c j
      ⊢ iprop((PX (F := F) d L s t pm c (j + 1) -∗ wpT d L (k ⟨⟩) Q)
        -∗ wpT d L (Prog.lift (.load pm (Rect.unit (s := ⟨1, ds⟩) off S16.size inb).toLoadRect hl) >>= fun _ : Vec F S16 .i32 =>
          Prog.lift (.store pm (Rect.unit (s := ⟨1, ds⟩) off S16.size inb') w Finset.univ hst hty) >>= k) Q) := by
  unfold PX
  have hin : ∀ i, i < S16.size 0 → off 0 + i ∈ Finset.range (ds 0) := fun i hi => by
    have hi' : i < 16 := hi
    rw [Finset.mem_range]; omega
  iintro ⟨%g, H⟩ HQ
  iapply (wp_ld (c := tcV d L) 𝒱₀ none Set.univ hin) $$ H
  iintro H
  iapply (wp_st (c := tcV d L) 𝒱₀ none Set.univ (fun n => if n < 16 * (j + 1) then pf L s t c n else g n) hin (fun x => by
      have hx := i16 x
      rw [if_pos (by omega), hw, hc, ho]; unfold pf; rw [Nat.add_assoc])
    (fun m _ h => by
      have h' : m < off 0 ∨ off 0 + 16 ≤ m := h
      rw [ho] at h'
      by_cases h1 : m < 16 * j
      · rw [if_pos h1, if_pos (by omega)]
      · rw [if_neg h1, if_neg (by omega)])) $$ H
  iintro H
  iapply HQ
  iexists g
  iexact H

/-- A stretch of the tile's values with the places of its keys in the result. -/
def Rg (lo hi : ℕ) (g : ℕ → BitVec 32) : sProp 𝕄 :=
  iprop(PS (F := F) (tcV d L) vM (Finset.Ico lo hi) fullShare (fun n => vv s t (bs L + n))
    ∗ PS (F := F) (tcV d L) outsM (img (KN s t) NN (bs L + lo) (bs L + hi)) fullShare g)

theorem Rg_split {lo mid hi : ℕ} (g : ℕ → BitVec 32) (h : lo ≤ mid) (h' : mid ≤ hi) (hh : hi ≤ 20000) :
    Rg (F := F) d L s t lo hi g = iprop(Rg (F := F) d L s t lo mid g ∗ Rg (F := F) d L s t mid hi g) := by
  have hw := lt16 L
  unfold Rg
  rw [← Finset.Ico_union_Ico_eq_Ico h h', PS_union (Finset.Ico_disjoint_Ico_consecutive lo mid hi), ← img_union (KN s t) NN (lo := bs L + lo) (mid := bs L + mid) (hi := bs L + hi) (by omega) (by omega),
    PS_union (img_disj (KN s t) NN (le_refl _) (by unfold bs NN; omega))]
  refine ent_antisymm ?_ ?_
  · iintro ⟨⟨H1, H2⟩, ⟨H3, H4⟩⟩
    isplitl [H1 H3]
    · isplitl [H1]; · iexact H1
      iexact H3
    isplitl [H2]; · iexact H2
    iexact H4
  · iintro ⟨⟨H1, H3⟩, ⟨H2, H4⟩⟩
    isplitl [H1 H2]
    · isplitl [H1]; · iexact H1
      iexact H2
    isplitl [H3]; · iexact H3
    iexact H4

/-- What a scatter of `n` values delivers. -/
def Dl {ds : Fin 1 → ℕ} (pm : Memref sig .scVector .vmem ⟨1, ds⟩ .i32) (c n : ℕ) : sProp 𝕄 :=
  iprop(Rg (F := F) d L s t c (c + n) (RR s t) ∗ PS (F := F) (tcV d L) pm (Finset.range (ds 0)) fullShare (pf L s t c))

omit d L s t in
theorem wand2 {X Y A B : sProp 𝕄} (h : X ⊢ Y) : iprop((X -∗ A) -∗ B) ⊢ iprop((Y -∗ A) -∗ B) := by
  iintro H HY
  iapply H
  iintro HX
  iapply HY
  iapply h $$ HX

theorem sc {ds : Fin 1 → ℕ} (pm : Memref sig .scVector .vmem ⟨1, ds⟩ .i32) (c n N : ℕ) {offv offo : Fin 1 → ℕ} {inbv inbo hsv hso} {hg : (⟨1, S320000.size⟩ : Shape).Gathers 0 ⟨1, ds⟩} {hn hp he hsp hr} {sem : DmaSem sig}
    (hd : ds 0 = n) (hnum : 0 < (⟨1, ds⟩ : Shape).numel) (hov : offv 0 = c) (hoo : offo 0 = 0) (hc : c + n ≤ 20000)
    (hN : ((vM : Memref sig .scVector .vmem S20000 .i32).slice (Rect.unit (s := S20000) offv ds inbv) hsv).view.dmaCredit = N) (g : ℕ → BitVec 32)
    {k : PUnit → Prog (TpuEff nD τ sig (Elt F) Λ₀ (.scVector ((L 0).castLE hcore0) ((L 1).castLE hsub0))) α} :
    iprop(Rg (F := F) d L s t c (c + n) g ∗ PS (F := F) (tcV d L) pm (Finset.range (ds 0)) fullShare (pf L s t c) ∗ semVal (tcV d L, .dma sem) 0)
      ⊢ iprop((Transfers.Flight EC (tcV d L) (.dma sem) none N (Dl (F := F) d L s t pm c n) -∗ wpT d L (k ⟨⟩) Q)
        -∗ wpT d L (SparseCore.enqueueIndirectScatter (F := F) hp (vM.slice (Rect.unit (s := S20000) offv ds inbv) hsv)
          (outsM.slice (Rect.unit (s := S320000) offo S320000.size inbo) hso) hg pm hn sem he hsp hr >>= k) Q) := by
  have hw := lt16 L
  have hb : ∀ x : (⟨1, ds⟩ : Shape).Idx, bs L + (c + (x 0).val) < 320000 := fun x => by
    have h1 : (x 0).val < ds 0 := (x 0).isLt
    unfold bs; omega
  have hx : ∀ x : (⟨1, ds⟩ : Shape).Idx, (x 0).val < n := fun x => lt_of_lt_of_eq (x 0).isLt hd
  have hv : ∀ x : (⟨1, ds⟩ : Shape).Idx, (pf L s t c (x 0).val).toNat = pos (KN s t) NN (bs L + (c + (x 0).val)) := fun x => by
    unfold pf
    exact W_toNat (by have h : pos (KN s t) NN (bs L + (c + (x 0).val)) < 320000 := pos_lt (KN s t) (hb x); omega)
  have hmem : ∀ m, m ∈ img (KN s t) NN (bs L + c) (bs L + (c + n)) ↔ ∃ x : (⟨1, ds⟩ : Shape).Idx, (pf L s t c (x 0).val).toNat = m := fun m => by
    rw [mem_img]
    constructor
    · rintro ⟨e, h1, h2, h3⟩
      obtain ⟨x0, hx0⟩ : ∃ x0 : (⟨1, ds⟩ : Shape).Idx, (x0 0).val = e - (bs L + c) :=
        ⟨fun a => ⟨e - (bs L + c), by obtain rfl := Fin.eq_zero a; show _ < ds 0; omega⟩, rfl⟩
      refine ⟨x0, ?_⟩
      rw [hv, hx0, ← h3, show bs L + (c + (e - (bs L + c))) = e by omega]
    · rintro ⟨x, h⟩
      have := hx x
      exact ⟨bs L + (c + (x 0).val), by omega, by omega, by rw [← h, hv]⟩
  have e1 : ∀ g' : ℕ → BitVec 32, PS (F := F) (c := tcV d L) (d := S320000.size) (outsM.slice (Rect.unit (s := S320000) offo S320000.size inbo) hso) (img (KN s t) NN (bs L + c) (bs L + (c + n))) fullShare g'
      = PS (F := F) (tcV d L) outsM (img (KN s t) NN (bs L + c) (bs L + (c + n))) fullShare g' := fun g' =>
    PS_slice0 (F := F) (c := tcV d L) (m := outsM) offo S320000.size inbo hso hoo fun n _ h => h
  have e2 : PV (F := F) (tcV d L) (vM.slice (Rect.unit (s := S20000) offv ds inbv) hsv) fullShare (fun x => vv s t (bs L + (c + (x 0).val)))
      = PS (F := F) (tcV d L) vM (Finset.Ico c (c + n)) fullShare (fun n => vv s t (bs L + n)) :=
    PS_slice (F := F) (c := tcV d L) (m := vM) (g := fun n => vv s t (bs L + n)) offv ds inbv hsv c n hov hd
  have e3 : PV (F := F) (tcV d L) pm fullShare (fun x => pf L s t c (x 0).val) = PS (F := F) (tcV d L) pm (Finset.range (ds 0)) fullShare (pf L s t c) :=
    PS_range (F := F) (n := ds 0) (c := tcV d L) (m := pm) (g := pf L s t c) rfl
  have h := wp_scatter (defs := defs₀ (F := F)) (c := tcV d L) (Q := Q) (k := k) 𝒱₀ none (src := vM.slice (Rect.unit (s := S20000) offv ds inbv) hsv) (dst := outsM.slice (Rect.unit (s := S320000) offo S320000.size inbo) hso) (offs := pm)
    (hg := hg) (hn := hn) (hp := hp) (he := he) (hsp := hsp) (hr := hr) (sem := sem) (q := fullShare) (qo := fullShare) (hs := fun x => vv s t (bs L + (c + (x 0).val))) (ho := fun x => pf L s t c (x 0).val)
    (A := img (KN s t) NN (bs L + c) (bs L + (c + n))) (g := g) (g' := RR s t) N hnum (fun x => by rw [hv]; exact pos_lt (KN s t) (hb x))
    (fun x x' h => by
      rw [hv, hv] at h
      have := pos_inj (KN s t) (hb x) (hb x') h
      funext a; obtain rfl := Fin.eq_zero a; exact Fin.ext (by omega))
    hmem (fun x => by rw [hv]; unfold RR; exact res_pos (KN s t) (vv s t) (hb x)) (fun _ => rfl) (fun _ => rfl) hN
  have hA : iprop(Rg (F := F) d L s t c (c + n) g ∗ PS (F := F) (tcV d L) pm (Finset.range (ds 0)) fullShare (pf L s t c) ∗ semVal (tcV d L, .dma sem) 0)
      ⊢ iprop(PS (F := F) (tcV d L) vM (Finset.Ico c (c + n)) fullShare (fun n => vv s t (bs L + n)) ∗ PS (F := F) (tcV d L) outsM (img (KN s t) NN (bs L + c) (bs L + (c + n))) fullShare g
        ∗ PS (F := F) (tcV d L) pm (Finset.range (ds 0)) fullShare (pf L s t c) ∗ semVal (tcV d L, .dma sem) 0) := by
    unfold Rg
    iintro ⟨⟨H1, H2⟩, H3, H4⟩
    isplitl [H1]; · iexact H1
    isplitl [H2]; · iexact H2
    isplitl [H3]; · iexact H3
    iexact H4
  have hB : iprop(PS (F := F) (tcV d L) outsM (img (KN s t) NN (bs L + c) (bs L + (c + n))) fullShare (RR s t) ∗ PS (F := F) (tcV d L) vM (Finset.Ico c (c + n)) fullShare (fun n => vv s t (bs L + n))
        ∗ PS (F := F) (tcV d L) pm (Finset.range (ds 0)) fullShare (pf L s t c)) ⊢ Dl (F := F) d L s t pm c n := by
    unfold Dl Rg
    iintro ⟨H1, H2, H3⟩
    isplitl [H1 H2]
    · isplitl [H2]; · iexact H2
      iexact H1
    iexact H3
  have hB' := (BI.sep_mono (Entails.of_eq (e1 (RR s t))) (BI.sep_mono (Entails.of_eq e2) (Entails.of_eq e3))).trans hB
  exact hA.trans ((BI.sep_mono (Entails.of_eq e2.symm) (BI.sep_mono (Entails.of_eq (e1 g).symm) (BI.sep_mono_l (Entails.of_eq e3.symm)))).trans (h.trans
    (wand2 (Transfers.Flight_mono EC _ hB'))))

variable {O : CellTallies nD τ sig (HIx 4)} {W' : Waits sig (HIx 4)}

theorem wsc {N : ℕ} {D : sProp 𝕄} {ds do' : Fin 1 → ℕ} {sm : DmaSem sig} {srcw : Memref sig .scVector .vmem ⟨1, ds⟩ .i32} {dstw : Memref sig .scVector .shared ⟨1, do'⟩ .i32} {h1 h2}
    (hN : srcw.view.dmaCredit = N) {k : PUnit → Prog (TpuEff nD τ sig (Elt F) Λ₀ (.scVector ((L 0).castLE hcore0) ((L 1).castLE hsub0))) α} :
    iprop(Transfers.MayWaits (tcV d L) none O ∗ Transfers.Flight EC (tcV d L) (.dma sm) none N D ∗ OW (F := F) (tcV d L) O W')
      ⊢ iprop((iprop(D ∗ semVal (tcV d L, .dma sm) 0 ∗ OW (F := F) (tcV d L) O W') -∗ wpT d L (k ⟨⟩) Q)
        -∗ wpT d L (SparseCore.waitIndirectScatter sm srcw dstw h1 h2 >>= k) Q) :=
  wp_wt (c := tcV d L) 𝒱₀ none (N := N) (sem := sm) (srcw := dstw) (dstw := srcw) hN

/-- A slot of the double buffering before trip `h`. -/
def Sl {ds : Fin 1 → ℕ} (pm : Memref sig .scVector .vmem ⟨1, ds⟩ .i32) (sm : DmaSem sig) (c0 h : ℕ) : sProp 𝕄 :=
  if h = 0 then iprop(semVal (tcV d L, .dma sm) 0 ∗ ∃ g : ℕ → BitVec 32, PS (F := F) (tcV d L) pm (Finset.range (ds 0)) fullShare g)
  else Transfers.Flight EC (tcV d L) (.dma sm) none 4096 (Dl (F := F) d L s t pm (256 * h - 256 + c0) 128)

theorem Sl_zero {ds : Fin 1 → ℕ} (pm : Memref sig .scVector .vmem ⟨1, ds⟩ .i32) (sm : DmaSem sig) (c0 : ℕ) : Sl (F := F) d L s t pm sm c0 0
    = iprop(semVal (tcV d L, .dma sm) 0 ∗ ∃ g : ℕ → BitVec 32, PS (F := F) (tcV d L) pm (Finset.range (ds 0)) fullShare g) := if_pos rfl
theorem Sl_pos {ds : Fin 1 → ℕ} (pm : Memref sig .scVector .vmem ⟨1, ds⟩ .i32) (sm : DmaSem sig) (c0 h : ℕ) (hh : h ≠ 0) : Sl (F := F) d L s t pm sm c0 h
    = Transfers.Flight EC (tcV d L) (.dma sm) none 4096 (Dl (F := F) d L s t pm (256 * h - 256 + c0) 128) := if_neg hh
theorem Sl_succ {ds : Fin 1 → ℕ} (pm : Memref sig .scVector .vmem ⟨1, ds⟩ .i32) (sm : DmaSem sig) (c0 h c : ℕ) (hc : c = 256 * h + c0) : Sl (F := F) d L s t pm sm c0 (h + 1)
    = Transfers.Flight EC (tcV d L) (.dma sm) none 4096 (Dl (F := F) d L s t pm c 128) := by
  rw [Sl_pos d L s t pm sm c0 (h + 1) (by omega), hc]; rw [show 256 * (h + 1) - 256 + c0 = 256 * h + c0 by omega]

/-- What a slot's scatter brought joins what is done. -/
theorem done_join {ds : Fin 1 → ℕ} (pm : Memref sig .scVector .vmem ⟨1, ds⟩ .i32) (lo c hi : ℕ) (hc : lo ≤ c) (hh : c + 128 = hi) (hi' : hi ≤ 20000) (c' : ℕ) :
    iprop(Rg (F := F) d L s t lo c (RR s t) ∗ Dl (F := F) d L s t pm c 128) ⊢ iprop(Rg (F := F) d L s t lo hi (RR s t) ∗ PX (F := F) d L s t pm c' 0) := by
  subst hh
  unfold Dl
  rw [Rg_split d L s t (RR s t) hc (Nat.le_add_right c 128) hi']
  iintro ⟨H1, H2, H3⟩
  isplitl [H1 H2]
  · isplitl [H1]; · iexact H1
    iexact H2
  iapply (PX_start d L s t pm c' (pf L s t c)) $$ H3

theorem PX_ex {ds : Fin 1 → ℕ} (pm : Memref sig .scVector .vmem ⟨1, ds⟩ .i32) (c : ℕ) :
    iprop(∃ g : ℕ → BitVec 32, PS (F := F) (tcV d L) pm (Finset.range (ds 0)) fullShare g) ⊢ PX (F := F) d L s t pm c 0 := by
  iintro ⟨%g, H⟩
  iapply (PX_start d L s t pm c g) $$ H

theorem Sl_open {ds : Fin 1 → ℕ} (pm : Memref sig .scVector .vmem ⟨1, ds⟩ .i32) (sm : DmaSem sig) (c0 h : ℕ) (hh : h = 0) (c : ℕ) :
    Sl (F := F) d L s t pm sm c0 h ⊢ iprop(semVal (tcV d L, .dma sm) 0 ∗ PX (F := F) d L s t pm c 0) := by
  subst hh
  rw [Sl_zero]
  iintro ⟨H, Hg⟩
  isplitl [H]; · iexact H
  iapply (PX_ex d L s t pm c) $$ Hg

theorem cond3 : ∀ n : Fin k0_t69_loop.trips, k0_cond3 n = 1#1 ↔ n.val ≠ 0 := by decide +kernel
theorem cond4 : ∀ n : Fin k0_t69_loop.trips, k0_cond4 n = 1#1 ↔ n.val ≠ 0 := by decide +kernel

end Places

end Cert.Proof.Sorting
-- ==== Proof.Trip.lean ====
/-
The steps of one trip of the task's last loop.
-/
module

public import proofs.«01_k».proof.Proof.Places

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Trips
variable (d : Dev nD) (L : grid0.Coords) (s t : ℕ → BitVec 32) {O : CellTallies nD τ sig (HIx 4)} {W : Waits sig (HIx 4)} (hK : ∀ e, e < 320000 → KN s t e < 10000)
include hK

theorem part1 (n : Fin k0_t69_loop.trips) {e1 e2 : BitVec 32} {gu : ℕ → BitVec 32} {Q : (Σ' (v1024 : BitVec 32) (v1025 : BitVec 32) (v1027 : BitVec 32) (v1055 : Vec F S16 .i32) (v1056 : BitVec 32), BitVec 32) → sProp (MT nD τ sig (HIx 4) (Elt F) ℕ UU ℕ)} :
    iprop(Transfers.MayWaits (tcV d L) none O
        ∗ PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ Rg (F := F) d L s t 0 (256 * n.val - 256) (RR s t)
        ∗ Rg (F := F) d L s t 10000 (256 * n.val - 256 + 10000) (RR s t)
        ∗ Sl (F := F) d L s t paM cc0_scratch24.sem 0 n.val
        ∗ Sl (F := F) d L s t pbM cc0_scratch26.sem 10000 n.val
        ∗ OW (F := F) (tcV d L) O W)
      ⊢ iprop(iprop(∀ z1 : BitVec 32, ∀ z2 : BitVec 32, ∀ z3 : BitVec 32, ∀ z4 : BitVec 32, ∀ z5 : BitVec 32, iprop(Rg (F := F) d L s t 0 (256 * n.val - 128) (RR s t)
        ∗ Rg (F := F) d L s t 10000 (256 * n.val - 128 + 10000) (RR s t)
        ∗ semVal (tcV d L, .dma cc0_scratch24.sem) 0
        ∗ semVal (tcV d L, .dma cc0_scratch26.sem) 0
        ∗ OW (F := F) (tcV d L) O W
        ∗ PS (F := F) (tcV d L) haM (Finset.range 10240) fullShare (rA L s t)
        ∗ PX (F := F) d L s t paM (256 * n.val) 1
        ∗ PS (F := F) (tcV d L) hbM (Finset.range 10240) fullShare (rB L s t)
        ∗ PX (F := F) d L s t pbM (256 * n.val + 10000) 1
        ∗ PS (F := F) (tcV d L) kM (Finset.range 20000) fullShare (kst (kk s t) (bs L) 625))
        -∗ Q ⟨z1, z2, z3, (kv (F := F) L s t (256 * n.val + 16)), z4, z5⟩)
        -∗ wpT d L (k0_part1 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116 e1 e2 n) Q) := by
  have hw := lt16 L
  have hn : n.val < 39 := lt_of_lt_of_eq n.isLt (by decide +kernel)
  rw [k0_part1_eq_skeleton]
  unfold k0_part1_skel
  iintro ⟨#Hm, Hk, Ha, Hb, HDA, HDB, HS13, HS15, HO⟩ HQ
  by_cases hz : n.val = 0
  on_goal 1 =>
    simp only [dif_neg (fun h => (cond3 n).mp h hz)]
    ihave HS13 := (Sl_open d L s t paM cc0_scratch24.sem 0 n.val hz (256 * n.val)) $$ HS13
    icases HS13 with ⟨Hs24, H13⟩
    ihave HS15 := (Sl_open d L s t pbM cc0_scratch26.sem 10000 n.val hz (256 * n.val + 10000)) $$ HS15
    icases HS15 with ⟨Hs26, H15⟩
    ihave HDA := (Entails.of_eq (show Rg (F := F) d L s t 0 (256 * n.val - 256) (RR s t) = Rg (F := F) d L s t 0 (256 * n.val - 128) (RR s t) from by rw [show 256 * n.val - 256 = 256 * n.val - 128 by omega])) $$ HDA
    ihave HDB := (Entails.of_eq (show Rg (F := F) d L s t 10000 (256 * n.val - 256 + 10000) (RR s t) = Rg (F := F) d L s t 10000 (256 * n.val - 128 + 10000) (RR s t) from by rw [show 256 * n.val - 256 = 256 * n.val - 128 by omega])) $$ HDB
  on_goal 2 =>
    simp only [dif_pos ((cond3 n).mpr hz)]
    ihave HS13 := (Entails.of_eq (Sl_pos d L s t paM cc0_scratch24.sem 0 n.val hz)) $$ HS13
    iapply (wsc d L (cr_v rfl)) $$ [HS13 HO]
    · isplitr; · iexact Hm
      isplitl [HS13]; · iexact HS13
      iexact HO
    iintro ⟨Hd, Hs24, HO⟩
    ihave HDA := (Entails.of_eq (show Rg (F := F) d L s t 0 (256 * n.val - 256) (RR s t) = Rg (F := F) d L s t 0 (256 * n.val - 256 + 0) (RR s t) from by rw [show 256 * n.val - 256 = 256 * n.val - 256 + 0 by omega])) $$ HDA
    ihave HDA := (done_join d L s t paM 0 (256 * n.val - 256 + 0) (256 * n.val - 128) (by omega) (by omega) (by omega) (256 * n.val)) $$ [HDA Hd]
    · isplitl [HDA]; · iexact HDA
      iexact Hd
    icases HDA with ⟨HDA, H13⟩
    ihave HS15 := (Entails.of_eq (Sl_pos d L s t pbM cc0_scratch26.sem 10000 n.val hz)) $$ HS15
    iapply (wsc d L (cr_v rfl)) $$ [HS15 HO]
    · isplitr; · iexact Hm
      isplitl [HS15]; · iexact HS15
      iexact HO
    iintro ⟨Hd, Hs26, HO⟩
    ihave HDB := (Entails.of_eq (show Rg (F := F) d L s t 10000 (256 * n.val - 256 + 10000) (RR s t) = Rg (F := F) d L s t 10000 (256 * n.val - 256 + 10000) (RR s t) from by rw [show 256 * n.val - 256 + 10000 = 256 * n.val - 256 + 10000 by omega])) $$ HDB
    ihave HDB := (done_join d L s t pbM 10000 (256 * n.val - 256 + 10000) (256 * n.val - 128 + 10000) (by omega) (by omega) (by omega) (256 * n.val + 10000)) $$ [HDB Hd]
    · isplitl [HDB]; · iexact HDB
      iexact Hd
    icases HDB with ⟨HDB, H15⟩
  all_goals
    iapply (ld_k d L s t (256 * n.val) (off := k0_off145 n) (show k0_off145 n 0 = (256 * n.val) from congrFun (k0_off145_eq n) 0) (by omega)) $$ Hk
    iintro Hk
    iapply (ld_k d L s t (256 * n.val + 10000) (off := k0_off146 n) (show k0_off146 n 0 = (256 * n.val + 10000) from congrFun (k0_off146_eq n) 0) (by omega)) $$ Hk
    iintro Hk
    iapply (wp_assume 𝒱₀ _ none Set.univ (kv_chk (F := F) L s t hK (o := (256 * n.val)) (by omega)))
    iapply (ga_k d L s t hK (rA L s t) (256 * n.val) (by omega) (hm := haM) (h := kv_chk (F := F) L s t hK (o := (256 * n.val)) (by omega)) (hl := View.loads_vmem h_S10240)) $$ Ha
    iintro Ha
    iapply (st_p d L s t paM (256 * n.val) 0 (256 * n.val) (off := ![0]) rfl (by show 16 * 0 + 16 ≤ 128; omega) (by omega) (fun x => pv_a (F := F) L s t hK (o := (256 * n.val)) (by omega) x)) $$ H13
    iintro H13
    iapply (wp_assume 𝒱₀ _ none Set.univ (kv_chk (F := F) L s t hK (o := (256 * n.val + 10000)) (by omega)))
    iapply (ga_k d L s t hK (rB L s t) (256 * n.val + 10000) (by omega) (hm := hbM) (h := kv_chk (F := F) L s t hK (o := (256 * n.val + 10000)) (by omega)) (hl := View.loads_vmem h_S10240)) $$ Hb
    iintro Hb
    iapply (st_p d L s t pbM (256 * n.val + 10000) 0 (256 * n.val + 10000) (off := ![0]) rfl (by show 16 * 0 + 16 ≤ 128; omega) (by omega) (fun x => pv_b (F := F) L s t hK (o := (256 * n.val + 10000)) (by omega) (by omega) x)) $$ H15
    iintro H15
    iapply (ld_k d L s t (256 * n.val + 16) (off := k0_off147 n) (show k0_off147 n 0 = (256 * n.val + 16) from congrFun (k0_off147_eq n) 0) (by omega)) $$ Hk
    iintro Hk
    iapply (wp_fin (F := F))
    iapply HQ
    isplitl [HDA]; · iexact HDA
    isplitl [HDB]; · iexact HDB
    isplitl [Hs24]; · iexact Hs24
    isplitl [Hs26]; · iexact Hs26
    isplitl [HO]; · iexact HO
    isplitl [Ha]; · iexact Ha
    isplitl [H13]; · iexact H13
    isplitl [Hb]; · iexact Hb
    isplitl [H15]; · iexact H15
    iexact Hk

theorem part2 (n : Fin k0_t69_loop.trips) {e1 e2 e3 : BitVec 32} {gu : ℕ → BitVec 32} {Q : (BitVec 32) → sProp (MT nD τ sig (HIx 4) (Elt F) ℕ UU ℕ)} :
    iprop(PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ PX (F := F) d L s t paM (256 * n.val) 1
        ∗ PX (F := F) d L s t pbM (256 * n.val + 10000) 1)
      ⊢ iprop(iprop(∀ z1 : BitVec 32, iprop(PS (F := F) (tcV d L) kM (Finset.range 20000) fullShare (kst (kk s t) (bs L) 625)
        ∗ PS (F := F) (tcV d L) haM (Finset.range 10240) fullShare (rA L s t)
        ∗ PX (F := F) d L s t paM (256 * n.val) 3
        ∗ PS (F := F) (tcV d L) hbM (Finset.range 10240) fullShare (rB L s t)
        ∗ PX (F := F) d L s t pbM (256 * n.val + 10000) 3)
        -∗ Q z1)
        -∗ wpT d L (k0_part2 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116 n e1 (kv (F := F) L s t (256 * n.val + 16)) e2 e3) Q) := by
  have hw := lt16 L
  have hn : n.val < 39 := lt_of_lt_of_eq n.isLt (by decide +kernel)
  rw [k0_part2_eq_skeleton]
  unfold k0_part2_skel
  iintro ⟨Hk, Ha, Hb, H13, H15⟩ HQ
  iapply (ld_k d L s t (256 * n.val + 10016) (off := k0_off148 n) (show k0_off148 n 0 = (256 * n.val + 10016) from congrFun (k0_off148_eq n) 0) (by omega)) $$ Hk
  iintro Hk
  iapply (wp_assume 𝒱₀ _ none Set.univ (kv_chk (F := F) L s t hK (o := (256 * n.val + 16)) (by omega)))
  iapply (ga_k d L s t hK (rA L s t) (256 * n.val + 16) (by omega) (hm := haM) (h := kv_chk (F := F) L s t hK (o := (256 * n.val + 16)) (by omega)) (hl := View.loads_vmem h_S10240)) $$ Ha
  iintro Ha
  iapply (st_p d L s t paM (256 * n.val) 1 (256 * n.val + 16) (off := ![16]) rfl (by show 16 * 1 + 16 ≤ 128; omega) (by omega) (fun x => pv_a (F := F) L s t hK (o := (256 * n.val + 16)) (by omega) x)) $$ H13
  iintro H13
  iapply (wp_assume 𝒱₀ _ none Set.univ (kv_chk (F := F) L s t hK (o := (256 * n.val + 10016)) (by omega)))
  iapply (ga_k d L s t hK (rB L s t) (256 * n.val + 10016) (by omega) (hm := hbM) (h := kv_chk (F := F) L s t hK (o := (256 * n.val + 10016)) (by omega)) (hl := View.loads_vmem h_S10240)) $$ Hb
  iintro Hb
  iapply (st_p d L s t pbM (256 * n.val + 10000) 1 (256 * n.val + 10016) (off := ![16]) rfl (by show 16 * 1 + 16 ≤ 128; omega) (by omega) (fun x => pv_b (F := F) L s t hK (o := (256 * n.val + 10016)) (by omega) (by omega) x)) $$ H15
  iintro H15
  iapply (ld_k d L s t (256 * n.val + 32) (off := k0_off149 n) (show k0_off149 n 0 = (256 * n.val + 32) from congrFun (k0_off149_eq n) 0) (by omega)) $$ Hk
  iintro Hk
  iapply (ld_k d L s t (256 * n.val + 10032) (off := k0_off150 n) (show k0_off150 n 0 = (256 * n.val + 10032) from congrFun (k0_off150_eq n) 0) (by omega)) $$ Hk
  iintro Hk
  iapply (wp_assume 𝒱₀ _ none Set.univ (kv_chk (F := F) L s t hK (o := (256 * n.val + 32)) (by omega)))
  iapply (ga_k d L s t hK (rA L s t) (256 * n.val + 32) (by omega) (hm := haM) (h := kv_chk (F := F) L s t hK (o := (256 * n.val + 32)) (by omega)) (hl := View.loads_vmem h_S10240)) $$ Ha
  iintro Ha
  iapply (st_p d L s t paM (256 * n.val) 2 (256 * n.val + 32) (off := ![32]) rfl (by show 16 * 2 + 16 ≤ 128; omega) (by omega) (fun x => pv_a (F := F) L s t hK (o := (256 * n.val + 32)) (by omega) x)) $$ H13
  iintro H13
  iapply (wp_assume 𝒱₀ _ none Set.univ (kv_chk (F := F) L s t hK (o := (256 * n.val + 10032)) (by omega)))
  iapply (ga_k d L s t hK (rB L s t) (256 * n.val + 10032) (by omega) (hm := hbM) (h := kv_chk (F := F) L s t hK (o := (256 * n.val + 10032)) (by omega)) (hl := View.loads_vmem h_S10240)) $$ Hb
  iintro Hb
  iapply (st_p d L s t pbM (256 * n.val + 10000) 2 (256 * n.val + 10032) (off := ![32]) rfl (by show 16 * 2 + 16 ≤ 128; omega) (by omega) (fun x => pv_b (F := F) L s t hK (o := (256 * n.val + 10032)) (by omega) (by omega) x)) $$ H15
  iintro H15
  iapply (wp_fin (F := F))
  iapply HQ
  isplitl [Hk]; · iexact Hk
  isplitl [Ha]; · iexact Ha
  isplitl [H13]; · iexact H13
  isplitl [Hb]; · iexact Hb
  iexact H15

theorem part3 (n : Fin k0_t69_loop.trips) {e1 e2 : BitVec 32} {gu : ℕ → BitVec 32} {Q : (Σ' (v1123 : Vec F S16 .i32), Vec F S16 .i32) → sProp (MT nD τ sig (HIx 4) (Elt F) ℕ UU ℕ)} :
    iprop(PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ PX (F := F) d L s t paM (256 * n.val) 3
        ∗ PX (F := F) d L s t pbM (256 * n.val + 10000) 3)
      ⊢ iprop((iprop(PX (F := F) d L s t pbM (256 * n.val + 10000) 4
        ∗ PS (F := F) (tcV d L) kM (Finset.range 20000) fullShare (kst (kk s t) (bs L) 625)
        ∗ PS (F := F) (tcV d L) haM (Finset.range 10240) fullShare (rA L s t)
        ∗ PX (F := F) d L s t paM (256 * n.val) 5
        ∗ PS (F := F) (tcV d L) hbM (Finset.range 10240) fullShare (rB L s t))
        -∗ Q ⟨(kv (F := F) L s t (256 * n.val + 10064)), (gv (F := F) L s t (rB L s t) (256 * n.val + 10064))⟩)
        -∗ wpT d L (k0_part3 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116 n e1 e2) Q) := by
  have hw := lt16 L
  have hn : n.val < 39 := lt_of_lt_of_eq n.isLt (by decide +kernel)
  rw [k0_part3_eq_skeleton]
  unfold k0_part3_skel
  iintro ⟨Hk, Ha, Hb, H13, H15⟩ HQ
  iapply (ld_k d L s t (256 * n.val + 48) (off := k0_off151 n) (show k0_off151 n 0 = (256 * n.val + 48) from congrFun (k0_off151_eq n) 0) (by omega)) $$ Hk
  iintro Hk
  iapply (ld_k d L s t (256 * n.val + 10048) (off := k0_off152 n) (show k0_off152 n 0 = (256 * n.val + 10048) from congrFun (k0_off152_eq n) 0) (by omega)) $$ Hk
  iintro Hk
  iapply (wp_assume 𝒱₀ _ none Set.univ (kv_chk (F := F) L s t hK (o := (256 * n.val + 48)) (by omega)))
  iapply (ga_k d L s t hK (rA L s t) (256 * n.val + 48) (by omega) (hm := haM) (h := kv_chk (F := F) L s t hK (o := (256 * n.val + 48)) (by omega)) (hl := View.loads_vmem h_S10240)) $$ Ha
  iintro Ha
  iapply (st_p d L s t paM (256 * n.val) 3 (256 * n.val + 48) (off := ![48]) rfl (by show 16 * 3 + 16 ≤ 128; omega) (by omega) (fun x => pv_a (F := F) L s t hK (o := (256 * n.val + 48)) (by omega) x)) $$ H13
  iintro H13
  iapply (wp_assume 𝒱₀ _ none Set.univ (kv_chk (F := F) L s t hK (o := (256 * n.val + 10048)) (by omega)))
  iapply (ga_k d L s t hK (rB L s t) (256 * n.val + 10048) (by omega) (hm := hbM) (h := kv_chk (F := F) L s t hK (o := (256 * n.val + 10048)) (by omega)) (hl := View.loads_vmem h_S10240)) $$ Hb
  iintro Hb
  iapply (st_p d L s t pbM (256 * n.val + 10000) 3 (256 * n.val + 10048) (off := ![48]) rfl (by show 16 * 3 + 16 ≤ 128; omega) (by omega) (fun x => pv_b (F := F) L s t hK (o := (256 * n.val + 10048)) (by omega) (by omega) x)) $$ H15
  iintro H15
  iapply (ld_k d L s t (256 * n.val + 64) (off := k0_off153 n) (show k0_off153 n 0 = (256 * n.val + 64) from congrFun (k0_off153_eq n) 0) (by omega)) $$ Hk
  iintro Hk
  iapply (ld_k d L s t (256 * n.val + 10064) (off := k0_off154 n) (show k0_off154 n 0 = (256 * n.val + 10064) from congrFun (k0_off154_eq n) 0) (by omega)) $$ Hk
  iintro Hk
  iapply (wp_assume 𝒱₀ _ none Set.univ (kv_chk (F := F) L s t hK (o := (256 * n.val + 64)) (by omega)))
  iapply (ga_k d L s t hK (rA L s t) (256 * n.val + 64) (by omega) (hm := haM) (h := kv_chk (F := F) L s t hK (o := (256 * n.val + 64)) (by omega)) (hl := View.loads_vmem h_S10240)) $$ Ha
  iintro Ha
  iapply (st_p d L s t paM (256 * n.val) 4 (256 * n.val + 64) (off := ![64]) rfl (by show 16 * 4 + 16 ≤ 128; omega) (by omega) (fun x => pv_a (F := F) L s t hK (o := (256 * n.val + 64)) (by omega) x)) $$ H13
  iintro H13
  iapply (wp_assume 𝒱₀ _ none Set.univ (kv_chk (F := F) L s t hK (o := (256 * n.val + 10064)) (by omega)))
  iapply (ga_k d L s t hK (rB L s t) (256 * n.val + 10064) (by omega) (hm := hbM) (h := kv_chk (F := F) L s t hK (o := (256 * n.val + 10064)) (by omega)) (hl := View.loads_vmem h_S10240)) $$ Hb
  iintro Hb
  iapply (wp_fin (F := F))
  iapply HQ
  isplitl [H15]; · iexact H15
  isplitl [Hk]; · iexact Hk
  isplitl [Ha]; · iexact Ha
  isplitl [H13]; · iexact H13
  iexact Hb

theorem part4 (n : Fin k0_t69_loop.trips) {e1 : BitVec 32} {gu : ℕ → BitVec 32} {Q : (Σ' (v1160 : Vec F S16 .i32) (v1165 : Vec F S16 .i32) (v1167 : Vec F S16 .i32), IVec S16 32) → sProp (MT nD τ sig (HIx 4) (Elt F) ℕ UU ℕ)} :
    iprop(PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ PX (F := F) d L s t paM (256 * n.val) 5
        ∗ PX (F := F) d L s t pbM (256 * n.val + 10000) 4)
      ⊢ iprop((iprop(PX (F := F) d L s t paM (256 * n.val) 6
        ∗ PS (F := F) (tcV d L) hbM (Finset.range 10240) fullShare (rB L s t)
        ∗ PX (F := F) d L s t pbM (256 * n.val + 10000) 6
        ∗ PS (F := F) (tcV d L) kM (Finset.range 20000) fullShare (kst (kk s t) (bs L) 625)
        ∗ PS (F := F) (tcV d L) haM (Finset.range 10240) fullShare (rA L s t))
        -∗ Q ⟨(kv (F := F) L s t (256 * n.val + 96)), (kv (F := F) L s t (256 * n.val + 10096)), (gv (F := F) L s t (rA L s t) (256 * n.val + 96)), k0_pay13⟩)
        -∗ wpT d L (k0_part4 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116 n e1 (kv (F := F) L s t (256 * n.val + 10064)) (gv (F := F) L s t (rB L s t) (256 * n.val + 10064))) Q) := by
  have hw := lt16 L
  have hn : n.val < 39 := lt_of_lt_of_eq n.isLt (by decide +kernel)
  rw [k0_part4_eq_skeleton]
  unfold k0_part4_skel
  iintro ⟨Hk, Ha, Hb, H13, H15⟩ HQ
  iapply (st_p d L s t pbM (256 * n.val + 10000) 4 (256 * n.val + 10064) (off := ![64]) rfl (by show 16 * 4 + 16 ≤ 128; omega) (by omega) (fun x => pv_b (F := F) L s t hK (o := (256 * n.val + 10064)) (by omega) (by omega) x)) $$ H15
  iintro H15
  iapply (ld_k d L s t (256 * n.val + 80) (off := k0_off155 n) (show k0_off155 n 0 = (256 * n.val + 80) from congrFun (k0_off155_eq n) 0) (by omega)) $$ Hk
  iintro Hk
  iapply (ld_k d L s t (256 * n.val + 10080) (off := k0_off156 n) (show k0_off156 n 0 = (256 * n.val + 10080) from congrFun (k0_off156_eq n) 0) (by omega)) $$ Hk
  iintro Hk
  iapply (wp_assume 𝒱₀ _ none Set.univ (kv_chk (F := F) L s t hK (o := (256 * n.val + 80)) (by omega)))
  iapply (ga_k d L s t hK (rA L s t) (256 * n.val + 80) (by omega) (hm := haM) (h := kv_chk (F := F) L s t hK (o := (256 * n.val + 80)) (by omega)) (hl := View.loads_vmem h_S10240)) $$ Ha
  iintro Ha
  iapply (st_p d L s t paM (256 * n.val) 5 (256 * n.val + 80) (off := ![80]) rfl (by show 16 * 5 + 16 ≤ 128; omega) (by omega) (fun x => pv_a (F := F) L s t hK (o := (256 * n.val + 80)) (by omega) x)) $$ H13
  iintro H13
  iapply (wp_assume 𝒱₀ _ none Set.univ (kv_chk (F := F) L s t hK (o := (256 * n.val + 10080)) (by omega)))
  iapply (ga_k d L s t hK (rB L s t) (256 * n.val + 10080) (by omega) (hm := hbM) (h := kv_chk (F := F) L s t hK (o := (256 * n.val + 10080)) (by omega)) (hl := View.loads_vmem h_S10240)) $$ Hb
  iintro Hb
  iapply (st_p d L s t pbM (256 * n.val + 10000) 5 (256 * n.val + 10080) (off := ![80]) rfl (by show 16 * 5 + 16 ≤ 128; omega) (by omega) (fun x => pv_b (F := F) L s t hK (o := (256 * n.val + 10080)) (by omega) (by omega) x)) $$ H15
  iintro H15
  iapply (ld_k d L s t (256 * n.val + 96) (off := k0_off157 n) (show k0_off157 n 0 = (256 * n.val + 96) from congrFun (k0_off157_eq n) 0) (by omega)) $$ Hk
  iintro Hk
  iapply (ld_k d L s t (256 * n.val + 10096) (off := k0_off158 n) (show k0_off158 n 0 = (256 * n.val + 10096) from congrFun (k0_off158_eq n) 0) (by omega)) $$ Hk
  iintro Hk
  iapply (wp_assume 𝒱₀ _ none Set.univ (kv_chk (F := F) L s t hK (o := (256 * n.val + 96)) (by omega)))
  iapply (ga_k d L s t hK (rA L s t) (256 * n.val + 96) (by omega) (hm := haM) (h := kv_chk (F := F) L s t hK (o := (256 * n.val + 96)) (by omega)) (hl := View.loads_vmem h_S10240)) $$ Ha
  iintro Ha
  iapply (wp_fin (F := F))
  iapply HQ
  isplitl [H13]; · iexact H13
  isplitl [Hb]; · iexact Hb
  isplitl [H15]; · iexact H15
  isplitl [Hk]; · iexact Hk
  iexact Ha

theorem part5 (n : Fin k0_t69_loop.trips) {e1 : BitVec 32} {gu : ℕ → BitVec 32} {Q : (PUnit) → sProp (MT nD τ sig (HIx 4) (Elt F) ℕ UU ℕ)} :
    iprop(PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ PX (F := F) d L s t paM (256 * n.val) 6
        ∗ PX (F := F) d L s t pbM (256 * n.val + 10000) 6
        ∗ Rg (F := F) d L s t (256 * n.val) 10000 gu
        ∗ semVal (tcV d L, .dma cc0_scratch24.sem) 0)
      ⊢ iprop((iprop(Rg (F := F) d L s t (256 * n.val + 128) 10000 gu
        ∗ PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ PX (F := F) d L s t pbM (256 * n.val + 10000) 8
        ∗ Transfers.Flight EC (tcV d L) (.dma cc0_scratch24.sem) none 4096 (Dl (F := F) d L s t paM (256 * n.val) 128))
        -∗ Q ⟨⟩)
        -∗ wpT d L (k0_part5 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116 n e1 (kv (F := F) L s t (256 * n.val + 96)) (kv (F := F) L s t (256 * n.val + 10096)) (gv (F := F) L s t (rA L s t) (256 * n.val + 96)) k0_pay13) Q) := by
  have hw := lt16 L
  have hn : n.val < 39 := lt_of_lt_of_eq n.isLt (by decide +kernel)
  rw [k0_part5_eq_skeleton]
  unfold k0_part5_skel
  iintro ⟨Hk, Ha, Hb, H13, H15, HUA, Hs24⟩ HQ
  iapply (st_p d L s t paM (256 * n.val) 6 (256 * n.val + 96) (off := ![96]) rfl (by show 16 * 6 + 16 ≤ 128; omega) (by omega) (fun x => pv_a (F := F) L s t hK (o := (256 * n.val + 96)) (by omega) x)) $$ H13
  iintro H13
  iapply (wp_assume 𝒱₀ _ none Set.univ (kv_chk (F := F) L s t hK (o := (256 * n.val + 10096)) (by omega)))
  iapply (ga_k d L s t hK (rB L s t) (256 * n.val + 10096) (by omega) (hm := hbM) (h := kv_chk (F := F) L s t hK (o := (256 * n.val + 10096)) (by omega)) (hl := View.loads_vmem h_S10240)) $$ Hb
  iintro Hb
  iapply (st_p d L s t pbM (256 * n.val + 10000) 6 (256 * n.val + 10096) (off := ![96]) rfl (by show 16 * 6 + 16 ≤ 128; omega) (by omega) (fun x => pv_b (F := F) L s t hK (o := (256 * n.val + 10096)) (by omega) (by omega) x)) $$ H15
  iintro H15
  iapply (ld_k d L s t (256 * n.val + 112) (off := k0_off159 n) (show k0_off159 n 0 = (256 * n.val + 112) from congrFun (k0_off159_eq n) 0) (by omega)) $$ Hk
  iintro Hk
  iapply (ld_k d L s t (256 * n.val + 10112) (off := k0_off160 n) (show k0_off160 n 0 = (256 * n.val + 10112) from congrFun (k0_off160_eq n) 0) (by omega)) $$ Hk
  iintro Hk
  iapply (wp_assume 𝒱₀ _ none Set.univ (kv_chk (F := F) L s t hK (o := (256 * n.val + 112)) (by omega)))
  iapply (ga_k d L s t hK (rA L s t) (256 * n.val + 112) (by omega) (hm := haM) (h := kv_chk (F := F) L s t hK (o := (256 * n.val + 112)) (by omega)) (hl := View.loads_vmem h_S10240)) $$ Ha
  iintro Ha
  iapply (st_p d L s t paM (256 * n.val) 7 (256 * n.val + 112) (off := ![112]) rfl (by show 16 * 7 + 16 ≤ 128; omega) (by omega) (fun x => pv_a (F := F) L s t hK (o := (256 * n.val + 112)) (by omega) x)) $$ H13
  iintro H13
  iapply (wp_assume 𝒱₀ _ none Set.univ (kv_chk (F := F) L s t hK (o := (256 * n.val + 10112)) (by omega)))
  iapply (ga_k d L s t hK (rB L s t) (256 * n.val + 10112) (by omega) (hm := hbM) (h := kv_chk (F := F) L s t hK (o := (256 * n.val + 10112)) (by omega)) (hl := View.loads_vmem h_S10240)) $$ Hb
  iintro Hb
  iapply (st_p d L s t pbM (256 * n.val + 10000) 7 (256 * n.val + 10112) (off := ![112]) rfl (by show 16 * 7 + 16 ≤ 128; omega) (by omega) (fun x => pv_b (F := F) L s t hK (o := (256 * n.val + 10112)) (by omega) (by omega) x)) $$ H15
  iintro H15
  ihave H13 := (PX_end d L s t paM (256 * n.val) 8 rfl) $$ H13
  ihave HUA := (Entails.of_eq (Rg_split d L s t gu (lo := (256 * n.val)) (mid := (256 * n.val) + 128) (hi := 10000) (by omega) (by omega) (by omega))) $$ HUA
  icases HUA with ⟨Hc, HUA⟩
  iapply (sc d L s t paM (256 * n.val) 128 4096 (offv := k0_off161 n) rfl (np 128 (by decide)) (show k0_off161 n 0 = (256 * n.val) from congrFun (k0_off161_eq n) 0) rfl (by omega) (cr_v rfl) gu) $$ [Hc H13 Hs24]
  · isplitl [Hc]; · iexact Hc
    isplitl [H13]; · iexact H13
    iexact Hs24
  iintro HF13
  ihave HUA := (Entails.of_eq (show _ = Rg (F := F) d L s t (256 * n.val + 128) 10000 gu from by rw [show (256 * n.val) + 128 = (256 * n.val + 128) by omega])) $$ HUA
  iapply (wp_fin (F := F))
  iapply HQ
  isplitl [HUA]; · iexact HUA
  isplitl [Hk]; · iexact Hk
  isplitl [Ha]; · iexact Ha
  isplitl [Hb]; · iexact Hb
  isplitl [H15]; · iexact H15
  iexact HF13

theorem part6 (n : Fin k0_t69_loop.trips) {e1 e2 : BitVec 32} {gu : ℕ → BitVec 32} {Q : (Σ' (v1233 : Vec F S16 .i32) (v1238 : Vec F S16 .i32), Vec F S16 .i32) → sProp (MT nD τ sig (HIx 4) (Elt F) ℕ UU ℕ)} :
    iprop(Transfers.MayWaits (tcV d L) none O
        ∗ PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ PX (F := F) d L s t pbM (256 * n.val + 10000) 8
        ∗ Rg (F := F) d L s t (256 * n.val + 10000) 20000 gu
        ∗ semVal (tcV d L, .dma cc0_scratch26.sem) 0
        ∗ Rg (F := F) d L s t 0 (256 * n.val - 128) (RR s t)
        ∗ Rg (F := F) d L s t 10000 (256 * n.val - 128 + 10000) (RR s t)
        ∗ Sl (F := F) d L s t paM' cc0_scratch25.sem 128 n.val
        ∗ Sl (F := F) d L s t pbM' cc0_scratch27.sem 10128 n.val
        ∗ OW (F := F) (tcV d L) O W)
      ⊢ iprop((iprop(Rg (F := F) d L s t (256 * n.val + 10128) 20000 gu
        ∗ Rg (F := F) d L s t 0 (256 * n.val) (RR s t)
        ∗ Rg (F := F) d L s t 10000 (256 * n.val + 10000) (RR s t)
        ∗ Transfers.Flight EC (tcV d L) (.dma cc0_scratch26.sem) none 4096 (Dl (F := F) d L s t pbM (256 * n.val + 10000) 128)
        ∗ semVal (tcV d L, .dma cc0_scratch25.sem) 0
        ∗ semVal (tcV d L, .dma cc0_scratch27.sem) 0
        ∗ OW (F := F) (tcV d L) O W
        ∗ PX (F := F) d L s t paM' (256 * n.val + 128) 1
        ∗ PS (F := F) (tcV d L) hbM (Finset.range 10240) fullShare (rB L s t)
        ∗ PX (F := F) d L s t pbM' (256 * n.val + 10128) 1
        ∗ PS (F := F) (tcV d L) kM (Finset.range 20000) fullShare (kst (kk s t) (bs L) 625)
        ∗ PS (F := F) (tcV d L) haM (Finset.range 10240) fullShare (rA L s t))
        -∗ Q ⟨(kv (F := F) L s t (256 * n.val + 144)), (kv (F := F) L s t (256 * n.val + 10144)), (gv (F := F) L s t (rA L s t) (256 * n.val + 144))⟩)
        -∗ wpT d L (k0_part6 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116 n e1 e2) Q) := by
  have hw := lt16 L
  have hn : n.val < 39 := lt_of_lt_of_eq n.isLt (by decide +kernel)
  rw [k0_part6_eq_skeleton]
  unfold k0_part6_skel
  iintro ⟨#Hm, Hk, Ha, Hb, H15, HUB, Hs26, HDA, HDB, HS14, HS16, HO⟩ HQ
  ihave H15 := (PX_end d L s t pbM (256 * n.val + 10000) 8 rfl) $$ H15
  ihave HUB := (Entails.of_eq (Rg_split d L s t gu (lo := (256 * n.val + 10000)) (mid := (256 * n.val + 10000) + 128) (hi := 20000) (by omega) (by omega) (by omega))) $$ HUB
  icases HUB with ⟨Hc, HUB⟩
  iapply (sc d L s t pbM (256 * n.val + 10000) 128 4096 (offv := k0_off162 n) rfl (np 128 (by decide)) (show k0_off162 n 0 = (256 * n.val + 10000) from congrFun (k0_off162_eq n) 0) rfl (by omega) (cr_v rfl) gu) $$ [Hc H15 Hs26]
  · isplitl [Hc]; · iexact Hc
    isplitl [H15]; · iexact H15
    iexact Hs26
  iintro HF15
  ihave HUB := (Entails.of_eq (show _ = Rg (F := F) d L s t (256 * n.val + 10128) 20000 gu from by rw [show (256 * n.val + 10000) + 128 = (256 * n.val + 10128) by omega])) $$ HUB
  by_cases hz : n.val = 0
  on_goal 1 =>
    simp only [dif_neg (fun h => (cond4 n).mp h hz)]
    ihave HS14 := (Sl_open d L s t paM' cc0_scratch25.sem 128 n.val hz (256 * n.val + 128)) $$ HS14
    icases HS14 with ⟨Hs25, H14⟩
    ihave HS16 := (Sl_open d L s t pbM' cc0_scratch27.sem 10128 n.val hz (256 * n.val + 10128)) $$ HS16
    icases HS16 with ⟨Hs27, H16⟩
    ihave HDA := (Entails.of_eq (show Rg (F := F) d L s t 0 (256 * n.val - 128) (RR s t) = Rg (F := F) d L s t 0 (256 * n.val) (RR s t) from by rw [show 256 * n.val - 128 = 256 * n.val by omega])) $$ HDA
    ihave HDB := (Entails.of_eq (show Rg (F := F) d L s t 10000 (256 * n.val - 128 + 10000) (RR s t) = Rg (F := F) d L s t 10000 (256 * n.val + 10000) (RR s t) from by rw [show 256 * n.val - 128 = 256 * n.val by omega])) $$ HDB
  on_goal 2 =>
    simp only [dif_pos ((cond4 n).mpr hz)]
    ihave HS14 := (Entails.of_eq (Sl_pos d L s t paM' cc0_scratch25.sem 128 n.val hz)) $$ HS14
    iapply (wsc d L (cr_v rfl)) $$ [HS14 HO]
    · isplitr; · iexact Hm
      isplitl [HS14]; · iexact HS14
      iexact HO
    iintro ⟨Hd, Hs25, HO⟩
    ihave HDA := (Entails.of_eq (show Rg (F := F) d L s t 0 (256 * n.val - 128) (RR s t) = Rg (F := F) d L s t 0 (256 * n.val - 256 + 128) (RR s t) from by rw [show 256 * n.val - 128 = 256 * n.val - 256 + 128 by omega])) $$ HDA
    ihave HDA := (done_join d L s t paM' 0 (256 * n.val - 256 + 128) (256 * n.val) (by omega) (by omega) (by omega) (256 * n.val + 128)) $$ [HDA Hd]
    · isplitl [HDA]; · iexact HDA
      iexact Hd
    icases HDA with ⟨HDA, H14⟩
    ihave HS16 := (Entails.of_eq (Sl_pos d L s t pbM' cc0_scratch27.sem 10128 n.val hz)) $$ HS16
    iapply (wsc d L (cr_v rfl)) $$ [HS16 HO]
    · isplitr; · iexact Hm
      isplitl [HS16]; · iexact HS16
      iexact HO
    iintro ⟨Hd, Hs27, HO⟩
    ihave HDB := (Entails.of_eq (show Rg (F := F) d L s t 10000 (256 * n.val - 128 + 10000) (RR s t) = Rg (F := F) d L s t 10000 (256 * n.val - 256 + 10128) (RR s t) from by rw [show 256 * n.val - 128 + 10000 = 256 * n.val - 256 + 10128 by omega])) $$ HDB
    ihave HDB := (done_join d L s t pbM' 10000 (256 * n.val - 256 + 10128) (256 * n.val + 10000) (by omega) (by omega) (by omega) (256 * n.val + 10128)) $$ [HDB Hd]
    · isplitl [HDB]; · iexact HDB
      iexact Hd
    icases HDB with ⟨HDB, H16⟩
  all_goals
    iapply (ld_k d L s t (256 * n.val + 128) (off := k0_off165 n) (show k0_off165 n 0 = (256 * n.val + 128) from congrFun (k0_off165_eq n) 0) (by omega)) $$ Hk
    iintro Hk
    iapply (ld_k d L s t (256 * n.val + 10128) (off := k0_off166 n) (show k0_off166 n 0 = (256 * n.val + 10128) from congrFun (k0_off166_eq n) 0) (by omega)) $$ Hk
    iintro Hk
    iapply (wp_assume 𝒱₀ _ none Set.univ (kv_chk (F := F) L s t hK (o := (256 * n.val + 128)) (by omega)))
    iapply (ga_k d L s t hK (rA L s t) (256 * n.val + 128) (by omega) (hm := haM) (h := kv_chk (F := F) L s t hK (o := (256 * n.val + 128)) (by omega)) (hl := View.loads_vmem h_S10240)) $$ Ha
    iintro Ha
    iapply (st_p d L s t paM' (256 * n.val + 128) 0 (256 * n.val + 128) (off := ![0]) rfl (by show 16 * 0 + 16 ≤ 128; omega) (by omega) (fun x => pv_a (F := F) L s t hK (o := (256 * n.val + 128)) (by omega) x)) $$ H14
    iintro H14
    iapply (wp_assume 𝒱₀ _ none Set.univ (kv_chk (F := F) L s t hK (o := (256 * n.val + 10128)) (by omega)))
    iapply (ga_k d L s t hK (rB L s t) (256 * n.val + 10128) (by omega) (hm := hbM) (h := kv_chk (F := F) L s t hK (o := (256 * n.val + 10128)) (by omega)) (hl := View.loads_vmem h_S10240)) $$ Hb
    iintro Hb
    iapply (st_p d L s t pbM' (256 * n.val + 10128) 0 (256 * n.val + 10128) (off := ![0]) rfl (by show 16 * 0 + 16 ≤ 128; omega) (by omega) (fun x => pv_b (F := F) L s t hK (o := (256 * n.val + 10128)) (by omega) (by omega) x)) $$ H16
    iintro H16
    iapply (ld_k d L s t (256 * n.val + 144) (off := k0_off167 n) (show k0_off167 n 0 = (256 * n.val + 144) from congrFun (k0_off167_eq n) 0) (by omega)) $$ Hk
    iintro Hk
    iapply (ld_k d L s t (256 * n.val + 10144) (off := k0_off168 n) (show k0_off168 n 0 = (256 * n.val + 10144) from congrFun (k0_off168_eq n) 0) (by omega)) $$ Hk
    iintro Hk
    iapply (wp_assume 𝒱₀ _ none Set.univ (kv_chk (F := F) L s t hK (o := (256 * n.val + 144)) (by omega)))
    iapply (ga_k d L s t hK (rA L s t) (256 * n.val + 144) (by omega) (hm := haM) (h := kv_chk (F := F) L s t hK (o := (256 * n.val + 144)) (by omega)) (hl := View.loads_vmem h_S10240)) $$ Ha
    iintro Ha
    iapply (wp_fin (F := F))
    iapply HQ
    isplitl [HUB]; · iexact HUB
    isplitl [HDA]; · iexact HDA
    isplitl [HDB]; · iexact HDB
    isplitl [HF15]; · iexact HF15
    isplitl [Hs25]; · iexact Hs25
    isplitl [Hs27]; · iexact Hs27
    isplitl [HO]; · iexact HO
    isplitl [H14]; · iexact H14
    isplitl [Hb]; · iexact Hb
    isplitl [H16]; · iexact H16
    isplitl [Hk]; · iexact Hk
    iexact Ha

theorem part7 (n : Fin k0_t69_loop.trips) {e1 : BitVec 32} {gu : ℕ → BitVec 32} {Q : (Σ' (v1275 : Vec F S16 .i32) (v1276 : BitVec 32), BitVec 32) → sProp (MT nD τ sig (HIx 4) (Elt F) ℕ UU ℕ)} :
    iprop(PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ PX (F := F) d L s t paM' (256 * n.val + 128) 1
        ∗ PX (F := F) d L s t pbM' (256 * n.val + 10128) 1)
      ⊢ iprop(iprop(∀ z1 : BitVec 32, ∀ z2 : BitVec 32, iprop(PS (F := F) (tcV d L) haM (Finset.range 10240) fullShare (rA L s t)
        ∗ PX (F := F) d L s t paM' (256 * n.val + 128) 3
        ∗ PS (F := F) (tcV d L) hbM (Finset.range 10240) fullShare (rB L s t)
        ∗ PX (F := F) d L s t pbM' (256 * n.val + 10128) 3
        ∗ PS (F := F) (tcV d L) kM (Finset.range 20000) fullShare (kst (kk s t) (bs L) 625))
        -∗ Q ⟨(kv (F := F) L s t (256 * n.val + 176)), z1, z2⟩)
        -∗ wpT d L (k0_part7 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116 n e1 (kv (F := F) L s t (256 * n.val + 144)) (kv (F := F) L s t (256 * n.val + 10144)) (gv (F := F) L s t (rA L s t) (256 * n.val + 144))) Q) := by
  have hw := lt16 L
  have hn : n.val < 39 := lt_of_lt_of_eq n.isLt (by decide +kernel)
  rw [k0_part7_eq_skeleton]
  unfold k0_part7_skel
  iintro ⟨Hk, Ha, Hb, H14, H16⟩ HQ
  iapply (st_p d L s t paM' (256 * n.val + 128) 1 (256 * n.val + 144) (off := ![16]) rfl (by show 16 * 1 + 16 ≤ 128; omega) (by omega) (fun x => pv_a (F := F) L s t hK (o := (256 * n.val + 144)) (by omega) x)) $$ H14
  iintro H14
  iapply (wp_assume 𝒱₀ _ none Set.univ (kv_chk (F := F) L s t hK (o := (256 * n.val + 10144)) (by omega)))
  iapply (ga_k d L s t hK (rB L s t) (256 * n.val + 10144) (by omega) (hm := hbM) (h := kv_chk (F := F) L s t hK (o := (256 * n.val + 10144)) (by omega)) (hl := View.loads_vmem h_S10240)) $$ Hb
  iintro Hb
  iapply (st_p d L s t pbM' (256 * n.val + 10128) 1 (256 * n.val + 10144) (off := ![16]) rfl (by show 16 * 1 + 16 ≤ 128; omega) (by omega) (fun x => pv_b (F := F) L s t hK (o := (256 * n.val + 10144)) (by omega) (by omega) x)) $$ H16
  iintro H16
  iapply (ld_k d L s t (256 * n.val + 160) (off := k0_off169 n) (show k0_off169 n 0 = (256 * n.val + 160) from congrFun (k0_off169_eq n) 0) (by omega)) $$ Hk
  iintro Hk
  iapply (ld_k d L s t (256 * n.val + 10160) (off := k0_off170 n) (show k0_off170 n 0 = (256 * n.val + 10160) from congrFun (k0_off170_eq n) 0) (by omega)) $$ Hk
  iintro Hk
  iapply (wp_assume 𝒱₀ _ none Set.univ (kv_chk (F := F) L s t hK (o := (256 * n.val + 160)) (by omega)))
  iapply (ga_k d L s t hK (rA L s t) (256 * n.val + 160) (by omega) (hm := haM) (h := kv_chk (F := F) L s t hK (o := (256 * n.val + 160)) (by omega)) (hl := View.loads_vmem h_S10240)) $$ Ha
  iintro Ha
  iapply (st_p d L s t paM' (256 * n.val + 128) 2 (256 * n.val + 160) (off := ![32]) rfl (by show 16 * 2 + 16 ≤ 128; omega) (by omega) (fun x => pv_a (F := F) L s t hK (o := (256 * n.val + 160)) (by omega) x)) $$ H14
  iintro H14
  iapply (wp_assume 𝒱₀ _ none Set.univ (kv_chk (F := F) L s t hK (o := (256 * n.val + 10160)) (by omega)))
  iapply (ga_k d L s t hK (rB L s t) (256 * n.val + 10160) (by omega) (hm := hbM) (h := kv_chk (F := F) L s t hK (o := (256 * n.val + 10160)) (by omega)) (hl := View.loads_vmem h_S10240)) $$ Hb
  iintro Hb
  iapply (st_p d L s t pbM' (256 * n.val + 10128) 2 (256 * n.val + 10160) (off := ![32]) rfl (by show 16 * 2 + 16 ≤ 128; omega) (by omega) (fun x => pv_b (F := F) L s t hK (o := (256 * n.val + 10160)) (by omega) (by omega) x)) $$ H16
  iintro H16
  iapply (ld_k d L s t (256 * n.val + 176) (off := k0_off171 n) (show k0_off171 n 0 = (256 * n.val + 176) from congrFun (k0_off171_eq n) 0) (by omega)) $$ Hk
  iintro Hk
  iapply (wp_fin (F := F))
  iapply HQ
  isplitl [Ha]; · iexact Ha
  isplitl [H14]; · iexact H14
  isplitl [Hb]; · iexact Hb
  isplitl [H16]; · iexact H16
  iexact Hk

theorem part8 (n : Fin k0_t69_loop.trips) {e1 e2 e3 : BitVec 32} {gu : ℕ → BitVec 32} {Q : (BitVec 32) → sProp (MT nD τ sig (HIx 4) (Elt F) ℕ UU ℕ)} :
    iprop(PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ PX (F := F) d L s t paM' (256 * n.val + 128) 3
        ∗ PX (F := F) d L s t pbM' (256 * n.val + 10128) 3)
      ⊢ iprop(iprop(∀ z1 : BitVec 32, iprop(PS (F := F) (tcV d L) kM (Finset.range 20000) fullShare (kst (kk s t) (bs L) 625)
        ∗ PS (F := F) (tcV d L) haM (Finset.range 10240) fullShare (rA L s t)
        ∗ PX (F := F) d L s t paM' (256 * n.val + 128) 5
        ∗ PS (F := F) (tcV d L) hbM (Finset.range 10240) fullShare (rB L s t)
        ∗ PX (F := F) d L s t pbM' (256 * n.val + 10128) 5)
        -∗ Q z1)
        -∗ wpT d L (k0_part8 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116 n e1 (kv (F := F) L s t (256 * n.val + 176)) e2 e3) Q) := by
  have hw := lt16 L
  have hn : n.val < 39 := lt_of_lt_of_eq n.isLt (by decide +kernel)
  rw [k0_part8_eq_skeleton]
  unfold k0_part8_skel
  iintro ⟨Hk, Ha, Hb, H14, H16⟩ HQ
  iapply (ld_k d L s t (256 * n.val + 10176) (off := k0_off172 n) (show k0_off172 n 0 = (256 * n.val + 10176) from congrFun (k0_off172_eq n) 0) (by omega)) $$ Hk
  iintro Hk
  iapply (wp_assume 𝒱₀ _ none Set.univ (kv_chk (F := F) L s t hK (o := (256 * n.val + 176)) (by omega)))
  iapply (ga_k d L s t hK (rA L s t) (256 * n.val + 176) (by omega) (hm := haM) (h := kv_chk (F := F) L s t hK (o := (256 * n.val + 176)) (by omega)) (hl := View.loads_vmem h_S10240)) $$ Ha
  iintro Ha
  iapply (st_p d L s t paM' (256 * n.val + 128) 3 (256 * n.val + 176) (off := ![48]) rfl (by show 16 * 3 + 16 ≤ 128; omega) (by omega) (fun x => pv_a (F := F) L s t hK (o := (256 * n.val + 176)) (by omega) x)) $$ H14
  iintro H14
  iapply (wp_assume 𝒱₀ _ none Set.univ (kv_chk (F := F) L s t hK (o := (256 * n.val + 10176)) (by omega)))
  iapply (ga_k d L s t hK (rB L s t) (256 * n.val + 10176) (by omega) (hm := hbM) (h := kv_chk (F := F) L s t hK (o := (256 * n.val + 10176)) (by omega)) (hl := View.loads_vmem h_S10240)) $$ Hb
  iintro Hb
  iapply (st_p d L s t pbM' (256 * n.val + 10128) 3 (256 * n.val + 10176) (off := ![48]) rfl (by show 16 * 3 + 16 ≤ 128; omega) (by omega) (fun x => pv_b (F := F) L s t hK (o := (256 * n.val + 10176)) (by omega) (by omega) x)) $$ H16
  iintro H16
  iapply (ld_k d L s t (256 * n.val + 192) (off := k0_off173 n) (show k0_off173 n 0 = (256 * n.val + 192) from congrFun (k0_off173_eq n) 0) (by omega)) $$ Hk
  iintro Hk
  iapply (ld_k d L s t (256 * n.val + 10192) (off := k0_off174 n) (show k0_off174 n 0 = (256 * n.val + 10192) from congrFun (k0_off174_eq n) 0) (by omega)) $$ Hk
  iintro Hk
  iapply (wp_assume 𝒱₀ _ none Set.univ (kv_chk (F := F) L s t hK (o := (256 * n.val + 192)) (by omega)))
  iapply (ga_k d L s t hK (rA L s t) (256 * n.val + 192) (by omega) (hm := haM) (h := kv_chk (F := F) L s t hK (o := (256 * n.val + 192)) (by omega)) (hl := View.loads_vmem h_S10240)) $$ Ha
  iintro Ha
  iapply (st_p d L s t paM' (256 * n.val + 128) 4 (256 * n.val + 192) (off := ![64]) rfl (by show 16 * 4 + 16 ≤ 128; omega) (by omega) (fun x => pv_a (F := F) L s t hK (o := (256 * n.val + 192)) (by omega) x)) $$ H14
  iintro H14
  iapply (wp_assume 𝒱₀ _ none Set.univ (kv_chk (F := F) L s t hK (o := (256 * n.val + 10192)) (by omega)))
  iapply (ga_k d L s t hK (rB L s t) (256 * n.val + 10192) (by omega) (hm := hbM) (h := kv_chk (F := F) L s t hK (o := (256 * n.val + 10192)) (by omega)) (hl := View.loads_vmem h_S10240)) $$ Hb
  iintro Hb
  iapply (st_p d L s t pbM' (256 * n.val + 10128) 4 (256 * n.val + 10192) (off := ![64]) rfl (by show 16 * 4 + 16 ≤ 128; omega) (by omega) (fun x => pv_b (F := F) L s t hK (o := (256 * n.val + 10192)) (by omega) (by omega) x)) $$ H16
  iintro H16
  iapply (wp_fin (F := F))
  iapply HQ
  isplitl [Hk]; · iexact Hk
  isplitl [Ha]; · iexact Ha
  isplitl [H14]; · iexact H14
  isplitl [Hb]; · iexact Hb
  iexact H16

theorem part9 (n : Fin k0_t69_loop.trips) {e1 e2 : BitVec 32} {gu : ℕ → BitVec 32} {Q : (Σ' (v1343 : Vec F S16 .i32), Vec F S16 .i32) → sProp (MT nD τ sig (HIx 4) (Elt F) ℕ UU ℕ)} :
    iprop(PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ PX (F := F) d L s t paM' (256 * n.val + 128) 5
        ∗ PX (F := F) d L s t pbM' (256 * n.val + 10128) 5)
      ⊢ iprop((iprop(PX (F := F) d L s t pbM' (256 * n.val + 10128) 6
        ∗ PS (F := F) (tcV d L) kM (Finset.range 20000) fullShare (kst (kk s t) (bs L) 625)
        ∗ PS (F := F) (tcV d L) haM (Finset.range 10240) fullShare (rA L s t)
        ∗ PX (F := F) d L s t paM' (256 * n.val + 128) 7
        ∗ PS (F := F) (tcV d L) hbM (Finset.range 10240) fullShare (rB L s t))
        -∗ Q ⟨(kv (F := F) L s t (256 * n.val + 10224)), (gv (F := F) L s t (rB L s t) (256 * n.val + 10224))⟩)
        -∗ wpT d L (k0_part9 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116 n e1 e2) Q) := by
  have hw := lt16 L
  have hn : n.val < 39 := lt_of_lt_of_eq n.isLt (by decide +kernel)
  rw [k0_part9_eq_skeleton]
  unfold k0_part9_skel
  iintro ⟨Hk, Ha, Hb, H14, H16⟩ HQ
  iapply (ld_k d L s t (256 * n.val + 208) (off := k0_off175 n) (show k0_off175 n 0 = (256 * n.val + 208) from congrFun (k0_off175_eq n) 0) (by omega)) $$ Hk
  iintro Hk
  iapply (ld_k d L s t (256 * n.val + 10208) (off := k0_off176 n) (show k0_off176 n 0 = (256 * n.val + 10208) from congrFun (k0_off176_eq n) 0) (by omega)) $$ Hk
  iintro Hk
  iapply (wp_assume 𝒱₀ _ none Set.univ (kv_chk (F := F) L s t hK (o := (256 * n.val + 208)) (by omega)))
  iapply (ga_k d L s t hK (rA L s t) (256 * n.val + 208) (by omega) (hm := haM) (h := kv_chk (F := F) L s t hK (o := (256 * n.val + 208)) (by omega)) (hl := View.loads_vmem h_S10240)) $$ Ha
  iintro Ha
  iapply (st_p d L s t paM' (256 * n.val + 128) 5 (256 * n.val + 208) (off := ![80]) rfl (by show 16 * 5 + 16 ≤ 128; omega) (by omega) (fun x => pv_a (F := F) L s t hK (o := (256 * n.val + 208)) (by omega) x)) $$ H14
  iintro H14
  iapply (wp_assume 𝒱₀ _ none Set.univ (kv_chk (F := F) L s t hK (o := (256 * n.val + 10208)) (by omega)))
  iapply (ga_k d L s t hK (rB L s t) (256 * n.val + 10208) (by omega) (hm := hbM) (h := kv_chk (F := F) L s t hK (o := (256 * n.val + 10208)) (by omega)) (hl := View.loads_vmem h_S10240)) $$ Hb
  iintro Hb
  iapply (st_p d L s t pbM' (256 * n.val + 10128) 5 (256 * n.val + 10208) (off := ![80]) rfl (by show 16 * 5 + 16 ≤ 128; omega) (by omega) (fun x => pv_b (F := F) L s t hK (o := (256 * n.val + 10208)) (by omega) (by omega) x)) $$ H16
  iintro H16
  iapply (ld_k d L s t (256 * n.val + 224) (off := k0_off177 n) (show k0_off177 n 0 = (256 * n.val + 224) from congrFun (k0_off177_eq n) 0) (by omega)) $$ Hk
  iintro Hk
  iapply (ld_k d L s t (256 * n.val + 10224) (off := k0_off178 n) (show k0_off178 n 0 = (256 * n.val + 10224) from congrFun (k0_off178_eq n) 0) (by omega)) $$ Hk
  iintro Hk
  iapply (wp_assume 𝒱₀ _ none Set.univ (kv_chk (F := F) L s t hK (o := (256 * n.val + 224)) (by omega)))
  iapply (ga_k d L s t hK (rA L s t) (256 * n.val + 224) (by omega) (hm := haM) (h := kv_chk (F := F) L s t hK (o := (256 * n.val + 224)) (by omega)) (hl := View.loads_vmem h_S10240)) $$ Ha
  iintro Ha
  iapply (st_p d L s t paM' (256 * n.val + 128) 6 (256 * n.val + 224) (off := ![96]) rfl (by show 16 * 6 + 16 ≤ 128; omega) (by omega) (fun x => pv_a (F := F) L s t hK (o := (256 * n.val + 224)) (by omega) x)) $$ H14
  iintro H14
  iapply (wp_assume 𝒱₀ _ none Set.univ (kv_chk (F := F) L s t hK (o := (256 * n.val + 10224)) (by omega)))
  iapply (ga_k d L s t hK (rB L s t) (256 * n.val + 10224) (by omega) (hm := hbM) (h := kv_chk (F := F) L s t hK (o := (256 * n.val + 10224)) (by omega)) (hl := View.loads_vmem h_S10240)) $$ Hb
  iintro Hb
  iapply (wp_fin (F := F))
  iapply HQ
  isplitl [H16]; · iexact H16
  isplitl [Hk]; · iexact Hk
  isplitl [Ha]; · iexact Ha
  isplitl [H14]; · iexact H14
  iexact Hb

end Trips

end Cert.Proof.Sorting
-- ==== Proof.Trip69.lean ====
/-
One trip of the task's last loop.
-/
module

public import proofs.«01_k».proof.Proof.Trip

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Trips
variable (d : Dev nD) (L : grid0.Coords) (s t : ℕ → BitVec 32) {O : CellTallies nD τ sig (HIx 4)} {W : Waits sig (HIx 4)} (hK : ∀ e, e < 320000 → KN s t e < 10000)
include hK

theorem part10 (n : Fin k0_t69_loop.trips) {c0 c1 : BitVec 32} {gu : ℕ → BitVec 32} {Q : (PUnit) → sProp (MT nD τ sig (HIx 4) (Elt F) ℕ UU ℕ)} :
    iprop(Transfers.MayWaits (tcV d L) none O
        ∗ PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ Rg (F := F) d L s t 0 (256 * n.val - 256) (RR s t)
        ∗ Rg (F := F) d L s t 10000 (256 * n.val - 256 + 10000) (RR s t)
        ∗ Rg (F := F) d L s t (256 * n.val) 10000 gu
        ∗ Rg (F := F) d L s t (256 * n.val + 10000) 20000 gu
        ∗ Sl (F := F) d L s t paM cc0_scratch24.sem 0 n.val
        ∗ Sl (F := F) d L s t paM' cc0_scratch25.sem 128 n.val
        ∗ Sl (F := F) d L s t pbM cc0_scratch26.sem 10000 n.val
        ∗ Sl (F := F) d L s t pbM' cc0_scratch27.sem 10128 n.val
        ∗ OW (F := F) (tcV d L) O W)
      ⊢ iprop((iprop(Rg (F := F) d L s t (256 * n.val + 256) 10000 gu
        ∗ Transfers.Flight EC (tcV d L) (.dma cc0_scratch24.sem) none 4096 (Dl (F := F) d L s t paM (256 * n.val) 128)
        ∗ Rg (F := F) d L s t (256 * n.val + 10128) 20000 gu
        ∗ Rg (F := F) d L s t 0 (256 * n.val) (RR s t)
        ∗ Rg (F := F) d L s t 10000 (256 * n.val + 10000) (RR s t)
        ∗ Transfers.Flight EC (tcV d L) (.dma cc0_scratch26.sem) none 4096 (Dl (F := F) d L s t pbM (256 * n.val + 10000) 128)
        ∗ semVal (tcV d L, .dma cc0_scratch27.sem) 0
        ∗ OW (F := F) (tcV d L) O W
        ∗ PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ PX (F := F) d L s t pbM' (256 * n.val + 10128) 8
        ∗ Transfers.Flight EC (tcV d L) (.dma cc0_scratch25.sem) none 4096 (Dl (F := F) d L s t paM' (256 * n.val + 128) 128))
        -∗ Q ⟨⟩)
        -∗ wpT d L (k0_part10 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116 c0 c1 n) Q) := by
  have hw := lt16 L
  have hn : n.val < 39 := lt_of_lt_of_eq n.isLt (by decide +kernel)
  rw [k0_part10_eq_skeleton]
  unfold k0_part10_skel
  iintro ⟨#Hm, Hk, Ha, Hb, HDA, HDB, HUA, HUB, HS13, HS14, HS15, HS16, HO⟩ HQ
  iapply (wp_seq d L)
  iapply (part1 (O := O) (W := W) d L s t hK n (gu := gu)) $$ [Hk Ha Hb HDA HDB HS13 HS15 HO]
  · isplitr; · iexact Hm
    isplitl [Hk]; · iexact Hk
    isplitl [Ha]; · iexact Ha
    isplitl [Hb]; · iexact Hb
    isplitl [HDA]; · iexact HDA
    isplitl [HDB]; · iexact HDB
    isplitl [HS13]; · iexact HS13
    isplitl [HS15]; · iexact HS15
    iexact HO
  iintro %z10 %z11 %z12 %z13 %z14 ⟨HDA, HDB, Hs24, Hs26, HO, Ha, H13, Hb, H15, Hk⟩
  iapply (wp_seq d L)
  iapply (part2 d L s t hK n (gu := gu)) $$ [Hk Ha Hb H13 H15]
  · isplitl [Hk]; · iexact Hk
    isplitl [Ha]; · iexact Ha
    isplitl [Hb]; · iexact Hb
    isplitl [H13]; · iexact H13
    iexact H15
  iintro %z20 ⟨Hk, Ha, H13, Hb, H15⟩
  iapply (wp_seq d L)
  iapply (part3 d L s t hK n (gu := gu)) $$ [Hk Ha Hb H13 H15]
  · isplitl [Hk]; · iexact Hk
    isplitl [Ha]; · iexact Ha
    isplitl [Hb]; · iexact Hb
    isplitl [H13]; · iexact H13
    iexact H15
  iintro ⟨H15, Hk, Ha, H13, Hb⟩
  iapply (wp_seq d L)
  iapply (part4 d L s t hK n (gu := gu)) $$ [Hk Ha Hb H13 H15]
  · isplitl [Hk]; · iexact Hk
    isplitl [Ha]; · iexact Ha
    isplitl [Hb]; · iexact Hb
    isplitl [H13]; · iexact H13
    iexact H15
  iintro ⟨H13, Hb, H15, Hk, Ha⟩
  iapply (wp_seq d L)
  iapply (part5 d L s t hK n (gu := gu)) $$ [Hk Ha Hb H13 H15 HUA Hs24]
  · isplitl [Hk]; · iexact Hk
    isplitl [Ha]; · iexact Ha
    isplitl [Hb]; · iexact Hb
    isplitl [H13]; · iexact H13
    isplitl [H15]; · iexact H15
    isplitl [HUA]; · iexact HUA
    iexact Hs24
  iintro ⟨HUA, Hk, Ha, Hb, H15, HF13⟩
  iapply (wp_seq d L)
  iapply (part6 (O := O) (W := W) d L s t hK n (gu := gu)) $$ [Hk Ha Hb H15 HUB Hs26 HDA HDB HS14 HS16 HO]
  · isplitr; · iexact Hm
    isplitl [Hk]; · iexact Hk
    isplitl [Ha]; · iexact Ha
    isplitl [Hb]; · iexact Hb
    isplitl [H15]; · iexact H15
    isplitl [HUB]; · iexact HUB
    isplitl [Hs26]; · iexact Hs26
    isplitl [HDA]; · iexact HDA
    isplitl [HDB]; · iexact HDB
    isplitl [HS14]; · iexact HS14
    isplitl [HS16]; · iexact HS16
    iexact HO
  iintro ⟨HUB, HDA, HDB, HF15, Hs25, Hs27, HO, H14, Hb, H16, Hk, Ha⟩
  iapply (wp_seq d L)
  iapply (part7 d L s t hK n (gu := gu)) $$ [Hk Ha Hb H14 H16]
  · isplitl [Hk]; · iexact Hk
    isplitl [Ha]; · iexact Ha
    isplitl [Hb]; · iexact Hb
    isplitl [H14]; · iexact H14
    iexact H16
  iintro %z70 %z71 ⟨Ha, H14, Hb, H16, Hk⟩
  iapply (wp_seq d L)
  iapply (part8 d L s t hK n (gu := gu)) $$ [Hk Ha Hb H14 H16]
  · isplitl [Hk]; · iexact Hk
    isplitl [Ha]; · iexact Ha
    isplitl [Hb]; · iexact Hb
    isplitl [H14]; · iexact H14
    iexact H16
  iintro %z80 ⟨Hk, Ha, H14, Hb, H16⟩
  iapply (wp_seq d L)
  iapply (part9 d L s t hK n (gu := gu)) $$ [Hk Ha Hb H14 H16]
  · isplitl [Hk]; · iexact Hk
    isplitl [Ha]; · iexact Ha
    isplitl [Hb]; · iexact Hb
    isplitl [H14]; · iexact H14
    iexact H16
  iintro ⟨H16, Hk, Ha, H14, Hb⟩
  iapply (st_p d L s t pbM' (256 * n.val + 10128) 6 (256 * n.val + 10224) (off := ![96]) rfl (by show 16 * 6 + 16 ≤ 128; omega) (by omega) (fun x => pv_b (F := F) L s t hK (o := (256 * n.val + 10224)) (by omega) (by omega) x)) $$ H16
  iintro H16
  iapply (ld_k d L s t (256 * n.val + 240) (off := k0_off179 n) (show k0_off179 n 0 = (256 * n.val + 240) from congrFun (k0_off179_eq n) 0) (by omega)) $$ Hk
  iintro Hk
  iapply (ld_k d L s t (256 * n.val + 10240) (off := k0_off180 n) (show k0_off180 n 0 = (256 * n.val + 10240) from congrFun (k0_off180_eq n) 0) (by omega)) $$ Hk
  iintro Hk
  iapply (wp_assume 𝒱₀ _ none Set.univ (kv_chk (F := F) L s t hK (o := (256 * n.val + 240)) (by omega)))
  iapply (ga_k d L s t hK (rA L s t) (256 * n.val + 240) (by omega) (hm := haM) (h := kv_chk (F := F) L s t hK (o := (256 * n.val + 240)) (by omega)) (hl := View.loads_vmem h_S10240)) $$ Ha
  iintro Ha
  iapply (st_p d L s t paM' (256 * n.val + 128) 7 (256 * n.val + 240) (off := ![112]) rfl (by show 16 * 7 + 16 ≤ 128; omega) (by omega) (fun x => pv_a (F := F) L s t hK (o := (256 * n.val + 240)) (by omega) x)) $$ H14
  iintro H14
  iapply (wp_assume 𝒱₀ _ none Set.univ (kv_chk (F := F) L s t hK (o := (256 * n.val + 10240)) (by omega)))
  iapply (ga_k d L s t hK (rB L s t) (256 * n.val + 10240) (by omega) (hm := hbM) (h := kv_chk (F := F) L s t hK (o := (256 * n.val + 10240)) (by omega)) (hl := View.loads_vmem h_S10240)) $$ Hb
  iintro Hb
  iapply (st_p d L s t pbM' (256 * n.val + 10128) 7 (256 * n.val + 10240) (off := ![112]) rfl (by show 16 * 7 + 16 ≤ 128; omega) (by omega) (fun x => pv_b (F := F) L s t hK (o := (256 * n.val + 10240)) (by omega) (by omega) x)) $$ H16
  iintro H16
  ihave H14 := (PX_end d L s t paM' (256 * n.val + 128) 8 rfl) $$ H14
  ihave HUA := (Entails.of_eq (Rg_split d L s t gu (lo := (256 * n.val + 128)) (mid := (256 * n.val + 128) + 128) (hi := 10000) (by omega) (by omega) (by omega))) $$ HUA
  icases HUA with ⟨Hc, HUA⟩
  iapply (sc d L s t paM' (256 * n.val + 128) 128 4096 (offv := k0_off181 n) rfl (np 128 (by decide)) (show k0_off181 n 0 = (256 * n.val + 128) from congrFun (k0_off181_eq n) 0) rfl (by omega) (cr_v rfl) gu) $$ [Hc H14 Hs25]
  · isplitl [Hc]; · iexact Hc
    isplitl [H14]; · iexact H14
    iexact Hs25
  iintro HF14
  ihave HUA := (Entails.of_eq (show _ = Rg (F := F) d L s t (256 * n.val + 256) 10000 gu from by rw [show (256 * n.val + 128) + 128 = (256 * n.val + 256) by omega])) $$ HUA
  iapply (wp_fin (F := F))
  iapply HQ
  isplitl [HUA]; · iexact HUA
  isplitl [HF13]; · iexact HF13
  isplitl [HUB]; · iexact HUB
  isplitl [HDA]; · iexact HDA
  isplitl [HDB]; · iexact HDB
  isplitl [HF15]; · iexact HF15
  isplitl [Hs27]; · iexact Hs27
  isplitl [HO]; · iexact HO
  isplitl [Hk]; · iexact Hk
  isplitl [Ha]; · iexact Ha
  isplitl [Hb]; · iexact Hb
  isplitl [H16]; · iexact H16
  iexact HF14

omit hK in
/-- What is done and what is under way before trip `h`. -/
def Tr (gu : ℕ → BitVec 32) (O : CellTallies nD τ sig (HIx 4)) (W : Waits sig (HIx 4)) (h : ℕ) : sProp 𝕄 :=
  iprop(PS (F := F) (tcV d L) kM (Finset.range 20000) fullShare (kst (kk s t) (bs L) 625)
    ∗ PS (F := F) (tcV d L) haM (Finset.range 10240) fullShare (rA L s t)
    ∗ PS (F := F) (tcV d L) hbM (Finset.range 10240) fullShare (rB L s t)
    ∗ Rg (F := F) d L s t 0 (256 * h - 256) (RR s t)
    ∗ Rg (F := F) d L s t 10000 (256 * h - 256 + 10000) (RR s t)
    ∗ Rg (F := F) d L s t (256 * h) 10000 gu
    ∗ Rg (F := F) d L s t (256 * h + 10000) 20000 gu
    ∗ Sl (F := F) d L s t paM cc0_scratch24.sem 0 h
    ∗ Sl (F := F) d L s t paM' cc0_scratch25.sem 128 h
    ∗ Sl (F := F) d L s t pbM cc0_scratch26.sem 10000 h
    ∗ Sl (F := F) d L s t pbM' cc0_scratch27.sem 10128 h
    ∗ OW (F := F) (tcV d L) O W)
omit hK in
theorem Tr_eq (gu : ℕ → BitVec 32) (h : ℕ) : Tr (F := F) d L s t gu O W h = iprop(PS (F := F) (tcV d L) kM (Finset.range 20000) fullShare (kst (kk s t) (bs L) 625)
    ∗ PS (F := F) (tcV d L) haM (Finset.range 10240) fullShare (rA L s t)
    ∗ PS (F := F) (tcV d L) hbM (Finset.range 10240) fullShare (rB L s t)
    ∗ Rg (F := F) d L s t 0 (256 * h - 256) (RR s t)
    ∗ Rg (F := F) d L s t 10000 (256 * h - 256 + 10000) (RR s t)
    ∗ Rg (F := F) d L s t (256 * h) 10000 gu
    ∗ Rg (F := F) d L s t (256 * h + 10000) 20000 gu
    ∗ Sl (F := F) d L s t paM cc0_scratch24.sem 0 h
    ∗ Sl (F := F) d L s t paM' cc0_scratch25.sem 128 h
    ∗ Sl (F := F) d L s t pbM cc0_scratch26.sem 10000 h
    ∗ Sl (F := F) d L s t pbM' cc0_scratch27.sem 10128 h
    ∗ OW (F := F) (tcV d L) O W) := rfl

theorem trip69 (n : Fin k0_t69_loop.trips) (acc : Unit) (a1 : BitVec 32) {gu : ℕ → BitVec 32} :
    iprop(Transfers.MayWaits (tcV d L) none O ∗ Tr (F := F) d L s t gu O W n.val) ⊢ wpT d L (k0_t69_body L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1 n acc) (fun _ => iprop(Transfers.MayWaits (tcV d L) none O ∗ Tr (F := F) d L s t gu O W (n.val + 1))) := by
  have hw := lt16 L
  have hn : n.val < 39 := lt_of_lt_of_eq n.isLt (by decide +kernel)
  rw [Tr_eq, Tr_eq]
  unfold k0_t69_body
  iintro ⟨#Hm, Hk, Ha, Hb, HDA, HDB, HUA, HUB, HS13, HS14, HS15, HS16, HO⟩
  iapply (wp_seq d L)
  iapply (part10 (O := O) (W := W) d L s t hK n (gu := gu)) $$ [Hk Ha Hb HDA HDB HUA HUB HS13 HS14 HS15 HS16 HO]
  · isplitr; · iexact Hm
    isplitl [Hk]; · iexact Hk
    isplitl [Ha]; · iexact Ha
    isplitl [Hb]; · iexact Hb
    isplitl [HDA]; · iexact HDA
    isplitl [HDB]; · iexact HDB
    isplitl [HUA]; · iexact HUA
    isplitl [HUB]; · iexact HUB
    isplitl [HS13]; · iexact HS13
    isplitl [HS14]; · iexact HS14
    isplitl [HS15]; · iexact HS15
    isplitl [HS16]; · iexact HS16
    iexact HO
  iintro ⟨HUA, HF13, HUB, HDA, HDB, HF15, Hs27, HO, Hk, Ha, Hb, H16, HF14⟩
  ihave H16 := (PX_end d L s t pbM' (256 * n.val + 10128) 8 rfl) $$ H16
  ihave HUB := (Entails.of_eq (Rg_split d L s t gu (lo := (256 * n.val + 10128)) (mid := (256 * n.val + 10128) + 128) (hi := 20000) (by omega) (by omega) (by omega))) $$ HUB
  icases HUB with ⟨Hc, HUB⟩
  iapply (sc d L s t pbM' (256 * n.val + 10128) 128 4096 (offv := k0_off182 n) rfl (np 128 (by decide)) (show k0_off182 n 0 = (256 * n.val + 10128) from congrFun (k0_off182_eq n) 0) rfl (by omega) (cr_v rfl) gu) $$ [Hc H16 Hs27]
  · isplitl [Hc]; · iexact Hc
    isplitl [H16]; · iexact H16
    iexact Hs27
  iintro HF16
  ihave HUB := (Entails.of_eq (show _ = Rg (F := F) d L s t (256 * n.val + 10256) 20000 gu from by rw [show (256 * n.val + 10128) + 128 = (256 * n.val + 10256) by omega])) $$ HUB
  ihave HS13 := (Entails.of_eq (Sl_succ d L s t paM cc0_scratch24.sem 0 n.val (256 * n.val) rfl).symm) $$ HF13
  ihave HS14 := (Entails.of_eq (Sl_succ d L s t paM' cc0_scratch25.sem 128 n.val (256 * n.val + 128) rfl).symm) $$ HF14
  ihave HS15 := (Entails.of_eq (Sl_succ d L s t pbM cc0_scratch26.sem 10000 n.val (256 * n.val + 10000) rfl).symm) $$ HF15
  ihave HS16 := (Entails.of_eq (Sl_succ d L s t pbM' cc0_scratch27.sem 10128 n.val (256 * n.val + 10128) rfl).symm) $$ HF16
  ihave HDA := (Entails.of_eq (show Rg (F := F) d L s t 0 (256 * n.val) (RR s t) = Rg (F := F) d L s t 0 (256 * (n.val + 1) - 256) (RR s t) from by rw [show 256 * (n.val + 1) - 256 = 256 * n.val by omega])) $$ HDA
  ihave HDB := (Entails.of_eq (show Rg (F := F) d L s t 10000 (256 * n.val + 10000) (RR s t) = Rg (F := F) d L s t 10000 (256 * (n.val + 1) - 256 + 10000) (RR s t) from by rw [show 256 * (n.val + 1) - 256 + 10000 = 256 * n.val + 10000 by omega])) $$ HDB
  ihave HUA := (Entails.of_eq (show Rg (F := F) d L s t (256 * n.val + 256) 10000 gu = Rg (F := F) d L s t (256 * (n.val + 1)) 10000 gu from by rw [show 256 * (n.val + 1) = 256 * n.val + 256 by omega])) $$ HUA
  ihave HUB := (Entails.of_eq (show Rg (F := F) d L s t (256 * n.val + 10256) 20000 gu = Rg (F := F) d L s t (256 * (n.val + 1) + 10000) 20000 gu from by rw [show 256 * (n.val + 1) + 10000 = 256 * n.val + 10256 by omega])) $$ HUB
  iapply (wp_fin (F := F))
  isplitr; · iexact Hm
  isplitl [Hk]; · iexact Hk
  isplitl [Ha]; · iexact Ha
  isplitl [Hb]; · iexact Hb
  isplitl [HDA]; · iexact HDA
  isplitl [HDB]; · iexact HDB
  isplitl [HUA]; · iexact HUA
  isplitl [HUB]; · iexact HUB
  isplitl [HS13]; · iexact HS13
  isplitl [HS14]; · iexact HS14
  isplitl [HS15]; · iexact HS15
  isplitl [HS16]; · iexact HS16
  iexact HO

end Trips

end Cert.Proof.Sorting
-- ==== Proof.Last.lean ====
/-
The rows of places back, the last loop and what it leaves over.
-/
module

public import proofs.«01_k».proof.Proof.Trip69

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Last
variable (d : Dev nD) (L : grid0.Coords) (s t : ℕ → BitVec 32)

theorem Rg_nil (lo : ℕ) (g g' : ℕ → BitVec 32) : Rg (F := F) d L s t lo lo g = Rg (F := F) d L s t lo lo g' := by
  unfold Rg
  rw [PS_congr (g := g) (g' := g') fun n hn _ => by rw [mem_img] at hn; obtain ⟨e, h1, h2, _⟩ := hn; omega]

/-- At the start of the last loop nothing is done. -/
theorem Rg_start (gu : ℕ → BitVec 32) : Rg (F := F) d L s t 0 20000 gu ⊢ iprop(Rg (F := F) d L s t 0 (256 * 0 - 256) (RR s t) ∗ Rg (F := F) d L s t 10000 (256 * 0 - 256 + 10000) (RR s t)
    ∗ Rg (F := F) d L s t (256 * 0) 10000 gu ∗ Rg (F := F) d L s t (256 * 0 + 10000) 20000 gu) := by
  rw [show 256 * 0 - 256 = 0 from rfl, show 256 * 0 = 0 from rfl, show 0 + 10000 = 10000 from rfl,
    Rg_nil d L s t 0 (RR s t) gu, Rg_nil d L s t 10000 (RR s t) gu,
    Rg_split d L s t (lo := 0) (mid := 10000) (hi := 20000) gu (by omega) (by omega) (by omega)]
  iintro ⟨HA, HB⟩
  ihave HB := (Entails.of_eq (Rg_split d L s t (lo := 10000) (mid := 10000) (hi := 20000) gu (by omega) (by omega) (by omega))) $$ HB
  icases HB with ⟨HN, HB⟩
  ihave HA := (Entails.of_eq (Rg_split d L s t (lo := 0) (mid := 0) (hi := 10000) gu (by omega) (by omega) (by omega))) $$ HA
  icases HA with ⟨HN', HA⟩
  isplitl [HN']; · iexact HN'
  isplitl [HN]; · iexact HN
  isplitl [HA]; · iexact HA
  iexact HB

/-- The whole of a tile's values with the places of its keys. -/
theorem Rg_whole (g : ℕ → BitVec 32) : Rg (F := F) d L s t 0 20000 g = iprop(PS (F := F) (tcV d L) vM (Finset.range 20000) fullShare (fun n => vv s t (bs L + n))
    ∗ PS (F := F) (tcV d L) outsM (img (KN s t) NN (20000 * (L 1).val) (20000 * ((L 1).val + 1))) fullShare g) := by
  unfold Rg bs
  rw [Finset.range_eq_Ico, Nat.add_zero, Nat.mul_add, Nat.mul_one]

/-- What the copies of the rows of places back bring. -/
def Dr (j : Fin 2) : sProp 𝕄 :=
  iprop((if j.val = 0 then PS (F := F) (tcV d L) haM (Finset.range 10240) fullShare (rA L s t)
        else PS (F := F) (tcV d L) hbM (Finset.range 10240) fullShare (rB L s t))
    ∗ PS (F := F) (tcV d L) hallM (Finset.Ico (20480 * (L 1).val + 10240 * j.val) (20480 * (L 1).val + 10240 * j.val + 10240)) fullShare (H2 s t))

instance Dr_storable (j : Fin 2) : BI.Storable (upEmb : UEmb _ 𝕄) (Dr (F := F) d L s t j) := by
  unfold Dr; split_ifs <;> infer_instance

theorem Dr_0 : iprop(PS (F := F) (tcV d L) haM (Finset.range 10240) fullShare (rA L s t)
    ∗ PS (F := F) (tcV d L) hallM (Finset.Ico (20480 * (L 1).val) (20480 * (L 1).val + 10240)) fullShare (H2 s t)) ⊢ Dr (F := F) d L s t ⟨0, by decide⟩ := Entails.of_eq rfl
theorem Dr_1 : iprop(PS (F := F) (tcV d L) hbM (Finset.range 10240) fullShare (rB L s t)
    ∗ PS (F := F) (tcV d L) hallM (Finset.Ico (20480 * (L 1).val + 10240) (20480 * (L 1).val + 10240 + 10240)) fullShare (H2 s t)) ⊢ Dr (F := F) d L s t ⟨1, by decide⟩ := Entails.of_eq rfl

theorem hall_two (g : ℕ → BitVec 32) : PS (F := F) (tcV d L) hallM (Finset.Ico (20480 * (L 1).val) (20480 * ((L 1).val + 1))) fullShare g
    = iprop(PS (F := F) (tcV d L) hallM (Finset.Ico (20480 * (L 1).val) (20480 * (L 1).val + 10240)) fullShare g
      ∗ PS (F := F) (tcV d L) hallM (Finset.Ico (20480 * (L 1).val + 10240) (20480 * (L 1).val + 10240 + 10240)) fullShare g) := by
  rw [← PS_union (Finset.Ico_disjoint_Ico_consecutive _ _ _), Finset.Ico_union_Ico_eq_Ico (by omega) (by omega),
    show 20480 * (L 1).val + 10240 + 10240 = 20480 * ((L 1).val + 1) by omega]

theorem Dr_all : (bigSep Finset.univ fun j => Dr (F := F) d L s t j) ⊢ iprop(PS (F := F) (tcV d L) hallM (Finset.Ico (20480 * (L 1).val) (20480 * ((L 1).val + 1))) fullShare (H2 s t)
    ∗ PS (F := F) (tcV d L) haM (Finset.range 10240) fullShare (rA L s t) ∗ PS (F := F) (tcV d L) hbM (Finset.range 10240) fullShare (rB L s t)) := by
  rw [hall_two, show (Finset.univ : Finset (Fin 2)) = {0, 1} from rfl, SparseCore.bigSep_insert' (by decide), bigSep_singleton]
  iintro ⟨H0, H1⟩
  ihave H0 := (Entails.of_eq (show Dr (F := F) d L s t (0 : Fin 2) = iprop(PS (F := F) (tcV d L) haM (Finset.range 10240) fullShare (rA L s t)
    ∗ PS (F := F) (tcV d L) hallM (Finset.Ico (20480 * (L 1).val) (20480 * (L 1).val + 10240)) fullShare (H2 s t)) from rfl)) $$ H0
  ihave H1 := (Entails.of_eq (show Dr (F := F) d L s t (1 : Fin 2) = iprop(PS (F := F) (tcV d L) hbM (Finset.range 10240) fullShare (rB L s t)
    ∗ PS (F := F) (tcV d L) hallM (Finset.Ico (20480 * (L 1).val + 10240) (20480 * (L 1).val + 10240 + 10240)) fullShare (H2 s t)) from rfl)) $$ H1
  icases H0 with ⟨Ha, Hc⟩
  icases H1 with ⟨Hb, Hd⟩
  isplitl [Hc Hd]
  · isplitl [Hc]; · iexact Hc
    iexact Hd
  isplitl [Ha]; · iexact Ha
  iexact Hb

variable {O : CellTallies nD τ sig (HIx 4)} {W : Waits sig (HIx 4)} {q : PosShare TreeShare} (hK : ∀ e, e < 320000 → KN s t e < 10000)
include hK

set_option maxHeartbeats 1000000 in
theorem loop69 {gu : ℕ → BitVec 32} {a1 : BitVec 32} {α : Type} {kk' : Unit → Prog (TpuEff nD τ sig (Elt F) Λ₀ (.scVector ((L 0).castLE hcore0) ((L 1).castLE hsub0))) α} {Q : α → sProp (MT nD τ sig (HIx 4) (Elt F) ℕ UU ℕ)} :
    iprop(Transfers.MayWaits (tcV d L) none O ∗ Tr (F := F) d L s t gu O W 0)
    ⊢ iprop((∀ acc, iprop(Transfers.MayWaits (tcV d L) none O ∗ Tr (F := F) d L s t gu O W 39) -∗ wpT d L (kk' acc) Q)
      -∗ wpT d L (Scf.Loop.for k0_t69_loop k0_t69_ok ⟨⟩ (k0_t69_body L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) >>= kk') Q) := by
  have hT : Scf.trips k0_t69_loop.lb k0_t69_loop.ub k0_t69_loop.st = 39 := by decide +kernel
  have hb : ∀ (n : Fin k0_t69_loop.trips) (acc : Unit), iprop(Transfers.MayWaits (tcV d L) none O ∗ Tr (F := F) d L s t gu O W n.val) ⊢ wpT d L (k0_t69_body L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1 n acc) (fun _ => iprop(Transfers.MayWaits (tcV d L) none O ∗ Tr (F := F) d L s t gu O W (n.val + 1))) := by
    intro n acc
    exact trip69 (F := F) d L s t hK n acc a1
  have h := wp_loop (F := F) (defs := defs₀ (F := F)) (c := tcV d L) 𝒱₀ none (init := ⟨⟩) (hok := k0_t69_ok) (body := k0_t69_body L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) (kk' := kk') (Q := Q) 39 hT (fun n => iprop(Transfers.MayWaits (tcV d L) none O ∗ Tr (F := F) d L s t gu O W n)) hb
  exact h

theorem part48 {a1 : BitVec 32} {ga gb g1 g2 g3 g4 gu : ℕ → BitVec 32} {Q : (IVec S16 32) → sProp (MT nD τ sig (HIx 4) (Elt F) ℕ UU ℕ)} :
    iprop(bctx (pay (F := F) d ((L 0).castLE hcore0) s t) d ((L 0).castLE hcore0)
        ∗ Transfers.MayWaits (tcV d L) none (O + oxB d ((L 0).castLE hcore0) (some 2))
        ∗ Transfers.MayWaits (tcV d L) none (O)
        ∗ MayWait (tcV d L) (.reg sc_bar0) (some 2) (O)
        ∗ OW (F := F) (tcV d L) (O + oxB d ((L 0).castLE hcore0) (some 2)) W
        ∗ WO (F := F) d L (H2 s t) 31
        ∗ kitB d L 2 (some 2)
        ∗ bst d ((L 0).castLE hcore0) (L 1) 2
        ∗ PS (F := F) (tcV d L) haM (Finset.range 10240) fullShare (ga)
        ∗ PS (F := F) (tcV d L) hbM (Finset.range 10240) fullShare (gb)
        ∗ semVal (tcV d L, .dma cc0_scratch23.sem) 0
        ∗ Transfers.Flight EC (tcV d L) (.dma cc0_scratch19.sem) none 640000 iprop(PS (F := F) (tcV d L) vM (Finset.range 20000) fullShare (fun n => vv s t (bs L + n)) ∗ rdV (F := F) d L s t q)
        ∗ PS (F := F) (tcV d L) kM (Finset.range 20000) fullShare (kst (kk s t) (bs L) 625)
        ∗ PS (F := F) (tcV d L) outsM (img (KN s t) NN (20000 * (L 1).val) (20000 * ((L 1).val + 1))) fullShare (gu)
        ∗ PS (F := F) (tcV d L) paM (Finset.range 128) fullShare (g1)
        ∗ semVal (tcV d L, .dma cc0_scratch24.sem) 0
        ∗ PS (F := F) (tcV d L) pbM (Finset.range 128) fullShare (g3)
        ∗ semVal (tcV d L, .dma cc0_scratch26.sem) 0
        ∗ PS (F := F) (tcV d L) paM' (Finset.range 128) fullShare (g2)
        ∗ semVal (tcV d L, .dma cc0_scratch25.sem) 0
        ∗ PS (F := F) (tcV d L) pbM' (Finset.range 128) fullShare (g4)
        ∗ semVal (tcV d L, .dma cc0_scratch27.sem) 0)
      ⊢ iprop((iprop(PS (F := F) (tcV d L) blkM (Finset.range 20480) fullShare (fun q => H2 s t (hpos (L 1).val q))
        ∗ semVal (tcV d L, .dma cc0_scratch22.sem) 0
        ∗ bst d ((L 0).castLE hcore0) (L 1) 3
        ∗ semVal (tcV d L, .dma cc0_scratch23.sem) 0
        ∗ PS (F := F) (tcV d L) hallM (Finset.Ico (20480 * (L 1).val) (20480 * ((L 1).val + 1))) fullShare (H2 s t)
        ∗ semVal (tcV d L, .dma cc0_scratch19.sem) 0
        ∗ rdV (F := F) d L s t q
        ∗ PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ Rg (F := F) d L s t 0 9856 (RR s t)
        ∗ Rg (F := F) d L s t 10000 19728 (RR s t)
        ∗ Rg (F := F) d L s t 9984 10000 gu
        ∗ Rg (F := F) d L s t 19984 20000 gu
        ∗ Transfers.Flight EC (tcV d L) (.dma cc0_scratch25.sem) none 4096 (Dl (F := F) d L s t paM' 9856 128)
        ∗ Transfers.Flight EC (tcV d L) (.dma cc0_scratch26.sem) none 4096 (Dl (F := F) d L s t pbM 19728 128)
        ∗ Transfers.Flight EC (tcV d L) (.dma cc0_scratch27.sem) none 4096 (Dl (F := F) d L s t pbM' 19856 128)
        ∗ semVal (tcV d L, .dma cc0_scratch24.sem) 0
        ∗ OW (F := F) (tcV d L) O W
        ∗ PX (F := F) d L s t paM 0 0)
        -∗ Q k0_pay116)
        -∗ wpT d L (k0_part48 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part48_eq_skeleton]
  unfold k0_part48_skel
  iintro ⟨#Hbc, #Hm, #Hm', #Hmb, HO, HWO, Hkit, Hst, Hha, Hhb, Hs23, HFv, Hk, Hout, Hp13, Hs24, Hp15, Hs26, Hp14, Hs25, Hp16, Hs27⟩ HQ
  iapply (wt_outL d L (H2 s t)) $$ [HWO HO]
  · isplitr; · iexact Hm
    isplitl [HWO]; · iexact HWO
    iexact HO
  iintro ⟨Hblk, Hh, Hs22, HO⟩
  iapply (wp_bar d L s t 2 (by decide) (some 2) (.inr ⟨_, rfl⟩) (pay2_in d ((L 0).castLE hcore0) s t (L 1)) (pay2_out d ((L 0).castLE hcore0) s t (L 1))) $$ [HO Hkit Hst Hh]
  · isplitr; · iexact Hbc
    isplitr; · iexact Hmb
    isplitl [HO]; · iexact HO
    isplitl [Hkit]; · iexact Hkit
    isplitl [Hst]; · iexact Hst
    iexact Hh
  iintro ⟨HO, Hst, Hh⟩
  ihave Hh := (Entails.of_eq (hall_two d L (H2 s t))) $$ Hh
  icases Hh with ⟨Hh1, Hh2⟩
  imod (Transfers.batch_alloc' EC (tcV d L) none 327680 (Dr (F := F) d L s t)) $$ Hs23 with HB
  iapply (wp_dmaBP (n := 2) (j := 0) (u := 0) 𝒱₀ none 327680 cr_ha (by decide) (by decide)
      (PS_slice (F := F) (c := tcV d L) (m := hallM) (g := H2 s t) _ _ (k0_off9_inb L) (fun _ => rfl) (20480 * (L 1).val) 10240 (congrFun (k0_off9_eq L) 0) rfl)
      (PS_range (F := F) (n := 10240) (c := tcV d L) (m := haM) (g := ga) rfl) (PS_range (F := F) (n := 10240) (c := tcV d L) (m := haM) (g := rA L s t) rfl)
      (Dr_0 d L s t)) $$ [Hh1 Hha HB]
  · isplitl [Hh1]; · iexact Hh1
    isplitl [Hha]; · iexact Hha
    iexact HB
  iintro HB
  iapply (wp_dmaBP (n := 2) (j := 1) (u := 0) 𝒱₀ none 327680 cr_hb (by decide) (by decide)
      (PS_slice (F := F) (c := tcV d L) (m := hallM) (g := H2 s t) _ _ (k0_off10_inb L) (fun _ => rfl) (20480 * (L 1).val + 10240) 10240 (congrFun (k0_off10_eq L) 0) rfl)
      (PS_range (F := F) (n := 10240) (c := tcV d L) (m := hbM) (g := gb) rfl) (PS_range (F := F) (n := 10240) (c := tcV d L) (m := hbM) (g := rB L s t) rfl)
      (Dr_1 d L s t)) $$ [Hh2 Hhb HB]
  · isplitl [Hh2]; · iexact Hh2
    isplitl [Hhb]; · iexact Hhb
    iexact HB
  iintro HB
  iapply (wp_wtB (c := tcV d L) 𝒱₀ none (n := 2) (N := 327680) cr_ha (u := 0) (u' := 327680) (by decide) (by decide)) $$ [HB HO]
  · isplitr; · iexact Hm'
    isplitl [HB]; · iexact HB
    iexact HO
  iintro ⟨HB, HO⟩
  iapply (wp_wtL (c := tcV d L) 𝒱₀ none (n := 2) (N := 327680) cr_hb (np 10240 (by decide)) (u := 327680) (by decide)) $$ [HB HO]
  · isplitr; · iexact Hm'
    isplitl [HB]; · iexact HB
    iexact HO
  iintro ⟨HD, Hs23, HO⟩
  ihave HD := (Dr_all d L s t) $$ HD
  icases HD with ⟨Hh, Ha, Hb⟩
  iapply (wp_wt (c := tcV d L) 𝒱₀ none (N := 640000) (cr_v rfl)) $$ [HFv HO]
  · isplitr; · iexact Hm'
    isplitl [HFv]; · iexact HFv
    iexact HO
  iintro ⟨Hd, Hs19, HO⟩
  icases Hd with ⟨Hv, HrdV⟩
  ihave HR := (Entails.of_eq (Rg_whole d L s t gu).symm) $$ [Hv Hout]
  · isplitl [Hv]; · iexact Hv
    iexact Hout
  ihave HR := (Rg_start d L s t gu) $$ HR
  icases HR with ⟨HDA, HDB, HUA, HUB⟩
  ihave HS13 := (Entails.of_eq (Sl_zero d L s t paM cc0_scratch24.sem 0).symm) $$ [Hs24 Hp13]
  · isplitl [Hs24]; · iexact Hs24
    iexists g1
    iexact Hp13
  ihave HS15 := (Entails.of_eq (Sl_zero d L s t pbM cc0_scratch26.sem 10000).symm) $$ [Hs26 Hp15]
  · isplitl [Hs26]; · iexact Hs26
    iexists g3
    iexact Hp15
  ihave HS14 := (Entails.of_eq (Sl_zero d L s t paM' cc0_scratch25.sem 128).symm) $$ [Hs25 Hp14]
  · isplitl [Hs25]; · iexact Hs25
    iexists g2
    iexact Hp14
  ihave HS16 := (Entails.of_eq (Sl_zero d L s t pbM' cc0_scratch27.sem 10128).symm) $$ [Hs27 Hp16]
  · isplitl [Hs27]; · iexact Hs27
    iexists g4
    iexact Hp16
  ihave HT := (Entails.of_eq (Tr_eq d L s t gu 0).symm) $$ [Hk Ha Hb HDA HDB HUA HUB HS13 HS14 HS15 HS16 HO]
  · isplitl [Hk]; · iexact Hk
    isplitl [Ha]; · iexact Ha
    isplitl [Hb]; · iexact Hb
    isplitl [HDA]; · iexact HDA
    isplitl [HDB]; · iexact HDB
    isplitl [HUA]; · iexact HUA
    isplitl [HUB]; · iexact HUB
    isplitl [HS13]; · iexact HS13
    isplitl [HS14]; · iexact HS14
    isplitl [HS15]; · iexact HS15
    isplitl [HS16]; · iexact HS16
    iexact HO
  iapply (loop69 d L s t hK) $$ [HT]
  · isplitr; · iexact Hm'
    iexact HT
  iintro %_ ⟨#Hm3, HT⟩
  ihave HT := (Entails.of_eq (Tr_eq d L s t gu 39)) $$ HT
  icases HT with ⟨Hk, Ha, Hb, HDA, HDB, HUA, HUB, HS13, HS14, HS15, HS16, HO⟩
  ihave HS13 := (Entails.of_eq (Sl_pos d L s t paM cc0_scratch24.sem 0 39 (by decide))) $$ HS13
  ihave HS15 := (Entails.of_eq (Sl_pos d L s t pbM cc0_scratch26.sem 10000 39 (by decide))) $$ HS15
  ihave HS14 := (Entails.of_eq (Sl_pos d L s t paM' cc0_scratch25.sem 128 39 (by decide))) $$ HS14
  ihave HS16 := (Entails.of_eq (Sl_pos d L s t pbM' cc0_scratch27.sem 10128 39 (by decide))) $$ HS16
  iapply (wsc d L (cr_v rfl)) $$ [HS13 HO]
  · isplitr; · iexact Hm'
    isplitl [HS13]; · iexact HS13
    iexact HO
  iintro ⟨Hd, Hs24, HO⟩
  ihave HDA := (done_join d L s t paM 0 9728 9856 (by omega) (by omega) (by omega) 0) $$ [HDA Hd]
  · isplitl [HDA]; · iexact HDA
    iexact Hd
  icases HDA with ⟨HDA, Hp13⟩
  iapply (wp_fin (F := F))
  iapply HQ
  isplitl [Hblk]; · iexact Hblk
  isplitl [Hs22]; · iexact Hs22
  isplitl [Hst]; · iexact Hst
  isplitl [Hs23]; · iexact Hs23
  isplitl [Hh]; · iexact Hh
  isplitl [Hs19]; · iexact Hs19
  isplitl [HrdV]; · iexact HrdV
  isplitl [Hk]; · iexact Hk
  isplitl [Ha]; · iexact Ha
  isplitl [Hb]; · iexact Hb
  isplitl [HDA]; · iexact HDA
  isplitl [HDB]; · iexact HDB
  isplitl [HUA]; · iexact HUA
  isplitl [HUB]; · iexact HUB
  isplitl [HS14]; · iexact HS14
  isplitl [HS15]; · iexact HS15
  isplitl [HS16]; · iexact HS16
  isplitl [Hs24]; · iexact Hs24
  isplitl [HO]; · iexact HO
  iexact Hp13

omit hK in
theorem tail_join {ds : Fin 1 → ℕ} (pm : Memref sig .scVector .vmem ⟨1, ds⟩ .i32) (lo c : ℕ) (hc : lo ≤ c) (hh : c + 16 ≤ 20000) :
    iprop(Rg (F := F) d L s t lo c (RR s t) ∗ Dl (F := F) d L s t pm c 16) ⊢ iprop(Rg (F := F) d L s t lo (c + 16) (RR s t) ∗ PS (F := F) (tcV d L) pm (Finset.range (ds 0)) fullShare (pf L s t c)) := by
  unfold Dl
  rw [Rg_split d L s t (RR s t) hc (Nat.le_add_right c 16) hh]
  iintro ⟨H1, H2, H3⟩
  isplitl [H1 H2]
  · isplitl [H1]; · iexact H1
    iexact H2
  iexact H3

theorem part49 {g5 g6 gu : ℕ → BitVec 32} {Q : (PUnit) → sProp (MT nD τ sig (HIx 4) (Elt F) ℕ UU ℕ)} :
    iprop(bctx (pay (F := F) d ((L 0).castLE hcore0) s t) d ((L 0).castLE hcore0)
        ∗ Transfers.MayWaits (tcV d L) none (O + oxB d ((L 0).castLE hcore0) (some 3))
        ∗ MayWait (tcV d L) (.reg sc_bar0) (some 3) (O)
        ∗ Rg (F := F) d L s t 0 9856 (RR s t)
        ∗ Rg (F := F) d L s t 10000 19728 (RR s t)
        ∗ Rg (F := F) d L s t 9984 10000 gu
        ∗ Rg (F := F) d L s t 19984 20000 gu
        ∗ Transfers.Flight EC (tcV d L) (.dma cc0_scratch25.sem) none 4096 (Dl (F := F) d L s t paM' 9856 128)
        ∗ Transfers.Flight EC (tcV d L) (.dma cc0_scratch26.sem) none 4096 (Dl (F := F) d L s t pbM 19728 128)
        ∗ Transfers.Flight EC (tcV d L) (.dma cc0_scratch27.sem) none 4096 (Dl (F := F) d L s t pbM' 19856 128)
        ∗ PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ OW (F := F) (tcV d L) (O + oxB d ((L 0).castLE hcore0) (some 3)) W
        ∗ kitB d L 3 (some 3)
        ∗ bst d ((L 0).castLE hcore0) (L 1) 3
        ∗ PS (F := F) (tcV d L) ptaM (Finset.range 16) fullShare (g5)
        ∗ semVal (tcV d L, .dma cc0_scoped17.sem) 0
        ∗ PS (F := F) (tcV d L) ptbM (Finset.range 16) fullShare (g6)
        ∗ semVal (tcV d L, .dma cc0_scoped18.sem) 0)
      ⊢ iprop((iprop(semVal (tcV d L, .dma cc0_scratch26.sem) 0
        ∗ PX (F := F) d L s t pbM 0 0
        ∗ semVal (tcV d L, .dma cc0_scratch25.sem) 0
        ∗ PX (F := F) d L s t paM' 0 0
        ∗ semVal (tcV d L, .dma cc0_scratch27.sem) 0
        ∗ PX (F := F) d L s t pbM' 0 0
        ∗ PS (F := F) (tcV d L) kM (Finset.range 20000) fullShare (kst (kk s t) (bs L) 625)
        ∗ PS (F := F) (tcV d L) haM (Finset.range 10240) fullShare (rA L s t)
        ∗ PS (F := F) (tcV d L) hbM (Finset.range 10240) fullShare (rB L s t)
        ∗ semVal (tcV d L, .dma cc0_scoped17.sem) 0
        ∗ PS (F := F) (tcV d L) ptaM (Finset.range 16) fullShare (pf L s t 9984)
        ∗ semVal (tcV d L, .dma cc0_scoped18.sem) 0
        ∗ PS (F := F) (tcV d L) ptbM (Finset.range 16) fullShare (pf L s t 19984)
        ∗ PS (F := F) (tcV d L) vM (Finset.range 20000) fullShare (fun n => vv s t (bs L + n))
        ∗ OW (F := F) (tcV d L) (O) W
        ∗ bst d ((L 0).castLE hcore0) (L 1) 4
        ∗ PS (F := F) (tcV d L) outsM (Finset.Ico (20000 * (L 1).val) (20000 * ((L 1).val + 1))) fullShare (RR s t))
        -∗ Q ⟨⟩)
        -∗ wpT d L (k0_part49 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay116) Q) := by
  have hw := lt16 L
  rw [k0_part49_eq_skeleton]
  unfold k0_part49_skel
  iintro ⟨#Hbc, #Hm, #Hmb, HDA, HDB, HUA, HUB, HS14, HS15, HS16, Hk, Ha, Hb, HO, Hkit, Hst, H17, Hr17, H18, Hr18⟩ HQ
  ihave H17 := (show PS (F := F) (tcV d L) ptaM (Finset.range 16) fullShare g5 ⊢ PX (F := F) d L s t ptaM 9984 0 from PX_start d L s t ptaM 9984 g5) $$ H17
  ihave H18 := (show PS (F := F) (tcV d L) ptbM (Finset.range 16) fullShare g6 ⊢ PX (F := F) d L s t ptbM 19984 0 from PX_start d L s t ptbM 19984 g6) $$ H18
  iapply (wsc d L (cr_v rfl)) $$ [HS15 HO]
  · isplitr; · iexact Hm
    isplitl [HS15]; · iexact HS15
    iexact HO
  iintro ⟨Hd, Hs26, HO⟩
  ihave HDB := (done_join d L s t pbM 10000 19728 19856 (by omega) (by omega) (by omega) 0) $$ [HDB Hd]
  · isplitl [HDB]; · iexact HDB
    iexact Hd
  icases HDB with ⟨HDB, Hp15⟩
  iapply (wsc d L (cr_v rfl)) $$ [HS14 HO]
  · isplitr; · iexact Hm
    isplitl [HS14]; · iexact HS14
    iexact HO
  iintro ⟨Hd, Hs25, HO⟩
  ihave HDA := (done_join d L s t paM' 0 9856 9984 (by omega) (by omega) (by omega) 0) $$ [HDA Hd]
  · isplitl [HDA]; · iexact HDA
    iexact Hd
  icases HDA with ⟨HDA, Hp14⟩
  iapply (wsc d L (cr_v rfl)) $$ [HS16 HO]
  · isplitr; · iexact Hm
    isplitl [HS16]; · iexact HS16
    iexact HO
  iintro ⟨Hd, Hs27, HO⟩
  ihave HDB := (done_join d L s t pbM' 10000 19856 19984 (by omega) (by omega) (by omega) 0) $$ [HDB Hd]
  · isplitl [HDB]; · iexact HDB
    iexact Hd
  icases HDB with ⟨HDB, Hp16⟩
  iapply (ld_k d L s t 9984 (off := ![9984]) rfl (by omega)) $$ Hk
  iintro Hk
  iapply (ld_k d L s t 19984 (off := ![19984]) rfl (by omega)) $$ Hk
  iintro Hk
  iapply (wp_assume 𝒱₀ _ none Set.univ (kv_chk (F := F) L s t hK (o := 9984) (by omega)))
  iapply (ga_k d L s t hK (rA L s t) 9984 (by omega) (hm := haM) (h := kv_chk (F := F) L s t hK (o := 9984) (by omega)) (hl := View.loads_vmem h_S10240)) $$ Ha
  iintro Ha
  iapply (st_p d L s t ptaM 9984 0 9984 (off := ![0]) rfl (by show 16 * 0 + 16 ≤ 16; omega) (by omega) (fun x => pv_a (F := F) L s t hK (o := 9984) (by omega) x)) $$ H17
  iintro H17
  iapply (wp_assume 𝒱₀ _ none Set.univ (kv_chk (F := F) L s t hK (o := 19984) (by omega)))
  iapply (ga_k d L s t hK (rB L s t) 19984 (by omega) (hm := hbM) (h := kv_chk (F := F) L s t hK (o := 19984) (by omega)) (hl := View.loads_vmem h_S10240)) $$ Hb
  iintro Hb
  iapply (st_p d L s t ptbM 19984 0 19984 (off := ![0]) rfl (by show 16 * 0 + 16 ≤ 16; omega) (by omega) (fun x => pv_b (F := F) L s t hK (o := 19984) (by omega) (by omega) x)) $$ H18
  iintro H18
  ihave H17 := (PX_end d L s t ptaM 9984 1 rfl) $$ H17
  iapply (sc d L s t ptaM 9984 16 512 (offv := ![9984]) rfl (np 16 (by decide)) rfl rfl (by omega) (cr_v rfl) gu) $$ [HUA H17 Hr17]
  · isplitl [HUA]; · iexact HUA
    isplitl [H17]; · iexact H17
    iexact Hr17
  iintro HF17
  iapply (wsc d L (cr_v rfl)) $$ [HF17 HO]
  · isplitr; · iexact Hm
    isplitl [HF17]; · iexact HF17
    iexact HO
  iintro ⟨Hd, Hr17, HO⟩
  ihave HDA := (tail_join d L s t ptaM 0 9984 (by omega) (by omega)) $$ [HDA Hd]
  · isplitl [HDA]; · iexact HDA
    iexact Hd
  icases HDA with ⟨HDA, H17⟩
  ihave H18 := (PX_end d L s t ptbM 19984 1 rfl) $$ H18
  iapply (sc d L s t ptbM 19984 16 512 (offv := ![19984]) rfl (np 16 (by decide)) rfl rfl (by omega) (cr_v rfl) gu) $$ [HUB H18 Hr18]
  · isplitl [HUB]; · iexact HUB
    isplitl [H18]; · iexact H18
    iexact Hr18
  iintro HF18
  iapply (wsc d L (cr_v rfl)) $$ [HF18 HO]
  · isplitr; · iexact Hm
    isplitl [HF18]; · iexact HF18
    iexact HO
  iintro ⟨Hd, Hr18, HO⟩
  ihave HDB := (tail_join d L s t ptbM 10000 19984 (by omega) (by omega)) $$ [HDB Hd]
  · isplitl [HDB]; · iexact HDB
    iexact Hd
  icases HDB with ⟨HDB, H18⟩
  ihave HR := (Entails.of_eq (Rg_split d L s t (lo := 0) (mid := 10000) (hi := 20000) (RR s t) (by omega) (by omega) (by omega)).symm) $$ [HDA HDB]
  · isplitl [HDA]; · iexact HDA
    iexact HDB
  ihave HR := (Entails.of_eq (Rg_whole d L s t (RR s t))) $$ HR
  icases HR with ⟨Hv, Hout⟩
  iapply (wp_bar d L s t 3 (by decide) (some 3) (.inr ⟨_, rfl⟩) (pay3_in d ((L 0).castLE hcore0) s t (L 1) hw) (pay3_out d ((L 0).castLE hcore0) s t (L 1) hw)) $$ [HO Hkit Hst Hout]
  · isplitr; · iexact Hbc
    isplitr; · iexact Hmb
    isplitl [HO]; · iexact HO
    isplitl [Hkit]; · iexact Hkit
    isplitl [Hst]; · iexact Hst
    iexact Hout
  iintro ⟨HO, Hst, Hout⟩
  iapply (wp_fin (F := F))
  iapply HQ
  isplitl [Hs26]; · iexact Hs26
  isplitl [Hp15]; · iexact Hp15
  isplitl [Hs25]; · iexact Hs25
  isplitl [Hp14]; · iexact Hp14
  isplitl [Hs27]; · iexact Hs27
  isplitl [Hp16]; · iexact Hp16
  isplitl [Hk]; · iexact Hk
  isplitl [Ha]; · iexact Ha
  isplitl [Hb]; · iexact Hb
  isplitl [Hr17]; · iexact Hr17
  isplitl [H17]; · iexact H17
  isplitl [Hr18]; · iexact Hr18
  isplitl [H18]; · iexact H18
  isplitl [Hv]; · iexact Hv
  isplitl [HO]; · iexact HO
  isplitl [Hst]; · iexact Hst
  iexact Hout

end Last

end Cert.Proof.Sorting
-- ==== Proof.Part2a.lean ====
/-
The task's second stretch: the histograms handed over and the blocks' copies in.
-/
module

public import proofs.«01_k».proof.Proof.Joins

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Part2a
variable (d : Dev nD) (L : grid0.Coords) (s t : ℕ → BitVec 32) {O : CellTallies nD τ sig (HIx 4)} {W : Waits sig (HIx 4)}

theorem part12 {a1 a2 : BitVec 32} {ga gb gh : ℕ → BitVec 32} {Q : (PUnit) → sProp (MT nD τ sig (HIx 4) (Elt F) ℕ UU ℕ)} :
    iprop(bctx (pay (F := F) d ((L 0).castLE hcore0) s t) d ((L 0).castLE hcore0)
        ∗ Transfers.MayWaits (tcV d L) none (O + oxB d ((L 0).castLE hcore0) (some 0))
        ∗ MayWait (tcV d L) (.reg sc_bar0) (some 0) (O)
        ∗ OW (F := F) (tcV d L) (O + oxB d ((L 0).castLE hcore0) (some 0)) W
        ∗ PS (F := F) (tcV d L) hbM (Finset.range 10240) fullShare (hst (kk s t) (bs L + 10000) 625)
        ∗ PS (F := F) (tcV d L) hallM (Finset.Ico (20480 * (L 1).val + 10240) (20480 * (L 1).val + 10240 + 10240)) fullShare (gh)
        ∗ Transfers.Batch EC (tcV d L) (.dma cc0_scratch20.sem) none 327680 (Dh (F := F) d L s t) 1 0
        ∗ kitB d L 0 (some 0)
        ∗ bst d ((L 0).castLE hcore0) (L 1) 0
        ∗ PS (F := F) (tcV d L) blkM (Finset.range 20480) fullShare (gb)
        ∗ semVal (tcV d L, .dma cc0_scratch21.sem) 0)
      ⊢ iprop((iprop(semVal (tcV d L, .dma cc0_scratch20.sem) 0
        ∗ PS (F := F) (tcV d L) haM (Finset.range 10240) fullShare (hst (kk s t) (bs L) 625)
        ∗ PS (F := F) (tcV d L) hbM (Finset.range 10240) fullShare (hst (kk s t) (bs L + 10000) 625)
        ∗ OW (F := F) (tcV d L) (O) W
        ∗ bst d ((L 0).castLE hcore0) (L 1) 1
        ∗ CI (F := F) d L (H0 s t) gb 3)
        -∗ Q ⟨⟩)
        -∗ wpT d L (k0_part12 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1 a2) Q) := by
  have hw := lt16 L
  rw [k0_part12_eq_skeleton]
  unfold k0_part12_skel
  iintro ⟨#Hbc, #Hm, #Hmb, HO, Hhb, Hh, HB, Hk, Hst, Hblk, Hs21⟩ HQ
  iapply (wp_dmaBP (n := 2) (j := 1) (u := 0) 𝒱₀ none 327680 (cr_hall rfl) (by decide) (by decide) (PS_range (F := F) (n := 10240) (c := tcV d L) (m := hbM) (g := hst (kk s t) (bs L + 10000) 625) rfl)
      (PS_slice (F := F) (c := tcV d L) (m := hallM) (g := gh) _ _ (k0_off10_inb L) (fun _ => rfl) (20480 * (L 1).val + 10240) 10240 (congrFun (k0_off10_eq L) 0) rfl)
      (PS_slice_to (F := F) (c := tcV d L) (m := hallM) (g := H0 s t) _ _ (k0_off10_inb L) (fun _ => rfl) (20480 * (L 1).val + 10240) 10240 (congrFun (k0_off10_eq L) 0) rfl (hst_b L s t))
      (Dh_1 d L s t)) $$ [Hhb Hh HB]
  · isplitl [Hhb]; · iexact Hhb
    isplitl [Hh]; · iexact Hh
    iexact HB
  iintro HB
  iapply (wp_wtB (c := tcV d L) 𝒱₀ none (n := 2) (N := 327680) (cr_hall rfl) (u := 0) (u' := 327680) (by decide) (by decide)) $$ [HB HO]
  · isplitr; · iexact Hm
    isplitl [HB]; · iexact HB
    iexact HO
  iintro ⟨HB, HO⟩
  iapply (wp_wtL (c := tcV d L) 𝒱₀ none (n := 2) (N := 327680) (cr_hall rfl) (np 10240 (by decide)) (u := 327680) (by decide)) $$ [HB HO]
  · isplitr; · iexact Hm
    isplitl [HB]; · iexact HB
    iexact HO
  iintro ⟨HD, Hs20, HO⟩
  ihave HD' := (Dh_all d L s t) $$ HD
  icases HD' with ⟨Hh, Hha, Hhb⟩
  iapply (wp_bar d L s t 0 (by decide) (some 0) (.inr ⟨_, rfl⟩) (pay0_in d ((L 0).castLE hcore0) s t (L 1)) (pay0_out d ((L 0).castLE hcore0) s t (L 1))) $$ [HO Hk Hst Hh]
  · isplitr; · iexact Hbc
    isplitr; · iexact Hmb
    isplitl [HO]; · iexact HO
    isplitl [Hk]; · iexact Hk
    isplitl [Hst]; · iexact Hst
    iexact Hh
  iintro ⟨HO, Hst, Hh⟩
  imod (CI_intro d L (H0 s t) gb) $$ [Hh Hblk Hs21] with HI
  · isplitl [Hh]; · iexact Hh
    isplitl [Hblk]; · iexact Hblk
    iexact Hs21
  iapply (cp_in d L (H0 s t) gb 0 (by decide) (show k0_off11 L 0#32 0 = 10240 * 0 + 640 * (L 1).val from congrFun (k0_off11_eq L 0) 0) (show (![0] : Fin 1 → ℕ) 0 = 640 * 0 from rfl)) $$ HI
  iintro HI
  iapply (cp_in d L (H0 s t) gb 1 (by decide) (show k0_off11 L 10240#32 0 = 10240 * 1 + 640 * (L 1).val from congrFun (k0_off11_eq L 1) 0) (show (![640] : Fin 1 → ℕ) 0 = 640 * 1 from rfl)) $$ HI
  iintro HI
  iapply (cp_in d L (H0 s t) gb 2 (by decide) (show k0_off11 L 20480#32 0 = 10240 * 2 + 640 * (L 1).val from congrFun (k0_off11_eq L 2) 0) (show (![1280] : Fin 1 → ℕ) 0 = 640 * 2 from rfl)) $$ HI
  iintro HI
  iapply (wp_fin (F := F))
  iapply HQ
  isplitl [Hs20]; · iexact Hs20
  isplitl [Hha]; · iexact Hha
  isplitl [Hhb]; · iexact Hhb
  isplitl [HO]; · iexact HO
  isplitl [Hst]; · iexact Hst
  iexact HI

theorem part13 {a1 : BitVec 32} {gb : ℕ → BitVec 32} {Q : (PUnit) → sProp (MT nD τ sig (HIx 4) (Elt F) ℕ UU ℕ)} :
    iprop(CI (F := F) d L (H0 s t) gb 3)
      ⊢ iprop((CI (F := F) d L (H0 s t) gb 9
        -∗ Q ⟨⟩)
        -∗ wpT d L (k0_part13 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part13_eq_skeleton]
  unfold k0_part13_skel
  iintro HI HQ
  iapply (cp_in d L (H0 s t) gb 3 (by decide) (show k0_off11 L 30720#32 0 = 10240 * 3 + 640 * (L 1).val from congrFun (k0_off11_eq L 3) 0) (show (![1920] : Fin 1 → ℕ) 0 = 640 * 3 from rfl)) $$ HI
  iintro HI
  iapply (cp_in d L (H0 s t) gb 4 (by decide) (show k0_off11 L 40960#32 0 = 10240 * 4 + 640 * (L 1).val from congrFun (k0_off11_eq L 4) 0) (show (![2560] : Fin 1 → ℕ) 0 = 640 * 4 from rfl)) $$ HI
  iintro HI
  iapply (cp_in d L (H0 s t) gb 5 (by decide) (show k0_off11 L 51200#32 0 = 10240 * 5 + 640 * (L 1).val from congrFun (k0_off11_eq L 5) 0) (show (![3200] : Fin 1 → ℕ) 0 = 640 * 5 from rfl)) $$ HI
  iintro HI
  iapply (cp_in d L (H0 s t) gb 6 (by decide) (show k0_off11 L 61440#32 0 = 10240 * 6 + 640 * (L 1).val from congrFun (k0_off11_eq L 6) 0) (show (![3840] : Fin 1 → ℕ) 0 = 640 * 6 from rfl)) $$ HI
  iintro HI
  iapply (cp_in d L (H0 s t) gb 7 (by decide) (show k0_off11 L 71680#32 0 = 10240 * 7 + 640 * (L 1).val from congrFun (k0_off11_eq L 7) 0) (show (![4480] : Fin 1 → ℕ) 0 = 640 * 7 from rfl)) $$ HI
  iintro HI
  iapply (cp_in d L (H0 s t) gb 8 (by decide) (show k0_off11 L 81920#32 0 = 10240 * 8 + 640 * (L 1).val from congrFun (k0_off11_eq L 8) 0) (show (![5120] : Fin 1 → ℕ) 0 = 640 * 8 from rfl)) $$ HI
  iintro HI
  iapply (wp_fin (F := F))
  iapply HQ
  iexact HI

theorem part14 {a1 : BitVec 32} {gb : ℕ → BitVec 32} {Q : (PUnit) → sProp (MT nD τ sig (HIx 4) (Elt F) ℕ UU ℕ)} :
    iprop(CI (F := F) d L (H0 s t) gb 9)
      ⊢ iprop((CI (F := F) d L (H0 s t) gb 14
        -∗ Q ⟨⟩)
        -∗ wpT d L (k0_part14 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part14_eq_skeleton]
  unfold k0_part14_skel
  iintro HI HQ
  iapply (cp_in d L (H0 s t) gb 9 (by decide) (show k0_off11 L 92160#32 0 = 10240 * 9 + 640 * (L 1).val from congrFun (k0_off11_eq L 9) 0) (show (![5760] : Fin 1 → ℕ) 0 = 640 * 9 from rfl)) $$ HI
  iintro HI
  iapply (cp_in d L (H0 s t) gb 10 (by decide) (show k0_off11 L 102400#32 0 = 10240 * 10 + 640 * (L 1).val from congrFun (k0_off11_eq L 10) 0) (show (![6400] : Fin 1 → ℕ) 0 = 640 * 10 from rfl)) $$ HI
  iintro HI
  iapply (cp_in d L (H0 s t) gb 11 (by decide) (show k0_off11 L 112640#32 0 = 10240 * 11 + 640 * (L 1).val from congrFun (k0_off11_eq L 11) 0) (show (![7040] : Fin 1 → ℕ) 0 = 640 * 11 from rfl)) $$ HI
  iintro HI
  iapply (cp_in d L (H0 s t) gb 12 (by decide) (show k0_off11 L 122880#32 0 = 10240 * 12 + 640 * (L 1).val from congrFun (k0_off11_eq L 12) 0) (show (![7680] : Fin 1 → ℕ) 0 = 640 * 12 from rfl)) $$ HI
  iintro HI
  iapply (cp_in d L (H0 s t) gb 13 (by decide) (show k0_off11 L 133120#32 0 = 10240 * 13 + 640 * (L 1).val from congrFun (k0_off11_eq L 13) 0) (show (![8320] : Fin 1 → ℕ) 0 = 640 * 13 from rfl)) $$ HI
  iintro HI
  iapply (wp_fin (F := F))
  iapply HQ
  iexact HI

theorem part15 {a1 : BitVec 32} {gb : ℕ → BitVec 32} {Q : (PUnit) → sProp (MT nD τ sig (HIx 4) (Elt F) ℕ UU ℕ)} :
    iprop(CI (F := F) d L (H0 s t) gb 14)
      ⊢ iprop((CI (F := F) d L (H0 s t) gb 19
        -∗ Q ⟨⟩)
        -∗ wpT d L (k0_part15 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part15_eq_skeleton]
  unfold k0_part15_skel
  iintro HI HQ
  iapply (cp_in d L (H0 s t) gb 14 (by decide) (show k0_off11 L 143360#32 0 = 10240 * 14 + 640 * (L 1).val from congrFun (k0_off11_eq L 14) 0) (show (![8960] : Fin 1 → ℕ) 0 = 640 * 14 from rfl)) $$ HI
  iintro HI
  iapply (cp_in d L (H0 s t) gb 15 (by decide) (show k0_off11 L 153600#32 0 = 10240 * 15 + 640 * (L 1).val from congrFun (k0_off11_eq L 15) 0) (show (![9600] : Fin 1 → ℕ) 0 = 640 * 15 from rfl)) $$ HI
  iintro HI
  iapply (cp_in d L (H0 s t) gb 16 (by decide) (show k0_off11 L 163840#32 0 = 10240 * 16 + 640 * (L 1).val from congrFun (k0_off11_eq L 16) 0) (show (![10240] : Fin 1 → ℕ) 0 = 640 * 16 from rfl)) $$ HI
  iintro HI
  iapply (cp_in d L (H0 s t) gb 17 (by decide) (show k0_off11 L 174080#32 0 = 10240 * 17 + 640 * (L 1).val from congrFun (k0_off11_eq L 17) 0) (show (![10880] : Fin 1 → ℕ) 0 = 640 * 17 from rfl)) $$ HI
  iintro HI
  iapply (cp_in d L (H0 s t) gb 18 (by decide) (show k0_off11 L 184320#32 0 = 10240 * 18 + 640 * (L 1).val from congrFun (k0_off11_eq L 18) 0) (show (![11520] : Fin 1 → ℕ) 0 = 640 * 18 from rfl)) $$ HI
  iintro HI
  iapply (wp_fin (F := F))
  iapply HQ
  iexact HI

theorem part16 {a1 : BitVec 32} {gb : ℕ → BitVec 32} {Q : (PUnit) → sProp (MT nD τ sig (HIx 4) (Elt F) ℕ UU ℕ)} :
    iprop(CI (F := F) d L (H0 s t) gb 19)
      ⊢ iprop((CI (F := F) d L (H0 s t) gb 25
        -∗ Q ⟨⟩)
        -∗ wpT d L (k0_part16 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part16_eq_skeleton]
  unfold k0_part16_skel
  iintro HI HQ
  iapply (cp_in d L (H0 s t) gb 19 (by decide) (show k0_off11 L 194560#32 0 = 10240 * 19 + 640 * (L 1).val from congrFun (k0_off11_eq L 19) 0) (show (![12160] : Fin 1 → ℕ) 0 = 640 * 19 from rfl)) $$ HI
  iintro HI
  iapply (cp_in d L (H0 s t) gb 20 (by decide) (show k0_off11 L 204800#32 0 = 10240 * 20 + 640 * (L 1).val from congrFun (k0_off11_eq L 20) 0) (show (![12800] : Fin 1 → ℕ) 0 = 640 * 20 from rfl)) $$ HI
  iintro HI
  iapply (cp_in d L (H0 s t) gb 21 (by decide) (show k0_off11 L 215040#32 0 = 10240 * 21 + 640 * (L 1).val from congrFun (k0_off11_eq L 21) 0) (show (![13440] : Fin 1 → ℕ) 0 = 640 * 21 from rfl)) $$ HI
  iintro HI
  iapply (cp_in d L (H0 s t) gb 22 (by decide) (show k0_off11 L 225280#32 0 = 10240 * 22 + 640 * (L 1).val from congrFun (k0_off11_eq L 22) 0) (show (![14080] : Fin 1 → ℕ) 0 = 640 * 22 from rfl)) $$ HI
  iintro HI
  iapply (cp_in d L (H0 s t) gb 23 (by decide) (show k0_off11 L 235520#32 0 = 10240 * 23 + 640 * (L 1).val from congrFun (k0_off11_eq L 23) 0) (show (![14720] : Fin 1 → ℕ) 0 = 640 * 23 from rfl)) $$ HI
  iintro HI
  iapply (cp_in d L (H0 s t) gb 24 (by decide) (show k0_off11 L 245760#32 0 = 10240 * 24 + 640 * (L 1).val from congrFun (k0_off11_eq L 24) 0) (show (![15360] : Fin 1 → ℕ) 0 = 640 * 24 from rfl)) $$ HI
  iintro HI
  iapply (wp_fin (F := F))
  iapply HQ
  iexact HI

theorem part17 {a1 : BitVec 32} {gb : ℕ → BitVec 32} {Q : (PUnit) → sProp (MT nD τ sig (HIx 4) (Elt F) ℕ UU ℕ)} :
    iprop(CI (F := F) d L (H0 s t) gb 25)
      ⊢ iprop((CI (F := F) d L (H0 s t) gb 30
        -∗ Q ⟨⟩)
        -∗ wpT d L (k0_part17 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part17_eq_skeleton]
  unfold k0_part17_skel
  iintro HI HQ
  iapply (cp_in d L (H0 s t) gb 25 (by decide) (show k0_off11 L 256000#32 0 = 10240 * 25 + 640 * (L 1).val from congrFun (k0_off11_eq L 25) 0) (show (![16000] : Fin 1 → ℕ) 0 = 640 * 25 from rfl)) $$ HI
  iintro HI
  iapply (cp_in d L (H0 s t) gb 26 (by decide) (show k0_off11 L 266240#32 0 = 10240 * 26 + 640 * (L 1).val from congrFun (k0_off11_eq L 26) 0) (show (![16640] : Fin 1 → ℕ) 0 = 640 * 26 from rfl)) $$ HI
  iintro HI
  iapply (cp_in d L (H0 s t) gb 27 (by decide) (show k0_off11 L 276480#32 0 = 10240 * 27 + 640 * (L 1).val from congrFun (k0_off11_eq L 27) 0) (show (![17280] : Fin 1 → ℕ) 0 = 640 * 27 from rfl)) $$ HI
  iintro HI
  iapply (cp_in d L (H0 s t) gb 28 (by decide) (show k0_off11 L 286720#32 0 = 10240 * 28 + 640 * (L 1).val from congrFun (k0_off11_eq L 28) 0) (show (![17920] : Fin 1 → ℕ) 0 = 640 * 28 from rfl)) $$ HI
  iintro HI
  iapply (cp_in d L (H0 s t) gb 29 (by decide) (show k0_off11 L 296960#32 0 = 10240 * 29 + 640 * (L 1).val from congrFun (k0_off11_eq L 29) 0) (show (![18560] : Fin 1 → ℕ) 0 = 640 * 29 from rfl)) $$ HI
  iintro HI
  iapply (wp_fin (F := F))
  iapply HQ
  iexact HI

theorem part18 {a1 : BitVec 32} {gb : ℕ → BitVec 32} {Q : (Σ' (_ : BitVec 32), BitVec 32) → sProp (MT nD τ sig (HIx 4) (Elt F) ℕ UU ℕ)} :
    iprop(Transfers.MayWaits (tcV d L) none (O)
        ∗ CI (F := F) d L (H0 s t) gb 30
        ∗ OW (F := F) (tcV d L) (O) W)
      ⊢ iprop((iprop(WI (F := F) d L (H0 s t) 4
        ∗ OW (F := F) (tcV d L) (O) W)
        -∗ Q ⟨Scalar.muli a1 640#32, 40960#32⟩)
        -∗ wpT d L (k0_part18 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part18_eq_skeleton]
  unfold k0_part18_skel
  iintro ⟨#Hm, HI, HO⟩ HQ
  iapply (cp_in d L (H0 s t) gb 30 (by decide) (show k0_off11 L 307200#32 0 = 10240 * 30 + 640 * (L 1).val from congrFun (k0_off11_eq L 30) 0) (show (![19200] : Fin 1 → ℕ) 0 = 640 * 30 from rfl)) $$ HI
  iintro HI
  iapply (cp_in d L (H0 s t) gb 31 (by decide) (show k0_off11 L 317440#32 0 = 10240 * 31 + 640 * (L 1).val from congrFun (k0_off11_eq L 31) 0) (show (![19840] : Fin 1 → ℕ) 0 = 640 * 31 from rfl)) $$ HI
  iintro HI
  ihave HI := (CI_all d L (H0 s t) gb) $$ HI
  iapply (wt_in d L (H0 s t) 0 (by decide)) $$ [HI HO]
  · isplitr; · iexact Hm
    isplitl [HI]; · iexact HI
    iexact HO
  iintro ⟨HI, HO⟩
  iapply (wt_in d L (H0 s t) 1 (by decide)) $$ [HI HO]
  · isplitr; · iexact Hm
    isplitl [HI]; · iexact HI
    iexact HO
  iintro ⟨HI, HO⟩
  iapply (wt_in d L (H0 s t) 2 (by decide)) $$ [HI HO]
  · isplitr; · iexact Hm
    isplitl [HI]; · iexact HI
    iexact HO
  iintro ⟨HI, HO⟩
  iapply (wt_in d L (H0 s t) 3 (by decide)) $$ [HI HO]
  · isplitr; · iexact Hm
    isplitl [HI]; · iexact HI
    iexact HO
  iintro ⟨HI, HO⟩
  iapply (wp_fin (F := F))
  iapply HQ
  isplitl [HI]; · iexact HI
  iexact HO

end Part2a

end Cert.Proof.Sorting
-- ==== Proof.Part2b.lean ====
/-
The task's second stretch: the counts before each stretch and the tiles' totals.
-/
module

public import proofs.«01_k».proof.Proof.Joins

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Part2b
variable (d : Dev nD) (L : grid0.Coords) (s t : ℕ → BitVec 32) {O : CellTallies nD τ sig (HIx 4)} {W : Waits sig (HIx 4)}

theorem part19 {a1 a2 a3 : BitVec 32} {Q : (PUnit) → sProp (MT nD τ sig (HIx 4) (Elt F) ℕ UU ℕ)} :
    iprop(Transfers.MayWaits (tcV d L) none (O)
        ∗ WI (F := F) d L (H0 s t) 4
        ∗ OW (F := F) (tcV d L) (O) W)
      ⊢ iprop((iprop(WI (F := F) d L (H0 s t) 9
        ∗ OW (F := F) (tcV d L) (O) W)
        -∗ Q ⟨⟩)
        -∗ wpT d L (k0_part19 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1 a2 a3) Q) := by
  have hw := lt16 L
  rw [k0_part19_eq_skeleton]
  unfold k0_part19_skel
  iintro ⟨#Hm, HI, HO⟩ HQ
  iapply (wt_in d L (H0 s t) 4 (by decide)) $$ [HI HO]
  · isplitr; · iexact Hm
    isplitl [HI]; · iexact HI
    iexact HO
  iintro ⟨HI, HO⟩
  iapply (wt_in d L (H0 s t) 5 (by decide)) $$ [HI HO]
  · isplitr; · iexact Hm
    isplitl [HI]; · iexact HI
    iexact HO
  iintro ⟨HI, HO⟩
  iapply (wt_in d L (H0 s t) 6 (by decide)) $$ [HI HO]
  · isplitr; · iexact Hm
    isplitl [HI]; · iexact HI
    iexact HO
  iintro ⟨HI, HO⟩
  iapply (wt_in d L (H0 s t) 7 (by decide)) $$ [HI HO]
  · isplitr; · iexact Hm
    isplitl [HI]; · iexact HI
    iexact HO
  iintro ⟨HI, HO⟩
  iapply (wt_in d L (H0 s t) 8 (by decide)) $$ [HI HO]
  · isplitr; · iexact Hm
    isplitl [HI]; · iexact HI
    iexact HO
  iintro ⟨HI, HO⟩
  iapply (wp_fin (F := F))
  iapply HQ
  isplitl [HI]; · iexact HI
  iexact HO

theorem part20 {a1 : BitVec 32} {Q : (BitVec 32) → sProp (MT nD τ sig (HIx 4) (Elt F) ℕ UU ℕ)} :
    iprop(Transfers.MayWaits (tcV d L) none (O)
        ∗ WI (F := F) d L (H0 s t) 9
        ∗ OW (F := F) (tcV d L) (O) W)
      ⊢ iprop((iprop(WI (F := F) d L (H0 s t) 15
        ∗ OW (F := F) (tcV d L) (O) W)
        -∗ Q (Scalar.muli a1 640#32))
        -∗ wpT d L (k0_part20 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part20_eq_skeleton]
  unfold k0_part20_skel
  iintro ⟨#Hm, HI, HO⟩ HQ
  iapply (wt_in d L (H0 s t) 9 (by decide)) $$ [HI HO]
  · isplitr; · iexact Hm
    isplitl [HI]; · iexact HI
    iexact HO
  iintro ⟨HI, HO⟩
  iapply (wt_in d L (H0 s t) 10 (by decide)) $$ [HI HO]
  · isplitr; · iexact Hm
    isplitl [HI]; · iexact HI
    iexact HO
  iintro ⟨HI, HO⟩
  iapply (wt_in d L (H0 s t) 11 (by decide)) $$ [HI HO]
  · isplitr; · iexact Hm
    isplitl [HI]; · iexact HI
    iexact HO
  iintro ⟨HI, HO⟩
  iapply (wt_in d L (H0 s t) 12 (by decide)) $$ [HI HO]
  · isplitr; · iexact Hm
    isplitl [HI]; · iexact HI
    iexact HO
  iintro ⟨HI, HO⟩
  iapply (wt_in d L (H0 s t) 13 (by decide)) $$ [HI HO]
  · isplitr; · iexact Hm
    isplitl [HI]; · iexact HI
    iexact HO
  iintro ⟨HI, HO⟩
  iapply (wt_in d L (H0 s t) 14 (by decide)) $$ [HI HO]
  · isplitr; · iexact Hm
    isplitl [HI]; · iexact HI
    iexact HO
  iintro ⟨HI, HO⟩
  iapply (wp_fin (F := F))
  iapply HQ
  isplitl [HI]; · iexact HI
  iexact HO

theorem part21 {a1 a2 : BitVec 32} {Q : (PUnit) → sProp (MT nD τ sig (HIx 4) (Elt F) ℕ UU ℕ)} :
    iprop(Transfers.MayWaits (tcV d L) none (O)
        ∗ WI (F := F) d L (H0 s t) 15
        ∗ OW (F := F) (tcV d L) (O) W)
      ⊢ iprop((iprop(WI (F := F) d L (H0 s t) 20
        ∗ OW (F := F) (tcV d L) (O) W)
        -∗ Q ⟨⟩)
        -∗ wpT d L (k0_part21 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1 a2) Q) := by
  have hw := lt16 L
  rw [k0_part21_eq_skeleton]
  unfold k0_part21_skel
  iintro ⟨#Hm, HI, HO⟩ HQ
  iapply (wt_in d L (H0 s t) 15 (by decide)) $$ [HI HO]
  · isplitr; · iexact Hm
    isplitl [HI]; · iexact HI
    iexact HO
  iintro ⟨HI, HO⟩
  iapply (wt_in d L (H0 s t) 16 (by decide)) $$ [HI HO]
  · isplitr; · iexact Hm
    isplitl [HI]; · iexact HI
    iexact HO
  iintro ⟨HI, HO⟩
  iapply (wt_in d L (H0 s t) 17 (by decide)) $$ [HI HO]
  · isplitr; · iexact Hm
    isplitl [HI]; · iexact HI
    iexact HO
  iintro ⟨HI, HO⟩
  iapply (wt_in d L (H0 s t) 18 (by decide)) $$ [HI HO]
  · isplitr; · iexact Hm
    isplitl [HI]; · iexact HI
    iexact HO
  iintro ⟨HI, HO⟩
  iapply (wt_in d L (H0 s t) 19 (by decide)) $$ [HI HO]
  · isplitr; · iexact Hm
    isplitl [HI]; · iexact HI
    iexact HO
  iintro ⟨HI, HO⟩
  iapply (wp_fin (F := F))
  iapply HQ
  isplitl [HI]; · iexact HI
  iexact HO

theorem part22 {a1 : BitVec 32} {Q : (BitVec 32) → sProp (MT nD τ sig (HIx 4) (Elt F) ℕ UU ℕ)} :
    iprop(Transfers.MayWaits (tcV d L) none (O)
        ∗ WI (F := F) d L (H0 s t) 20
        ∗ OW (F := F) (tcV d L) (O) W)
      ⊢ iprop((iprop(WI (F := F) d L (H0 s t) 26
        ∗ OW (F := F) (tcV d L) (O) W)
        -∗ Q 640#32)
        -∗ wpT d L (k0_part22 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part22_eq_skeleton]
  unfold k0_part22_skel
  iintro ⟨#Hm, HI, HO⟩ HQ
  iapply (wt_in d L (H0 s t) 20 (by decide)) $$ [HI HO]
  · isplitr; · iexact Hm
    isplitl [HI]; · iexact HI
    iexact HO
  iintro ⟨HI, HO⟩
  iapply (wt_in d L (H0 s t) 21 (by decide)) $$ [HI HO]
  · isplitr; · iexact Hm
    isplitl [HI]; · iexact HI
    iexact HO
  iintro ⟨HI, HO⟩
  iapply (wt_in d L (H0 s t) 22 (by decide)) $$ [HI HO]
  · isplitr; · iexact Hm
    isplitl [HI]; · iexact HI
    iexact HO
  iintro ⟨HI, HO⟩
  iapply (wt_in d L (H0 s t) 23 (by decide)) $$ [HI HO]
  · isplitr; · iexact Hm
    isplitl [HI]; · iexact HI
    iexact HO
  iintro ⟨HI, HO⟩
  iapply (wt_in d L (H0 s t) 24 (by decide)) $$ [HI HO]
  · isplitr; · iexact Hm
    isplitl [HI]; · iexact HI
    iexact HO
  iintro ⟨HI, HO⟩
  iapply (wt_in d L (H0 s t) 25 (by decide)) $$ [HI HO]
  · isplitr; · iexact Hm
    isplitl [HI]; · iexact HI
    iexact HO
  iintro ⟨HI, HO⟩
  iapply (wp_fin (F := F))
  iapply HQ
  isplitl [HI]; · iexact HI
  iexact HO

theorem part23 {a1 a2 : BitVec 32} {Q : (PUnit) → sProp (MT nD τ sig (HIx 4) (Elt F) ℕ UU ℕ)} :
    iprop(Transfers.MayWaits (tcV d L) none (O)
        ∗ WI (F := F) d L (H0 s t) 26
        ∗ OW (F := F) (tcV d L) (O) W)
      ⊢ iprop((iprop(WI (F := F) d L (H0 s t) 31
        ∗ OW (F := F) (tcV d L) (O) W)
        -∗ Q ⟨⟩)
        -∗ wpT d L (k0_part23 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1 a2) Q) := by
  have hw := lt16 L
  rw [k0_part23_eq_skeleton]
  unfold k0_part23_skel
  iintro ⟨#Hm, HI, HO⟩ HQ
  iapply (wt_in d L (H0 s t) 26 (by decide)) $$ [HI HO]
  · isplitr; · iexact Hm
    isplitl [HI]; · iexact HI
    iexact HO
  iintro ⟨HI, HO⟩
  iapply (wt_in d L (H0 s t) 27 (by decide)) $$ [HI HO]
  · isplitr; · iexact Hm
    isplitl [HI]; · iexact HI
    iexact HO
  iintro ⟨HI, HO⟩
  iapply (wt_in d L (H0 s t) 28 (by decide)) $$ [HI HO]
  · isplitr; · iexact Hm
    isplitl [HI]; · iexact HI
    iexact HO
  iintro ⟨HI, HO⟩
  iapply (wt_in d L (H0 s t) 29 (by decide)) $$ [HI HO]
  · isplitr; · iexact Hm
    isplitl [HI]; · iexact HI
    iexact HO
  iintro ⟨HI, HO⟩
  iapply (wt_in d L (H0 s t) 30 (by decide)) $$ [HI HO]
  · isplitr; · iexact Hm
    isplitl [HI]; · iexact HI
    iexact HO
  iintro ⟨HI, HO⟩
  iapply (wp_fin (F := F))
  iapply HQ
  isplitl [HI]; · iexact HI
  iexact HO

theorem part24 {ga : ℕ → BitVec 32} {Q : (BitVec 32) → sProp (MT nD τ sig (HIx 4) (Elt F) ℕ UU ℕ)} :
    iprop(Transfers.MayWaits (tcV d L) none (O)
        ∗ WI (F := F) d L (H0 s t) 31
        ∗ OW (F := F) (tcV d L) (O) W
        ∗ PS (F := F) (tcV d L) accM (Finset.range 640) fullShare (ga))
      ⊢ iprop((iprop(PS (F := F) (tcV d L) hallM (hcol (L 1).val) fullShare (H0 s t)
        ∗ semVal (tcV d L, .dma cc0_scratch21.sem) 0
        ∗ OW (F := F) (tcV d L) (O) W
        ∗ Pf (F := F) d L s t 8 0)
        -∗ Q 0#32)
        -∗ wpT d L (k0_part24 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 k0_pay34) Q) := by
  have hw := lt16 L
  rw [k0_part24_eq_skeleton]
  unfold k0_part24_skel
  iintro ⟨#Hm, HI, HO, Hac⟩ HQ
  iapply (wt_inL d L (H0 s t)) $$ [HI HO]
  · isplitr; · iexact Hm
    isplitl [HI]; · iexact HI
    iexact HO
  iintro ⟨Hb, Hh, Hs21, HO⟩
  ihave Hac := (Entails.of_eq (congrArg (PS (F := F) (tcV d L) accM (Finset.range 640) fullShare) (zr_zero ga).symm)) $$ Hac
  iapply (wp_loop 𝒱₀ none 40 (by decide +kernel) (fun n => PS (F := F) (tcV d L) accM (Finset.range 640) fullShare (zr ga n)) (fun n _ => trip3 d L ga n)) $$ Hac
  iintro %_ Hac
  ihave Hp := (Pf_zero d L s t ga) $$ [Hb Hac]
  · isplitl [Hb]; · iexact Hb
    iexact Hac
  iapply (wp_loop 𝒱₀ none 40 (by decide +kernel) (fun n => Pf (F := F) d L s t 0 n) (fun (n : Fin k0_t4_loop.trips) _ => ptrip d L s t 0 n.val (by decide) n.isLt (congrFun (k0_off13_eq n) 0) (congrFun (k0_off14_eq n) 0) (fun _ _ => rfl))) $$ Hp
  iintro %_ Hp
  ihave Hp := (Entails.of_eq (Pf_next d L s t 0)) $$ Hp
  iapply (wp_loop 𝒱₀ none 40 (by decide +kernel) (fun n => Pf (F := F) d L s t 1 n) (fun (n : Fin k0_t5_loop.trips) _ => ptrip d L s t 1 n.val (by decide) n.isLt (congrFun (k0_off15_eq n) 0) (congrFun (k0_off16_eq n) 0) (fun _ _ => rfl))) $$ Hp
  iintro %_ Hp
  ihave Hp := (Entails.of_eq (Pf_next d L s t 1)) $$ Hp
  iapply (wp_loop 𝒱₀ none 40 (by decide +kernel) (fun n => Pf (F := F) d L s t 2 n) (fun (n : Fin k0_t6_loop.trips) _ => ptrip d L s t 2 n.val (by decide) n.isLt (congrFun (k0_off17_eq n) 0) (congrFun (k0_off18_eq n) 0) (fun _ _ => rfl))) $$ Hp
  iintro %_ Hp
  ihave Hp := (Entails.of_eq (Pf_next d L s t 2)) $$ Hp
  iapply (wp_loop 𝒱₀ none 40 (by decide +kernel) (fun n => Pf (F := F) d L s t 3 n) (fun (n : Fin k0_t7_loop.trips) _ => ptrip d L s t 3 n.val (by decide) n.isLt (congrFun (k0_off19_eq n) 0) (congrFun (k0_off20_eq n) 0) (fun _ _ => rfl))) $$ Hp
  iintro %_ Hp
  ihave Hp := (Entails.of_eq (Pf_next d L s t 3)) $$ Hp
  iapply (wp_loop 𝒱₀ none 40 (by decide +kernel) (fun n => Pf (F := F) d L s t 4 n) (fun (n : Fin k0_t8_loop.trips) _ => ptrip d L s t 4 n.val (by decide) n.isLt (congrFun (k0_off21_eq n) 0) (congrFun (k0_off22_eq n) 0) (fun _ _ => rfl))) $$ Hp
  iintro %_ Hp
  ihave Hp := (Entails.of_eq (Pf_next d L s t 4)) $$ Hp
  iapply (wp_loop 𝒱₀ none 40 (by decide +kernel) (fun n => Pf (F := F) d L s t 5 n) (fun (n : Fin k0_t9_loop.trips) _ => ptrip d L s t 5 n.val (by decide) n.isLt (congrFun (k0_off23_eq n) 0) (congrFun (k0_off24_eq n) 0) (fun _ _ => rfl))) $$ Hp
  iintro %_ Hp
  ihave Hp := (Entails.of_eq (Pf_next d L s t 5)) $$ Hp
  iapply (wp_loop 𝒱₀ none 40 (by decide +kernel) (fun n => Pf (F := F) d L s t 6 n) (fun (n : Fin k0_t10_loop.trips) _ => ptrip d L s t 6 n.val (by decide) n.isLt (congrFun (k0_off25_eq n) 0) (congrFun (k0_off26_eq n) 0) (fun _ _ => rfl))) $$ Hp
  iintro %_ Hp
  ihave Hp := (Entails.of_eq (Pf_next d L s t 6)) $$ Hp
  iapply (wp_loop 𝒱₀ none 40 (by decide +kernel) (fun n => Pf (F := F) d L s t 7 n) (fun (n : Fin k0_t11_loop.trips) _ => ptrip d L s t 7 n.val (by decide) n.isLt (congrFun (k0_off27_eq n) 0) (congrFun (k0_off28_eq n) 0) (fun _ _ => rfl))) $$ Hp
  iintro %_ Hp
  ihave Hp := (Entails.of_eq (Pf_next d L s t 7)) $$ Hp
  iapply (wp_fin (F := F))
  iapply HQ
  isplitl [Hh]; · iexact Hh
  isplitl [Hs21]; · iexact Hs21
  isplitl [HO]; · iexact HO
  iexact Hp

theorem part25 {a1 : BitVec 32} {Q : (BitVec 32) → sProp (MT nD τ sig (HIx 4) (Elt F) ℕ UU ℕ)} :
    iprop(Pf (F := F) d L s t 8 0)
      ⊢ iprop((Pf (F := F) d L s t 18 0
        -∗ Q 0#32)
        -∗ wpT d L (k0_part25 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part25_eq_skeleton]
  unfold k0_part25_skel
  iintro Hp HQ
  iapply (wp_loop 𝒱₀ none 40 (by decide +kernel) (fun n => Pf (F := F) d L s t 8 n) (fun (n : Fin k0_t12_loop.trips) _ => ptrip d L s t 8 n.val (by decide) n.isLt (congrFun (k0_off29_eq n) 0) (congrFun (k0_off30_eq n) 0) (fun _ _ => rfl))) $$ Hp
  iintro %_ Hp
  ihave Hp := (Entails.of_eq (Pf_next d L s t 8)) $$ Hp
  iapply (wp_loop 𝒱₀ none 40 (by decide +kernel) (fun n => Pf (F := F) d L s t 9 n) (fun (n : Fin k0_t13_loop.trips) _ => ptrip d L s t 9 n.val (by decide) n.isLt (congrFun (k0_off31_eq n) 0) (congrFun (k0_off32_eq n) 0) (fun _ _ => rfl))) $$ Hp
  iintro %_ Hp
  ihave Hp := (Entails.of_eq (Pf_next d L s t 9)) $$ Hp
  iapply (wp_loop 𝒱₀ none 40 (by decide +kernel) (fun n => Pf (F := F) d L s t 10 n) (fun (n : Fin k0_t14_loop.trips) _ => ptrip d L s t 10 n.val (by decide) n.isLt (congrFun (k0_off33_eq n) 0) (congrFun (k0_off34_eq n) 0) (fun _ _ => rfl))) $$ Hp
  iintro %_ Hp
  ihave Hp := (Entails.of_eq (Pf_next d L s t 10)) $$ Hp
  iapply (wp_loop 𝒱₀ none 40 (by decide +kernel) (fun n => Pf (F := F) d L s t 11 n) (fun (n : Fin k0_t15_loop.trips) _ => ptrip d L s t 11 n.val (by decide) n.isLt (congrFun (k0_off35_eq n) 0) (congrFun (k0_off36_eq n) 0) (fun _ _ => rfl))) $$ Hp
  iintro %_ Hp
  ihave Hp := (Entails.of_eq (Pf_next d L s t 11)) $$ Hp
  iapply (wp_loop 𝒱₀ none 40 (by decide +kernel) (fun n => Pf (F := F) d L s t 12 n) (fun (n : Fin k0_t16_loop.trips) _ => ptrip d L s t 12 n.val (by decide) n.isLt (congrFun (k0_off37_eq n) 0) (congrFun (k0_off38_eq n) 0) (fun _ _ => rfl))) $$ Hp
  iintro %_ Hp
  ihave Hp := (Entails.of_eq (Pf_next d L s t 12)) $$ Hp
  iapply (wp_loop 𝒱₀ none 40 (by decide +kernel) (fun n => Pf (F := F) d L s t 13 n) (fun (n : Fin k0_t17_loop.trips) _ => ptrip d L s t 13 n.val (by decide) n.isLt (congrFun (k0_off39_eq n) 0) (congrFun (k0_off40_eq n) 0) (fun _ _ => rfl))) $$ Hp
  iintro %_ Hp
  ihave Hp := (Entails.of_eq (Pf_next d L s t 13)) $$ Hp
  iapply (wp_loop 𝒱₀ none 40 (by decide +kernel) (fun n => Pf (F := F) d L s t 14 n) (fun (n : Fin k0_t18_loop.trips) _ => ptrip d L s t 14 n.val (by decide) n.isLt (congrFun (k0_off41_eq n) 0) (congrFun (k0_off42_eq n) 0) (fun _ _ => rfl))) $$ Hp
  iintro %_ Hp
  ihave Hp := (Entails.of_eq (Pf_next d L s t 14)) $$ Hp
  iapply (wp_loop 𝒱₀ none 40 (by decide +kernel) (fun n => Pf (F := F) d L s t 15 n) (fun (n : Fin k0_t19_loop.trips) _ => ptrip d L s t 15 n.val (by decide) n.isLt (congrFun (k0_off43_eq n) 0) (congrFun (k0_off44_eq n) 0) (fun _ _ => rfl))) $$ Hp
  iintro %_ Hp
  ihave Hp := (Entails.of_eq (Pf_next d L s t 15)) $$ Hp
  iapply (wp_loop 𝒱₀ none 40 (by decide +kernel) (fun n => Pf (F := F) d L s t 16 n) (fun (n : Fin k0_t20_loop.trips) _ => ptrip d L s t 16 n.val (by decide) n.isLt (congrFun (k0_off45_eq n) 0) (congrFun (k0_off46_eq n) 0) (fun _ _ => rfl))) $$ Hp
  iintro %_ Hp
  ihave Hp := (Entails.of_eq (Pf_next d L s t 16)) $$ Hp
  iapply (wp_loop 𝒱₀ none 40 (by decide +kernel) (fun n => Pf (F := F) d L s t 17 n) (fun (n : Fin k0_t21_loop.trips) _ => ptrip d L s t 17 n.val (by decide) n.isLt (congrFun (k0_off47_eq n) 0) (congrFun (k0_off48_eq n) 0) (fun _ _ => rfl))) $$ Hp
  iintro %_ Hp
  ihave Hp := (Entails.of_eq (Pf_next d L s t 17)) $$ Hp
  iapply (wp_fin (F := F))
  iapply HQ
  iexact Hp

theorem part26 {a1 : BitVec 32} {Q : (BitVec 32) → sProp (MT nD τ sig (HIx 4) (Elt F) ℕ UU ℕ)} :
    iprop(Pf (F := F) d L s t 18 0)
      ⊢ iprop((Pf (F := F) d L s t 28 0
        -∗ Q 0#32)
        -∗ wpT d L (k0_part26 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part26_eq_skeleton]
  unfold k0_part26_skel
  iintro Hp HQ
  iapply (wp_loop 𝒱₀ none 40 (by decide +kernel) (fun n => Pf (F := F) d L s t 18 n) (fun (n : Fin k0_t22_loop.trips) _ => ptrip d L s t 18 n.val (by decide) n.isLt (congrFun (k0_off49_eq n) 0) (congrFun (k0_off50_eq n) 0) (fun _ _ => rfl))) $$ Hp
  iintro %_ Hp
  ihave Hp := (Entails.of_eq (Pf_next d L s t 18)) $$ Hp
  iapply (wp_loop 𝒱₀ none 40 (by decide +kernel) (fun n => Pf (F := F) d L s t 19 n) (fun (n : Fin k0_t23_loop.trips) _ => ptrip d L s t 19 n.val (by decide) n.isLt (congrFun (k0_off51_eq n) 0) (congrFun (k0_off52_eq n) 0) (fun _ _ => rfl))) $$ Hp
  iintro %_ Hp
  ihave Hp := (Entails.of_eq (Pf_next d L s t 19)) $$ Hp
  iapply (wp_loop 𝒱₀ none 40 (by decide +kernel) (fun n => Pf (F := F) d L s t 20 n) (fun (n : Fin k0_t24_loop.trips) _ => ptrip d L s t 20 n.val (by decide) n.isLt (congrFun (k0_off53_eq n) 0) (congrFun (k0_off54_eq n) 0) (fun _ _ => rfl))) $$ Hp
  iintro %_ Hp
  ihave Hp := (Entails.of_eq (Pf_next d L s t 20)) $$ Hp
  iapply (wp_loop 𝒱₀ none 40 (by decide +kernel) (fun n => Pf (F := F) d L s t 21 n) (fun (n : Fin k0_t25_loop.trips) _ => ptrip d L s t 21 n.val (by decide) n.isLt (congrFun (k0_off55_eq n) 0) (congrFun (k0_off56_eq n) 0) (fun _ _ => rfl))) $$ Hp
  iintro %_ Hp
  ihave Hp := (Entails.of_eq (Pf_next d L s t 21)) $$ Hp
  iapply (wp_loop 𝒱₀ none 40 (by decide +kernel) (fun n => Pf (F := F) d L s t 22 n) (fun (n : Fin k0_t26_loop.trips) _ => ptrip d L s t 22 n.val (by decide) n.isLt (congrFun (k0_off57_eq n) 0) (congrFun (k0_off58_eq n) 0) (fun _ _ => rfl))) $$ Hp
  iintro %_ Hp
  ihave Hp := (Entails.of_eq (Pf_next d L s t 22)) $$ Hp
  iapply (wp_loop 𝒱₀ none 40 (by decide +kernel) (fun n => Pf (F := F) d L s t 23 n) (fun (n : Fin k0_t27_loop.trips) _ => ptrip d L s t 23 n.val (by decide) n.isLt (congrFun (k0_off59_eq n) 0) (congrFun (k0_off60_eq n) 0) (fun _ _ => rfl))) $$ Hp
  iintro %_ Hp
  ihave Hp := (Entails.of_eq (Pf_next d L s t 23)) $$ Hp
  iapply (wp_loop 𝒱₀ none 40 (by decide +kernel) (fun n => Pf (F := F) d L s t 24 n) (fun (n : Fin k0_t28_loop.trips) _ => ptrip d L s t 24 n.val (by decide) n.isLt (congrFun (k0_off61_eq n) 0) (congrFun (k0_off62_eq n) 0) (fun _ _ => rfl))) $$ Hp
  iintro %_ Hp
  ihave Hp := (Entails.of_eq (Pf_next d L s t 24)) $$ Hp
  iapply (wp_loop 𝒱₀ none 40 (by decide +kernel) (fun n => Pf (F := F) d L s t 25 n) (fun (n : Fin k0_t29_loop.trips) _ => ptrip d L s t 25 n.val (by decide) n.isLt (congrFun (k0_off63_eq n) 0) (congrFun (k0_off64_eq n) 0) (fun _ _ => rfl))) $$ Hp
  iintro %_ Hp
  ihave Hp := (Entails.of_eq (Pf_next d L s t 25)) $$ Hp
  iapply (wp_loop 𝒱₀ none 40 (by decide +kernel) (fun n => Pf (F := F) d L s t 26 n) (fun (n : Fin k0_t30_loop.trips) _ => ptrip d L s t 26 n.val (by decide) n.isLt (congrFun (k0_off65_eq n) 0) (congrFun (k0_off66_eq n) 0) (fun _ _ => rfl))) $$ Hp
  iintro %_ Hp
  ihave Hp := (Entails.of_eq (Pf_next d L s t 26)) $$ Hp
  iapply (wp_loop 𝒱₀ none 40 (by decide +kernel) (fun n => Pf (F := F) d L s t 27 n) (fun (n : Fin k0_t31_loop.trips) _ => ptrip d L s t 27 n.val (by decide) n.isLt (congrFun (k0_off67_eq n) 0) (congrFun (k0_off68_eq n) 0) (fun _ _ => rfl))) $$ Hp
  iintro %_ Hp
  ihave Hp := (Entails.of_eq (Pf_next d L s t 27)) $$ Hp
  iapply (wp_fin (F := F))
  iapply HQ
  iexact Hp

theorem part27 {a1 : BitVec 32} {gl gc gt gs : ℕ → BitVec 32} {Q : (PUnit) → sProp (MT nD τ sig (HIx 4) (Elt F) ℕ UU ℕ)} :
    iprop(bctx (pay (F := F) d ((L 0).castLE hcore0) s t) d ((L 0).castLE hcore0)
        ∗ Transfers.MayWaits (tcV d L) none (O + oxB d ((L 0).castLE hcore0) (some 1))
        ∗ MayWait (tcV d L) (.reg sc_bar0) (some 1) (O)
        ∗ OW (F := F) (tcV d L) (O + oxB d ((L 0).castLE hcore0) (some 1)) W
        ∗ Pf (F := F) d L s t 28 0
        ∗ PS (F := F) (tcV d L) locM (Finset.range 640) fullShare (gl)
        ∗ PS (F := F) (tcV d L) carM (Finset.range 1) fullShare (gc)
        ∗ PS (F := F) (tcV d L) totM (Finset.range 16) fullShare (gt)
        ∗ PS (F := F) (tcV d L) tsM (Finset.Ico (16 * (L 1).val) (16 * ((L 1).val + 1))) fullShare (gs)
        ∗ kitB d L 1 (some 1)
        ∗ bst d ((L 0).castLE hcore0) (L 1) 1
        ∗ semVal (tcV d L, .dma cc0_scoped0.sem) 0
        ∗ semVal (tcV d L, .dma cc0_scoped1.sem) 0)
      ⊢ iprop((iprop(PS (F := F) (tcV d L) locM (Finset.range 640) fullShare (gL L s t (fun _ => 0#32) 40)
        ∗ PS (F := F) (tcV d L) blkM (Finset.range 20480) fullShare (pP L s t)
        ∗ PS (F := F) (tcV d L) accM (Finset.range 640) fullShare (gN L s t)
        ∗ PS (F := F) (tcV d L) carM (Finset.range 1) fullShare (gC L s t 40)
        ∗ semVal (tcV d L, .dma cc0_scoped0.sem) 0
        ∗ OW (F := F) (tcV d L) (O) W
        ∗ bst d ((L 0).castLE hcore0) (L 1) 2
        ∗ TF (F := F) d L s t 0 cc0_scoped1.sem (sh16 (L 1)))
        -∗ Q ⟨⟩)
        -∗ wpT d L (k0_part27 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) a1) Q) := by
  have hw := lt16 L
  rw [k0_part27_eq_skeleton]
  unfold k0_part27_skel
  iintro ⟨#Hbc, #Hm, #Hmb, HO, Hp, Hl, Hc, Htot, Htsm, Hk, Hst, Hr0, Hr1⟩ HQ
  iapply (wp_loop 𝒱₀ none 40 (by decide +kernel) (fun n => Pf (F := F) d L s t 28 n) (fun (n : Fin k0_t32_loop.trips) _ => ptrip d L s t 28 n.val (by decide) n.isLt (congrFun (k0_off69_eq n) 0) (congrFun (k0_off70_eq n) 0) (fun _ _ => rfl))) $$ Hp
  iintro %_ Hp
  ihave Hp := (Entails.of_eq (Pf_next d L s t 28)) $$ Hp
  iapply (wp_loop 𝒱₀ none 40 (by decide +kernel) (fun n => Pf (F := F) d L s t 29 n) (fun (n : Fin k0_t33_loop.trips) _ => ptrip d L s t 29 n.val (by decide) n.isLt (congrFun (k0_off71_eq n) 0) (congrFun (k0_off72_eq n) 0) (fun _ _ => rfl))) $$ Hp
  iintro %_ Hp
  ihave Hp := (Entails.of_eq (Pf_next d L s t 29)) $$ Hp
  iapply (wp_loop 𝒱₀ none 40 (by decide +kernel) (fun n => Pf (F := F) d L s t 30 n) (fun (n : Fin k0_t34_loop.trips) _ => ptrip d L s t 30 n.val (by decide) n.isLt (congrFun (k0_off73_eq n) 0) (congrFun (k0_off74_eq n) 0) (fun _ _ => rfl))) $$ Hp
  iintro %_ Hp
  ihave Hp := (Entails.of_eq (Pf_next d L s t 30)) $$ Hp
  iapply (wp_loop 𝒱₀ none 40 (by decide +kernel) (fun n => Pf (F := F) d L s t 31 n) (fun (n : Fin k0_t35_loop.trips) _ => ptrip d L s t 31 n.val (by decide) n.isLt (congrFun (k0_off75_eq n) 0) (congrFun (k0_off76_eq n) 0) (fun _ _ => rfl))) $$ Hp
  iintro %_ Hp
  ihave Hp := (Entails.of_eq (Pf_next d L s t 31)) $$ Hp
  ihave Hp' := (Pf_last d L s t) $$ Hp
  icases Hp' with ⟨Hb, Hac⟩
  iapply (wp_smld (hn := numel1_S1) (hp := rfl) 𝒱₀ none Set.univ (A := Finset.range 1) (fun m hm => Finset.mem_range.mpr hm) rfl rfl rfl) $$ Hc
  iintro Hc
  iapply (wp_st 𝒱₀ none Set.univ (gC L s t 0) (A := Finset.range 1) (fun j hj => Finset.mem_range.mpr (by have hj' : j < 1 := hj; show 0 + j < 1; omega))
    (fun x => gC_zero L s t) (fun m hm h => by
      have := Finset.mem_range.mp hm
      have h' : m < 0 ∨ 0 + 1 ≤ m := h
      omega)) $$ Hc
  iintro Hc
  iapply (wp_loop 𝒱₀ none 40 (by decide +kernel) (fun n => Cu (F := F) d L s t gl n) (fun n _ => trip36 d L s t gl a1 n)) $$ [Hac Hl Hc]
  · iapply (Cu_zero d L s t gl) $$ [Hac Hl Hc]
    isplitl [Hac]; · iexact Hac
    isplitl [Hl]; · iexact Hl
    iexact Hc
  iintro %_ Hcu
  ihave Hcu' := (Cu_last d L s t gl) $$ Hcu
  icases Hcu' with ⟨Hac, Hl, Hc⟩
  iapply (wp_smld (hn := numel1_S1) (hp := rfl) 𝒱₀ none Set.univ (A := Finset.range 1) (fun m hm => Finset.mem_range.mpr hm) rfl rfl rfl) $$ Hc
  iintro Hc
  iapply (wp_ld 𝒱₀ none Set.univ (A := Finset.range 16) (fun j hj => Finset.mem_range.mpr (by have hj' : j < 16 := hj; show 0 + j < 16; omega))) $$ Htot
  iintro Htot
  iapply (wp_st 𝒱₀ none Set.univ (fun _ => tw s t (L 1).val) (A := Finset.range 16) (fun j hj => Finset.mem_range.mpr (by have hj' : j < 16 := hj; show 0 + j < 16; omega)) (fun x => (pay77_eq (F := F) L s t x).symm) (fun m hm h => by have := Finset.mem_range.mp hm; have h' : m < 0 ∨ 0 + 16 ≤ m := h; omega)) $$ Htot
  iintro Htot
  ihave Htsm := (Entails.of_eq (mine_eq d L gs)) $$ Htsm
  iapply (wp_dmaP 𝒱₀ none 512 (cr_ts rfl) (np 16 (by decide)) (PS_range (F := F) (n := 16) (c := tcV d L) (m := totM) (g := fun _ => tw s t (L 1).val) rfl)
      (PS_slice (F := F) (c := tcV d L) (m := tsM) (g := gs) _ _ (k0_off78_inb L) (fun _ => rfl) (16 * (L 1).val) 16 (congrFun (k0_off78_eq L) 0) rfl)
      (PS_slice_to (F := F) (c := tcV d L) (m := tsM) (g := TT s t) _ _ (k0_off78_inb L) (fun _ => rfl) (16 * (L 1).val) 16 (congrFun (k0_off78_eq L) 0) rfl (h := fun x => (fun _ => tw s t (L 1).val) (x 0).val) (fun x => (tt_mine L s t x).symm))) $$ [Htot Htsm Hr0]
  · isplitl [Htot]; · iexact Htot
    isplitl [Htsm]; · iexact Htsm
    iexact Hr0
  iintro HF
  iapply (wp_wt (c := tcV d L) 𝒱₀ none (N := 512) (cr_ts rfl)) $$ [HF HO]
  · isplitr; · iexact Hm
    isplitl [HF]; · iexact HF
    iexact HO
  iintro ⟨⟨Htsm, Htot⟩, Hr0, HO⟩
  ihave Htsm := (Entails.of_eq (mine_eq d L (TT s t)).symm) $$ Htsm
  iapply (wp_bar d L s t 1 (by decide) (some 1) (.inr ⟨_, rfl⟩) (pay1_in d ((L 0).castLE hcore0) s t (L 1)) (pay1_out d ((L 0).castLE hcore0) s t (L 1))) $$ [HO Hk Hst Htsm]
  · isplitr; · iexact Hbc
    isplitr; · iexact Hmb
    isplitl [HO]; · iexact HO
    isplitl [Hk]; · iexact Hk
    isplitl [Hst]; · iexact Hst
    iexact Htsm
  iintro ⟨HO, Hst, Htsm⟩
  irename Htsm => Hts
  iapply (cp_tot d L s t 0 (by decide) (sh16 (L 1)) (fun _ => tw s t (L 1).val) (show (![0] : Fin 1 → ℕ) 0 = 16 * 0 from rfl)) $$ [Hts Htot Hr1]
  · isplitl [Hts]; · iexact Hts
    isplitl [Htot]; · iexact Htot
    iexact Hr1
  iintro HT
  iapply (wp_fin (F := F))
  iapply HQ
  isplitl [Hl]; · iexact Hl
  isplitl [Hb]; · iexact Hb
  isplitl [Hac]; · iexact Hac
  isplitl [Hc]; · iexact Hc
  isplitl [Hr0]; · iexact Hr0
  isplitl [HO]; · iexact HO
  isplitl [Hst]; · iexact Hst
  iexact HT

end Part2b

end Cert.Proof.Sorting
-- ==== Proof.Part2c.lean ====
/-
The task's second stretch: the totals before the tile.
-/
module

public import proofs.«01_k».proof.Proof.Joins

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Part2c
variable (d : Dev nD) (L : grid0.Coords) (s t : ℕ → BitVec 32) {O : CellTallies nD τ sig (HIx 4)} {W : Waits sig (HIx 4)}

theorem part28 {q : PosShare TreeShare} {Q : (IVec S16 32) → sProp (MT nD τ sig (HIx 4) (Elt F) ℕ UU ℕ)} :
    iprop(Transfers.MayWaits (tcV d L) none (O)
        ∗ OW (F := F) (tcV d L) (O) W
        ∗ TF (F := F) d L s t 0 cc0_scoped1.sem q
        ∗ semVal (tcV d L, .dma cc0_scoped2.sem) 0
        ∗ semVal (tcV d L, .dma cc0_scoped3.sem) 0
        ∗ semVal (tcV d L, .dma cc0_scoped4.sem) 0)
      ⊢ iprop((iprop(semVal (tcV d L, .dma cc0_scoped1.sem) 0
        ∗ semVal (tcV d L, .dma cc0_scoped2.sem) 0
        ∗ semVal (tcV d L, .dma cc0_scoped3.sem) 0
        ∗ OW (F := F) (tcV d L) (O) W
        ∗ TF (F := F) d L s t 3 cc0_scoped4.sem q)
        -∗ Q (fun _ => pw L s t 3))
        -∗ wpT d L (k0_part28 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) k0_pay34) Q) := by
  have hw := lt16 L
  rw [k0_part28_eq_skeleton]
  unfold k0_part28_skel
  iintro ⟨#Hm, HO, HT, Hr2, Hr3, Hr4⟩ HQ
  iapply (wt_tot d L s t 0 (by decide) q) $$ [HT HO]
  · isplitr; · iexact Hm
    isplitl [HT]; · iexact HT
    iexact HO
  iintro ⟨Hts, Htot, Hr1, HO⟩
  iapply (wp_ld (F := F) (c := tcV d L) 𝒱₀ none Set.univ (m := totM) (off := ![0]) (g := fun _ => tw s t 0) (A := Finset.range 16) (fun j hj => Finset.mem_range.mpr (by have hj' : j < 16 := hj; show 0 + j < 16; omega))) $$ Htot
  iintro Htot
  iapply (cp_tot d L s t 1 (by decide) q (fun _ => tw s t 0) (show (![16] : Fin 1 → ℕ) 0 = 16 * 1 from rfl)) $$ [Hts Htot Hr2]
  · isplitl [Hts]; · iexact Hts
    isplitl [Htot]; · iexact Htot
    iexact Hr2
  iintro HT
  iapply (wt_tot d L s t 1 (by decide) q) $$ [HT HO]
  · isplitr; · iexact Hm
    isplitl [HT]; · iexact HT
    iexact HO
  iintro ⟨Hts, Htot, Hr2, HO⟩
  iapply (wp_ld (F := F) (c := tcV d L) 𝒱₀ none Set.univ (m := totM) (off := ![0]) (g := fun _ => tw s t 1) (A := Finset.range 16) (fun j hj => Finset.mem_range.mpr (by have hj' : j < 16 := hj; show 0 + j < 16; omega))) $$ Htot
  iintro Htot
  iapply (cp_tot d L s t 2 (by decide) q (fun _ => tw s t 1) (show (![32] : Fin 1 → ℕ) 0 = 16 * 2 from rfl)) $$ [Hts Htot Hr3]
  · isplitl [Hts]; · iexact Hts
    isplitl [Htot]; · iexact Htot
    iexact Hr3
  iintro HT
  iapply (wt_tot d L s t 2 (by decide) q) $$ [HT HO]
  · isplitr; · iexact Hm
    isplitl [HT]; · iexact HT
    iexact HO
  iintro ⟨Hts, Htot, Hr3, HO⟩
  iapply (wp_ld (F := F) (c := tcV d L) 𝒱₀ none Set.univ (m := totM) (off := ![0]) (g := fun _ => tw s t 2) (A := Finset.range 16) (fun j hj => Finset.mem_range.mpr (by have hj' : j < 16 := hj; show 0 + j < 16; omega))) $$ Htot
  iintro Htot
  iapply (cp_tot d L s t 3 (by decide) q (fun _ => tw s t 2) (show (![48] : Fin 1 → ℕ) 0 = 16 * 3 from rfl)) $$ [Hts Htot Hr4]
  · isplitl [Hts]; · iexact Hts
    isplitl [Htot]; · iexact Htot
    iexact Hr4
  iintro HT
  iapply (wp_fin' (F := F) (pay78_eq L s t))
  iapply HQ
  isplitl [Hr1]; · iexact Hr1
  isplitl [Hr2]; · iexact Hr2
  isplitl [Hr3]; · iexact Hr3
  isplitl [HO]; · iexact HO
  iexact HT

theorem part29 {q : PosShare TreeShare} {Q : (IVec S16 32) → sProp (MT nD τ sig (HIx 4) (Elt F) ℕ UU ℕ)} :
    iprop(Transfers.MayWaits (tcV d L) none (O)
        ∗ OW (F := F) (tcV d L) (O) W
        ∗ TF (F := F) d L s t 3 cc0_scoped4.sem q
        ∗ semVal (tcV d L, .dma cc0_scoped5.sem) 0
        ∗ semVal (tcV d L, .dma cc0_scoped6.sem) 0
        ∗ semVal (tcV d L, .dma cc0_scoped7.sem) 0)
      ⊢ iprop((iprop(semVal (tcV d L, .dma cc0_scoped4.sem) 0
        ∗ semVal (tcV d L, .dma cc0_scoped5.sem) 0
        ∗ semVal (tcV d L, .dma cc0_scoped6.sem) 0
        ∗ OW (F := F) (tcV d L) (O) W
        ∗ TF (F := F) d L s t 6 cc0_scoped7.sem q)
        -∗ Q (fun _ => pw L s t 6))
        -∗ wpT d L (k0_part29 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 3)) Q) := by
  have hw := lt16 L
  rw [k0_part29_eq_skeleton]
  unfold k0_part29_skel
  iintro ⟨#Hm, HO, HT, Hr5, Hr6, Hr7⟩ HQ
  iapply (wt_tot d L s t 3 (by decide) q) $$ [HT HO]
  · isplitr; · iexact Hm
    isplitl [HT]; · iexact HT
    iexact HO
  iintro ⟨Hts, Htot, Hr4, HO⟩
  iapply (wp_ld (F := F) (c := tcV d L) 𝒱₀ none Set.univ (m := totM) (off := ![0]) (g := fun _ => tw s t 3) (A := Finset.range 16) (fun j hj => Finset.mem_range.mpr (by have hj' : j < 16 := hj; show 0 + j < 16; omega))) $$ Htot
  iintro Htot
  iapply (cp_tot d L s t 4 (by decide) q (fun _ => tw s t 3) (show (![64] : Fin 1 → ℕ) 0 = 16 * 4 from rfl)) $$ [Hts Htot Hr5]
  · isplitl [Hts]; · iexact Hts
    isplitl [Htot]; · iexact Htot
    iexact Hr5
  iintro HT
  iapply (wt_tot d L s t 4 (by decide) q) $$ [HT HO]
  · isplitr; · iexact Hm
    isplitl [HT]; · iexact HT
    iexact HO
  iintro ⟨Hts, Htot, Hr5, HO⟩
  iapply (wp_ld (F := F) (c := tcV d L) 𝒱₀ none Set.univ (m := totM) (off := ![0]) (g := fun _ => tw s t 4) (A := Finset.range 16) (fun j hj => Finset.mem_range.mpr (by have hj' : j < 16 := hj; show 0 + j < 16; omega))) $$ Htot
  iintro Htot
  iapply (cp_tot d L s t 5 (by decide) q (fun _ => tw s t 4) (show (![80] : Fin 1 → ℕ) 0 = 16 * 5 from rfl)) $$ [Hts Htot Hr6]
  · isplitl [Hts]; · iexact Hts
    isplitl [Htot]; · iexact Htot
    iexact Hr6
  iintro HT
  iapply (wt_tot d L s t 5 (by decide) q) $$ [HT HO]
  · isplitr; · iexact Hm
    isplitl [HT]; · iexact HT
    iexact HO
  iintro ⟨Hts, Htot, Hr6, HO⟩
  iapply (wp_ld (F := F) (c := tcV d L) 𝒱₀ none Set.univ (m := totM) (off := ![0]) (g := fun _ => tw s t 5) (A := Finset.range 16) (fun j hj => Finset.mem_range.mpr (by have hj' : j < 16 := hj; show 0 + j < 16; omega))) $$ Htot
  iintro Htot
  iapply (cp_tot d L s t 6 (by decide) q (fun _ => tw s t 5) (show (![96] : Fin 1 → ℕ) 0 = 16 * 6 from rfl)) $$ [Hts Htot Hr7]
  · isplitl [Hts]; · iexact Hts
    isplitl [Htot]; · iexact Htot
    iexact Hr7
  iintro HT
  iapply (wp_fin' (F := F) (pay79_eq L s t))
  iapply HQ
  isplitl [Hr4]; · iexact Hr4
  isplitl [Hr5]; · iexact Hr5
  isplitl [Hr6]; · iexact Hr6
  isplitl [HO]; · iexact HO
  iexact HT

theorem part30 {q : PosShare TreeShare} {Q : (IVec S16 32) → sProp (MT nD τ sig (HIx 4) (Elt F) ℕ UU ℕ)} :
    iprop(Transfers.MayWaits (tcV d L) none (O)
        ∗ OW (F := F) (tcV d L) (O) W
        ∗ TF (F := F) d L s t 6 cc0_scoped7.sem q
        ∗ semVal (tcV d L, .dma cc0_scoped8.sem) 0
        ∗ semVal (tcV d L, .dma cc0_scoped9.sem) 0
        ∗ semVal (tcV d L, .dma cc0_scoped10.sem) 0)
      ⊢ iprop((iprop(semVal (tcV d L, .dma cc0_scoped7.sem) 0
        ∗ semVal (tcV d L, .dma cc0_scoped8.sem) 0
        ∗ semVal (tcV d L, .dma cc0_scoped9.sem) 0
        ∗ OW (F := F) (tcV d L) (O) W
        ∗ TF (F := F) d L s t 9 cc0_scoped10.sem q)
        -∗ Q (fun _ => pw L s t 9))
        -∗ wpT d L (k0_part30 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 6)) Q) := by
  have hw := lt16 L
  rw [k0_part30_eq_skeleton]
  unfold k0_part30_skel
  iintro ⟨#Hm, HO, HT, Hr8, Hr9, Hr10⟩ HQ
  iapply (wt_tot d L s t 6 (by decide) q) $$ [HT HO]
  · isplitr; · iexact Hm
    isplitl [HT]; · iexact HT
    iexact HO
  iintro ⟨Hts, Htot, Hr7, HO⟩
  iapply (wp_ld (F := F) (c := tcV d L) 𝒱₀ none Set.univ (m := totM) (off := ![0]) (g := fun _ => tw s t 6) (A := Finset.range 16) (fun j hj => Finset.mem_range.mpr (by have hj' : j < 16 := hj; show 0 + j < 16; omega))) $$ Htot
  iintro Htot
  iapply (cp_tot d L s t 7 (by decide) q (fun _ => tw s t 6) (show (![112] : Fin 1 → ℕ) 0 = 16 * 7 from rfl)) $$ [Hts Htot Hr8]
  · isplitl [Hts]; · iexact Hts
    isplitl [Htot]; · iexact Htot
    iexact Hr8
  iintro HT
  iapply (wt_tot d L s t 7 (by decide) q) $$ [HT HO]
  · isplitr; · iexact Hm
    isplitl [HT]; · iexact HT
    iexact HO
  iintro ⟨Hts, Htot, Hr8, HO⟩
  iapply (wp_ld (F := F) (c := tcV d L) 𝒱₀ none Set.univ (m := totM) (off := ![0]) (g := fun _ => tw s t 7) (A := Finset.range 16) (fun j hj => Finset.mem_range.mpr (by have hj' : j < 16 := hj; show 0 + j < 16; omega))) $$ Htot
  iintro Htot
  iapply (cp_tot d L s t 8 (by decide) q (fun _ => tw s t 7) (show (![128] : Fin 1 → ℕ) 0 = 16 * 8 from rfl)) $$ [Hts Htot Hr9]
  · isplitl [Hts]; · iexact Hts
    isplitl [Htot]; · iexact Htot
    iexact Hr9
  iintro HT
  iapply (wt_tot d L s t 8 (by decide) q) $$ [HT HO]
  · isplitr; · iexact Hm
    isplitl [HT]; · iexact HT
    iexact HO
  iintro ⟨Hts, Htot, Hr9, HO⟩
  iapply (wp_ld (F := F) (c := tcV d L) 𝒱₀ none Set.univ (m := totM) (off := ![0]) (g := fun _ => tw s t 8) (A := Finset.range 16) (fun j hj => Finset.mem_range.mpr (by have hj' : j < 16 := hj; show 0 + j < 16; omega))) $$ Htot
  iintro Htot
  iapply (cp_tot d L s t 9 (by decide) q (fun _ => tw s t 8) (show (![144] : Fin 1 → ℕ) 0 = 16 * 9 from rfl)) $$ [Hts Htot Hr10]
  · isplitl [Hts]; · iexact Hts
    isplitl [Htot]; · iexact Htot
    iexact Hr10
  iintro HT
  iapply (wp_fin' (F := F) (pay80_eq L s t))
  iapply HQ
  isplitl [Hr7]; · iexact Hr7
  isplitl [Hr8]; · iexact Hr8
  isplitl [Hr9]; · iexact Hr9
  isplitl [HO]; · iexact HO
  iexact HT

theorem part31 {q : PosShare TreeShare} {Q : (IVec S16 32) → sProp (MT nD τ sig (HIx 4) (Elt F) ℕ UU ℕ)} :
    iprop(Transfers.MayWaits (tcV d L) none (O)
        ∗ OW (F := F) (tcV d L) (O) W
        ∗ TF (F := F) d L s t 9 cc0_scoped10.sem q
        ∗ semVal (tcV d L, .dma cc0_scoped11.sem) 0
        ∗ semVal (tcV d L, .dma cc0_scoped12.sem) 0
        ∗ semVal (tcV d L, .dma cc0_scoped13.sem) 0)
      ⊢ iprop((iprop(semVal (tcV d L, .dma cc0_scoped10.sem) 0
        ∗ semVal (tcV d L, .dma cc0_scoped11.sem) 0
        ∗ semVal (tcV d L, .dma cc0_scoped12.sem) 0
        ∗ OW (F := F) (tcV d L) (O) W
        ∗ TF (F := F) d L s t 12 cc0_scoped13.sem q)
        -∗ Q (fun _ => pw L s t 12))
        -∗ wpT d L (k0_part31 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 9)) Q) := by
  have hw := lt16 L
  rw [k0_part31_eq_skeleton]
  unfold k0_part31_skel
  iintro ⟨#Hm, HO, HT, Hr11, Hr12, Hr13⟩ HQ
  iapply (wt_tot d L s t 9 (by decide) q) $$ [HT HO]
  · isplitr; · iexact Hm
    isplitl [HT]; · iexact HT
    iexact HO
  iintro ⟨Hts, Htot, Hr10, HO⟩
  iapply (wp_ld (F := F) (c := tcV d L) 𝒱₀ none Set.univ (m := totM) (off := ![0]) (g := fun _ => tw s t 9) (A := Finset.range 16) (fun j hj => Finset.mem_range.mpr (by have hj' : j < 16 := hj; show 0 + j < 16; omega))) $$ Htot
  iintro Htot
  iapply (cp_tot d L s t 10 (by decide) q (fun _ => tw s t 9) (show (![160] : Fin 1 → ℕ) 0 = 16 * 10 from rfl)) $$ [Hts Htot Hr11]
  · isplitl [Hts]; · iexact Hts
    isplitl [Htot]; · iexact Htot
    iexact Hr11
  iintro HT
  iapply (wt_tot d L s t 10 (by decide) q) $$ [HT HO]
  · isplitr; · iexact Hm
    isplitl [HT]; · iexact HT
    iexact HO
  iintro ⟨Hts, Htot, Hr11, HO⟩
  iapply (wp_ld (F := F) (c := tcV d L) 𝒱₀ none Set.univ (m := totM) (off := ![0]) (g := fun _ => tw s t 10) (A := Finset.range 16) (fun j hj => Finset.mem_range.mpr (by have hj' : j < 16 := hj; show 0 + j < 16; omega))) $$ Htot
  iintro Htot
  iapply (cp_tot d L s t 11 (by decide) q (fun _ => tw s t 10) (show (![176] : Fin 1 → ℕ) 0 = 16 * 11 from rfl)) $$ [Hts Htot Hr12]
  · isplitl [Hts]; · iexact Hts
    isplitl [Htot]; · iexact Htot
    iexact Hr12
  iintro HT
  iapply (wt_tot d L s t 11 (by decide) q) $$ [HT HO]
  · isplitr; · iexact Hm
    isplitl [HT]; · iexact HT
    iexact HO
  iintro ⟨Hts, Htot, Hr12, HO⟩
  iapply (wp_ld (F := F) (c := tcV d L) 𝒱₀ none Set.univ (m := totM) (off := ![0]) (g := fun _ => tw s t 11) (A := Finset.range 16) (fun j hj => Finset.mem_range.mpr (by have hj' : j < 16 := hj; show 0 + j < 16; omega))) $$ Htot
  iintro Htot
  iapply (cp_tot d L s t 12 (by decide) q (fun _ => tw s t 11) (show (![192] : Fin 1 → ℕ) 0 = 16 * 12 from rfl)) $$ [Hts Htot Hr13]
  · isplitl [Hts]; · iexact Hts
    isplitl [Htot]; · iexact Htot
    iexact Hr13
  iintro HT
  iapply (wp_fin' (F := F) (pay81_eq L s t))
  iapply HQ
  isplitl [Hr10]; · iexact Hr10
  isplitl [Hr11]; · iexact Hr11
  isplitl [Hr12]; · iexact Hr12
  isplitl [HO]; · iexact HO
  iexact HT

theorem part32 {q : PosShare TreeShare} {Q : (IVec S16 32) → sProp (MT nD τ sig (HIx 4) (Elt F) ℕ UU ℕ)} :
    iprop(Transfers.MayWaits (tcV d L) none (O)
        ∗ OW (F := F) (tcV d L) (O) W
        ∗ TF (F := F) d L s t 12 cc0_scoped13.sem q
        ∗ semVal (tcV d L, .dma cc0_scoped14.sem) 0
        ∗ semVal (tcV d L, .dma cc0_scoped15.sem) 0
        ∗ semVal (tcV d L, .dma cc0_scoped16.sem) 0)
      ⊢ iprop((iprop(semVal (tcV d L, .dma cc0_scoped13.sem) 0
        ∗ semVal (tcV d L, .dma cc0_scoped14.sem) 0
        ∗ semVal (tcV d L, .dma cc0_scoped15.sem) 0
        ∗ OW (F := F) (tcV d L) (O) W
        ∗ TF (F := F) d L s t 15 cc0_scoped16.sem q)
        -∗ Q (fun _ => pw L s t 15))
        -∗ wpT d L (k0_part32 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 12)) Q) := by
  have hw := lt16 L
  rw [k0_part32_eq_skeleton]
  unfold k0_part32_skel
  iintro ⟨#Hm, HO, HT, Hr14, Hr15, Hr16⟩ HQ
  iapply (wt_tot d L s t 12 (by decide) q) $$ [HT HO]
  · isplitr; · iexact Hm
    isplitl [HT]; · iexact HT
    iexact HO
  iintro ⟨Hts, Htot, Hr13, HO⟩
  iapply (wp_ld (F := F) (c := tcV d L) 𝒱₀ none Set.univ (m := totM) (off := ![0]) (g := fun _ => tw s t 12) (A := Finset.range 16) (fun j hj => Finset.mem_range.mpr (by have hj' : j < 16 := hj; show 0 + j < 16; omega))) $$ Htot
  iintro Htot
  iapply (cp_tot d L s t 13 (by decide) q (fun _ => tw s t 12) (show (![208] : Fin 1 → ℕ) 0 = 16 * 13 from rfl)) $$ [Hts Htot Hr14]
  · isplitl [Hts]; · iexact Hts
    isplitl [Htot]; · iexact Htot
    iexact Hr14
  iintro HT
  iapply (wt_tot d L s t 13 (by decide) q) $$ [HT HO]
  · isplitr; · iexact Hm
    isplitl [HT]; · iexact HT
    iexact HO
  iintro ⟨Hts, Htot, Hr14, HO⟩
  iapply (wp_ld (F := F) (c := tcV d L) 𝒱₀ none Set.univ (m := totM) (off := ![0]) (g := fun _ => tw s t 13) (A := Finset.range 16) (fun j hj => Finset.mem_range.mpr (by have hj' : j < 16 := hj; show 0 + j < 16; omega))) $$ Htot
  iintro Htot
  iapply (cp_tot d L s t 14 (by decide) q (fun _ => tw s t 13) (show (![224] : Fin 1 → ℕ) 0 = 16 * 14 from rfl)) $$ [Hts Htot Hr15]
  · isplitl [Hts]; · iexact Hts
    isplitl [Htot]; · iexact Htot
    iexact Hr15
  iintro HT
  iapply (wt_tot d L s t 14 (by decide) q) $$ [HT HO]
  · isplitr; · iexact Hm
    isplitl [HT]; · iexact HT
    iexact HO
  iintro ⟨Hts, Htot, Hr15, HO⟩
  iapply (wp_ld (F := F) (c := tcV d L) 𝒱₀ none Set.univ (m := totM) (off := ![0]) (g := fun _ => tw s t 14) (A := Finset.range 16) (fun j hj => Finset.mem_range.mpr (by have hj' : j < 16 := hj; show 0 + j < 16; omega))) $$ Htot
  iintro Htot
  iapply (cp_tot d L s t 15 (by decide) q (fun _ => tw s t 14) (show (![240] : Fin 1 → ℕ) 0 = 16 * 15 from rfl)) $$ [Hts Htot Hr16]
  · isplitl [Hts]; · iexact Hts
    isplitl [Htot]; · iexact Htot
    iexact Hr16
  iintro HT
  iapply (wp_fin' (F := F) (pay82_eq L s t))
  iapply HQ
  isplitl [Hr13]; · iexact Hr13
  isplitl [Hr14]; · iexact Hr14
  isplitl [Hr15]; · iexact Hr15
  isplitl [HO]; · iexact HO
  iexact HT

theorem part33 {q : PosShare TreeShare} {Q : (IVec S16 32) → sProp (MT nD τ sig (HIx 4) (Elt F) ℕ UU ℕ)} :
    iprop(Transfers.MayWaits (tcV d L) none (O)
        ∗ OW (F := F) (tcV d L) (O) W
        ∗ TF (F := F) d L s t 15 cc0_scoped16.sem q
        ∗ So (F := F) d L s t 0)
      ⊢ iprop((iprop(PS (F := F) (tcV d L) tsM (Finset.range 256) q (TT s t)
        ∗ semVal (tcV d L, .dma cc0_scoped16.sem) 0
        ∗ OW (F := F) (tcV d L) (O) W
        ∗ PS (F := F) (tcV d L) totM (Finset.range 16) fullShare (fun _ => tw s t 15)
        ∗ Sm (F := F) d L s t 2)
        -∗ Q (fun _ => pw L s t 16))
        -∗ wpT d L (k0_part33 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 15)) Q) := by
  have hw := lt16 L
  rw [k0_part33_eq_skeleton]
  unfold k0_part33_skel
  iintro ⟨#Hm, HO, HT, HS⟩ HQ
  iapply (wt_tot d L s t 15 (by decide) q) $$ [HT HO]
  · isplitr; · iexact Hm
    isplitl [HT]; · iexact HT
    iexact HO
  iintro ⟨Hts, Htot, Hr16, HO⟩
  iapply (wp_ld (F := F) (c := tcV d L) 𝒱₀ none Set.univ (m := totM) (off := ![0]) (g := fun _ => tw s t 15) (A := Finset.range 16) (fun j hj => Finset.mem_range.mpr (by have hj' : j < 16 := hj; show 0 + j < 16; omega))) $$ Htot
  iintro Htot
  iapply (lp_out d L s t 0 (by decide) (by decide +kernel) (fun (n : Fin k0_t37_loop.trips) _ => otrip d L s t 0 n.val (by decide) n.isLt (congrFun (k0_off79_eq n) 0) (congrFun (k0_off80_eq n) 0) (pay83_eq L s t))) $$ HS
  iintro %_ HS
  iapply (cp_o d L s t 0 (by decide) (show k0_off11 L 0#32 0 = 10240 * 0 + 640 * (L 1).val from congrFun (k0_off11_eq L 0) 0) (show (![0] : Fin 1 → ℕ) 0 = 640 * 0 from rfl)) $$ HS
  iintro HS
  iapply (lp_out d L s t 1 (by decide) (by decide +kernel) (fun (n : Fin k0_t38_loop.trips) _ => otrip d L s t 1 n.val (by decide) n.isLt (congrFun (k0_off81_eq n) 0) (congrFun (k0_off82_eq n) 0) (pay83_eq L s t))) $$ HS
  iintro %_ HS
  iapply (cp_o d L s t 1 (by decide) (show k0_off11 L 10240#32 0 = 10240 * 1 + 640 * (L 1).val from congrFun (k0_off11_eq L 1) 0) (show (![640] : Fin 1 → ℕ) 0 = 640 * 1 from rfl)) $$ HS
  iintro HS
  iapply (lp_out d L s t 2 (by decide) (by decide +kernel) (fun (n : Fin k0_t39_loop.trips) _ => otrip d L s t 2 n.val (by decide) n.isLt (congrFun (k0_off83_eq n) 0) (congrFun (k0_off84_eq n) 0) (pay83_eq L s t))) $$ HS
  iintro %_ HS
  iapply (wp_fin' (F := F) (pvec_step L s t 15 (by decide)))
  iapply HQ
  isplitl [Hts]; · iexact Hts
  isplitl [Hr16]; · iexact Hr16
  isplitl [HO]; · iexact HO
  isplitl [Htot]; · iexact Htot
  iexact HS

end Part2c

end Cert.Proof.Sorting
-- ==== Proof.Part2d.lean ====
/-
The task's second stretch: the first places handed back.
-/
module

public import proofs.«01_k».proof.Proof.Joins

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Part2d
variable (d : Dev nD) (L : grid0.Coords) (s t : ℕ → BitVec 32) {O : CellTallies nD τ sig (HIx 4)} {W : Waits sig (HIx 4)}

theorem part34 {Q : (BitVec 32) → sProp (MT nD τ sig (HIx 4) (Elt F) ℕ UU ℕ)} :
    iprop(Sm (F := F) d L s t 2)
      ⊢ iprop((Sm (F := F) d L s t 6
        -∗ Q 640#32)
        -∗ wpT d L (k0_part34 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 16)) Q) := by
  have hw := lt16 L
  rw [k0_part34_eq_skeleton]
  unfold k0_part34_skel
  iintro HS HQ
  iapply (cp_o d L s t 2 (by decide) (show k0_off11 L 20480#32 0 = 10240 * 2 + 640 * (L 1).val from congrFun (k0_off11_eq L 2) 0) (show (![1280] : Fin 1 → ℕ) 0 = 640 * 2 from rfl)) $$ HS
  iintro HS
  iapply (lp_out d L s t 3 (by decide) (by decide +kernel) (fun (n : Fin k0_t40_loop.trips) _ => otrip d L s t 3 n.val (by decide) n.isLt (congrFun (k0_off85_eq n) 0) (congrFun (k0_off86_eq n) 0) (fun _ _ => rfl))) $$ HS
  iintro %_ HS
  iapply (cp_o d L s t 3 (by decide) (show k0_off11 L 30720#32 0 = 10240 * 3 + 640 * (L 1).val from congrFun (k0_off11_eq L 3) 0) (show (![1920] : Fin 1 → ℕ) 0 = 640 * 3 from rfl)) $$ HS
  iintro HS
  iapply (lp_out d L s t 4 (by decide) (by decide +kernel) (fun (n : Fin k0_t41_loop.trips) _ => otrip d L s t 4 n.val (by decide) n.isLt (congrFun (k0_off87_eq n) 0) (congrFun (k0_off88_eq n) 0) (fun _ _ => rfl))) $$ HS
  iintro %_ HS
  iapply (cp_o d L s t 4 (by decide) (show k0_off11 L 40960#32 0 = 10240 * 4 + 640 * (L 1).val from congrFun (k0_off11_eq L 4) 0) (show (![2560] : Fin 1 → ℕ) 0 = 640 * 4 from rfl)) $$ HS
  iintro HS
  iapply (lp_out d L s t 5 (by decide) (by decide +kernel) (fun (n : Fin k0_t42_loop.trips) _ => otrip d L s t 5 n.val (by decide) n.isLt (congrFun (k0_off89_eq n) 0) (congrFun (k0_off90_eq n) 0) (fun _ _ => rfl))) $$ HS
  iintro %_ HS
  iapply (cp_o d L s t 5 (by decide) (show k0_off11 L 51200#32 0 = 10240 * 5 + 640 * (L 1).val from congrFun (k0_off11_eq L 5) 0) (show (![3200] : Fin 1 → ℕ) 0 = 640 * 5 from rfl)) $$ HS
  iintro HS
  iapply (lp_out d L s t 6 (by decide) (by decide +kernel) (fun (n : Fin k0_t43_loop.trips) _ => otrip d L s t 6 n.val (by decide) n.isLt (congrFun (k0_off91_eq n) 0) (congrFun (k0_off92_eq n) 0) (fun _ _ => rfl))) $$ HS
  iintro %_ HS
  iapply (wp_fin (F := F))
  iapply HQ
  iexact HS

theorem part35 {a1 : BitVec 32} {Q : (PUnit) → sProp (MT nD τ sig (HIx 4) (Elt F) ℕ UU ℕ)} :
    iprop(Sm (F := F) d L s t 6)
      ⊢ iprop((Sm (F := F) d L s t 9
        -∗ Q ⟨⟩)
        -∗ wpT d L (k0_part35 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 16) a1) Q) := by
  have hw := lt16 L
  rw [k0_part35_eq_skeleton]
  unfold k0_part35_skel
  iintro HS HQ
  iapply (cp_o d L s t 6 (by decide) (show k0_off11 L 61440#32 0 = 10240 * 6 + 640 * (L 1).val from congrFun (k0_off11_eq L 6) 0) (show (![3840] : Fin 1 → ℕ) 0 = 640 * 6 from rfl)) $$ HS
  iintro HS
  iapply (lp_out d L s t 7 (by decide) (by decide +kernel) (fun (n : Fin k0_t44_loop.trips) _ => otrip d L s t 7 n.val (by decide) n.isLt (congrFun (k0_off93_eq n) 0) (congrFun (k0_off94_eq n) 0) (fun _ _ => rfl))) $$ HS
  iintro %_ HS
  iapply (cp_o d L s t 7 (by decide) (show k0_off11 L 71680#32 0 = 10240 * 7 + 640 * (L 1).val from congrFun (k0_off11_eq L 7) 0) (show (![4480] : Fin 1 → ℕ) 0 = 640 * 7 from rfl)) $$ HS
  iintro HS
  iapply (lp_out d L s t 8 (by decide) (by decide +kernel) (fun (n : Fin k0_t45_loop.trips) _ => otrip d L s t 8 n.val (by decide) n.isLt (congrFun (k0_off95_eq n) 0) (congrFun (k0_off96_eq n) 0) (fun _ _ => rfl))) $$ HS
  iintro %_ HS
  iapply (cp_o d L s t 8 (by decide) (show k0_off11 L 81920#32 0 = 10240 * 8 + 640 * (L 1).val from congrFun (k0_off11_eq L 8) 0) (show (![5120] : Fin 1 → ℕ) 0 = 640 * 8 from rfl)) $$ HS
  iintro HS
  iapply (lp_out d L s t 9 (by decide) (by decide +kernel) (fun (n : Fin k0_t46_loop.trips) _ => otrip d L s t 9 n.val (by decide) n.isLt (congrFun (k0_off97_eq n) 0) (congrFun (k0_off98_eq n) 0) (fun _ _ => rfl))) $$ HS
  iintro %_ HS
  iapply (wp_fin (F := F))
  iapply HQ
  iexact HS

theorem part36 {Q : (BitVec 32) → sProp (MT nD τ sig (HIx 4) (Elt F) ℕ UU ℕ)} :
    iprop(Sm (F := F) d L s t 9)
      ⊢ iprop((Sm (F := F) d L s t 13
        -∗ Q (Scalar.muli (BitVec.ofNat 32 (L 1).val) 640#32))
        -∗ wpT d L (k0_part36 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 16)) Q) := by
  have hw := lt16 L
  rw [k0_part36_eq_skeleton]
  unfold k0_part36_skel
  iintro HS HQ
  iapply (cp_o d L s t 9 (by decide) (show k0_off11 L 92160#32 0 = 10240 * 9 + 640 * (L 1).val from congrFun (k0_off11_eq L 9) 0) (show (![5760] : Fin 1 → ℕ) 0 = 640 * 9 from rfl)) $$ HS
  iintro HS
  iapply (lp_out d L s t 10 (by decide) (by decide +kernel) (fun (n : Fin k0_t47_loop.trips) _ => otrip d L s t 10 n.val (by decide) n.isLt (congrFun (k0_off99_eq n) 0) (congrFun (k0_off100_eq n) 0) (fun _ _ => rfl))) $$ HS
  iintro %_ HS
  iapply (cp_o d L s t 10 (by decide) (show k0_off11 L 102400#32 0 = 10240 * 10 + 640 * (L 1).val from congrFun (k0_off11_eq L 10) 0) (show (![6400] : Fin 1 → ℕ) 0 = 640 * 10 from rfl)) $$ HS
  iintro HS
  iapply (lp_out d L s t 11 (by decide) (by decide +kernel) (fun (n : Fin k0_t48_loop.trips) _ => otrip d L s t 11 n.val (by decide) n.isLt (congrFun (k0_off101_eq n) 0) (congrFun (k0_off102_eq n) 0) (fun _ _ => rfl))) $$ HS
  iintro %_ HS
  iapply (cp_o d L s t 11 (by decide) (show k0_off11 L 112640#32 0 = 10240 * 11 + 640 * (L 1).val from congrFun (k0_off11_eq L 11) 0) (show (![7040] : Fin 1 → ℕ) 0 = 640 * 11 from rfl)) $$ HS
  iintro HS
  iapply (lp_out d L s t 12 (by decide) (by decide +kernel) (fun (n : Fin k0_t49_loop.trips) _ => otrip d L s t 12 n.val (by decide) n.isLt (congrFun (k0_off103_eq n) 0) (congrFun (k0_off104_eq n) 0) (fun _ _ => rfl))) $$ HS
  iintro %_ HS
  iapply (cp_o d L s t 12 (by decide) (show k0_off11 L 122880#32 0 = 10240 * 12 + 640 * (L 1).val from congrFun (k0_off11_eq L 12) 0) (show (![7680] : Fin 1 → ℕ) 0 = 640 * 12 from rfl)) $$ HS
  iintro HS
  iapply (lp_out d L s t 13 (by decide) (by decide +kernel) (fun (n : Fin k0_t50_loop.trips) _ => otrip d L s t 13 n.val (by decide) n.isLt (congrFun (k0_off105_eq n) 0) (congrFun (k0_off106_eq n) 0) (fun _ _ => rfl))) $$ HS
  iintro %_ HS
  iapply (wp_fin (F := F))
  iapply HQ
  iexact HS

theorem part37 {a1 : BitVec 32} {Q : (PUnit) → sProp (MT nD τ sig (HIx 4) (Elt F) ℕ UU ℕ)} :
    iprop(Sm (F := F) d L s t 13)
      ⊢ iprop((So (F := F) d L s t 17
        -∗ Q ⟨⟩)
        -∗ wpT d L (k0_part37 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 16) a1) Q) := by
  have hw := lt16 L
  rw [k0_part37_eq_skeleton]
  unfold k0_part37_skel
  iintro HS HQ
  iapply (cp_o d L s t 13 (by decide) (show k0_off11 L 133120#32 0 = 10240 * 13 + 640 * (L 1).val from congrFun (k0_off11_eq L 13) 0) (show (![8320] : Fin 1 → ℕ) 0 = 640 * 13 from rfl)) $$ HS
  iintro HS
  iapply (lp_out d L s t 14 (by decide) (by decide +kernel) (fun (n : Fin k0_t51_loop.trips) _ => otrip d L s t 14 n.val (by decide) n.isLt (congrFun (k0_off107_eq n) 0) (congrFun (k0_off108_eq n) 0) (fun _ _ => rfl))) $$ HS
  iintro %_ HS
  iapply (cp_o d L s t 14 (by decide) (show k0_off11 L 143360#32 0 = 10240 * 14 + 640 * (L 1).val from congrFun (k0_off11_eq L 14) 0) (show (![8960] : Fin 1 → ℕ) 0 = 640 * 14 from rfl)) $$ HS
  iintro HS
  iapply (lp_out d L s t 15 (by decide) (by decide +kernel) (fun (n : Fin k0_t52_loop.trips) _ => otrip d L s t 15 n.val (by decide) n.isLt (congrFun (k0_off109_eq n) 0) (congrFun (k0_off110_eq n) 0) (fun _ _ => rfl))) $$ HS
  iintro %_ HS
  iapply (cp_o d L s t 15 (by decide) (show k0_off11 L 153600#32 0 = 10240 * 15 + 640 * (L 1).val from congrFun (k0_off11_eq L 15) 0) (show (![9600] : Fin 1 → ℕ) 0 = 640 * 15 from rfl)) $$ HS
  iintro HS
  iapply (lp_out d L s t 16 (by decide) (by decide +kernel) (fun (n : Fin k0_t53_loop.trips) _ => otrip d L s t 16 n.val (by decide) n.isLt (congrFun (k0_off111_eq n) 0) (congrFun (k0_off112_eq n) 0) (fun _ _ => rfl))) $$ HS
  iintro %_ HS
  iapply (cp_o d L s t 16 (by decide) (show k0_off11 L 163840#32 0 = 10240 * 16 + 640 * (L 1).val from congrFun (k0_off11_eq L 16) 0) (show (![10240] : Fin 1 → ℕ) 0 = 640 * 16 from rfl)) $$ HS
  iintro HS
  iapply (wp_fin (F := F))
  iapply HQ
  iexact HS

theorem part38 {Q : (Σ' (_ : BitVec 32), BitVec 32) → sProp (MT nD τ sig (HIx 4) (Elt F) ℕ UU ℕ)} :
    iprop(So (F := F) d L s t 17)
      ⊢ iprop((Sm (F := F) d L s t 20
        -∗ Q ⟨Scalar.muli (BitVec.ofNat 32 (L 1).val) 640#32, 204800#32⟩)
        -∗ wpT d L (k0_part38 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 16)) Q) := by
  have hw := lt16 L
  rw [k0_part38_eq_skeleton]
  unfold k0_part38_skel
  iintro HS HQ
  iapply (lp_out d L s t 17 (by decide) (by decide +kernel) (fun (n : Fin k0_t54_loop.trips) _ => otrip d L s t 17 n.val (by decide) n.isLt (congrFun (k0_off113_eq n) 0) (congrFun (k0_off114_eq n) 0) (fun _ _ => rfl))) $$ HS
  iintro %_ HS
  iapply (cp_o d L s t 17 (by decide) (show k0_off11 L 174080#32 0 = 10240 * 17 + 640 * (L 1).val from congrFun (k0_off11_eq L 17) 0) (show (![10880] : Fin 1 → ℕ) 0 = 640 * 17 from rfl)) $$ HS
  iintro HS
  iapply (lp_out d L s t 18 (by decide) (by decide +kernel) (fun (n : Fin k0_t55_loop.trips) _ => otrip d L s t 18 n.val (by decide) n.isLt (congrFun (k0_off115_eq n) 0) (congrFun (k0_off116_eq n) 0) (fun _ _ => rfl))) $$ HS
  iintro %_ HS
  iapply (cp_o d L s t 18 (by decide) (show k0_off11 L 184320#32 0 = 10240 * 18 + 640 * (L 1).val from congrFun (k0_off11_eq L 18) 0) (show (![11520] : Fin 1 → ℕ) 0 = 640 * 18 from rfl)) $$ HS
  iintro HS
  iapply (lp_out d L s t 19 (by decide) (by decide +kernel) (fun (n : Fin k0_t56_loop.trips) _ => otrip d L s t 19 n.val (by decide) n.isLt (congrFun (k0_off117_eq n) 0) (congrFun (k0_off118_eq n) 0) (fun _ _ => rfl))) $$ HS
  iintro %_ HS
  iapply (cp_o d L s t 19 (by decide) (show k0_off11 L 194560#32 0 = 10240 * 19 + 640 * (L 1).val from congrFun (k0_off11_eq L 19) 0) (show (![12160] : Fin 1 → ℕ) 0 = 640 * 19 from rfl)) $$ HS
  iintro HS
  iapply (lp_out d L s t 20 (by decide) (by decide +kernel) (fun (n : Fin k0_t57_loop.trips) _ => otrip d L s t 20 n.val (by decide) n.isLt (congrFun (k0_off119_eq n) 0) (congrFun (k0_off120_eq n) 0) (fun _ _ => rfl))) $$ HS
  iintro %_ HS
  iapply (wp_fin (F := F))
  iapply HQ
  iexact HS

theorem part39 {a1 a2 : BitVec 32} {Q : (BitVec 32) → sProp (MT nD τ sig (HIx 4) (Elt F) ℕ UU ℕ)} :
    iprop(Sm (F := F) d L s t 20)
      ⊢ iprop((So (F := F) d L s t 24
        -∗ Q 0#32)
        -∗ wpT d L (k0_part39 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 16) a1 a2) Q) := by
  have hw := lt16 L
  rw [k0_part39_eq_skeleton]
  unfold k0_part39_skel
  iintro HS HQ
  iapply (cp_o d L s t 20 (by decide) (show k0_off11 L 204800#32 0 = 10240 * 20 + 640 * (L 1).val from congrFun (k0_off11_eq L 20) 0) (show (![12800] : Fin 1 → ℕ) 0 = 640 * 20 from rfl)) $$ HS
  iintro HS
  iapply (lp_out d L s t 21 (by decide) (by decide +kernel) (fun (n : Fin k0_t58_loop.trips) _ => otrip d L s t 21 n.val (by decide) n.isLt (congrFun (k0_off121_eq n) 0) (congrFun (k0_off122_eq n) 0) (fun _ _ => rfl))) $$ HS
  iintro %_ HS
  iapply (cp_o d L s t 21 (by decide) (show k0_off11 L 215040#32 0 = 10240 * 21 + 640 * (L 1).val from congrFun (k0_off11_eq L 21) 0) (show (![13440] : Fin 1 → ℕ) 0 = 640 * 21 from rfl)) $$ HS
  iintro HS
  iapply (lp_out d L s t 22 (by decide) (by decide +kernel) (fun (n : Fin k0_t59_loop.trips) _ => otrip d L s t 22 n.val (by decide) n.isLt (congrFun (k0_off123_eq n) 0) (congrFun (k0_off124_eq n) 0) (fun _ _ => rfl))) $$ HS
  iintro %_ HS
  iapply (cp_o d L s t 22 (by decide) (show k0_off11 L 225280#32 0 = 10240 * 22 + 640 * (L 1).val from congrFun (k0_off11_eq L 22) 0) (show (![14080] : Fin 1 → ℕ) 0 = 640 * 22 from rfl)) $$ HS
  iintro HS
  iapply (lp_out d L s t 23 (by decide) (by decide +kernel) (fun (n : Fin k0_t60_loop.trips) _ => otrip d L s t 23 n.val (by decide) n.isLt (congrFun (k0_off125_eq n) 0) (congrFun (k0_off126_eq n) 0) (fun _ _ => rfl))) $$ HS
  iintro %_ HS
  iapply (cp_o d L s t 23 (by decide) (show k0_off11 L 235520#32 0 = 10240 * 23 + 640 * (L 1).val from congrFun (k0_off11_eq L 23) 0) (show (![14720] : Fin 1 → ℕ) 0 = 640 * 23 from rfl)) $$ HS
  iintro HS
  iapply (wp_fin (F := F))
  iapply HQ
  iexact HS

theorem part40 {a1 : BitVec 32} {Q : (PUnit) → sProp (MT nD τ sig (HIx 4) (Elt F) ℕ UU ℕ)} :
    iprop(So (F := F) d L s t 24)
      ⊢ iprop((Sm (F := F) d L s t 27
        -∗ Q ⟨⟩)
        -∗ wpT d L (k0_part40 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 16) a1) Q) := by
  have hw := lt16 L
  rw [k0_part40_eq_skeleton]
  unfold k0_part40_skel
  iintro HS HQ
  iapply (lp_out d L s t 24 (by decide) (by decide +kernel) (fun (n : Fin k0_t61_loop.trips) _ => otrip d L s t 24 n.val (by decide) n.isLt (congrFun (k0_off127_eq n) 0) (congrFun (k0_off128_eq n) 0) (fun _ _ => rfl))) $$ HS
  iintro %_ HS
  iapply (cp_o d L s t 24 (by decide) (show k0_off11 L 245760#32 0 = 10240 * 24 + 640 * (L 1).val from congrFun (k0_off11_eq L 24) 0) (show (![15360] : Fin 1 → ℕ) 0 = 640 * 24 from rfl)) $$ HS
  iintro HS
  iapply (lp_out d L s t 25 (by decide) (by decide +kernel) (fun (n : Fin k0_t62_loop.trips) _ => otrip d L s t 25 n.val (by decide) n.isLt (congrFun (k0_off129_eq n) 0) (congrFun (k0_off130_eq n) 0) (fun _ _ => rfl))) $$ HS
  iintro %_ HS
  iapply (cp_o d L s t 25 (by decide) (show k0_off11 L 256000#32 0 = 10240 * 25 + 640 * (L 1).val from congrFun (k0_off11_eq L 25) 0) (show (![16000] : Fin 1 → ℕ) 0 = 640 * 25 from rfl)) $$ HS
  iintro HS
  iapply (lp_out d L s t 26 (by decide) (by decide +kernel) (fun (n : Fin k0_t63_loop.trips) _ => otrip d L s t 26 n.val (by decide) n.isLt (congrFun (k0_off131_eq n) 0) (congrFun (k0_off132_eq n) 0) (fun _ _ => rfl))) $$ HS
  iintro %_ HS
  iapply (cp_o d L s t 26 (by decide) (show k0_off11 L 266240#32 0 = 10240 * 26 + 640 * (L 1).val from congrFun (k0_off11_eq L 26) 0) (show (![16640] : Fin 1 → ℕ) 0 = 640 * 26 from rfl)) $$ HS
  iintro HS
  iapply (lp_out d L s t 27 (by decide) (by decide +kernel) (fun (n : Fin k0_t64_loop.trips) _ => otrip d L s t 27 n.val (by decide) n.isLt (congrFun (k0_off133_eq n) 0) (congrFun (k0_off134_eq n) 0) (fun _ _ => rfl))) $$ HS
  iintro %_ HS
  iapply (wp_fin (F := F))
  iapply HQ
  iexact HS

theorem part41 {Q : (Σ' (_ : BitVec 32), BitVec 32) → sProp (MT nD τ sig (HIx 4) (Elt F) ℕ UU ℕ)} :
    iprop(Sm (F := F) d L s t 27)
      ⊢ iprop((So (F := F) d L s t 31
        -∗ Q ⟨0#32, 40#32⟩)
        -∗ wpT d L (k0_part41 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 16)) Q) := by
  have hw := lt16 L
  rw [k0_part41_eq_skeleton]
  unfold k0_part41_skel
  iintro HS HQ
  iapply (cp_o d L s t 27 (by decide) (show k0_off11 L 276480#32 0 = 10240 * 27 + 640 * (L 1).val from congrFun (k0_off11_eq L 27) 0) (show (![17280] : Fin 1 → ℕ) 0 = 640 * 27 from rfl)) $$ HS
  iintro HS
  iapply (lp_out d L s t 28 (by decide) (by decide +kernel) (fun (n : Fin k0_t65_loop.trips) _ => otrip d L s t 28 n.val (by decide) n.isLt (congrFun (k0_off135_eq n) 0) (congrFun (k0_off136_eq n) 0) (fun _ _ => rfl))) $$ HS
  iintro %_ HS
  iapply (cp_o d L s t 28 (by decide) (show k0_off11 L 286720#32 0 = 10240 * 28 + 640 * (L 1).val from congrFun (k0_off11_eq L 28) 0) (show (![17920] : Fin 1 → ℕ) 0 = 640 * 28 from rfl)) $$ HS
  iintro HS
  iapply (lp_out d L s t 29 (by decide) (by decide +kernel) (fun (n : Fin k0_t66_loop.trips) _ => otrip d L s t 29 n.val (by decide) n.isLt (congrFun (k0_off137_eq n) 0) (congrFun (k0_off138_eq n) 0) (fun _ _ => rfl))) $$ HS
  iintro %_ HS
  iapply (cp_o d L s t 29 (by decide) (show k0_off11 L 296960#32 0 = 10240 * 29 + 640 * (L 1).val from congrFun (k0_off11_eq L 29) 0) (show (![18560] : Fin 1 → ℕ) 0 = 640 * 29 from rfl)) $$ HS
  iintro HS
  iapply (lp_out d L s t 30 (by decide) (by decide +kernel) (fun (n : Fin k0_t67_loop.trips) _ => otrip d L s t 30 n.val (by decide) n.isLt (congrFun (k0_off139_eq n) 0) (congrFun (k0_off140_eq n) 0) (fun _ _ => rfl))) $$ HS
  iintro %_ HS
  iapply (cp_o d L s t 30 (by decide) (show k0_off11 L 307200#32 0 = 10240 * 30 + 640 * (L 1).val from congrFun (k0_off11_eq L 30) 0) (show (![19200] : Fin 1 → ℕ) 0 = 640 * 30 from rfl)) $$ HS
  iintro HS
  iapply (wp_fin (F := F))
  iapply HQ
  iexact HS

theorem part42 {a1 a2 : BitVec 32} {Q : (BitVec 32) → sProp (MT nD τ sig (HIx 4) (Elt F) ℕ UU ℕ)} :
    iprop(Transfers.MayWaits (tcV d L) none (O)
        ∗ So (F := F) d L s t 31
        ∗ OW (F := F) (tcV d L) (O) W)
      ⊢ iprop((iprop(PS (F := F) (tcV d L) locM (Finset.range 640) fullShare (gL L s t (fun _ => 0#32) 40)
        ∗ WO (F := F) d L (H2 s t) 4
        ∗ OW (F := F) (tcV d L) (O) W)
        -∗ Q 640#32)
        -∗ wpT d L (k0_part42 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 (BitVec.ofNat 32 (L 1).val) (fun _ => pw L s t 16) a1 a2) Q) := by
  have hw := lt16 L
  rw [k0_part42_eq_skeleton]
  unfold k0_part42_skel
  iintro ⟨#Hm, HS, HO⟩ HQ
  iapply (lp_out d L s t 31 (by decide) (by decide +kernel) (fun (n : Fin k0_t68_loop.trips) _ => otrip d L s t 31 n.val (by decide) n.isLt (congrFun (k0_off141_eq n) 0) (congrFun (k0_off142_eq n) 0) (fun _ _ => rfl))) $$ HS
  iintro %_ HS
  iapply (cp_o d L s t 31 (by decide) (show k0_off11 L 317440#32 0 = 10240 * 31 + 640 * (L 1).val from congrFun (k0_off11_eq L 31) 0) (show (![19840] : Fin 1 → ℕ) 0 = 640 * 31 from rfl)) $$ HS
  iintro HS
  ihave HS' := (Entails.of_eq (So_eq d L s t 32)) $$ HS
  icases HS' with ⟨Hl, HS⟩
  ihave HS := (CO_all d L (H0 s t) (pP L s t) (H2 s t)) $$ HS
  iapply (wt_out d L (H2 s t) 0 (by decide)) $$ [HS HO]
  · isplitr; · iexact Hm
    isplitl [HS]; · iexact HS
    iexact HO
  iintro ⟨HS, HO⟩
  iapply (wt_out d L (H2 s t) 1 (by decide)) $$ [HS HO]
  · isplitr; · iexact Hm
    isplitl [HS]; · iexact HS
    iexact HO
  iintro ⟨HS, HO⟩
  iapply (wt_out d L (H2 s t) 2 (by decide)) $$ [HS HO]
  · isplitr; · iexact Hm
    isplitl [HS]; · iexact HS
    iexact HO
  iintro ⟨HS, HO⟩
  iapply (wt_out d L (H2 s t) 3 (by decide)) $$ [HS HO]
  · isplitr; · iexact Hm
    isplitl [HS]; · iexact HS
    iexact HO
  iintro ⟨HS, HO⟩
  iapply (wp_fin (F := F))
  iapply HQ
  isplitl [Hl]; · iexact Hl
  isplitl [HS]; · iexact HS
  iexact HO

theorem part43 {a1 a2 : BitVec 32} {Q : (PUnit) → sProp (MT nD τ sig (HIx 4) (Elt F) ℕ UU ℕ)} :
    iprop(Transfers.MayWaits (tcV d L) none (O)
        ∗ WO (F := F) d L (H2 s t) 4
        ∗ OW (F := F) (tcV d L) (O) W)
      ⊢ iprop((iprop(WO (F := F) d L (H2 s t) 9
        ∗ OW (F := F) (tcV d L) (O) W)
        -∗ Q ⟨⟩)
        -∗ wpT d L (k0_part43 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1 a2) Q) := by
  have hw := lt16 L
  rw [k0_part43_eq_skeleton]
  unfold k0_part43_skel
  iintro ⟨#Hm, HS, HO⟩ HQ
  iapply (wt_out d L (H2 s t) 4 (by decide)) $$ [HS HO]
  · isplitr; · iexact Hm
    isplitl [HS]; · iexact HS
    iexact HO
  iintro ⟨HS, HO⟩
  iapply (wt_out d L (H2 s t) 5 (by decide)) $$ [HS HO]
  · isplitr; · iexact Hm
    isplitl [HS]; · iexact HS
    iexact HO
  iintro ⟨HS, HO⟩
  iapply (wt_out d L (H2 s t) 6 (by decide)) $$ [HS HO]
  · isplitr; · iexact Hm
    isplitl [HS]; · iexact HS
    iexact HO
  iintro ⟨HS, HO⟩
  iapply (wt_out d L (H2 s t) 7 (by decide)) $$ [HS HO]
  · isplitr; · iexact Hm
    isplitl [HS]; · iexact HS
    iexact HO
  iintro ⟨HS, HO⟩
  iapply (wt_out d L (H2 s t) 8 (by decide)) $$ [HS HO]
  · isplitr; · iexact Hm
    isplitl [HS]; · iexact HS
    iexact HO
  iintro ⟨HS, HO⟩
  iapply (wp_fin (F := F))
  iapply HQ
  isplitl [HS]; · iexact HS
  iexact HO

theorem part44 {a1 : BitVec 32} {Q : (PUnit) → sProp (MT nD τ sig (HIx 4) (Elt F) ℕ UU ℕ)} :
    iprop(Transfers.MayWaits (tcV d L) none (O)
        ∗ WO (F := F) d L (H2 s t) 9
        ∗ OW (F := F) (tcV d L) (O) W)
      ⊢ iprop((iprop(WO (F := F) d L (H2 s t) 15
        ∗ OW (F := F) (tcV d L) (O) W)
        -∗ Q ⟨⟩)
        -∗ wpT d L (k0_part44 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part44_eq_skeleton]
  unfold k0_part44_skel
  iintro ⟨#Hm, HS, HO⟩ HQ
  iapply (wt_out d L (H2 s t) 9 (by decide)) $$ [HS HO]
  · isplitr; · iexact Hm
    isplitl [HS]; · iexact HS
    iexact HO
  iintro ⟨HS, HO⟩
  iapply (wt_out d L (H2 s t) 10 (by decide)) $$ [HS HO]
  · isplitr; · iexact Hm
    isplitl [HS]; · iexact HS
    iexact HO
  iintro ⟨HS, HO⟩
  iapply (wt_out d L (H2 s t) 11 (by decide)) $$ [HS HO]
  · isplitr; · iexact Hm
    isplitl [HS]; · iexact HS
    iexact HO
  iintro ⟨HS, HO⟩
  iapply (wt_out d L (H2 s t) 12 (by decide)) $$ [HS HO]
  · isplitr; · iexact Hm
    isplitl [HS]; · iexact HS
    iexact HO
  iintro ⟨HS, HO⟩
  iapply (wt_out d L (H2 s t) 13 (by decide)) $$ [HS HO]
  · isplitr; · iexact Hm
    isplitl [HS]; · iexact HS
    iexact HO
  iintro ⟨HS, HO⟩
  iapply (wt_out d L (H2 s t) 14 (by decide)) $$ [HS HO]
  · isplitr; · iexact Hm
    isplitl [HS]; · iexact HS
    iexact HO
  iintro ⟨HS, HO⟩
  iapply (wp_fin (F := F))
  iapply HQ
  isplitl [HS]; · iexact HS
  iexact HO

theorem part45 {a1 : BitVec 32} {Q : (PUnit) → sProp (MT nD τ sig (HIx 4) (Elt F) ℕ UU ℕ)} :
    iprop(Transfers.MayWaits (tcV d L) none (O)
        ∗ WO (F := F) d L (H2 s t) 15
        ∗ OW (F := F) (tcV d L) (O) W)
      ⊢ iprop((iprop(WO (F := F) d L (H2 s t) 20
        ∗ OW (F := F) (tcV d L) (O) W)
        -∗ Q ⟨⟩)
        -∗ wpT d L (k0_part45 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part45_eq_skeleton]
  unfold k0_part45_skel
  iintro ⟨#Hm, HS, HO⟩ HQ
  iapply (wt_out d L (H2 s t) 15 (by decide)) $$ [HS HO]
  · isplitr; · iexact Hm
    isplitl [HS]; · iexact HS
    iexact HO
  iintro ⟨HS, HO⟩
  iapply (wt_out d L (H2 s t) 16 (by decide)) $$ [HS HO]
  · isplitr; · iexact Hm
    isplitl [HS]; · iexact HS
    iexact HO
  iintro ⟨HS, HO⟩
  iapply (wt_out d L (H2 s t) 17 (by decide)) $$ [HS HO]
  · isplitr; · iexact Hm
    isplitl [HS]; · iexact HS
    iexact HO
  iintro ⟨HS, HO⟩
  iapply (wt_out d L (H2 s t) 18 (by decide)) $$ [HS HO]
  · isplitr; · iexact Hm
    isplitl [HS]; · iexact HS
    iexact HO
  iintro ⟨HS, HO⟩
  iapply (wt_out d L (H2 s t) 19 (by decide)) $$ [HS HO]
  · isplitr; · iexact Hm
    isplitl [HS]; · iexact HS
    iexact HO
  iintro ⟨HS, HO⟩
  iapply (wp_fin (F := F))
  iapply HQ
  isplitl [HS]; · iexact HS
  iexact HO

theorem part46 {a1 : BitVec 32} {Q : (PUnit) → sProp (MT nD τ sig (HIx 4) (Elt F) ℕ UU ℕ)} :
    iprop(Transfers.MayWaits (tcV d L) none (O)
        ∗ WO (F := F) d L (H2 s t) 20
        ∗ OW (F := F) (tcV d L) (O) W)
      ⊢ iprop((iprop(WO (F := F) d L (H2 s t) 25
        ∗ OW (F := F) (tcV d L) (O) W)
        -∗ Q ⟨⟩)
        -∗ wpT d L (k0_part46 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part46_eq_skeleton]
  unfold k0_part46_skel
  iintro ⟨#Hm, HS, HO⟩ HQ
  iapply (wt_out d L (H2 s t) 20 (by decide)) $$ [HS HO]
  · isplitr; · iexact Hm
    isplitl [HS]; · iexact HS
    iexact HO
  iintro ⟨HS, HO⟩
  iapply (wt_out d L (H2 s t) 21 (by decide)) $$ [HS HO]
  · isplitr; · iexact Hm
    isplitl [HS]; · iexact HS
    iexact HO
  iintro ⟨HS, HO⟩
  iapply (wt_out d L (H2 s t) 22 (by decide)) $$ [HS HO]
  · isplitr; · iexact Hm
    isplitl [HS]; · iexact HS
    iexact HO
  iintro ⟨HS, HO⟩
  iapply (wt_out d L (H2 s t) 23 (by decide)) $$ [HS HO]
  · isplitr; · iexact Hm
    isplitl [HS]; · iexact HS
    iexact HO
  iintro ⟨HS, HO⟩
  iapply (wt_out d L (H2 s t) 24 (by decide)) $$ [HS HO]
  · isplitr; · iexact Hm
    isplitl [HS]; · iexact HS
    iexact HO
  iintro ⟨HS, HO⟩
  iapply (wp_fin (F := F))
  iapply HQ
  isplitl [HS]; · iexact HS
  iexact HO

theorem part47 {a1 : BitVec 32} {Q : (PUnit) → sProp (MT nD τ sig (HIx 4) (Elt F) ℕ UU ℕ)} :
    iprop(Transfers.MayWaits (tcV d L) none (O)
        ∗ WO (F := F) d L (H2 s t) 25
        ∗ OW (F := F) (tcV d L) (O) W)
      ⊢ iprop((iprop(WO (F := F) d L (H2 s t) 31
        ∗ OW (F := F) (tcV d L) (O) W)
        -∗ Q ⟨⟩)
        -∗ wpT d L (k0_part47 L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 a1) Q) := by
  have hw := lt16 L
  rw [k0_part47_eq_skeleton]
  unfold k0_part47_skel
  iintro ⟨#Hm, HS, HO⟩ HQ
  iapply (wt_out d L (H2 s t) 25 (by decide)) $$ [HS HO]
  · isplitr; · iexact Hm
    isplitl [HS]; · iexact HS
    iexact HO
  iintro ⟨HS, HO⟩
  iapply (wt_out d L (H2 s t) 26 (by decide)) $$ [HS HO]
  · isplitr; · iexact Hm
    isplitl [HS]; · iexact HS
    iexact HO
  iintro ⟨HS, HO⟩
  iapply (wt_out d L (H2 s t) 27 (by decide)) $$ [HS HO]
  · isplitr; · iexact Hm
    isplitl [HS]; · iexact HS
    iexact HO
  iintro ⟨HS, HO⟩
  iapply (wt_out d L (H2 s t) 28 (by decide)) $$ [HS HO]
  · isplitr; · iexact Hm
    isplitl [HS]; · iexact HS
    iexact HO
  iintro ⟨HS, HO⟩
  iapply (wt_out d L (H2 s t) 29 (by decide)) $$ [HS HO]
  · isplitr; · iexact Hm
    isplitl [HS]; · iexact HS
    iexact HO
  iintro ⟨HS, HO⟩
  iapply (wt_out d L (H2 s t) 30 (by decide)) $$ [HS HO]
  · isplitr; · iexact Hm
    isplitl [HS]; · iexact HS
    iexact HO
  iintro ⟨HS, HO⟩
  iapply (wp_fin (F := F))
  iapply HQ
  isplitl [HS]; · iexact HS
  iexact HO

end Part2d

end Cert.Proof.Sorting
-- ==== Proof.Tile.lean ====
/-
A tile's task from its start to its end.
-/
module

public import proofs.«01_k».proof.Proof.Last
public import proofs.«01_k».proof.Proof.Part2a
public import proofs.«01_k».proof.Proof.Part2b
public import proofs.«01_k».proof.Proof.Part2c
public import proofs.«01_k».proof.Proof.Part2d

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Tile
variable (d : Dev nD) (L : grid0.Coords) (s t : ℕ → BitVec 32)

theorem PX_open {ds : Fin 1 → ℕ} (pm : Memref sig .scVector .vmem ⟨1, ds⟩ .i32) (c : ℕ) :
    PX (F := F) d L s t pm c 0 ⊢ iprop(∃ g : ℕ → BitVec 32, PS (F := F) (tcV d L) pm (Finset.range (ds 0)) fullShare g) := by
  unfold PX
  iintro ⟨%g, H⟩
  iexists _
  iexact H

/-- What the tile's task may wait for while it still owes its later barriers. -/
def lvl (O : CellTallies nD τ sig (HIx 4)) : sProp 𝕄 :=
  iprop(Transfers.MayWaits (tcV d L) none ((((O + oxB d ((L 0).castLE hcore0) (some 3)) + oxB d ((L 0).castLE hcore0) (some 2)) + oxB d ((L 0).castLE hcore0) (some 1)) + oxB d ((L 0).castLE hcore0) (some 0))
    ∗ Transfers.MayWaits (tcV d L) none (((O + oxB d ((L 0).castLE hcore0) (some 3)) + oxB d ((L 0).castLE hcore0) (some 2)) + oxB d ((L 0).castLE hcore0) (some 1))
    ∗ Transfers.MayWaits (tcV d L) none ((O + oxB d ((L 0).castLE hcore0) (some 3)) + oxB d ((L 0).castLE hcore0) (some 2))
    ∗ Transfers.MayWaits (tcV d L) none (O + oxB d ((L 0).castLE hcore0) (some 3))
    ∗ Transfers.MayWaits (tcV d L) none O
    ∗ MayWait (tcV d L) (.reg sc_bar0) (some 0) (((O + oxB d ((L 0).castLE hcore0) (some 3)) + oxB d ((L 0).castLE hcore0) (some 2)) + oxB d ((L 0).castLE hcore0) (some 1))
    ∗ MayWait (tcV d L) (.reg sc_bar0) (some 1) ((O + oxB d ((L 0).castLE hcore0) (some 3)) + oxB d ((L 0).castLE hcore0) (some 2))
    ∗ MayWait (tcV d L) (.reg sc_bar0) (some 2) (O + oxB d ((L 0).castLE hcore0) (some 3))
    ∗ MayWait (tcV d L) (.reg sc_bar0) (some 3) O)

/-- What the tile starts with. -/
def tileIn (q : PosShare TreeShare) (O : CellTallies nD τ sig (HIx 4)) (W : Waits sig (HIx 4)) (gk gv ga gb gB' gl gac gt g1 g2 g3 g4 g5 g6 gc gh gs gu go : ℕ → BitVec 32) : sProp 𝕄 :=
  iprop(OW (F := F) (tcV d L) ((((O + oxB d ((L 0).castLE hcore0) (some 3)) + oxB d ((L 0).castLE hcore0) (some 2)) + oxB d ((L 0).castLE hcore0) (some 1)) + oxB d ((L 0).castLE hcore0) (some 0)) W
    ∗ rdK (F := F) d L s t q
    ∗ rdV (F := F) d L s t q
    ∗ PS (F := F) (tcV d L) kM (Finset.range 20000) fullShare gk
    ∗ PS (F := F) (tcV d L) vM (Finset.range 20000) fullShare gv
    ∗ PS (F := F) (tcV d L) haM (Finset.range 10240) fullShare ga
    ∗ PS (F := F) (tcV d L) hbM (Finset.range 10240) fullShare gb
    ∗ PS (F := F) (tcV d L) blkM (Finset.range 20480) fullShare gB'
    ∗ PS (F := F) (tcV d L) locM (Finset.range 640) fullShare gl
    ∗ PS (F := F) (tcV d L) accM (Finset.range 640) fullShare gac
    ∗ PS (F := F) (tcV d L) totM (Finset.range 16) fullShare gt
    ∗ PS (F := F) (tcV d L) paM (Finset.range 128) fullShare g1
    ∗ PS (F := F) (tcV d L) paM' (Finset.range 128) fullShare g2
    ∗ PS (F := F) (tcV d L) pbM (Finset.range 128) fullShare g3
    ∗ PS (F := F) (tcV d L) pbM' (Finset.range 128) fullShare g4
    ∗ PS (F := F) (tcV d L) ptaM (Finset.range 16) fullShare g5
    ∗ PS (F := F) (tcV d L) ptbM (Finset.range 16) fullShare g6
    ∗ PS (F := F) (tcV d L) carM (Finset.range 1) fullShare gc
    ∗ PS (F := F) (tcV d L) hallM (Finset.Ico (20480 * (L 1).val) (20480 * ((L 1).val + 1))) fullShare gh
    ∗ PS (F := F) (tcV d L) tsM (Finset.Ico (16 * (L 1).val) (16 * ((L 1).val + 1))) fullShare gs
    ∗ PS (F := F) (tcV d L) outsM (img (KN s t) NN (20000 * (L 1).val) (20000 * ((L 1).val + 1))) fullShare gu
    ∗ PS (F := F) (tcV d L) outM (Finset.Ico (20000 * (L 1).val) (20000 * ((L 1).val + 1))) fullShare go
    ∗ semVal (tcV d L, .dma cc0_scratch18.sem) 0
    ∗ semVal (tcV d L, .dma cc0_scratch19.sem) 0
    ∗ semVal (tcV d L, .dma cc0_scratch20.sem) 0
    ∗ semVal (tcV d L, .dma cc0_scratch21.sem) 0
    ∗ semVal (tcV d L, .dma cc0_scratch22.sem) 0
    ∗ semVal (tcV d L, .dma cc0_scratch23.sem) 0
    ∗ semVal (tcV d L, .dma cc0_scratch24.sem) 0
    ∗ semVal (tcV d L, .dma cc0_scratch25.sem) 0
    ∗ semVal (tcV d L, .dma cc0_scratch26.sem) 0
    ∗ semVal (tcV d L, .dma cc0_scratch27.sem) 0
    ∗ semVal (tcV d L, .dma cc0_scoped0.sem) 0
    ∗ semVal (tcV d L, .dma cc0_scoped1.sem) 0
    ∗ semVal (tcV d L, .dma cc0_scoped2.sem) 0
    ∗ semVal (tcV d L, .dma cc0_scoped3.sem) 0
    ∗ semVal (tcV d L, .dma cc0_scoped4.sem) 0
    ∗ semVal (tcV d L, .dma cc0_scoped5.sem) 0
    ∗ semVal (tcV d L, .dma cc0_scoped6.sem) 0
    ∗ semVal (tcV d L, .dma cc0_scoped7.sem) 0
    ∗ semVal (tcV d L, .dma cc0_scoped8.sem) 0
    ∗ semVal (tcV d L, .dma cc0_scoped9.sem) 0
    ∗ semVal (tcV d L, .dma cc0_scoped10.sem) 0
    ∗ semVal (tcV d L, .dma cc0_scoped11.sem) 0
    ∗ semVal (tcV d L, .dma cc0_scoped12.sem) 0
    ∗ semVal (tcV d L, .dma cc0_scoped13.sem) 0
    ∗ semVal (tcV d L, .dma cc0_scoped14.sem) 0
    ∗ semVal (tcV d L, .dma cc0_scoped15.sem) 0
    ∗ semVal (tcV d L, .dma cc0_scoped16.sem) 0
    ∗ semVal (tcV d L, .dma cc0_scoped17.sem) 0
    ∗ semVal (tcV d L, .dma cc0_scoped18.sem) 0
    ∗ semVal (tcV d L, .dma cc0_scoped19.sem) 0
    ∗ semVal (tcV d L, .dma cc0_scoped20.sem) 0
    ∗ kitB d L 0 (some 0)
    ∗ kitB d L 1 (some 1)
    ∗ kitB d L 2 (some 2)
    ∗ kitB d L 3 (some 3)
    ∗ bst d ((L 0).castLE hcore0) (L 1) 0)

/-- What the tile ends with. -/
def tileOut (q : PosShare TreeShare) (O : CellTallies nD τ sig (HIx 4)) (W : Waits sig (HIx 4)) : sProp 𝕄 :=
  iprop(OW (F := F) (tcV d L) O W
    ∗ rdK (F := F) d L s t q
    ∗ rdV (F := F) d L s t q
    ∗ iprop(∃ g : ℕ → BitVec 32, PS (F := F) (tcV d L) kM (Finset.range 20000) fullShare g)
    ∗ iprop(∃ g : ℕ → BitVec 32, PS (F := F) (tcV d L) vM (Finset.range 20000) fullShare g)
    ∗ iprop(∃ g : ℕ → BitVec 32, PS (F := F) (tcV d L) haM (Finset.range 10240) fullShare g)
    ∗ iprop(∃ g : ℕ → BitVec 32, PS (F := F) (tcV d L) hbM (Finset.range 10240) fullShare g)
    ∗ iprop(∃ g : ℕ → BitVec 32, PS (F := F) (tcV d L) blkM (Finset.range 20480) fullShare g)
    ∗ iprop(∃ g : ℕ → BitVec 32, PS (F := F) (tcV d L) locM (Finset.range 640) fullShare g)
    ∗ iprop(∃ g : ℕ → BitVec 32, PS (F := F) (tcV d L) accM (Finset.range 640) fullShare g)
    ∗ iprop(∃ g : ℕ → BitVec 32, PS (F := F) (tcV d L) totM (Finset.range 16) fullShare g)
    ∗ iprop(∃ g : ℕ → BitVec 32, PS (F := F) (tcV d L) paM (Finset.range 128) fullShare g)
    ∗ iprop(∃ g : ℕ → BitVec 32, PS (F := F) (tcV d L) paM' (Finset.range 128) fullShare g)
    ∗ iprop(∃ g : ℕ → BitVec 32, PS (F := F) (tcV d L) pbM (Finset.range 128) fullShare g)
    ∗ iprop(∃ g : ℕ → BitVec 32, PS (F := F) (tcV d L) pbM' (Finset.range 128) fullShare g)
    ∗ iprop(∃ g : ℕ → BitVec 32, PS (F := F) (tcV d L) ptaM (Finset.range 16) fullShare g)
    ∗ iprop(∃ g : ℕ → BitVec 32, PS (F := F) (tcV d L) ptbM (Finset.range 16) fullShare g)
    ∗ iprop(∃ g : ℕ → BitVec 32, PS (F := F) (tcV d L) carM (Finset.range 1) fullShare g)
    ∗ iprop(∃ g : ℕ → BitVec 32, PS (F := F) (tcV d L) hallM (Finset.Ico (20480 * (L 1).val) (20480 * ((L 1).val + 1))) fullShare g)
    ∗ PS (F := F) (tcV d L) tsM (Finset.range 256) (sh16 (L 1)) (TT s t)
    ∗ iprop(∃ g : ℕ → BitVec 32, PS (F := F) (tcV d L) outsM (Finset.Ico (20000 * (L 1).val) (20000 * ((L 1).val + 1))) fullShare g)
    ∗ PS (F := F) (tcV d L) outM (Finset.Ico (20000 * (L 1).val) (20000 * ((L 1).val + 1))) fullShare (RR s t)
    ∗ semVal (tcV d L, .dma cc0_scratch18.sem) 0
    ∗ semVal (tcV d L, .dma cc0_scratch19.sem) 0
    ∗ semVal (tcV d L, .dma cc0_scratch20.sem) 0
    ∗ semVal (tcV d L, .dma cc0_scratch21.sem) 0
    ∗ semVal (tcV d L, .dma cc0_scratch22.sem) 0
    ∗ semVal (tcV d L, .dma cc0_scratch23.sem) 0
    ∗ semVal (tcV d L, .dma cc0_scratch24.sem) 0
    ∗ semVal (tcV d L, .dma cc0_scratch25.sem) 0
    ∗ semVal (tcV d L, .dma cc0_scratch26.sem) 0
    ∗ semVal (tcV d L, .dma cc0_scratch27.sem) 0
    ∗ semVal (tcV d L, .dma cc0_scoped0.sem) 0
    ∗ semVal (tcV d L, .dma cc0_scoped1.sem) 0
    ∗ semVal (tcV d L, .dma cc0_scoped2.sem) 0
    ∗ semVal (tcV d L, .dma cc0_scoped3.sem) 0
    ∗ semVal (tcV d L, .dma cc0_scoped4.sem) 0
    ∗ semVal (tcV d L, .dma cc0_scoped5.sem) 0
    ∗ semVal (tcV d L, .dma cc0_scoped6.sem) 0
    ∗ semVal (tcV d L, .dma cc0_scoped7.sem) 0
    ∗ semVal (tcV d L, .dma cc0_scoped8.sem) 0
    ∗ semVal (tcV d L, .dma cc0_scoped9.sem) 0
    ∗ semVal (tcV d L, .dma cc0_scoped10.sem) 0
    ∗ semVal (tcV d L, .dma cc0_scoped11.sem) 0
    ∗ semVal (tcV d L, .dma cc0_scoped12.sem) 0
    ∗ semVal (tcV d L, .dma cc0_scoped13.sem) 0
    ∗ semVal (tcV d L, .dma cc0_scoped14.sem) 0
    ∗ semVal (tcV d L, .dma cc0_scoped15.sem) 0
    ∗ semVal (tcV d L, .dma cc0_scoped16.sem) 0
    ∗ semVal (tcV d L, .dma cc0_scoped17.sem) 0
    ∗ semVal (tcV d L, .dma cc0_scoped18.sem) 0
    ∗ semVal (tcV d L, .dma cc0_scoped19.sem) 0
    ∗ semVal (tcV d L, .dma cc0_scoped20.sem) 0
    ∗ bst d ((L 0).castLE hcore0) (L 1) 4)

variable {O : CellTallies nD τ sig (HIx 4)} {W : Waits sig (HIx 4)} {q : PosShare TreeShare} (hK : ∀ e, e < 320000 → KN s t e < 10000)
include hK

/-- The tile's task. -/
theorem tile {gk gv ga gb gB' gl gac gt g1 g2 g3 g4 g5 g6 gc gh gs gu go : ℕ → BitVec 32} {Q : PUnit → sProp (MT nD τ sig (HIx 4) (Elt F) ℕ UU ℕ)} :
    iprop(bctx (pay (F := F) d ((L 0).castLE hcore0) s t) d ((L 0).castLE hcore0) ∗ lvl (F := F) d L O ∗ tileIn (F := F) d L s t q O W gk gv ga gb gB' gl gac gt g1 g2 g3 g4 g5 g6 gc gh gs gu go)
      ⊢ iprop((tileOut (F := F) d L s t q O W -∗ Q ⟨⟩) -∗ wpT d L (cc0__body L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20) Q) := by
  unfold lvl tileIn tileOut
  rw [cc0__body_eq_skeleton]
  unfold cc0__body_skel
  iintro ⟨#Hbc, ⟨#Hm0, #Hm1, #Hm2, #Hm3, #Hm4, #Hb0, #Hb1, #Hb2, #Hb3⟩, HO, HrdK, HrdV, HkM, HvM, HhaM, HhbM, HblkM, HlocM, HaccM, HtotM, HpaM, HpaMp, HpbM, HpbMp, HptaM, HptbM, HcarM, Hhall, HtsM, HoutsM, HoutM, Hs_scratch18, Hs_scratch19, Hs_scratch20, Hs_scratch21, Hs_scratch22, Hs_scratch23, Hs_scratch24, Hs_scratch25, Hs_scratch26, Hs_scratch27, Hs_scoped0, Hs_scoped1, Hs_scoped2, Hs_scoped3, Hs_scoped4, Hs_scoped5, Hs_scoped6, Hs_scoped7, Hs_scoped8, Hs_scoped9, Hs_scoped10, Hs_scoped11, Hs_scoped12, Hs_scoped13, Hs_scoped14, Hs_scoped15, Hs_scoped16, Hs_scoped17, Hs_scoped18, Hs_scoped19, Hs_scoped20, Hkit0, Hkit1, Hkit2, Hkit3, Hst⟩ HQ
  ihave Hhall := (Entails.of_eq (hall_two d L gh)) $$ Hhall
  icases Hhall with ⟨Hhall0, Hhall1⟩
  iapply (wp_seq d L)
  iapply (part11 d L s t q hK (O := ((((O + oxB d ((L 0).castLE hcore0) (some 3)) + oxB d ((L 0).castLE hcore0) (some 2)) + oxB d ((L 0).castLE hcore0) (some 1)) + oxB d ((L 0).castLE hcore0) (some 0))) (W := W)) $$ [HO HrdK HrdV HkM HvM HhaM HhbM Hhall0 Hs_scratch18 Hs_scratch19 Hs_scratch20]
  · isplitr; · iexact Hm0
    isplitl [HO]; · iexact HO
    isplitl [HrdK]; · iexact HrdK
    isplitl [HrdV]; · iexact HrdV
    isplitl [HkM]; · iexact HkM
    isplitl [HvM]; · iexact HvM
    isplitl [HhaM]; · iexact HhaM
    isplitl [HhbM]; · iexact HhbM
    isplitl [Hhall0]; · iexact Hhall0
    isplitl [Hs_scratch18]; · iexact Hs_scratch18
    isplitl [Hs_scratch19]; · iexact Hs_scratch19
    iexact Hs_scratch20
  iintro ⟨HO, HkM, HhbM, HrdK, HF_scratch19, Hs_scratch18, HF_scratch20⟩
  iapply (wp_seq d L)
  iapply (part12 d L s t (O := (((O + oxB d ((L 0).castLE hcore0) (some 3)) + oxB d ((L 0).castLE hcore0) (some 2)) + oxB d ((L 0).castLE hcore0) (some 1))) (W := W) (ga := gh)) $$ [HO HhbM Hhall1 HF_scratch20 Hkit0 Hst HblkM Hs_scratch21]
  · isplitr; · iexact Hbc
    isplitr; · iexact Hm0
    isplitr; · iexact Hb0
    isplitl [HO]; · iexact HO
    isplitl [HhbM]; · iexact HhbM
    isplitl [Hhall1]; · iexact Hhall1
    isplitl [HF_scratch20]; · iexact HF_scratch20
    isplitl [Hkit0]; · iexact Hkit0
    isplitl [Hst]; · iexact Hst
    isplitl [HblkM]; · iexact HblkM
    iexact Hs_scratch21
  iintro ⟨Hs_scratch20, HhaM, HhbM, HO, Hst, HCI⟩
  iapply (wp_seq d L)
  iapply (part13 d L s t) $$ HCI
  iintro HCI
  iapply (wp_seq d L)
  iapply (part14 d L s t) $$ HCI
  iintro HCI
  iapply (wp_seq d L)
  iapply (part15 d L s t) $$ HCI
  iintro HCI
  iapply (wp_seq d L)
  iapply (part16 d L s t) $$ HCI
  iintro HCI
  iapply (wp_seq d L)
  iapply (part17 d L s t) $$ HCI
  iintro HCI
  iapply (wp_seq d L)
  iapply (part18 d L s t (O := (((O + oxB d ((L 0).castLE hcore0) (some 3)) + oxB d ((L 0).castLE hcore0) (some 2)) + oxB d ((L 0).castLE hcore0) (some 1))) (W := W)) $$ [HCI HO]
  · isplitr; · iexact Hm1
    isplitl [HCI]; · iexact HCI
    iexact HO
  iintro ⟨HWI, HO⟩
  iapply (wp_seq d L)
  iapply (part19 d L s t (O := (((O + oxB d ((L 0).castLE hcore0) (some 3)) + oxB d ((L 0).castLE hcore0) (some 2)) + oxB d ((L 0).castLE hcore0) (some 1))) (W := W)) $$ [HWI HO]
  · isplitr; · iexact Hm1
    isplitl [HWI]; · iexact HWI
    iexact HO
  iintro ⟨HWI, HO⟩
  iapply (wp_seq d L)
  iapply (part20 d L s t (O := (((O + oxB d ((L 0).castLE hcore0) (some 3)) + oxB d ((L 0).castLE hcore0) (some 2)) + oxB d ((L 0).castLE hcore0) (some 1))) (W := W)) $$ [HWI HO]
  · isplitr; · iexact Hm1
    isplitl [HWI]; · iexact HWI
    iexact HO
  iintro ⟨HWI, HO⟩
  iapply (wp_seq d L)
  iapply (part21 d L s t (O := (((O + oxB d ((L 0).castLE hcore0) (some 3)) + oxB d ((L 0).castLE hcore0) (some 2)) + oxB d ((L 0).castLE hcore0) (some 1))) (W := W)) $$ [HWI HO]
  · isplitr; · iexact Hm1
    isplitl [HWI]; · iexact HWI
    iexact HO
  iintro ⟨HWI, HO⟩
  iapply (wp_seq d L)
  iapply (part22 d L s t (O := (((O + oxB d ((L 0).castLE hcore0) (some 3)) + oxB d ((L 0).castLE hcore0) (some 2)) + oxB d ((L 0).castLE hcore0) (some 1))) (W := W)) $$ [HWI HO]
  · isplitr; · iexact Hm1
    isplitl [HWI]; · iexact HWI
    iexact HO
  iintro ⟨HWI, HO⟩
  iapply (wp_seq d L)
  iapply (part23 d L s t (O := (((O + oxB d ((L 0).castLE hcore0) (some 3)) + oxB d ((L 0).castLE hcore0) (some 2)) + oxB d ((L 0).castLE hcore0) (some 1))) (W := W)) $$ [HWI HO]
  · isplitr; · iexact Hm1
    isplitl [HWI]; · iexact HWI
    iexact HO
  iintro ⟨HWI, HO⟩
  iapply (wp_seq d L)
  iapply (part24 d L s t (O := (((O + oxB d ((L 0).castLE hcore0) (some 3)) + oxB d ((L 0).castLE hcore0) (some 2)) + oxB d ((L 0).castLE hcore0) (some 1))) (W := W)) $$ [HWI HO HaccM]
  · isplitr; · iexact Hm1
    isplitl [HWI]; · iexact HWI
    isplitl [HO]; · iexact HO
    iexact HaccM
  iintro ⟨HhallM, Hs_scratch21, HO, HPf⟩
  iapply (wp_seq d L)
  iapply (part25 d L s t) $$ HPf
  iintro HPf
  iapply (wp_seq d L)
  iapply (part26 d L s t) $$ HPf
  iintro HPf
  iapply (wp_seq d L)
  iapply (part27 d L s t (O := ((O + oxB d ((L 0).castLE hcore0) (some 3)) + oxB d ((L 0).castLE hcore0) (some 2))) (W := W)) $$ [HO HPf HlocM HcarM HtotM HtsM Hkit1 Hst Hs_scoped0 Hs_scoped1]
  · isplitr; · iexact Hbc
    isplitr; · iexact Hm1
    isplitr; · iexact Hb1
    isplitl [HO]; · iexact HO
    isplitl [HPf]; · iexact HPf
    isplitl [HlocM]; · iexact HlocM
    isplitl [HcarM]; · iexact HcarM
    isplitl [HtotM]; · iexact HtotM
    isplitl [HtsM]; · iexact HtsM
    isplitl [Hkit1]; · iexact Hkit1
    isplitl [Hst]; · iexact Hst
    isplitl [Hs_scoped0]; · iexact Hs_scoped0
    iexact Hs_scoped1
  iintro ⟨HlocM, HblkM, HaccM, HcarM, Hs_scoped0, HO, Hst, HTF⟩
  iapply (wp_seq d L)
  iapply (part28 d L s t (O := ((O + oxB d ((L 0).castLE hcore0) (some 3)) + oxB d ((L 0).castLE hcore0) (some 2))) (W := W)) $$ [HO HTF Hs_scoped2 Hs_scoped3 Hs_scoped4]
  · isplitr; · iexact Hm2
    isplitl [HO]; · iexact HO
    isplitl [HTF]; · iexact HTF
    isplitl [Hs_scoped2]; · iexact Hs_scoped2
    isplitl [Hs_scoped3]; · iexact Hs_scoped3
    iexact Hs_scoped4
  iintro ⟨Hs_scoped1, Hs_scoped2, Hs_scoped3, HO, HTF⟩
  iapply (wp_seq d L)
  iapply (part29 d L s t (O := ((O + oxB d ((L 0).castLE hcore0) (some 3)) + oxB d ((L 0).castLE hcore0) (some 2))) (W := W)) $$ [HO HTF Hs_scoped5 Hs_scoped6 Hs_scoped7]
  · isplitr; · iexact Hm2
    isplitl [HO]; · iexact HO
    isplitl [HTF]; · iexact HTF
    isplitl [Hs_scoped5]; · iexact Hs_scoped5
    isplitl [Hs_scoped6]; · iexact Hs_scoped6
    iexact Hs_scoped7
  iintro ⟨Hs_scoped4, Hs_scoped5, Hs_scoped6, HO, HTF⟩
  iapply (wp_seq d L)
  iapply (part30 d L s t (O := ((O + oxB d ((L 0).castLE hcore0) (some 3)) + oxB d ((L 0).castLE hcore0) (some 2))) (W := W)) $$ [HO HTF Hs_scoped8 Hs_scoped9 Hs_scoped10]
  · isplitr; · iexact Hm2
    isplitl [HO]; · iexact HO
    isplitl [HTF]; · iexact HTF
    isplitl [Hs_scoped8]; · iexact Hs_scoped8
    isplitl [Hs_scoped9]; · iexact Hs_scoped9
    iexact Hs_scoped10
  iintro ⟨Hs_scoped7, Hs_scoped8, Hs_scoped9, HO, HTF⟩
  iapply (wp_seq d L)
  iapply (part31 d L s t (O := ((O + oxB d ((L 0).castLE hcore0) (some 3)) + oxB d ((L 0).castLE hcore0) (some 2))) (W := W)) $$ [HO HTF Hs_scoped11 Hs_scoped12 Hs_scoped13]
  · isplitr; · iexact Hm2
    isplitl [HO]; · iexact HO
    isplitl [HTF]; · iexact HTF
    isplitl [Hs_scoped11]; · iexact Hs_scoped11
    isplitl [Hs_scoped12]; · iexact Hs_scoped12
    iexact Hs_scoped13
  iintro ⟨Hs_scoped10, Hs_scoped11, Hs_scoped12, HO, HTF⟩
  iapply (wp_seq d L)
  iapply (part32 d L s t (O := ((O + oxB d ((L 0).castLE hcore0) (some 3)) + oxB d ((L 0).castLE hcore0) (some 2))) (W := W)) $$ [HO HTF Hs_scoped14 Hs_scoped15 Hs_scoped16]
  · isplitr; · iexact Hm2
    isplitl [HO]; · iexact HO
    isplitl [HTF]; · iexact HTF
    isplitl [Hs_scoped14]; · iexact Hs_scoped14
    isplitl [Hs_scoped15]; · iexact Hs_scoped15
    iexact Hs_scoped16
  iintro ⟨Hs_scoped13, Hs_scoped14, Hs_scoped15, HO, HTF⟩
  imod (CO_intro d L (H0 s t) (pP L s t) (H2 s t)) $$ [HblkM HhallM Hs_scratch22] with HCO
  · isplitl [HblkM]; · iexact HblkM
    isplitl [HhallM]; · iexact HhallM
    iexact Hs_scratch22
  ihave HSo := (Entails.of_eq (So_eq d L s t 0).symm) $$ [HlocM HCO]
  · isplitl [HlocM]; · iexact HlocM
    iexact HCO
  iapply (wp_seq d L)
  iapply (part33 d L s t (O := ((O + oxB d ((L 0).castLE hcore0) (some 3)) + oxB d ((L 0).castLE hcore0) (some 2))) (W := W)) $$ [HO HTF HSo]
  · isplitr; · iexact Hm2
    isplitl [HO]; · iexact HO
    isplitl [HTF]; · iexact HTF
    iexact HSo
  iintro ⟨HtsM, Hs_scoped16, HO, HtotM, HSm⟩
  iapply (wp_seq d L)
  iapply (part34 d L s t) $$ HSm
  iintro HSm
  iapply (wp_seq d L)
  iapply (part35 d L s t) $$ HSm
  iintro HSm
  iapply (wp_seq d L)
  iapply (part36 d L s t) $$ HSm
  iintro HSm
  iapply (wp_seq d L)
  iapply (part37 d L s t) $$ HSm
  iintro HSo
  iapply (wp_seq d L)
  iapply (part38 d L s t) $$ HSo
  iintro HSm
  iapply (wp_seq d L)
  iapply (part39 d L s t) $$ HSm
  iintro HSo
  iapply (wp_seq d L)
  iapply (part40 d L s t) $$ HSo
  iintro HSm
  iapply (wp_seq d L)
  iapply (part41 d L s t) $$ HSm
  iintro HSo
  iapply (wp_seq d L)
  iapply (part42 d L s t (O := ((O + oxB d ((L 0).castLE hcore0) (some 3)) + oxB d ((L 0).castLE hcore0) (some 2))) (W := W)) $$ [HSo HO]
  · isplitr; · iexact Hm2
    isplitl [HSo]; · iexact HSo
    iexact HO
  iintro ⟨HlocM, HWO, HO⟩
  iapply (wp_seq d L)
  iapply (part43 d L s t (O := ((O + oxB d ((L 0).castLE hcore0) (some 3)) + oxB d ((L 0).castLE hcore0) (some 2))) (W := W)) $$ [HWO HO]
  · isplitr; · iexact Hm2
    isplitl [HWO]; · iexact HWO
    iexact HO
  iintro ⟨HWO, HO⟩
  iapply (wp_seq d L)
  iapply (part44 d L s t (O := ((O + oxB d ((L 0).castLE hcore0) (some 3)) + oxB d ((L 0).castLE hcore0) (some 2))) (W := W)) $$ [HWO HO]
  · isplitr; · iexact Hm2
    isplitl [HWO]; · iexact HWO
    iexact HO
  iintro ⟨HWO, HO⟩
  iapply (wp_seq d L)
  iapply (part45 d L s t (O := ((O + oxB d ((L 0).castLE hcore0) (some 3)) + oxB d ((L 0).castLE hcore0) (some 2))) (W := W)) $$ [HWO HO]
  · isplitr; · iexact Hm2
    isplitl [HWO]; · iexact HWO
    iexact HO
  iintro ⟨HWO, HO⟩
  iapply (wp_seq d L)
  iapply (part46 d L s t (O := ((O + oxB d ((L 0).castLE hcore0) (some 3)) + oxB d ((L 0).castLE hcore0) (some 2))) (W := W)) $$ [HWO HO]
  · isplitr; · iexact Hm2
    isplitl [HWO]; · iexact HWO
    iexact HO
  iintro ⟨HWO, HO⟩
  iapply (wp_seq d L)
  iapply (part47 d L s t (O := ((O + oxB d ((L 0).castLE hcore0) (some 3)) + oxB d ((L 0).castLE hcore0) (some 2))) (W := W)) $$ [HWO HO]
  · isplitr; · iexact Hm2
    isplitl [HWO]; · iexact HWO
    iexact HO
  iintro ⟨HWO, HO⟩
  iapply (wp_seq d L)
  iapply (part48 d L s t hK (O := (O + oxB d ((L 0).castLE hcore0) (some 3))) (W := W)) $$ [HO HWO Hkit2 Hst HhaM HhbM Hs_scratch23 HF_scratch19 HkM HoutsM HpaM Hs_scratch24 HpbM Hs_scratch26 HpaMp Hs_scratch25 HpbMp Hs_scratch27]
  · isplitr; · iexact Hbc
    isplitr; · iexact Hm2
    isplitr; · iexact Hm3
    isplitr; · iexact Hb2
    isplitl [HO]; · iexact HO
    isplitl [HWO]; · iexact HWO
    isplitl [Hkit2]; · iexact Hkit2
    isplitl [Hst]; · iexact Hst
    isplitl [HhaM]; · iexact HhaM
    isplitl [HhbM]; · iexact HhbM
    isplitl [Hs_scratch23]; · iexact Hs_scratch23
    isplitl [HF_scratch19]; · iexact HF_scratch19
    isplitl [HkM]; · iexact HkM
    isplitl [HoutsM]; · iexact HoutsM
    isplitl [HpaM]; · iexact HpaM
    isplitl [Hs_scratch24]; · iexact Hs_scratch24
    isplitl [HpbM]; · iexact HpbM
    isplitl [Hs_scratch26]; · iexact Hs_scratch26
    isplitl [HpaMp]; · iexact HpaMp
    isplitl [Hs_scratch25]; · iexact Hs_scratch25
    isplitl [HpbMp]; · iexact HpbMp
    iexact Hs_scratch27
  iintro ⟨HblkM, Hs_scratch22, Hst, Hs_scratch23, HhallM, Hs_scratch19, HrdV, HkM, HhaM, HhbM, HDA, HDB, HUA, HUB, HF_scratch25, HF_scratch26, HF_scratch27, Hs_scratch24, HO, HpaM⟩
  iapply (wp_seq d L)
  iapply (part49 d L s t hK (O := O) (W := W)) $$ [HDA HDB HUA HUB HF_scratch25 HF_scratch26 HF_scratch27 HkM HhaM HhbM HO Hkit3 Hst HptaM Hs_scoped17 HptbM Hs_scoped18]
  · isplitr; · iexact Hbc
    isplitr; · iexact Hm3
    isplitr; · iexact Hb3
    isplitl [HDA]; · iexact HDA
    isplitl [HDB]; · iexact HDB
    isplitl [HUA]; · iexact HUA
    isplitl [HUB]; · iexact HUB
    isplitl [HF_scratch25]; · iexact HF_scratch25
    isplitl [HF_scratch26]; · iexact HF_scratch26
    isplitl [HF_scratch27]; · iexact HF_scratch27
    isplitl [HkM]; · iexact HkM
    isplitl [HhaM]; · iexact HhaM
    isplitl [HhbM]; · iexact HhbM
    isplitl [HO]; · iexact HO
    isplitl [Hkit3]; · iexact Hkit3
    isplitl [Hst]; · iexact Hst
    isplitl [HptaM]; · iexact HptaM
    isplitl [Hs_scoped17]; · iexact Hs_scoped17
    isplitl [HptbM]; · iexact HptbM
    iexact Hs_scoped18
  iintro ⟨Hs_scratch26, HpbM, Hs_scratch25, HpaMp, Hs_scratch27, HpbMp, HkM, HhaM, HhbM, Hs_scoped17, HptaM, Hs_scoped18, HptbM, HvM, HO, Hst, HoutsM⟩
  ihave HoutsM := (Entails.of_eq (congrArg (fun e => PS (F := F) (tcV d L) outsM (Finset.Ico (20000 * (L 1).val) e) fullShare (RR s t)) (show 20000 * ((L 1).val + 1) = 20000 * (L 1).val + 20000 by omega))) $$ HoutsM
  ihave HoutM := (Entails.of_eq (congrArg (fun e => PS (F := F) (tcV d L) outM (Finset.Ico (20000 * (L 1).val) e) fullShare (go)) (show 20000 * ((L 1).val + 1) = 20000 * (L 1).val + 20000 by omega))) $$ HoutM
  iapply (wp_dmaP 𝒱₀ none 640000 cr_k (np 20000 (by decide))
    (PS_slice (F := F) (c := tcV d L) (m := outsM) (g := RR s t) _ _ (k0_off183_inb L) (fun _ => rfl) (20000 * (L 1).val) 20000 (congrFun (k0_off183_eq L) 0) rfl)
    (PS_range (F := F) (n := 20000) (c := tcV d L) (m := kM) (g := kst (kk s t) (bs L) 625) rfl)
    (PS_range (F := F) (n := 20000) (c := tcV d L) (m := kM) (g := fun n => RR s t (20000 * (L 1).val + n)) rfl)) $$ [HoutsM HkM Hs_scoped19]
  · isplitl [HoutsM]; · iexact HoutsM
    isplitl [HkM]; · iexact HkM
    iexact Hs_scoped19
  iintro HF
  iapply (wp_wt (c := tcV d L) 𝒱₀ none (N := 640000) cr_k) $$ [HF HO]
  · isplitr; · iexact Hm4
    isplitl [HF]; · iexact HF
    iexact HO
  iintro ⟨⟨HkM, HoutsM⟩, Hs_scoped19, HO⟩
  iapply (wp_dmaP 𝒱₀ none 640000 (cr_out rfl) (np 20000 (by decide))
    (PS_range (F := F) (n := 20000) (c := tcV d L) (m := kM) (g := fun n => RR s t (20000 * (L 1).val + n)) rfl)
    (PS_slice (F := F) (c := tcV d L) (m := outM) (g := go) _ _ (k0_off183_inb L) (fun _ => rfl) (20000 * (L 1).val) 20000 (congrFun (k0_off183_eq L) 0) rfl)
    (PS_slice (F := F) (c := tcV d L) (m := outM) (g := RR s t) _ _ (k0_off183_inb L) (fun _ => rfl) (20000 * (L 1).val) 20000 (congrFun (k0_off183_eq L) 0) rfl)) $$ [HkM HoutM Hs_scoped20]
  · isplitl [HkM]; · iexact HkM
    isplitl [HoutM]; · iexact HoutM
    iexact Hs_scoped20
  iintro HF
  iapply (wp_wt (c := tcV d L) 𝒱₀ none (N := 640000) (cr_out rfl)) $$ [HF HO]
  · isplitr; · iexact Hm4
    isplitl [HF]; · iexact HF
    iexact HO
  iintro ⟨⟨HoutM, HkM⟩, Hs_scoped20, HO⟩
  iapply (wp_fin (F := F))
  iapply HQ
  isplitl [HO]
  · iexact HO
  isplitl [HrdK]
  · iexact HrdK
  isplitl [HrdV]
  · iexact HrdV
  isplitl [HkM]
  · iexists _
    iexact HkM
  isplitl [HvM]
  · iexists _
    iexact HvM
  isplitl [HhaM]
  · iexists _
    iexact HhaM
  isplitl [HhbM]
  · iexists _
    iexact HhbM
  isplitl [HblkM]
  · iexists _
    iexact HblkM
  isplitl [HlocM]
  · iexists _
    iexact HlocM
  isplitl [HaccM]
  · iexists _
    iexact HaccM
  isplitl [HtotM]
  · iexists _
    iexact HtotM
  isplitl [HpaM]
  · iapply (PX_open d L s t paM 0) $$ HpaM
  isplitl [HpaMp]
  · iapply (PX_open d L s t paM' 0) $$ HpaMp
  isplitl [HpbM]
  · iapply (PX_open d L s t pbM 0) $$ HpbM
  isplitl [HpbMp]
  · iapply (PX_open d L s t pbM' 0) $$ HpbMp
  isplitl [HptaM]
  · iexists _
    iexact HptaM
  isplitl [HptbM]
  · iexists _
    iexact HptbM
  isplitl [HcarM]
  · iexists _
    iexact HcarM
  isplitl [HhallM]
  · iexists _
    iexact HhallM
  isplitl [HtsM]
  · iexact HtsM
  isplitl [HoutsM]
  · iexists (RR s t)
    iapply (Entails.of_eq (congrArg (fun e => PS (F := F) (tcV d L) outsM (Finset.Ico (20000 * (L 1).val) e) fullShare (RR s t)) (show 20000 * (L 1).val + 20000 = 20000 * ((L 1).val + 1) by omega))) $$ HoutsM
  isplitl [HoutM]
  · iapply (Entails.of_eq (congrArg (fun e => PS (F := F) (tcV d L) outM (Finset.Ico (20000 * (L 1).val) e) fullShare (RR s t)) (show 20000 * (L 1).val + 20000 = 20000 * ((L 1).val + 1) by omega))) $$ HoutM
  isplitl [Hs_scratch18]
  · iexact Hs_scratch18
  isplitl [Hs_scratch19]
  · iexact Hs_scratch19
  isplitl [Hs_scratch20]
  · iexact Hs_scratch20
  isplitl [Hs_scratch21]
  · iexact Hs_scratch21
  isplitl [Hs_scratch22]
  · iexact Hs_scratch22
  isplitl [Hs_scratch23]
  · iexact Hs_scratch23
  isplitl [Hs_scratch24]
  · iexact Hs_scratch24
  isplitl [Hs_scratch25]
  · iexact Hs_scratch25
  isplitl [Hs_scratch26]
  · iexact Hs_scratch26
  isplitl [Hs_scratch27]
  · iexact Hs_scratch27
  isplitl [Hs_scoped0]
  · iexact Hs_scoped0
  isplitl [Hs_scoped1]
  · iexact Hs_scoped1
  isplitl [Hs_scoped2]
  · iexact Hs_scoped2
  isplitl [Hs_scoped3]
  · iexact Hs_scoped3
  isplitl [Hs_scoped4]
  · iexact Hs_scoped4
  isplitl [Hs_scoped5]
  · iexact Hs_scoped5
  isplitl [Hs_scoped6]
  · iexact Hs_scoped6
  isplitl [Hs_scoped7]
  · iexact Hs_scoped7
  isplitl [Hs_scoped8]
  · iexact Hs_scoped8
  isplitl [Hs_scoped9]
  · iexact Hs_scoped9
  isplitl [Hs_scoped10]
  · iexact Hs_scoped10
  isplitl [Hs_scoped11]
  · iexact Hs_scoped11
  isplitl [Hs_scoped12]
  · iexact Hs_scoped12
  isplitl [Hs_scoped13]
  · iexact Hs_scoped13
  isplitl [Hs_scoped14]
  · iexact Hs_scoped14
  isplitl [Hs_scoped15]
  · iexact Hs_scoped15
  isplitl [Hs_scoped16]
  · iexact Hs_scoped16
  isplitl [Hs_scoped17]
  · iexact Hs_scoped17
  isplitl [Hs_scoped18]
  · iexact Hs_scoped18
  isplitl [Hs_scoped19]
  · iexact Hs_scoped19
  isplitl [Hs_scoped20]
  · iexact Hs_scoped20
  iexact Hst

end Tile

end Cert.Proof.Sorting
-- ==== Proof.Own.lean ====
/-
A tile's own semaphores and buffers, one by one.
-/
module

public import proofs.«01_k».proof.Proof.Phase1
public import proofs.«01_k».proof.Proof.Copies

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

open Idealize.ShloMosaic.SparseCore.Cfg (ownBufs ownSems0 ownCells ownRefs mem_ownCells mem_ownRefs)

/-! ## A separating conjunction's listed members -/

theorem bigSep_list {I : Type} [DecidableEq I] (Φ : I → sProp (MT nD τ sig (HIx 4) (Elt F) ℕ UU ℕ)) : ∀ (l : List I) (A : Finset I), l.Nodup → (∀ x ∈ l, x ∈ A) →
    bigSep A Φ = l.foldr (fun i R => iprop(Φ i ∗ R)) (bigSep (l.foldl Finset.erase A) Φ)
  | [], _, _, _ => rfl
  | a :: l, A, hn, hs => by
    rw [SparseCore.bigSep_erase' (hs a List.mem_cons_self), bigSep_list Φ l (A.erase a) (List.nodup_cons.mp hn).2 fun x hx =>
      Finset.mem_erase.mpr ⟨fun e => (List.nodup_cons.mp hn).1 (e ▸ hx), hs x (List.mem_cons_of_mem _ hx)⟩]
    rfl

/-! ## A tile's own semaphores and buffers -/

section Own
variable (d : Dev nD) (c : Fin τ.nSC) (i : Fin τ.nSub)

def semL : List (SemLoc sig) := [.dma cc0_scratch18.sem, .dma cc0_scratch19.sem, .dma cc0_scratch20.sem, .dma cc0_scratch21.sem, .dma cc0_scratch22.sem, .dma cc0_scratch23.sem, .dma cc0_scratch24.sem, .dma cc0_scratch25.sem, .dma cc0_scratch26.sem, .dma cc0_scratch27.sem, .dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem, .dma cc0_scoped14.sem, .dma cc0_scoped15.sem, .dma cc0_scoped16.sem, .dma cc0_scoped17.sem, .dma cc0_scoped18.sem, .dma cc0_scoped19.sem, .dma cc0_scoped20.sem]

theorem semL_nodup : semL.Nodup := by unfold semL; decide +kernel
theorem semL_scoped : ∀ sm ∈ semL, (sm : SemLoc sig).isScoped .scVector = true := by unfold semL; decide +kernel

/-- The tile's other semaphores. -/
def semRest : sProp 𝕄 := bigSep ((semL.map fun sm => ((V d c i, sm) : GSem nD τ sig)).foldl Finset.erase (ownCells (V d c i))) fun g => semVal g 0

theorem ownSems0_V : (ownSems0 (V d c i) : sProp 𝕄) = iprop(semVal (V d c i, .dma cc0_scratch18.sem) 0
        ∗ semVal (V d c i, .dma cc0_scratch19.sem) 0
        ∗ semVal (V d c i, .dma cc0_scratch20.sem) 0
        ∗ semVal (V d c i, .dma cc0_scratch21.sem) 0
        ∗ semVal (V d c i, .dma cc0_scratch22.sem) 0
        ∗ semVal (V d c i, .dma cc0_scratch23.sem) 0
        ∗ semVal (V d c i, .dma cc0_scratch24.sem) 0
        ∗ semVal (V d c i, .dma cc0_scratch25.sem) 0
        ∗ semVal (V d c i, .dma cc0_scratch26.sem) 0
        ∗ semVal (V d c i, .dma cc0_scratch27.sem) 0
        ∗ semVal (V d c i, .dma cc0_scoped0.sem) 0
        ∗ semVal (V d c i, .dma cc0_scoped1.sem) 0
        ∗ semVal (V d c i, .dma cc0_scoped2.sem) 0
        ∗ semVal (V d c i, .dma cc0_scoped3.sem) 0
        ∗ semVal (V d c i, .dma cc0_scoped4.sem) 0
        ∗ semVal (V d c i, .dma cc0_scoped5.sem) 0
        ∗ semVal (V d c i, .dma cc0_scoped6.sem) 0
        ∗ semVal (V d c i, .dma cc0_scoped7.sem) 0
        ∗ semVal (V d c i, .dma cc0_scoped8.sem) 0
        ∗ semVal (V d c i, .dma cc0_scoped9.sem) 0
        ∗ semVal (V d c i, .dma cc0_scoped10.sem) 0
        ∗ semVal (V d c i, .dma cc0_scoped11.sem) 0
        ∗ semVal (V d c i, .dma cc0_scoped12.sem) 0
        ∗ semVal (V d c i, .dma cc0_scoped13.sem) 0
        ∗ semVal (V d c i, .dma cc0_scoped14.sem) 0
        ∗ semVal (V d c i, .dma cc0_scoped15.sem) 0
        ∗ semVal (V d c i, .dma cc0_scoped16.sem) 0
        ∗ semVal (V d c i, .dma cc0_scoped17.sem) 0
        ∗ semVal (V d c i, .dma cc0_scoped18.sem) 0
        ∗ semVal (V d c i, .dma cc0_scoped19.sem) 0
        ∗ semVal (V d c i, .dma cc0_scoped20.sem) 0
        ∗ semRest d c i) := by
  unfold SparseCore.Cfg.ownSems0
  rw [bigSep_list (fun g : GSem nD τ sig => semVal g 0) (semL.map fun sm => ((V d c i, sm) : GSem nD τ sig)) (ownCells (V d c i))
    (semL_nodup.map fun a b e => (Prod.mk.inj e).2) fun x hx => by
      obtain ⟨sm, hsm, rfl⟩ := List.mem_map.mp hx
      exact mem_ownCells.mpr ⟨rfl, semL_scoped sm hsm⟩]
  show List.foldr _ (semRest d c i) _ = _
  generalize semRest (F := F) d c i = R
  simp only [semL, List.map_cons, List.map_nil, List.foldr_cons, List.foldr_nil]

def bufL : List (Ref sig .scVector) := [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14]

theorem bufL_nodup : bufL.Nodup := by unfold bufL; decide +kernel

/-- The tile's other buffers. -/
def bufRest : sProp 𝕄 := bigSep ((bufL.map fun b => (Proc.scVector c i).devRef b).foldl Finset.erase (ownRefs (τ := τ) (.scVector c i)))
  fun b => iprop(∃ f, ((d, b) : Loc nD τ sig) ↦{fullShare} f)

/-- A whole buffer at some contents, as the words it holds. -/
theorem own_PS (c : Thread nD τ) {sp : Space} {ds : Fin 1 → ℕ} (m : Memref sig c.2.kind sp ⟨1, ds⟩ .i32) (A : Finset ℕ) (q : PosShare TreeShare) (hA : ∀ n, n < ds 0 → n ∈ A) :
    (iprop(∃ f, m.view.loc c ↦[m.view.set]{q} f) : sProp 𝕄) = iprop(∃ g : ℕ → BitVec 32, PS (F := F) c m A q g) := by
  refine ent_antisymm ?_ ?_
  · iintro ⟨%f, H⟩
    iexists flat (m.view.read (Elt F) f)
    iapply (Entails.of_eq ((PV_of (F := F) m q f).trans (PV_flat _ hA)))
    iexact H
  · iintro ⟨%g, H⟩
    ihave H := (Entails.of_eq (PS_full (F := F) (m := m) (q := q) (g := g) hA)) $$ H
    unfold PV
    iexists _
    iexact H

theorem own_whole (c : Thread nD τ) (b : Ref sig c.2.kind) :
    (iprop(∃ f, c.loc b ↦{fullShare} f) : sProp 𝕄) = iprop(∃ f, (Memref.whole b).view.loc c ↦[(Memref.whole b).view.set]{fullShare} f) := by
  have e : (Memref.whole b).view.set = Finset.univ := View.set_whole b
  rw [e]

theorem ownBufs_V : (ownBufs (V d c i) : sProp 𝕄) = iprop(iprop(∃ g : ℕ → BitVec 32, PS (F := F) (V d c i) kM (Finset.range 20000) fullShare g)
        ∗ iprop(∃ g : ℕ → BitVec 32, PS (F := F) (V d c i) vM (Finset.range 20000) fullShare g)
        ∗ iprop(∃ g : ℕ → BitVec 32, PS (F := F) (V d c i) haM (Finset.range 10240) fullShare g)
        ∗ iprop(∃ g : ℕ → BitVec 32, PS (F := F) (V d c i) hbM (Finset.range 10240) fullShare g)
        ∗ iprop(∃ g : ℕ → BitVec 32, PS (F := F) (V d c i) blkM (Finset.range 20480) fullShare g)
        ∗ iprop(∃ g : ℕ → BitVec 32, PS (F := F) (V d c i) locM (Finset.range 640) fullShare g)
        ∗ iprop(∃ g : ℕ → BitVec 32, PS (F := F) (V d c i) accM (Finset.range 640) fullShare g)
        ∗ iprop(∃ g : ℕ → BitVec 32, PS (F := F) (V d c i) totM (Finset.range 16) fullShare g)
        ∗ iprop(∃ g : ℕ → BitVec 32, PS (F := F) (V d c i) paM (Finset.range 128) fullShare g)
        ∗ iprop(∃ g : ℕ → BitVec 32, PS (F := F) (V d c i) paM' (Finset.range 128) fullShare g)
        ∗ iprop(∃ g : ℕ → BitVec 32, PS (F := F) (V d c i) pbM (Finset.range 128) fullShare g)
        ∗ iprop(∃ g : ℕ → BitVec 32, PS (F := F) (V d c i) pbM' (Finset.range 128) fullShare g)
        ∗ iprop(∃ g : ℕ → BitVec 32, PS (F := F) (V d c i) ptaM (Finset.range 16) fullShare g)
        ∗ iprop(∃ g : ℕ → BitVec 32, PS (F := F) (V d c i) ptbM (Finset.range 16) fullShare g)
        ∗ iprop(∃ g : ℕ → BitVec 32, PS (F := F) (V d c i) carM (Finset.range 1) fullShare g)
        ∗ bufRest d c i) := by
  unfold SparseCore.Cfg.ownBufs
  rw [bigSep_list (fun b : DevRef τ sig => iprop(∃ f, ((d, b) : Loc nD τ sig) ↦{fullShare} f)) (bufL.map fun b => (Proc.scVector c i).devRef b) (ownRefs (τ := τ) (.scVector c i))
    (bufL_nodup.map (Proc.devRef_injective _)) fun x hx => by
      obtain ⟨b, hb, rfl⟩ := List.mem_map.mp hx
      exact SparseCore.Cfg.mem_ownRefs_of_owner (p := Proc.scVector c i) (b := (Proc.scVector c i).devRef b)
        (by fin_cases hb <;> rfl)]
  show List.foldr _ (bufRest d c i) _ = _
  generalize bufRest (F := F) d c i = R
  simp only [bufL, List.map_cons, List.map_nil, List.foldr_cons, List.foldr_nil]
  have e0 : (iprop(∃ f, ((d, (Proc.scVector c i).devRef cc0_scratch0) : Loc nD τ sig) ↦{fullShare} f) : sProp 𝕄) = iprop(∃ g : ℕ → BitVec 32, PS (F := F) (V d c i) kM (Finset.range 20000) fullShare g) :=
    (own_whole (F := F) (V d c i) cc0_scratch0).trans (own_PS (F := F) (V d c i) kM (Finset.range 20000) fullShare fun k hk => Finset.mem_range.mpr hk)
  have e1 : (iprop(∃ f, ((d, (Proc.scVector c i).devRef cc0_scratch1) : Loc nD τ sig) ↦{fullShare} f) : sProp 𝕄) = iprop(∃ g : ℕ → BitVec 32, PS (F := F) (V d c i) vM (Finset.range 20000) fullShare g) :=
    (own_whole (F := F) (V d c i) cc0_scratch1).trans (own_PS (F := F) (V d c i) vM (Finset.range 20000) fullShare fun k hk => Finset.mem_range.mpr hk)
  have e2 : (iprop(∃ f, ((d, (Proc.scVector c i).devRef cc0_scratch2) : Loc nD τ sig) ↦{fullShare} f) : sProp 𝕄) = iprop(∃ g : ℕ → BitVec 32, PS (F := F) (V d c i) haM (Finset.range 10240) fullShare g) :=
    (own_whole (F := F) (V d c i) cc0_scratch2).trans (own_PS (F := F) (V d c i) haM (Finset.range 10240) fullShare fun k hk => Finset.mem_range.mpr hk)
  have e3 : (iprop(∃ f, ((d, (Proc.scVector c i).devRef cc0_scratch3) : Loc nD τ sig) ↦{fullShare} f) : sProp 𝕄) = iprop(∃ g : ℕ → BitVec 32, PS (F := F) (V d c i) hbM (Finset.range 10240) fullShare g) :=
    (own_whole (F := F) (V d c i) cc0_scratch3).trans (own_PS (F := F) (V d c i) hbM (Finset.range 10240) fullShare fun k hk => Finset.mem_range.mpr hk)
  have e4 : (iprop(∃ f, ((d, (Proc.scVector c i).devRef cc0_scratch4) : Loc nD τ sig) ↦{fullShare} f) : sProp 𝕄) = iprop(∃ g : ℕ → BitVec 32, PS (F := F) (V d c i) blkM (Finset.range 20480) fullShare g) :=
    (own_whole (F := F) (V d c i) cc0_scratch4).trans (own_PS (F := F) (V d c i) blkM (Finset.range 20480) fullShare fun k hk => Finset.mem_range.mpr hk)
  have e5 : (iprop(∃ f, ((d, (Proc.scVector c i).devRef cc0_scratch5) : Loc nD τ sig) ↦{fullShare} f) : sProp 𝕄) = iprop(∃ g : ℕ → BitVec 32, PS (F := F) (V d c i) locM (Finset.range 640) fullShare g) :=
    (own_whole (F := F) (V d c i) cc0_scratch5).trans (own_PS (F := F) (V d c i) locM (Finset.range 640) fullShare fun k hk => Finset.mem_range.mpr hk)
  have e6 : (iprop(∃ f, ((d, (Proc.scVector c i).devRef cc0_scratch6) : Loc nD τ sig) ↦{fullShare} f) : sProp 𝕄) = iprop(∃ g : ℕ → BitVec 32, PS (F := F) (V d c i) accM (Finset.range 640) fullShare g) :=
    (own_whole (F := F) (V d c i) cc0_scratch6).trans (own_PS (F := F) (V d c i) accM (Finset.range 640) fullShare fun k hk => Finset.mem_range.mpr hk)
  have e7 : (iprop(∃ f, ((d, (Proc.scVector c i).devRef cc0_scratch7) : Loc nD τ sig) ↦{fullShare} f) : sProp 𝕄) = iprop(∃ g : ℕ → BitVec 32, PS (F := F) (V d c i) totM (Finset.range 16) fullShare g) :=
    (own_whole (F := F) (V d c i) cc0_scratch7).trans (own_PS (F := F) (V d c i) totM (Finset.range 16) fullShare fun k hk => Finset.mem_range.mpr hk)
  have e8 : (iprop(∃ f, ((d, (Proc.scVector c i).devRef cc0_scratch8) : Loc nD τ sig) ↦{fullShare} f) : sProp 𝕄) = iprop(∃ g : ℕ → BitVec 32, PS (F := F) (V d c i) paM (Finset.range 128) fullShare g) :=
    (own_whole (F := F) (V d c i) cc0_scratch8).trans (own_PS (F := F) (V d c i) paM (Finset.range 128) fullShare fun k hk => Finset.mem_range.mpr hk)
  have e9 : (iprop(∃ f, ((d, (Proc.scVector c i).devRef cc0_scratch9) : Loc nD τ sig) ↦{fullShare} f) : sProp 𝕄) = iprop(∃ g : ℕ → BitVec 32, PS (F := F) (V d c i) paM' (Finset.range 128) fullShare g) :=
    (own_whole (F := F) (V d c i) cc0_scratch9).trans (own_PS (F := F) (V d c i) paM' (Finset.range 128) fullShare fun k hk => Finset.mem_range.mpr hk)
  have e10 : (iprop(∃ f, ((d, (Proc.scVector c i).devRef cc0_scratch10) : Loc nD τ sig) ↦{fullShare} f) : sProp 𝕄) = iprop(∃ g : ℕ → BitVec 32, PS (F := F) (V d c i) pbM (Finset.range 128) fullShare g) :=
    (own_whole (F := F) (V d c i) cc0_scratch10).trans (own_PS (F := F) (V d c i) pbM (Finset.range 128) fullShare fun k hk => Finset.mem_range.mpr hk)
  have e11 : (iprop(∃ f, ((d, (Proc.scVector c i).devRef cc0_scratch11) : Loc nD τ sig) ↦{fullShare} f) : sProp 𝕄) = iprop(∃ g : ℕ → BitVec 32, PS (F := F) (V d c i) pbM' (Finset.range 128) fullShare g) :=
    (own_whole (F := F) (V d c i) cc0_scratch11).trans (own_PS (F := F) (V d c i) pbM' (Finset.range 128) fullShare fun k hk => Finset.mem_range.mpr hk)
  have e12 : (iprop(∃ f, ((d, (Proc.scVector c i).devRef cc0_scratch12) : Loc nD τ sig) ↦{fullShare} f) : sProp 𝕄) = iprop(∃ g : ℕ → BitVec 32, PS (F := F) (V d c i) ptaM (Finset.range 16) fullShare g) :=
    (own_whole (F := F) (V d c i) cc0_scratch12).trans (own_PS (F := F) (V d c i) ptaM (Finset.range 16) fullShare fun k hk => Finset.mem_range.mpr hk)
  have e13 : (iprop(∃ f, ((d, (Proc.scVector c i).devRef cc0_scratch13) : Loc nD τ sig) ↦{fullShare} f) : sProp 𝕄) = iprop(∃ g : ℕ → BitVec 32, PS (F := F) (V d c i) ptbM (Finset.range 16) fullShare g) :=
    (own_whole (F := F) (V d c i) cc0_scratch13).trans (own_PS (F := F) (V d c i) ptbM (Finset.range 16) fullShare fun k hk => Finset.mem_range.mpr hk)
  have e14 : (iprop(∃ f, ((d, (Proc.scVector c i).devRef cc0_scratch14) : Loc nD τ sig) ↦{fullShare} f) : sProp 𝕄) = iprop(∃ g : ℕ → BitVec 32, PS (F := F) (V d c i) carM (Finset.range 1) fullShare g) :=
    (own_whole (F := F) (V d c i) cc0_scratch14).trans (own_PS (F := F) (V d c i) carM (Finset.range 1) fullShare fun k hk => Finset.mem_range.mpr hk)
  have sc : ∀ {A A' B B' : sProp (MT nD τ sig (HIx 4) (Elt F) ℕ UU ℕ)}, A = A' → B = B' → iprop(A ∗ B) = iprop(A' ∗ B') := fun h h' => by rw [h, h']
  exact sc e0 (sc e1 (sc e2 (sc e3 (sc e4 (sc e5 (sc e6 (sc e7 (sc e8 (sc e9 (sc e10 (sc e11 (sc e12 (sc e13 (sc e14 rfl))))))))))))))

end Own

end Cert.Proof.Sorting
-- ==== Proof.Call.lean ====
/-
What the one call carries: the operands split among the tiles, their kits for the barriers, what each owes.
-/
module

public import proofs.«01_k».proof.Proof.Phase1
public import proofs.«01_k».proof.Proof.Copies

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

theorem sc_bar0_ne_go : (sc_bar0 : Sem sig) ≠ sc_go := by decide

theorem bigSep_emp' {I : Type} (A : Finset I) : (bigSep A fun _ => iprop(emp)) = (iprop(emp) : sProp 𝕄) := bigSep_emp_const A

/-- The SparseCore of the call. -/
abbrev coreOf (c : Fin ((K (F := F)).nCore 0)) : Fin τ.nSC := (K (F := F)).core 0 c

/-- The tile of a task, and of a vector subcore. -/
abbrev tI (i : Fin ((K (F := F)).nSub 0)) : TI := ⟨i.val, i.isLt⟩
abbrev i0 : TI := ⟨0, by decide⟩
abbrev iT (i : Fin τ.nSub) : TI := ⟨i.val, i.isLt⟩

/-! ## What the launch has a tile owe -/

/-- A unit on every tile's barrier semaphore for each of the four barriers. -/
def oxV (d : Dev nD) (c : Fin τ.nSC) : CellTallies nD τ sig (HIx 4) := ∑ r : Fin 4, oxB d c (some r)

theorem oxB_none (d : Dev nD) (c : Fin τ.nSC) (r : Fin 4) (g : GSem nD τ sig) : oxB d c (some r) g none = 0 := by
  unfold oxB
  rw [Finset.sum_apply, Finsupp.finsetSum_apply]
  exact Finset.sum_eq_zero fun j _ => by rw [tallyAt_apply, if_neg (fun e => nomatch e.2)]

theorem oxB_pos {d : Dev nD} {c : Fin τ.nSC} {r : Fin 4} {g : GSem nD τ sig} {ι : HIx 4} (h : 0 < oxB d c (some r) g ι) :
    ∃ j : TI, g = bcell d c j ∧ ι = some r := by
  unfold oxB at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

theorem oxV_pos {d : Dev nD} {c : Fin τ.nSC} {g : GSem nD τ sig} {ι : HIx 4} (h : 0 < oxV d c g ι) :
    ∃ (j : TI) (r : Fin 4), g = bcell d c j ∧ ι = some r := by
  unfold oxV at h
  rw [Finset.sum_apply, Finsupp.finsetSum_apply] at h
  obtain ⟨r, -, hr⟩ := Finset.exists_ne_zero_of_sum_ne_zero (Nat.pos_iff_ne_zero.mp h)
  obtain ⟨j, e, e'⟩ := oxB_pos (Nat.pos_of_ne_zero hr)
  exact ⟨j, r, e, e'⟩

theorem lev_bcell (d : Dev nD) (c : Fin τ.nSC) (j : TI) (r : Fin 4) : (K (F := F)).lev (bcell d c j) (some r) = 8 * r.val + 3 :=
  (K (F := F)).lev_V_reg d c (j.castLE hsub0) (show (sc_bar0 : Sem sig) ≠ (K (F := F)).go from sc_bar0_ne_go) r

theorem lev_oxB {d : Dev nD} {c : Fin τ.nSC} {r : Fin 4} {g : GSem nD τ sig} {ι : HIx 4} (h : 0 < oxB d c (some r) g ι) :
    (K (F := F)).lev g ι = 8 * r.val + 3 := by
  obtain ⟨j, rfl, rfl⟩ := oxB_pos h
  exact lev_bcell d c j r

/-! ## What the call carries -/

section Pay
variable (s t : Dev nD → ℕ → BitVec 32)

/-- A tile's kit for the barriers. -/
def bkit (d : Dev nD) (c : Fin τ.nSC) (j : TI) : sProp 𝕄 :=
  iprop(bctx (pay (F := F) d c (s d) (t d)) d c
    ∗ (bigSep Finset.univ fun r : Fin 4 => iprop((bigSep Finset.univ fun k : TI => dutyTok EB (bcell d c k) 0 (16 * r.val + j.val))
        ∗ cred (tallyAt (bcell d c j) (some r) 16)
        ∗ (bigSep Finset.univ fun n : TI => dutyTok EX (bcell d c j) r.val n.val)))
    ∗ bst (F := F) d c j 0)

/-- What a task is handed: its share of the two columns, its stretches of the result and of the shared buffers. -/
def goT (d : Dev nD) (c : Fin τ.nSC) (j : TI) : sProp 𝕄 :=
  iprop(PS (F := F) (V d c (j.castLE hsub0)) srcM (Finset.range 160000) (sh16 j) (s d)
    ∗ PS (F := F) (V d c (j.castLE hsub0)) dstM (Finset.range 160000) (sh16 j) (t d)
    ∗ iprop(∃ g : ℕ → BitVec 32, PS (F := F) (V d c (j.castLE hsub0)) outM (Finset.Ico (20000 * j.val) (20000 * (j.val + 1))) fullShare g)
    ∗ iprop(∃ g : ℕ → BitVec 32, PS (F := F) (V d c (j.castLE hsub0)) hallM (Finset.Ico (20480 * j.val) (20480 * (j.val + 1))) fullShare g)
    ∗ iprop(∃ g : ℕ → BitVec 32, PS (F := F) (V d c (j.castLE hsub0)) tsM (Finset.Ico (16 * j.val) (16 * (j.val + 1))) fullShare g)
    ∗ iprop(∃ g : ℕ → BitVec 32, PS (F := F) (V d c (j.castLE hsub0)) outsM (img (KN (s d) (t d)) NN (20000 * j.val) (20000 * (j.val + 1))) fullShare g))

/-- What it hands back: its stretch of the result sorted. -/
def tdT (d : Dev nD) (c : Fin τ.nSC) (j : TI) : sProp 𝕄 :=
  iprop(PS (F := F) (V d c (j.castLE hsub0)) srcM (Finset.range 160000) (sh16 j) (s d)
    ∗ PS (F := F) (V d c (j.castLE hsub0)) dstM (Finset.range 160000) (sh16 j) (t d)
    ∗ PS (F := F) (V d c (j.castLE hsub0)) outM (Finset.Ico (20000 * j.val) (20000 * (j.val + 1))) fullShare (RR (s d) (t d))
    ∗ iprop(∃ g : ℕ → BitVec 32, PS (F := F) (V d c (j.castLE hsub0)) hallM (Finset.Ico (20480 * j.val) (20480 * (j.val + 1))) fullShare g)
    ∗ PS (F := F) (V d c (j.castLE hsub0)) tsM (Finset.range 256) (sh16 j) (TT (s d) (t d))
    ∗ iprop(∃ g : ℕ → BitVec 32, PS (F := F) (V d c (j.castLE hsub0)) outsM (Finset.Ico (20000 * j.val) (20000 * (j.val + 1))) fullShare g)
    ∗ semVal (bcell d c j) 0)

/-- The barrier semaphores, at zero. -/
def bars (d : Dev nD) (c : Fin τ.nSC) : sProp 𝕄 := bigSep Finset.univ fun j : TI => semVal (bcell d c j) 0

/-- What the call takes, and what it gives back. -/
def stT (d : Dev nD) (c : Fin τ.nSC) : sProp 𝕄 :=
  iprop(PS (F := F) (V d c (i0.castLE hsub0)) srcM (Finset.range 160000) fullShare (s d)
    ∗ PS (F := F) (V d c (i0.castLE hsub0)) dstM (Finset.range 160000) fullShare (t d)
    ∗ iprop(∃ g : ℕ → BitVec 32, PS (F := F) (V d c (i0.castLE hsub0)) outM (Finset.range 320000) fullShare g))
def dnT (d : Dev nD) (c : Fin τ.nSC) : sProp 𝕄 :=
  iprop(PS (F := F) (V d c (i0.castLE hsub0)) srcM (Finset.range 160000) fullShare (s d)
    ∗ PS (F := F) (V d c (i0.castLE hsub0)) dstM (Finset.range 160000) fullShare (t d)
    ∗ PS (F := F) (V d c (i0.castLE hsub0)) outM (Finset.range 320000) fullShare (RR (s d) (t d))
    ∗ bars d c)

instance goT_storable (d : Dev nD) (c : Fin τ.nSC) (j : TI) : BI.Storable (upEmb : UEmb _ 𝕄) (goT (F := F) s t d c j) := by unfold goT; infer_instance
instance tdT_storable (d : Dev nD) (c : Fin τ.nSC) (j : TI) : BI.Storable (upEmb : UEmb _ 𝕄) (tdT (F := F) s t d c j) := by unfold tdT; infer_instance
instance stT_storable (d : Dev nD) (c : Fin τ.nSC) : BI.Storable (upEmb : UEmb _ 𝕄) (stT (F := F) s t d c) := by unfold stT; infer_instance
instance bars_storable (d : Dev nD) (c : Fin τ.nSC) : BI.Storable (upEmb : UEmb _ 𝕄) (bars (F := F) d c) := by unfold bars; infer_instance
instance dnT_storable (d : Dev nD) (c : Fin τ.nSC) : BI.Storable (upEmb : UEmb _ 𝕄) (dnT (F := F) s t d c) := by unfold dnT; infer_instance

set_option backward.proofsInPublic true in
/-- What the handshakes of the one call carry. -/
def P : (K (F := F)).Pay (N := 4) (nD := nD) (Val := Elt F) (Name := ℕ) (U := UU) where
  st := fun q d c => match q with | 0 => stT (F := F) s t d (coreOf (F := F) c)
  dn := fun q d c => match q with | 0 => dnT (F := F) s t d (coreOf (F := F) c)
  go := fun q d c i => match q with | 0 => goT (F := F) s t d (coreOf (F := F) c) (tI (F := F) i)
  td := fun q d c i => match q with | 0 => tdT (F := F) s t d (coreOf (F := F) c) (tI (F := F) i)
  x := fun _ thr => match thr with
    | (d, .scVector c i) => if c.val < 1 then bkit (F := F) s t d c (iT i) else iprop(emp)
    | _ => iprop(emp)
  ox := fun _ thr => match thr with
    | (d, .scVector c _) => if c.val < 1 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, r, rfl, rfl⟩ := oxV_pos h
        rw [lev_bcell]
        have := r.isLt
        exact ⟨show 8 * 0 + 3 ≤ _ by omega, show _ ≤ 8 * 3 + 5 by omega⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) s t).IsStorable where
  st q d c := match q with
    | 0 => (inferInstance : BI.Storable (upEmb : UEmb _ 𝕄) (stT (F := F) s t d (coreOf (F := F) c)))
  dn q d c := match q with
    | 0 => (inferInstance : BI.Storable (upEmb : UEmb _ 𝕄) (dnT (F := F) s t d (coreOf (F := F) c)))
  go q d c i := match q with
    | 0 => (inferInstance : BI.Storable (upEmb : UEmb _ 𝕄) (goT (F := F) s t d (coreOf (F := F) c) (tI (F := F) i)))
  td q d c i := match q with
    | 0 => (inferInstance : BI.Storable (upEmb : UEmb _ 𝕄) (tdT (F := F) s t d (coreOf (F := F) c) (tI (F := F) i)))

end Pay

end Cert.Proof.Sorting
-- ==== Proof.Task.lean ====
/-
The tile's task as the call's obligation.
-/
module

public import proofs.«01_k».proof.Proof.Tile
public import proofs.«01_k».proof.Proof.Own
public import proofs.«01_k».proof.Proof.Call

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Task

theorem four (Φ : Fin 4 → sProp (MT nD τ sig (HIx 4) (Elt F) ℕ UU ℕ)) : bigSep Finset.univ Φ = iprop(Φ 0 ∗ Φ 1 ∗ Φ 2 ∗ Φ 3 ∗ emp) := by
  rw [bigSep_list Φ [0, 1, 2, 3] Finset.univ (by decide) (by decide), show ([0, 1, 2, 3] : List (Fin 4)).foldl Finset.erase Finset.univ = ∅ from by decide, bigSep_empty]
  rfl

theorem add_pos_cases {A B : CellTallies nD τ sig (HIx 4)} {g : GSem nD τ sig} {ι : HIx 4} (h : 0 < (A + B) g ι) : 0 < A g ι ∨ 0 < B g ι := by
  rw [Pi.add_apply, Finsupp.add_apply] at h
  omega

theorem add_none {A B : CellTallies nD τ sig (HIx 4)} (hA : ∀ g, A g none = 0) (hB : ∀ g, B g none = 0) (g : GSem nD τ sig) : (A + B) g none = 0 := by
  rw [Pi.add_apply, Finsupp.add_apply, hA, hB]

variable (s t : Dev nD → ℕ → BitVec 32) (d : Dev nD) (L : grid0.Coords)
variable {O : CellTallies nD τ sig (HIx 4)} {W : Waits sig (HIx 4)} (hO : ∀ g, O g none = 0) (hOlev : ∀ g ι, 0 < O g ι → 30 ≤ (K (F := F)).lev g ι)

include hO hOlev in
/-- The waits of a task are below what it owes. -/
theorem lvl_intro : (levAts (K (F := F)).L (K (F := F)).lev : sProp 𝕄) ⊢ lvl (F := F) d L O := by
  have hn : ∀ r : Fin 4, ∀ g, oxB d ((L 0).castLE hcore0) (some r) g none = 0 := oxB_none d _
  have h3 := add_none hO (hn 3)
  have h2 := add_none h3 (hn 2)
  have h1 := add_none h2 (hn 1)
  have h0 := add_none h1 (hn 0)
  have l3 : ∀ g ι, 0 < O g ι → 27 < (K (F := F)).lev g ι := fun g ι h => lt_of_lt_of_le (by decide) (hOlev g ι h)
  have l2 : ∀ g ι, 0 < ((O + oxB d ((L 0).castLE hcore0) (some 3))) g ι → 19 < (K (F := F)).lev g ι := fun g ι h =>
    (add_pos_cases h).elim (fun h => lt_trans (by decide) (l3 g ι h)) fun h => by rw [lev_oxB (F := F) (r := 3) h]; decide
  have l1 : ∀ g ι, 0 < (((O + oxB d ((L 0).castLE hcore0) (some 3)) + oxB d ((L 0).castLE hcore0) (some 2))) g ι → 11 < (K (F := F)).lev g ι := fun g ι h =>
    (add_pos_cases h).elim (fun h => lt_trans (by decide) (l2 g ι h)) fun h => by rw [lev_oxB (F := F) (r := 2) h]; decide
  have l0 : ∀ g ι, 0 < ((((O + oxB d ((L 0).castLE hcore0) (some 3)) + oxB d ((L 0).castLE hcore0) (some 2)) + oxB d ((L 0).castLE hcore0) (some 1))) g ι → 3 < (K (F := F)).lev g ι := fun g ι h =>
    (add_pos_cases h).elim (fun h => lt_trans (by decide) (l1 g ι h)) fun h => by rw [lev_oxB (F := F) (r := 1) h]; decide
  have hw : ∀ r : Fin 4, ∀ p ∈ ({((SemLoc.reg sc_bar0 : SemLoc sig), (some r : HIx 4))} : Finset (SemLoc sig × HIx 4)), (K (F := F)).lev (tcV d L, p.1) p.2 ≤ 8 * r.val + 3 := fun r p hp => by
    rw [Finset.mem_singleton] at hp; subst hp
    exact (lev_bcell (F := F) d _ (L 1) r).le
  unfold lvl
  iintro #H
  isplitr; · iapply ((K (F := F)).mayWaits_none h0); iexact H
  isplitr; · iapply ((K (F := F)).mayWaits_none h1); iexact H
  isplitr; · iapply ((K (F := F)).mayWaits_none h2); iexact H
  isplitr; · iapply ((K (F := F)).mayWaits_none h3); iexact H
  isplitr; · iapply ((K (F := F)).mayWaits_none hO); iexact H
  isplitr; · iapply ((K (F := F)).mayOwe_of_bound 3 (hw 0) l0); iexact H
  isplitr; · iapply ((K (F := F)).mayOwe_of_bound 11 (hw 1) l1); iexact H
  isplitr; · iapply ((K (F := F)).mayOwe_of_bound 19 (hw 2) l2); iexact H
  iapply ((K (F := F)).mayOwe_of_bound 27 (hw 3) l3); iexact H

theorem oxV_four (O : CellTallies nD τ sig (HIx 4)) : O + oxV d ((L 0).castLE hcore0) = ((((O + oxB d ((L 0).castLE hcore0) (some 3)) + oxB d ((L 0).castLE hcore0) (some 2)) + oxB d ((L 0).castLE hcore0) (some 1)) + oxB d ((L 0).castLE hcore0) (some 0)) := by
  unfold oxV
  rw [Fin.sum_univ_four]
  abel

variable (hK : ∀ d e, e < 320000 → KN (s d) (t d) e < 10000)

include hK hO hOlev in
/-- A tile's task from what it is handed to what it hands back. -/
theorem tile_body (hF : (K (F := F)).Facts) :
    iprop(levAts (K (F := F)).L (K (F := F)).lev ∗ bkit (F := F) s t d ((L 0).castLE hcore0) (L 1) ∗ goT (F := F) s t d ((L 0).castLE hcore0) (L 1) ∗ scopedBufs (tcV d L) ∗ scopedSems0 (tcV d L)
        ∗ owes (tcV d L) (O + oxV d ((L 0).castLE hcore0)) W)
      ⊢ wpT d L (cc0__body L srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20) fun _ =>
          iprop(tdT (F := F) s t d ((L 0).castLE hcore0) (L 1) ∗ scopedBufs (tcV d L) ∗ scopedSems0 (tcV d L)
            ∗ ∃ W', ⌜∀ p ∈ W', p ∈ W ∨ p.2 = none ∨ (blocks).blk 0 p.2⌝ ∗ owes (tcV d L) O W') := by
  rw [(K (F := F)).scopedBufs_V hF d ((L 0).castLE hcore0) ((L 1).castLE hsub0), SparseCore.Cfg.scopedSems0_V (Val := Elt F) d ((L 0).castLE hcore0) ((L 1).castLE hsub0), ownSems0_V, ownBufs_V, oxV_four]
  unfold bkit goT tdT
  rw [four]
  iintro ⟨Hlv, ⟨#Hbc, ⟨Hkit0, Hkit1, Hkit2, Hkit3, -⟩, Hst⟩, ⟨Hsrc, Hdst, ⟨%go, HoutM⟩, ⟨%gh, Hhall⟩, ⟨%gs, HtsM⟩, ⟨%gu, HoutsM⟩⟩, ⟨⟨%gk, HkM⟩, ⟨%gv, HvM⟩, ⟨%ga, HhaM⟩, ⟨%gb, HhbM⟩, ⟨%gB', HblkM⟩, ⟨%gl, HlocM⟩, ⟨%gac, HaccM⟩, ⟨%gt, HtotM⟩, ⟨%g1, HpaM⟩, ⟨%g2, HpaMp⟩, ⟨%g3, HpbM⟩, ⟨%g4, HpbMp⟩, ⟨%g5, HptaM⟩, ⟨%g6, HptbM⟩, ⟨%gc, HcarM⟩, Hbufs⟩, ⟨Hs_scratch18, Hs_scratch19, Hs_scratch20, Hs_scratch21, Hs_scratch22, Hs_scratch23, Hs_scratch24, Hs_scratch25, Hs_scratch26, Hs_scratch27, Hs_scoped0, Hs_scoped1, Hs_scoped2, Hs_scoped3, Hs_scoped4, Hs_scoped5, Hs_scoped6, Hs_scoped7, Hs_scoped8, Hs_scoped9, Hs_scoped10, Hs_scoped11, Hs_scoped12, Hs_scoped13, Hs_scoped14, Hs_scoped15, Hs_scoped16, Hs_scoped17, Hs_scoped18, Hs_scoped19, Hs_scoped20, Hsems⟩, HO⟩
  ihave Hrd := (Entails.of_eq (rd_eq (F := F) d L (s d) (t d) (sh16 (L 1))).symm) $$ [Hsrc Hdst]
  · isplitl [Hsrc]; · iexact Hsrc
    iexact Hdst
  icases Hrd with ⟨HrdK, HrdV, HrdR⟩
  iapply (wp_fupd frame (wpE (defs₀ (F := F)) 𝒱₀ (tcV d L) none) Set.univ)
  iapply (tile (F := F) d L (s d) (t d) (O := O) (W := W) (q := sh16 (L 1)) (hK d) ) $$ [Hlv Hkit0 Hkit1 Hkit2 Hkit3 Hst HoutM Hhall HtsM HoutsM HkM HvM HhaM HhbM HblkM HlocM HaccM HtotM HpaM HpaMp HpbM HpbMp HptaM HptbM HcarM Hs_scratch18 Hs_scratch19 Hs_scratch20 Hs_scratch21 Hs_scratch22 Hs_scratch23 Hs_scratch24 Hs_scratch25 Hs_scratch26 Hs_scratch27 Hs_scoped0 Hs_scoped1 Hs_scoped2 Hs_scoped3 Hs_scoped4 Hs_scoped5 Hs_scoped6 Hs_scoped7 Hs_scoped8 Hs_scoped9 Hs_scoped10 Hs_scoped11 Hs_scoped12 Hs_scoped13 Hs_scoped14 Hs_scoped15 Hs_scoped16 Hs_scoped17 Hs_scoped18 Hs_scoped19 Hs_scoped20 HO HrdK HrdV]
  · isplitr; · iexact Hbc
    isplitl [Hlv]; · iapply (lvl_intro (F := F) d L hO hOlev); iexact Hlv
    unfold tileIn
    isplitl [HO]
    · unfold OW
      iexists W
      isplitr; · ipureintro; exact fun p hp => .inl hp
      iexact HO
    isplitl [HrdK]; · iexact HrdK
    isplitl [HrdV]; · iexact HrdV
    isplitl [HkM]; · iexact HkM
    isplitl [HvM]; · iexact HvM
    isplitl [HhaM]; · iexact HhaM
    isplitl [HhbM]; · iexact HhbM
    isplitl [HblkM]; · iexact HblkM
    isplitl [HlocM]; · iexact HlocM
    isplitl [HaccM]; · iexact HaccM
    isplitl [HtotM]; · iexact HtotM
    isplitl [HpaM]; · iexact HpaM
    isplitl [HpaMp]; · iexact HpaMp
    isplitl [HpbM]; · iexact HpbM
    isplitl [HpbMp]; · iexact HpbMp
    isplitl [HptaM]; · iexact HptaM
    isplitl [HptbM]; · iexact HptbM
    isplitl [HcarM]; · iexact HcarM
    isplitl [Hhall]; · iexact Hhall
    isplitl [HtsM]; · iexact HtsM
    isplitl [HoutsM]; · iexact HoutsM
    isplitl [HoutM]; · iexact HoutM
    isplitl [Hs_scratch18]; · iexact Hs_scratch18
    isplitl [Hs_scratch19]; · iexact Hs_scratch19
    isplitl [Hs_scratch20]; · iexact Hs_scratch20
    isplitl [Hs_scratch21]; · iexact Hs_scratch21
    isplitl [Hs_scratch22]; · iexact Hs_scratch22
    isplitl [Hs_scratch23]; · iexact Hs_scratch23
    isplitl [Hs_scratch24]; · iexact Hs_scratch24
    isplitl [Hs_scratch25]; · iexact Hs_scratch25
    isplitl [Hs_scratch26]; · iexact Hs_scratch26
    isplitl [Hs_scratch27]; · iexact Hs_scratch27
    isplitl [Hs_scoped0]; · iexact Hs_scoped0
    isplitl [Hs_scoped1]; · iexact Hs_scoped1
    isplitl [Hs_scoped2]; · iexact Hs_scoped2
    isplitl [Hs_scoped3]; · iexact Hs_scoped3
    isplitl [Hs_scoped4]; · iexact Hs_scoped4
    isplitl [Hs_scoped5]; · iexact Hs_scoped5
    isplitl [Hs_scoped6]; · iexact Hs_scoped6
    isplitl [Hs_scoped7]; · iexact Hs_scoped7
    isplitl [Hs_scoped8]; · iexact Hs_scoped8
    isplitl [Hs_scoped9]; · iexact Hs_scoped9
    isplitl [Hs_scoped10]; · iexact Hs_scoped10
    isplitl [Hs_scoped11]; · iexact Hs_scoped11
    isplitl [Hs_scoped12]; · iexact Hs_scoped12
    isplitl [Hs_scoped13]; · iexact Hs_scoped13
    isplitl [Hs_scoped14]; · iexact Hs_scoped14
    isplitl [Hs_scoped15]; · iexact Hs_scoped15
    isplitl [Hs_scoped16]; · iexact Hs_scoped16
    isplitl [Hs_scoped17]; · iexact Hs_scoped17
    isplitl [Hs_scoped18]; · iexact Hs_scoped18
    isplitl [Hs_scoped19]; · iexact Hs_scoped19
    isplitl [Hs_scoped20]; · iexact Hs_scoped20
    unfold kitB
    isplitl [Hkit0]; · iexact Hkit0
    isplitl [Hkit1]; · iexact Hkit1
    isplitl [Hkit2]; · iexact Hkit2
    isplitl [Hkit3]; · iexact Hkit3
    iexact Hst
  unfold tileOut
  iintro ⟨HO, HrdK, HrdV, HkM, HvM, HhaM, HhbM, HblkM, HlocM, HaccM, HtotM, HpaM, HpaMp, HpbM, HpbMp, HptaM, HptbM, HcarM, Hhall, HtsM, HoutsM, HoutM, Hs_scratch18, Hs_scratch19, Hs_scratch20, Hs_scratch21, Hs_scratch22, Hs_scratch23, Hs_scratch24, Hs_scratch25, Hs_scratch26, Hs_scratch27, Hs_scoped0, Hs_scoped1, Hs_scoped2, Hs_scoped3, Hs_scoped4, Hs_scoped5, Hs_scoped6, Hs_scoped7, Hs_scoped8, Hs_scoped9, Hs_scoped10, Hs_scoped11, Hs_scoped12, Hs_scoped13, Hs_scoped14, Hs_scoped15, Hs_scoped16, Hs_scoped17, Hs_scoped18, Hs_scoped19, Hs_scoped20, Hst⟩
  imod (bar_close (pay (F := F) d ((L 0).castLE hcore0) (s d) (t d)) d ((L 0).castLE hcore0) (L 1)) $$ [Hst] with Hbar
  · isplitr; · iexact Hbc
    iexact Hst
  imodintro
  ihave Hrd := (Entails.of_eq (rd_eq (F := F) d L (s d) (t d) (sh16 (L 1)))) $$ [HrdK HrdV HrdR]
  · isplitl [HrdK]; · iexact HrdK
    isplitl [HrdV]; · iexact HrdV
    iexact HrdR
  icases Hrd with ⟨Hsrc, Hdst⟩
  isplitl [Hsrc Hdst HoutM Hhall HtsM HoutsM Hbar]
  · isplitl [Hsrc]; · iexact Hsrc
    isplitl [Hdst]; · iexact Hdst
    isplitl [HoutM]; · iexact HoutM
    isplitl [Hhall]; · iexact Hhall
    isplitl [HtsM]; · iexact HtsM
    isplitl [HoutsM]; · iexact HoutsM
    iexact Hbar
  isplitl [HkM HvM HhaM HhbM HblkM HlocM HaccM HtotM HpaM HpaMp HpbM HpbMp HptaM HptbM HcarM Hbufs]
  · isplitl [HkM]; · iexact HkM
    isplitl [HvM]; · iexact HvM
    isplitl [HhaM]; · iexact HhaM
    isplitl [HhbM]; · iexact HhbM
    isplitl [HblkM]; · iexact HblkM
    isplitl [HlocM]; · iexact HlocM
    isplitl [HaccM]; · iexact HaccM
    isplitl [HtotM]; · iexact HtotM
    isplitl [HpaM]; · iexact HpaM
    isplitl [HpaMp]; · iexact HpaMp
    isplitl [HpbM]; · iexact HpbM
    isplitl [HpbMp]; · iexact HpbMp
    isplitl [HptaM]; · iexact HptaM
    isplitl [HptbM]; · iexact HptbM
    isplitl [HcarM]; · iexact HcarM
    iexact Hbufs
  isplitl [Hs_scratch18 Hs_scratch19 Hs_scratch20 Hs_scratch21 Hs_scratch22 Hs_scratch23 Hs_scratch24 Hs_scratch25 Hs_scratch26 Hs_scratch27 Hs_scoped0 Hs_scoped1 Hs_scoped2 Hs_scoped3 Hs_scoped4 Hs_scoped5 Hs_scoped6 Hs_scoped7 Hs_scoped8 Hs_scoped9 Hs_scoped10 Hs_scoped11 Hs_scoped12 Hs_scoped13 Hs_scoped14 Hs_scoped15 Hs_scoped16 Hs_scoped17 Hs_scoped18 Hs_scoped19 Hs_scoped20 Hsems]
  · isplitl [Hs_scratch18]; · iexact Hs_scratch18
    isplitl [Hs_scratch19]; · iexact Hs_scratch19
    isplitl [Hs_scratch20]; · iexact Hs_scratch20
    isplitl [Hs_scratch21]; · iexact Hs_scratch21
    isplitl [Hs_scratch22]; · iexact Hs_scratch22
    isplitl [Hs_scratch23]; · iexact Hs_scratch23
    isplitl [Hs_scratch24]; · iexact Hs_scratch24
    isplitl [Hs_scratch25]; · iexact Hs_scratch25
    isplitl [Hs_scratch26]; · iexact Hs_scratch26
    isplitl [Hs_scratch27]; · iexact Hs_scratch27
    isplitl [Hs_scoped0]; · iexact Hs_scoped0
    isplitl [Hs_scoped1]; · iexact Hs_scoped1
    isplitl [Hs_scoped2]; · iexact Hs_scoped2
    isplitl [Hs_scoped3]; · iexact Hs_scoped3
    isplitl [Hs_scoped4]; · iexact Hs_scoped4
    isplitl [Hs_scoped5]; · iexact Hs_scoped5
    isplitl [Hs_scoped6]; · iexact Hs_scoped6
    isplitl [Hs_scoped7]; · iexact Hs_scoped7
    isplitl [Hs_scoped8]; · iexact Hs_scoped8
    isplitl [Hs_scoped9]; · iexact Hs_scoped9
    isplitl [Hs_scoped10]; · iexact Hs_scoped10
    isplitl [Hs_scoped11]; · iexact Hs_scoped11
    isplitl [Hs_scoped12]; · iexact Hs_scoped12
    isplitl [Hs_scoped13]; · iexact Hs_scoped13
    isplitl [Hs_scoped14]; · iexact Hs_scoped14
    isplitl [Hs_scoped15]; · iexact Hs_scoped15
    isplitl [Hs_scoped16]; · iexact Hs_scoped16
    isplitl [Hs_scoped17]; · iexact Hs_scoped17
    isplitl [Hs_scoped18]; · iexact Hs_scoped18
    isplitl [Hs_scoped19]; · iexact Hs_scoped19
    isplitl [Hs_scoped20]; · iexact Hs_scoped20
    iexact Hsems
  unfold OW
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (i : Fin τ.nSub) :
    defs₀ (F := F) (.scVector c i) 0 ()
      = SparseCore.onTile hcore0 hsub0 (fun c i => cc0__body (coordsV c i) srcM (Memref.isWhole_whole _) dstM (Memref.isWhole_whole _) outM (Memref.isWhole_whole _) kM (Memref.isWhole_whole _) vM (Memref.isWhole_whole _) haM (Memref.isWhole_whole _) hbM (Memref.isWhole_whole _) blkM (Memref.isWhole_whole _) locM (Memref.isWhole_whole _) accM (Memref.isWhole_whole _) totM (Memref.isWhole_whole _) paM (Memref.isWhole_whole _) paM' (Memref.isWhole_whole _) pbM (Memref.isWhole_whole _) pbM' (Memref.isWhole_whole _) ptaM (Memref.isWhole_whole _) ptbM (Memref.isWhole_whole _) carM (Memref.isWhole_whole _) hallM (Memref.isWhole_whole _) tsM (Memref.isWhole_whole _) outsM (Memref.isWhole_whole _) cc0_scratch18 cc0_scratch19 cc0_scratch20 cc0_scratch21 cc0_scratch22 cc0_scratch23 cc0_scratch24 cc0_scratch25 cc0_scratch26 cc0_scratch27 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20) ⟨⟩ c i := rfl

include hK in
set_option maxRecDepth 16384 in
theorem tileObl (hF : (K (F := F)).Facts) : (K (F := F)).TileObl (D (F := F)) 𝒱 (P (F := F) s t) v₀ 0 := by
  intro d c i O W hO hOlev _
  have hc : ((K (F := F)).core 0 c).val < 1 := c.isLt
  have hci : ((K (F := F)).core 0 c).val < grid0.bound 0 ∧ ((K (F := F)).sub 0 i).val < grid0.bound 1 := ⟨c.isLt, i.isLt⟩
  rw [show (P (F := F) s t).ox 0 (V d ((K (F := F)).core 0 c) ((K (F := F)).sub 0 i)) = oxV d ((K (F := F)).core 0 c) from if_pos hc,
    show (P (F := F) s t).x 0 (V d ((K (F := F)).core 0 c) ((K (F := F)).sub 0 i)) = bkit (F := F) s t d ((K (F := F)).core 0 c) (iT ((K (F := F)).sub 0 i)) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (F := F) s t d (coordsV ⟨_, hci.1⟩ ⟨_, hci.2⟩) hO hOlev hK hF

end Task

end Cert.Proof.Sorting
-- ==== Proof.Split.lean ====
/-
The operands and the shared buffers cut among the tiles, and put together again.
-/
module

public import proofs.«01_k».proof.Proof.Own
public import proofs.«01_k».proof.Proof.Call

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

open Idealize.ShloMosaic.SparseCore.Cfg (ownBufs ownRefs mem_ownRefs)

section Split

def shL : List (Ref sig .scVector) := [cc0_scratch15, cc0_scratch16, cc0_scratch17]
theorem shL_nodup : shL.Nodup := by unfold shL; decide +kernel

/-- A buffer cut among tiles, each part at some words. -/
theorem parts_ex {th : Thread nD τ} {sp : Space} {ds : Fin 1 → ℕ} {m : Memref sig th.2.kind sp ⟨1, ds⟩ .i32} {q : PosShare TreeShare} {k : ℕ} {A : Finset ℕ} {B : Fin k → Finset ℕ}
    (e : ∀ g, PS (F := F) th m A q g = bigSep Finset.univ fun j : Fin k => PS th m (B j) q g) :
    iprop(∃ g : ℕ → BitVec 32, PS (F := F) th m A q g) ⊢ bigSep Finset.univ fun j : Fin k => iprop(∃ g : ℕ → BitVec 32, PS (F := F) th m (B j) q g) := by
  iintro ⟨%g, H⟩
  ihave H := (Entails.of_eq (e g)) $$ H
  iapply (SparseCore.ent (bigSep_mono (Φ := fun j : Fin k => PS (F := F) th m (B j) q g) (Ψ := fun j : Fin k => iprop(∃ g : ℕ → BitVec 32, PS (F := F) th m (B j) q g))
    fun j _ => BI.BIClass.exists_intro (Φ := fun g => PS (F := F) th m (B j) q g) g))
  iexact H

/-- Such parts put together. -/
theorem join_ex {th : Thread nD τ} {sp : Space} {ds : Fin 1 → ℕ} {m : Memref sig th.2.kind sp ⟨1, ds⟩ .i32} {q : PosShare TreeShare} {A : Finset ℕ} (k : ℕ) (f : ℕ → ℕ) (B : Fin k → Finset ℕ)
    (h : ∀ p, p < ds 0 → p ∈ A → f p < k) (hB : ∀ j p, p < ds 0 → (p ∈ B j ↔ p ∈ A ∧ f p = j.val)) :
    (bigSep Finset.univ fun j : Fin k => iprop(∃ g : ℕ → BitVec 32, PS (F := F) th m (B j) q g)) ⊢ iprop(∃ g : ℕ → BitVec 32, PS (F := F) th m A q g) := by
  refine (bigSep_exists_pi Finset.univ (fun (j : Fin k) (g : ℕ → BitVec 32) => PS (F := F) th m (B j) q g)).trans ?_
  iintro ⟨%gs, H⟩
  iexists (fun p => if h : f p < k then gs ⟨f p, h⟩ p else 0)
  iapply (Entails.of_eq ((PS_parts (F := F) k f A B h hB).trans (bigSep_congr fun j _ => PS_congr (g' := gs j) fun p hp hp' => by
    have e := ((hB j p hp').mp hp).2
    rw [dif_pos (by rw [e]; exact j.isLt)]
    exact congrFun (congrArg gs (Fin.ext e)) p)).symm)
  iexact H

variable (s t : Dev nD → ℕ → BitVec 32) (d : Dev nD) (c : Fin τ.nSC)

def shRest : sProp 𝕄 := bigSep ((shL.map fun b => (Proc.scVector c (i0.castLE hsub0)).devRef b).foldl Finset.erase (ownRefs (τ := τ) (sig := sig) (.scScalar c)))
  fun b => iprop(∃ f, ((d, b) : Loc nD τ sig) ↦{fullShare} f)

/-- The shared buffers are among the sequencer's own. -/
theorem ownBufs_S : (ownBufs (S d c) : sProp 𝕄)
    = iprop(iprop(∃ g : ℕ → BitVec 32, PS (F := F) (V d c (i0.castLE hsub0)) hallM (Finset.range 327680) fullShare g)
      ∗ iprop(∃ g : ℕ → BitVec 32, PS (F := F) (V d c (i0.castLE hsub0)) tsM (Finset.range 256) fullShare g)
      ∗ iprop(∃ g : ℕ → BitVec 32, PS (F := F) (V d c (i0.castLE hsub0)) outsM (Finset.range 320000) fullShare g)
      ∗ shRest d c) := by
  unfold SparseCore.Cfg.ownBufs
  rw [bigSep_list (fun b : DevRef τ sig => iprop(∃ f, ((d, b) : Loc nD τ sig) ↦{fullShare} f)) (shL.map fun b => (Proc.scVector c (i0.castLE hsub0)).devRef b) (ownRefs (τ := τ) (.scScalar c))
    (List.Nodup.map (Proc.devRef_injective _) shL_nodup) fun x hx => by
      obtain ⟨b, hb, rfl⟩ := List.mem_map.mp hx
      exact mem_ownRefs.mpr (by fin_cases hb <;> rfl)]
  show List.foldr _ (shRest d c) _ = _
  generalize shRest (F := F) d c = R
  simp only [shL, List.map_cons, List.map_nil, List.foldr_cons, List.foldr_nil]
  have e0 := (own_whole (F := F) (V d c (i0.castLE hsub0)) cc0_scratch15).trans (own_PS (F := F) (V d c (i0.castLE hsub0)) hallM (Finset.range 327680) fullShare fun k hk => Finset.mem_range.mpr hk)
  have e1 := (own_whole (F := F) (V d c (i0.castLE hsub0)) cc0_scratch16).trans (own_PS (F := F) (V d c (i0.castLE hsub0)) tsM (Finset.range 256) fullShare fun k hk => Finset.mem_range.mpr hk)
  have e2 := (own_whole (F := F) (V d c (i0.castLE hsub0)) cc0_scratch17).trans (own_PS (F := F) (V d c (i0.castLE hsub0)) outsM (Finset.range 320000) fullShare fun k hk => Finset.mem_range.mpr hk)
  have sc : ∀ {A A' B B' : sProp (MT nD τ sig (HIx 4) (Elt F) ℕ UU ℕ)}, A = A' → B = B' → iprop(A ∗ B) = iprop(A' ∗ B') := fun h h' => by rw [h, h']
  exact sc e0 (sc e1 (sc e2 rfl))

/-! ## The cuts among the sixteen tiles -/

theorem hall_split {q : PosShare TreeShare} (g : ℕ → BitVec 32) : PS (F := F) (V d c (i0.castLE hsub0)) hallM (Finset.range 327680) q g
    = bigSep Finset.univ fun j : Fin 16 => PS (F := F) (V d c (i0.castLE hsub0)) hallM (Finset.Ico (20480 * j.val) (20480 * (j.val + 1))) q g :=
  PS_parts 16 (fun p => p / 20480) _ _ (fun p hp _ => Nat.div_lt_of_lt_mul (lt_of_lt_of_eq hp rfl))
    fun j p hp => by have hp' : p < 327680 := hp; rw [Finset.mem_Ico, Finset.mem_range]; omega
theorem ts_stretches {q : PosShare TreeShare} (g : ℕ → BitVec 32) : PS (F := F) (V d c (i0.castLE hsub0)) tsM (Finset.range 256) q g
    = bigSep Finset.univ fun j : Fin 16 => PS (F := F) (V d c (i0.castLE hsub0)) tsM (Finset.Ico (16 * j.val) (16 * (j.val + 1))) q g :=
  PS_parts 16 (fun p => p / 16) _ _ (fun p hp _ => Nat.div_lt_of_lt_mul (lt_of_lt_of_eq hp rfl))
    fun j p hp => by have hp' : p < 256 := hp; rw [Finset.mem_Ico, Finset.mem_range]; omega
theorem out_split {q : PosShare TreeShare} (g : ℕ → BitVec 32) : PS (F := F) (V d c (i0.castLE hsub0)) outM (Finset.range 320000) q g
    = bigSep Finset.univ fun j : Fin 16 => PS (F := F) (V d c (i0.castLE hsub0)) outM (Finset.Ico (20000 * j.val) (20000 * (j.val + 1))) q g :=
  PS_parts 16 (fun p => p / 20000) _ _ (fun p hp _ => Nat.div_lt_of_lt_mul (lt_of_lt_of_eq hp rfl))
    fun j p hp => by have hp' : p < 320000 := hp; rw [Finset.mem_Ico, Finset.mem_range]; omega
theorem outs_split {q : PosShare TreeShare} (k : ℕ → ℕ) (g : ℕ → BitVec 32) : PS (F := F) (V d c (i0.castLE hsub0)) outsM (Finset.range 320000) q g
    = bigSep Finset.univ fun j : Fin 16 => PS (F := F) (V d c (i0.castLE hsub0)) outsM (img k NN (20000 * j.val) (20000 * (j.val + 1))) q g :=
  PS_parts 16 (fun p => inv k NN p / 20000) _ (fun j => img k NN (20000 * j.val) (20000 * (j.val + 1)))
    (fun p hp _ => by
      have hp' : p < NN := hp
      obtain ⟨e, he, rfl⟩ := pos_surj k hp'
      rw [inv_pos _ he]; exact Nat.div_lt_of_lt_mul he)
    fun j p hp => by
      have hp' : p < NN := hp
      obtain ⟨e, he, rfl⟩ := pos_surj k hp'
      have he' : e < 320000 := he
      rw [inv_pos _ he, mem_img, Finset.mem_range]
      constructor
      · rintro ⟨e', h1, h2, h3⟩
        obtain rfl := pos_inj k (show e' < NN by have : j.val < 16 := j.isLt; show e' < 320000; omega) he h3
        exact ⟨hp', by omega⟩
      · rintro ⟨-, h3⟩
        exact ⟨e, by omega, by omega, rfl⟩

set_option maxHeartbeats 4000000 in
/-- What the call takes, cut into what the tasks are handed. -/
theorem deal : iprop(stT (F := F) s t d c ∗ iprop(∃ g : ℕ → BitVec 32, PS (F := F) (V d c (i0.castLE hsub0)) hallM (Finset.range 327680) fullShare g) ∗ iprop(∃ g : ℕ → BitVec 32, PS (F := F) (V d c (i0.castLE hsub0)) tsM (Finset.range 256) fullShare g) ∗ iprop(∃ g : ℕ → BitVec 32, PS (F := F) (V d c (i0.castLE hsub0)) outsM (Finset.range 320000) fullShare g))
    ⊢ bigSep Finset.univ fun j : Fin 16 => goT (F := F) s t d c j := by
  unfold goT stT
  rw [bigSep_sep', bigSep_sep', bigSep_sep', bigSep_sep', bigSep_sep']
  iintro ⟨⟨Hs, Ht, Ho⟩, Hh, Hts, Hou⟩
  isplitl [Hs]
  · iapply (show PS (F := F) (V d c (i0.castLE hsub0)) srcM (Finset.range 160000) fullShare (s d) ⊢ bigSep Finset.univ fun j : Fin 16 => PS (F := F) (V d c (j.castLE hsub0)) srcM (Finset.range 160000) (sh16 j) (s d) from Entails.of_eq PS_deal)
    iexact Hs
  isplitl [Ht]
  · iapply (show PS (F := F) (V d c (i0.castLE hsub0)) dstM (Finset.range 160000) fullShare (t d) ⊢ bigSep Finset.univ fun j : Fin 16 => PS (F := F) (V d c (j.castLE hsub0)) dstM (Finset.range 160000) (sh16 j) (t d) from Entails.of_eq PS_deal)
    iexact Ht
  isplitl [Ho]
  · iapply (show iprop(∃ g : ℕ → BitVec 32, PS (F := F) (V d c (i0.castLE hsub0)) outM (Finset.range 320000) fullShare g) ⊢ bigSep Finset.univ fun j : Fin 16 => iprop(∃ g : ℕ → BitVec 32, PS (F := F) (V d c (j.castLE hsub0)) outM (Finset.Ico (20000 * j.val) (20000 * (j.val + 1))) fullShare g) from parts_ex (out_split d c))
    iexact Ho
  isplitl [Hh]
  · iapply (show iprop(∃ g : ℕ → BitVec 32, PS (F := F) (V d c (i0.castLE hsub0)) hallM (Finset.range 327680) fullShare g) ⊢ bigSep Finset.univ fun j : Fin 16 => iprop(∃ g : ℕ → BitVec 32, PS (F := F) (V d c (j.castLE hsub0)) hallM (Finset.Ico (20480 * j.val) (20480 * (j.val + 1))) fullShare g) from parts_ex (hall_split d c))
    iexact Hh
  isplitl [Hts]
  · iapply (show iprop(∃ g : ℕ → BitVec 32, PS (F := F) (V d c (i0.castLE hsub0)) tsM (Finset.range 256) fullShare g) ⊢ bigSep Finset.univ fun j : Fin 16 => iprop(∃ g : ℕ → BitVec 32, PS (F := F) (V d c (j.castLE hsub0)) tsM (Finset.Ico (16 * j.val) (16 * (j.val + 1))) fullShare g) from parts_ex (ts_stretches d c))
    iexact Hts
  iapply (show iprop(∃ g : ℕ → BitVec 32, PS (F := F) (V d c (i0.castLE hsub0)) outsM (Finset.range 320000) fullShare g) ⊢ bigSep Finset.univ fun j : Fin 16 => iprop(∃ g : ℕ → BitVec 32, PS (F := F) (V d c (j.castLE hsub0)) outsM (img (KN (s d) (t d)) NN (20000 * j.val) (20000 * (j.val + 1))) fullShare g) from parts_ex (outs_split d c (KN (s d) (t d))))
  iexact Hou

set_option maxHeartbeats 4000000 in
/-- What the tasks hand back, put together. -/
theorem undeal : (bigSep Finset.univ fun j : Fin 16 => tdT (F := F) s t d c j)
    ⊢ iprop(dnT (F := F) s t d c ∗ iprop(∃ g : ℕ → BitVec 32, PS (F := F) (V d c (i0.castLE hsub0)) hallM (Finset.range 327680) fullShare g) ∗ iprop(∃ g : ℕ → BitVec 32, PS (F := F) (V d c (i0.castLE hsub0)) tsM (Finset.range 256) fullShare g) ∗ iprop(∃ g : ℕ → BitVec 32, PS (F := F) (V d c (i0.castLE hsub0)) outsM (Finset.range 320000) fullShare g)) := by
  unfold tdT dnT bars
  rw [bigSep_sep', bigSep_sep', bigSep_sep', bigSep_sep', bigSep_sep', bigSep_sep']
  iintro ⟨Hs, Ht, Ho, Hh, Hts, Hou, Hb⟩
  isplitl [Hs Ht Ho Hb]
  · isplitl [Hs]
    · iapply (show (bigSep Finset.univ fun j : Fin 16 => PS (F := F) (V d c (j.castLE hsub0)) srcM (Finset.range 160000) (sh16 j) (s d)) ⊢ PS (F := F) (V d c (i0.castLE hsub0)) srcM (Finset.range 160000) fullShare (s d) from Entails.of_eq PS_deal.symm)
      iexact Hs
    isplitl [Ht]
    · iapply (show (bigSep Finset.univ fun j : Fin 16 => PS (F := F) (V d c (j.castLE hsub0)) dstM (Finset.range 160000) (sh16 j) (t d)) ⊢ PS (F := F) (V d c (i0.castLE hsub0)) dstM (Finset.range 160000) fullShare (t d) from Entails.of_eq PS_deal.symm)
      iexact Ht
    isplitl [Ho]
    · iapply (show (bigSep Finset.univ fun j : Fin 16 => PS (F := F) (V d c (j.castLE hsub0)) outM (Finset.Ico (20000 * j.val) (20000 * (j.val + 1))) fullShare (RR (s d) (t d))) ⊢ PS (F := F) (V d c (i0.castLE hsub0)) outM (Finset.range 320000) fullShare (RR (s d) (t d)) from Entails.of_eq (out_split d c _).symm)
      iexact Ho
    iexact Hb
  isplitl [Hh]
  · iapply (show (bigSep Finset.univ fun j : Fin 16 => iprop(∃ g : ℕ → BitVec 32, PS (F := F) (V d c (j.castLE hsub0)) hallM (Finset.Ico (20480 * j.val) (20480 * (j.val + 1))) fullShare g)) ⊢ iprop(∃ g : ℕ → BitVec 32, PS (F := F) (V d c (i0.castLE hsub0)) hallM (Finset.range 327680) fullShare g) from
      join_ex (th := (V d c (i0.castLE hsub0))) 16 (fun p => p / 20480) (fun j => Finset.Ico (20480 * j.val) (20480 * (j.val + 1))) (fun p hp _ => Nat.div_lt_of_lt_mul (lt_of_lt_of_eq hp rfl))
        fun j p hp => by have hp' : p < 327680 := hp; rw [Finset.mem_Ico, Finset.mem_range]; omega)
    iexact Hh
  isplitl [Hts]
  · iexists _
    iapply (show (bigSep Finset.univ fun j : Fin 16 => PS (F := F) (V d c (j.castLE hsub0)) tsM (Finset.range 256) (sh16 j) (TT (s d) (t d))) ⊢ PS (F := F) (V d c (i0.castLE hsub0)) tsM (Finset.range 256) fullShare (TT (s d) (t d)) from Entails.of_eq PS_deal.symm)
    iexact Hts
  iapply (show (bigSep Finset.univ fun j : Fin 16 => iprop(∃ g : ℕ → BitVec 32, PS (F := F) (V d c (j.castLE hsub0)) outsM (Finset.Ico (20000 * j.val) (20000 * (j.val + 1))) fullShare g)) ⊢ iprop(∃ g : ℕ → BitVec 32, PS (F := F) (V d c (i0.castLE hsub0)) outsM (Finset.range 320000) fullShare g) from
      join_ex (th := (V d c (i0.castLE hsub0))) 16 (fun p => p / 20000) (fun j => Finset.Ico (20000 * j.val) (20000 * (j.val + 1))) (fun p hp _ => Nat.div_lt_of_lt_mul (lt_of_lt_of_eq hp rfl))
        fun j p hp => by have hp' : p < 320000 := hp; rw [Finset.mem_Ico, Finset.mem_range]; omega)
  iexact Hou

theorem vecSplit : (K (F := F)).VecSplit (P (F := F) s t) 0 := by
  intro d c
  show iprop(stT (F := F) s t d (coreOf (F := F) c) ∗ ownBufs (S d (coreOf (F := F) c))) ⊢ |={Set.univ}=> iprop(
      (bigSep Finset.univ fun j : Fin 16 => goT (F := F) s t d (coreOf (F := F) c) j)
      ∗ ((bigSep Finset.univ fun j : Fin 16 => tdT (F := F) s t d (coreOf (F := F) c) j) -∗ iprop(dnT (F := F) s t d (coreOf (F := F) c) ∗ ownBufs (S d (coreOf (F := F) c)))))
  rw [ownBufs_S]
  iintro ⟨Hst, Hh, Hts, Hou, Hrest⟩
  imodintro
  isplitl [Hst Hh Hts Hou]
  · iapply (deal (F := F) s t d (coreOf (F := F) c))
    isplitl [Hst]; · iexact Hst
    isplitl [Hh]; · iexact Hh
    isplitl [Hts]; · iexact Hts
    iexact Hou
  iintro Htd
  ihave Hd := (undeal (F := F) s t d (coreOf (F := F) c)) $$ Htd
  icases Hd with ⟨Hdn, Hh, Hts, Hou⟩
  isplitl [Hdn]; · iexact Hdn
  isplitl [Hh]; · iexact Hh
  isplitl [Hts]; · iexact Hts
  isplitl [Hou]; · iexact Hou
  iexact Hrest

end Split

end Cert.Proof.Sorting
-- ==== Proof.Fund.lean ====
/-
What the launch sets up for the barriers, and hands the tiles.
-/
module

public import proofs.«01_k».proof.Proof.Call

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Fund

abbrev DCI : Type := Dev nD × Fin τ.nSC × Fin τ.nSub
abbrev bcell₃ (x : DCI) : GSem nD τ sig := bcell x.1 x.2.1 (iT x.2.2)

/-- The tiles of the call. -/
abbrev tiles : Finset DCI := Finset.univ.filter fun x => x.2.1.val < 1
theorem mem_tiles (d : Dev nD) {c : Fin τ.nSC} (hc : c.val < 1) (j : TI) : ((d, c, j.castLE hsub0) : DCI) ∈ tiles := Finset.mem_filter.mpr ⟨Finset.mem_univ _, hc⟩
/-- Their barrier semaphores. -/
def bCells : Finset (GSem nD τ sig) := tiles.image bcell₃
/-- At each barrier each tile's token in each tile's cell. -/
def bToks : Finset (GSem nD τ sig × ℕ × ℕ) :=
  (tiles ×ˢ (Finset.univ : Finset (Fin 4 × TI))).image fun x => (bcell x.1.1 x.1.2.1 x.2.2, 0, 16 * x.2.1.val + x.1.2.2.val)
/-- At each barrier each tile's claims on the boxes. -/
def xToks : Finset (GSem nD τ sig × ℕ × ℕ) :=
  (tiles ×ˢ (Finset.univ : Finset (Fin 4 × TI))).image fun x => (bcell₃ x.1, x.2.1.val, x.2.2.val)
def u₀ : UU := (initOf (K (F := F)).hsCells (K (F := F)).hsToks, (initOf bCells bToks, (initOf bCells xToks, 1)))

theorem bcell_inj {d d' : Dev nD} {c c' : Fin τ.nSC} {j j' : TI} (e : bcell d c j = bcell d' c' j') : d = d' ∧ c = c' ∧ j = j' := by
  obtain ⟨h1, h2⟩ := Prod.mk.inj (Prod.mk.inj e).1; obtain ⟨h3, h4⟩ := Proc.scVector.inj h2
  exact ⟨h1, h3, Fin.ext (congrArg Fin.val h4)⟩

theorem bcell₃_injective : Function.Injective (bcell₃ : DCI → GSem nD τ sig) := fun a b e => by
  obtain ⟨h1, h2, h3⟩ := bcell_inj e
  exact Prod.ext h1 (Prod.ext h2 (Fin.ext (congrArg Fin.val h3)))

theorem ownU_split (a : UH) (b : UB) (x : UX) : (ownU ((a, (b, (x, 1))) : UU) : sProp 𝕄) ⊢ iprop(BI.own (EH a) ∗ BI.own (EB b) ∗ BI.own (EX x)) := by
  refine (BI.own_op_elim (uE.toEmb.op_of_mem (Prod.mk_mem_op (URA.mem_op_one a) (URA.mem_one_op (b, (x, (1 : Counters))))))).trans ?_
  show iprop(BI.own (EH a) ∗ BI.own (uE.toEmb ((1, (b, (x, 1))) : UU))) ⊢ (_ : sProp 𝕄)
  refine sep_mono_right ?_
  exact BI.own_op_elim (uE.toEmb.op_of_mem (Prod.mk_mem_op (URA.mem_op_one (1 : UH)) (Prod.mk_mem_op (URA.mem_op_one b) (URA.mem_one_op (x, (1 : Counters))))))

theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcell₃_injective e), bigSep_filter]
  refine sep_elim_right.trans (bigSep_mono fun dci _ => ?_)
  split
  · next hc =>
    exact bigSep_elim (Φ := fun sm : SemLoc sig => (semVal (V dci.1 dci.2.1 dci.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (mem_tiles dci.1 hc (iT dci.2.2))⟩)
  · exact fun _ _ => trivial

theorem invs_b : iprop((bigSep bCells fun g => (semVal g 0 : sProp 𝕄)) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hinv⟩
  imodintro; iexists κ; iexact Hinv

theorem bCells_eq (Φ : GSem nD τ sig → sProp (MT nD τ sig (HIx 4) (Elt F) ℕ UU ℕ)) : bigSep bCells Φ = bigSep tiles fun x : DCI => Φ (bcell₃ x) := by
  unfold bCells; exact SparseCore.bigSep_image_of_injOn (fun a _ b _ e => bcell₃_injective e) Φ

theorem bToks_eq : (bigSep bToks fun x => (dutyTok EB x.1 x.2.1 x.2.2 : sProp 𝕄))
    = bigSep tiles fun x : DCI => bigSep Finset.univ fun r : Fin 4 => bigSep Finset.univ fun k : TI => dutyTok EB (bcell x.1 x.2.1 k) 0 (16 * r.val + x.2.2.val) := by
  unfold bToks
  rw [SparseCore.bigSep_image_of_injOn, SparseCore.bigSep_product]
  · exact bigSep_congr fun x _ => bigSep_univ_prod (fun y : Fin 4 × TI => (dutyTok EB (bcell x.1 x.2.1 y.2) 0 (16 * y.1.val + x.2.2.val) : sProp 𝕄))
  rintro ⟨⟨d, c, i⟩, r, j⟩ - ⟨⟨d', c', i'⟩, r', j'⟩ - e
  obtain ⟨e1, e2⟩ := Prod.mk.inj e
  obtain ⟨rfl, rfl, hj⟩ := bcell_inj e1
  have e3 : 16 * r.val + i.val = 16 * r'.val + i'.val := (Prod.mk.inj e2).2
  have hi : i.val < 16 := i.isLt
  have hi' : i'.val < 16 := i'.isLt
  obtain rfl : r = r' := Fin.ext (by omega)
  obtain rfl : i = i' := Fin.ext (by omega)
  dsimp only at hj
  rw [hj]

theorem xToks_eq : (bigSep xToks fun x => (dutyTok EX x.1 x.2.1 x.2.2 : sProp 𝕄))
    = bigSep tiles fun x : DCI => bigSep Finset.univ fun r : Fin 4 => bigSep Finset.univ fun n : TI => dutyTok EX (bcell₃ x) r.val n.val := by
  unfold xToks
  rw [SparseCore.bigSep_image_of_injOn, SparseCore.bigSep_product]
  · exact bigSep_congr fun x _ => bigSep_univ_prod (fun y : Fin 4 × TI => (dutyTok EX (bcell₃ x) y.1.val y.2.val : sProp 𝕄))
  rintro ⟨a, r, j⟩ - ⟨a', r', j'⟩ - e
  obtain ⟨e1, e2⟩ := Prod.mk.inj e
  obtain rfl := bcell₃_injective e1
  obtain ⟨e3, e4⟩ := Prod.mk.inj e2
  obtain rfl : r = r' := Fin.ext e3
  obtain rfl : j = j' := Fin.ext e4
  rfl

theorem sum_tallyAt_one (g : GSem nD τ sig) (ι : HIx 4) (n : ℕ) : ∑ _ : Fin n, tallyAt g ι 1 = (tallyAt g ι n : CellTallies nD τ sig (HIx 4)) := by
  induction n with
  | zero => rw [tallyAt_zero]; exact Finset.sum_of_isEmpty _
  | succ n ih => rw [Fin.sum_univ_castSucc, ih, tallyAt_add]

/-- The claims of one SparseCore's tiles, told by the tile they are on. -/
theorem creds_core (d : Dev nD) (c : Fin τ.nSC) : (bigSep Finset.univ fun _ : Fin τ.nSub => (cred (oxV d c) : sProp 𝕄))
    = bigSep Finset.univ fun i : Fin τ.nSub => bigSep Finset.univ fun r : Fin 4 => cred (tallyAt (bcell d c (iT i)) (some r) 16) := by
  have e1 : (cred (oxV d c) : sProp 𝕄) = bigSep Finset.univ fun r : Fin 4 => bigSep Finset.univ fun j : TI => cred (tallyAt (bcell d c j) (some r) 1) := by
    unfold oxV oxB
    rw [SparseCore.Cfg.cred_finsum]
    exact bigSep_congr fun r _ => SparseCore.Cfg.cred_finsum _ _
  rw [e1, bigSep_univ_comm]
  have e2 : ∀ r : Fin 4, (bigSep Finset.univ fun _ : Fin τ.nSub => bigSep Finset.univ fun j : TI => (cred (tallyAt (bcell d c j) (some r) 1) : sProp 𝕄))
      = bigSep Finset.univ fun i : Fin τ.nSub => cred (tallyAt (bcell d c (iT i)) (some r) 16) := fun r => by
    rw [bigSep_univ_comm]
    refine bigSep_congr (s := (Finset.univ : Finset TI)) fun j _ => ?_
    rw [← SparseCore.Cfg.cred_finsum]
    exact congrArg cred (sum_tallyAt_one (bcell d c j) (some r) 16)
  rw [bigSep_congr fun r _ => e2 r, bigSep_univ_comm]

variable (s t : Dev nD → ℕ → BitVec 32)

theorem creds_b : ((P (F := F) s t).oxCred : sProp 𝕄) ⊢ bigSep tiles fun x : DCI => bigSep Finset.univ fun r : Fin 4 => cred (tallyAt (bcell₃ x) (some r) 16) := by
  rw [bigSep_filter]
  unfold SparseCore.Cfg.Pay.oxCred
  rw [SparseCore.Cfg.bigSep_threads (fun thr : Thread nD τ => (cred ((P (F := F) s t).oxFrom 0 thr) : sProp 𝕄))]
  refine sep_elim_right.trans (sep_elim_right.trans ?_)
  rw [bigSep_univ_prod, bigSep_univ_prod (fun x : DCI => if x.2.1.val < 1 then (bigSep Finset.univ fun r : Fin 4 => (cred (tallyAt (bcell₃ x) (some r) 16) : sProp 𝕄)) else BI.emp)]
  refine bigSep_mono fun d _ => ?_
  rw [bigSep_univ_prod, bigSep_univ_prod (fun ci : Fin τ.nSC × Fin τ.nSub => if ci.1.val < 1 then (bigSep Finset.univ fun r : Fin 4 => (cred (tallyAt (bcell₃ (d, ci)) (some r) 16) : sProp 𝕄)) else BI.emp)]
  refine bigSep_mono fun c _ => ?_
  dsimp only
  by_cases hc : c.val < 1
  · simp only [hc, ↓reduceIte]
    have hox : ∀ i, (P (F := F) s t).oxFrom 0 (V d c i) = oxV d c := fun i => by
      rw [show (0 : ℕ) = (0 : Fin 1).val from rfl, (P (F := F) s t).oxFrom_step, (P (F := F) s t).oxFrom_end _ (n := (0 : Fin 1).val + 1) le_rfl, add_zero]; exact if_pos hc
    simp only [hox]
    exact Entails.of_eq (creds_core (F := F) d c)
  · simp only [hc, ↓reduceIte]
    exact bigSep_mono fun _ _ => fun _ _ => trivial

theorem bigSep_mono_frame {I : Type} [DecidableEq I] {R : sProp (MT nD τ sig (HIx 4) (Elt F) ℕ UU ℕ)} [BI.Persistent R] {A : Finset I} {Φ Ψ : I → sProp (MT nD τ sig (HIx 4) (Elt F) ℕ UU ℕ)}
    (h : ∀ i ∈ A, iprop(R ∗ Φ i) ⊢ Ψ i) : iprop(R ∗ bigSep A Φ) ⊢ bigSep A Ψ := by
  induction A using Finset.induction_on with
  | empty => rw [bigSep_empty, bigSep_empty]; exact sep_elim_right
  | insert a A ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

/-- What holds of all the call's tiles holds of one core's. -/
theorem per_core {Φ : DCI → sProp (MT nD τ sig (HIx 4) (Elt F) ℕ UU ℕ)} [∀ x, BI.Persistent (Φ x)] (d : Dev nD) {c : Fin τ.nSC} (hc : c.val < 1) :
    bigSep tiles Φ ⊢ bigSep Finset.univ fun j : TI => Φ (d, c, j.castLE hsub0) := by
  iintro #H
  iapply (SparseCore.ent (bigSep_mono_frame (A := (Finset.univ : Finset TI)) (Φ := fun _ => iprop(emp)) (R := bigSep tiles Φ) fun j _ =>
    sep_elim_left.trans (bigSep_elim (Φ := Φ) (mem_tiles d hc j))))
  isplitl; · iexact H
  rw [bigSep_emp']; iempintro

/-! ## The boxes -/

abbrev boxOf (x : DCI) : sProp (MT nD τ sig (HIx 4) (Elt F) ℕ UU ℕ) := box (pay (F := F) x.1 x.2.1 (s x.1) (t x.1)) x.1 x.2.1 (iT x.2.2)

theorem boxes : (bigSep tiles fun x : DCI => initState EX (bcell₃ x)) ⊢ |={Set.univ}=> (iprop(∃ κ : DCI → ℕ, bigSep tiles fun x => Idealize.ShloMosaic.inv (κ x) (boxOf (F := F) s t x)) : sProp 𝕄) := by
  have h : ∀ x ∈ tiles, initState EX (bcell₃ x) ⊢ boxOf (F := F) s t x := fun x _ => by
    unfold initState boxOf box
    iintro ⟨H, -⟩
    iexists 0
    isplitl [H]; · iexact H
    rw [Finset.range_zero, bigSep_empty]; iempintro
  refine (bigSep_mono h).trans ((inv_alloc_family tiles (boxOf (F := F) s t) ∅ (E := Set.univ)).trans ?_)
  iintro H
  imod H with ⟨%κ, -, Hinv⟩
  imodintro; iexists κ; iexact Hinv

/-! ## The kits -/

/-- What every tile is handed alike. -/
abbrev shared : sProp (MT nD τ sig (HIx 4) (Elt F) ℕ UU ℕ) :=
  iprop((∃ κ : GSem nD τ sig → ℕ, bigSep tiles fun x : DCI => cellInv EB (bRd (F := F)) (κ (bcell₃ x)) (bcell₃ x))
    ∗ (∃ κ : DCI → ℕ, bigSep tiles fun x => Idealize.ShloMosaic.inv (κ x) (boxOf (F := F) s t x))
    ∗ (bigSep tiles fun x : DCI => reached EB (bcell₃ x) 0)
    ∗ bigSep tiles fun x : DCI => reached EX (bcell₃ x) 0)
/-- What each is handed of its own. -/
abbrev mine (x : DCI) : sProp (MT nD τ sig (HIx 4) (Elt F) ℕ UU ℕ) :=
  iprop((bigSep Finset.univ fun r : Fin 4 => bigSep Finset.univ fun k : TI => dutyTok EB (bcell x.1 x.2.1 k) 0 (16 * r.val + x.2.2.val))
    ∗ (bigSep Finset.univ fun r : Fin 4 => cred (tallyAt (bcell₃ x) (some r) 16))
    ∗ (bigSep Finset.univ fun r : Fin 4 => bigSep Finset.univ fun n : TI => dutyTok EX (bcell₃ x) r.val n.val)
    ∗ atPos EB (bcell₃ x) 0 ∅ 0
    ∗ atPos EX (bcell₃ x) 0 ∅ 0)

theorem kit_intro (x : DCI) (h : x ∈ tiles) : iprop(shared (F := F) s t ∗ mine (F := F) x) ⊢ (bkit (F := F) s t x.1 x.2.1 (iT x.2.2) : sProp 𝕄) := by
  obtain ⟨d, c, i⟩ := x
  have hc : c.val < 1 := (Finset.mem_filter.mp h).2
  unfold bkit bctx bst allIn
  rw [bigSep_sep', bigSep_sep']
  iintro ⟨⟨⟨%κ, #Hinv⟩, ⟨%κ', #Hbox⟩, #Hr, #Hx⟩, Htok, Hcred, Hcl, Hat, HatX⟩
  isplitr
  · iexists (fun j => κ (bcell d c j)); iexists (fun j => κ' (d, c, j.castLE hsub0))
    isplitr
    · iapply (show (bigSep tiles fun x : DCI => cellInv EB (bRd (F := F)) (κ (bcell₃ x)) (bcell₃ x)) ⊢ bigSep Finset.univ fun j : TI => cellInv EB (bRd (F := F)) (κ (bcell d c j)) (bcell d c j) from
        per_core (Φ := fun x : DCI => cellInv EB (bRd (F := F)) (κ (bcell₃ x)) (bcell₃ x)) d hc); iexact Hinv
    isplitr
    · iapply (show (bigSep tiles fun x : DCI => Idealize.ShloMosaic.inv (κ' x) (boxOf (F := F) s t x)) ⊢ bigSep Finset.univ fun j : TI => Idealize.ShloMosaic.inv (κ' (d, c, j.castLE hsub0)) (box (pay (F := F) d c (s d) (t d)) d c j) from
        per_core (Φ := fun x : DCI => Idealize.ShloMosaic.inv (κ' x) (boxOf (F := F) s t x)) d hc); iexact Hbox
    iapply (show (bigSep tiles fun x : DCI => reached EB (bcell₃ x) 0) ⊢ bigSep Finset.univ fun j : TI => (reached EB (bcell d c j) 0 : sProp 𝕄) from
        per_core (Φ := fun x : DCI => reached EB (bcell₃ x) 0) d hc); iexact Hr
  isplitl [Htok Hcred Hcl]
  · isplitl [Htok]; · iexact Htok
    isplitl [Hcred]; · iexact Hcred
    iexact Hcl
  isplitl [Hat]
  · iexists (∅ : Finset ℕ)
    isplitr; · ipureintro; exact ⟨Finset.empty_subset _, Nat.le_refl _⟩
    isplitl [Hat]; · iexact Hat
    rw [bigSep_empty]; iempintro
  isplitr
  · iapply (show (bigSep tiles fun x : DCI => reached EX (bcell₃ x) 0) ⊢ bigSep Finset.univ fun j : TI => (reached EX (bcell d c j) 0 : sProp 𝕄) from
        per_core (Φ := fun x : DCI => reached EX (bcell₃ x) 0) d hc); iexact Hx
  iexact HatX

theorem Px_T (d : Dev nD) : (bigSep Finset.univ fun q : Fin 1 => (P (F := F) s t).x q (SparseCore.T d)) = iprop(emp) :=
  bigSep_univ_of_subsingleton (0 : Fin 1)
theorem Px_S (d : Dev nD) (c : Fin τ.nSC) : (bigSep Finset.univ fun q : Fin 1 => (P (F := F) s t).x q (S d c)) = iprop(emp) :=
  bigSep_univ_of_subsingleton (0 : Fin 1)
theorem Px_V (d : Dev nD) (c : Fin τ.nSC) (i : Fin τ.nSub) :
    (bigSep Finset.univ fun q : Fin 1 => (P (F := F) s t).x q (V d c i)) = if c.val < 1 then bkit (F := F) s t d c (iT i) else iprop(emp) :=
  bigSep_univ_of_subsingleton (0 : Fin 1)

theorem kits_deal : iprop(shared (F := F) s t ∗ bigSep tiles fun x : DCI => mine (F := F) x)
      ⊢ (bigSep Finset.univ fun thr : Thread nD τ => bigSep Finset.univ fun q : Fin 1 => (P (F := F) s t).x q thr : sProp 𝕄) := by
  rw [SparseCore.Cfg.bigSep_threads (fun thr : Thread nD τ => bigSep Finset.univ fun q : Fin 1 => (P (F := F) s t).x q thr)]
  simp only [Px_T, Px_S, Px_V, bigSep_emp']
  iintro ⟨#Hsh, H⟩
  isplitr; · iempintro
  isplitr; · iempintro
  iapply (SparseCore.ent (Entails.of_eq (bigSep_filter Finset.univ (fun x : DCI => x.2.1.val < 1) fun x => bkit (F := F) s t x.1 x.2.1 (iT x.2.2))))
  iapply (bigSep_mono_frame (R := shared (F := F) s t) (Φ := mine (F := F)) fun x h => kit_intro (F := F) s t x h)
  isplitr; · iexact Hsh
  iexact H

end Fund

end Cert.Proof.Sorting
-- ==== Proof.Launch.lean ====
/-
The launch's resources dealt out.
-/
module

public import proofs.«01_k».proof.Proof.Fund

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

section Fund
variable (s t : Dev nD → ℕ → BitVec 32)

theorem hu₀ : iprop(ownU (u₀ (F := F)) ∗ (P (F := F) s t).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P (F := F) s t).x q thr) : sProp 𝕄) := by
  unfold u₀
  iintro ⟨Hu, Hcred, Hfree⟩
  ihave H := (ownU_split (F := F) _ _ _) $$ Hu
  icases H with ⟨HH, HB, HX⟩
  imod (Rounds.fund EB (bRd (F := F)) bCells bToks) $$ HB with ⟨Hst, #Hr, Hat, Htok⟩
  imod (Rounds.fund_init EX bCells xToks) $$ HX with ⟨HstX, #HrX, HatX, HtokX⟩
  ihave Hsems := (sems_b (F := F)) $$ Hfree
  imod (invs_b (F := F)) $$ [Hsems Hst] with ⟨%κ, #Hinv⟩
  · isplitl [Hsems] <;> iassumption
  ihave HstX := (Entails.of_eq (bCells_eq (F := F) fun g => initState EX g)) $$ HstX
  imod (boxes (F := F) s t) $$ HstX with ⟨%κ', #Hbox⟩
  ihave Hcred := (creds_b (F := F) s t) $$ Hcred
  ihave Hinv' := (Entails.of_eq (bCells_eq (F := F) fun g => cellInv EB (bRd (F := F)) (κ g) g)) $$ Hinv
  ihave Hr' := (Entails.of_eq (bCells_eq (F := F) fun g => reached EB g 0)) $$ Hr
  ihave HrX' := (Entails.of_eq (bCells_eq (F := F) fun g => reached EX g 0)) $$ HrX
  ihave Hat := (Entails.of_eq (bCells_eq (F := F) fun g => atPos EB g 0 ∅ 0)) $$ Hat
  ihave HatX := (Entails.of_eq (bCells_eq (F := F) fun g => atPos EX g 0 ∅ 0)) $$ HatX
  ihave Htok := (Entails.of_eq (bToks_eq (F := F))) $$ Htok
  ihave HtokX := (Entails.of_eq (xToks_eq (F := F))) $$ HtokX
  imodintro
  isplitl [HH]; · iexact HH
  isplitr; · rw [bigSep_emp']; iempintro
  iapply (kits_deal (F := F) s t)
  isplitr
  · isplitr; · iexists κ; iexact Hinv'
    isplitr; · iexists κ'; iexact Hbox
    isplitr; · iexact Hr'
    iexact HrX'
  unfold mine
  rw [bigSep_sep', bigSep_sep', bigSep_sep', bigSep_sep']
  isplitl [Htok]; · iexact Htok
  isplitl [Hcred]; · iexact Hcred
  isplitl [HtokX]; · iexact HtokX
  isplitl [Hat]; · iexact Hat
  iexact HatX

end Fund

end Cert.Proof.Sorting
-- ==== Proof.Main.lean ====
/-
The host's program: the columns cut out, the call, the result at its shape; and the whole program's run.
-/
module

public import proofs.«01_k».proof.Proof.Task
public import proofs.«01_k».proof.Proof.Split
public import proofs.«01_k».proof.Proof.Launch
public import Idealize.ShloMosaic.Lib.SparseCore.Quiescent
public import Idealize.ShloMosaic.Lib.StableHlo.Run

@[expose] public section

noncomputable section

namespace Cert.Proof.Sorting

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F]

local notation "𝕄" => MT nD τ sig (HIx 4) (Elt F) ℕ UU ℕ

open Idealize.ShloMosaic.StableHlo (held held_split held_sdiff_result wp_hlo_within)

/-! ## The host's arrays -/

abbrev a0' : DevRef τ sig := Proc.devRef .tc (main_arg0 : Ref sig .tc)
abbrev a1' : DevRef τ sig := Proc.devRef .tc (main_arg1 : Ref sig .tc)
abbrev h0' : DevRef τ sig := Proc.devRef .tc (main_v0 : Ref sig .tc)
abbrev h1' : DevRef τ sig := Proc.devRef .tc (main_v1 : Ref sig .tc)
abbrev h2' : DevRef τ sig := Proc.devRef .tc (main_v2 : Ref sig .tc)
abbrev h3' : DevRef τ sig := Proc.devRef .tc (main_v3 : Ref sig .tc)
abbrev h4' : DevRef τ sig := Proc.devRef .tc (main_v4 : Ref sig .tc)
abbrev h5' : DevRef τ sig := Proc.devRef .tc (main_v5 : Ref sig .tc)
abbrev S8 : Finset (DevRef τ sig) := {a0', a1', h0', h1', h2', h3', h4', h5'}

/-- The two columns cut out, each laid flat, and the result at its shape. -/
abbrev opC0 : HloOp τ sig (Elt F) := StableHlo.unary main_arg0 main_v0 ((extractStridedSlice S160000x1 ![0, 0] · slices_S160000x2_S160000x1_0_0) : (⟨S160000x2, .i32⟩ : BufTy).Contents (Elt F) → (⟨S160000x1, .i32⟩ : BufTy).Contents (Elt F))
abbrev opF0 : HloOp τ sig (Elt F) := StableHlo.reshape main_v0 main_v1 (rfl : (.i32 : EltTy) = .i32) shapeCasts_S160000x1_S160000
abbrev opC1 : HloOp τ sig (Elt F) := StableHlo.unary main_arg0 main_v2 ((extractStridedSlice S160000x1 ![0, 1] · slices_S160000x2_S160000x1_0_1) : (⟨S160000x2, .i32⟩ : BufTy).Contents (Elt F) → (⟨S160000x1, .i32⟩ : BufTy).Contents (Elt F))
abbrev opF1 : HloOp τ sig (Elt F) := StableHlo.reshape main_v2 main_v3 (rfl : (.i32 : EltTy) = .i32) shapeCasts_S160000x1_S160000
abbrev opRs : HloOp τ sig (Elt F) := StableHlo.reshape main_v4 main_v5 (rfl : (.i32 : EltTy) = .i32) shapeCasts_S320000_S10000x32

theorem hC0 : (opC0 (F := F)).bufs ⊆ S8 := show ({a0', h0'} : Finset (DevRef τ sig)) ⊆ S8 by decide
theorem hF0 : (opF0 (F := F)).bufs ⊆ S8 := show ({h0', h1'} : Finset (DevRef τ sig)) ⊆ S8 by decide
theorem hC1 : (opC1 (F := F)).bufs ⊆ S8 := show ({a0', h2'} : Finset (DevRef τ sig)) ⊆ S8 by decide
theorem hF1 : (opF1 (F := F)).bufs ⊆ S8 := show ({h2', h3'} : Finset (DevRef τ sig)) ⊆ S8 by decide
theorem hRs : (opRs (F := F)).bufs ⊆ S8 := show ({h4', h5'} : Finset (DevRef τ sig)) ⊆ S8 by decide

section Run
variable (m : (ℓ : Loc nD τ sig) → Buf (Elt F) ℓ) (ρ : Dev nD → PrngReg)

abbrev eLoc (d : Dev nD) : Loc nD τ sig := (SparseCore.T d).loc main_arg0
abbrev nLoc (d : Dev nD) : Loc nD τ sig := (SparseCore.T d).loc main_arg1
abbrev rLoc (d : Dev nD) : Loc nD τ sig := (SparseCore.T d).loc main_v5

/-- The edges. -/
abbrev edg (d : Dev nD) : S160000x2.Idx → BitVec 32 := m (eLoc d)

/-- The two columns laid flat, by index and by number. -/
def col0 (d : Dev nD) : S160000.Idx → BitVec 32 :=
  shapeCast S160000 (extractStridedSlice S160000x1 ![0, 0] (edg m d) slices_S160000x2_S160000x1_0_0) shapeCasts_S160000x1_S160000
def col1 (d : Dev nD) : S160000.Idx → BitVec 32 :=
  shapeCast S160000 (extractStridedSlice S160000x1 ![0, 1] (edg m d) slices_S160000x2_S160000x1_0_1) shapeCasts_S160000x1_S160000
def sF (d : Dev nD) : ℕ → BitVec 32 := flat (d := ![160000]) (col0 m d)
def tF (d : Dev nD) : ℕ → BitVec 32 := flat (d := ![160000]) (col1 m d)

/-- What the call leaves in its result, and what the host leaves in its own. -/
def R4 (d : Dev nD) : S320000.Idx → BitVec 32 := fun x => RR (sF m d) (tF m d) (x 0).val
def R5 (d : Dev nD) : S10000x32.Idx → BitVec 32 := shapeCast S10000x32 (R4 m d) shapeCasts_S320000_S10000x32

def V0 (d : Dev nD) : Valuation τ sig (Elt F) := fun b => m (d, b)
abbrev V1 (d : Dev nD) : Valuation τ sig (Elt F) := (opC0 (F := F)).result (V0 m d)
abbrev V2 (d : Dev nD) : Valuation τ sig (Elt F) := (opF0 (F := F)).result (V1 m d)
abbrev V3 (d : Dev nD) : Valuation τ sig (Elt F) := (opC1 (F := F)).result (V2 m d)
abbrev V4 (d : Dev nD) : Valuation τ sig (Elt F) := (opF1 (F := F)).result (V3 m d)
def V5 (d : Dev nD) : Valuation τ sig (Elt F) := Function.update (V4 m d) h4' (R4 m d)
abbrev V6 (d : Dev nD) : Valuation τ sig (Elt F) := (opRs (F := F)).result (V5 m d)

theorem V1_of (d : Dev nD) {b : DevRef τ sig} (h : b ∉ ({h0'} : Finset (DevRef τ sig))) : V1 m d b = V0 m d b := (opC0 (F := F)).result_of_not_mem _ h
theorem V2_of (d : Dev nD) {b : DevRef τ sig} (h : b ∉ ({h1'} : Finset (DevRef τ sig))) : V2 m d b = V1 m d b := (opF0 (F := F)).result_of_not_mem _ h
theorem V3_of (d : Dev nD) {b : DevRef τ sig} (h : b ∉ ({h2'} : Finset (DevRef τ sig))) : V3 m d b = V2 m d b := (opC1 (F := F)).result_of_not_mem _ h
theorem V4_of (d : Dev nD) {b : DevRef τ sig} (h : b ∉ ({h3'} : Finset (DevRef τ sig))) : V4 m d b = V3 m d b := (opF1 (F := F)).result_of_not_mem _ h
theorem V5_of (d : Dev nD) {b : DevRef τ sig} (h : b ≠ h4') : V5 m d b = V4 m d b := Function.update_of_ne h _ _
theorem V6_of (d : Dev nD) {b : DevRef τ sig} (h : b ∉ ({h5'} : Finset (DevRef τ sig))) : V6 m d b = V5 m d b := (opRs (F := F)).result_of_not_mem _ h

theorem V4_h1 (d : Dev nD) : V4 m d h1' = col0 m d := by
  rw [V4_of m d (by decide), V3_of m d (by decide)]
  refine (StableHlo.reshape_result main_v0 main_v1 _ _ _ _ (V1 m d)).trans ?_
  have e : V1 m d h0' = _ := StableHlo.unary_result main_arg0 main_v0 _ _ _ (V0 m d)
  unfold col0
  rw [← show _ = extractStridedSlice S160000x1 ![0, 0] (edg m d) slices_S160000x2_S160000x1_0_0 from e]
  rfl
theorem V4_h3 (d : Dev nD) : V4 m d h3' = col1 m d := by
  refine (StableHlo.reshape_result main_v2 main_v3 _ _ _ _ (V3 m d)).trans ?_
  have e : V3 m d h2' = _ := StableHlo.unary_result main_arg0 main_v2 _ _ _ (V2 m d)
  have e' : V2 m d a0' = edg m d := by rw [V2_of m d (by decide), V1_of m d (by decide)]; rfl
  rw [show V2 m d (Proc.devRef .tc main_arg0) = edg m d from e'] at e
  unfold col1
  rw [← show _ = extractStridedSlice S160000x1 ![0, 1] (edg m d) slices_S160000x2_S160000x1_0_1 from e]
  rfl
theorem V6_h5 (d : Dev nD) : V6 m d h5' = R5 m d := by
  refine (StableHlo.reshape_result main_v4 main_v5 _ _ _ _ (V5 m d)).trans ?_
  unfold R5
  rw [← show V5 m d h4' = R4 m d from Function.update_self _ _ _]
  rfl
theorem V6_a0 (d : Dev nD) : V6 m d a0' = m (eLoc d) := by
  rw [V6_of m d (by decide), V5_of m d (by decide), V4_of m d (by decide), V3_of m d (by decide), V2_of m d (by decide), V1_of m d (by decide)]; rfl
theorem V6_a1 (d : Dev nD) : V6 m d a1' = m (nLoc d) := by
  rw [V6_of m d (by decide), V5_of m d (by decide), V4_of m d (by decide), V3_of m d (by decide), V2_of m d (by decide), V1_of m d (by decide)]; rfl

theorem held_S8 (d : Dev nD) (W : Valuation τ sig (Elt F)) :
    (held (T d) S8 W : sProp 𝕄)
      = iprop(((d, a0') ↦{fullShare} W a0') ∗ ((d, a1') ↦{fullShare} W a1') ∗ ((d, h0') ↦{fullShare} W h0') ∗ ((d, h1') ↦{fullShare} W h1')
          ∗ ((d, h2') ↦{fullShare} W h2') ∗ ((d, h3') ↦{fullShare} W h3') ∗ ((d, h4') ↦{fullShare} W h4') ∗ (d, h5') ↦{fullShare} W h5') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S8 (V0 m d) := by
  rw [held_S8]
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The call's operands among them -/

section Whole
variable (c : Thread nD τ) (b : Ref sig c.2.kind)
theorem whole_set (f : Buf (Elt F) (c.loc b)) :
    (c.loc b ↦{fullShare} f : sProp 𝕄) = ((Memref.whole b).view.loc c ↦[(Memref.whole b).view.set]{fullShare} f) := by
  have e : (Memref.whole b).view.set = Finset.univ := View.set_whole b
  rw [e]
end Whole

theorem pts_src (d : Dev nD) (c : Fin τ.nSC) (i : Fin τ.nSub) (f : S160000.Idx → BitVec 32) :
    ((d, h1') ↦{fullShare} f : sProp 𝕄) = PS (V d c i) srcM (Finset.range 160000) fullShare (flat (d := ![160000]) f) :=
  (whole_set (F := F) (V d c i) main_v1_scv f).trans ((PV_of (F := F) (c := V d c i) (s := ⟨1, ![160000]⟩) srcM fullShare f).trans
    (PV_flat (F := F) (c := V d c i) (d := ![160000]) (m := srcM) f fun _ h => Finset.mem_range.mpr h))
theorem pts_dst (d : Dev nD) (c : Fin τ.nSC) (i : Fin τ.nSub) (f : S160000.Idx → BitVec 32) :
    ((d, h3') ↦{fullShare} f : sProp 𝕄) = PS (V d c i) dstM (Finset.range 160000) fullShare (flat (d := ![160000]) f) :=
  (whole_set (F := F) (V d c i) main_v3_scv f).trans ((PV_of (F := F) (c := V d c i) (s := ⟨1, ![160000]⟩) dstM fullShare f).trans
    (PV_flat (F := F) (c := V d c i) (d := ![160000]) (m := dstM) f fun _ h => Finset.mem_range.mpr h))
theorem pts_out (d : Dev nD) (c : Fin τ.nSC) (i : Fin τ.nSub) (f : S320000.Idx → BitVec 32) :
    ((d, h4') ↦{fullShare} f : sProp 𝕄) = PS (V d c i) outM (Finset.range 320000) fullShare (flat (d := ![320000]) f) :=
  (whole_set (F := F) (V d c i) main_v4_scv f).trans ((PV_of (F := F) (c := V d c i) (s := ⟨1, ![320000]⟩) outM fullShare f).trans
    (PV_flat (F := F) (c := V d c i) (d := ![320000]) (m := outM) f fun _ h => Finset.mem_range.mpr h))
theorem pts_sF (d : Dev nD) (c : Fin τ.nSC) (i : Fin τ.nSub) :
    ((d, h1') ↦{fullShare} col0 m d : sProp 𝕄) = PS (V d c i) srcM (Finset.range 160000) fullShare (sF m d) := pts_src d c i (col0 m d)
theorem pts_tF (d : Dev nD) (c : Fin τ.nSC) (i : Fin τ.nSub) :
    ((d, h3') ↦{fullShare} col1 m d : sProp 𝕄) = PS (V d c i) dstM (Finset.range 160000) fullShare (tF m d) := pts_dst d c i (col1 m d)
theorem pts_R4 (d : Dev nD) (c : Fin τ.nSC) (i : Fin τ.nSub) :
    ((d, h4') ↦{fullShare} R4 m d : sProp 𝕄) = PS (V d c i) outM (Finset.range 320000) fullShare (RR (sF m d) (tF m d)) :=
  (pts_out d c i (R4 m d)).trans (PS_congr fun n _ h => flat_lt (d := ![320000]) (R4 m d) h)

theorem st0_eq (d : Dev nD) : (bigSep Finset.univ fun c : Fin ((K (F := F)).nCore 0) => (P (F := F) (sF m) (tF m)).st 0 d c)
    = stT (F := F) (sF m) (tF m) d (coreOf (F := F) (0 : Fin 1)) := bigSep_univ_of_subsingleton (0 : Fin 1)
theorem dn0_eq (d : Dev nD) : (bigSep Finset.univ fun c : Fin ((K (F := F)).nCore 0) => (P (F := F) (sF m) (tF m)).dn 0 d c)
    = dnT (F := F) (sF m) (tF m) d (coreOf (F := F) (0 : Fin 1)) := bigSep_univ_of_subsingleton (0 : Fin 1)

/-- The operands handed to the call. -/
theorem st_intro (d : Dev nD) : iprop(((d, h1') ↦{fullShare} V4 m d h1') ∗ ((d, h3') ↦{fullShare} V4 m d h3') ∗ ((d, h4') ↦{fullShare} V4 m d h4') : sProp 𝕄)
    ⊢ (bigSep Finset.univ fun c : Fin ((K (F := F)).nCore 0) => (P (F := F) (sF m) (tF m)).st 0 d c) := by
  rw [st0_eq, V4_h1, V4_h3]
  unfold stT
  iintro ⟨H1, H3, H4⟩
  isplitl [H1]
  · ihave H := (Entails.of_eq (pts_sF m d (coreOf (F := F) (0 : Fin 1)) (i0.castLE hsub0))) $$ H1
    iexact H
  isplitl [H3]
  · ihave H := (Entails.of_eq (pts_tF m d (coreOf (F := F) (0 : Fin 1)) (i0.castLE hsub0))) $$ H3
    iexact H
  iexists (flat (d := ![320000]) (V4 m d h4'))
  ihave H := (Entails.of_eq (pts_out (F := F) d (coreOf (F := F) (0 : Fin 1)) (i0.castLE hsub0) (V4 m d h4'))) $$ H4
  iexact H

/-- What the call gives back, among the host's arrays. -/
theorem dn_elim (d : Dev nD) : (bigSep Finset.univ fun c : Fin ((K (F := F)).nCore 0) => (P (F := F) (sF m) (tF m)).dn 0 d c)
    ⊢ iprop(((d, h1') ↦{fullShare} V5 m d h1') ∗ ((d, h3') ↦{fullShare} V5 m d h3') ∗ ((d, h4') ↦{fullShare} V5 m d h4')
        ∗ bars (F := F) d (coreOf (F := F) (0 : Fin 1)) : sProp 𝕄) := by
  rw [dn0_eq, V5_of m d (b := h1') (by decide), V5_of m d (b := h3') (by decide), V4_h1, V4_h3, show V5 m d h4' = R4 m d from Function.update_self _ _ _]
  unfold dnT
  iintro ⟨H1, H3, H4, Hb⟩
  isplitl [H1]
  · ihave H := (Entails.of_eq (pts_sF m d (coreOf (F := F) (0 : Fin 1)) (i0.castLE hsub0)).symm) $$ H1
    iexact H
  isplitl [H3]
  · ihave H := (Entails.of_eq (pts_tF m d (coreOf (F := F) (0 : Fin 1)) (i0.castLE hsub0)).symm) $$ H3
    iexact H
  isplitl [H4]
  · ihave H := (Entails.of_eq (pts_R4 m d (coreOf (F := F) (0 : Fin 1)) (i0.castLE hsub0)).symm) $$ H4
    iexact H
  iexact Hb

/-- What the host keeps to the end. -/
abbrev FIN (d : Dev nD) : sProp 𝕄 :=
  iprop((eLoc d ↦{fullShare} m (eLoc d)) ∗ (nLoc d ↦{fullShare} m (nLoc d)) ∗ (rLoc d ↦{fullShare} R5 m d) ∗ bars (F := F) d (coreOf (F := F) (0 : Fin 1)))

theorem hmain (κ : GSem nD τ sig → ℕ) (d : Dev nD) :
    iprop((K (F := F)).ctx EH (P (F := F) (sF m) (tF m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opC0) (S := S8) hC0 (V := V0 m d)) $$ [Hb Hheld]
  · isplitl [Hb] <;> iassumption
  iintro ⟨Hb, Hheld⟩
  rw [wp_ret]; imodintro
  iapply (wp_hlo_within 𝒱 (SparseCore.T d) none Set.univ (op := opF0) (S := S8) hF0 (V := V1 m d)) $$ [Hb Hheld]
  · isplitl [Hb] <;> iassumption
  iintro ⟨Hb, Hheld⟩
  rw [wp_ret]; imodintro
  iapply (wp_hlo_within 𝒱 (SparseCore.T d) none Set.univ (op := opC1) (S := S8) hC1 (V := V2 m d)) $$ [Hb Hheld]
  · isplitl [Hb] <;> iassumption
  iintro ⟨Hb, Hheld⟩
  rw [wp_ret]; imodintro
  iapply (wp_hlo_within 𝒱 (SparseCore.T d) none Set.univ (op := opF1) (S := S8) hF1 (V := V3 m d)) $$ [Hb Hheld]
  · isplitl [Hb] <;> iassumption
  iintro ⟨Hb, Hheld⟩
  rw [wp_ret]; imodintro
  ihave Hh := (Entails.of_eq (held_S8 (F := F) d (V4 m d))) $$ Hheld
  icases Hh with ⟨Ha0, Ha1, Hh0, Hh1, Hh2, Hh3, Hh4, Hh5⟩
  iapply ((K (F := F)).wp_run (D (F := F)) 𝒱 (EH := EH) (P := P (F := F) (sF m) (tF m)) κ d 0) $$ [Hst Hb Ha0 Ha1 Hh0 Hh1 Hh2 Hh3 Hh4 Hh5 Hts]
  isplitr; · iexact Hctx
  isplitl [Hst]; · iexact Hst
  isplitl [Hh1 Hh3 Hh4]
  · iapply (st_intro m d)
    isplitl [Hh1]; · iexact Hh1
    isplitl [Hh3]; · iexact Hh3
    iexact Hh4
  iintro ⟨Hst, Hdn⟩
  ihave Hdn' := (dn_elim m d) $$ Hdn
  icases Hdn' with ⟨Hh1, Hh3, Hh4, Hbars⟩
  iapply (wp_hlo_within 𝒱 (SparseCore.T d) none Set.univ (op := opRs) (S := S8) hRs (V := V5 m d)) $$ [Hb Ha0 Ha1 Hh0 Hh1 Hh2 Hh3 Hh4 Hh5]
  · isplitl [Hb]; · iexact Hb
    rw [held_S8, V5_of m d (b := a0') (by decide), V5_of m d (b := a1') (by decide), V5_of m d (b := h0') (by decide), V5_of m d (b := h2') (by decide), V5_of m d (b := h5') (by decide)]
    isplitl [Ha0]; · iexact Ha0
    isplitl [Ha1]; · iexact Ha1
    isplitl [Hh0]; · iexact Hh0
    isplitl [Hh1]; · iexact Hh1
    isplitl [Hh2]; · iexact Hh2
    isplitl [Hh3]; · iexact Hh3
    isplitl [Hh4]; · iexact Hh4
    iexact Hh5
  iintro ⟨Hb, Hheld⟩
  ihave Hh := (Entails.of_eq (held_S8 (F := F) d (V6 m d))) $$ Hheld
  rw [V6_a0, V6_a1, V6_h5]
  icases Hh with ⟨Ha0, Ha1, -, -, -, -, -, Hh5⟩
  rw [wp_ret]; imodintro; imodintro
  isplitl [Hst]; · iexact Hst
  isplitr [Hb Hts]
  · isplitl [Ha0]; · iexact Ha0
    isplitl [Ha1]; · iexact Ha1
    isplitl [Hh5]; · iexact Hh5
    iexact Hbars
  isplitl [Hb] <;> iassumption

/-- What is read of the final state. -/
def fq (d : Dev nD) (s' : Phys nD τ sig (Elt F)) : Prop :=
  s'.mem.mem (eLoc d) = m (eLoc d) ∧ s'.mem.mem (nLoc d) = m (nLoc d) ∧ s'.mem.mem (rLoc d) = R5 m d
    ∧ ∀ j : TI, s'.mem.sem (bcell d (coreOf (F := F) (0 : Fin 1)) j) = 0

theorem read_whole_at (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨((sep_mono_left sep_elim_left).trans (read_whole_at _ _ s')) x hx,
    ((sep_mono_left (sep_elim_right.trans sep_elim_left)).trans (read_whole_at _ _ s')) x hx,
    ((sep_mono_left (sep_elim_right.trans (sep_elim_right.trans sep_elim_left))).trans (read_whole_at _ _ s')) x hx,
    fun j => ((sep_mono_left (sep_elim_right.trans (sep_elim_right.trans (sep_elim_right.trans (SparseCore.ent (bigSep_elim (Finset.mem_univ j))))))).trans
      (SparseCore.Cfg.semVal_zero_read _ s')) x hx⟩

theorem hA (s' : Phys nD τ sig (Elt F)) (h : ∀ d, fq m d s') (g : GSem nD τ sig) (hg : g ∈ bCells) : s'.mem.sem g = 0 := by
  obtain ⟨⟨d, c, i⟩, hx, rfl⟩ := Finset.mem_image.mp hg
  obtain rfl : c = coreOf (F := F) (0 : Fin 1) := Fin.ext (Nat.lt_one_iff.mp (Finset.mem_filter.mp hx).2)
  exact (h d).2.2.2 (iT i)

/-! ## The run -/

def QC : PUnit × MemSt nD τ sig (Elt F) → Prop := fun r =>
  (∀ d : Dev nD, r.2.mem (rLoc d) = R5 m d ∧ r.2.mem (eLoc d) = m (eLoc d) ∧ r.2.mem (nLoc d) = m (nLoc d)) ∧ r.2.sem = fun _ => 0

theorem run_main [∀ e, Nonempty (Elt F e)] (hK : ∀ d e, e < 320000 → KN (sF m d) (tF m d) e < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (sF m) (tF m)) (hA := hA m) facts v₀
    (fun q hq => match q with | 0 => nomatch hq)
    (fun q _ => match q with | 0 => tileObl (sF m) (tF m) hK facts)
    (fun q _ => match q with | 0 => vecSplit (sF m) (tF m))
    m ρ main (fun _ => iprop(emp)) (FIN m) (u₀ (F := F)) (hu₀ (sF m) (tF m)) (hmain m ρ) (fq m) (hfin m) (QC m)
    (fun _ h hz => ⟨fun d => ⟨(h d).2.2.1, (h d).1, (h d).2.1⟩, hz⟩)

end Run

end Cert.Proof.Sorting
-- ==== Proof.Order.lean ====
/-
The reference's result: the values in the order of a stable argsort of the keys, as the places of the counting sort.
-/
module

public import proofs.«01_k».proof.Proof.Data
public import proofs.«01_k».proof.Proof.Gen.ReferenceIdeal
public import Idealize.ShloMosaic.Lib.SortFacts
public import Idealize.ShloMosaic.Lib.SortPrefix
public import Idealize.ShloMosaic.Lib.WordCmp
public import Idealize.ShloMosaic.Lib.ValueIdxCore
public import Idealize.ShloMosaic.Lib.Pipeline.Value

@[expose] public section

noncomputable section

namespace Cert.Proof.Sorting

open Idealize.ShloMosaic Idealize.ShloMosaic.ValueIdx Idealize.ShloMosaic.WordCmp

/-! ## Arrays laid flat -/

/-- A column laid flat. -/
theorem flat_col {α : Type} {n : ℕ} (x : (⟨2, ![n, 1]⟩ : Shape).Idx → α) (h : (⟨2, ![n, 1]⟩ : Shape).ShapeCasts ⟨1, ![n]⟩) (i : Fin n) :
    shapeCast ⟨1, ![n]⟩ x h (ix1 i) = x (ix2 i 0) := by
  unfold shapeCast
  congr 1
  refine Shape.reshapeEquiv_eq_of_rowMajor h ?_
  rw [Shape.rowMajor_val_one, Shape.rowMajor_val_two]
  show i.val * 1 + 0 = i.val
  omega

/-- A column cut out. -/
theorem cut_col {α : Type} {n : ℕ} (j : Fin 2) (x : (⟨2, ![n, 2]⟩ : Shape).Idx → α) (h : (⟨2, ![n, 2]⟩ : Shape).Slices ![0, j.val] ⟨2, ![n, 1]⟩) (i : Fin n) :
    extractStridedSlice ⟨2, ![n, 1]⟩ ![0, j.val] x h (ix2 i 0) = x (ix2 i j) :=
  extractStridedSlice_apply _ _ _ _ _ fun a => match a with
    | ⟨0, _⟩ => (Nat.zero_add _).symm
    | ⟨1, _⟩ => rfl

/-- Column `j` of the edges by number. -/
def colN (A : (⟨2, ![160000, 2]⟩ : Shape).Idx → BitVec 32) (j : Fin 2) : ℕ → BitVec 32 :=
  fun n => if h : n < 160000 then A (ix2 ⟨n, h⟩ j) else 0

section Arr
variable (A : (⟨2, ![160000, 2]⟩ : Shape).Idx → BitVec 32)

theorem flat_colN (j : Fin 2) (h h') :
    flat (d := ![160000]) (shapeCast ⟨1, ![160000]⟩ (extractStridedSlice ⟨2, ![160000, 1]⟩ ![0, j.val] A h) h') = colN A j := by
  funext n
  unfold flat colN
  by_cases hn : n < 160000
  · rw [dif_pos hn, dif_pos (show n < ![160000] 0 from hn)]
    have e : ixOf ![160000] n hn = ix1 ⟨n, hn⟩ := eq_ix1 _
    rw [e, flat_col, cut_col]
  · rw [dif_neg hn, dif_neg (show ¬ n < ![160000] 0 from hn)]

theorem colN_lt (hA : ∀ x, (A x).toNat < 10000) (j : Fin 2) (n : ℕ) : (colN A j n).toNat < 10000 := by
  unfold colN
  split
  · exact hA _
  · decide

theorem KN_lt (hA : ∀ x, (A x).toNat < 10000) (e : ℕ) : KN (colN A 0) (colN A 1) e < 10000 := by
  show (kk _ _ e).toNat < 10000
  unfold kk
  split <;> exact colN_lt A hA _ _

/-! ## The doubled edges -/

/-- The edges, then the edges reversed. -/
abbrev dbl : (⟨2, ![320000, 2]⟩ : Shape).Idx → BitVec 32 :=
  concatenate Cert.ReferenceIdeal.S320000x2 0 [⟨Cert.ReferenceIdeal.S160000x2, A⟩, ⟨Cert.ReferenceIdeal.S160000x2, Host.reverse [1] A⟩]
    Cert.ReferenceIdeal.Gen.concatenates_S160000x2_S160000x2_S320000x2_d0

theorem dbl_apply (e : Fin 320000) (j : Fin 2) :
    dbl A (ix2 e j) = if h : e.val < 160000 then A (ix2 ⟨e.val, h⟩ j) else A (ix2 ⟨e.val - 160000, by omega⟩ j.rev) := by
  split
  · next h =>
    exact concatenate_pair_apply_left 0 A (Host.reverse [1] A) Cert.ReferenceIdeal.Gen.concatenates_S160000x2_S160000x2_S320000x2_d0 (ix2 e j) rfl (ix2 (⟨e.val, h⟩ : Fin 160000) j) fun b => match b with
      | ⟨0, _⟩ => rfl
      | ⟨1, _⟩ => rfl
  · next h =>
    refine (concatenate_pair_apply_right 0 A (Host.reverse [1] A) Cert.ReferenceIdeal.Gen.concatenates_S160000x2_S160000x2_S320000x2_d0 (ix2 e j) rfl rfl (ix2 (⟨e.val - 160000, by omega⟩ : Fin 160000) j) (fun b hb => ?_) ?_).trans ?_
    · match b with
      | ⟨0, _⟩ => exact absurd rfl hb
      | ⟨1, _⟩ => rfl
    · show e.val - 160000 + 160000 = e.val
      omega
    · unfold Host.reverse
      congr 1
      funext b
      match b with
      | ⟨0, _⟩ => exact if_neg (show ¬ (0 : Fin 2) ∈ [(1 : Fin 2)] by decide)
      | ⟨1, _⟩ => exact if_pos (show (1 : Fin 2) ∈ [(1 : Fin 2)] by decide)

theorem dbl_key (e : Fin 320000) : dbl A (ix2 e 0) = kk (colN A 0) (colN A 1) e.val := by
  rw [dbl_apply]
  unfold kk colN
  by_cases h : e.val < 160000
  · rw [dif_pos h, if_pos h, dif_pos h]
  · rw [dif_neg h, if_neg h, dif_pos (show e.val - 160000 < 160000 by omega)]; rfl

theorem dbl_val (e : Fin 320000) : dbl A (ix2 e 1) = vv (colN A 0) (colN A 1) e.val := by
  rw [dbl_apply]
  unfold vv colN
  by_cases h : e.val < 160000
  · rw [dif_pos h, if_pos h, dif_pos h]
  · rw [dif_neg h, if_neg h, dif_pos (show e.val - 160000 < 160000 by omega)]; rfl

end Arr

/-! ## The stable sort and the places -/

/-- Earlier by key. -/
def keyB (k : ℕ → ℕ) (n : ℕ) : Fin n → Fin n → Bool := fun a b => decide (k a.val < k b.val)
/-- Earlier by key, then by position. -/
def posB (k : ℕ → ℕ) (n : ℕ) : Fin n → Fin n → Bool := fun a b => decide (k a.val < k b.val) || (decide (k a.val = k b.val) && decide (a < b))

theorem posB_strict (k : ℕ → ℕ) (n : ℕ) : StrictTotalBefore (posB k n) :=
  StrictTotalBefore.of_key_then_position (fun a b : ℕ => decide (a < b)) (fun a : Fin n => k a.val) (fun a => by simp)
    (fun a b c h h' => by simp only [decide_eq_true_eq] at *; omega) (fun a b => by simp only [decide_eq_true_eq]; omega)

theorem stableSort_keyB (k : ℕ → ℕ) (n : ℕ) : ∀ l : List (Fin n), l.Pairwise (· < ·) → stableSort (keyB k n) l = stableSort (posB k n) l
  | [], _ => rfl
  | a :: l, h => by
    rw [List.pairwise_cons] at h
    show insertBefore _ a (stableSort _ l) = insertBefore _ a (stableSort _ l)
    rw [stableSort_keyB k n l h.2]
    refine insertBefore_congr _ _ a _ fun b hb => ?_
    have hab : a < b := h.1 b ((perm_stableSort _ l).mem_iff.mp hb)
    unfold keyB posB
    rw [show decide (b < a) = false from decide_eq_false (not_lt.mpr hab.le), Bool.and_false, Bool.or_false]

theorem sortedFrom_keyB (k : ℕ → ℕ) (n : ℕ) : sortedFrom (keyB k n) = sortedFrom (posB k n) := by
  have e : sortPositions n (keyB k n) = sortPositions n (posB k n) := stableSort_keyB k n _ (List.pairwise_lt_finRange n)
  funext i
  unfold sortedFrom
  simp only [List.get_eq_getElem, e]
  rfl

/-- The stable sort takes place `i` from the key whose place is `i`. -/
theorem pos_sortedFrom (k : ℕ → ℕ) (n : ℕ) (i : Fin n) : pos k n (sortedFrom (keyB k n) i).val = i.val := by
  rw [sortedFrom_keyB]
  have hB := posB_strict k n
  have hm : StrictMono fun i : Fin n => (⟨pos k n (sortedFrom (posB k n) i).val, pos_lt k (sortedFrom (posB k n) i).isLt⟩ : Fin n) := by
    intro i j hij
    have h := sortedFrom_noInversion (posB k n) (posB k n) (fun a b h => hB.asymm a b h) (fun _ _ h => h) hB.negTrans i j hij
    have hne : sortedFrom (posB k n) i ≠ sortedFrom (posB k n) j := fun e => absurd (sortedFrom_injective _ e) (ne_of_lt hij)
    have h' : posB k n (sortedFrom (posB k n) i) (sortedFrom (posB k n) j) = true :=
      (hB.total _ _ hne).resolve_right (by rw [h]; decide)
    show pos k n _ < pos k n _
    refine pos_mono k (sortedFrom (posB k n) i).isLt ?_
    unfold posB at h'
    simp only [Bool.or_eq_true, Bool.and_eq_true, decide_eq_true_eq] at h'
    exact h'
  have h1 : i ≤ _ := hm.le_apply (x := i)
  have h2 : _ ≤ i := hm.apply_le (x := i)
  exact congrArg Fin.val (le_antisymm h2 h1)

/-! ## The reference's result -/

section Ref
variable (A : (⟨2, ![160000, 2]⟩ : Shape).Idx → BitVec 32)

open Cert.ReferenceIdeal Cert.ReferenceIdeal.Gen

/-- The keys, and their stable argsort. -/
abbrev keyA : S320000.Idx → BitVec 32 := shapeCast _ (extractStridedSlice S320000x1 ![0, 0] (dbl A) slices_S320000x2_S320000x1_0_0) shapeCasts_S320000x1_S320000
abbrev ordA : S320000.Idx → BitVec 32 := (Host.sort2 S320000 0 comparator_i32_i32_d0 (keyA A) (iotaInDim S320000 32 0)).2
/-- The rows to take, and the rows taken. -/
abbrev rowA : S320000x1.Idx → BitVec 32 := broadcastInDim S320000x1 ![0] bcast_S320000_S320000x1_0
  (select (cmpi .slt (ordA A) (broadcastInDim S320000 ![] bcast_S_S320000 (constantI S_ 32 0#32)))
    (addi (ordA A) (broadcastInDim S320000 ![] bcast_S_S320000 (constantI S_ 32 320000#32))) (ordA A))
abbrev takenA : S320000.Idx → BitVec 32 := shapeCast _ (extractStridedSlice S320000x1 ![0, 1]
  (Host.gather gather_S320000x2_S320000x1_S320000x2_1_0_n_n_0_1_12 (dbl A) (rowA A)) slices_S320000x2_S320000x1_0_1) shapeCasts_S320000x1_S320000

theorem keyA_apply (e : Fin 320000) : keyA A (ix1 e) = kk (colN A 0) (colN A 1) e.val :=
  (flat_col _ _ e).trans ((cut_col 0 (dbl A) _ e).trans (dbl_key A e))

/-- The row a place is taken from. -/
abbrev src (i : Fin 320000) : Fin 320000 := sortedFrom (keyB (KN (colN A 0) (colN A 1)) 320000) i

theorem beq_ofBool (b : Bool) : (BitVec.ofBool b == 1#1) = b := by cases b <;> rfl

theorem iota_along (i k : Fin 320000) : iotaInDim S320000 32 0 ((ix1 i : S320000.Idx).along (0 : Fin 1) k) = BitVec.ofNat 32 k.val := by
  rw [Shape.Idx.along_rank1]; rfl

/-- A row number that is not below zero is taken as it is. -/
theorem row_apply (Vv : S320000.Idx → BitVec 32) (i : Fin 320000) (k : ℕ) (hk : k < 320000) (h : Vv (ix1 i) = BitVec.ofNat 32 k) :
    broadcastInDim S320000x1 ![0] bcast_S320000_S320000x1_0
      (select (cmpi .slt Vv (broadcastInDim S320000 ![] bcast_S_S320000 (constantI S_ 32 0#32)))
        (addi Vv (broadcastInDim S320000 ![] bcast_S_S320000 (constantI S_ 32 320000#32))) Vv) (ix2 i 0) = BitVec.ofNat 32 k := by
  have hc : cmpi .slt Vv (broadcastInDim S320000 ![] bcast_S_S320000 (constantI S_ 32 0#32)) (ix1 i) = 0#1 := by
    show IntOp.cmpi .slt (Vv (ix1 i)) 0#32 = 0#1
    rw [h, cmpi_slt_of_lt (by rw [BitVec.toNat_ofNat]; omega) (by decide)]
    simp
  have hb (f : S320000.Idx → BitVec 32) : broadcastInDim S320000x1 ![0] bcast_S320000_S320000x1_0 f (ix2 i 0) = f (ix1 i) := by
    unfold broadcastInDim
    congr 1
    funext a
    match a with
    | ⟨0, _⟩ => rfl
  rw [hb]
  unfold select
  rw [hc]
  exact (if_neg (by decide)).trans h

theorem ordA_apply (hA : ∀ x, (A x).toNat < 10000) (i : Fin 320000) : ordA A (ix1 i) = BitVec.ofNat 32 (src A i).val := by
  have hR : (fun k k' : Fin 320000 => comparator_i32_i32_d0
        (keyA A ((ix1 i : S320000.Idx).along (0 : Fin 1) k), iotaInDim S320000 32 0 ((ix1 i : S320000.Idx).along (0 : Fin 1) k))
        (keyA A ((ix1 i : S320000.Idx).along (0 : Fin 1) k'), iotaInDim S320000 32 0 ((ix1 i : S320000.Idx).along (0 : Fin 1) k')) == 1#1)
      = keyB (KN (colN A 0) (colN A 1)) 320000 := by
    funext k k'
    have e (k : Fin 320000) : keyA A ((ix1 i : S320000.Idx).along (0 : Fin 1) k) = kk (colN A 0) (colN A 1) k.val := by
      rw [Shape.Idx.along_rank1]; exact (congrArg (keyA A) (eq_ix1 _)).trans (keyA_apply A k)
    show (IntOp.cmpi .slt (keyA A ((ix1 i : S320000.Idx).along (0 : Fin 1) k)) (keyA A ((ix1 i : S320000.Idx).along (0 : Fin 1) k')) == 1#1) = _
    have b := KN_lt A hA
    rw [e, e, cmpi_slt_of_lt (lt_trans (b k.val) (by decide)) (lt_trans (b k'.val) (by decide))]
    exact beq_ofBool (decide (KN (colN A 0) (colN A 1) k.val < KN (colN A 0) (colN A 1) k'.val))
  unfold ordA Host.sort2
  rw [dif_pos (show 0 < S320000.rank by decide)]
  exact (congrArg (fun f : Fin 320000 → Fin 320000 → Bool => iotaInDim S320000 32 0 ((ix1 i : S320000.Idx).along (0 : Fin 1) (sortedFrom f i))) hR).trans
    (iota_along i _)

theorem rowA_apply (hA : ∀ x, (A x).toNat < 10000) (i : Fin 320000) : rowA A (ix2 i 0) = BitVec.ofNat 32 (src A i).val :=
  row_apply (ordA A) i _ (src A i).isLt (ordA_apply A hA i)

theorem taken_row (x : S320000x2.Idx → BitVec 32) (r : S320000x1.Idx → BitVec 32) (i : Fin 320000) (j : Fin 2) (k : Fin 320000)
    (h : r (ix2 i 0) = BitVec.ofNat 32 k.val) :
    Host.gather gather_S320000x2_S320000x1_S320000x2_1_0_n_n_0_1_12 x r (ix2 i j) = x (ix2 k j) := by
  unfold Host.gather
  congr 1
  funext a
  refine Fin.ext ?_
  show gather_S320000x2_S320000x1_S320000x2_1_0_n_n_0_1_12.start (ix2 i j) r a
      + gather_S320000x2_S320000x1_S320000x2_1_0_n_n_0_1_12.batchCoord (ix2 i j) a
      + gather_S320000x2_S320000x1_S320000x2_1_0_n_n_0_1_12.offCoord (ix2 i j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hsi : gather_S320000x2_S320000x1_S320000x2_1_0_n_n_0_1_12.siIdx (ix2 i j)
        ⟨List.idxOf (0 : Fin 2) gather_S320000x2_S320000x1_S320000x2_1_0_n_n_0_1_12.startIndexMap, List.idxOf_lt_length_iff.2 (List.mem_singleton.mpr rfl)⟩
        = ix2 i 0 := by
      funext b; refine Fin.ext ?_
      match b with
      | ⟨0, _⟩ => rfl
      | ⟨1, _⟩ => rfl
    have hk := k.isLt
    have e : (BitVec.ofNat 32 k.val).toInt.toNat = k.val := by
      rw [BitVec.toInt_eq_toNat_of_lt (by rw [BitVec.toNat_ofNat, Nat.mod_eq_of_lt (by omega)]; omega), BitVec.toNat_ofNat, Nat.mod_eq_of_lt (by omega)]; rfl
    refine (congrArg (fun w : BitVec 32 => min w.toInt.toNat (320000 - 1)) ((congrArg r hsi).trans h)).trans ?_
    show min (BitVec.ofNat 32 k.val).toInt.toNat (320000 - 1) = k.val
    rw [e]
    omega
  | ⟨1, _⟩ =>
    unfold GatherDims.start
    refine (congrArg (· + _) (dif_neg (show ¬ (1 : Fin 2) ∈ [(0 : Fin 2)] by decide))).trans ?_
    exact (Nat.zero_add _).trans rfl

theorem takenA_apply (hA : ∀ x, (A x).toNat < 10000) (i : Fin 320000) : takenA A (ix1 i) = RR (colN A 0) (colN A 1) i.val := by
  refine (flat_col _ _ i).trans ((cut_col 1 _ _ i).trans ((taken_row (dbl A) (rowA A) i 1 (src A i) (rowA_apply A hA i)).trans ((dbl_val A _).trans ?_)))
  unfold RR
  have h := res_pos (KN (colN A 0) (colN A 1)) (vv (colN A 0) (colN A 1)) (src A i).isLt
  rw [pos_sortedFrom] at h
  exact h.symm

theorem takenA_eq (hA : ∀ x, (A x).toNat < 10000) : takenA A = fun x => RR (colN A 0) (colN A 1) (x 0).val := by
  funext x
  rw [eq_ix1 x]
  exact takenA_apply A hA (x 0)

end Ref

end Cert.Proof.Sorting
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_in_range
public import proofs.«01_k».proof.Proof.Main
public import proofs.«01_k».proof.Proof.Order
public import Idealize.ShloMosaic.Adequacy
public import Idealize.ShloMosaic.Init
public import Idealize.ShloMosaic.Lib.ReduceAll
public import Idealize.ShloMosaic.Lib.Quiescent

@[expose] public section

noncomputable section

namespace Cert.Proof

open Idealize.ShloMosaic Idealize.SL.Sem Cert.Proof.Sorting

/-! ## The range of the edges -/

/-- The precondition, read at an edge. -/
theorem lt_of_in_range {F : FTy → Type} [FloatOps F] (a : IVec Cert.Pre_in_range.S160000x2 32) (b : FVec F Cert.Pre_in_range.S10000x128 .f32)
    (h : Cert.Pre_in_range.fn (F := F) a b = fun _ => 1#1) (x : Cert.Pre_in_range.S160000x2.Idx) : (a x).toNat < 10000 := by
  haveI : Subsingleton Cert.Pre_in_range.S_.Idx := ⟨fun a b => funext fun k => k.elim0⟩
  have e := Host.reduce_andi_all _ _ _ _ (fun k => k.elim0) (congrFun h fun k => k.elim0) x
  have e' : IntOp.andi (IntOp.cmpi .sge (a x) 0#32) (IntOp.cmpi .slt (a x) (BitVec.ofNat 32 10000)) = 1#1 := e
  rw [WordCmp.andi_sge_zero_slt_ofNat (by decide)] at e'
  by_contra hn
  rw [decide_eq_false hn] at e'
  exact absurd e' (by decide)

/-! ## The kernel's result -/

/-- The reference's value of the edges, in its rows. -/
abbrev taken2 (A : Cert.KernelIdeal.S160000x2.Idx → BitVec 32) : Cert.KernelIdeal.S10000x32.Idx → BitVec 32 :=
  shapeCast Cert.KernelIdeal.S10000x32 (takenA A) Cert.KernelIdeal.Gen.shapeCasts_S320000_S10000x32

section Kern
variable {F : FTy → Type} [FloatOps F]
variable (m : (ℓ : Loc Cert.KernelIdeal.nD Cert.KernelIdeal.τ Cert.KernelIdeal.sig) → Buf (Elt F) ℓ)

theorem sF_eq (d : Dev Cert.KernelIdeal.nD) : sF m d = colN (edg m d) 0 := flat_colN (edg m d) 0 _ _
theorem tF_eq (d : Dev Cert.KernelIdeal.nD) : tF m d = colN (edg m d) 1 := flat_colN (edg m d) 1 _ _

theorem keys_lt (h : ∀ d x, (edg m d x).toNat < 10000) (d : Dev Cert.KernelIdeal.nD) (e : ℕ) (_ : e < 320000) : KN (sF m d) (tF m d) e < 10000 := by
  rw [sF_eq, tF_eq]
  exact KN_lt _ (h d) e

/-- The kernel's result is the reference's value of its edges. -/
theorem result_eq (h : ∀ d x, (edg m d x).toNat < 10000) (d : Dev Cert.KernelIdeal.nD) :
    R5 m d = taken2 (edg m d) := by
  have e : R4 m d = takenA (edg m d) := by
    rw [takenA_eq _ (h d)]
    unfold R4
    rw [sF_eq, tF_eq]
  unfold R5 taken2
  rw [e]

end Kern

/-! ## The claims -/

theorem edges_lt (m : (ℓ : Loc Cert.KernelIdeal.nD Cert.KernelIdeal.τ Cert.KernelIdeal.sig) → Buf (Elt Ideal) ℓ) (h : Cert.Pre_KernelIdeal m)
    (d : Dev Cert.KernelIdeal.nD) (x) : (edg m d x).toNat < 10000 :=
  lt_of_in_range (edg m d) _ (h d) x

theorem edges_lt_bits (m : (ℓ : Loc Cert.Kernel.nD Cert.Kernel.τ Cert.Kernel.sig) → Buf (Elt Bits) ℓ) (h : Cert.Pre_Kernel m)
    (d : Dev Cert.Kernel.nD) (x) : (edg (F := Bits) m d x).toNat < 10000 :=
  lt_of_in_range (edg (F := Bits) m d) _ (h d) x

theorem frame_kernelIdeal : Cert.quiescent_KernelIdeal := fun m ρ h =>
  (θ_run Cert.KernelIdeal.defs _ _).mono (fun _ q => ⟨fun c => (q.1 c).2, q.2⟩) (run_main (F := Ideal) m ρ (keys_lt m (edges_lt m h)))

theorem frame_kernel : Cert.quiescent_Kernel := fun m ρ h =>
  (θ_run Cert.KernelIdeal.defs _ _).mono (fun _ q => ⟨fun c => (q.1 c).2, q.2⟩) (run_main (F := Bits) m ρ (keys_lt (F := Bits) m (edges_lt_bits m h)))

theorem frame_referenceIdeal : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)

theorem frame_referenceIdeal_in_range : Cert.quiescent_ReferenceIdeal_pre_in_range := fun m ρ _ => frame_referenceIdeal m ρ trivial

theorem frame_reference : Cert.quiescent_Reference := fun m ρ _ =>
  (θ_run Cert.Reference.defs _ _).mono (fun r q => ⟨fun c => (q c).2, sem_eq_zero_of_no_sems (by decide) r.2⟩)
    (Cert.Reference.Value.run (F := Bits) m ρ)

theorem algebraic : Cert.algebraic_KernelIdeal_ReferenceIdeal := by
  intro m ρ m' ρ' h hagree
  refine ⟨fun c => R5 m c, (θ_run Cert.KernelIdeal.defs _ _).mono (fun _ q c => q.1 c) (run_main (F := Ideal) m ρ (keys_lt m (edges_lt m h))), ?_⟩
  refine (θ_run Cert.ReferenceIdeal.defs _ _).mono (fun _ q c => ⟨(q c).1.trans ?_, (q c).2⟩) (Cert.ReferenceIdeal.Value.run (F := Ideal) m' ρ')
  exact (congrArg taken2 (hagree c).1).trans (result_eq m (edges_lt m h) c).symm

theorem bitexact : Cert.bitexact_Kernel_Reference := by
  intro m ρ m' ρ' h hagree
  refine ⟨fun c => R5 (F := Bits) m c,
    (θ_run Cert.KernelIdeal.defs _ _).mono (fun _ q c => q.1 c) (run_main (F := Bits) m ρ (keys_lt (F := Bits) m (edges_lt_bits m h))), ?_⟩
  refine (θ_run Cert.Reference.defs _ _).mono (fun _ q c => ⟨(q c).1.trans ?_, (q c).2⟩) (Cert.Reference.Value.run (F := Bits) m' ρ')
  exact (congrArg taken2 (hagree c).1).trans (result_eq (F := Bits) m (edges_lt_bits m h) c).symm

theorem claim : Cert.Claim := ⟨Cert.Kernel.Gen.facts, Cert.KernelIdeal.Gen.facts, Cert.ReferenceIdeal.Gen.facts, Cert.Reference.Gen.facts, Cert.Pre_in_range.Gen.facts,
  frame_kernel, frame_kernelIdeal, frame_referenceIdeal, frame_referenceIdeal_in_range, frame_reference, trivial, algebraic, bitexact⟩

end Cert.Proof

end
